-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_gu [hPre_finite_gu : Cert.Pre_finite_gu.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_gu.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_gu [hPre_finite_gu : Cert.Pre_finite_gu.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_gu.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite_gu [hKernel12Ideal : Cert.Kernel12Ideal.Facts] [hPre_finite_gu : Cert.Pre_finite_gu.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_gu m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite_gu [hReference12Ideal : Cert.Reference12Ideal.Facts] [hPre_finite_gu : Cert.Pre_finite_gu.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_gu m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v2_2)) (v4 : (c : Dev Cert.KernelIdeal.nD) → Buf (Elt Ideal) ((c.tc : Thread Cert.KernelIdeal.nD Cert.KernelIdeal.τ).loc Cert.KernelIdeal.main_v2_3)) (v5 : (c : Dev Cert.KernelIdeal.nD) → Buf (Elt Ideal) ((c.tc : Thread Cert.KernelIdeal.nD Cert.KernelIdeal.τ).loc Cert.KernelIdeal.main_v2_4)) (v6 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v1) i = v0 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v2_0) i = v1 c i)
          ∧ (∀ i : (⟨2, ![8192, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v2_1) i = v2 c i)
          ∧ (∀ i : (⟨2, ![8192, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v2_2) i = v3 c i)
          ∧ (∀ i : (⟨2, ![8192, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.KernelIdeal.nD Cert.KernelIdeal.τ).loc Cert.KernelIdeal.main_v2_3) i = v4 c i)
          ∧ (∀ i : (⟨2, ![8192, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 i = 1#1 → r.2.mem ((c.tc : Thread Cert.KernelIdeal.nD Cert.KernelIdeal.τ).loc Cert.KernelIdeal.main_v2_4) i = v5 c i)
          ∧ (∀ i : (⟨2, ![1, 16]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2 i = 1#1 → r.2.mem ((c.tc : Thread Cert.KernelIdeal.nD Cert.KernelIdeal.τ).loc Cert.KernelIdeal.main_v2_5) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v98) i = v0 c i)
          ∧ (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v156) i = v1 c i)
          ∧ (∀ i : (⟨2, ![8192, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v155) i = v2 c i)
          ∧ (∀ i : (⟨2, ![8192, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v154) i = v3 c i)
          ∧ (∀ i : (⟨2, ![8192, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.ReferenceIdeal.nD Cert.ReferenceIdeal.τ).loc Cert.ReferenceIdeal.main_v148) i = v4 c i)
          ∧ (∀ i : (⟨2, ![8192, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 i = 1#1 → r.2.mem ((c.tc : Thread Cert.ReferenceIdeal.nD Cert.ReferenceIdeal.τ).loc Cert.ReferenceIdeal.main_v147) i = v5 c i)
          ∧ (∀ i : (⟨2, ![1, 16]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2 i = 1#1 → r.2.mem ((c.tc : Thread Cert.ReferenceIdeal.nD Cert.ReferenceIdeal.τ).loc Cert.ReferenceIdeal.main_v157) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v10) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite_gu [hKernel12Ideal : Cert.Kernel12Ideal.Facts] [hReference12Ideal : Cert.Reference12Ideal.Facts] [hPre_finite_gu : Cert.Pre_finite_gu.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_gu m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v43) = v0 c
          ∧ r.2.mem ((c.tc : Thread Cert.Reference13Ideal.nD Cert.Reference13Ideal.τ).loc Cert.Reference13Ideal.main_v44) = v1 c
          ∧ r.2.mem ((c.tc : Thread Cert.Reference13Ideal.nD Cert.Reference13Ideal.τ).loc Cert.Reference13Ideal.main_v45) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v41) = v0 c
          ∧ r.2.mem ((c.tc : Thread Cert.Reference14Ideal.nD Cert.Reference14Ideal.τ).loc Cert.Reference14Ideal.main_v42) = v1 c
          ∧ r.2.mem ((c.tc : Thread Cert.Reference14Ideal.nD Cert.Reference14Ideal.τ).loc Cert.Reference14Ideal.main_v43) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v18) = v0 c
          ∧ r.2.mem ((c.tc : Thread Cert.Reference15Ideal.nD Cert.Reference15Ideal.τ).loc Cert.Reference15Ideal.main_v21) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal_on_gates [hKernel16Ideal : Cert.Kernel16Ideal.Facts] [hReference16Ideal : Cert.Reference16Ideal.Facts] [hOn_gates : Cert.On_gates.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          (∀ i : (⟨2, ![8192, 4352]⟩ : Shape).Idx, (Cert.On_gates.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).1 i = 1#1 → r.2.mem ((c.tc : Thread Cert.Kernel16Ideal.nD Cert.Kernel16Ideal.τ).loc Cert.Kernel16Ideal.main_v0_0) i = v0 c i)
          ∧ (∀ i : (⟨2, ![8192, 1024]⟩ : Shape).Idx, (Cert.On_gates.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).2.1 i = 1#1 → r.2.mem ((c.tc : Thread Cert.Kernel16Ideal.nD Cert.Kernel16Ideal.τ).loc Cert.Kernel16Ideal.main_v0_1) i = v1 c i)
          ∧ (∀ i : (⟨2, ![8192, 1024]⟩ : Shape).Idx, (Cert.On_gates.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).2.2 i = 1#1 → r.2.mem ((c.tc : Thread Cert.Kernel16Ideal.nD Cert.Kernel16Ideal.τ).loc Cert.Kernel16Ideal.main_v0_2) i = v2 c i)
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          (∀ i : (⟨2, ![8192, 4352]⟩ : Shape).Idx, (Cert.On_gates.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).1 i = 1#1 → r.2.mem ((c.tc : Thread Cert.Reference16Ideal.nD Cert.Reference16Ideal.τ).loc Cert.Reference16Ideal.main_v37) i = v0 c i)
          ∧ (∀ i : (⟨2, ![8192, 1024]⟩ : Shape).Idx, (Cert.On_gates.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).2.1 i = 1#1 → r.2.mem ((c.tc : Thread Cert.Reference16Ideal.nD Cert.Reference16Ideal.τ).loc Cert.Reference16Ideal.main_v31) i = v1 c i)
          ∧ (∀ i : (⟨2, ![8192, 1024]⟩ : Shape).Idx, (Cert.On_gates.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).2.2 i = 1#1 → r.2.mem ((c.tc : Thread Cert.Reference16Ideal.nD Cert.Reference16Ideal.τ).loc Cert.Reference16Ideal.main_v38) i = v2 c i)
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_v15) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_v15) = v1 c
          ∧ r.2.mem ((c.tc : Thread Cert.Reference18Ideal.nD Cert.Reference18Ideal.τ).loc Cert.Reference18Ideal.main_v19) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite_gu : Cert.Pre_finite_gu.Facts) (hOn_written : Cert.On_written.Facts) (hOn_gates : Cert.On_gates.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_gu (hKernel12Ideal := hKernel12Ideal) (hPre_finite_gu := hPre_finite_gu)
    ∧ quiescent_Reference12Ideal (hReference12Ideal := hReference12Ideal)
    ∧ quiescent_Reference12Ideal_pre_finite_gu (hReference12Ideal := hReference12Ideal) (hPre_finite_gu := hPre_finite_gu)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_gu (hKernel12Ideal := hKernel12Ideal) (hReference12Ideal := hReference12Ideal) (hPre_finite_gu := hPre_finite_gu)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_on_gates (hKernel16Ideal := hKernel16Ideal) (hReference16Ideal := hReference16Ideal) (hOn_gates := hOn_gates)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== On_gates.lean ====
abbrev S8192x4352 : Shape := ⟨2, ![8192, 4352]⟩
abbrev S8192x1024 : Shape := ⟨2, ![8192, 1024]⟩
abbrev S1024x1024 : Shape := ⟨2, ![1024, 1024]⟩
abbrev S_ : Shape := ⟨0, ![]⟩
abbrev S4352 : Shape := ⟨1, ![4352]⟩

class Facts : Prop where
  bcast_S_S8192x1024 : S_.BroadcastsInDim S8192x1024 (![] : Fin 0 → Fin S8192x1024.rank)
  bcast_S_S4352 : S_.BroadcastsInDim S4352 (![] : Fin 0 → Fin S4352.rank)
  bcast_S4352_S8192x4352_1 : S4352.BroadcastsInDim S8192x4352 (![1] : Fin 1 → Fin S8192x4352.rank)

variable [Facts]

def fn {F : FTy → Type} [FloatOps F] (main_arg0 : FVec F S8192x4352 .bf16) (main_arg1 : FVec F S8192x1024 .f32) (main_arg2 : FVec F S8192x1024 .f32) (main_arg3 : FVec F S1024x1024 .bf16) (main_arg4 : FVec F S8192x1024 .bf16) : IVec S8192x4352 1 × IVec S8192x1024 1 × IVec S8192x1024 1 :=
  let main_c : IVec S_ 1 := constantI S_ 1 1#1
  let main_v0 : IVec S8192x1024 1 := broadcastInDim S8192x1024 ![] bcast_S_S8192x1024 main_c
  let main_v1 : IVec S4352 32 := iotaInDim S4352 32 0
  let main_c_0 : IVec S_ 32 := constantI S_ 32 2048#32
  let main_v2 : IVec S4352 32 := broadcastInDim S4352 ![] bcast_S_S4352 main_c_0
  let main_v3 : IVec S4352 1 := cmpi .slt main_v1 main_v2
  let main_v4 : IVec S8192x4352 1 := broadcastInDim S8192x4352 ![1] bcast_S4352_S8192x4352_1 main_v3
  (main_v4, main_v0, main_v0)
-- ==== On_written.lean ====
abbrev S8192x1024 : Shape := ⟨2, ![8192, 1024]⟩
abbrev S8192x128 : Shape := ⟨2, ![8192, 128]⟩
abbrev S1x16 : Shape := ⟨2, ![1, 16]⟩
abbrev S8192 : Shape := ⟨1, ![8192]⟩
abbrev S8192x1 : Shape := ⟨2, ![8192, 1]⟩
abbrev S_ : Shape := ⟨0, ![]⟩

class Facts : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  bcast_S_S8192x1024 : S_.BroadcastsInDim S8192x1024 (![] : Fin 0 → Fin S8192x1024.rank)
  bcast_S_S1x16 : S_.BroadcastsInDim S1x16 (![] : Fin 0 → Fin S1x16.rank)

variable [Facts]

def fn {F : FTy → Type} [FloatOps F] (main_arg0 : FVec F S8192x1024 .bf16) (main_arg1 : FVec F S8192x128 .bf16) (main_arg2 : FVec F S8192x128 .bf16) (main_arg3 : FVec F S1x16 .f32) (main_arg4 : FVec F S8192x1024 .f32) : IVec S8192x1024 1 × IVec S8192x1024 1 × IVec S8192x128 1 × IVec S8192x128 1 × IVec S8192x128 1 × IVec S8192x128 1 × IVec S1x16 1 :=
  let main_v0 : IVec S8192 32 := iotaInDim S8192 32 0
  let main_v1 : IVec S8192x1 32 := broadcastInDim S8192x1 ![0] bcast_S8192_S8192x1_0 main_v0
  let main_c : IVec S_ 32 := constantI S_ 32 8064#32
  let main_v2 : IVec S8192x1 32 := broadcastInDim S8192x1 ![] bcast_S_S8192x1 main_c
  let main_v3 : IVec S8192x1 1 := cmpi .slt main_v1 main_v2
  let main_v4 : IVec S8192x128 1 := broadcastInDim S8192x128 ![0, 1] bcast_S8192x1_S8192x128_0_1 main_v3
  let main_c_0 : IVec S_ 1 := constantI S_ 1 1#1
  let main_v5 : IVec S8192x128 1 := broadcastInDim S8192x128 ![] bcast_S_S8192x128 main_c_0
  let main_c_1 : IVec S_ 1 := constantI S_ 1 1#1
  let main_v6 : IVec S8192x1024 1 := broadcastInDim S8192x1024 ![] bcast_S_S8192x1024 main_c_1
  let main_c_2 : IVec S_ 1 := constantI S_ 1 1#1
  let main_v7 : IVec S8192x1024 1 := broadcastInDim S8192x1024 ![] bcast_S_S8192x1024 main_c_2
  let main_c_3 : IVec S_ 1 := constantI S_ 1 1#1
  let main_v8 : IVec S1x16 1 := broadcastInDim S1x16 ![] bcast_S_S1x16 main_c_3
  (main_v6, main_v7, main_v4, main_v5, main_v4, main_v5, main_v8)
-- ==== Pre_finite.lean ====
abbrev S8192x1024 : Shape := ⟨2, ![8192, 1024]⟩
abbrev S8192x128 : Shape := ⟨2, ![8192, 128]⟩
abbrev S1x16 : Shape := ⟨2, ![1, 16]⟩
abbrev S_ : Shape := ⟨0, ![]⟩
abbrev S1 : Shape := ⟨1, ![1]⟩
abbrev S5 : Shape := ⟨1, ![5]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  concatenates_S1_S1_S1_S1_S1_S5_d0 : Shape.Concatenates [S1, S1, S1, S1, S1] S5 0
  reducesTo_S5_S_d0 : S5.ReducesTo [0] S_

variable [Facts]

def fn_part1 {F : FTy → Type} [FloatOps F] (main_arg4 : FVec F S8192x1024 .f32) (main_v4 : IVec S_ 1) (main_v9 : IVec S_ 1) (main_v14 : IVec S_ 1) (main_v15 : FVec F S1x16 .f32) (main_v16 : FVec F S1x16 .f32) : IVec S_ 1 :=
  let main_v17 : IVec S1x16 1 := cmpf .olt main_v15 main_v16
  let main_c_5 : IVec S_ 1 := constantI S_ 1 1#1
  let main_v18 : IVec S_ 1 := (fun x v => Host.reduce IntOp.andi x v reducesTo_S1x16_S_d0_1 h_S_) main_v17 main_c_5
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S1 1 := broadcastInDim S1 ![] bcast_S_S1 main_v4
  let main_v24 : IVec S1 1 := broadcastInDim S1 ![] bcast_S_S1 main_v9
  let main_v25 : IVec S1 1 := broadcastInDim S1 ![] bcast_S_S1 main_v14
  let main_v26 : IVec S1 1 := broadcastInDim S1 ![] bcast_S_S1 main_v18
  let main_v27 : IVec S1 1 := broadcastInDim S1 ![] bcast_S_S1 main_v22
  let main_v28 : IVec S5 1 := concatenate S5 0 [⟨S1, main_v23⟩, ⟨S1, main_v24⟩, ⟨S1, main_v25⟩, ⟨S1, main_v26⟩, ⟨S1, main_v27⟩] concatenates_S1_S1_S1_S1_S1_S5_d0
  let main_c_8 : IVec S_ 1 := constantI S_ 1 1#1
  let main_v29 : IVec S_ 1 := (fun x v => Host.reduce IntOp.andi x v reducesTo_S5_S_d0 h_S_) main_v28 main_c_8
  main_v29

def fn {F : FTy → Type} [FloatOps F] (main_arg0 : FVec F S8192x1024 .bf16) (main_arg1 : FVec F S8192x128 .bf16) (main_arg2 : FVec F S8192x128 .bf16) (main_arg3 : FVec F S1x16 .f32) (main_arg4 : FVec F S8192x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x128 .f32 := (extf .f32 · bitsLt_bf16_f32) main_arg1
  let main_v6 : FVec F S8192x128 .f32 := Host.absf main_v5
  let main_cst_0 : FVec F S_ .f32 := constant S_ .f32 0x7F800000#32
  let main_v7 : FVec F S8192x128 .f32 := broadcastInDim S8192x128 ![] bcast_S_S8192x128 main_cst_0
  let main_v8 : IVec S8192x128 1 := cmpf .olt main_v6 main_v7
  let main_c_1 : IVec S_ 1 := constantI S_ 1 1#1
  let main_v9 : IVec S_ 1 := (fun x v => Host.reduce IntOp.andi x v reducesTo_S8192x128_S_d0_1 h_S_) main_v8 main_c_1
  let main_v10 : FVec F S8192x128 .f32 := (extf .f32 · bitsLt_bf16_f32) main_arg2
  let main_v11 : FVec F S8192x128 .f32 := Host.absf main_v10
  let main_cst_2 : FVec F S_ .f32 := constant S_ .f32 0x7F800000#32
  let main_v12 : FVec F S8192x128 .f32 := broadcastInDim S8192x128 ![] bcast_S_S8192x128 main_cst_2
  let main_v13 : IVec S8192x128 1 := cmpf .olt main_v11 main_v12
  let main_c_3 : IVec S_ 1 := constantI S_ 1 1#1
  let main_v14 : IVec S_ 1 := (fun x v => Host.reduce IntOp.andi x v reducesTo_S8192x128_S_d0_1 h_S_) main_v13 main_c_3
  let main_v15 : FVec F S1x16 .f32 := Host.absf main_arg3
  let main_cst_4 : FVec F S_ .f32 := constant S_ .f32 0x7F800000#32
  let main_v16 : FVec F S1x16 .f32 := broadcastInDim S1x16 ![] bcast_S_S1x16 main_cst_4
  fn_part1 (F := F) main_arg4 main_v4 main_v9 main_v14 main_v15 main_v16
-- ==== Pre_finite_gu.lean ====
abbrev S8192x1024 : Shape := ⟨2, ![8192, 1024]⟩
abbrev S2816x1024 : Shape := ⟨2, ![2816, 1024]⟩
abbrev S8192x5632 : Shape := ⟨2, ![8192, 5632]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x1024 .bf16) (main_arg1 : FVec F S2816x1024 .bf16) (main_arg2 : FVec F S8192x5632 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x5632 .f32 := (extf .f32 · bitsLt_bf16_f32) main_arg2
  let main_v12 : FVec F S8192x5632 .f32 := Host.absf main_v11
  let main_cst_2 : FVec F S_ .f32 := constant S_ .f32 0x7F800000#32
  let main_v13 : FVec F S8192x5632 .f32 := broadcastInDim S8192x5632 ![] bcast_S_S8192x5632 main_cst_2
  let main_v14 : IVec S8192x5632 1 := cmpf .olt main_v12 main_v13
  let main_c_3 : IVec S_ 1 := constantI S_ 1 1#1
  let main_v15 : IVec S_ 1 := (fun x v => Host.reduce IntOp.andi x v reducesTo_S8192x5632_S_d0_1 h_S_) main_v14 main_c_3
  let main_v16 : IVec S_ 1 := andi main_v10 main_v15
  main_v16
-- ==== Kernel.lean ====
abbrev S8192x1024 : Shape := ⟨2, ![8192, 1024]⟩
abbrev S8192x128 : Shape := ⟨2, ![8192, 128]⟩
abbrev S1x16 : Shape := ⟨2, ![1, 16]⟩
abbrev S2x256x1024 : Shape := ⟨3, ![2, 256, 1024]⟩
abbrev S1x256x1024 : Shape := ⟨3, ![1, 256, 1024]⟩
abbrev S128x1024 : Shape := ⟨2, ![128, 1024]⟩
abbrev S128x128 : Shape := ⟨2, ![128, 128]⟩
abbrev S256x1024 : Shape := ⟨2, ![256, 1024]⟩
abbrev S256x128 : Shape := ⟨2, ![256, 128]⟩
abbrev S256x64 : Shape := ⟨2, ![256, 64]⟩
abbrev S128x64 : Shape := ⟨2, ![128, 64]⟩
abbrev S1024x64 : Shape := ⟨2, ![1024, 64]⟩
abbrev S1x1 : Shape := ⟨2, ![1, 1]⟩
abbrev S1x128 : Shape := ⟨2, ![1, 128]⟩
abbrev S1x1024 : Shape := ⟨2, ![1, 1024]⟩
abbrev S1024 : Shape := ⟨1, ![1024]⟩
abbrev S64x1024 : Shape := ⟨2, ![64, 1024]⟩
abbrev S64x128 : Shape := ⟨2, ![64, 128]⟩
abbrev S8x64 : Shape := ⟨2, ![8, 64]⟩
abbrev S8x1024 : Shape := ⟨2, ![8, 1024]⟩
abbrev S1 : Shape := ⟨1, ![1]⟩

abbrev nBuf : Space → Nat
  | .hbm => 13
  | .vmem => 43
  | .smem => 2
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x128, .bf16⟩
  | .hbm, ⟨3, _⟩ => ⟨S1x16, .f32⟩
  | .hbm, ⟨4, _⟩ => ⟨S8192x1024, .f32⟩
  | .hbm, ⟨5, _⟩ => ⟨S2x256x1024, .f32⟩
  | .hbm, ⟨6, _⟩ => ⟨S8192x1024, .f32⟩
  | .hbm, ⟨7, _⟩ => ⟨S8192x1024, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S1x16, .f32⟩
  | .local _ .vmem, ⟨0, _⟩ => ⟨S1x16, .f32⟩
  | .local _ .vmem, ⟨1, _⟩ => ⟨S2x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S128x1024, .bf16⟩
  | .local _ .vmem, ⟨5, _⟩ => ⟨S128x1024, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x1024, .f32⟩
  | .local _ .vmem, ⟨15, _⟩ => ⟨S128x1024, .f32⟩
  | .local _ .vmem, ⟨16, _⟩ => ⟨S1x256x1024, .f32⟩
  | .local _ .vmem, ⟨17, _⟩ => ⟨S1x256x1024, .f32⟩
  | .local _ .vmem, ⟨18, _⟩ => ⟨S128x1024, .bf16⟩
  | .local _ .vmem, ⟨19, _⟩ => ⟨S128x1024, .bf16⟩
  | .local _ .vmem, ⟨20, _⟩ => ⟨S128x128, .bf16⟩
  | .local _ .vmem, ⟨21, _⟩ => ⟨S128x128, .bf16⟩
  | .local _ .vmem, ⟨22, _⟩ => ⟨S128x128, .bf16⟩
  | .local _ .vmem, ⟨23, _⟩ => ⟨S128x128, .bf16⟩
  | .local _ .vmem, ⟨24, _⟩ => ⟨S128x128, .bf16⟩
  | .local _ .vmem, ⟨25, _⟩ => ⟨S128x128, .bf16⟩
  | .local _ .vmem, ⟨26, _⟩ => ⟨S128x128, .bf16⟩
  | .local _ .vmem, ⟨27, _⟩ => ⟨S128x128, .bf16⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x128, .f32⟩
  | .local _ .vmem, ⟨35, _⟩ => ⟨S128x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S128x128, .f32⟩
  | .local _ .vmem, ⟨42, _⟩ => ⟨S1x16, .f32⟩
  | .local _ .smem, ⟨0, _⟩ => ⟨S1x16, .f32⟩
  | .local _ .smem, ⟨1, _⟩ => ⟨S1x16, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg1_0 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_stg9_0 : Ref sig .tc := ⟨.vmem, 32, rfl⟩
abbrev cc2_stg9_1 : Ref sig .tc := ⟨.vmem, 33, rfl⟩
abbrev cc2_stg10_0 : Ref sig .tc := ⟨.vmem, 34, rfl⟩
abbrev cc2_stg10_1 : Ref sig .tc := ⟨.vmem, 35, rfl⟩
abbrev cc2_stg11_0 : Ref sig .tc := ⟨.vmem, 36, rfl⟩
abbrev cc2_stg11_1 : Ref sig .tc := ⟨.vmem, 37, rfl⟩
abbrev cc2_stg12_0 : Ref sig .tc := ⟨.vmem, 38, rfl⟩
abbrev cc2_stg12_1 : Ref sig .tc := ⟨.vmem, 39, rfl⟩
abbrev cc2_stg13_0 : Ref sig .tc := ⟨.vmem, 40, rfl⟩
abbrev cc2_stg13_1 : Ref sig .tc := ⟨.vmem, 41, rfl⟩
abbrev cc2_stg14_0 : Ref sig .tc := ⟨.vmem, 42, rfl⟩
abbrev cc1_stg0_0 : Ref sig .tc := ⟨.smem, 0, rfl⟩
abbrev cc2_stg0_0 : Ref sig .tc := ⟨.smem, 1, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc2_sem9_0 : DmaSem sig := 34
abbrev cc2_sem9_1 : DmaSem sig := 35
abbrev cc2_sem10_0 : DmaSem sig := 36
abbrev cc2_sem10_1 : DmaSem sig := 37
abbrev cc2_sem11_0 : DmaSem sig := 38
abbrev cc2_sem11_1 : DmaSem sig := 39
abbrev cc2_sem12_0 : DmaSem sig := 40
abbrev cc2_sem12_1 : DmaSem sig := 41
abbrev cc2_sem13_0 : DmaSem sig := 42
abbrev cc2_sem13_1 : DmaSem sig := 43
abbrev cc2_sem14_0 : DmaSem sig := 44

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S1x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S128x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S128x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S128x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S128x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S128x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S128x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 1 → Memref sig .tc .vmem S1x16 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x128 : Shape := ⟨2, ![8192, 128]⟩
abbrev S1x16 : Shape := ⟨2, ![1, 16]⟩
abbrev S16 : Shape := ⟨1, ![16]⟩
abbrev S64x128x2x8x64 : Shape := ⟨5, ![64, 128, 2, 8, 64]⟩
abbrev S64x128x2x64 : Shape := ⟨4, ![64, 128, 2, 64]⟩
abbrev S_ : Shape := ⟨0, ![]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S2x8 : Shape := ⟨2, ![2, 8]⟩
abbrev S1x2x8x1x1 : Shape := ⟨5, ![1, 2, 8, 1, 1]⟩
abbrev S64x2x8x128 : Shape := ⟨4, ![64, 2, 8, 128]⟩
abbrev S64x2x8x128x1 : Shape := ⟨5, ![64, 2, 8, 128, 1]⟩
abbrev S64x2x64x8x128 : Shape := ⟨5, ![64, 2, 64, 8, 128]⟩
abbrev S64x2x64x256 : Shape := ⟨4, ![64, 2, 64, 256]⟩
abbrev S2x8x1 : Shape := ⟨3, ![2, 8, 1]⟩
abbrev S64x2x128x8x64 : Shape := ⟨5, ![64, 2, 128, 8, 64]⟩
abbrev S64x2x256x64 : Shape := ⟨4, ![64, 2, 256, 64]⟩

abbrev nBuf : Space → Nat
  | .hbm => 200
  | .vmem => 0
  | .smem => 0
  | _ => 0

abbrev hbmTy0_0 (i : Nat) : BufTy := match i % 128 with
  | 0 => ⟨S8192x1024, .bf16⟩
  | 1 => ⟨S8192x128, .bf16⟩
  | 2 => ⟨S8192x128, .bf16⟩
  | 3 => ⟨S1x16, .f32⟩
  | 4 => ⟨S8192x1024, .f32⟩
  | 5 => ⟨S8192x1024, .f32⟩
  | 6 => ⟨S8192x128, .f32⟩
  | 7 => ⟨S8192x128, .f32⟩
  | 8 => ⟨S16, .f32⟩
  | 9 => ⟨S64x128x2x8x64, .f32⟩
  | 10 => ⟨S64x128x2x64, .f32⟩
  | 11 => ⟨S64x128x2x64, .f32⟩
  | 12 => ⟨S_, .f32⟩
  | 13 => ⟨S1x128x2x64, .f32⟩
  | 14 => ⟨S63x128x2x64, .f32⟩
  | 15 => ⟨S64x128x2x64, .f32⟩
  | 16 => ⟨S_, .f32⟩
  | 17 => ⟨S1x128x2x64, .f32⟩
  | 18 => ⟨S64x256x2x64, .f32⟩
  | 19 => ⟨S64x128x2x64, .f32⟩
  | 20 => ⟨S64x128x2x64, .f32⟩
  | 21 => ⟨S_, .f32⟩
  | 22 => ⟨S1x128x2x64, .f32⟩
  | 23 => ⟨S63x128x2x64, .f32⟩
  | 24 => ⟨S64x128x2x64, .f32⟩
  | 25 => ⟨S_, .f32⟩
  | 26 => ⟨S1x128x2x64, .f32⟩
  | 27 => ⟨S64x256x2x64, .f32⟩
  | 28 => ⟨S64x2x256x128x8, .f32⟩
  | 29 => ⟨S64x2x8x128x256, .f32⟩
  | 30 => ⟨S128, .i32⟩
  | 31 => ⟨S128x1, .i32⟩
  | 32 => ⟨S256, .i32⟩
  | 33 => ⟨S1x256, .i32⟩
  | 34 => ⟨S_, .i32⟩
  | 35 => ⟨S128x1, .i32⟩
  | 36 => ⟨S128x1, .i32⟩
  | 37 => ⟨S128x256, .i32⟩
  | 38 => ⟨S128x256, .i32⟩
  | 39 => ⟨S128x256, .i32⟩
  | 40 => ⟨S64, .i32⟩
  | 41 => ⟨S64x1x1, .i32⟩
  | 42 => ⟨S_, .i32⟩
  | 43 => ⟨S64x1x1, .i32⟩
  | 44 => ⟨S64x1x1, .i32⟩
  | 45 => ⟨S_, .i32⟩
  | 46 => ⟨S64x1x1, .i32⟩
  | 47 => ⟨S64x1x1, .i32⟩
  | 48 => ⟨S1x1x256, .i32⟩
  | 49 => ⟨S64x1x256, .i32⟩
  | 50 => ⟨S64x1x256, .i32⟩
  | 51 => ⟨S64x1x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i1⟩
  | 58 => ⟨S128x256, .i1⟩
  | 59 => ⟨S_, .i32⟩
  | 60 => ⟨S64x1x256, .i32⟩
  | 61 => ⟨S64x1x256, .i1⟩
  | 62 => ⟨S1x128x256, .i1⟩
  | 63 => ⟨S64x128x256, .i1⟩
  | 64 => ⟨S64x128x256, .i1⟩
  | 65 => ⟨S64x128x256, .i1⟩
  | 66 => ⟨S64x1x1x128x256, .i1⟩
  | 67 => ⟨S_, .f32⟩
  | 68 => ⟨S_, .f32⟩
  | 69 => ⟨S64x2x8x128x256, .i1⟩
  | 70 => ⟨S64x2x8x128x256, .f32⟩
  | 71 => ⟨S64x2x8x128x256, .f32⟩
  | 72 => ⟨S_, .f32⟩
  | 73 => ⟨S64x2x8x128x256, .f32⟩
  | 74 => ⟨S2x8, .f32⟩
  | 75 => ⟨S1x2x8x1x1, .f32⟩
  | 76 => ⟨S_, .f32⟩
  | 77 => ⟨S64x2x8x128, .f32⟩
  | 78 => ⟨S64x2x8x128x1, .f32⟩
  | 79 => ⟨S64x2x8x128x256, .f32⟩
  | 80 => ⟨S64x2x8x128x256, .i1⟩
  | 81 => ⟨S64x2x8x128x256, .f32⟩
  | 82 => ⟨S_, .f32⟩
  | 83 => ⟨S64x2x8x128, .f32⟩
  | 84 => ⟨S64x2x8x128x1, .f32⟩
  | 85 => ⟨S64x2x8x128x1, .f32⟩
  | 86 => ⟨S64x2x8x128x1, .f32⟩
  | 87 => ⟨S64x2x8x128x1, .f32⟩
  | 88 => ⟨S64x2x8x128x1, .i1⟩
  | 89 => ⟨S64x2x8x128x1, .f32⟩
  | 90 => ⟨S64x2x8x128x1, .i1⟩
  | 91 => ⟨S_, .f32⟩
  | 92 => ⟨S64x2x8x128x1, .f32⟩
  | 93 => ⟨S_, .f32⟩
  | 94 => ⟨S64x2x8x128x1, .f32⟩
  | 95 => ⟨S_, .f32⟩
  | 96 => ⟨S64x2x8x128x1, .f32⟩
  | 97 => ⟨S64x2x8x128x1, .f32⟩
  | 98 => ⟨S64x2x8x128x1, .f32⟩
  | 99 => ⟨S64x2x8x128x1, .f32⟩
  | 100 => ⟨S64x2x8x128x1, .i1⟩
  | 101 => ⟨S64x2x8x128x1, .f32⟩
  | 102 => ⟨S64x2x8x128x1, .i1⟩
  | 103 => ⟨S_, .f32⟩
  | 104 => ⟨S64x2x8x128x1, .f32⟩
  | 105 => ⟨S_, .f32⟩
  | 106 => ⟨S64x2x8x128x1, .f32⟩
  | 107 => ⟨S_, .f32⟩
  | 108 => ⟨S64x2x8x128x1, .f32⟩
  | 109 => ⟨S64x2x8x128x1, .f32⟩
  | 110 => ⟨S64x2x8x128x1, .f32⟩
  | 111 => ⟨S64x2x8x128x256, .f32⟩
  | 112 => ⟨S64x2x8x128x256, .f32⟩
  | 113 => ⟨S64x2x8x128x256, .f32⟩
  | 114 => ⟨S_, .f32⟩
  | 115 => ⟨S64x2x8x128, .f32⟩
  | 116 => ⟨S64x2x8x128x1, .f32⟩
  | 117 => ⟨S64x2x8x128x1, .f32⟩
  | 118 => ⟨S64x2x8x128x1, .f32⟩
  | 119 => ⟨S64x2x8x128x1, .f32⟩
  | 120 => ⟨S64x2x8x128x1, .f32⟩
  | 121 => ⟨S64x2x8x128x256, .f32⟩
  | 122 => ⟨S64x2x8x128x256, .f32⟩
  | 123 => ⟨S64x2x8x128x1, .f32⟩
  | 124 => ⟨S_, .f32⟩
  | 125 => ⟨S64x2x8x128x1, .f32⟩
  | 126 => ⟨S64x2x8x128x1, .f32⟩
  | 127 => ⟨S64x2x64x8x128, .f32⟩
  | _ => ⟨S8192x1024, .bf16⟩

abbrev hbmTy0_1 (i : Nat) : BufTy := match i % 128 with
  | 0 => ⟨S64x128x2x8x64, .f32⟩
  | 1 => ⟨S8192x1024, .f32⟩
  | 2 => ⟨S64x128x2x8x64, .f32⟩
  | 3 => ⟨S64x2x64x8x128, .f32⟩
  | 4 => ⟨S64x2x8x128x256, .f32⟩
  | 5 => ⟨S64x2x64x256, .f32⟩
  | 6 => ⟨S64x256x2x64, .f32⟩
  | 7 => ⟨S64x2x8x128x256, .f32⟩
  | 8 => ⟨S64x2x8x128x256, .f32⟩
  | 9 => ⟨S64x2x8x128x256, .f32⟩
  | 10 => ⟨S_, .f32⟩
  | 11 => ⟨S64x2x8x128, .f32⟩
  | 12 => ⟨S64x2x8x128x1, .f32⟩
  | 13 => ⟨S64x2x8x128x1, .f32⟩
  | 14 => ⟨S64x2x8x128x256, .f32⟩
  | 15 => ⟨S64x2x8x128x256, .f32⟩
  | 16 => ⟨S64x2x8x128x1, .f32⟩
  | 17 => ⟨S_, .f32⟩
  | 18 => ⟨S2x8x1, .f32⟩
  | 19 => ⟨S1x2x8x1x1, .f32⟩
  | 20 => ⟨S64x2x8x128x1, .f32⟩
  | 21 => ⟨S_, .f32⟩
  | 22 => ⟨S64x2x8x128, .f32⟩
  | 23 => ⟨S64x2x8x128x256, .f32⟩
  | 24 => ⟨S64x2x8x128x256, .f32⟩
  | 25 => ⟨S64x2x8x128x256, .f32⟩
  | 26 => ⟨S64x2x8x128x256, .f32⟩
  | 27 => ⟨S_, .f32⟩
  | 28 => ⟨S64x2x8x128, .f32⟩
  | 29 => ⟨S64x2x8x128x1, .f32⟩
  | 30 => ⟨S64x2x8x128x1, .f32⟩
  | 31 => ⟨S64x2x8x128x1, .f32⟩
  | 32 => ⟨S_, .f32⟩
  | 33 => ⟨S2x8x1, .f32⟩
  | 34 => ⟨S1x2x8x1x1, .f32⟩
  | 35 => ⟨S1x2x8x1x1, .f32⟩
  | 36 => ⟨S64x2x8x128x1, .f32⟩
  | 37 => ⟨S_, .f32⟩
  | 38 => ⟨S64x2x8x128, .f32⟩
  | 39 => ⟨S64x2x8x128, .f32⟩
  | 40 => ⟨S64x2x8x128x256, .f32⟩
  | 41 => ⟨S64x2x8x128x256, .f32⟩
  | 42 => ⟨S64x2x8x128x256, .f32⟩
  | 43 => ⟨S_, .f32⟩
  | 44 => ⟨S2x8, .f32⟩
  | 45 => ⟨S16, .f32⟩
  | 46 => ⟨S_, .f32⟩
  | 47 => ⟨S64x2x8x128x256, .f32⟩
  | 48 => ⟨S64x2x8x128x256, .f32⟩
  | 49 => ⟨S64x2x256x128x8, .f32⟩
  | 50 => ⟨S64x2x128x8x64, .f32⟩
  | 51 => ⟨S64x128x2x8x64, .f32⟩
  | 52 => ⟨S64x2x256x64, .f32⟩
  | 53 => ⟨S64x256x2x64, .f32⟩
  | 54 => ⟨S64x128x2x64, .f32⟩
  | 55 => ⟨S64x128x2x64, .f32⟩
  | 56 => ⟨S1x128x2x64, .f32⟩
  | 57 => ⟨S63x128x2x64, .f32⟩
  | 58 => ⟨S_, .f32⟩
  | 59 => ⟨S64x128x2x64, .f32⟩
  | 60 => ⟨S8192x128, .f32⟩
  | 61 => ⟨S8192x128, .f32⟩
  | 62 => ⟨S64x128x2x64, .f32⟩
  | 63 => ⟨S64x128x2x64, .f32⟩
  | 64 => ⟨S1x128x2x64, .f32⟩
  | 65 => ⟨S63x128x2x64, .f32⟩
  | 66 => ⟨S_, .f32⟩
  | 67 => ⟨S64x128x2x64, .f32⟩
  | 68 => ⟨S8192x128, .f32⟩
  | 69 => ⟨S8192x128, .f32⟩
  | 70 => ⟨S8192x1024, .f32⟩
  | 71 => ⟨S1x16, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_call0_v0 : Ref sig .tc := ⟨.hbm, 68, rfl⟩
abbrev main_v52_1 : Ref sig .tc := ⟨.hbm, 69, rfl⟩
abbrev main_call0_v2 : Ref sig .tc := ⟨.hbm, 70, rfl⟩
abbrev main_v52_0 : Ref sig .tc := ⟨.hbm, 71, rfl⟩
abbrev main_call0_cst : Ref sig .tc := ⟨.hbm, 72, rfl⟩
abbrev main_v52_2 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_19 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_20 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_21 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_22 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_23 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_24 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_25 : Ref sig .tc := ⟨.hbm, 171, rfl⟩
abbrev main_v134 : Ref sig .tc := ⟨.hbm, 172, rfl⟩
abbrev main_v135 : Ref sig .tc := ⟨.hbm, 173, rfl⟩
abbrev main_call1_cst : Ref sig .tc := ⟨.hbm, 174, rfl⟩
abbrev main_call1_v0 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_26 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_27 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩

abbrev nD : Nat := 1
abbrev τ : Topo := Topo.v7x

variable {F : FTy → Type} [FloatOps F]
-- ==== Kernel2.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .f32⟩
  | .hbm, ⟨3, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference2Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .f32⟩
  | .hbm, ⟨11, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S1024x8192 : Shape := ⟨2, ![1024, 8192]⟩
abbrev S8192x5632 : Shape := ⟨2, ![8192, 5632]⟩
abbrev S4x1024x1408 : Shape := ⟨3, ![4, 1024, 1408]⟩
abbrev S1024x2048 : Shape := ⟨2, ![1024, 2048]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S1024x8192, .bf16⟩
  | .hbm, ⟨1, _⟩ => ⟨S8192x5632, .bf16⟩
  | .hbm, ⟨2, _⟩ => ⟨S4x1024x1408, .f32⟩
  | .hbm, ⟨3, _⟩ => ⟨S4x1024x1408, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1x1024x1408, .bf16⟩
  | .local _ .vmem, ⟨7, _⟩ => ⟨S1x1024x1408, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S1024x8192 : Shape := ⟨2, ![1024, 8192]⟩
abbrev S8192x5632 : Shape := ⟨2, ![8192, 5632]⟩
abbrev S_ : Shape := ⟨0, ![]⟩
abbrev S1024x5632 : Shape := ⟨2, ![1024, 5632]⟩
abbrev S8192x1024 : Shape := ⟨2, ![8192, 1024]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S1024x8192, .f32⟩
  | .hbm, ⟨5, _⟩ => ⟨S8192x1024, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S1024x4x1408, .f32⟩
  | .hbm, ⟨11, _⟩ => ⟨S4x1024x1408, .f32⟩
  | .hbm, ⟨12, _⟩ => ⟨S4x1024x1408, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S1024x8192 : Shape := ⟨2, ![1024, 8192]⟩
abbrev S8192x4352 : Shape := ⟨2, ![8192, 4352]⟩
abbrev S1x1024x4352 : Shape := ⟨3, ![1, 1024, 4352]⟩
abbrev S1024x2048 : Shape := ⟨2, ![1024, 2048]⟩
abbrev S2048x2176 : Shape := ⟨2, ![2048, 2176]⟩
abbrev S1x1024x2176 : Shape := ⟨3, ![1, 1024, 2176]⟩
abbrev S1024x2176 : Shape := ⟨2, ![1024, 2176]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x4352, .bf16⟩
  | .hbm, ⟨2, _⟩ => ⟨S1x1024x4352, .f32⟩
  | .local _ .vmem, ⟨0, _⟩ => ⟨S1024x2048, .bf16⟩
  | .local _ .vmem, ⟨1, _⟩ => ⟨S1024x2048, .bf16⟩
  | .local _ .vmem, ⟨2, _⟩ => ⟨S2048x2176, .bf16⟩
  | .local _ .vmem, ⟨3, _⟩ => ⟨S2048x2176, .bf16⟩
  | .local _ .vmem, ⟨4, _⟩ => ⟨S1x1024x2176, .f32⟩
  | .local _ .vmem, ⟨5, _⟩ => ⟨S1x1024x2176, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S1024x8192 : Shape := ⟨2, ![1024, 8192]⟩
abbrev S8192x4352 : Shape := ⟨2, ![8192, 4352]⟩
abbrev S_ : Shape := ⟨0, ![]⟩
abbrev S1024x4352 : Shape := ⟨2, ![1024, 4352]⟩
abbrev S8192x1024 : Shape := ⟨2, ![8192, 1024]⟩
abbrev S4352x1024 : Shape := ⟨2, ![4352, 1024]⟩
abbrev S1x1024x4352 : Shape := ⟨3, ![1, 1024, 4352]⟩

abbrev nBuf : Space → Nat
  | .hbm => 11
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x4352, .bf16⟩
  | .hbm, ⟨2, _⟩ => ⟨S_, .f32⟩
  | .hbm, ⟨3, _⟩ => ⟨S1024x4352, .f32⟩
  | .hbm, ⟨4, _⟩ => ⟨S1024x8192, .f32⟩
  | .hbm, ⟨5, _⟩ => ⟨S8192x1024, .f32⟩
  | .hbm, ⟨6, _⟩ => ⟨S8192x4352, .f32⟩
  | .hbm, ⟨7, _⟩ => ⟨S8192x4352, .f32⟩
  | .hbm, ⟨8, _⟩ => ⟨S4352x1024, .f32⟩
  | .hbm, ⟨9, _⟩ => ⟨S1024x4352, .f32⟩
  | .hbm, ⟨10, _⟩ => ⟨S1x1024x4352, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S1x2816x1024 : Shape := ⟨3, ![1, 2816, 1024]⟩
abbrev S1024x2816 : Shape := ⟨2, ![1024, 2816]⟩
abbrev S1024x512 : Shape := ⟨2, ![1024, 512]⟩
abbrev S1x2816x512 : Shape := ⟨3, ![1, 2816, 512]⟩
abbrev S2816x512 : Shape := ⟨2, ![2816, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x2816x1024, .f32⟩
  | .hbm, ⟨3, _⟩ => ⟨S1x2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S1x2816x512, .f32⟩
  | .local _ .vmem, ⟨5, _⟩ => ⟨S1x2816x512, .f32⟩
  | .local _ .vmem, ⟨6, _⟩ => ⟨S1x2816x512, .bf16⟩
  | .local _ .vmem, ⟨7, _⟩ => ⟨S1x2816x512, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | .hbm, ⟨10, _⟩ => ⟨S1x2816x1024, .f32⟩
  | .hbm, ⟨11, _⟩ => ⟨S1x2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x512 : Shape := ⟨2, ![8192, 512]⟩
abbrev S8192x1024 : Shape := ⟨2, ![8192, 1024]⟩
abbrev S4x512x256 : Shape := ⟨3, ![4, 512, 256]⟩
abbrev S2048x512 : Shape := ⟨2, ![2048, 512]⟩
abbrev S2048x1024 : Shape := ⟨2, ![2048, 1024]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S4x512x256, .f32⟩
  | .hbm, ⟨3, _⟩ => ⟨S4x512x256, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S4x512x256, .f32⟩
  | .local _ .vmem, ⟨5, _⟩ => ⟨S4x512x256, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_4 : BitVec 32 := 0#32
  let v9 : BitVec 1 := Scalar.cmpi .ne v8 c0_i32_4
  v9

def k0_cond2 (i : grid0.Coords) : BitVec 1 :=
  let arg1 : BitVec 32 := BitVec.ofNat 32 (i 1).val
  let c0_i32_5 : BitVec 32 := 0#32
  let v10 : BitVec 1 := Scalar.cmpi .sgt arg1 c0_i32_5
  let v11 : BitVec 32 := Scalar.extui v10
  let c0_i32_10 : BitVec 32 := 0#32
  let v12 : BitVec 1 := Scalar.cmpi .ne v11 c0_i32_10
  v12

def k0_cond3 (i : grid0.Coords) : BitVec 1 :=
  let arg1 : BitVec 32 := BitVec.ofNat 32 (i 1).val
  let c3_i32_11 : BitVec 32 := 3#32
  let v13 : BitVec 1 := Scalar.cmpi .eq arg1 c3_i32_11
  let v14 : BitVec 32 := Scalar.extui v13
  let c0_i32_12 : BitVec 32 := 0#32
  let v15 : BitVec 1 := Scalar.cmpi .ne v14 c0_i32_12
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference6Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | .hbm, ⟨11, _⟩ => ⟨S4x512x256, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8192x1024 : Shape := ⟨2, ![8192, 1024]⟩
abbrev S1024x4352 : Shape := ⟨2, ![1024, 4352]⟩
abbrev S1x1024x4352 : Shape := ⟨3, ![1, 1024, 4352]⟩
abbrev S8192x4352 : Shape := ⟨2, ![8192, 4352]⟩
abbrev S512x1024 : Shape := ⟨2, ![512, 1024]⟩
abbrev S512x4352 : Shape := ⟨2, ![512, 4352]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4352, .bf16⟩
  | .hbm, ⟨2, _⟩ => ⟨S1x1024x4352, .bf16⟩
  | .hbm, ⟨3, _⟩ => ⟨S8192x4352, .bf16⟩
  | .local _ .vmem, ⟨0, _⟩ => ⟨S512x1024, .bf16⟩
  | .local _ .vmem, ⟨1, _⟩ => ⟨S512x1024, .bf16⟩
  | .local _ .vmem, ⟨2, _⟩ => ⟨S1x1024x4352, .bf16⟩
  | .local _ .vmem, ⟨3, _⟩ => ⟨S512x4352, .bf16⟩
  | .local _ .vmem, ⟨4, _⟩ => ⟨S512x4352, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x1024 : Shape := ⟨2, ![8192, 1024]⟩
abbrev S1024x4352 : Shape := ⟨2, ![1024, 4352]⟩
abbrev S8192x4352 : Shape := ⟨2, ![8192, 4352]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4352, .bf16⟩
  | .hbm, ⟨2, _⟩ => ⟨S8192x1024, .f32⟩
  | .hbm, ⟨3, _⟩ => ⟨S1024x4352, .f32⟩
  | .hbm, ⟨4, _⟩ => ⟨S8192x4352, .f32⟩
  | .hbm, ⟨5, _⟩ => ⟨S8192x4352, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x512 : Shape := ⟨2, ![8192, 512]⟩
abbrev S4x512x256 : Shape := ⟨3, ![4, 512, 256]⟩
abbrev S8192x1024 : Shape := ⟨2, ![8192, 1024]⟩
abbrev S512x512 : Shape := ⟨2, ![512, 512]⟩
abbrev S512x1024 : Shape := ⟨2, ![512, 1024]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S4x512x256, .bf16⟩
  | .hbm, ⟨2, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S4x512x256, .bf16⟩
  | .local _ .vmem, ⟨3, _⟩ => ⟨S512x1024, .f32⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x512 : Shape := ⟨2, ![8192, 512]⟩
abbrev S4x512x256 : Shape := ⟨3, ![4, 512, 256]⟩
abbrev S512x4x256 : Shape := ⟨3, ![512, 4, 256]⟩
abbrev S512x1024 : Shape := ⟨2, ![512, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x512x256, .bf16⟩
  | .hbm, ⟨2, _⟩ => ⟨S4x512x256, .f32⟩
  | .hbm, ⟨3, _⟩ => ⟨S512x4x256, .f32⟩
  | .hbm, ⟨4, _⟩ => ⟨S512x1024, .f32⟩
  | .hbm, ⟨5, _⟩ => ⟨S8192x512, .f32⟩
  | .hbm, ⟨6, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S4x1024x1408 : Shape := ⟨3, ![4, 1024, 1408]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x5632, .bf16⟩
  | .hbm, ⟨3, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S4x1024x1408, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8192x1024 : Shape := ⟨2, ![8192, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x5632, .bf16⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel10.lean ====
abbrev S8192x2816 : Shape := ⟨2, ![8192, 2816]⟩
abbrev S2816x1024 : Shape := ⟨2, ![2816, 1024]⟩
abbrev S8192x1024 : Shape := ⟨2, ![8192, 1024]⟩
abbrev S1x2816x1024 : Shape := ⟨3, ![1, 2816, 1024]⟩
abbrev S512x2816 : Shape := ⟨2, ![512, 2816]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x2816x1024, .bf16⟩
  | .hbm, ⟨4, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x1024 : Shape := ⟨2, ![8192, 1024]⟩
abbrev S4x512x256 : Shape := ⟨3, ![4, 512, 256]⟩
abbrev S8192x512 : Shape := ⟨2, ![8192, 512]⟩
abbrev S512x1024 : Shape := ⟨2, ![512, 1024]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S4x512x256, .bf16⟩
  | .hbm, ⟨2, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S4x512x256, .bf16⟩
  | .local _ .vmem, ⟨3, _⟩ => ⟨S512x512, .f32⟩
  | .local _ .vmem, ⟨4, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x1024 : Shape := ⟨2, ![8192, 1024]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S8192x512 : Shape := ⟨2, ![8192, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x512x256, .bf16⟩
  | .hbm, ⟨2, _⟩ => ⟨S4x512x256, .f32⟩
  | .hbm, ⟨3, _⟩ => ⟨S512x4x256, .f32⟩
  | .hbm, ⟨4, _⟩ => ⟨S512x1024, .f32⟩
  | .hbm, ⟨5, _⟩ => ⟨S_, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S2816x1024 : Shape := ⟨2, ![2816, 1024]⟩
abbrev S8192x5632 : Shape := ⟨2, ![8192, 5632]⟩
abbrev S1x2816x1024 : Shape := ⟨3, ![1, 2816, 1024]⟩
abbrev S512x1024 : Shape := ⟨2, ![512, 1024]⟩
abbrev S512x5632 : Shape := ⟨2, ![512, 5632]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x5632, .bf16⟩
  | .hbm, ⟨3, _⟩ => ⟨S1x2816x1024, .bf16⟩
  | .hbm, ⟨4, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S1x2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x5632, .bf16⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x5632, .f32⟩
  | .hbm, ⟨31, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== Kernel13.lean ====
abbrev S8192x5632 : Shape := ⟨2, ![8192, 5632]⟩
abbrev S4x1024x1408 : Shape := ⟨3, ![4, 1024, 1408]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_32 : BitVec 32 := 0#32
  let v53 : BitVec 1 := Scalar.cmpi .ne v52 c0_i32_32
  v53

def k0_cond2 (i : grid0.Coords) : BitVec 1 :=
  let arg0 : BitVec 32 := BitVec.ofNat 32 (i 0).val
  let c0_i32_33 : BitVec 32 := 0#32
  let v54 : BitVec 1 := Scalar.cmpi .sgt arg0 c0_i32_33
  let v55 : BitVec 32 := Scalar.extui v54
  let c0_i32_34 : BitVec 32 := 0#32
  let v56 : BitVec 1 := Scalar.cmpi .ne v55 c0_i32_34
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference13Ideal.lean ====
abbrev S8192x5632 : Shape := ⟨2, ![8192, 5632]⟩
abbrev S4x1024x1408 : Shape := ⟨3, ![4, 1024, 1408]⟩
abbrev S8192x1024 : Shape := ⟨2, ![8192, 1024]⟩
abbrev S1x1024 : Shape := ⟨2, ![1, 1024]⟩
abbrev S1024x4x1408 : Shape := ⟨3, ![1024, 4, 1408]⟩
abbrev S1024x5632 : Shape := ⟨2, ![1024, 5632]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x5632, .f32⟩
  | .hbm, ⟨30, _⟩ => ⟨S8192x5632, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel14.lean ====
abbrev S8192x4352 : Shape := ⟨2, ![8192, 4352]⟩
abbrev S1024x4352 : Shape := ⟨2, ![1024, 4352]⟩
abbrev S8192x1024 : Shape := ⟨2, ![8192, 1024]⟩
abbrev S1x1024 : Shape := ⟨2, ![1, 1024]⟩
abbrev S1x1024x4352 : Shape := ⟨3, ![1, 1024, 4352]⟩
abbrev S512x4352 : Shape := ⟨2, ![512, 4352]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x4352, .bf16⟩
  | .hbm, ⟨1, _⟩ => ⟨S1024x4352, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024x4352, .bf16⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x4352, .bf16⟩
  | .local _ .vmem, ⟨1, _⟩ => ⟨S512x4352, .bf16⟩
  | .local _ .vmem, ⟨2, _⟩ => ⟨S1x1024x4352, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_20 : BitVec 32 := 0#32
  let v38 : BitVec 1 := Scalar.cmpi .ne v37 c0_i32_20
  v38

def k0_cond2 (i : grid0.Coords) : BitVec 1 :=
  let arg0 : BitVec 32 := BitVec.ofNat 32 (i 0).val
  let c0_i32_21 : BitVec 32 := 0#32
  let v39 : BitVec 1 := Scalar.cmpi .sgt arg0 c0_i32_21
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S8192x4352 : Shape := ⟨2, ![8192, 4352]⟩
abbrev S1024x4352 : Shape := ⟨2, ![1024, 4352]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S1024x4352, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x4352, .f32⟩
  | .hbm, ⟨27, _⟩ => ⟨S8192x4352, .f32⟩
  | .hbm, ⟨28, _⟩ => ⟨S8192x4352, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S1x1024, .f32⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel15.lean ====
abbrev S8192x4352 : Shape := ⟨2, ![8192, 4352]⟩
abbrev S8192x1024 : Shape := ⟨2, ![8192, 1024]⟩
abbrev S1024x1024 : Shape := ⟨2, ![1024, 1024]⟩
abbrev S512x2048 : Shape := ⟨2, ![512, 2048]⟩
abbrev S512x1024 : Shape := ⟨2, ![512, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4352, .bf16⟩
  | .hbm, ⟨1, _⟩ => ⟨S8192x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S8192x4352 : Shape := ⟨2, ![8192, 4352]⟩
abbrev S8192x1024 : Shape := ⟨2, ![8192, 1024]⟩
abbrev S1024x1024 : Shape := ⟨2, ![1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S8192x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .hbm, ⟨5, _⟩ => ⟨S8192x4352, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1024x1024, .f32⟩
  | .hbm, ⟨29, _⟩ => ⟨S8192x1024, .f32⟩
  | .hbm, ⟨30, _⟩ => ⟨S8192x1024, .f32⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel16.lean ====
abbrev S8192x4352 : Shape := ⟨2, ![8192, 4352]⟩
abbrev S8192x1024 : Shape := ⟨2, ![8192, 1024]⟩
abbrev S1024x1024 : Shape := ⟨2, ![1024, 1024]⟩
abbrev S512x2048 : Shape := ⟨2, ![512, 2048]⟩
abbrev S512x1024 : Shape := ⟨2, ![512, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x4352, .bf16⟩
  | .hbm, ⟨1, _⟩ => ⟨S8192x1024, .f32⟩
  | .hbm, ⟨2, _⟩ => ⟨S8192x1024, .f32⟩
  | .hbm, ⟨3, _⟩ => ⟨S1024x1024, .bf16⟩
  | .hbm, ⟨4, _⟩ => ⟨S8192x1024, .bf16⟩
  | .hbm, ⟨5, _⟩ => ⟨S8192x4352, .bf16⟩
  | .hbm, ⟨6, _⟩ => ⟨S8192x1024, .f32⟩
  | .hbm, ⟨7, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x2048, .bf16⟩
  | .local _ .vmem, ⟨10, _⟩ => ⟨S512x2048, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8192x4352 : Shape := ⟨2, ![8192, 4352]⟩
abbrev S8192x1024 : Shape := ⟨2, ![8192, 1024]⟩
abbrev S1024x1024 : Shape := ⟨2, ![1024, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S8192x1024, .f32⟩
  | .hbm, ⟨2, _⟩ => ⟨S8192x1024, .f32⟩
  | .hbm, ⟨3, _⟩ => ⟨S1024x1024, .bf16⟩
  | .hbm, ⟨4, _⟩ => ⟨S8192x1024, .bf16⟩
  | .hbm, ⟨5, _⟩ => ⟨S8192x4352, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1024x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x4352, .f32⟩
  | .hbm, ⟨47, _⟩ => ⟨S_, .f32⟩
  | .hbm, ⟨48, _⟩ => ⟨S8192x4352, .f32⟩
  | .hbm, ⟨49, _⟩ => ⟨S8192x4352, .f32⟩
  | .hbm, ⟨50, _⟩ => ⟨S8192x4352, .bf16⟩
  | .hbm, ⟨51, _⟩ => ⟨S8192x1024, .bf16⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel17.lean ====
abbrev S8192x1024 : Shape := ⟨2, ![8192, 1024]⟩
abbrev S1x1024 : Shape := ⟨2, ![1, 1024]⟩
abbrev S1024x8192 : Shape := ⟨2, ![1024, 8192]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_8 : BitVec 32 := 0#32
  let v13 : BitVec 1 := Scalar.cmpi .ne v12 c0_i32_8
  v13

def k0_cond2 (i : grid0.Coords) : BitVec 1 :=
  let arg0 : BitVec 32 := BitVec.ofNat 32 (i 0).val
  let c0_i32_9 : BitVec 32 := 0#32
  let v14 : BitVec 1 := Scalar.cmpi .sgt arg0 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference18Ideal.lean ====
abbrev S8192x1024 : Shape := ⟨2, ![8192, 1024]⟩
abbrev S_ : Shape := ⟨0, ![]⟩
abbrev S8192 : Shape := ⟨1, ![8192]⟩
abbrev S1024 : Shape := ⟨1, ![1024]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel19.lean ====
abbrev S4096x1408 : Shape := ⟨2, ![4096, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S4096x1408 : Shape := ⟨2, ![4096, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S_, .f32⟩
  | .hbm, ⟨11, _⟩ => ⟨S4096x1408, .f32⟩
  | .hbm, ⟨12, _⟩ => ⟨S4096x1408, .f32⟩
  | .hbm, ⟨13, _⟩ => ⟨S4096x1408, .f32⟩
  | .hbm, ⟨14, _⟩ => ⟨S_, .f32⟩
  | .hbm, ⟨15, _⟩ => ⟨S4096x1408, .f32⟩
  | .hbm, ⟨16, _⟩ => ⟨S4096x1408, .f32⟩
  | .hbm, ⟨17, _⟩ => ⟨S4096x1408, .f32⟩
  | .hbm, ⟨18, _⟩ => ⟨S_, .f32⟩
  | .hbm, ⟨19, _⟩ => ⟨S4096x1408, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S_, .f32⟩
  | .hbm, ⟨26, _⟩ => ⟨S4096x1408, .f32⟩
  | .hbm, ⟨27, _⟩ => ⟨S4096x1408, .f32⟩
  | .hbm, ⟨28, _⟩ => ⟨S4096x1408, .f32⟩
  | .hbm, ⟨29, _⟩ => ⟨S_, .f32⟩
  | .hbm, ⟨30, _⟩ => ⟨S4096x1408, .f32⟩
  | .hbm, ⟨31, _⟩ => ⟨S4096x1408, .f32⟩
  | .hbm, ⟨32, _⟩ => ⟨S4096x1408, .f32⟩
  | .hbm, ⟨33, _⟩ => ⟨S_, .f32⟩
  | .hbm, ⟨34, _⟩ => ⟨S4096x1408, .f32⟩
  | .hbm, ⟨35, _⟩ => ⟨S4096x1408, .f32⟩
  | .hbm, ⟨36, _⟩ => ⟨S4096x1408, .f32⟩
  | .hbm, ⟨37, _⟩ => ⟨S_, .f32⟩
  | .hbm, ⟨38, _⟩ => ⟨S4096x1408, .f32⟩
  | .hbm, ⟨39, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.AttnReal.lean ====
/- One row of the attention over the reals: the softmax with a sink, its output and its gradients, and the extended
   reals that the two programs compute read as these reals. -/
module

public import Idealize.ShloMosaic.PureOps.Ideal.Laws
public import Idealize.ShloMosaic.Lib.IdealHost

@[expose] public section

noncomputable section

namespace Cert.Attn

open Idealize.ShloMosaic Finset

section Row

variable {S : Type} [Fintype S] (ok : S → Prop) [DecidablePred ok] (x : S → ℝ) (σ : ℝ)

/-- A masked score: the score where the key is seen, `-∞` elsewhere. -/
def score (s : S) : EReal := if ok s then (x s : EReal) else ⊥

/-- The largest of the masked scores and the sink. -/
def top : EReal := max (univ.fold max ⊥ (score ok x)) (σ : EReal)

/-- The same as a real number. -/
def mu : ℝ := (top ok x σ).toReal

theorem fold_ne_top : univ.fold max ⊥ (score ok x) ≠ ⊤ := by
  have h : ∀ t : Finset S, t.fold max ⊥ (score ok x) < ⊤ := by
    intro t
    rw [Finset.fold_max_lt]
    refine ⟨bot_lt_top, fun s _ => ?_⟩
    unfold score
    split
    · exact EReal.coe_lt_top _
    · exact bot_lt_top
  exact (h _).ne

theorem top_eq : top ok x σ = (mu ok x σ : EReal) := by
  refine (EReal.coe_toReal ?_ ?_).symm
  · unfold top
    exact ((max_lt_iff).2 ⟨lt_top_iff_ne_top.2 (fold_ne_top ok x), EReal.coe_lt_top σ⟩).ne
  · unfold top
    exact (lt_of_lt_of_le (EReal.bot_lt_coe σ) (le_max_right _ _)).ne'

/-- The weights before they are divided by their sum. -/
def e (s : S) : ℝ := if ok s then Real.exp (x s - mu ok x σ) else 0

/-- The sink's weight. -/
def es : ℝ := Real.exp (σ - mu ok x σ)

/-- The sum of the weights. -/
def tot : ℝ := ∑ s, e ok x σ s + es ok x σ

theorem e_nonneg (s : S) : 0 ≤ e ok x σ s := by
  unfold e; split
  · exact (Real.exp_pos _).le
  · exact le_rfl

theorem tot_pos : 0 < tot ok x σ :=
  add_pos_of_nonneg_of_pos (Finset.sum_nonneg fun s _ => e_nonneg ok x σ s) (Real.exp_pos _)

theorem tot_ne : tot ok x σ ≠ 0 := (tot_pos ok x σ).ne'

/-- The probabilities. -/
def P (s : S) : ℝ := e ok x σ s / tot ok x σ

theorem P_masked {s : S} (h : ¬ ok s) : P ok x σ s = 0 := by
  unfold P e; rw [if_neg h, zero_div]

/-- The sink's probability. -/
def Ps : ℝ := es ok x σ / tot ok x σ

variable {ok x σ}

/-- The exponential of a masked score less the largest. -/
theorem exp_score (s : S) : Ideal.exp (score ok x s - top ok x σ) = (e ok x σ s : EReal) := by
  rw [top_eq]; unfold score e
  split
  · rw [← EReal.coe_sub, Ideal.exp_coe]
  · rw [EReal.bot_sub, Ideal.exp_bot, EReal.coe_zero]

theorem exp_sink : Ideal.exp ((σ : EReal) - top ok x σ) = (es ok x σ : EReal) := by
  rw [top_eq, ← EReal.coe_sub, Ideal.exp_coe]; rfl

end Row

/-- A sum of reals taken among the extended reals. -/
theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A quotient of reals by a real other than zero. -/
theorem div_real {a b : ℝ} (h : b ≠ 0) : Ideal.div (a : EReal) (b : EReal) = ((a / b : ℝ) : EReal) := by
  rw [Ideal.div_coe h, ← EReal.coe_mul, mul_one_div]

end Cert.Attn

end

end
-- ==== Proof.AttnSpec.lean ====
/- One block of the attention and one head of its keys, over the reals: the outputs and the gradients. -/
module

public import proofs.«01_k».proof.Proof.AttnReal

@[expose] public section

noncomputable section

namespace Cert.Attn

open Finset

/-- Whether row `i` of block `n` sees key `s` of the two blocks before it: the 128 keys up to its own, and no key before
    the first block. -/
def ok (n : ℕ) (i : Fin 128) (s : Fin 256) : Prop := i.val < s.val ∧ s.val ≤ i.val + 128 ∧ (128 ≤ s.val ∨ 0 < n)

instance (n : ℕ) (i : Fin 128) : DecidablePred (ok n i) := fun s => by unfold ok; infer_instance

/-- What one block computes with: keys, values, the eight heads' queries, the gradient of their outputs, and their sinks. -/
structure Tile where
  n : ℕ
  K : Fin 256 → Fin 64 → ℝ
  V : Fin 256 → Fin 64 → ℝ
  Q : Fin 8 → Fin 128 → Fin 64 → ℝ
  G : Fin 8 → Fin 128 → Fin 64 → ℝ
  σ : Fin 8 → ℝ

namespace Tile

variable (T : Tile)

/-- The scores. -/
def X (g : Fin 8) (i : Fin 128) (s : Fin 256) : ℝ := ∑ d, T.K s d * T.Q g i d

/-- The probabilities. -/
def Pr (g : Fin 8) (i : Fin 128) (s : Fin 256) : ℝ := P (ok T.n i) (T.X g i) (T.σ g) s

/-- The sink's probability. -/
def PS (g : Fin 8) (i : Fin 128) : ℝ := Ps (ok T.n i) (T.X g i) (T.σ g)

/-- The output. -/
def O (g : Fin 8) (i : Fin 128) (d : Fin 64) : ℝ := ∑ s, T.V s d * T.Pr g i s

/-- The gradient of the probabilities. -/
def DP (g : Fin 8) (i : Fin 128) (s : Fin 256) : ℝ := ∑ d, T.V s d * T.G g i d

/-- Its mean. -/
def Dl (g : Fin 8) (i : Fin 128) : ℝ := ∑ s, T.Pr g i s * T.DP g i s

/-- The gradient of the scores. -/
def DS (g : Fin 8) (i : Fin 128) (s : Fin 256) : ℝ := T.Pr g i s * (T.DP g i s - T.Dl g i)

/-- The gradient of the queries. -/
def DQ (g : Fin 8) (i : Fin 128) (d : Fin 64) : ℝ := ∑ s, T.K s d * T.DS g i s

/-- The gradient of the keys. -/
def DK (s : Fin 256) (d : Fin 64) : ℝ := ∑ g, ∑ i, T.DS g i s * T.Q g i d

/-- The gradient of the values. -/
def DV (s : Fin 256) (d : Fin 64) : ℝ := ∑ g, ∑ i, T.Pr g i s * T.G g i d

/-- This block's part of the gradient of a sink. -/
def DSK (g : Fin 8) : ℝ := ∑ i, -(T.PS g i) * T.Dl g i

/-- The gradient of the output times the output is the mean of the gradient of the probabilities. -/
theorem delta_eq (g : Fin 8) (i : Fin 128) : ∑ d, T.G g i d * T.O g i d = T.Dl g i := by
  unfold O Dl DP
  simp only [mul_sum]
  rw [sum_comm]
  refine sum_congr rfl fun s _ => sum_congr rfl fun d _ => ?_
  ring

theorem Pr_masked {g : Fin 8} {i : Fin 128} {s : Fin 256} (h : ¬ ok T.n i s) : T.Pr g i s = 0 := P_masked _ _ _ h

theorem DS_masked {g : Fin 8} {i : Fin 128} {s : Fin 256} (h : ¬ ok T.n i s) : T.DS g i s = 0 := by
  unfold DS; rw [T.Pr_masked h, zero_mul]

/-- The probabilities and the sink's sum to one. -/
theorem sum_Pr (g : Fin 8) (i : Fin 128) : ∑ s, T.Pr g i s + T.PS g i = 1 := by
  unfold Pr PS P Ps
  rw [← sum_div, ← add_div]
  exact div_self (tot_ne _ _ _)

/-- The gradients of the scores sum to the mean times the sink's probability. -/
theorem sum_DS (g : Fin 8) (i : Fin 128) : ∑ s, T.DS g i s = T.PS g i * T.Dl g i := by
  unfold DS
  simp only [mul_sub, sum_sub_distrib, ← sum_mul]
  change T.Dl g i - (∑ s, T.Pr g i s) * T.Dl g i = _
  rw [eq_sub_of_add_eq (T.sum_Pr g i)]
  ring

end Tile

section Row

variable {S : Type} [Fintype S] {ok : S → Prop} [DecidablePred ok] {x x' : S → ℝ} {σ : ℝ}

theorem mu_congr (h : ∀ s, ok s → x s = x' s) : mu ok x σ = mu ok x' σ := by
  have : score ok x = score ok x' := by
    funext s; unfold score; split
    · next hs => rw [h s hs]
    · rfl
  unfold mu top; rw [this]

theorem e_congr (h : ∀ s, ok s → x s = x' s) (s : S) : e ok x σ s = e ok x' σ s := by
  unfold e; rw [mu_congr h]; split
  · next hs => rw [h s hs]
  · rfl

theorem P_congr (h : ∀ s, ok s → x s = x' s) (s : S) : P ok x σ s = P ok x' σ s := by
  unfold P tot es; rw [e_congr h, mu_congr h]; simp only [e_congr h]

theorem Ps_congr (h : ∀ s, ok s → x s = x' s) : Ps ok x σ = Ps ok x' σ := by
  unfold Ps tot es; rw [mu_congr h]; simp only [e_congr h]

end Row

namespace Tile

/-- A tile with other keys and values. -/
def kv (T : Tile) (K V : Fin 256 → Fin 64 → ℝ) : Tile := { T with K := K, V := V }

variable (T : Tile) (K V : Fin 256 → Fin 64 → ℝ) (h : ∀ i s, ok T.n i s → K s = T.K s ∧ V s = T.V s)
include h

theorem X_kv (g : Fin 8) (i : Fin 128) (s : Fin 256) (hs : ok T.n i s) : (T.kv K V).X g i s = T.X g i s := by
  change ∑ d, K s d * T.Q g i d = _
  rw [(h i s hs).1]; rfl

theorem Pr_kv : (T.kv K V).Pr = T.Pr := by
  funext g i s
  exact P_congr (fun s hs => T.X_kv K V h g i s hs) s

theorem PS_kv : (T.kv K V).PS = T.PS := by
  funext g i
  exact Ps_congr (fun s hs => T.X_kv K V h g i s hs)

theorem O_kv : (T.kv K V).O = T.O := by
  funext g i d
  unfold O
  rw [T.Pr_kv K V h]
  refine sum_congr rfl fun s _ => ?_
  by_cases hs : ok T.n i s
  · change V s d * _ = _; rw [(h i s hs).2]
  · rw [T.Pr_masked hs, mul_zero, mul_zero]

theorem DP_kv (g : Fin 8) (i : Fin 128) (s : Fin 256) (hs : ok T.n i s) : (T.kv K V).DP g i s = T.DP g i s := by
  change ∑ d, V s d * T.G g i d = _
  rw [(h i s hs).2]; rfl

theorem Dl_kv : (T.kv K V).Dl = T.Dl := by
  funext g i
  unfold Dl
  rw [T.Pr_kv K V h]
  refine sum_congr rfl fun s _ => ?_
  by_cases hs : ok T.n i s
  · rw [T.DP_kv K V h g i s hs]
  · rw [T.Pr_masked hs, zero_mul, zero_mul]

theorem DS_kv : (T.kv K V).DS = T.DS := by
  funext g i s
  unfold DS
  rw [T.Pr_kv K V h, T.Dl_kv K V h]
  by_cases hs : ok T.n i s
  · rw [T.DP_kv K V h g i s hs]
  · rw [T.Pr_masked hs, zero_mul, zero_mul]

theorem DQ_kv : (T.kv K V).DQ = T.DQ := by
  funext g i d
  unfold DQ
  rw [T.DS_kv K V h]
  refine sum_congr rfl fun s _ => ?_
  by_cases hs : ok T.n i s
  · change K s d * _ = _; rw [(h i s hs).1]
  · rw [T.DS_masked hs, mul_zero, mul_zero]

theorem DK_kv : (T.kv K V).DK = T.DK := by
  funext s d
  unfold DK
  rw [T.DS_kv K V h]; rfl

theorem DV_kv : (T.kv K V).DV = T.DV := by
  funext s d
  unfold DV
  rw [T.Pr_kv K V h]; rfl

theorem DSK_kv : (T.kv K V).DSK = T.DSK := by
  funext g
  unfold DSK
  rw [T.PS_kv K V h, T.Dl_kv K V h]

end Tile

end Cert.Attn

end

end
-- ==== Proof.KHead.lean ====
/- The operations of one head of the attention kernels, read at the extended reals: scores, probabilities and outputs, the
   columns being the eight heads' rows. -/
module

public import proofs.«01_k».proof.Proof.AttnSpec
public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.AttnKer

open Cert.KernelIdeal Cert.KernelIdeal.Gen Idealize.ShloMosaic Cert.Attn Finset

/-- The column of row `i` of head `g`. -/
def col (g : Fin 8) (i : Fin 128) : Fin 1024 := ⟨g.val * 128 + i.val, by omega⟩

/-- A sum over the columns is one over the heads and their rows. -/
theorem sum_col {M : Type} [AddCommMonoid M] (f : Fin 1024 → M) : ∑ c, f c = ∑ g, ∑ i, f (col g i) := by
  rw [← Fintype.sum_prod_type' (fun g i => f (col g i))]
  refine (Fintype.sum_equiv (finProdFinEquiv (m := 8) (n := 128)) _ _ fun p => ?_).symm
  congr 1
  apply Fin.ext
  change p.1.val * 128 + p.2.val = p.2.val + 128 * p.1.val
  omega

/-- Eight blocks of rows, stacked, at a column's row. -/
theorem stack_at {φ : FTy} (f : Fin 8 → FVec Ideal S128x64 φ) (g : Fin 8) (i : Fin 128) (d : Fin 64) :
    concatenate S1024x64 0 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩]
      concatenates_S128x64_S128x64_S128x64_S128x64_S128x64_S128x64_S128x64_S128x64_S1024x64_d0 (ix2 (col g i) d) = f g (ix2 i d) := by
  exact concatenate_ofFn_apply 0 f concatenates_S128x64_S128x64_S128x64_S128x64_S128x64_S128x64_S128x64_S128x64_S1024x64_d0 rfl 128 rfl _ g
    (by change (g.val * 128 + i.val) / 128 = g.val; omega) _ (by change i.val = (g.val * 128 + i.val) % 128; omega)
    (fun b hb => by
      match b with
      | ⟨1, _⟩ => rfl
      | ⟨0, _⟩ => exact absurd rfl hb)

/-- Eight rows side by side at a column. -/
theorem row_at (f : Fin 8 → FVec Ideal S1x128 .f32) (g : Fin 8) (i : Fin 128) :
    concatenate S1x1024 1 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]
      concatenates_S1x128_S1x128_S1x128_S1x128_S1x128_S1x128_S1x128_S1x128_S1x1024_d1 (ix2 0 (col g i)) = f g (ix2 0 i) := by
  exact concatenate_ofFn_apply 1 f concatenates_S1x128_S1x128_S1x128_S1x128_S1x128_S1x128_S1x128_S1x128_S1x1024_d1 rfl 128 rfl _ g
    (by change (g.val * 128 + i.val) / 128 = g.val; omega) _ (by change i.val = (g.val * 128 + i.val) % 128; omega)
    (fun b hb => by
      match b with
      | ⟨0, _⟩ => rfl
      | ⟨1, _⟩ => exact absurd rfl hb)

/-- The scores. -/
def stK (kk : FVec Ideal S256x64 .bf16) (q : FVec Ideal S1024x64 .bf16) (b : FVec Ideal S256x1024 .f32) : FVec Ideal S256x1024 .f32 :=
  addf (matmul dot_S256x64_S1024x64_S256x1024_1_1_0_0_n_n none kk q (constant S256x1024 .f32 0x00000000#32)) b

/-- The largest of a column's scores and its sink. -/
def mtK (st : FVec Ideal S256x1024 .f32) (sk : FVec Ideal S1x1024 .f32) : FVec Ideal S1x1024 .f32 :=
  maximumf (shapeCast S1x1024 (multiReduction .maximumf [0] S1024 st 0xFF800000#32 reduces_S256x1024_S1024 (.inl rfl) rfl) shapeCasts_S1024_S1x1024) sk

/-- The weights. -/
def ptK (st : FVec Ideal S256x1024 .f32) (sk : FVec Ideal S1x1024 .f32) : FVec Ideal S256x1024 .f32 :=
  exp (subf st (broadcastTo S256x1024 (mtK st sk) broadcasts_S1x1024_S256x1024))

/-- The sink's weight. -/
def esK (st : FVec Ideal S256x1024 .f32) (sk : FVec Ideal S1x1024 .f32) : FVec Ideal S1x1024 .f32 :=
  exp (subf sk (mtK st sk))

/-- One over the sum of the weights. -/
def invK (st : FVec Ideal S256x1024 .f32) (sk : FVec Ideal S1x1024 .f32) : FVec Ideal S1x1024 .f32 :=
  divf (broadcast S1x1024 (Scalar.ofBits .f32 0x3F800000#32))
    (addf (shapeCast S1x1024 (multiReduction .add [0] S1024 (ptK st sk) 0x00000000#32 reduces_S256x1024_S1024 (.inl rfl) rfl) shapeCasts_S1024_S1x1024) (esK st sk))

/-- The outputs. -/
def otK (vv : FVec Ideal S256x64 .bf16) (st : FVec Ideal S256x1024 .f32) (sk : FVec Ideal S1x1024 .f32) : FVec Ideal S64x1024 .f32 :=
  mulf (matmul dot_S256x64_S256x1024_S64x1024_0_0_1_1_n_n none vv (truncf .bf16 (ptK st sk) bitsLt_bf16_f32) (constant S64x1024 .f32 0x00000000#32))
    (broadcastTo S64x1024 (invK st sk) broadcasts_S1x1024_S64x1024)

variable (kk vv : FVec Ideal S256x64 .bf16) (q : FVec Ideal S1024x64 .bf16) (b st : FVec Ideal S256x1024 .f32) (sk : FVec Ideal S1x1024 .f32)
  (s : Fin 256) (c : Fin 1024) (d : Fin 64)

theorem stK_at : stK kk q b (ix2 s c) = ∑ x, kk (ix2 s x) * q (ix2 c x) + b (ix2 s c) := by
  pointwise [stK]

theorem bot_bits : Ideal.ofBits .f32 0xFF800000#32 = ⊥ := by
  simp [Ideal.ofBits, Ideal.ieee]

theorem mtK_at : mtK st sk (ix2 0 c) = max (univ.fold max ⊥ fun x => st (ix2 x c)) (sk (ix2 0 c)) := by
  pointwise [mtK]
  rw [bot_bits]

theorem ptK_at : ptK st sk (ix2 s c) = Ideal.exp (st (ix2 s c) - mtK st sk (ix2 0 c)) := by
  pointwise [ptK]

theorem esK_at : esK st sk (ix2 0 c) = Ideal.exp (sk (ix2 0 c) - mtK st sk (ix2 0 c)) := by
  pointwise [esK]

theorem invK_at : invK st sk (ix2 0 c) = Ideal.div 1 (∑ x, ptK st sk (ix2 x c) + esK st sk (ix2 0 c)) := by
  pointwise [invK]

theorem otK_at : otK vv st sk (ix2 d c) = (∑ x, vv (ix2 x d) * ptK st sk (ix2 x c)) * invK st sk (ix2 0 c) := by
  pointwise [otK]

section Values

variable {kk vv q b st sk} (T : Tile) (g : Fin 8) (i : Fin 128)

/-- The scores are the tile's. -/
theorem st_val (hk : ∀ s d, kk (ix2 s d) = (T.K s d : EReal)) (hq : ∀ g i d, q (ix2 (col g i) d) = (T.Q g i d : EReal))
    (hb : ∀ s g i, b (ix2 s (col g i)) = if ok T.n i s then 0 else ⊥) :
    stK kk q b (ix2 s (col g i)) = score (ok T.n i) (T.X g i) s := by
  rw [stK_at, hb]
  simp only [hk, hq, ← EReal.coe_mul, coe_sum]
  unfold score Tile.X
  split
  · rw [add_zero]
  · rw [EReal.add_bot]

variable (hst : ∀ s g i, st (ix2 s (col g i)) = score (ok T.n i) (T.X g i) s) (hsk : ∀ g i, sk (ix2 0 (col g i)) = (T.σ g : EReal))
include hst hsk

theorem mt_val : mtK st sk (ix2 0 (col g i)) = top (ok T.n i) (T.X g i) (T.σ g) := by
  rw [mtK_at, hsk]; simp only [hst]; rfl

theorem pt_val : ptK st sk (ix2 s (col g i)) = (e (ok T.n i) (T.X g i) (T.σ g) s : EReal) := by
  rw [ptK_at, mt_val T g i hst hsk, hst, exp_score]

theorem es_val : esK st sk (ix2 0 (col g i)) = (es (ok T.n i) (T.X g i) (T.σ g) : EReal) := by
  rw [esK_at, mt_val T g i hst hsk, hsk, exp_sink]

theorem inv_val : invK st sk (ix2 0 (col g i)) = ((1 / tot (ok T.n i) (T.X g i) (T.σ g) : ℝ) : EReal) := by
  rw [invK_at, es_val T g i hst hsk]
  simp only [pt_val _ T g i hst hsk, coe_sum, ← EReal.coe_add]
  rw [← EReal.coe_one]
  exact div_real (tot_ne _ _ _)

/-- The outputs are the tile's. -/
theorem ot_val (hv : ∀ s d, vv (ix2 s d) = (T.V s d : EReal)) : otK vv st sk (ix2 d (col g i)) = (T.O g i d : EReal) := by
  rw [otK_at, inv_val T g i hst hsk]
  simp only [pt_val _ T g i hst hsk, hv, ← EReal.coe_mul, coe_sum]
  unfold Tile.O Tile.Pr P
  congr 1
  rw [sum_mul]
  exact sum_congr rfl fun s _ => by ring

end Values

/-! ## The gradients -/

/-- The probabilities. -/
def pnK (st : FVec Ideal S256x1024 .f32) (sk : FVec Ideal S1x1024 .f32) : FVec Ideal S256x1024 .f32 :=
  mulf (ptK st sk) (broadcastTo S256x1024 (invK st sk) broadcasts_S1x1024_S256x1024)

/-- The sums of the products of the outputs and their gradients, in two parts. -/
def deltaK (one : FVec Ideal S8x64 .bf16) (pr : FVec Ideal S1024x64 .f32) : FVec Ideal S1x1024 .f32 :=
  extractStridedSlice S1x1024 ![0, 0]
    (addf (matmul dot_S8x64_S1024x64_S8x1024_1_1_0_0_n_n none one (truncf .bf16 pr bitsLt_bf16_f32) (constant S8x1024 .f32 0x00000000#32))
      (matmul dot_S8x64_S1024x64_S8x1024_1_1_0_0_n_n none one
        (truncf .bf16 (subf pr (extf .f32 (truncf .bf16 pr bitsLt_bf16_f32) bitsLt_bf16_f32)) bitsLt_bf16_f32) (constant S8x1024 .f32 0x00000000#32)))
    slices_S8x1024_o0_0_S1x1024

/-- The gradient of the scores. -/
def dsK (vv : FVec Ideal S256x64 .bf16) (dob : FVec Ideal S1024x64 .bf16) (pn : FVec Ideal S256x1024 .f32) (dl : FVec Ideal S1x1024 .f32) :
    FVec Ideal S256x1024 .bf16 :=
  truncf .bf16 (mulf pn (subf (matmul dot_S256x64_S1024x64_S256x1024_1_1_0_0_n_n none vv dob (constant S256x1024 .f32 0x00000000#32))
    (broadcastTo S256x1024 dl broadcasts_S1x1024_S256x1024))) bitsLt_bf16_f32

/-- The gradient of the values, and with the gradient of the scores that of the keys. -/
def dvK (pn : FVec Ideal S256x1024 .bf16) (dob : FVec Ideal S1024x64 .bf16) : FVec Ideal S256x64 .f32 :=
  matmul dot_S256x1024_S1024x64_S256x64_1_0_0_1_n_n none pn dob (constant S256x64 .f32 0x00000000#32)

/-- The gradient of the queries. -/
def dqK (kk : FVec Ideal S256x64 .bf16) (ds : FVec Ideal S256x1024 .bf16) : FVec Ideal S64x1024 .f32 :=
  matmul dot_S256x64_S256x1024_S64x1024_0_0_1_1_n_n none kk ds (constant S64x1024 .f32 0x00000000#32)

/-- The parts of the gradients of the sinks. -/
def dsrK (st : FVec Ideal S256x1024 .f32) (sk dl : FVec Ideal S1x1024 .f32) : FVec Ideal S1x1024 .f32 :=
  mulf (subf (broadcast S1x1024 (Scalar.ofBits .f32 0x00000000#32)) (mulf (esK st sk) (invK st sk))) dl

variable (one : FVec Ideal S8x64 .bf16) (pr : FVec Ideal S1024x64 .f32) (dob : FVec Ideal S1024x64 .bf16) (pn : FVec Ideal S256x1024 .f32)
  (ds : FVec Ideal S256x1024 .bf16) (dl : FVec Ideal S1x1024 .f32)

theorem pnK_at : pnK st sk (ix2 s c) = ptK st sk (ix2 s c) * invK st sk (ix2 0 c) := by
  pointwise [pnK]

theorem deltaK_at : deltaK one pr (ix2 0 c) =
    ∑ x, one (ix2 0 x) * pr (ix2 c x) + ∑ x, one (ix2 0 x) * (pr (ix2 c x) - pr (ix2 c x)) := by
  pointwise [deltaK]

theorem dsK_at : dsK vv dob pn dl (ix2 s c) = pn (ix2 s c) * (∑ x, vv (ix2 s x) * dob (ix2 c x) - dl (ix2 0 c)) := by
  pointwise [dsK]

theorem dvK_at : dvK ds dob (ix2 s d) = ∑ x, ds (ix2 s x) * dob (ix2 x d) := by
  pointwise [dvK]

theorem dqK_at : dqK kk ds (ix2 d c) = ∑ x, kk (ix2 x d) * ds (ix2 x c) := by
  pointwise [dqK]

theorem dsrK_at : dsrK st sk dl (ix2 0 c) = (0 - esK st sk (ix2 0 c) * invK st sk (ix2 0 c)) * dl (ix2 0 c) := by
  pointwise [dsrK]

section Values

variable {kk vv q st sk one pr dob pn ds dl} (T : Tile) (g : Fin 8) (i : Fin 128)

theorem pn_val (hst : ∀ s g i, st (ix2 s (col g i)) = score (ok T.n i) (T.X g i) s) (hsk : ∀ g i, sk (ix2 0 (col g i)) = (T.σ g : EReal)) :
    pnK st sk (ix2 s (col g i)) = (T.Pr g i s : EReal) := by
  rw [pnK_at, pt_val _ T g i hst hsk, inv_val T g i hst hsk, ← EReal.coe_mul, mul_one_div]; rfl

theorem delta_val (h1 : ∀ d, one (ix2 0 d) = 1) (hp : ∀ g i d, pr (ix2 (col g i) d) = ((T.G g i d * T.O g i d : ℝ) : EReal)) :
    deltaK one pr (ix2 0 (col g i)) = (T.Dl g i : EReal) := by
  rw [deltaK_at]
  simp only [h1, hp, one_mul, ← EReal.coe_sub, sub_self, coe_sum, sum_const_zero, EReal.coe_zero, add_zero]
  rw [T.delta_eq]

theorem ds_val (hv : ∀ s d, vv (ix2 s d) = (T.V s d : EReal)) (hg : ∀ g i d, dob (ix2 (col g i) d) = (T.G g i d : EReal))
    (hp : ∀ s g i, pn (ix2 s (col g i)) = (T.Pr g i s : EReal)) (hd : ∀ g i, dl (ix2 0 (col g i)) = (T.Dl g i : EReal)) :
    dsK vv dob pn dl (ix2 s (col g i)) = (T.DS g i s : EReal) := by
  rw [dsK_at]
  simp only [hv, hg, hp, hd, ← EReal.coe_mul, coe_sum, ← EReal.coe_sub]
  rfl

theorem dv_val (hp : ∀ s g i, ds (ix2 s (col g i)) = (T.Pr g i s : EReal)) (hg : ∀ g i d, dob (ix2 (col g i) d) = (T.G g i d : EReal)) :
    dvK ds dob (ix2 s d) = (T.DV s d : EReal) := by
  rw [dvK_at, sum_col]
  simp only [hp, hg, ← EReal.coe_mul, coe_sum]
  rfl

theorem dk_val (hp : ∀ s g i, ds (ix2 s (col g i)) = (T.DS g i s : EReal)) (hq : ∀ g i d, dob (ix2 (col g i) d) = (T.Q g i d : EReal)) :
    dvK ds dob (ix2 s d) = (T.DK s d : EReal) := by
  rw [dvK_at, sum_col]
  simp only [hp, hq, ← EReal.coe_mul, coe_sum]
  rfl

theorem dq_val (hk : ∀ s d, kk (ix2 s d) = (T.K s d : EReal)) (hp : ∀ s g i, ds (ix2 s (col g i)) = (T.DS g i s : EReal)) :
    dqK kk ds (ix2 d (col g i)) = (T.DQ g i d : EReal) := by
  rw [dqK_at]
  simp only [hp, hk, ← EReal.coe_mul, coe_sum]
  rfl

theorem dsr_val (hst : ∀ s g i, st (ix2 s (col g i)) = score (ok T.n i) (T.X g i) s) (hsk : ∀ g i, sk (ix2 0 (col g i)) = (T.σ g : EReal))
    (hd : ∀ g i, dl (ix2 0 (col g i)) = (T.Dl g i : EReal)) :
    dsrK st sk dl (ix2 0 (col g i)) = ((-(T.PS g i) * T.Dl g i : ℝ) : EReal) := by
  rw [dsrK_at, hd, es_val T g i hst hsk, inv_val T g i hst hsk, ← EReal.coe_mul, mul_one_div, ← EReal.coe_zero, ← EReal.coe_sub, ← EReal.coe_mul, zero_sub]
  rfl

end Values

end Cert.AttnKer

end

end
-- ==== Proof.AttnTile.lean ====
/- The arrays of the attention as real numbers, and the blocks cut from them. -/
module

public import proofs.«01_k».proof.Proof.AttnSpec
public import Idealize.ShloMosaic.Lib.Pointwise

@[expose] public section

noncomputable section

namespace Cert.Attn

open Idealize.ShloMosaic Finset

/-- A rank-two array of reals, as the programs hold it. -/
def up2 {a b : ℕ} (f : Fin a → Fin b → ℝ) (i : (⟨2, ![a, b]⟩ : Shape).Idx) : EReal := (f (i 0) (i 1) : EReal)

theorem up2_at {a b : ℕ} (f : Fin a → Fin b → ℝ) (r : Fin a) (c : Fin b) : up2 f (ix2 r c) = (f r c : EReal) := rfl

/-- Queries, keys, values, sinks, and the gradient of the output. -/
structure Arr where
  q : Fin 8192 → Fin 1024 → ℝ
  k : Fin 8192 → Fin 128 → ℝ
  v : Fin 8192 → Fin 128 → ℝ
  σ : Fin 1 → Fin 16 → ℝ
  go : Fin 8192 → Fin 1024 → ℝ

/-- Row `i` of block `n`. -/
def row (n : Fin 64) (i : Fin 128) : Fin 8192 := ⟨n.val * 128 + i.val, by omega⟩

/-- Column `d` of head `g` among those of key head `κ`. -/
def qcol (κ : Fin 2) (g : Fin 8) (d : Fin 64) : Fin 1024 := ⟨κ.val * 512 + g.val * 64 + d.val, by omega⟩

/-- Column `d` of key head `κ`. -/
def kcol (κ : Fin 2) (d : Fin 64) : Fin 128 := ⟨κ.val * 64 + d.val, by omega⟩

/-- The number of head `g` of key head `κ`. -/
def head (κ : Fin 2) (g : Fin 8) : Fin 16 := ⟨κ.val * 8 + g.val, by omega⟩

/-- The block before and the block of point `n`: key `s`; zero before the first block. -/
def band (f : Fin 8192 → Fin 128 → ℝ) (n : Fin 64) (κ : Fin 2) (s : Fin 256) (d : Fin 64) : ℝ :=
  if s.val < 128 then if n.val < 1 then 0 else f ⟨(n.val - 1) * 128 + s.val, by omega⟩ (kcol κ d)
  else f ⟨n.val * 128 + (s.val - 128), by omega⟩ (kcol κ d)

/-- What block `n` of key head `κ` computes with. -/
def Arr.tile (A : Arr) (n : Fin 64) (κ : Fin 2) : Tile where
  n := n.val
  K := band A.k n κ
  V := band A.v n κ
  Q g i d := A.q (row n i) (qcol κ g d)
  G g i d := A.go (row n i) (qcol κ g d)
  σ g := A.σ 0 (head κ g)

end Cert.Attn

end
-- ==== Proof.KIn.lean ====
/- The blocks that the attention kernels read: the two blocks of keys or values as one, the heads' queries stacked, the
   sinks in a row, and what they hold of a tile. -/
module

public import proofs.«01_k».proof.Proof.KHead
public import proofs.«01_k».proof.Proof.AttnTile
public import proofs.«01_k».proof.Proof.Gen.KernelIdeal.Frame
public import Idealize.ShloMosaic.Lib.Pipeline.ValueKit.Tiles

@[expose] public section

set_option maxRecDepth 16384

noncomputable section

namespace Cert.AttnKer

open Cert.KernelIdeal Cert.KernelIdeal.Gen Idealize.ShloMosaic Cert.Attn Finset

theorem z2 : (![0, 0] : Fin 2 → Nat) = fun _ => 0 := funext fun a => by fin_cases a <;> rfl
theorem z3 : (![0, 0, 0] : Fin 3 → Nat) = fun _ => 0 := funext fun a => by fin_cases a <;> rfl

/-- Key `i` of the block before, and of the block itself. -/
def fst (i : Fin 128) : Fin 256 := ⟨i.val, by omega⟩
def snd (i : Fin 128) : Fin 256 := ⟨128 + i.val, by omega⟩

/-- A property of all keys, by the two blocks. -/
theorem all_keys {p : Fin 256 → Prop} (h1 : ∀ i, p (fst i)) (h2 : ∀ i, p (snd i)) (s : Fin 256) : p s := by
  by_cases h : s.val < 128
  · exact h1 ⟨s.val, h⟩
  · have e : s = snd ⟨s.val - 128, by omega⟩ := Fin.ext (by change s.val = 128 + (s.val - 128); omega)
    rw [e]; exact h2 _

/-- A sink's word read alone. -/
theorem sink_ld (x : FVec Ideal S1x16 .f32) (κ : Fin 2) (g : Fin 8) (off : Fin 2 → ℕ) (ho : off = ![0, (head κ g).val]) (inb) (h) :
    View.ld (Val := Elt Ideal) (S := S1x16) (e' := .f32) x (Rect.unit off ![1, 1] inb) (Shape.Idx.first h) = x (ix2 0 (head κ g)) := by
  subst ho
  refine View.ld_unit_apply_of _ _ _ _ _ _ fun a => ?_
  fin_cases a <;> rfl

/-- A sink's word as the kernels read it. -/
def sinkW (x : FVec Ideal S1x16 .f32) (n : ℕ) (inb : ∀ a : Fin 2, (![0, n] : Fin 2 → ℕ) a + (![1, 1] : Fin 2 → ℕ) a ≤ S1x16.size a) : EReal :=
  View.ld (Val := Elt Ideal) (S := S1x16) (e' := .f32) x (Rect.unit ![0, n] ![1, 1] inb) (Shape.Idx.first (show 0 < S1x1.numel by decide))

/-- Head 0 of two blocks of keys or values. -/
def band0 (a b : FVec Ideal S128x128 .bf16) : FVec Ideal S256x64 .bf16 :=
  extractStridedSlice S256x64 ![0, 0] (concatenate S256x128 0 [⟨S128x128, a⟩, ⟨S128x128, b⟩] concatenates_S128x128_S128x128_S256x128_d0)
    slices_S256x128_o0_0_S256x64

theorem band0_fst (a b : FVec Ideal S128x128 .bf16) (i : Fin 128) (d : Fin 64) : band0 a b (ix2 (fst i) d) = a (ix2 i (kcol 0 d)) := by
  unfold band0
  pointwise
  rw [dif_pos (show (fst i).val < 128 from i.isLt)]
  refine congrArg a ?_
  funext y
  apply Fin.ext
  match y with
  | ⟨0, _⟩ => change (fst i).val = i.val; simp [fst]
  | ⟨1, _⟩ => simp [kcol, ix2]

theorem band0_snd (a b : FVec Ideal S128x128 .bf16) (i : Fin 128) (d : Fin 64) : band0 a b (ix2 (snd i) d) = b (ix2 i (kcol 0 d)) := by
  unfold band0
  pointwise
  rw [dif_neg (show ¬ (snd i).val < 128 by simp [snd])]
  refine congrArg b ?_
  funext y
  apply Fin.ext
  match y with
  | ⟨0, _⟩ => change (snd i).val - 128 = i.val; simp [snd]
  | ⟨1, _⟩ => simp [kcol, ix2]

/-- The eight heads of a block's rows, stacked. -/
def stack0 (x : FVec Ideal S128x1024 .bf16) : FVec Ideal S1024x64 .bf16 :=
  concatenate S1024x64 0 [⟨S128x64, View.ld (Val := Elt Ideal) (S := S128x1024) (e' := .bf16) x (Rect.unit ![0, 0] ![128, 64] inb_S128x1024_S128x64_0_0)⟩, ⟨S128x64, View.ld (Val := Elt Ideal) (S := S128x1024) (e' := .bf16) x (Rect.unit ![0, 64] ![128, 64] inb_S128x1024_S128x64_0_64)⟩, ⟨S128x64, View.ld (Val := Elt Ideal) (S := S128x1024) (e' := .bf16) x (Rect.unit ![0, 128] ![128, 64] inb_S128x1024_S128x64_0_128)⟩, ⟨S128x64, View.ld (Val := Elt Ideal) (S := S128x1024) (e' := .bf16) x (Rect.unit ![0, 192] ![128, 64] inb_S128x1024_S128x64_0_192)⟩, ⟨S128x64, View.ld (Val := Elt Ideal) (S := S128x1024) (e' := .bf16) x (Rect.unit ![0, 256] ![128, 64] inb_S128x1024_S128x64_0_256)⟩, ⟨S128x64, View.ld (Val := Elt Ideal) (S := S128x1024) (e' := .bf16) x (Rect.unit ![0, 320] ![128, 64] inb_S128x1024_S128x64_0_320)⟩, ⟨S128x64, View.ld (Val := Elt Ideal) (S := S128x1024) (e' := .bf16) x (Rect.unit ![0, 384] ![128, 64] inb_S128x1024_S128x64_0_384)⟩, ⟨S128x64, View.ld (Val := Elt Ideal) (S := S128x1024) (e' := .bf16) x (Rect.unit ![0, 448] ![128, 64] inb_S128x1024_S128x64_0_448)⟩]
    concatenates_S128x64_S128x64_S128x64_S128x64_S128x64_S128x64_S128x64_S128x64_S1024x64_d0

theorem stack0_at (x : FVec Ideal S128x1024 .bf16) (g : Fin 8) (i : Fin 128) (d : Fin 64) :
    stack0 x (ix2 (col g i) d) = x (ix2 i (qcol 0 g d)) := by
  refine (stack_at (φ := .bf16) (fun g : Fin 8 => View.ld (Val := Elt Ideal) (S := S128x1024) (e' := .bf16) x (Rect.unit ![0, 0 + 64 * g.val] ![128, 64] (by
    intro a
    match a with
    | ⟨0, _⟩ => exact Nat.le_refl 128
    | ⟨1, _⟩ => change 0 + 64 * g.val + 64 ≤ 1024; omega))) g i d).trans ?_
  refine View.ld_unit_apply_of _ _ _ _ _ _ fun a => ?_
  match a with
  | ⟨0, _⟩ => exact (Nat.zero_add _).symm
  | ⟨1, _⟩ => change 0 * 512 + g.val * 64 + d.val = 0 + 64 * g.val + d.val; omega

/-- The same of the narrowed gradients. -/
def gstack0 (x : FVec Ideal S128x1024 .f32) : FVec Ideal S1024x64 .bf16 :=
  truncf .bf16 (concatenate S1024x64 0 [⟨S128x64, View.ld (Val := Elt Ideal) (S := S128x1024) (e' := .f32) x (Rect.unit ![0, 0] ![128, 64] inb_S128x1024_S128x64_0_0)⟩, ⟨S128x64, View.ld (Val := Elt Ideal) (S := S128x1024) (e' := .f32) x (Rect.unit ![0, 64] ![128, 64] inb_S128x1024_S128x64_0_64)⟩, ⟨S128x64, View.ld (Val := Elt Ideal) (S := S128x1024) (e' := .f32) x (Rect.unit ![0, 128] ![128, 64] inb_S128x1024_S128x64_0_128)⟩, ⟨S128x64, View.ld (Val := Elt Ideal) (S := S128x1024) (e' := .f32) x (Rect.unit ![0, 192] ![128, 64] inb_S128x1024_S128x64_0_192)⟩, ⟨S128x64, View.ld (Val := Elt Ideal) (S := S128x1024) (e' := .f32) x (Rect.unit ![0, 256] ![128, 64] inb_S128x1024_S128x64_0_256)⟩, ⟨S128x64, View.ld (Val := Elt Ideal) (S := S128x1024) (e' := .f32) x (Rect.unit ![0, 320] ![128, 64] inb_S128x1024_S128x64_0_320)⟩, ⟨S128x64, View.ld (Val := Elt Ideal) (S := S128x1024) (e' := .f32) x (Rect.unit ![0, 384] ![128, 64] inb_S128x1024_S128x64_0_384)⟩, ⟨S128x64, View.ld (Val := Elt Ideal) (S := S128x1024) (e' := .f32) x (Rect.unit ![0, 448] ![128, 64] inb_S128x1024_S128x64_0_448)⟩]
    concatenates_S128x64_S128x64_S128x64_S128x64_S128x64_S128x64_S128x64_S128x64_S1024x64_d0) bitsLt_bf16_f32

theorem gstack0_at (x : FVec Ideal S128x1024 .f32) (g : Fin 8) (i : Fin 128) (d : Fin 64) :
    gstack0 x (ix2 (col g i) d) = x (ix2 i (qcol 0 g d)) := by
  refine (stack_at (φ := .f32) (fun g : Fin 8 => View.ld (Val := Elt Ideal) (S := S128x1024) (e' := .f32) x (Rect.unit ![0, 0 + 64 * g.val] ![128, 64] (by
    intro a
    match a with
    | ⟨0, _⟩ => exact Nat.le_refl 128
    | ⟨1, _⟩ => change 0 + 64 * g.val + 64 ≤ 1024; omega))) g i d).trans ?_
  refine View.ld_unit_apply_of _ _ _ _ _ _ fun a => ?_
  match a with
  | ⟨0, _⟩ => exact (Nat.zero_add _).symm
  | ⟨1, _⟩ => change 0 * 512 + g.val * 64 + d.val = 0 + 64 * g.val + d.val; omega

/-- The same cut from an array at hand. -/
def pstack0 (x : FVec Ideal S128x1024 .f32) : FVec Ideal S1024x64 .f32 :=
  concatenate S1024x64 0 [⟨S128x64, extractStridedSlice S128x64 ![0, 0] x slices_S128x1024_o0_0_S128x64⟩, ⟨S128x64, extractStridedSlice S128x64 ![0, 64] x slices_S128x1024_o0_64_S128x64⟩, ⟨S128x64, extractStridedSlice S128x64 ![0, 128] x slices_S128x1024_o0_128_S128x64⟩, ⟨S128x64, extractStridedSlice S128x64 ![0, 192] x slices_S128x1024_o0_192_S128x64⟩, ⟨S128x64, extractStridedSlice S128x64 ![0, 256] x slices_S128x1024_o0_256_S128x64⟩, ⟨S128x64, extractStridedSlice S128x64 ![0, 320] x slices_S128x1024_o0_320_S128x64⟩, ⟨S128x64, extractStridedSlice S128x64 ![0, 384] x slices_S128x1024_o0_384_S128x64⟩, ⟨S128x64, extractStridedSlice S128x64 ![0, 448] x slices_S128x1024_o0_448_S128x64⟩]
    concatenates_S128x64_S128x64_S128x64_S128x64_S128x64_S128x64_S128x64_S128x64_S1024x64_d0

theorem pstack0_at (x : FVec Ideal S128x1024 .f32) (g : Fin 8) (i : Fin 128) (d : Fin 64) :
    pstack0 x (ix2 (col g i) d) = x (ix2 i (qcol 0 g d)) := by
  refine (stack_at (φ := .f32) (fun g : Fin 8 => extractStridedSlice S128x64 ![0, 0 + 64 * g.val] x ⟨rfl, (by
    intro a
    match a with
    | ⟨0, _⟩ => exact Nat.le_refl 128
    | ⟨1, _⟩ => change 0 + 64 * g.val + 64 ≤ 1024; omega)⟩) g i d).trans ?_
  pointwise
  congr 1
  funext y
  apply Fin.ext
  match y with
  | ⟨0, _⟩ => rfl
  | ⟨1, _⟩ => simp [qcol, ix2]; try omega

/-- The sinks of the eight heads, each along its rows. -/
def sinks0 (x : FVec Ideal S1x16 .f32) : FVec Ideal S1x1024 .f32 :=
  concatenate S1x1024 1 [⟨S1x128, broadcast S1x128 (sinkW x 0 inb_S1x16_S1x1_0_0)⟩, ⟨S1x128, broadcast S1x128 (sinkW x 1 inb_S1x16_S1x1_0_1)⟩, ⟨S1x128, broadcast S1x128 (sinkW x 2 inb_S1x16_S1x1_0_2)⟩, ⟨S1x128, broadcast S1x128 (sinkW x 3 inb_S1x16_S1x1_0_3)⟩, ⟨S1x128, broadcast S1x128 (sinkW x 4 inb_S1x16_S1x1_0_4)⟩, ⟨S1x128, broadcast S1x128 (sinkW x 5 inb_S1x16_S1x1_0_5)⟩, ⟨S1x128, broadcast S1x128 (sinkW x 6 inb_S1x16_S1x1_0_6)⟩, ⟨S1x128, broadcast S1x128 (sinkW x 7 inb_S1x16_S1x1_0_7)⟩]
    concatenates_S1x128_S1x128_S1x128_S1x128_S1x128_S1x128_S1x128_S1x128_S1x1024_d1

theorem sinks0_at (x : FVec Ideal S1x16 .f32) (g : Fin 8) (i : Fin 128) : sinks0 x (ix2 0 (col g i)) = x (ix2 0 (head 0 g)) :=
  (row_at (fun g : Fin 8 => broadcast S1x128 (sinkW x (head 0 g).val (by
    intro a
    match a with
    | ⟨0, _⟩ => exact Nat.le_refl 1
    | ⟨1, _⟩ => change 0 * 8 + g.val + 1 ≤ 16; omega))) g i).trans (sink_ld x 0 g _ rfl _ _)

/-- Head 1 of two blocks of keys or values. -/
def band1 (a b : FVec Ideal S128x128 .bf16) : FVec Ideal S256x64 .bf16 :=
  extractStridedSlice S256x64 ![0, 64] (concatenate S256x128 0 [⟨S128x128, a⟩, ⟨S128x128, b⟩] concatenates_S128x128_S128x128_S256x128_d0)
    slices_S256x128_o0_64_S256x64

theorem band1_fst (a b : FVec Ideal S128x128 .bf16) (i : Fin 128) (d : Fin 64) : band1 a b (ix2 (fst i) d) = a (ix2 i (kcol 1 d)) := by
  unfold band1
  pointwise
  rw [dif_pos (show (fst i).val < 128 from i.isLt)]
  refine congrArg a ?_
  funext y
  apply Fin.ext
  match y with
  | ⟨0, _⟩ => change (fst i).val = i.val; simp [fst]
  | ⟨1, _⟩ => simp [kcol, ix2]

theorem band1_snd (a b : FVec Ideal S128x128 .bf16) (i : Fin 128) (d : Fin 64) : band1 a b (ix2 (snd i) d) = b (ix2 i (kcol 1 d)) := by
  unfold band1
  pointwise
  rw [dif_neg (show ¬ (snd i).val < 128 by simp [snd])]
  refine congrArg b ?_
  funext y
  apply Fin.ext
  match y with
  | ⟨0, _⟩ => change (snd i).val - 128 = i.val; simp [snd]
  | ⟨1, _⟩ => simp [kcol, ix2]

/-- The eight heads of a block's rows, stacked. -/
def stack1 (x : FVec Ideal S128x1024 .bf16) : FVec Ideal S1024x64 .bf16 :=
  concatenate S1024x64 0 [⟨S128x64, View.ld (Val := Elt Ideal) (S := S128x1024) (e' := .bf16) x (Rect.unit ![0, 512] ![128, 64] inb_S128x1024_S128x64_0_512)⟩, ⟨S128x64, View.ld (Val := Elt Ideal) (S := S128x1024) (e' := .bf16) x (Rect.unit ![0, 576] ![128, 64] inb_S128x1024_S128x64_0_576)⟩, ⟨S128x64, View.ld (Val := Elt Ideal) (S := S128x1024) (e' := .bf16) x (Rect.unit ![0, 640] ![128, 64] inb_S128x1024_S128x64_0_640)⟩, ⟨S128x64, View.ld (Val := Elt Ideal) (S := S128x1024) (e' := .bf16) x (Rect.unit ![0, 704] ![128, 64] inb_S128x1024_S128x64_0_704)⟩, ⟨S128x64, View.ld (Val := Elt Ideal) (S := S128x1024) (e' := .bf16) x (Rect.unit ![0, 768] ![128, 64] inb_S128x1024_S128x64_0_768)⟩, ⟨S128x64, View.ld (Val := Elt Ideal) (S := S128x1024) (e' := .bf16) x (Rect.unit ![0, 832] ![128, 64] inb_S128x1024_S128x64_0_832)⟩, ⟨S128x64, View.ld (Val := Elt Ideal) (S := S128x1024) (e' := .bf16) x (Rect.unit ![0, 896] ![128, 64] inb_S128x1024_S128x64_0_896)⟩, ⟨S128x64, View.ld (Val := Elt Ideal) (S := S128x1024) (e' := .bf16) x (Rect.unit ![0, 960] ![128, 64] inb_S128x1024_S128x64_0_960)⟩]
    concatenates_S128x64_S128x64_S128x64_S128x64_S128x64_S128x64_S128x64_S128x64_S1024x64_d0

theorem stack1_at (x : FVec Ideal S128x1024 .bf16) (g : Fin 8) (i : Fin 128) (d : Fin 64) :
    stack1 x (ix2 (col g i) d) = x (ix2 i (qcol 1 g d)) := by
  refine (stack_at (φ := .bf16) (fun g : Fin 8 => View.ld (Val := Elt Ideal) (S := S128x1024) (e' := .bf16) x (Rect.unit ![0, 512 + 64 * g.val] ![128, 64] (by
    intro a
    match a with
    | ⟨0, _⟩ => exact Nat.le_refl 128
    | ⟨1, _⟩ => change 512 + 64 * g.val + 64 ≤ 1024; omega))) g i d).trans ?_
  refine View.ld_unit_apply_of _ _ _ _ _ _ fun a => ?_
  match a with
  | ⟨0, _⟩ => exact (Nat.zero_add _).symm
  | ⟨1, _⟩ => change 1 * 512 + g.val * 64 + d.val = 512 + 64 * g.val + d.val; omega

/-- The same of the narrowed gradients. -/
def gstack1 (x : FVec Ideal S128x1024 .f32) : FVec Ideal S1024x64 .bf16 :=
  truncf .bf16 (concatenate S1024x64 0 [⟨S128x64, View.ld (Val := Elt Ideal) (S := S128x1024) (e' := .f32) x (Rect.unit ![0, 512] ![128, 64] inb_S128x1024_S128x64_0_512)⟩, ⟨S128x64, View.ld (Val := Elt Ideal) (S := S128x1024) (e' := .f32) x (Rect.unit ![0, 576] ![128, 64] inb_S128x1024_S128x64_0_576)⟩, ⟨S128x64, View.ld (Val := Elt Ideal) (S := S128x1024) (e' := .f32) x (Rect.unit ![0, 640] ![128, 64] inb_S128x1024_S128x64_0_640)⟩, ⟨S128x64, View.ld (Val := Elt Ideal) (S := S128x1024) (e' := .f32) x (Rect.unit ![0, 704] ![128, 64] inb_S128x1024_S128x64_0_704)⟩, ⟨S128x64, View.ld (Val := Elt Ideal) (S := S128x1024) (e' := .f32) x (Rect.unit ![0, 768] ![128, 64] inb_S128x1024_S128x64_0_768)⟩, ⟨S128x64, View.ld (Val := Elt Ideal) (S := S128x1024) (e' := .f32) x (Rect.unit ![0, 832] ![128, 64] inb_S128x1024_S128x64_0_832)⟩, ⟨S128x64, View.ld (Val := Elt Ideal) (S := S128x1024) (e' := .f32) x (Rect.unit ![0, 896] ![128, 64] inb_S128x1024_S128x64_0_896)⟩, ⟨S128x64, View.ld (Val := Elt Ideal) (S := S128x1024) (e' := .f32) x (Rect.unit ![0, 960] ![128, 64] inb_S128x1024_S128x64_0_960)⟩]
    concatenates_S128x64_S128x64_S128x64_S128x64_S128x64_S128x64_S128x64_S128x64_S1024x64_d0) bitsLt_bf16_f32

theorem gstack1_at (x : FVec Ideal S128x1024 .f32) (g : Fin 8) (i : Fin 128) (d : Fin 64) :
    gstack1 x (ix2 (col g i) d) = x (ix2 i (qcol 1 g d)) := by
  refine (stack_at (φ := .f32) (fun g : Fin 8 => View.ld (Val := Elt Ideal) (S := S128x1024) (e' := .f32) x (Rect.unit ![0, 512 + 64 * g.val] ![128, 64] (by
    intro a
    match a with
    | ⟨0, _⟩ => exact Nat.le_refl 128
    | ⟨1, _⟩ => change 512 + 64 * g.val + 64 ≤ 1024; omega))) g i d).trans ?_
  refine View.ld_unit_apply_of _ _ _ _ _ _ fun a => ?_
  match a with
  | ⟨0, _⟩ => exact (Nat.zero_add _).symm
  | ⟨1, _⟩ => change 1 * 512 + g.val * 64 + d.val = 512 + 64 * g.val + d.val; omega

/-- The same cut from an array at hand. -/
def pstack1 (x : FVec Ideal S128x1024 .f32) : FVec Ideal S1024x64 .f32 :=
  concatenate S1024x64 0 [⟨S128x64, extractStridedSlice S128x64 ![0, 512] x slices_S128x1024_o0_512_S128x64⟩, ⟨S128x64, extractStridedSlice S128x64 ![0, 576] x slices_S128x1024_o0_576_S128x64⟩, ⟨S128x64, extractStridedSlice S128x64 ![0, 640] x slices_S128x1024_o0_640_S128x64⟩, ⟨S128x64, extractStridedSlice S128x64 ![0, 704] x slices_S128x1024_o0_704_S128x64⟩, ⟨S128x64, extractStridedSlice S128x64 ![0, 768] x slices_S128x1024_o0_768_S128x64⟩, ⟨S128x64, extractStridedSlice S128x64 ![0, 832] x slices_S128x1024_o0_832_S128x64⟩, ⟨S128x64, extractStridedSlice S128x64 ![0, 896] x slices_S128x1024_o0_896_S128x64⟩, ⟨S128x64, extractStridedSlice S128x64 ![0, 960] x slices_S128x1024_o0_960_S128x64⟩]
    concatenates_S128x64_S128x64_S128x64_S128x64_S128x64_S128x64_S128x64_S128x64_S1024x64_d0

theorem pstack1_at (x : FVec Ideal S128x1024 .f32) (g : Fin 8) (i : Fin 128) (d : Fin 64) :
    pstack1 x (ix2 (col g i) d) = x (ix2 i (qcol 1 g d)) := by
  refine (stack_at (φ := .f32) (fun g : Fin 8 => extractStridedSlice S128x64 ![0, 512 + 64 * g.val] x ⟨rfl, (by
    intro a
    match a with
    | ⟨0, _⟩ => exact Nat.le_refl 128
    | ⟨1, _⟩ => change 512 + 64 * g.val + 64 ≤ 1024; omega)⟩) g i d).trans ?_
  pointwise
  congr 1
  funext y
  apply Fin.ext
  match y with
  | ⟨0, _⟩ => rfl
  | ⟨1, _⟩ => simp [qcol, ix2]; try omega

/-- The sinks of the eight heads, each along its rows. -/
def sinks1 (x : FVec Ideal S1x16 .f32) : FVec Ideal S1x1024 .f32 :=
  concatenate S1x1024 1 [⟨S1x128, broadcast S1x128 (sinkW x 8 inb_S1x16_S1x1_0_8)⟩, ⟨S1x128, broadcast S1x128 (sinkW x 9 inb_S1x16_S1x1_0_9)⟩, ⟨S1x128, broadcast S1x128 (sinkW x 10 inb_S1x16_S1x1_0_10)⟩, ⟨S1x128, broadcast S1x128 (sinkW x 11 inb_S1x16_S1x1_0_11)⟩, ⟨S1x128, broadcast S1x128 (sinkW x 12 inb_S1x16_S1x1_0_12)⟩, ⟨S1x128, broadcast S1x128 (sinkW x 13 inb_S1x16_S1x1_0_13)⟩, ⟨S1x128, broadcast S1x128 (sinkW x 14 inb_S1x16_S1x1_0_14)⟩, ⟨S1x128, broadcast S1x128 (sinkW x 15 inb_S1x16_S1x1_0_15)⟩]
    concatenates_S1x128_S1x128_S1x128_S1x128_S1x128_S1x128_S1x128_S1x128_S1x1024_d1

theorem sinks1_at (x : FVec Ideal S1x16 .f32) (g : Fin 8) (i : Fin 128) : sinks1 x (ix2 0 (col g i)) = x (ix2 0 (head 1 g)) :=
  (row_at (fun g : Fin 8 => broadcast S1x128 (sinkW x (head 1 g).val (by
    intro a
    match a with
    | ⟨0, _⟩ => exact Nat.le_refl 1
    | ⟨1, _⟩ => change 1 * 8 + g.val + 1 ≤ 16; omega))) g i).trans (sink_ld x 1 g _ rfl _ _)

/-- What the blocks hold of the two tiles, one for each head of the keys. -/
structure Ins (T : Fin 2 → Tile) (x0 : FVec Ideal S1x16 .f32) (x1 : FVec Ideal S1x256x1024 .f32) (x2 : FVec Ideal S128x1024 .bf16)
    (x3 x4 x5 x6 : FVec Ideal S128x128 .bf16) : Prop where
  sink : ∀ κ g, x0 (ix2 0 (head κ g)) = ((T κ).σ g : EReal)
  bias : ∀ κ s g i, x1 (ix3 0 s (col g i)) = if ok (T κ).n i s then 0 else ⊥
  q : ∀ κ g i d, x2 (ix2 i (qcol κ g d)) = ((T κ).Q g i d : EReal)
  k1 : ∀ κ i d, x3 (ix2 i (kcol κ d)) = ((T κ).K (fst i) d : EReal)
  k2 : ∀ κ i d, x4 (ix2 i (kcol κ d)) = ((T κ).K (snd i) d : EReal)
  v1 : ∀ κ i d, x5 (ix2 i (kcol κ d)) = ((T κ).V (fst i) d : EReal)
  v2 : ∀ κ i d, x6 (ix2 i (kcol κ d)) = ((T κ).V (snd i) d : EReal)

/-- The bias without its leading axis. -/
def biasK (x : FVec Ideal S1x256x1024 .f32) : FVec Ideal S256x1024 .f32 := shapeCast S256x1024 x shapeCasts_S1x256x1024_S256x1024

theorem biasK_at (x : FVec Ideal S1x256x1024 .f32) (s : Fin 256) (c : Fin 1024) : biasK x (ix2 s c) = x (ix3 0 s c) := by
  pointwise [biasK]

section Heads

variable {T : Fin 2 → Tile} {x0 : FVec Ideal S1x16 .f32} {x1 : FVec Ideal S1x256x1024 .f32} {x2 : FVec Ideal S128x1024 .bf16}
  {x3 x4 x5 x6 : FVec Ideal S128x128 .bf16} (h : Ins T x0 x1 x2 x3 x4 x5 x6)
include h

theorem key0 (s : Fin 256) (d : Fin 64) : band0 x3 x4 (ix2 s d) = ((T 0).K s d : EReal) :=
  all_keys (p := fun s => band0 x3 x4 (ix2 s d) = ((T 0).K s d : EReal)) (fun i => by rw [band0_fst, h.k1]) (fun i => by rw [band0_snd, h.k2]) s

theorem val0 (s : Fin 256) (d : Fin 64) : band0 x5 x6 (ix2 s d) = ((T 0).V s d : EReal) :=
  all_keys (p := fun s => band0 x5 x6 (ix2 s d) = ((T 0).V s d : EReal)) (fun i => by rw [band0_fst, h.v1]) (fun i => by rw [band0_snd, h.v2]) s

theorem scores0 (s : Fin 256) (g : Fin 8) (i : Fin 128) :
    stK (band0 x3 x4) (stack0 x2) (biasK x1) (ix2 s (col g i)) = score (ok (T 0).n i) ((T 0).X g i) s :=
  st_val s (T 0) g i (key0 h) (fun g i d => by rw [stack0_at, h.q]) (fun s g i => by rw [biasK_at, h.bias 0])

theorem sink0 (g : Fin 8) (i : Fin 128) : sinks0 x0 (ix2 0 (col g i)) = ((T 0).σ g : EReal) := by
  rw [sinks0_at, h.sink]

theorem key1 (s : Fin 256) (d : Fin 64) : band1 x3 x4 (ix2 s d) = ((T 1).K s d : EReal) :=
  all_keys (p := fun s => band1 x3 x4 (ix2 s d) = ((T 1).K s d : EReal)) (fun i => by rw [band1_fst, h.k1]) (fun i => by rw [band1_snd, h.k2]) s

theorem val1 (s : Fin 256) (d : Fin 64) : band1 x5 x6 (ix2 s d) = ((T 1).V s d : EReal) :=
  all_keys (p := fun s => band1 x5 x6 (ix2 s d) = ((T 1).V s d : EReal)) (fun i => by rw [band1_fst, h.v1]) (fun i => by rw [band1_snd, h.v2]) s

theorem scores1 (s : Fin 256) (g : Fin 8) (i : Fin 128) :
    stK (band1 x3 x4) (stack1 x2) (biasK x1) (ix2 s (col g i)) = score (ok (T 1).n i) ((T 1).X g i) s :=
  st_val s (T 1) g i (key1 h) (fun g i d => by rw [stack1_at, h.q]) (fun s g i => by rw [biasK_at, h.bias 1])

theorem sink1 (g : Fin 8) (i : Fin 128) : sinks1 x0 (ix2 0 (col g i)) = ((T 1).σ g : EReal) := by
  rw [sinks1_at, h.sink]

end Heads

end Cert.AttnKer

end

end
-- ==== Proof.KBlk.lean ====
/- The blocks the attention's points read from the arrays. -/
module

public import proofs.«01_k».proof.Proof.KIn
public import proofs.«01_k».proof.Proof.Gen.KernelIdeal.Frame

@[expose] public section

set_option maxRecDepth 16384

noncomputable section

namespace Cert.AttnKer

open Cert.KernelIdeal Cert.KernelIdeal.Gen Idealize.ShloMosaic Idealize.ShloMosaic.TcCoe Idealize.SL.Sem Cert.Attn Finset

variable (V : (c : Dev nD) → (b : Ref sig .tc) → Buf (Elt Ideal) ((c : Thread nD τ).loc b)) (c : Dev nD)

/-- The grid's points, as block numbers. -/
def pt1 (t : Fin cfg1.N) : Fin 64 := ⟨t.val, by have := t.isLt; have : cfg1.N = 64 := N_1; omega⟩
def pt2 (t : Fin cfg2.N) : Fin 64 := ⟨t.val, by have := t.isLt; have : cfg2.N = 64 := N_2; omega⟩

/-- Row `i` of the block before `n`, or of block zero. -/
def prow (n : Fin 64) (i : Fin 128) : Fin 8192 := ⟨(n.val - 1) * 128 + i.val, by omega⟩

/-- Which slab of the bias point `n` reads. -/
def slab (n : Fin 64) : Fin 2 := ⟨min n.val 1, by omega⟩

/-- What the regions find in the argument arrays. -/
structure Holds (A : Arr) : Prop where
  q : ∀ r j, V c main_arg0 (ix2 r j) = (A.q r j : EReal)
  k : ∀ r j, V c main_arg1 (ix2 r j) = (A.k r j : EReal)
  v : ∀ r j, V c main_arg2 (ix2 r j) = (A.v r j : EReal)
  σ : ∀ r j, V c main_arg3 (ix2 r j) = (A.σ r j : EReal)
  go : ∀ r j, V c main_arg4 (ix2 r j) = (A.go r j : EReal)
  bias : ∀ (b : Fin 2) s g i, V c main_v0 (ix3 b s (col g i)) = if ok b.val i s then (0 : EReal) else ⊥

theorem idx1_0 (t : Fin cfg1.N) : win1_0.index t 0 = 0 ∧ win1_0.index t 1 = 0 := by
  revert t; decide +kernel

theorem blk1_0 (t : Fin cfg1.N) (i : Fin 1) (j : Fin 16) :
    (iblk1 V c 0 t : FVec Ideal S1x16 .f32) (ix2 i j) = V c main_arg3 (ix2 i j) := by
  unfold iblk1
  rw [View.read_apply]
  show V c main_arg3 _ = _
  congr 1
  funext a
  apply Fin.ext
  match a with
  | ⟨0, _⟩ => show win1_0.index t 0 * 1 + 1 * i.val = i.val; rw [(idx1_0 t).1]; omega
  | ⟨1, _⟩ => show win1_0.index t 1 * 16 + 1 * j.val = j.val; rw [(idx1_0 t).2]; omega

theorem idx1_1 (t : Fin cfg1.N) : win1_1.index t 0 = min t.val 1 ∧ win1_1.index t 1 = 0 ∧ win1_1.index t 2 = 0 := by
  revert t; decide +kernel

theorem blk1_1 (t : Fin cfg1.N) (i : Fin 1) (s : Fin 256) (j : Fin 1024) :
    (iblk1 V c 1 t : FVec Ideal S1x256x1024 .f32) (ix3 i s j) = V c main_v0 (ix3 (slab (pt1 t)) s j) := by
  unfold iblk1
  rw [View.read_apply]
  show V c main_v0 _ = _
  congr 1
  funext a
  apply Fin.ext
  match a with
  | ⟨0, _⟩ => show win1_1.index t 0 * 1 + 1 * i.val = min t.val 1; rw [(idx1_1 t).1]; omega
  | ⟨1, _⟩ => show win1_1.index t 1 * 256 + 1 * s.val = s.val; rw [(idx1_1 t).2.1]; omega
  | ⟨2, _⟩ => show win1_1.index t 2 * 1024 + 1 * j.val = j.val; rw [(idx1_1 t).2.2]; omega

theorem idx1_2 (t : Fin cfg1.N) : win1_2.index t 0 = t.val ∧ win1_2.index t 1 = 0 := by
  revert t; decide +kernel

theorem blk1_2 (t : Fin cfg1.N) (i : Fin 128) (j : Fin 1024) :
    (iblk1 V c 2 t : FVec Ideal S128x1024 .bf16) (ix2 i j) = V c main_arg0 (ix2 (row (pt1 t) i) j) := by
  unfold iblk1
  rw [View.read_apply]
  show V c main_arg0 _ = _
  congr 1
  funext a
  apply Fin.ext
  match a with
  | ⟨0, _⟩ => show win1_2.index t 0 * 128 + 1 * i.val = t.val * 128 + i.val; rw [(idx1_2 t).1]; omega
  | ⟨1, _⟩ => show win1_2.index t 1 * 1024 + 1 * j.val = j.val; rw [(idx1_2 t).2]; omega

theorem idx1_3 (t : Fin cfg1.N) : win1_3.index t 0 = t.val - 1 ∧ win1_3.index t 1 = 0 := by
  revert t; decide +kernel

theorem blk1_3 (t : Fin cfg1.N) (i : Fin 128) (j : Fin 128) :
    (iblk1 V c 3 t : FVec Ideal S128x128 .bf16) (ix2 i j) = V c main_arg1 (ix2 (prow (pt1 t) i) j) := by
  unfold iblk1
  rw [View.read_apply]
  show V c main_arg1 _ = _
  congr 1
  funext a
  apply Fin.ext
  match a with
  | ⟨0, _⟩ => show win1_3.index t 0 * 128 + 1 * i.val = (t.val - 1) * 128 + i.val; rw [(idx1_3 t).1]; omega
  | ⟨1, _⟩ => show win1_3.index t 1 * 128 + 1 * j.val = j.val; rw [(idx1_3 t).2]; omega

theorem idx1_4 (t : Fin cfg1.N) : win1_4.index t 0 = t.val ∧ win1_4.index t 1 = 0 := by
  revert t; decide +kernel

theorem blk1_4 (t : Fin cfg1.N) (i : Fin 128) (j : Fin 128) :
    (iblk1 V c 4 t : FVec Ideal S128x128 .bf16) (ix2 i j) = V c main_arg1 (ix2 (row (pt1 t) i) j) := by
  unfold iblk1
  rw [View.read_apply]
  show V c main_arg1 _ = _
  congr 1
  funext a
  apply Fin.ext
  match a with
  | ⟨0, _⟩ => show win1_4.index t 0 * 128 + 1 * i.val = t.val * 128 + i.val; rw [(idx1_4 t).1]; omega
  | ⟨1, _⟩ => show win1_4.index t 1 * 128 + 1 * j.val = j.val; rw [(idx1_4 t).2]; omega

theorem idx1_5 (t : Fin cfg1.N) : win1_5.index t 0 = t.val - 1 ∧ win1_5.index t 1 = 0 := by
  revert t; decide +kernel

theorem blk1_5 (t : Fin cfg1.N) (i : Fin 128) (j : Fin 128) :
    (iblk1 V c 5 t : FVec Ideal S128x128 .bf16) (ix2 i j) = V c main_arg2 (ix2 (prow (pt1 t) i) j) := by
  unfold iblk1
  rw [View.read_apply]
  show V c main_arg2 _ = _
  congr 1
  funext a
  apply Fin.ext
  match a with
  | ⟨0, _⟩ => show win1_5.index t 0 * 128 + 1 * i.val = (t.val - 1) * 128 + i.val; rw [(idx1_5 t).1]; omega
  | ⟨1, _⟩ => show win1_5.index t 1 * 128 + 1 * j.val = j.val; rw [(idx1_5 t).2]; omega

theorem idx1_6 (t : Fin cfg1.N) : win1_6.index t 0 = t.val ∧ win1_6.index t 1 = 0 := by
  revert t; decide +kernel

theorem blk1_6 (t : Fin cfg1.N) (i : Fin 128) (j : Fin 128) :
    (iblk1 V c 6 t : FVec Ideal S128x128 .bf16) (ix2 i j) = V c main_arg2 (ix2 (row (pt1 t) i) j) := by
  unfold iblk1
  rw [View.read_apply]
  show V c main_arg2 _ = _
  congr 1
  funext a
  apply Fin.ext
  match a with
  | ⟨0, _⟩ => show win1_6.index t 0 * 128 + 1 * i.val = t.val * 128 + i.val; rw [(idx1_6 t).1]; omega
  | ⟨1, _⟩ => show win1_6.index t 1 * 128 + 1 * j.val = j.val; rw [(idx1_6 t).2]; omega

theorem idx2_0 (t : Fin cfg2.N) : win2_0.index t 0 = 0 ∧ win2_0.index t 1 = 0 := by
  revert t; decide +kernel

theorem blk2_0 (t : Fin cfg2.N) (i : Fin 1) (j : Fin 16) :
    (iblk2 V c 0 t : FVec Ideal S1x16 .f32) (ix2 i j) = V c main_arg3 (ix2 i j) := by
  unfold iblk2
  rw [View.read_apply]
  show V c main_arg3 _ = _
  congr 1
  funext a
  apply Fin.ext
  match a with
  | ⟨0, _⟩ => show win2_0.index t 0 * 1 + 1 * i.val = i.val; rw [(idx2_0 t).1]; omega
  | ⟨1, _⟩ => show win2_0.index t 1 * 16 + 1 * j.val = j.val; rw [(idx2_0 t).2]; omega

theorem idx2_1 (t : Fin cfg2.N) : win2_1.index t 0 = min t.val 1 ∧ win2_1.index t 1 = 0 ∧ win2_1.index t 2 = 0 := by
  revert t; decide +kernel

theorem blk2_1 (t : Fin cfg2.N) (i : Fin 1) (s : Fin 256) (j : Fin 1024) :
    (iblk2 V c 1 t : FVec Ideal S1x256x1024 .f32) (ix3 i s j) = V c main_v0 (ix3 (slab (pt2 t)) s j) := by
  unfold iblk2
  rw [View.read_apply]
  show V c main_v0 _ = _
  congr 1
  funext a
  apply Fin.ext
  match a with
  | ⟨0, _⟩ => show win2_1.index t 0 * 1 + 1 * i.val = min t.val 1; rw [(idx2_1 t).1]; omega
  | ⟨1, _⟩ => show win2_1.index t 1 * 256 + 1 * s.val = s.val; rw [(idx2_1 t).2.1]; omega
  | ⟨2, _⟩ => show win2_1.index t 2 * 1024 + 1 * j.val = j.val; rw [(idx2_1 t).2.2]; omega

theorem idx2_2 (t : Fin cfg2.N) : win2_2.index t 0 = t.val ∧ win2_2.index t 1 = 0 := by
  revert t; decide +kernel

theorem blk2_2 (t : Fin cfg2.N) (i : Fin 128) (j : Fin 1024) :
    (iblk2 V c 2 t : FVec Ideal S128x1024 .bf16) (ix2 i j) = V c main_arg0 (ix2 (row (pt2 t) i) j) := by
  unfold iblk2
  rw [View.read_apply]
  show V c main_arg0 _ = _
  congr 1
  funext a
  apply Fin.ext
  match a with
  | ⟨0, _⟩ => show win2_2.index t 0 * 128 + 1 * i.val = t.val * 128 + i.val; rw [(idx2_2 t).1]; omega
  | ⟨1, _⟩ => show win2_2.index t 1 * 1024 + 1 * j.val = j.val; rw [(idx2_2 t).2]; omega

theorem idx2_3 (t : Fin cfg2.N) : win2_3.index t 0 = t.val - 1 ∧ win2_3.index t 1 = 0 := by
  revert t; decide +kernel

theorem blk2_3 (t : Fin cfg2.N) (i : Fin 128) (j : Fin 128) :
    (iblk2 V c 3 t : FVec Ideal S128x128 .bf16) (ix2 i j) = V c main_arg1 (ix2 (prow (pt2 t) i) j) := by
  unfold iblk2
  rw [View.read_apply]
  show V c main_arg1 _ = _
  congr 1
  funext a
  apply Fin.ext
  match a with
  | ⟨0, _⟩ => show win2_3.index t 0 * 128 + 1 * i.val = (t.val - 1) * 128 + i.val; rw [(idx2_3 t).1]; omega
  | ⟨1, _⟩ => show win2_3.index t 1 * 128 + 1 * j.val = j.val; rw [(idx2_3 t).2]; omega

theorem idx2_4 (t : Fin cfg2.N) : win2_4.index t 0 = t.val ∧ win2_4.index t 1 = 0 := by
  revert t; decide +kernel

theorem blk2_4 (t : Fin cfg2.N) (i : Fin 128) (j : Fin 128) :
    (iblk2 V c 4 t : FVec Ideal S128x128 .bf16) (ix2 i j) = V c main_arg1 (ix2 (row (pt2 t) i) j) := by
  unfold iblk2
  rw [View.read_apply]
  show V c main_arg1 _ = _
  congr 1
  funext a
  apply Fin.ext
  match a with
  | ⟨0, _⟩ => show win2_4.index t 0 * 128 + 1 * i.val = t.val * 128 + i.val; rw [(idx2_4 t).1]; omega
  | ⟨1, _⟩ => show win2_4.index t 1 * 128 + 1 * j.val = j.val; rw [(idx2_4 t).2]; omega

theorem idx2_5 (t : Fin cfg2.N) : win2_5.index t 0 = t.val - 1 ∧ win2_5.index t 1 = 0 := by
  revert t; decide +kernel

theorem blk2_5 (t : Fin cfg2.N) (i : Fin 128) (j : Fin 128) :
    (iblk2 V c 5 t : FVec Ideal S128x128 .bf16) (ix2 i j) = V c main_arg2 (ix2 (prow (pt2 t) i) j) := by
  unfold iblk2
  rw [View.read_apply]
  show V c main_arg2 _ = _
  congr 1
  funext a
  apply Fin.ext
  match a with
  | ⟨0, _⟩ => show win2_5.index t 0 * 128 + 1 * i.val = (t.val - 1) * 128 + i.val; rw [(idx2_5 t).1]; omega
  | ⟨1, _⟩ => show win2_5.index t 1 * 128 + 1 * j.val = j.val; rw [(idx2_5 t).2]; omega

theorem idx2_6 (t : Fin cfg2.N) : win2_6.index t 0 = t.val ∧ win2_6.index t 1 = 0 := by
  revert t; decide +kernel

theorem blk2_6 (t : Fin cfg2.N) (i : Fin 128) (j : Fin 128) :
    (iblk2 V c 6 t : FVec Ideal S128x128 .bf16) (ix2 i j) = V c main_arg2 (ix2 (row (pt2 t) i) j) := by
  unfold iblk2
  rw [View.read_apply]
  show V c main_arg2 _ = _
  congr 1
  funext a
  apply Fin.ext
  match a with
  | ⟨0, _⟩ => show win2_6.index t 0 * 128 + 1 * i.val = t.val * 128 + i.val; rw [(idx2_6 t).1]; omega
  | ⟨1, _⟩ => show win2_6.index t 1 * 128 + 1 * j.val = j.val; rw [(idx2_6 t).2]; omega

theorem idx2_7 (t : Fin cfg2.N) : win2_7.index t 0 = t.val ∧ win2_7.index t 1 = 0 := by
  revert t; decide +kernel

theorem blk2_7 (t : Fin cfg2.N) (i : Fin 128) (j : Fin 1024) :
    (iblk2 V c 7 t : FVec Ideal S128x1024 .f32) (ix2 i j) = V c main_v1 (ix2 (row (pt2 t) i) j) := by
  unfold iblk2
  rw [View.read_apply]
  show V c main_v1 _ = _
  congr 1
  funext a
  apply Fin.ext
  match a with
  | ⟨0, _⟩ => show win2_7.index t 0 * 128 + 1 * i.val = t.val * 128 + i.val; rw [(idx2_7 t).1]; omega
  | ⟨1, _⟩ => show win2_7.index t 1 * 1024 + 1 * j.val = j.val; rw [(idx2_7 t).2]; omega

theorem idx2_8 (t : Fin cfg2.N) : win2_8.index t 0 = t.val ∧ win2_8.index t 1 = 0 := by
  revert t; decide +kernel

theorem blk2_8 (t : Fin cfg2.N) (i : Fin 128) (j : Fin 1024) :
    (iblk2 V c 8 t : FVec Ideal S128x1024 .f32) (ix2 i j) = V c main_arg4 (ix2 (row (pt2 t) i) j) := by
  unfold iblk2
  rw [View.read_apply]
  show V c main_arg4 _ = _
  congr 1
  funext a
  apply Fin.ext
  match a with
  | ⟨0, _⟩ => show win2_8.index t 0 * 128 + 1 * i.val = t.val * 128 + i.val; rw [(idx2_8 t).1]; omega
  | ⟨1, _⟩ => show win2_8.index t 1 * 1024 + 1 * j.val = j.val; rw [(idx2_8 t).2]; omega

/-- Keys or values as the point reads them: the block before repeated at the first point. -/
def pband (f : Fin 8192 → Fin 128 → ℝ) (n : Fin 64) (κ : Fin 2) (s : Fin 256) (d : Fin 64) : ℝ :=
  if h : s.val < 128 then f (prow n ⟨s.val, h⟩) (kcol κ d) else f (row n ⟨s.val - 128, by omega⟩) (kcol κ d)

theorem pband_fst (f n κ i d) : pband f n κ (fst i) d = f (prow n i) (kcol κ d) := dif_pos (show i.val < 128 from i.isLt)

theorem pband_snd (f n κ i d) : pband f n κ (snd i) d = f (row n i) (kcol κ d) := by
  unfold pband
  rw [dif_neg (show ¬ (snd i).val < 128 from not_lt.mpr (Nat.le_add_right 128 i.val))]
  exact congrArg₂ f (congrArg (row n) (Fin.ext (show 128 + i.val - 128 = i.val by omega))) rfl

theorem pband_seen (f : Fin 8192 → Fin 128 → ℝ) (n : Fin 64) (κ : Fin 2) (i : Fin 128) (s : Fin 256) (h : ok n.val i s) :
    pband f n κ s = band f n κ s := by
  funext d
  unfold pband band
  by_cases hs : s.val < 128
  · have hn : ¬ n.val < 1 := by rcases h.2.2 with h | h <;> omega
    rw [dif_pos hs, if_pos hs, if_neg hn]
    rfl
  · rw [dif_neg hs, if_neg hs]
    rfl

/-- What point `n` computes with. -/
def tileK (A : Arr) (n : Fin 64) (κ : Fin 2) : Tile := (A.tile n κ).kv (pband A.k n κ) (pband A.v n κ)

theorem tileK_seen (A : Arr) (n : Fin 64) (κ : Fin 2) (i : Fin 128) (s : Fin 256) (h : ok (A.tile n κ).n i s) :
    pband A.k n κ s = (A.tile n κ).K s ∧ pband A.v n κ s = (A.tile n κ).V s := ⟨pband_seen _ n κ i s h, pband_seen _ n κ i s h⟩

theorem slab_ok (n : Fin 64) (i : Fin 128) (s : Fin 256) : ok (slab n).val i s ↔ ok n.val i s := by
  unfold ok slab
  dsimp only
  omega

variable {V c}

theorem ins1 {A : Arr} (h : Holds V c A) (t : Fin cfg1.N) :
    Ins (tileK A (pt1 t)) (iblk1 V c 0 t) (iblk1 V c 1 t) (iblk1 V c 2 t) (iblk1 V c 3 t) (iblk1 V c 4 t) (iblk1 V c 5 t) (iblk1 V c 6 t) where
  sink κ g := by rw [blk1_0, h.σ]; rfl
  bias κ s g i := by
    rw [blk1_1, h.bias]
    exact if_congr (slab_ok (pt1 t) i s) rfl rfl
  q κ g i d := by rw [blk1_2, h.q]; rfl
  k1 κ i d := by rw [blk1_3, h.k]; exact congrArg _ (pband_fst A.k (pt1 t) κ i d).symm
  k2 κ i d := by rw [blk1_4, h.k]; exact congrArg _ (pband_snd A.k (pt1 t) κ i d).symm
  v1 κ i d := by rw [blk1_5, h.v]; exact congrArg _ (pband_fst A.v (pt1 t) κ i d).symm
  v2 κ i d := by rw [blk1_6, h.v]; exact congrArg _ (pband_snd A.v (pt1 t) κ i d).symm

theorem ins2 {A : Arr} (h : Holds V c A) (t : Fin cfg2.N) :
    Ins (tileK A (pt2 t)) (iblk2 V c 0 t) (iblk2 V c 1 t) (iblk2 V c 2 t) (iblk2 V c 3 t) (iblk2 V c 4 t) (iblk2 V c 5 t) (iblk2 V c 6 t) where
  sink κ g := by rw [blk2_0, h.σ]; rfl
  bias κ s g i := by
    rw [blk2_1, h.bias]
    exact if_congr (slab_ok (pt2 t) i s) rfl rfl
  q κ g i d := by rw [blk2_2, h.q]; rfl
  k1 κ i d := by rw [blk2_3, h.k]; exact congrArg _ (pband_fst A.k (pt2 t) κ i d).symm
  k2 κ i d := by rw [blk2_4, h.k]; exact congrArg _ (pband_snd A.k (pt2 t) κ i d).symm
  v1 κ i d := by rw [blk2_5, h.v]; exact congrArg _ (pband_fst A.v (pt2 t) κ i d).symm
  v2 κ i d := by rw [blk2_6, h.v]; exact congrArg _ (pband_snd A.v (pt2 t) κ i d).symm

end Cert.AttnKer

end
-- ==== Proof.AttnMask.lean ====
/- Which keys a row sees, as the comparisons of words that the programs compute. -/
module

public import proofs.«01_k».proof.Proof.AttnTile

@[expose] public section
noncomputable section
namespace Cert.Attn
open Idealize.ShloMosaic Finset

/-- A row of a block less a key, as a signed word. -/
theorem rel_int (i : Fin 128) (s : Fin 256) :
    (BitVec.ofNat 32 i.val + 128#32 - BitVec.ofNat 32 s.val).toInt = (i.val : ℤ) + 128 - s.val := by
  rw [BitVec.toInt_eq_toNat_cond]
  simp only [BitVec.toNat_sub, BitVec.toNat_add, BitVec.toNat_ofNat]
  split <;> omega

/-- A key counted from the first block, as a signed word. -/
theorem pos_int (n : Fin 64) (s : Fin 256) :
    (BitVec.ofNat 32 n.val * 128#32 - 128#32 + BitVec.ofNat 32 s.val).toInt = (n.val : ℤ) * 128 - 128 + s.val := by
  rw [BitVec.toInt_eq_toNat_cond]
  simp only [BitVec.toNat_sub, BitVec.toNat_add, BitVec.toNat_mul, BitVec.toNat_ofNat]
  split <;> omega

/-- The mask as words. -/
theorem mask_word (n : Fin 64) (i : Fin 128) (s : Fin 256) :
   IntOp.andi
      (IntOp.andi
        (IntOp.cmpi CmpIPredicate.sge (IntOp.subi (IntOp.addi (BitVec.ofNat 32 i.val) 128#32) (BitVec.ofNat 32 s.val)) 0#32)
        (IntOp.cmpi CmpIPredicate.slt (IntOp.subi (IntOp.addi (BitVec.ofNat 32 i.val) 128#32) (BitVec.ofNat 32 s.val))
          128#32))
      (IntOp.cmpi CmpIPredicate.sge
        (IntOp.addi (IntOp.subi (IntOp.muli (BitVec.ofNat 32 n.val) 128#32) 128#32) (BitVec.ofNat 32 s.val)) 0#32) =
    BitVec.ofBool (decide (ok n.val i s)) := by
  have h1 := rel_int i s
  have h2 := pos_int n s
  simp only [IntOp.andi, IntOp.cmpi, IntOp.subi, IntOp.addi, IntOp.muli, BitVec.sle, BitVec.slt, h1, h2, BitVec.ofBool_and_ofBool,
    BitVec.toInt_zero, show (128#32).toInt = 128 from rfl]
  congr 1
  unfold ok
  rw [← Bool.decide_and, ← Bool.decide_and]
  congr 1
  apply propext
  omega
end Cert.Attn
end

end
-- ==== Proof.KBias.lean ====
/- The call that makes the masks: nothing where a row sees a key, `-∞` elsewhere. -/
module

public import proofs.«01_k».proof.Proof.AttnMask
public import proofs.«01_k».proof.Proof.KIn

@[expose] public section

set_option maxRecDepth 16384

noncomputable section

namespace Cert.AttnKer

open Cert.KernelIdeal Cert.KernelIdeal.Gen Idealize.ShloMosaic Cert.Attn Finset

/-- A column's row, as a word. -/
theorem col_word (g : Fin 8) (i : Fin 128) : IntOp.remsi .vector (BitVec.ofNat 32 (col g i).val) 128#32 = BitVec.ofNat 32 i.val := by
  have h : ∀ c : Fin 1024, IntOp.remsi .vector (BitVec.ofNat 32 c.val) 128#32 = BitVec.ofNat 32 (c.val % 128) := by decide +kernel
  rw [h]
  congr 1
  change (g.val * 128 + i.val) % 128 = i.val
  omega

/-- The comparisons that the call makes. -/
theorem bias_word (b : Fin 2) (n : ℕ) (hb : 0 < b.val ↔ 0 < n) (i : Fin 128) (s : Fin 256) :
    IntOp.andi
      (IntOp.andi
        (IntOp.cmpi CmpIPredicate.sge (IntOp.subi (IntOp.addi (BitVec.ofNat 32 i.val) 128#32) (BitVec.ofNat 32 s.val)) 0#32)
        (IntOp.cmpi CmpIPredicate.slt (IntOp.subi (IntOp.addi (BitVec.ofNat 32 i.val) 128#32) (BitVec.ofNat 32 s.val)) 128#32))
      (IntOp.ori (IntOp.cmpi CmpIPredicate.sgt (BitVec.ofNat 32 b.val) 0#32) (IntOp.cmpi CmpIPredicate.sge (BitVec.ofNat 32 s.val) 128#32)) =
    BitVec.ofBool (decide (ok n i s)) := by
  have h1 := rel_int i s
  have h2 : (BitVec.ofNat 32 b.val).toInt = b.val := by
    rw [BitVec.toInt_eq_toNat_cond]; simp only [BitVec.toNat_ofNat]; split <;> omega
  have h3 : (BitVec.ofNat 32 s.val).toInt = s.val := by
    rw [BitVec.toInt_eq_toNat_cond]; simp only [BitVec.toNat_ofNat]; split <;> omega
  simp only [IntOp.andi, IntOp.ori, IntOp.cmpi, IntOp.subi, IntOp.addi, BitVec.sle, BitVec.slt, h1, h2, h3, BitVec.ofBool_and_ofBool, BitVec.ofBool_or_ofBool,
    BitVec.toInt_zero, show (128#32).toInt = 128 from rfl]
  congr 1
  unfold ok
  rw [← Bool.decide_and, ← Bool.decide_or, ← Bool.decide_and]
  congr 1
  apply propext
  omega

/-- The masks. -/
theorem out0_val (x0) (b : Fin 2) (n : ℕ) (hb : 0 < b.val ↔ 0 < n) (s : Fin 256) (g : Fin 8) (i : Fin 128) :
    out0_1 (F := Ideal) x0 (ix3 b s (col g i)) = if ok n i s then 0 else ⊥ := by
  unfold out0_1
  rw [View.canon_unit_zero z3]
  pointwise [k0_pay1]
  rw [col_word, bias_word b n hb, show (Named.named κ "mask" 0xF149F2CA#32 : Ideal .f32) = ⊥ from
    IdealRules.named_const.ideal_named_scalar _ _ _ _ rfl]
  by_cases h : ok n i s
  · simp [h, Scalar.select]
  · simp [h, Scalar.select]

end Cert.AttnKer

end

end
-- ==== Proof.KFwd.lean ====
/- The forward call's block: its output is the tile's. -/
module

public import proofs.«01_k».proof.Proof.KIn

@[expose] public section

set_option maxRecDepth 16384

noncomputable section

namespace Cert.AttnKer

open Cert.KernelIdeal Cert.KernelIdeal.Gen Idealize.ShloMosaic Cert.Attn Finset

/-- A head's output, turned, at an index. -/
theorem turn_at {φ : FTy} (f : FVec Ideal S64x1024 φ) (g : Fin 8) (o : ℕ) (ho : o = g.val * 128) (hs) (i : Fin 128) (d : Fin 64) :
    transpose S128x64 [1, 0] (extractStridedSlice S64x128 ![0, o] f hs) transposes_S64x128_p1_0_S128x64 (ix2 i d) = f (ix2 d (col g i)) := by
  subst ho
  pointwise
  refine congrArg f ?_
  funext y
  apply Fin.ext
  match y with
  | ⟨0, _⟩ => rfl
  | ⟨1, _⟩ => simp [col, ix2]

section

variable (c : Dev nD) (i : grid1.Coords) (a1 : Memref sig .tc .smem S1x16 .f32) (h1 : a1.IsWhole) (a2 : Memref sig .tc .vmem S1x256x1024 .f32) (h2 : a2.IsWhole)
  (a3 : Memref sig .tc .vmem S128x1024 .bf16) (h3 : a3.IsWhole) (a4 a5 a6 a7 : Memref sig .tc .vmem S128x128 .bf16) (h4 : a4.IsWhole) (h5 : a5.IsWhole)
  (h6 : a6.IsWhole) (h7 : a7.IsWhole) (a8 : Memref sig .tc .vmem S128x1024 .f32) (h8 : a8.IsWhole)
  (x0 : FVec Ideal S1x16 .f32) (x1 : FVec Ideal S1x256x1024 .f32) (x2 : FVec Ideal S128x1024 .bf16) (x3 x4 x5 x6 : FVec Ideal S128x128 .bf16)

theorem fwd0_eq : kernelRun1_A.sl.r_15 (F := Ideal) c a1 h1 a2 h2 a3 h3 a4 h4 a5 h5 a6 h6 a7 h7 x0 x1 x2 x3 x4 x5 x6
    = otK (band0 x5 x6) (stK (band0 x3 x4) (stack0 x2) (biasK x1)) (sinks0 x0) := by
  sl_unfold_words
  simp only [View.readAt_eq_ld, h1.read_unread, h2.read_unread, h3.read_unread, h4.read_unread, h5.read_unread, h6.read_unread, h7.read_unread,
    View.ld_unit_zero (S := S128x128) z2, View.ld_unit_zero (S := S1x256x1024) z3]
  rfl

theorem fwd1_eq : kernelRun1_A.sl.r_28 (F := Ideal) c a1 h1 a2 h2 a3 h3 a4 h4 a5 h5 a6 h6 a7 h7 x0 x1 x2 x3 x4 x5 x6
    = otK (band1 x5 x6) (stK (band1 x3 x4) (stack1 x2) (biasK x1)) (sinks1 x0) := by
  sl_unfold_words
  simp only [View.readAt_eq_ld, h1.read_unread, h2.read_unread, h3.read_unread, h4.read_unread, h5.read_unread, h6.read_unread, h7.read_unread,
    View.ld_unit_zero (S := S128x128) z2, View.ld_unit_zero (S := S1x256x1024) z3]
  rfl

/-- The block's output. -/
theorem out1_val {T : Fin 2 → Tile} (h : Ins T x0 x1 x2 x3 x4 x5 x6) (κ : Fin 2) (g : Fin 8) (r : Fin 128) (d : Fin 64) :
    out1_A_7 (F := Ideal) c i a1 h1 a2 h2 a3 h3 a4 h4 a5 h5 a6 h6 a7 h7 a8 h8 x0 x1 x2 x3 x4 x5 x6 (ix2 r (qcol κ g d)) = ((T κ).O g r d : EReal) := by
  unfold out1_A_7
  rw [View.read_writes_eq_canon _ _ _ (cover1_A_7 (F := Ideal) c i a1 h1 a2 h2 a3 h3 a4 h4 a5 h5 a6 h6 a7 h7 a8 h8 x0 x1 x2 x3 x4 x5 x6)]
  have hc := cover1_A_7 (F := Ideal) c i a1 h1 a2 h2 a3 h3 a4 h4 a5 h5 a6 h6 a7 h7 a8 h8 x0 x1 x2 x3 x4 x5 x6
  unfold kernelRun1_A at hc ⊢
  dsimp only at hc ⊢
  have k0 : ∀ g r d, kernelRun1_A.sl.r_15 (F := Ideal) c a1 h1 a2 h2 a3 h3 a4 h4 a5 h5 a6 h6 a7 h7 x0 x1 x2 x3 x4 x5 x6 (ix2 d (col g r)) = ((T 0).O g r d : EReal) :=
    fun g r d => by rw [fwd0_eq]; exact ot_val d (T 0) g r (scores0 h) (sink0 h) (val0 h)
  have k1 : ∀ g r d, kernelRun1_A.sl.r_28 (F := Ideal) c a1 h1 a2 h2 a3 h3 a4 h4 a5 h5 a6 h6 a7 h7 x0 x1 x2 x3 x4 x5 x6 (ix2 d (col g r)) = ((T 1).O g r d : EReal) :=
    fun g r d => by rw [fwd1_eq]; exact ot_val d (T 1) g r (scores1 h) (sink1 h) (val1 h)
  have hq : (ix2 r (qcol κ g d) 1).val = κ.val * 512 + g.val * 64 + d.val := rfl
  canon_tiles x hx using hc _
  case piece0 =>
    obtain ⟨rfl, rfl⟩ : κ = 1 ∧ g = 7 := ⟨Fin.ext (by change κ.val = 1; omega), Fin.ext (by change g.val = 7; omega)⟩
    obtain rfl : x = ix2 r d := by
      funext y; apply Fin.ext
      match y with
      | ⟨0, _⟩ => exact hx0.symm
      | ⟨1, _⟩ => change (x 1).val = d.val; omega
    exact (turn_at (φ := .f32) _ 7 896 rfl slices_S64x1024_o0_896_S64x128 r d).trans (k1 7 r d)
  case piece1 =>
    obtain ⟨rfl, rfl⟩ : κ = 1 ∧ g = 6 := ⟨Fin.ext (by change κ.val = 1; omega), Fin.ext (by change g.val = 6; omega)⟩
    obtain rfl : x = ix2 r d := by
      funext y; apply Fin.ext
      match y with
      | ⟨0, _⟩ => exact hx0.symm
      | ⟨1, _⟩ => change (x 1).val = d.val; omega
    exact (turn_at (φ := .f32) _ 6 768 rfl slices_S64x1024_o0_768_S64x128 r d).trans (k1 6 r d)
  case piece2 =>
    obtain ⟨rfl, rfl⟩ : κ = 1 ∧ g = 5 := ⟨Fin.ext (by change κ.val = 1; omega), Fin.ext (by change g.val = 5; omega)⟩
    obtain rfl : x = ix2 r d := by
      funext y; apply Fin.ext
      match y with
      | ⟨0, _⟩ => exact hx0.symm
      | ⟨1, _⟩ => change (x 1).val = d.val; omega
    exact (turn_at (φ := .f32) _ 5 640 rfl slices_S64x1024_o0_640_S64x128 r d).trans (k1 5 r d)
  case piece3 =>
    obtain ⟨rfl, rfl⟩ : κ = 1 ∧ g = 4 := ⟨Fin.ext (by change κ.val = 1; omega), Fin.ext (by change g.val = 4; omega)⟩
    obtain rfl : x = ix2 r d := by
      funext y; apply Fin.ext
      match y with
      | ⟨0, _⟩ => exact hx0.symm
      | ⟨1, _⟩ => change (x 1).val = d.val; omega
    exact (turn_at (φ := .f32) _ 4 512 rfl slices_S64x1024_o0_512_S64x128 r d).trans (k1 4 r d)
  case piece4 =>
    obtain ⟨rfl, rfl⟩ : κ = 1 ∧ g = 3 := ⟨Fin.ext (by change κ.val = 1; omega), Fin.ext (by change g.val = 3; omega)⟩
    obtain rfl : x = ix2 r d := by
      funext y; apply Fin.ext
      match y with
      | ⟨0, _⟩ => exact hx0.symm
      | ⟨1, _⟩ => change (x 1).val = d.val; omega
    exact (turn_at (φ := .f32) _ 3 384 rfl slices_S64x1024_o0_384_S64x128 r d).trans (k1 3 r d)
  case piece5 =>
    obtain ⟨rfl, rfl⟩ : κ = 1 ∧ g = 2 := ⟨Fin.ext (by change κ.val = 1; omega), Fin.ext (by change g.val = 2; omega)⟩
    obtain rfl : x = ix2 r d := by
      funext y; apply Fin.ext
      match y with
      | ⟨0, _⟩ => exact hx0.symm
      | ⟨1, _⟩ => change (x 1).val = d.val; omega
    exact (turn_at (φ := .f32) _ 2 256 rfl slices_S64x1024_o0_256_S64x128 r d).trans (k1 2 r d)
  case piece6 =>
    obtain ⟨rfl, rfl⟩ : κ = 1 ∧ g = 1 := ⟨Fin.ext (by change κ.val = 1; omega), Fin.ext (by change g.val = 1; omega)⟩
    obtain rfl : x = ix2 r d := by
      funext y; apply Fin.ext
      match y with
      | ⟨0, _⟩ => exact hx0.symm
      | ⟨1, _⟩ => change (x 1).val = d.val; omega
    exact (turn_at (φ := .f32) _ 1 128 rfl slices_S64x1024_o0_128_S64x128 r d).trans (k1 1 r d)
  case piece7 =>
    obtain ⟨rfl, rfl⟩ : κ = 1 ∧ g = 0 := ⟨Fin.ext (by change κ.val = 1; omega), Fin.ext (by change g.val = 0; omega)⟩
    obtain rfl : x = ix2 r d := by
      funext y; apply Fin.ext
      match y with
      | ⟨0, _⟩ => exact hx0.symm
      | ⟨1, _⟩ => change (x 1).val = d.val; omega
    exact (turn_at (φ := .f32) _ 0 0 rfl slices_S64x1024_o0_0_S64x128 r d).trans (k1 0 r d)
  case piece8 =>
    obtain ⟨rfl, rfl⟩ : κ = 0 ∧ g = 7 := ⟨Fin.ext (by change κ.val = 0; omega), Fin.ext (by change g.val = 7; omega)⟩
    obtain rfl : x = ix2 r d := by
      funext y; apply Fin.ext
      match y with
      | ⟨0, _⟩ => exact hx0.symm
      | ⟨1, _⟩ => change (x 1).val = d.val; omega
    exact (turn_at (φ := .f32) _ 7 896 rfl slices_S64x1024_o0_896_S64x128 r d).trans (k0 7 r d)
  case piece9 =>
    obtain ⟨rfl, rfl⟩ : κ = 0 ∧ g = 6 := ⟨Fin.ext (by change κ.val = 0; omega), Fin.ext (by change g.val = 6; omega)⟩
    obtain rfl : x = ix2 r d := by
      funext y; apply Fin.ext
      match y with
      | ⟨0, _⟩ => exact hx0.symm
      | ⟨1, _⟩ => change (x 1).val = d.val; omega
    exact (turn_at (φ := .f32) _ 6 768 rfl slices_S64x1024_o0_768_S64x128 r d).trans (k0 6 r d)
  case piece10 =>
    obtain ⟨rfl, rfl⟩ : κ = 0 ∧ g = 5 := ⟨Fin.ext (by change κ.val = 0; omega), Fin.ext (by change g.val = 5; omega)⟩
    obtain rfl : x = ix2 r d := by
      funext y; apply Fin.ext
      match y with
      | ⟨0, _⟩ => exact hx0.symm
      | ⟨1, _⟩ => change (x 1).val = d.val; omega
    exact (turn_at (φ := .f32) _ 5 640 rfl slices_S64x1024_o0_640_S64x128 r d).trans (k0 5 r d)
  case piece11 =>
    obtain ⟨rfl, rfl⟩ : κ = 0 ∧ g = 4 := ⟨Fin.ext (by change κ.val = 0; omega), Fin.ext (by change g.val = 4; omega)⟩
    obtain rfl : x = ix2 r d := by
      funext y; apply Fin.ext
      match y with
      | ⟨0, _⟩ => exact hx0.symm
      | ⟨1, _⟩ => change (x 1).val = d.val; omega
    exact (turn_at (φ := .f32) _ 4 512 rfl slices_S64x1024_o0_512_S64x128 r d).trans (k0 4 r d)
  case piece12 =>
    obtain ⟨rfl, rfl⟩ : κ = 0 ∧ g = 3 := ⟨Fin.ext (by change κ.val = 0; omega), Fin.ext (by change g.val = 3; omega)⟩
    obtain rfl : x = ix2 r d := by
      funext y; apply Fin.ext
      match y with
      | ⟨0, _⟩ => exact hx0.symm
      | ⟨1, _⟩ => change (x 1).val = d.val; omega
    exact (turn_at (φ := .f32) _ 3 384 rfl slices_S64x1024_o0_384_S64x128 r d).trans (k0 3 r d)
  case piece13 =>
    obtain ⟨rfl, rfl⟩ : κ = 0 ∧ g = 2 := ⟨Fin.ext (by change κ.val = 0; omega), Fin.ext (by change g.val = 2; omega)⟩
    obtain rfl : x = ix2 r d := by
      funext y; apply Fin.ext
      match y with
      | ⟨0, _⟩ => exact hx0.symm
      | ⟨1, _⟩ => change (x 1).val = d.val; omega
    exact (turn_at (φ := .f32) _ 2 256 rfl slices_S64x1024_o0_256_S64x128 r d).trans (k0 2 r d)
  case piece14 =>
    obtain ⟨rfl, rfl⟩ : κ = 0 ∧ g = 1 := ⟨Fin.ext (by change κ.val = 0; omega), Fin.ext (by change g.val = 1; omega)⟩
    obtain rfl : x = ix2 r d := by
      funext y; apply Fin.ext
      match y with
      | ⟨0, _⟩ => exact hx0.symm
      | ⟨1, _⟩ => change (x 1).val = d.val; omega
    exact (turn_at (φ := .f32) _ 1 128 rfl slices_S64x1024_o0_128_S64x128 r d).trans (k0 1 r d)
  case piece15 =>
    obtain ⟨rfl, rfl⟩ : κ = 0 ∧ g = 0 := ⟨Fin.ext (by change κ.val = 0; omega), Fin.ext (by change g.val = 0; omega)⟩
    obtain rfl : x = ix2 r d := by
      funext y; apply Fin.ext
      match y with
      | ⟨0, _⟩ => exact hx0.symm
      | ⟨1, _⟩ => change (x 1).val = d.val; omega
    exact (turn_at (φ := .f32) _ 0 0 rfl slices_S64x1024_o0_0_S64x128 r d).trans (k0 0 r d)
end

end Cert.AttnKer

end

end
-- ==== Proof.KGrad.lean ====
/- What the backward call's block computes from its inputs, head by head, and that these are the tile's gradients. -/
module

public import proofs.«01_k».proof.Proof.KFwd

@[expose] public section

set_option maxRecDepth 16384

noncomputable section

namespace Cert.AttnKer

open Cert.KernelIdeal Cert.KernelIdeal.Gen Idealize.ShloMosaic Cert.Attn Finset

/-- A head's part of the sums for the sinks, at its one word. -/
theorem part_at (f : FVec Ideal S1x1024 .f32) (p : FVec Ideal S1x1 .f32) (g : Fin 8) (o : ℕ) (ho : o = g.val * 128) (hs) :
    addf p (shapeCast S1x1 (multiReduction .add [1] S1 (extractStridedSlice S1x128 ![0, o] f hs) 0x00000000#32 reduces_S1x128_S1 (.inl rfl) rfl) shapeCasts_S1_S1x1) (ix2 0 0)
      = p (ix2 0 0) + ∑ i, f (ix2 0 (col g i)) := by
  subst ho
  pointwise
  refine congrArg (p (ix2 0 0) + ·) (Finset.sum_congr rfl fun i _ => ?_)
  refine congrArg f ?_
  funext y
  apply Fin.ext
  match y with
  | ⟨0, _⟩ => rfl
  | ⟨1, _⟩ => simp [col, ix2]

variable (x0 : FVec Ideal S1x16 .f32) (x1 : FVec Ideal S1x256x1024 .f32) (x2 : FVec Ideal S128x1024 .bf16) (x3 x4 x5 x6 : FVec Ideal S128x128 .bf16)
  (x7 x8 : FVec Ideal S128x1024 .f32)

/-- The products of the outputs and their gradients. -/
def prodK : FVec Ideal S128x1024 .f32 := mulf x8 (shapeCast S128x1024 x7 shapeCasts_S128x1024_S128x1024)

theorem prodK_at (i : Fin 128) (c : Fin 1024) : prodK x7 x8 (ix2 i c) = x8 (ix2 i c) * x7 (ix2 i c) := by
  pointwise [prodK]

theorem ones_at (d : Fin 64) : k2_pay4 (F := Ideal) (ix2 0 d) = 1 := by
  pointwise [k2_pay4]

def stX0 : FVec Ideal S256x1024 .f32 := stK (band0 x3 x4) (stack0 x2) (biasK x1)
def pnX0 : FVec Ideal S256x1024 .f32 := pnK (stX0 x1 x2 x3 x4) (sinks0 x0)
def dlX0 : FVec Ideal S1x1024 .f32 := deltaK k2_pay4 (pstack0 (prodK x7 x8))
def dsX0 : FVec Ideal S256x1024 .bf16 := dsK (band0 x5 x6) (gstack0 x8) (pnX0 x0 x1 x2 x3 x4) (dlX0 x7 x8)
def dvX0 : FVec Ideal S256x64 .f32 := dvK (truncf .bf16 (pnX0 x0 x1 x2 x3 x4) bitsLt_bf16_f32) (gstack0 x8)
def dkX0 : FVec Ideal S256x64 .f32 := dvK (dsX0 x0 x1 x2 x3 x4 x5 x6 x7 x8) (stack0 x2)
def dqX0 : FVec Ideal S64x1024 .f32 := dqK (band0 x3 x4) (dsX0 x0 x1 x2 x3 x4 x5 x6 x7 x8)
def srX0 : FVec Ideal S1x1024 .f32 := dsrK (stX0 x1 x2 x3 x4) (sinks0 x0) (dlX0 x7 x8)

def stX1 : FVec Ideal S256x1024 .f32 := stK (band1 x3 x4) (stack1 x2) (biasK x1)
def pnX1 : FVec Ideal S256x1024 .f32 := pnK (stX1 x1 x2 x3 x4) (sinks1 x0)
def dlX1 : FVec Ideal S1x1024 .f32 := deltaK k2_pay4 (pstack1 (prodK x7 x8))
def dsX1 : FVec Ideal S256x1024 .bf16 := dsK (band1 x5 x6) (gstack1 x8) (pnX1 x0 x1 x2 x3 x4) (dlX1 x7 x8)
def dvX1 : FVec Ideal S256x64 .f32 := dvK (truncf .bf16 (pnX1 x0 x1 x2 x3 x4) bitsLt_bf16_f32) (gstack1 x8)
def dkX1 : FVec Ideal S256x64 .f32 := dvK (dsX1 x0 x1 x2 x3 x4 x5 x6 x7 x8) (stack1 x2)
def dqX1 : FVec Ideal S64x1024 .f32 := dqK (band1 x3 x4) (dsX1 x0 x1 x2 x3 x4 x5 x6 x7 x8)
def srX1 : FVec Ideal S1x1024 .f32 := dsrK (stX1 x1 x2 x3 x4) (sinks1 x0) (dlX1 x7 x8)

section Heads

variable {x0 x1 x2 x3 x4 x5 x6 x7 x8} {T : Fin 2 → Tile} (h : Ins T x0 x1 x2 x3 x4 x5 x6)
  (ho : ∀ κ g i d, x7 (ix2 i (qcol κ g d)) = ((T κ).O g i d : EReal)) (hg : ∀ κ g i d, x8 (ix2 i (qcol κ g d)) = ((T κ).G g i d : EReal))
include h ho hg

theorem dl0 (g : Fin 8) (i : Fin 128) : dlX0 x7 x8 (ix2 0 (col g i)) = ((T 0).Dl g i : EReal) :=
  delta_val (T 0) g i ones_at (fun g i d => by rw [pstack0_at, prodK_at, ho, hg, EReal.coe_mul])

theorem pn0 (s : Fin 256) (g : Fin 8) (i : Fin 128) : pnX0 x0 x1 x2 x3 x4 (ix2 s (col g i)) = ((T 0).Pr g i s : EReal) :=
  pn_val s (T 0) g i (scores0 h) (sink0 h)

theorem gr0 (g : Fin 8) (i : Fin 128) (d : Fin 64) : gstack0 x8 (ix2 (col g i) d) = ((T 0).G g i d : EReal) := by
  rw [gstack0_at, hg]

theorem ds0 (s : Fin 256) (g : Fin 8) (i : Fin 128) : dsX0 x0 x1 x2 x3 x4 x5 x6 x7 x8 (ix2 s (col g i)) = ((T 0).DS g i s : EReal) :=
  ds_val s (T 0) g i (val0 h) (gr0 h ho hg) (pn0 h ho hg) (dl0 h ho hg)

theorem dv0 (s : Fin 256) (d : Fin 64) : dvX0 x0 x1 x2 x3 x4 x8 (ix2 s d) = ((T 0).DV s d : EReal) :=
  dv_val s d (T 0) (fun s g i => pn0 h ho hg s g i) (gr0 h ho hg)

theorem dk0 (s : Fin 256) (d : Fin 64) : dkX0 x0 x1 x2 x3 x4 x5 x6 x7 x8 (ix2 s d) = ((T 0).DK s d : EReal) :=
  dk_val s d (T 0) (ds0 h ho hg) (fun g i d => by rw [stack0_at, h.q])

theorem dq0 (g : Fin 8) (i : Fin 128) (d : Fin 64) : dqX0 x0 x1 x2 x3 x4 x5 x6 x7 x8 (ix2 d (col g i)) = ((T 0).DQ g i d : EReal) :=
  dq_val d (T 0) g i (key0 h) (ds0 h ho hg)

theorem sr0 (g : Fin 8) (i : Fin 128) : srX0 x0 x1 x2 x3 x4 x7 x8 (ix2 0 (col g i)) = ((-((T 0).PS g i) * (T 0).Dl g i : ℝ) : EReal) :=
  dsr_val (T 0) g i (scores0 h) (sink0 h) (dl0 h ho hg)

theorem srs0 (g : Fin 8) : ∑ i, srX0 x0 x1 x2 x3 x4 x7 x8 (ix2 0 (col g i)) = ((T 0).DSK g : EReal) := by
  simp only [sr0 h ho hg, coe_sum]; rfl

theorem dl1 (g : Fin 8) (i : Fin 128) : dlX1 x7 x8 (ix2 0 (col g i)) = ((T 1).Dl g i : EReal) :=
  delta_val (T 1) g i ones_at (fun g i d => by rw [pstack1_at, prodK_at, ho, hg, EReal.coe_mul])

theorem pn1 (s : Fin 256) (g : Fin 8) (i : Fin 128) : pnX1 x0 x1 x2 x3 x4 (ix2 s (col g i)) = ((T 1).Pr g i s : EReal) :=
  pn_val s (T 1) g i (scores1 h) (sink1 h)

theorem gr1 (g : Fin 8) (i : Fin 128) (d : Fin 64) : gstack1 x8 (ix2 (col g i) d) = ((T 1).G g i d : EReal) := by
  rw [gstack1_at, hg]

theorem ds1 (s : Fin 256) (g : Fin 8) (i : Fin 128) : dsX1 x0 x1 x2 x3 x4 x5 x6 x7 x8 (ix2 s (col g i)) = ((T 1).DS g i s : EReal) :=
  ds_val s (T 1) g i (val1 h) (gr1 h ho hg) (pn1 h ho hg) (dl1 h ho hg)

theorem dv1 (s : Fin 256) (d : Fin 64) : dvX1 x0 x1 x2 x3 x4 x8 (ix2 s d) = ((T 1).DV s d : EReal) :=
  dv_val s d (T 1) (fun s g i => pn1 h ho hg s g i) (gr1 h ho hg)

theorem dk1 (s : Fin 256) (d : Fin 64) : dkX1 x0 x1 x2 x3 x4 x5 x6 x7 x8 (ix2 s d) = ((T 1).DK s d : EReal) :=
  dk_val s d (T 1) (ds1 h ho hg) (fun g i d => by rw [stack1_at, h.q])

theorem dq1 (g : Fin 8) (i : Fin 128) (d : Fin 64) : dqX1 x0 x1 x2 x3 x4 x5 x6 x7 x8 (ix2 d (col g i)) = ((T 1).DQ g i d : EReal) :=
  dq_val d (T 1) g i (key1 h) (ds1 h ho hg)

theorem sr1 (g : Fin 8) (i : Fin 128) : srX1 x0 x1 x2 x3 x4 x7 x8 (ix2 0 (col g i)) = ((-((T 1).PS g i) * (T 1).Dl g i : ℝ) : EReal) :=
  dsr_val (T 1) g i (scores1 h) (sink1 h) (dl1 h ho hg)

theorem srs1 (g : Fin 8) : ∑ i, srX1 x0 x1 x2 x3 x4 x7 x8 (ix2 0 (col g i)) = ((T 1).DSK g : EReal) := by
  simp only [sr1 h ho hg, coe_sum]; rfl

end Heads

end Cert.AttnKer

end

end
-- ==== Proof.KWords.lean ====
/- The backward call's words are these, at the first point. -/
module

public import proofs.«01_k».proof.Proof.KGrad

@[expose] public section

set_option maxRecDepth 16384

noncomputable section

namespace Cert.AttnKer

open Cert.KernelIdeal Cert.KernelIdeal.Gen Idealize.ShloMosaic Cert.Attn Finset

variable (c : Dev nD) (i : grid2.Coords) (a1 : Memref sig .tc .smem S1x16 .f32) (h1 : a1.IsWhole) (a2 : Memref sig .tc .vmem S1x256x1024 .f32) (h2 : a2.IsWhole)
  (a3 : Memref sig .tc .vmem S128x1024 .bf16) (h3 : a3.IsWhole) (a4 a5 a6 a7 : Memref sig .tc .vmem S128x128 .bf16) (h4 : a4.IsWhole) (h5 : a5.IsWhole)
  (h6 : a6.IsWhole) (h7 : a7.IsWhole) (a8 a9 a10 : Memref sig .tc .vmem S128x1024 .f32) (h8 : a8.IsWhole) (h9 : a9.IsWhole) (h10 : a10.IsWhole)
  (a11 a12 a13 a14 : Memref sig .tc .vmem S128x128 .f32) (h11 : a11.IsWhole) (h12 : a12.IsWhole) (h13 : a13.IsWhole) (h14 : a14.IsWhole)
  (a15 : Memref sig .tc .vmem S1x16 .f32) (h15 : a15.IsWhole)
  (x0 : FVec Ideal S1x16 .f32) (x1 : FVec Ideal S1x256x1024 .f32) (x2 : FVec Ideal S128x1024 .bf16) (x3 x4 x5 x6 : FVec Ideal S128x128 .bf16)
  (x7 x8 : FVec Ideal S128x1024 .f32)

theorem biA : kernelRun2_A.sl.v1 (F := Ideal) c a2 h2 x1 = biasK x1 := by
  sl_unfold_words
  repeat rw [View.readAt_eq_ld]
  rw [h2.read_unread]
  repeat first
    | rw [View.ld_unit_zero (S := S128x128) z2]
    | rw [View.ld_unit_zero (S := S128x1024) z2]
    | rw [View.ld_unit_zero (S := S1x256x1024) z3]
  rfl

theorem pdA : kernelRun2_A.sl.v12 (F := Ideal) c a8 h8 a9 h9 x7 x8 = prodK x7 x8 := by
  sl_unfold_words
  repeat rw [View.readAt_eq_ld]
  rw [h8.read_unread, h9.read_unread]
  repeat first
    | rw [View.ld_unit_zero (S := S128x128) z2]
    | rw [View.ld_unit_zero (S := S128x1024) z2]
    | rw [View.ld_unit_zero (S := S1x256x1024) z3]
  rfl

theorem kk0A : kernelRun2_A.sl.v16 (F := Ideal) c a4 h4 a5 h5 x3 x4 = band0 x3 x4 := by
  sl_unfold_words
  repeat rw [View.readAt_eq_ld]
  rw [h4.read_unread, h5.read_unread]
  repeat first
    | rw [View.ld_unit_zero (S := S128x128) z2]
    | rw [View.ld_unit_zero (S := S128x1024) z2]
    | rw [View.ld_unit_zero (S := S1x256x1024) z3]
  rfl

theorem vv0A : kernelRun2_A.sl.v17 (F := Ideal) c a6 h6 a7 h7 x5 x6 = band0 x5 x6 := by
  sl_unfold_words
  repeat rw [View.readAt_eq_ld]
  rw [h6.read_unread, h7.read_unread]
  repeat first
    | rw [View.ld_unit_zero (S := S128x128) z2]
    | rw [View.ld_unit_zero (S := S128x1024) z2]
    | rw [View.ld_unit_zero (S := S1x256x1024) z3]
  rfl

theorem q0A : kernelRun2_A.sl.v26 (F := Ideal) c a3 h3 x2 = stack0 x2 := by
  sl_unfold_words
  repeat rw [View.readAt_eq_ld]
  rw [h3.read_unread]
  repeat first
    | rw [View.ld_unit_zero (S := S128x128) z2]
    | rw [View.ld_unit_zero (S := S128x1024) z2]
    | rw [View.ld_unit_zero (S := S1x256x1024) z3]
  rfl

theorem do0A : kernelRun2_A.sl.v36 (F := Ideal) c a9 h9 x8 = gstack0 x8 := by
  sl_unfold_words
  repeat rw [View.readAt_eq_ld]
  rw [h9.read_unread]
  repeat first
    | rw [View.ld_unit_zero (S := S128x128) z2]
    | rw [View.ld_unit_zero (S := S128x1024) z2]
    | rw [View.ld_unit_zero (S := S1x256x1024) z3]
  rfl

theorem sk0A : kernelRun2_A.sl.v64 (F := Ideal) c a1 h1 x0 = sinks0 x0 := by
  sl_unfold_words
  repeat rw [View.readAt_eq_ld]
  rw [h1.read_unread]
  repeat first
    | rw [View.ld_unit_zero (S := S128x128) z2]
    | rw [View.ld_unit_zero (S := S128x1024) z2]
    | rw [View.ld_unit_zero (S := S1x256x1024) z3]
  rfl

theorem pr0A : kernelRun2_A.sl.v45 (F := Ideal) c a8 h8 a9 h9 x7 x8 = pstack0 (prodK x7 x8) := by
  unfold kernelRun2_A.sl.v45 kernelRun2_A.sl.v44 kernelRun2_A.sl.v43 kernelRun2_A.sl.v42 kernelRun2_A.sl.v41 kernelRun2_A.sl.v40 kernelRun2_A.sl.v39 kernelRun2_A.sl.v38 kernelRun2_A.sl.v37
  rw [pdA]
  rfl

theorem st0A : kernelRun2_A.sl.v47 (F := Ideal) c a2 h2 a3 h3 a4 h4 a5 h5 x1 x2 x3 x4 = stX0 x1 x2 x3 x4 := by
  unfold kernelRun2_A.sl.v47 kernelRun2_A.sl.v46
  rw [kk0A, q0A, biA]
  rfl

theorem mt0A : kernelRun2_A.sl.v67 (F := Ideal) c a1 h1 a2 h2 a3 h3 a4 h4 a5 h5 x0 x1 x2 x3 x4 = mtK (stX0 x1 x2 x3 x4) (sinks0 x0) := by
  unfold kernelRun2_A.sl.v67 kernelRun2_A.sl.v66 kernelRun2_A.sl.v65
  rw [st0A, sk0A]
  rfl

theorem pt0A : kernelRun2_A.sl.v70 (F := Ideal) c a1 h1 a2 h2 a3 h3 a4 h4 a5 h5 x0 x1 x2 x3 x4 = ptK (stX0 x1 x2 x3 x4) (sinks0 x0) := by
  unfold kernelRun2_A.sl.v70 kernelRun2_A.sl.v69 kernelRun2_A.sl.v68
  rw [st0A, mt0A]
  rfl

theorem es0A : kernelRun2_A.sl.v72 (F := Ideal) c a1 h1 a2 h2 a3 h3 a4 h4 a5 h5 x0 x1 x2 x3 x4 = esK (stX0 x1 x2 x3 x4) (sinks0 x0) := by
  unfold kernelRun2_A.sl.v72 kernelRun2_A.sl.v71
  rw [sk0A, mt0A]
  rfl

theorem inv0A : kernelRun2_A.sl.v77 (F := Ideal) c a1 h1 a2 h2 a3 h3 a4 h4 a5 h5 x0 x1 x2 x3 x4 = invK (stX0 x1 x2 x3 x4) (sinks0 x0) := by
  unfold kernelRun2_A.sl.v77 kernelRun2_A.sl.v76 kernelRun2_A.sl.v75 kernelRun2_A.sl.v74 kernelRun2_A.sl.v73
  rw [pt0A, es0A]
  rfl

theorem pn0A : kernelRun2_A.sl.v80 (F := Ideal) c a1 h1 a2 h2 a3 h3 a4 h4 a5 h5 x0 x1 x2 x3 x4 = pnX0 x0 x1 x2 x3 x4 := by
  unfold kernelRun2_A.sl.v80 kernelRun2_A.sl.v79
  rw [pt0A, inv0A]
  rfl

theorem dl0A : kernelRun2_A.sl.v88 (F := Ideal) c a8 h8 a9 h9 x7 x8 = dlX0 x7 x8 := by
  unfold kernelRun2_A.sl.v88 kernelRun2_A.sl.v87 kernelRun2_A.sl.v86 kernelRun2_A.sl.v85 kernelRun2_A.sl.v84 kernelRun2_A.sl.v83 kernelRun2_A.sl.v82 kernelRun2_A.sl.v81 kernelRun2_A.sl.v8
  rw [pr0A]
  rfl

theorem dv0A : kernelRun2_A.sl.v90 (F := Ideal) c a1 h1 a2 h2 a3 h3 a4 h4 a5 h5 a9 h9 x0 x1 x2 x3 x4 x8 = dvX0 x0 x1 x2 x3 x4 x8 := by
  unfold kernelRun2_A.sl.v90 kernelRun2_A.sl.v89
  rw [pn0A, do0A]
  rfl

theorem ds0A : kernelRun2_A.sl.v95 (F := Ideal) c a1 h1 a2 h2 a3 h3 a4 h4 a5 h5 a6 h6 a7 h7 a8 h8 a9 h9 x0 x1 x2 x3 x4 x5 x6 x7 x8 = dsX0 x0 x1 x2 x3 x4 x5 x6 x7 x8 := by
  unfold kernelRun2_A.sl.v95 kernelRun2_A.sl.v94 kernelRun2_A.sl.v93 kernelRun2_A.sl.v92 kernelRun2_A.sl.v91
  rw [pn0A, vv0A, do0A, dl0A]
  rfl

theorem dk0A : kernelRun2_A.sl.v96 (F := Ideal) c a1 h1 a2 h2 a3 h3 a4 h4 a5 h5 a6 h6 a7 h7 a8 h8 a9 h9 x0 x1 x2 x3 x4 x5 x6 x7 x8 = dkX0 x0 x1 x2 x3 x4 x5 x6 x7 x8 := by
  unfold kernelRun2_A.sl.v96
  rw [ds0A, q0A]
  rfl

theorem dq0A : kernelRun2_A.sl.v97 (F := Ideal) c a1 h1 a2 h2 a3 h3 a4 h4 a5 h5 a6 h6 a7 h7 a8 h8 a9 h9 x0 x1 x2 x3 x4 x5 x6 x7 x8 = dqX0 x0 x1 x2 x3 x4 x5 x6 x7 x8 := by
  unfold kernelRun2_A.sl.v97
  rw [kk0A, ds0A]
  rfl

theorem sr0A : kernelRun2_A.sl.v100 (F := Ideal) c a1 h1 a2 h2 a3 h3 a4 h4 a5 h5 a8 h8 a9 h9 x0 x1 x2 x3 x4 x7 x8 = srX0 x0 x1 x2 x3 x4 x7 x8 := by
  unfold kernelRun2_A.sl.v100 kernelRun2_A.sl.v99 kernelRun2_A.sl.v98 kernelRun2_A.sl.v78
  rw [es0A, inv0A, dl0A]
  rfl

theorem kk1A : kernelRun2_A.sl.v181 (F := Ideal) c a4 h4 a5 h5 x3 x4 = band1 x3 x4 := by
  sl_unfold_words
  repeat rw [View.readAt_eq_ld]
  rw [h4.read_unread, h5.read_unread]
  repeat first
    | rw [View.ld_unit_zero (S := S128x128) z2]
    | rw [View.ld_unit_zero (S := S128x1024) z2]
    | rw [View.ld_unit_zero (S := S1x256x1024) z3]
  rfl

theorem vv1A : kernelRun2_A.sl.v182 (F := Ideal) c a6 h6 a7 h7 x5 x6 = band1 x5 x6 := by
  sl_unfold_words
  repeat rw [View.readAt_eq_ld]
  rw [h6.read_unread, h7.read_unread]
  repeat first
    | rw [View.ld_unit_zero (S := S128x128) z2]
    | rw [View.ld_unit_zero (S := S128x1024) z2]
    | rw [View.ld_unit_zero (S := S1x256x1024) z3]
  rfl

theorem q1A : kernelRun2_A.sl.v191 (F := Ideal) c a3 h3 x2 = stack1 x2 := by
  sl_unfold_words
  repeat rw [View.readAt_eq_ld]
  rw [h3.read_unread]
  repeat first
    | rw [View.ld_unit_zero (S := S128x128) z2]
    | rw [View.ld_unit_zero (S := S128x1024) z2]
    | rw [View.ld_unit_zero (S := S1x256x1024) z3]
  rfl

theorem do1A : kernelRun2_A.sl.v201 (F := Ideal) c a9 h9 x8 = gstack1 x8 := by
  sl_unfold_words
  repeat rw [View.readAt_eq_ld]
  rw [h9.read_unread]
  repeat first
    | rw [View.ld_unit_zero (S := S128x128) z2]
    | rw [View.ld_unit_zero (S := S128x1024) z2]
    | rw [View.ld_unit_zero (S := S1x256x1024) z3]
  rfl

theorem sk1A : kernelRun2_A.sl.v229 (F := Ideal) c a1 h1 x0 = sinks1 x0 := by
  sl_unfold_words
  repeat rw [View.readAt_eq_ld]
  rw [h1.read_unread]
  repeat first
    | rw [View.ld_unit_zero (S := S128x128) z2]
    | rw [View.ld_unit_zero (S := S128x1024) z2]
    | rw [View.ld_unit_zero (S := S1x256x1024) z3]
  rfl

theorem pr1A : kernelRun2_A.sl.v210 (F := Ideal) c a8 h8 a9 h9 x7 x8 = pstack1 (prodK x7 x8) := by
  unfold kernelRun2_A.sl.v210 kernelRun2_A.sl.v209 kernelRun2_A.sl.v208 kernelRun2_A.sl.v207 kernelRun2_A.sl.v206 kernelRun2_A.sl.v205 kernelRun2_A.sl.v204 kernelRun2_A.sl.v203 kernelRun2_A.sl.v202
  rw [pdA]
  rfl

theorem st1A : kernelRun2_A.sl.v212 (F := Ideal) c a2 h2 a3 h3 a4 h4 a5 h5 x1 x2 x3 x4 = stX1 x1 x2 x3 x4 := by
  unfold kernelRun2_A.sl.v212 kernelRun2_A.sl.v211
  rw [kk1A, q1A, biA]
  rfl

theorem mt1A : kernelRun2_A.sl.v232 (F := Ideal) c a1 h1 a2 h2 a3 h3 a4 h4 a5 h5 x0 x1 x2 x3 x4 = mtK (stX1 x1 x2 x3 x4) (sinks1 x0) := by
  unfold kernelRun2_A.sl.v232 kernelRun2_A.sl.v231 kernelRun2_A.sl.v230
  rw [st1A, sk1A]
  rfl

theorem pt1A : kernelRun2_A.sl.v235 (F := Ideal) c a1 h1 a2 h2 a3 h3 a4 h4 a5 h5 x0 x1 x2 x3 x4 = ptK (stX1 x1 x2 x3 x4) (sinks1 x0) := by
  unfold kernelRun2_A.sl.v235 kernelRun2_A.sl.v234 kernelRun2_A.sl.v233
  rw [st1A, mt1A]
  rfl

theorem es1A : kernelRun2_A.sl.v237 (F := Ideal) c a1 h1 a2 h2 a3 h3 a4 h4 a5 h5 x0 x1 x2 x3 x4 = esK (stX1 x1 x2 x3 x4) (sinks1 x0) := by
  unfold kernelRun2_A.sl.v237 kernelRun2_A.sl.v236
  rw [sk1A, mt1A]
  rfl

theorem inv1A : kernelRun2_A.sl.v242 (F := Ideal) c a1 h1 a2 h2 a3 h3 a4 h4 a5 h5 x0 x1 x2 x3 x4 = invK (stX1 x1 x2 x3 x4) (sinks1 x0) := by
  unfold kernelRun2_A.sl.v242 kernelRun2_A.sl.v240 kernelRun2_A.sl.v239 kernelRun2_A.sl.v238 kernelRun2_A.sl.v76
  rw [pt1A, es1A]
  rfl

theorem pn1A : kernelRun2_A.sl.v245 (F := Ideal) c a1 h1 a2 h2 a3 h3 a4 h4 a5 h5 x0 x1 x2 x3 x4 = pnX1 x0 x1 x2 x3 x4 := by
  unfold kernelRun2_A.sl.v245 kernelRun2_A.sl.v244
  rw [pt1A, inv1A]
  rfl

theorem dl1A : kernelRun2_A.sl.v253 (F := Ideal) c a8 h8 a9 h9 x7 x8 = dlX1 x7 x8 := by
  unfold kernelRun2_A.sl.v253 kernelRun2_A.sl.v252 kernelRun2_A.sl.v251 kernelRun2_A.sl.v250 kernelRun2_A.sl.v249 kernelRun2_A.sl.v248 kernelRun2_A.sl.v247 kernelRun2_A.sl.v246 kernelRun2_A.sl.v8
  rw [pr1A]
  rfl

theorem dv1A : kernelRun2_A.sl.v255 (F := Ideal) c a1 h1 a2 h2 a3 h3 a4 h4 a5 h5 a9 h9 x0 x1 x2 x3 x4 x8 = dvX1 x0 x1 x2 x3 x4 x8 := by
  unfold kernelRun2_A.sl.v255 kernelRun2_A.sl.v254
  rw [pn1A, do1A]
  rfl

theorem ds1A : kernelRun2_A.sl.v260 (F := Ideal) c a1 h1 a2 h2 a3 h3 a4 h4 a5 h5 a6 h6 a7 h7 a8 h8 a9 h9 x0 x1 x2 x3 x4 x5 x6 x7 x8 = dsX1 x0 x1 x2 x3 x4 x5 x6 x7 x8 := by
  unfold kernelRun2_A.sl.v260 kernelRun2_A.sl.v259 kernelRun2_A.sl.v258 kernelRun2_A.sl.v257 kernelRun2_A.sl.v256
  rw [pn1A, vv1A, do1A, dl1A]
  rfl

theorem dk1A : kernelRun2_A.sl.v261 (F := Ideal) c a1 h1 a2 h2 a3 h3 a4 h4 a5 h5 a6 h6 a7 h7 a8 h8 a9 h9 x0 x1 x2 x3 x4 x5 x6 x7 x8 = dkX1 x0 x1 x2 x3 x4 x5 x6 x7 x8 := by
  unfold kernelRun2_A.sl.v261
  rw [ds1A, q1A]
  rfl

theorem dq1A : kernelRun2_A.sl.v262 (F := Ideal) c a1 h1 a2 h2 a3 h3 a4 h4 a5 h5 a6 h6 a7 h7 a8 h8 a9 h9 x0 x1 x2 x3 x4 x5 x6 x7 x8 = dqX1 x0 x1 x2 x3 x4 x5 x6 x7 x8 := by
  unfold kernelRun2_A.sl.v262
  rw [kk1A, ds1A]
  rfl

theorem sr1A : kernelRun2_A.sl.v265 (F := Ideal) c a1 h1 a2 h2 a3 h3 a4 h4 a5 h5 a8 h8 a9 h9 x0 x1 x2 x3 x4 x7 x8 = srX1 x0 x1 x2 x3 x4 x7 x8 := by
  unfold kernelRun2_A.sl.v265 kernelRun2_A.sl.v264 kernelRun2_A.sl.v243 kernelRun2_A.sl.v98
  rw [es1A, inv1A, dl1A]
  rfl

end Cert.AttnKer

end

end
-- ==== Proof.KDqA.lean ====
/- The gradient of the queries, at the first point. -/
module

public import proofs.«01_k».proof.Proof.KWords

@[expose] public section

set_option maxRecDepth 16384

noncomputable section

namespace Cert.AttnKer

open Cert.KernelIdeal Cert.KernelIdeal.Gen Idealize.ShloMosaic Cert.Attn Finset

variable (c : Dev nD) (i : grid2.Coords) (a1 : Memref sig .tc .smem S1x16 .f32) (h1 : a1.IsWhole) (a2 : Memref sig .tc .vmem S1x256x1024 .f32) (h2 : a2.IsWhole)
  (a3 : Memref sig .tc .vmem S128x1024 .bf16) (h3 : a3.IsWhole) (a4 a5 a6 a7 : Memref sig .tc .vmem S128x128 .bf16) (h4 : a4.IsWhole) (h5 : a5.IsWhole)
  (h6 : a6.IsWhole) (h7 : a7.IsWhole) (a8 a9 a10 : Memref sig .tc .vmem S128x1024 .f32) (h8 : a8.IsWhole) (h9 : a9.IsWhole) (h10 : a10.IsWhole)
  (a11 a12 a13 a14 : Memref sig .tc .vmem S128x128 .f32) (h11 : a11.IsWhole) (h12 : a12.IsWhole) (h13 : a13.IsWhole) (h14 : a14.IsWhole)
  (a15 : Memref sig .tc .vmem S1x16 .f32) (h15 : a15.IsWhole)
  (hc : cond2_0 i)
  (x0 : FVec Ideal S1x16 .f32) (x1 : FVec Ideal S1x256x1024 .f32) (x2 : FVec Ideal S128x1024 .bf16) (x3 x4 x5 x6 : FVec Ideal S128x128 .bf16)
  (x7 x8 : FVec Ideal S128x1024 .f32)

/-- The gradient of the queries. -/
theorem dqA_val {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (g : Fin 8) (r : Fin 128) (d : Fin 64) :
    out2_A_9 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 (ix2 r (qcol κ g d)) = ((T κ).DQ g r d : EReal) := by
  unfold out2_A_9
  rw [View.read_writes_eq_canon _ _ _ (cover2_A_9 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8)]
  have hc' := cover2_A_9 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8
  unfold kernelRun2_A at hc' ⊢
  dsimp only at hc' ⊢
  have k0 : ∀ g r d, kernelRun2_A.sl.v97 (F := Ideal) c a1 h1 a2 h2 a3 h3 a4 h4 a5 h5 a6 h6 a7 h7 a8 h8 a9 h9 x0 x1 x2 x3 x4 x5 x6 x7 x8 (ix2 d (col g r)) = ((T 0).DQ g r d : EReal) :=
    fun g r d => by rw [dq0A]; exact dq0 h ho hg g r d
  have k1 : ∀ g r d, kernelRun2_A.sl.v262 (F := Ideal) c a1 h1 a2 h2 a3 h3 a4 h4 a5 h5 a6 h6 a7 h7 a8 h8 a9 h9 x0 x1 x2 x3 x4 x5 x6 x7 x8 (ix2 d (col g r)) = ((T 1).DQ g r d : EReal) :=
    fun g r d => by rw [dq1A]; exact dq1 h ho hg g r d
  have hq : (ix2 r (qcol κ g d) 1).val = κ.val * 512 + g.val * 64 + d.val := rfl
  canon_tiles x hx using hc' _
  case piece0 =>
    obtain ⟨rfl, rfl⟩ : κ = 1 ∧ g = 7 := ⟨Fin.ext (by change κ.val = 1; omega), Fin.ext (by change g.val = 7; omega)⟩
    obtain rfl : x = ix2 r d := by
      funext y; apply Fin.ext
      match y with
      | ⟨0, _⟩ => exact hx0.symm
      | ⟨1, _⟩ => change (x 1).val = d.val; omega
    exact (turn_at (φ := .f32) _ 7 896 rfl slices_S64x1024_o0_896_S64x128 r d).trans (k1 7 r d)
  case piece1 =>
    obtain ⟨rfl, rfl⟩ : κ = 1 ∧ g = 6 := ⟨Fin.ext (by change κ.val = 1; omega), Fin.ext (by change g.val = 6; omega)⟩
    obtain rfl : x = ix2 r d := by
      funext y; apply Fin.ext
      match y with
      | ⟨0, _⟩ => exact hx0.symm
      | ⟨1, _⟩ => change (x 1).val = d.val; omega
    exact (turn_at (φ := .f32) _ 6 768 rfl slices_S64x1024_o0_768_S64x128 r d).trans (k1 6 r d)
  case piece2 =>
    obtain ⟨rfl, rfl⟩ : κ = 1 ∧ g = 5 := ⟨Fin.ext (by change κ.val = 1; omega), Fin.ext (by change g.val = 5; omega)⟩
    obtain rfl : x = ix2 r d := by
      funext y; apply Fin.ext
      match y with
      | ⟨0, _⟩ => exact hx0.symm
      | ⟨1, _⟩ => change (x 1).val = d.val; omega
    exact (turn_at (φ := .f32) _ 5 640 rfl slices_S64x1024_o0_640_S64x128 r d).trans (k1 5 r d)
  case piece3 =>
    obtain ⟨rfl, rfl⟩ : κ = 1 ∧ g = 4 := ⟨Fin.ext (by change κ.val = 1; omega), Fin.ext (by change g.val = 4; omega)⟩
    obtain rfl : x = ix2 r d := by
      funext y; apply Fin.ext
      match y with
      | ⟨0, _⟩ => exact hx0.symm
      | ⟨1, _⟩ => change (x 1).val = d.val; omega
    exact (turn_at (φ := .f32) _ 4 512 rfl slices_S64x1024_o0_512_S64x128 r d).trans (k1 4 r d)
  case piece4 =>
    obtain ⟨rfl, rfl⟩ : κ = 1 ∧ g = 3 := ⟨Fin.ext (by change κ.val = 1; omega), Fin.ext (by change g.val = 3; omega)⟩
    obtain rfl : x = ix2 r d := by
      funext y; apply Fin.ext
      match y with
      | ⟨0, _⟩ => exact hx0.symm
      | ⟨1, _⟩ => change (x 1).val = d.val; omega
    exact (turn_at (φ := .f32) _ 3 384 rfl slices_S64x1024_o0_384_S64x128 r d).trans (k1 3 r d)
  case piece5 =>
    obtain ⟨rfl, rfl⟩ : κ = 1 ∧ g = 2 := ⟨Fin.ext (by change κ.val = 1; omega), Fin.ext (by change g.val = 2; omega)⟩
    obtain rfl : x = ix2 r d := by
      funext y; apply Fin.ext
      match y with
      | ⟨0, _⟩ => exact hx0.symm
      | ⟨1, _⟩ => change (x 1).val = d.val; omega
    exact (turn_at (φ := .f32) _ 2 256 rfl slices_S64x1024_o0_256_S64x128 r d).trans (k1 2 r d)
  case piece6 =>
    obtain ⟨rfl, rfl⟩ : κ = 1 ∧ g = 1 := ⟨Fin.ext (by change κ.val = 1; omega), Fin.ext (by change g.val = 1; omega)⟩
    obtain rfl : x = ix2 r d := by
      funext y; apply Fin.ext
      match y with
      | ⟨0, _⟩ => exact hx0.symm
      | ⟨1, _⟩ => change (x 1).val = d.val; omega
    exact (turn_at (φ := .f32) _ 1 128 rfl slices_S64x1024_o0_128_S64x128 r d).trans (k1 1 r d)
  case piece7 =>
    obtain ⟨rfl, rfl⟩ : κ = 1 ∧ g = 0 := ⟨Fin.ext (by change κ.val = 1; omega), Fin.ext (by change g.val = 0; omega)⟩
    obtain rfl : x = ix2 r d := by
      funext y; apply Fin.ext
      match y with
      | ⟨0, _⟩ => exact hx0.symm
      | ⟨1, _⟩ => change (x 1).val = d.val; omega
    exact (turn_at (φ := .f32) _ 0 0 rfl slices_S64x1024_o0_0_S64x128 r d).trans (k1 0 r d)
  case piece8 =>
    obtain ⟨rfl, rfl⟩ : κ = 0 ∧ g = 7 := ⟨Fin.ext (by change κ.val = 0; omega), Fin.ext (by change g.val = 7; omega)⟩
    obtain rfl : x = ix2 r d := by
      funext y; apply Fin.ext
      match y with
      | ⟨0, _⟩ => exact hx0.symm
      | ⟨1, _⟩ => change (x 1).val = d.val; omega
    exact (turn_at (φ := .f32) _ 7 896 rfl slices_S64x1024_o0_896_S64x128 r d).trans (k0 7 r d)
  case piece9 =>
    obtain ⟨rfl, rfl⟩ : κ = 0 ∧ g = 6 := ⟨Fin.ext (by change κ.val = 0; omega), Fin.ext (by change g.val = 6; omega)⟩
    obtain rfl : x = ix2 r d := by
      funext y; apply Fin.ext
      match y with
      | ⟨0, _⟩ => exact hx0.symm
      | ⟨1, _⟩ => change (x 1).val = d.val; omega
    exact (turn_at (φ := .f32) _ 6 768 rfl slices_S64x1024_o0_768_S64x128 r d).trans (k0 6 r d)
  case piece10 =>
    obtain ⟨rfl, rfl⟩ : κ = 0 ∧ g = 5 := ⟨Fin.ext (by change κ.val = 0; omega), Fin.ext (by change g.val = 5; omega)⟩
    obtain rfl : x = ix2 r d := by
      funext y; apply Fin.ext
      match y with
      | ⟨0, _⟩ => exact hx0.symm
      | ⟨1, _⟩ => change (x 1).val = d.val; omega
    exact (turn_at (φ := .f32) _ 5 640 rfl slices_S64x1024_o0_640_S64x128 r d).trans (k0 5 r d)
  case piece11 =>
    obtain ⟨rfl, rfl⟩ : κ = 0 ∧ g = 4 := ⟨Fin.ext (by change κ.val = 0; omega), Fin.ext (by change g.val = 4; omega)⟩
    obtain rfl : x = ix2 r d := by
      funext y; apply Fin.ext
      match y with
      | ⟨0, _⟩ => exact hx0.symm
      | ⟨1, _⟩ => change (x 1).val = d.val; omega
    exact (turn_at (φ := .f32) _ 4 512 rfl slices_S64x1024_o0_512_S64x128 r d).trans (k0 4 r d)
  case piece12 =>
    obtain ⟨rfl, rfl⟩ : κ = 0 ∧ g = 3 := ⟨Fin.ext (by change κ.val = 0; omega), Fin.ext (by change g.val = 3; omega)⟩
    obtain rfl : x = ix2 r d := by
      funext y; apply Fin.ext
      match y with
      | ⟨0, _⟩ => exact hx0.symm
      | ⟨1, _⟩ => change (x 1).val = d.val; omega
    exact (turn_at (φ := .f32) _ 3 384 rfl slices_S64x1024_o0_384_S64x128 r d).trans (k0 3 r d)
  case piece13 =>
    obtain ⟨rfl, rfl⟩ : κ = 0 ∧ g = 2 := ⟨Fin.ext (by change κ.val = 0; omega), Fin.ext (by change g.val = 2; omega)⟩
    obtain rfl : x = ix2 r d := by
      funext y; apply Fin.ext
      match y with
      | ⟨0, _⟩ => exact hx0.symm
      | ⟨1, _⟩ => change (x 1).val = d.val; omega
    exact (turn_at (φ := .f32) _ 2 256 rfl slices_S64x1024_o0_256_S64x128 r d).trans (k0 2 r d)
  case piece14 =>
    obtain ⟨rfl, rfl⟩ : κ = 0 ∧ g = 1 := ⟨Fin.ext (by change κ.val = 0; omega), Fin.ext (by change g.val = 1; omega)⟩
    obtain rfl : x = ix2 r d := by
      funext y; apply Fin.ext
      match y with
      | ⟨0, _⟩ => exact hx0.symm
      | ⟨1, _⟩ => change (x 1).val = d.val; omega
    exact (turn_at (φ := .f32) _ 1 128 rfl slices_S64x1024_o0_128_S64x128 r d).trans (k0 1 r d)
  case piece15 =>
    obtain ⟨rfl, rfl⟩ : κ = 0 ∧ g = 0 := ⟨Fin.ext (by change κ.val = 0; omega), Fin.ext (by change g.val = 0; omega)⟩
    obtain rfl : x = ix2 r d := by
      funext y; apply Fin.ext
      match y with
      | ⟨0, _⟩ => exact hx0.symm
      | ⟨1, _⟩ => change (x 1).val = d.val; omega
    exact (turn_at (φ := .f32) _ 0 0 rfl slices_S64x1024_o0_0_S64x128 r d).trans (k0 0 r d)

end Cert.AttnKer

end

end
-- ==== Proof.KWordsB.lean ====
/- The backward call's words are these, at the first point. -/
module

public import proofs.«01_k».proof.Proof.KGrad

@[expose] public section

set_option maxRecDepth 16384

noncomputable section

namespace Cert.AttnKer

open Cert.KernelIdeal Cert.KernelIdeal.Gen Idealize.ShloMosaic Cert.Attn Finset

variable (c : Dev nD) (i : grid2.Coords) (a1 : Memref sig .tc .smem S1x16 .f32) (h1 : a1.IsWhole) (a2 : Memref sig .tc .vmem S1x256x1024 .f32) (h2 : a2.IsWhole)
  (a3 : Memref sig .tc .vmem S128x1024 .bf16) (h3 : a3.IsWhole) (a4 a5 a6 a7 : Memref sig .tc .vmem S128x128 .bf16) (h4 : a4.IsWhole) (h5 : a5.IsWhole)
  (h6 : a6.IsWhole) (h7 : a7.IsWhole) (a8 a9 a10 : Memref sig .tc .vmem S128x1024 .f32) (h8 : a8.IsWhole) (h9 : a9.IsWhole) (h10 : a10.IsWhole)
  (a11 a12 a13 a14 : Memref sig .tc .vmem S128x128 .f32) (h11 : a11.IsWhole) (h12 : a12.IsWhole) (h13 : a13.IsWhole) (h14 : a14.IsWhole)
  (a15 : Memref sig .tc .vmem S1x16 .f32) (h15 : a15.IsWhole)
  (x0 : FVec Ideal S1x16 .f32) (x1 : FVec Ideal S1x256x1024 .f32) (x2 : FVec Ideal S128x1024 .bf16) (x3 x4 x5 x6 : FVec Ideal S128x128 .bf16)
  (x7 x8 : FVec Ideal S128x1024 .f32)

theorem biB : kernelRun2_B.sl.v1 (F := Ideal) c a2 h2 x1 = biasK x1 := by
  sl_unfold_words
  repeat rw [View.readAt_eq_ld]
  rw [h2.read_unread]
  repeat first
    | rw [View.ld_unit_zero (S := S128x128) z2]
    | rw [View.ld_unit_zero (S := S128x1024) z2]
    | rw [View.ld_unit_zero (S := S1x256x1024) z3]
  rfl

theorem pdB : kernelRun2_B.sl.v12 (F := Ideal) c a8 h8 a9 h9 x7 x8 = prodK x7 x8 := by
  sl_unfold_words
  repeat rw [View.readAt_eq_ld]
  rw [h8.read_unread, h9.read_unread]
  repeat first
    | rw [View.ld_unit_zero (S := S128x128) z2]
    | rw [View.ld_unit_zero (S := S128x1024) z2]
    | rw [View.ld_unit_zero (S := S1x256x1024) z3]
  rfl

theorem kk0B : kernelRun2_B.sl.v16 (F := Ideal) c a4 h4 a5 h5 x3 x4 = band0 x3 x4 := by
  sl_unfold_words
  repeat rw [View.readAt_eq_ld]
  rw [h4.read_unread, h5.read_unread]
  repeat first
    | rw [View.ld_unit_zero (S := S128x128) z2]
    | rw [View.ld_unit_zero (S := S128x1024) z2]
    | rw [View.ld_unit_zero (S := S1x256x1024) z3]
  rfl

theorem vv0B : kernelRun2_B.sl.v17 (F := Ideal) c a6 h6 a7 h7 x5 x6 = band0 x5 x6 := by
  sl_unfold_words
  repeat rw [View.readAt_eq_ld]
  rw [h6.read_unread, h7.read_unread]
  repeat first
    | rw [View.ld_unit_zero (S := S128x128) z2]
    | rw [View.ld_unit_zero (S := S128x1024) z2]
    | rw [View.ld_unit_zero (S := S1x256x1024) z3]
  rfl

theorem q0B : kernelRun2_B.sl.v26 (F := Ideal) c a3 h3 x2 = stack0 x2 := by
  sl_unfold_words
  repeat rw [View.readAt_eq_ld]
  rw [h3.read_unread]
  repeat first
    | rw [View.ld_unit_zero (S := S128x128) z2]
    | rw [View.ld_unit_zero (S := S128x1024) z2]
    | rw [View.ld_unit_zero (S := S1x256x1024) z3]
  rfl

theorem do0B : kernelRun2_B.sl.v36 (F := Ideal) c a9 h9 x8 = gstack0 x8 := by
  sl_unfold_words
  repeat rw [View.readAt_eq_ld]
  rw [h9.read_unread]
  repeat first
    | rw [View.ld_unit_zero (S := S128x128) z2]
    | rw [View.ld_unit_zero (S := S128x1024) z2]
    | rw [View.ld_unit_zero (S := S1x256x1024) z3]
  rfl

theorem sk0B : kernelRun2_B.sl.v64 (F := Ideal) c a1 h1 x0 = sinks0 x0 := by
  sl_unfold_words
  repeat rw [View.readAt_eq_ld]
  rw [h1.read_unread]
  repeat first
    | rw [View.ld_unit_zero (S := S128x128) z2]
    | rw [View.ld_unit_zero (S := S128x1024) z2]
    | rw [View.ld_unit_zero (S := S1x256x1024) z3]
  rfl

theorem pr0B : kernelRun2_B.sl.v45 (F := Ideal) c a8 h8 a9 h9 x7 x8 = pstack0 (prodK x7 x8) := by
  unfold kernelRun2_B.sl.v45 kernelRun2_B.sl.v44 kernelRun2_B.sl.v43 kernelRun2_B.sl.v42 kernelRun2_B.sl.v41 kernelRun2_B.sl.v40 kernelRun2_B.sl.v39 kernelRun2_B.sl.v38 kernelRun2_B.sl.v37
  rw [pdB]
  rfl

theorem st0B : kernelRun2_B.sl.v47 (F := Ideal) c a2 h2 a3 h3 a4 h4 a5 h5 x1 x2 x3 x4 = stX0 x1 x2 x3 x4 := by
  unfold kernelRun2_B.sl.v47 kernelRun2_B.sl.v46
  rw [kk0B, q0B, biB]
  rfl

theorem mt0B : kernelRun2_B.sl.v67 (F := Ideal) c a1 h1 a2 h2 a3 h3 a4 h4 a5 h5 x0 x1 x2 x3 x4 = mtK (stX0 x1 x2 x3 x4) (sinks0 x0) := by
  unfold kernelRun2_B.sl.v67 kernelRun2_B.sl.v66 kernelRun2_B.sl.v65
  rw [st0B, sk0B]
  rfl

theorem pt0B : kernelRun2_B.sl.v70 (F := Ideal) c a1 h1 a2 h2 a3 h3 a4 h4 a5 h5 x0 x1 x2 x3 x4 = ptK (stX0 x1 x2 x3 x4) (sinks0 x0) := by
  unfold kernelRun2_B.sl.v70 kernelRun2_B.sl.v69 kernelRun2_B.sl.v68
  rw [st0B, mt0B]
  rfl

theorem es0B : kernelRun2_B.sl.v72 (F := Ideal) c a1 h1 a2 h2 a3 h3 a4 h4 a5 h5 x0 x1 x2 x3 x4 = esK (stX0 x1 x2 x3 x4) (sinks0 x0) := by
  unfold kernelRun2_B.sl.v72 kernelRun2_B.sl.v71
  rw [sk0B, mt0B]
  rfl

theorem inv0B : kernelRun2_B.sl.v77 (F := Ideal) c a1 h1 a2 h2 a3 h3 a4 h4 a5 h5 x0 x1 x2 x3 x4 = invK (stX0 x1 x2 x3 x4) (sinks0 x0) := by
  unfold kernelRun2_B.sl.v77 kernelRun2_B.sl.v76 kernelRun2_B.sl.v75 kernelRun2_B.sl.v74 kernelRun2_B.sl.v73
  rw [pt0B, es0B]
  rfl

theorem pn0B : kernelRun2_B.sl.v80 (F := Ideal) c a1 h1 a2 h2 a3 h3 a4 h4 a5 h5 x0 x1 x2 x3 x4 = pnX0 x0 x1 x2 x3 x4 := by
  unfold kernelRun2_B.sl.v80 kernelRun2_B.sl.v79
  rw [pt0B, inv0B]
  rfl

theorem dl0B : kernelRun2_B.sl.v88 (F := Ideal) c a8 h8 a9 h9 x7 x8 = dlX0 x7 x8 := by
  unfold kernelRun2_B.sl.v88 kernelRun2_B.sl.v87 kernelRun2_B.sl.v86 kernelRun2_B.sl.v85 kernelRun2_B.sl.v84 kernelRun2_B.sl.v83 kernelRun2_B.sl.v82 kernelRun2_B.sl.v81 kernelRun2_B.sl.v8
  rw [pr0B]
  rfl

theorem dv0B : kernelRun2_B.sl.v90 (F := Ideal) c a1 h1 a2 h2 a3 h3 a4 h4 a5 h5 a9 h9 x0 x1 x2 x3 x4 x8 = dvX0 x0 x1 x2 x3 x4 x8 := by
  unfold kernelRun2_B.sl.v90 kernelRun2_B.sl.v89
  rw [pn0B, do0B]
  rfl

theorem ds0B : kernelRun2_B.sl.v95 (F := Ideal) c a1 h1 a2 h2 a3 h3 a4 h4 a5 h5 a6 h6 a7 h7 a8 h8 a9 h9 x0 x1 x2 x3 x4 x5 x6 x7 x8 = dsX0 x0 x1 x2 x3 x4 x5 x6 x7 x8 := by
  unfold kernelRun2_B.sl.v95 kernelRun2_B.sl.v94 kernelRun2_B.sl.v93 kernelRun2_B.sl.v92 kernelRun2_B.sl.v91
  rw [pn0B, vv0B, do0B, dl0B]
  rfl

theorem dk0B : kernelRun2_B.sl.v96 (F := Ideal) c a1 h1 a2 h2 a3 h3 a4 h4 a5 h5 a6 h6 a7 h7 a8 h8 a9 h9 x0 x1 x2 x3 x4 x5 x6 x7 x8 = dkX0 x0 x1 x2 x3 x4 x5 x6 x7 x8 := by
  unfold kernelRun2_B.sl.v96
  rw [ds0B, q0B]
  rfl

theorem dq0B : kernelRun2_B.sl.v97 (F := Ideal) c a1 h1 a2 h2 a3 h3 a4 h4 a5 h5 a6 h6 a7 h7 a8 h8 a9 h9 x0 x1 x2 x3 x4 x5 x6 x7 x8 = dqX0 x0 x1 x2 x3 x4 x5 x6 x7 x8 := by
  unfold kernelRun2_B.sl.v97
  rw [kk0B, ds0B]
  rfl

theorem sr0B : kernelRun2_B.sl.v100 (F := Ideal) c a1 h1 a2 h2 a3 h3 a4 h4 a5 h5 a8 h8 a9 h9 x0 x1 x2 x3 x4 x7 x8 = srX0 x0 x1 x2 x3 x4 x7 x8 := by
  unfold kernelRun2_B.sl.v100 kernelRun2_B.sl.v99 kernelRun2_B.sl.v98 kernelRun2_B.sl.v78
  rw [es0B, inv0B, dl0B]
  rfl

theorem kk1B : kernelRun2_B.sl.v181 (F := Ideal) c a4 h4 a5 h5 x3 x4 = band1 x3 x4 := by
  sl_unfold_words
  repeat rw [View.readAt_eq_ld]
  rw [h4.read_unread, h5.read_unread]
  repeat first
    | rw [View.ld_unit_zero (S := S128x128) z2]
    | rw [View.ld_unit_zero (S := S128x1024) z2]
    | rw [View.ld_unit_zero (S := S1x256x1024) z3]
  rfl

theorem vv1B : kernelRun2_B.sl.v182 (F := Ideal) c a6 h6 a7 h7 x5 x6 = band1 x5 x6 := by
  sl_unfold_words
  repeat rw [View.readAt_eq_ld]
  rw [h6.read_unread, h7.read_unread]
  repeat first
    | rw [View.ld_unit_zero (S := S128x128) z2]
    | rw [View.ld_unit_zero (S := S128x1024) z2]
    | rw [View.ld_unit_zero (S := S1x256x1024) z3]
  rfl

theorem q1B : kernelRun2_B.sl.v191 (F := Ideal) c a3 h3 x2 = stack1 x2 := by
  sl_unfold_words
  repeat rw [View.readAt_eq_ld]
  rw [h3.read_unread]
  repeat first
    | rw [View.ld_unit_zero (S := S128x128) z2]
    | rw [View.ld_unit_zero (S := S128x1024) z2]
    | rw [View.ld_unit_zero (S := S1x256x1024) z3]
  rfl

theorem do1B : kernelRun2_B.sl.v201 (F := Ideal) c a9 h9 x8 = gstack1 x8 := by
  sl_unfold_words
  repeat rw [View.readAt_eq_ld]
  rw [h9.read_unread]
  repeat first
    | rw [View.ld_unit_zero (S := S128x128) z2]
    | rw [View.ld_unit_zero (S := S128x1024) z2]
    | rw [View.ld_unit_zero (S := S1x256x1024) z3]
  rfl

theorem sk1B : kernelRun2_B.sl.v229 (F := Ideal) c a1 h1 x0 = sinks1 x0 := by
  sl_unfold_words
  repeat rw [View.readAt_eq_ld]
  rw [h1.read_unread]
  repeat first
    | rw [View.ld_unit_zero (S := S128x128) z2]
    | rw [View.ld_unit_zero (S := S128x1024) z2]
    | rw [View.ld_unit_zero (S := S1x256x1024) z3]
  rfl

theorem pr1B : kernelRun2_B.sl.v210 (F := Ideal) c a8 h8 a9 h9 x7 x8 = pstack1 (prodK x7 x8) := by
  unfold kernelRun2_B.sl.v210 kernelRun2_B.sl.v209 kernelRun2_B.sl.v208 kernelRun2_B.sl.v207 kernelRun2_B.sl.v206 kernelRun2_B.sl.v205 kernelRun2_B.sl.v204 kernelRun2_B.sl.v203 kernelRun2_B.sl.v202
  rw [pdB]
  rfl

theorem st1B : kernelRun2_B.sl.v212 (F := Ideal) c a2 h2 a3 h3 a4 h4 a5 h5 x1 x2 x3 x4 = stX1 x1 x2 x3 x4 := by
  unfold kernelRun2_B.sl.v212 kernelRun2_B.sl.v211
  rw [kk1B, q1B, biB]
  rfl

theorem mt1B : kernelRun2_B.sl.v232 (F := Ideal) c a1 h1 a2 h2 a3 h3 a4 h4 a5 h5 x0 x1 x2 x3 x4 = mtK (stX1 x1 x2 x3 x4) (sinks1 x0) := by
  unfold kernelRun2_B.sl.v232 kernelRun2_B.sl.v231 kernelRun2_B.sl.v230
  rw [st1B, sk1B]
  rfl

theorem pt1B : kernelRun2_B.sl.v235 (F := Ideal) c a1 h1 a2 h2 a3 h3 a4 h4 a5 h5 x0 x1 x2 x3 x4 = ptK (stX1 x1 x2 x3 x4) (sinks1 x0) := by
  unfold kernelRun2_B.sl.v235 kernelRun2_B.sl.v234 kernelRun2_B.sl.v233
  rw [st1B, mt1B]
  rfl

theorem es1B : kernelRun2_B.sl.v237 (F := Ideal) c a1 h1 a2 h2 a3 h3 a4 h4 a5 h5 x0 x1 x2 x3 x4 = esK (stX1 x1 x2 x3 x4) (sinks1 x0) := by
  unfold kernelRun2_B.sl.v237 kernelRun2_B.sl.v236
  rw [sk1B, mt1B]
  rfl

theorem inv1B : kernelRun2_B.sl.v242 (F := Ideal) c a1 h1 a2 h2 a3 h3 a4 h4 a5 h5 x0 x1 x2 x3 x4 = invK (stX1 x1 x2 x3 x4) (sinks1 x0) := by
  unfold kernelRun2_B.sl.v242 kernelRun2_B.sl.v240 kernelRun2_B.sl.v239 kernelRun2_B.sl.v238 kernelRun2_B.sl.v76
  rw [pt1B, es1B]
  rfl

theorem pn1B : kernelRun2_B.sl.v245 (F := Ideal) c a1 h1 a2 h2 a3 h3 a4 h4 a5 h5 x0 x1 x2 x3 x4 = pnX1 x0 x1 x2 x3 x4 := by
  unfold kernelRun2_B.sl.v245 kernelRun2_B.sl.v244
  rw [pt1B, inv1B]
  rfl

theorem dl1B : kernelRun2_B.sl.v253 (F := Ideal) c a8 h8 a9 h9 x7 x8 = dlX1 x7 x8 := by
  unfold kernelRun2_B.sl.v253 kernelRun2_B.sl.v252 kernelRun2_B.sl.v251 kernelRun2_B.sl.v250 kernelRun2_B.sl.v249 kernelRun2_B.sl.v248 kernelRun2_B.sl.v247 kernelRun2_B.sl.v246 kernelRun2_B.sl.v8
  rw [pr1B]
  rfl

theorem dv1B : kernelRun2_B.sl.v255 (F := Ideal) c a1 h1 a2 h2 a3 h3 a4 h4 a5 h5 a9 h9 x0 x1 x2 x3 x4 x8 = dvX1 x0 x1 x2 x3 x4 x8 := by
  unfold kernelRun2_B.sl.v255 kernelRun2_B.sl.v254
  rw [pn1B, do1B]
  rfl

theorem ds1B : kernelRun2_B.sl.v260 (F := Ideal) c a1 h1 a2 h2 a3 h3 a4 h4 a5 h5 a6 h6 a7 h7 a8 h8 a9 h9 x0 x1 x2 x3 x4 x5 x6 x7 x8 = dsX1 x0 x1 x2 x3 x4 x5 x6 x7 x8 := by
  unfold kernelRun2_B.sl.v260 kernelRun2_B.sl.v259 kernelRun2_B.sl.v258 kernelRun2_B.sl.v257 kernelRun2_B.sl.v256
  rw [pn1B, vv1B, do1B, dl1B]
  rfl

theorem dk1B : kernelRun2_B.sl.v261 (F := Ideal) c a1 h1 a2 h2 a3 h3 a4 h4 a5 h5 a6 h6 a7 h7 a8 h8 a9 h9 x0 x1 x2 x3 x4 x5 x6 x7 x8 = dkX1 x0 x1 x2 x3 x4 x5 x6 x7 x8 := by
  unfold kernelRun2_B.sl.v261
  rw [ds1B, q1B]
  rfl

theorem dq1B : kernelRun2_B.sl.v262 (F := Ideal) c a1 h1 a2 h2 a3 h3 a4 h4 a5 h5 a6 h6 a7 h7 a8 h8 a9 h9 x0 x1 x2 x3 x4 x5 x6 x7 x8 = dqX1 x0 x1 x2 x3 x4 x5 x6 x7 x8 := by
  unfold kernelRun2_B.sl.v262
  rw [kk1B, ds1B]
  rfl

theorem sr1B : kernelRun2_B.sl.v265 (F := Ideal) c a1 h1 a2 h2 a3 h3 a4 h4 a5 h5 a8 h8 a9 h9 x0 x1 x2 x3 x4 x7 x8 = srX1 x0 x1 x2 x3 x4 x7 x8 := by
  unfold kernelRun2_B.sl.v265 kernelRun2_B.sl.v264 kernelRun2_B.sl.v243 kernelRun2_B.sl.v98
  rw [es1B, inv1B, dl1B]
  rfl

end Cert.AttnKer

end

end
-- ==== Proof.KDqB.lean ====
/- The gradient of the queries, at the later points. -/
module

public import proofs.«01_k».proof.Proof.KWordsB

@[expose] public section

set_option maxRecDepth 16384

noncomputable section

namespace Cert.AttnKer

open Cert.KernelIdeal Cert.KernelIdeal.Gen Idealize.ShloMosaic Cert.Attn Finset

variable (c : Dev nD) (i : grid2.Coords) (a1 : Memref sig .tc .smem S1x16 .f32) (h1 : a1.IsWhole) (a2 : Memref sig .tc .vmem S1x256x1024 .f32) (h2 : a2.IsWhole)
  (a3 : Memref sig .tc .vmem S128x1024 .bf16) (h3 : a3.IsWhole) (a4 a5 a6 a7 : Memref sig .tc .vmem S128x128 .bf16) (h4 : a4.IsWhole) (h5 : a5.IsWhole)
  (h6 : a6.IsWhole) (h7 : a7.IsWhole) (a8 a9 a10 : Memref sig .tc .vmem S128x1024 .f32) (h8 : a8.IsWhole) (h9 : a9.IsWhole) (h10 : a10.IsWhole)
  (a11 a12 a13 a14 : Memref sig .tc .vmem S128x128 .f32) (h11 : a11.IsWhole) (h12 : a12.IsWhole) (h13 : a13.IsWhole) (h14 : a14.IsWhole)
  (a15 : Memref sig .tc .vmem S1x16 .f32) (h15 : a15.IsWhole)
  (hc : ¬cond2_0 i)
  (x0 : FVec Ideal S1x16 .f32) (x1 : FVec Ideal S1x256x1024 .f32) (x2 : FVec Ideal S128x1024 .bf16) (x3 x4 x5 x6 : FVec Ideal S128x128 .bf16)
  (x7 x8 : FVec Ideal S128x1024 .f32) (xo : FVec Ideal S1x16 .f32)

/-- The gradient of the queries. -/
theorem dqB_val {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (g : Fin 8) (r : Fin 128) (d : Fin 64) :
    out2_B_9 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo (ix2 r (qcol κ g d)) = ((T κ).DQ g r d : EReal) := by
  unfold out2_B_9
  rw [View.read_writes_eq_canon _ _ _ (cover2_B_9 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo)]
  have hc' := cover2_B_9 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo
  unfold kernelRun2_B at hc' ⊢
  dsimp only at hc' ⊢
  have k0 : ∀ g r d, kernelRun2_B.sl.v97 (F := Ideal) c a1 h1 a2 h2 a3 h3 a4 h4 a5 h5 a6 h6 a7 h7 a8 h8 a9 h9 x0 x1 x2 x3 x4 x5 x6 x7 x8 (ix2 d (col g r)) = ((T 0).DQ g r d : EReal) :=
    fun g r d => by rw [dq0B]; exact dq0 h ho hg g r d
  have k1 : ∀ g r d, kernelRun2_B.sl.v262 (F := Ideal) c a1 h1 a2 h2 a3 h3 a4 h4 a5 h5 a6 h6 a7 h7 a8 h8 a9 h9 x0 x1 x2 x3 x4 x5 x6 x7 x8 (ix2 d (col g r)) = ((T 1).DQ g r d : EReal) :=
    fun g r d => by rw [dq1B]; exact dq1 h ho hg g r d
  have hq : (ix2 r (qcol κ g d) 1).val = κ.val * 512 + g.val * 64 + d.val := rfl
  canon_tiles x hx using hc' _
  case piece0 =>
    obtain ⟨rfl, rfl⟩ : κ = 1 ∧ g = 7 := ⟨Fin.ext (by change κ.val = 1; omega), Fin.ext (by change g.val = 7; omega)⟩
    obtain rfl : x = ix2 r d := by
      funext y; apply Fin.ext
      match y with
      | ⟨0, _⟩ => exact hx0.symm
      | ⟨1, _⟩ => change (x 1).val = d.val; omega
    exact (turn_at (φ := .f32) _ 7 896 rfl slices_S64x1024_o0_896_S64x128 r d).trans (k1 7 r d)
  case piece1 =>
    obtain ⟨rfl, rfl⟩ : κ = 1 ∧ g = 6 := ⟨Fin.ext (by change κ.val = 1; omega), Fin.ext (by change g.val = 6; omega)⟩
    obtain rfl : x = ix2 r d := by
      funext y; apply Fin.ext
      match y with
      | ⟨0, _⟩ => exact hx0.symm
      | ⟨1, _⟩ => change (x 1).val = d.val; omega
    exact (turn_at (φ := .f32) _ 6 768 rfl slices_S64x1024_o0_768_S64x128 r d).trans (k1 6 r d)
  case piece2 =>
    obtain ⟨rfl, rfl⟩ : κ = 1 ∧ g = 5 := ⟨Fin.ext (by change κ.val = 1; omega), Fin.ext (by change g.val = 5; omega)⟩
    obtain rfl : x = ix2 r d := by
      funext y; apply Fin.ext
      match y with
      | ⟨0, _⟩ => exact hx0.symm
      | ⟨1, _⟩ => change (x 1).val = d.val; omega
    exact (turn_at (φ := .f32) _ 5 640 rfl slices_S64x1024_o0_640_S64x128 r d).trans (k1 5 r d)
  case piece3 =>
    obtain ⟨rfl, rfl⟩ : κ = 1 ∧ g = 4 := ⟨Fin.ext (by change κ.val = 1; omega), Fin.ext (by change g.val = 4; omega)⟩
    obtain rfl : x = ix2 r d := by
      funext y; apply Fin.ext
      match y with
      | ⟨0, _⟩ => exact hx0.symm
      | ⟨1, _⟩ => change (x 1).val = d.val; omega
    exact (turn_at (φ := .f32) _ 4 512 rfl slices_S64x1024_o0_512_S64x128 r d).trans (k1 4 r d)
  case piece4 =>
    obtain ⟨rfl, rfl⟩ : κ = 1 ∧ g = 3 := ⟨Fin.ext (by change κ.val = 1; omega), Fin.ext (by change g.val = 3; omega)⟩
    obtain rfl : x = ix2 r d := by
      funext y; apply Fin.ext
      match y with
      | ⟨0, _⟩ => exact hx0.symm
      | ⟨1, _⟩ => change (x 1).val = d.val; omega
    exact (turn_at (φ := .f32) _ 3 384 rfl slices_S64x1024_o0_384_S64x128 r d).trans (k1 3 r d)
  case piece5 =>
    obtain ⟨rfl, rfl⟩ : κ = 1 ∧ g = 2 := ⟨Fin.ext (by change κ.val = 1; omega), Fin.ext (by change g.val = 2; omega)⟩
    obtain rfl : x = ix2 r d := by
      funext y; apply Fin.ext
      match y with
      | ⟨0, _⟩ => exact hx0.symm
      | ⟨1, _⟩ => change (x 1).val = d.val; omega
    exact (turn_at (φ := .f32) _ 2 256 rfl slices_S64x1024_o0_256_S64x128 r d).trans (k1 2 r d)
  case piece6 =>
    obtain ⟨rfl, rfl⟩ : κ = 1 ∧ g = 1 := ⟨Fin.ext (by change κ.val = 1; omega), Fin.ext (by change g.val = 1; omega)⟩
    obtain rfl : x = ix2 r d := by
      funext y; apply Fin.ext
      match y with
      | ⟨0, _⟩ => exact hx0.symm
      | ⟨1, _⟩ => change (x 1).val = d.val; omega
    exact (turn_at (φ := .f32) _ 1 128 rfl slices_S64x1024_o0_128_S64x128 r d).trans (k1 1 r d)
  case piece7 =>
    obtain ⟨rfl, rfl⟩ : κ = 1 ∧ g = 0 := ⟨Fin.ext (by change κ.val = 1; omega), Fin.ext (by change g.val = 0; omega)⟩
    obtain rfl : x = ix2 r d := by
      funext y; apply Fin.ext
      match y with
      | ⟨0, _⟩ => exact hx0.symm
      | ⟨1, _⟩ => change (x 1).val = d.val; omega
    exact (turn_at (φ := .f32) _ 0 0 rfl slices_S64x1024_o0_0_S64x128 r d).trans (k1 0 r d)
  case piece8 =>
    obtain ⟨rfl, rfl⟩ : κ = 0 ∧ g = 7 := ⟨Fin.ext (by change κ.val = 0; omega), Fin.ext (by change g.val = 7; omega)⟩
    obtain rfl : x = ix2 r d := by
      funext y; apply Fin.ext
      match y with
      | ⟨0, _⟩ => exact hx0.symm
      | ⟨1, _⟩ => change (x 1).val = d.val; omega
    exact (turn_at (φ := .f32) _ 7 896 rfl slices_S64x1024_o0_896_S64x128 r d).trans (k0 7 r d)
  case piece9 =>
    obtain ⟨rfl, rfl⟩ : κ = 0 ∧ g = 6 := ⟨Fin.ext (by change κ.val = 0; omega), Fin.ext (by change g.val = 6; omega)⟩
    obtain rfl : x = ix2 r d := by
      funext y; apply Fin.ext
      match y with
      | ⟨0, _⟩ => exact hx0.symm
      | ⟨1, _⟩ => change (x 1).val = d.val; omega
    exact (turn_at (φ := .f32) _ 6 768 rfl slices_S64x1024_o0_768_S64x128 r d).trans (k0 6 r d)
  case piece10 =>
    obtain ⟨rfl, rfl⟩ : κ = 0 ∧ g = 5 := ⟨Fin.ext (by change κ.val = 0; omega), Fin.ext (by change g.val = 5; omega)⟩
    obtain rfl : x = ix2 r d := by
      funext y; apply Fin.ext
      match y with
      | ⟨0, _⟩ => exact hx0.symm
      | ⟨1, _⟩ => change (x 1).val = d.val; omega
    exact (turn_at (φ := .f32) _ 5 640 rfl slices_S64x1024_o0_640_S64x128 r d).trans (k0 5 r d)
  case piece11 =>
    obtain ⟨rfl, rfl⟩ : κ = 0 ∧ g = 4 := ⟨Fin.ext (by change κ.val = 0; omega), Fin.ext (by change g.val = 4; omega)⟩
    obtain rfl : x = ix2 r d := by
      funext y; apply Fin.ext
      match y with
      | ⟨0, _⟩ => exact hx0.symm
      | ⟨1, _⟩ => change (x 1).val = d.val; omega
    exact (turn_at (φ := .f32) _ 4 512 rfl slices_S64x1024_o0_512_S64x128 r d).trans (k0 4 r d)
  case piece12 =>
    obtain ⟨rfl, rfl⟩ : κ = 0 ∧ g = 3 := ⟨Fin.ext (by change κ.val = 0; omega), Fin.ext (by change g.val = 3; omega)⟩
    obtain rfl : x = ix2 r d := by
      funext y; apply Fin.ext
      match y with
      | ⟨0, _⟩ => exact hx0.symm
      | ⟨1, _⟩ => change (x 1).val = d.val; omega
    exact (turn_at (φ := .f32) _ 3 384 rfl slices_S64x1024_o0_384_S64x128 r d).trans (k0 3 r d)
  case piece13 =>
    obtain ⟨rfl, rfl⟩ : κ = 0 ∧ g = 2 := ⟨Fin.ext (by change κ.val = 0; omega), Fin.ext (by change g.val = 2; omega)⟩
    obtain rfl : x = ix2 r d := by
      funext y; apply Fin.ext
      match y with
      | ⟨0, _⟩ => exact hx0.symm
      | ⟨1, _⟩ => change (x 1).val = d.val; omega
    exact (turn_at (φ := .f32) _ 2 256 rfl slices_S64x1024_o0_256_S64x128 r d).trans (k0 2 r d)
  case piece14 =>
    obtain ⟨rfl, rfl⟩ : κ = 0 ∧ g = 1 := ⟨Fin.ext (by change κ.val = 0; omega), Fin.ext (by change g.val = 1; omega)⟩
    obtain rfl : x = ix2 r d := by
      funext y; apply Fin.ext
      match y with
      | ⟨0, _⟩ => exact hx0.symm
      | ⟨1, _⟩ => change (x 1).val = d.val; omega
    exact (turn_at (φ := .f32) _ 1 128 rfl slices_S64x1024_o0_128_S64x128 r d).trans (k0 1 r d)
  case piece15 =>
    obtain ⟨rfl, rfl⟩ : κ = 0 ∧ g = 0 := ⟨Fin.ext (by change κ.val = 0; omega), Fin.ext (by change g.val = 0; omega)⟩
    obtain rfl : x = ix2 r d := by
      funext y; apply Fin.ext
      match y with
      | ⟨0, _⟩ => exact hx0.symm
      | ⟨1, _⟩ => change (x 1).val = d.val; omega
    exact (turn_at (φ := .f32) _ 0 0 rfl slices_S64x1024_o0_0_S64x128 r d).trans (k0 0 r d)

end Cert.AttnKer

end

end
-- ==== Proof.KPair.lean ====
/- The gradients of the keys and values: both heads' side by side, the previous block's rows and the point's own apart. -/
module

public import proofs.«01_k».proof.Proof.KGrad

@[expose] public section

set_option maxRecDepth 16384

noncomputable section

namespace Cert.AttnKer

open Cert.KernelIdeal Cert.KernelIdeal.Gen Idealize.ShloMosaic Cert.Attn Finset

variable {a b : FVec Ideal S256x64 .f32} {f : Fin 2 → Fin 256 → Fin 64 → ℝ} (ha : ∀ s d, a (ix2 s d) = (f 0 s d : EReal)) (hb : ∀ s d, b (ix2 s d) = (f 1 s d : EReal))
include ha hb

theorem pay87_val (κ : Fin 2) (r : Fin 128) (d : Fin 64) : k2_pay87 a b (ix2 r (kcol κ d)) = (f κ (fst r) d : EReal) := by
  fin_cases κ
  · have e := ha (fst r) d
    pointwise [k2_pay87, k2_pay85]
    rw [dif_pos (by simp [kcol, ix2])]
    refine Eq.trans (congrArg a ?_) e
    funext y; apply Fin.ext
    match y with
    | ⟨0, _⟩ => simp [fst, ix2]
    | ⟨1, _⟩ => simp [kcol, ix2]
  · have e := hb (fst r) d
    pointwise [k2_pay87, k2_pay85]
    rw [dif_neg (by simp [kcol, ix2])]
    refine Eq.trans (congrArg b ?_) e
    funext y; apply Fin.ext
    match y with
    | ⟨0, _⟩ => simp [fst, ix2]
    | ⟨1, _⟩ => simp [kcol, ix2]

theorem pay88_val (κ : Fin 2) (r : Fin 128) (d : Fin 64) : k2_pay88 a b (ix2 r (kcol κ d)) = (f κ (snd r) d : EReal) := by
  fin_cases κ
  · have e := ha (snd r) d
    pointwise [k2_pay88, k2_pay85]
    rw [dif_pos (by simp [kcol, ix2])]
    refine Eq.trans (congrArg a ?_) e
    funext y; apply Fin.ext
    match y with
    | ⟨0, _⟩ => simp [snd, ix2]
    | ⟨1, _⟩ => simp [kcol, ix2]
  · have e := hb (snd r) d
    pointwise [k2_pay88, k2_pay85]
    rw [dif_neg (by simp [kcol, ix2])]
    refine Eq.trans (congrArg b ?_) e
    funext y; apply Fin.ext
    match y with
    | ⟨0, _⟩ => simp [snd, ix2]
    | ⟨1, _⟩ => simp [kcol, ix2]

theorem pay89_val (κ : Fin 2) (r : Fin 128) (d : Fin 64) : k2_pay89 a b (ix2 r (kcol κ d)) = (f κ (fst r) d : EReal) := by
  fin_cases κ
  · have e := ha (fst r) d
    pointwise [k2_pay89, k2_pay86]
    rw [dif_pos (by simp [kcol, ix2])]
    refine Eq.trans (congrArg a ?_) e
    funext y; apply Fin.ext
    match y with
    | ⟨0, _⟩ => simp [fst, ix2]
    | ⟨1, _⟩ => simp [kcol, ix2]
  · have e := hb (fst r) d
    pointwise [k2_pay89, k2_pay86]
    rw [dif_neg (by simp [kcol, ix2])]
    refine Eq.trans (congrArg b ?_) e
    funext y; apply Fin.ext
    match y with
    | ⟨0, _⟩ => simp [fst, ix2]
    | ⟨1, _⟩ => simp [kcol, ix2]

theorem pay90_val (κ : Fin 2) (r : Fin 128) (d : Fin 64) : k2_pay90 a b (ix2 r (kcol κ d)) = (f κ (snd r) d : EReal) := by
  fin_cases κ
  · have e := ha (snd r) d
    pointwise [k2_pay90, k2_pay86]
    rw [dif_pos (by simp [kcol, ix2])]
    refine Eq.trans (congrArg a ?_) e
    funext y; apply Fin.ext
    match y with
    | ⟨0, _⟩ => simp [snd, ix2]
    | ⟨1, _⟩ => simp [kcol, ix2]
  · have e := hb (snd r) d
    pointwise [k2_pay90, k2_pay86]
    rw [dif_neg (by simp [kcol, ix2])]
    refine Eq.trans (congrArg b ?_) e
    funext y; apply Fin.ext
    match y with
    | ⟨0, _⟩ => simp [snd, ix2]
    | ⟨1, _⟩ => simp [kcol, ix2]

end Cert.AttnKer

end

end
-- ==== Proof.KDkA.lean ====
/- The gradients of the keys and values, at the first point. -/
module

public import proofs.«01_k».proof.Proof.KPair
public import proofs.«01_k».proof.Proof.KWords

@[expose] public section

set_option maxRecDepth 16384

noncomputable section

namespace Cert.AttnKer

open Cert.KernelIdeal Cert.KernelIdeal.Gen Idealize.ShloMosaic Cert.Attn Finset

variable (c : Dev nD) (i : grid2.Coords) (a1 : Memref sig .tc .smem S1x16 .f32) (h1 : a1.IsWhole) (a2 : Memref sig .tc .vmem S1x256x1024 .f32) (h2 : a2.IsWhole)
  (a3 : Memref sig .tc .vmem S128x1024 .bf16) (h3 : a3.IsWhole) (a4 a5 a6 a7 : Memref sig .tc .vmem S128x128 .bf16) (h4 : a4.IsWhole) (h5 : a5.IsWhole)
  (h6 : a6.IsWhole) (h7 : a7.IsWhole) (a8 a9 a10 : Memref sig .tc .vmem S128x1024 .f32) (h8 : a8.IsWhole) (h9 : a9.IsWhole) (h10 : a10.IsWhole)
  (a11 a12 a13 a14 : Memref sig .tc .vmem S128x128 .f32) (h11 : a11.IsWhole) (h12 : a12.IsWhole) (h13 : a13.IsWhole) (h14 : a14.IsWhole)
  (a15 : Memref sig .tc .vmem S1x16 .f32) (h15 : a15.IsWhole)
  (hc : cond2_0 i)
  (x0 : FVec Ideal S1x16 .f32) (x1 : FVec Ideal S1x256x1024 .f32) (x2 : FVec Ideal S128x1024 .bf16) (x3 x4 x5 x6 : FVec Ideal S128x128 .bf16)
  (x7 x8 : FVec Ideal S128x1024 .f32)

theorem dkA_fst {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (r : Fin 128) (d : Fin 64) :
    out2_A_10 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 (ix2 r (kcol κ d)) = ((T κ).DK (fst r) d : EReal) := by
  unfold out2_A_10
  rw [View.read_writes_eq_canon _ _ _ (cover2_A_10 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun2_A
  dsimp only
  rw [View.canon_cons_unit_zero z2]
  exact pay87_val (f := fun κ => (T κ).DK) (fun s d => by rw [dk0A]; exact dk0 h ho hg s d) (fun s d => by rw [dk1A]; exact dk1 h ho hg s d) κ r d

theorem dkA_snd {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (r : Fin 128) (d : Fin 64) :
    out2_A_11 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 (ix2 r (kcol κ d)) = ((T κ).DK (snd r) d : EReal) := by
  unfold out2_A_11
  rw [View.read_writes_eq_canon _ _ _ (cover2_A_11 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun2_A
  dsimp only
  rw [View.canon_cons_unit_zero z2]
  exact pay88_val (f := fun κ => (T κ).DK) (fun s d => by rw [dk0A]; exact dk0 h ho hg s d) (fun s d => by rw [dk1A]; exact dk1 h ho hg s d) κ r d

theorem dvA_fst {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (r : Fin 128) (d : Fin 64) :
    out2_A_12 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 (ix2 r (kcol κ d)) = ((T κ).DV (fst r) d : EReal) := by
  unfold out2_A_12
  rw [View.read_writes_eq_canon _ _ _ (cover2_A_12 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun2_A
  dsimp only
  rw [View.canon_cons_unit_zero z2]
  exact pay89_val (f := fun κ => (T κ).DV) (fun s d => by rw [dv0A]; exact dv0 h ho hg s d) (fun s d => by rw [dv1A]; exact dv1 h ho hg s d) κ r d

theorem dvA_snd {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (r : Fin 128) (d : Fin 64) :
    out2_A_13 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 (ix2 r (kcol κ d)) = ((T κ).DV (snd r) d : EReal) := by
  unfold out2_A_13
  rw [View.read_writes_eq_canon _ _ _ (cover2_A_13 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun2_A
  dsimp only
  rw [View.canon_cons_unit_zero z2]
  exact pay90_val (f := fun κ => (T κ).DV) (fun s d => by rw [dv0A]; exact dv0 h ho hg s d) (fun s d => by rw [dv1A]; exact dv1 h ho hg s d) κ r d

end Cert.AttnKer

end

end
-- ==== Proof.KDkB.lean ====
/- The gradients of the keys and values, at the later points. -/
module

public import proofs.«01_k».proof.Proof.KPair
public import proofs.«01_k».proof.Proof.KWordsB

@[expose] public section

set_option maxRecDepth 16384

noncomputable section

namespace Cert.AttnKer

open Cert.KernelIdeal Cert.KernelIdeal.Gen Idealize.ShloMosaic Cert.Attn Finset

variable (c : Dev nD) (i : grid2.Coords) (a1 : Memref sig .tc .smem S1x16 .f32) (h1 : a1.IsWhole) (a2 : Memref sig .tc .vmem S1x256x1024 .f32) (h2 : a2.IsWhole)
  (a3 : Memref sig .tc .vmem S128x1024 .bf16) (h3 : a3.IsWhole) (a4 a5 a6 a7 : Memref sig .tc .vmem S128x128 .bf16) (h4 : a4.IsWhole) (h5 : a5.IsWhole)
  (h6 : a6.IsWhole) (h7 : a7.IsWhole) (a8 a9 a10 : Memref sig .tc .vmem S128x1024 .f32) (h8 : a8.IsWhole) (h9 : a9.IsWhole) (h10 : a10.IsWhole)
  (a11 a12 a13 a14 : Memref sig .tc .vmem S128x128 .f32) (h11 : a11.IsWhole) (h12 : a12.IsWhole) (h13 : a13.IsWhole) (h14 : a14.IsWhole)
  (a15 : Memref sig .tc .vmem S1x16 .f32) (h15 : a15.IsWhole)
  (hc : ¬cond2_0 i)
  (x0 : FVec Ideal S1x16 .f32) (x1 : FVec Ideal S1x256x1024 .f32) (x2 : FVec Ideal S128x1024 .bf16) (x3 x4 x5 x6 : FVec Ideal S128x128 .bf16)
  (x7 x8 : FVec Ideal S128x1024 .f32) (xo : FVec Ideal S1x16 .f32)

theorem dkB_fst {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (r : Fin 128) (d : Fin 64) :
    out2_B_10 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo (ix2 r (kcol κ d)) = ((T κ).DK (fst r) d : EReal) := by
  unfold out2_B_10
  rw [View.read_writes_eq_canon _ _ _ (cover2_B_10 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo)]
  unfold kernelRun2_B
  dsimp only
  rw [View.canon_cons_unit_zero z2]
  exact pay87_val (f := fun κ => (T κ).DK) (fun s d => by rw [dk0B]; exact dk0 h ho hg s d) (fun s d => by rw [dk1B]; exact dk1 h ho hg s d) κ r d

theorem dkB_snd {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (r : Fin 128) (d : Fin 64) :
    out2_B_11 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo (ix2 r (kcol κ d)) = ((T κ).DK (snd r) d : EReal) := by
  unfold out2_B_11
  rw [View.read_writes_eq_canon _ _ _ (cover2_B_11 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo)]
  unfold kernelRun2_B
  dsimp only
  rw [View.canon_cons_unit_zero z2]
  exact pay88_val (f := fun κ => (T κ).DK) (fun s d => by rw [dk0B]; exact dk0 h ho hg s d) (fun s d => by rw [dk1B]; exact dk1 h ho hg s d) κ r d

theorem dvB_fst {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (r : Fin 128) (d : Fin 64) :
    out2_B_12 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo (ix2 r (kcol κ d)) = ((T κ).DV (fst r) d : EReal) := by
  unfold out2_B_12
  rw [View.read_writes_eq_canon _ _ _ (cover2_B_12 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo)]
  unfold kernelRun2_B
  dsimp only
  rw [View.canon_cons_unit_zero z2]
  exact pay89_val (f := fun κ => (T κ).DV) (fun s d => by rw [dv0B]; exact dv0 h ho hg s d) (fun s d => by rw [dv1B]; exact dv1 h ho hg s d) κ r d

theorem dvB_snd {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (r : Fin 128) (d : Fin 64) :
    out2_B_13 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo (ix2 r (kcol κ d)) = ((T κ).DV (snd r) d : EReal) := by
  unfold out2_B_13
  rw [View.read_writes_eq_canon _ _ _ (cover2_B_13 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo)]
  unfold kernelRun2_B
  dsimp only
  rw [View.canon_cons_unit_zero z2]
  exact pay90_val (f := fun κ => (T κ).DV) (fun s d => by rw [dv0B]; exact dv0 h ho hg s d) (fun s d => by rw [dv1B]; exact dv1 h ho hg s d) κ r d

end Cert.AttnKer

end

end
-- ==== Proof.KSinkIn.lean ====
/- The reads of the sinks' gradient so far: the earlier points' at a later point, zeros at the first. -/
module

public import proofs.«01_k».proof.Proof.KGrad

@[expose] public section

set_option maxRecDepth 16384

noncomputable section

namespace Cert.AttnKer

open Cert.KernelIdeal Cert.KernelIdeal.Gen Idealize.ShloMosaic Cert.Attn Finset

/-- A word of the sum so far, read at a later point. -/
theorem so_far (a : Memref sig .tc .vmem S1x16 .f32) (h : a.IsWhole) (x : FVec Ideal S1x16 .f32) (n : ℕ) (m : Fin 16) (hm : m.val = n) (inb) (hs) :
    shapeCast S1x1 (View.readAt (Elt Ideal) a.view (Rect.unit (s := S1x16) ![0, n] S1x1.size inb).toLoadRect (h.unread x)) hs (ix2 0 0) = x (ix2 0 m) := by
  subst hm
  rw [View.readAt_eq_ld, h.read_unread]
  pointwise

/-- The writes made so far leave zeros from a column on. -/
def Zeros (n : ℕ) (L : List (View.Piece (Elt Ideal) S1x16 .f32)) : Prop := ∀ m : Fin 16, n ≤ m.val → View.canon L (ix2 0 m) = (0 : EReal)

theorem zeros_step {n : ℕ} {L : List (View.Piece (Elt Ideal) S1x16 .f32)} (h : Zeros n L) (inb) (w : S1x1.Idx → EReal) :
    Zeros (n + 1) ((⟨Rect.unit (s := S1x16) ![0, n] S1x1.size inb, w⟩ : View.Piece (Elt Ideal) S1x16 .f32) :: L) := by
  intro m hm
  rw [View.canon_cons_of_not_mem]
  · exact h m (by omega)
  · intro hc
    have := ((Rect.mem_set_unit (inb := inb)).mp hc 1).2
    change m.val < n + 1 at this
    omega

/-- A word of the zeros, read at the first point. -/
theorem zero_read {n : ℕ} {L : List (View.Piece (Elt Ideal) S1x16 .f32)} (h : Zeros n L) (a : Memref sig .tc .vmem S1x16 .f32) (hn : n < 16) (inb) (hs) :
    shapeCast S1x1 (a.view.readCov (Val := Elt Ideal) L (Rect.unit (s := S1x16) ![0, n] S1x1.size inb).toLoadRect) hs (ix2 0 0) = (0 : EReal) := by
  rw [View.readCov_eq_canon']
  pointwise
  refine Eq.trans (congrArg (View.canon L) ?_) (h ⟨n, hn⟩ le_rfl)
  funext y; apply Fin.ext
  match y with
  | ⟨0, _⟩ => rfl
  | ⟨1, _⟩ => simp [ix2]

/-- The writes made so far leave a row's words below a column. -/
def Upto (n : ℕ) (f : Fin 16 → EReal) (L : List (View.Piece (Elt Ideal) S1x16 .f32)) : Prop := ∀ m : Fin 16, m.val < n → View.canon L (ix2 0 m) = f m

theorem upto_zero (f : Fin 16 → EReal) (L : List (View.Piece (Elt Ideal) S1x16 .f32)) : Upto 0 f L := fun _ h => absurd h (Nat.not_lt_zero _)

theorem upto_step {n : ℕ} {f : Fin 16 → EReal} {L : List (View.Piece (Elt Ideal) S1x16 .f32)} (h : Upto n f L) (hn : n < 16) (inb) (w : S1x1.Idx → EReal)
    (hw : w (ix2 0 0) = f ⟨n, hn⟩) : Upto (n + 1) f ((⟨Rect.unit (s := S1x16) ![0, n] S1x1.size inb, w⟩ : View.Piece (Elt Ideal) S1x16 .f32) :: L) := by
  intro m hm
  by_cases e : m.val = n
  · obtain rfl : m = ⟨n, hn⟩ := Fin.ext e
    rw [← hw]
    refine Eq.trans (congrArg _ ?_) (View.canon_cons_emb (Val := Elt Ideal) (e := .f32) (Rect.unit (s := S1x16) ![0, n] S1x1.size inb) w L (ix2 0 0))
    funext y; apply Fin.ext
    match y with
    | ⟨0, _⟩ => rfl
    | ⟨1, _⟩ => simp [ix2]
  · rw [View.canon_cons_of_not_mem]
    · exact h m (by omega)
    · intro hc
      have := ((Rect.mem_set_unit (inb := inb)).mp hc 1).1
      change n ≤ m.val at this
      omega

/-- The tiles' gradients of the sinks, along the row. -/
def dskOf (T : Fin 2 → Tile) (m : Fin 16) : EReal := ((T ⟨m.val / 8, by omega⟩).DSK ⟨m.val % 8, by omega⟩ : ℝ)

theorem dskOf_head (T : Fin 2 → Tile) (κ : Fin 2) (g : Fin 8) : dskOf T (head κ g) = ((T κ).DSK g : ℝ) := by
  have e1 : (⟨(head κ g).val / 8, by omega⟩ : Fin 2) = κ := Fin.ext (by change (κ.val * 8 + g.val) / 8 = κ.val; omega)
  have e2 : (⟨(head κ g).val % 8, by omega⟩ : Fin 8) = g := Fin.ext (by change (κ.val * 8 + g.val) % 8 = g.val; omega)
  unfold dskOf
  rw [e1, e2]

end Cert.AttnKer

end

end
-- ==== Proof.KSinkA.lean ====
/- The gradient of the sinks, at the first point. -/
module

public import proofs.«01_k».proof.Proof.KSinkIn
public import proofs.«01_k».proof.Proof.KWords

@[expose] public section

set_option maxRecDepth 16384

noncomputable section

namespace Cert.AttnKer

open Cert.KernelIdeal Cert.KernelIdeal.Gen Idealize.ShloMosaic Cert.Attn Finset

variable (c : Dev nD) (i : grid2.Coords) (a1 : Memref sig .tc .smem S1x16 .f32) (h1 : a1.IsWhole) (a2 : Memref sig .tc .vmem S1x256x1024 .f32) (h2 : a2.IsWhole)
  (a3 : Memref sig .tc .vmem S128x1024 .bf16) (h3 : a3.IsWhole) (a4 a5 a6 a7 : Memref sig .tc .vmem S128x128 .bf16) (h4 : a4.IsWhole) (h5 : a5.IsWhole)
  (h6 : a6.IsWhole) (h7 : a7.IsWhole) (a8 a9 a10 : Memref sig .tc .vmem S128x1024 .f32) (h8 : a8.IsWhole) (h9 : a9.IsWhole) (h10 : a10.IsWhole)
  (a11 a12 a13 a14 : Memref sig .tc .vmem S128x128 .f32) (h11 : a11.IsWhole) (h12 : a12.IsWhole) (h13 : a13.IsWhole) (h14 : a14.IsWhole)
  (a15 : Memref sig .tc .vmem S1x16 .f32) (h15 : a15.IsWhole)
  (hc : cond2_0 i)
  (x0 : FVec Ideal S1x16 .f32) (x1 : FVec Ideal S1x256x1024 .f32) (x2 : FVec Ideal S128x1024 .bf16) (x3 x4 x5 x6 : FVec Ideal S128x128 .bf16)
  (x7 x8 : FVec Ideal S128x1024 .f32)

theorem zeros0 : Zeros 0 (kernelRun2_A.sl.H14_1 (F := Ideal)) := by
  intro m _
  unfold kernelRun2_A.sl.H14_1
  rw [View.canon_cons_unit_zero z2]
  pointwise [kernelRun2_A.sl.v356, kernelRun2_A.sl.cst_223]

theorem skA0 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v109 (F := Ideal) c a1 h1 a2 h2 a3 h3 a4 h4 a5 h5 a8 h8 a9 h9 a15 x0 x1 x2 x3 x4 x7 x8) (ix2 0 0) = dskOf T ⟨0, by decide⟩ := by
  unfold kernelRun2_A.sl.v109 kernelRun2_A.sl.v108 kernelRun2_A.sl.v107 kernelRun2_A.sl.v106 kernelRun2_A.sl.v105 kernelRun2_A.sl.v104
  rw [sr0A]
  exact (part_at _ _ 0 0 rfl slices_S1x1024_o0_0_S1x128).trans ((congrArg₂ (· + ·) (zero_read (zeros0) a15 (by decide) _ _) (srs0 h ho hg 0)).trans (zero_add _))

theorem zeros1 : Zeros 1 (kernelRun2_A.sl.H14_2 (F := Ideal) c a1 h1 a2 h2 a3 h3 a4 h4 a5 h5 a8 h8 a9 h9 a15 x0 x1 x2 x3 x4 x7 x8) := by
  unfold kernelRun2_A.sl.H14_2
  exact zeros_step zeros0 _ _

theorem skA1 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v119 (F := Ideal) c a1 h1 a2 h2 a3 h3 a4 h4 a5 h5 a8 h8 a9 h9 a15 x0 x1 x2 x3 x4 x7 x8) (ix2 0 0) = dskOf T ⟨1, by decide⟩ := by
  unfold kernelRun2_A.sl.v119 kernelRun2_A.sl.v118 kernelRun2_A.sl.v117 kernelRun2_A.sl.v116 kernelRun2_A.sl.v115 kernelRun2_A.sl.v114
  rw [sr0A]
  exact (part_at _ _ 1 128 rfl slices_S1x1024_o0_128_S1x128).trans ((congrArg₂ (· + ·) (zero_read (zeros1 c a1 h1 a2 h2 a3 h3 a4 a5 h4 h5 a8 a9 h8 h9 a15 x0 x1 x2 x3 x4 x7 x8) a15 (by decide) _ _) (srs0 h ho hg 1)).trans (zero_add _))

theorem zeros2 : Zeros 2 (kernelRun2_A.sl.H14_3 (F := Ideal) c a1 h1 a2 h2 a3 h3 a4 h4 a5 h5 a8 h8 a9 h9 a15 x0 x1 x2 x3 x4 x7 x8) := by
  unfold kernelRun2_A.sl.H14_3
  exact zeros_step (zeros1 c a1 h1 a2 h2 a3 h3 a4 a5 h4 h5 a8 a9 h8 h9 a15 x0 x1 x2 x3 x4 x7 x8) _ _

theorem skA2 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v129 (F := Ideal) c a1 h1 a2 h2 a3 h3 a4 h4 a5 h5 a8 h8 a9 h9 a15 x0 x1 x2 x3 x4 x7 x8) (ix2 0 0) = dskOf T ⟨2, by decide⟩ := by
  unfold kernelRun2_A.sl.v129 kernelRun2_A.sl.v128 kernelRun2_A.sl.v127 kernelRun2_A.sl.v126 kernelRun2_A.sl.v125 kernelRun2_A.sl.v124
  rw [sr0A]
  exact (part_at _ _ 2 256 rfl slices_S1x1024_o0_256_S1x128).trans ((congrArg₂ (· + ·) (zero_read (zeros2 c a1 h1 a2 h2 a3 h3 a4 a5 h4 h5 a8 a9 h8 h9 a15 x0 x1 x2 x3 x4 x7 x8) a15 (by decide) _ _) (srs0 h ho hg 2)).trans (zero_add _))

theorem zeros3 : Zeros 3 (kernelRun2_A.sl.H14_4 (F := Ideal) c a1 h1 a2 h2 a3 h3 a4 h4 a5 h5 a8 h8 a9 h9 a15 x0 x1 x2 x3 x4 x7 x8) := by
  unfold kernelRun2_A.sl.H14_4
  exact zeros_step (zeros2 c a1 h1 a2 h2 a3 h3 a4 a5 h4 h5 a8 a9 h8 h9 a15 x0 x1 x2 x3 x4 x7 x8) _ _

theorem skA3 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v139 (F := Ideal) c a1 h1 a2 h2 a3 h3 a4 h4 a5 h5 a8 h8 a9 h9 a15 x0 x1 x2 x3 x4 x7 x8) (ix2 0 0) = dskOf T ⟨3, by decide⟩ := by
  unfold kernelRun2_A.sl.v139 kernelRun2_A.sl.v138 kernelRun2_A.sl.v137 kernelRun2_A.sl.v136 kernelRun2_A.sl.v135 kernelRun2_A.sl.v134
  rw [sr0A]
  exact (part_at _ _ 3 384 rfl slices_S1x1024_o0_384_S1x128).trans ((congrArg₂ (· + ·) (zero_read (zeros3 c a1 h1 a2 h2 a3 h3 a4 a5 h4 h5 a8 a9 h8 h9 a15 x0 x1 x2 x3 x4 x7 x8) a15 (by decide) _ _) (srs0 h ho hg 3)).trans (zero_add _))

theorem zeros4 : Zeros 4 (kernelRun2_A.sl.H14_5 (F := Ideal) c a1 h1 a2 h2 a3 h3 a4 h4 a5 h5 a8 h8 a9 h9 a15 x0 x1 x2 x3 x4 x7 x8) := by
  unfold kernelRun2_A.sl.H14_5
  exact zeros_step (zeros3 c a1 h1 a2 h2 a3 h3 a4 a5 h4 h5 a8 a9 h8 h9 a15 x0 x1 x2 x3 x4 x7 x8) _ _

theorem skA4 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v149 (F := Ideal) c a1 h1 a2 h2 a3 h3 a4 h4 a5 h5 a8 h8 a9 h9 a15 x0 x1 x2 x3 x4 x7 x8) (ix2 0 0) = dskOf T ⟨4, by decide⟩ := by
  unfold kernelRun2_A.sl.v149 kernelRun2_A.sl.v148 kernelRun2_A.sl.v147 kernelRun2_A.sl.v146 kernelRun2_A.sl.v145 kernelRun2_A.sl.v144
  rw [sr0A]
  exact (part_at _ _ 4 512 rfl slices_S1x1024_o0_512_S1x128).trans ((congrArg₂ (· + ·) (zero_read (zeros4 c a1 h1 a2 h2 a3 h3 a4 a5 h4 h5 a8 a9 h8 h9 a15 x0 x1 x2 x3 x4 x7 x8) a15 (by decide) _ _) (srs0 h ho hg 4)).trans (zero_add _))

theorem zeros5 : Zeros 5 (kernelRun2_A.sl.H14_6 (F := Ideal) c a1 h1 a2 h2 a3 h3 a4 h4 a5 h5 a8 h8 a9 h9 a15 x0 x1 x2 x3 x4 x7 x8) := by
  unfold kernelRun2_A.sl.H14_6
  exact zeros_step (zeros4 c a1 h1 a2 h2 a3 h3 a4 a5 h4 h5 a8 a9 h8 h9 a15 x0 x1 x2 x3 x4 x7 x8) _ _

theorem skA5 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v159 (F := Ideal) c a1 h1 a2 h2 a3 h3 a4 h4 a5 h5 a8 h8 a9 h9 a15 x0 x1 x2 x3 x4 x7 x8) (ix2 0 0) = dskOf T ⟨5, by decide⟩ := by
  unfold kernelRun2_A.sl.v159 kernelRun2_A.sl.v158 kernelRun2_A.sl.v157 kernelRun2_A.sl.v156 kernelRun2_A.sl.v155 kernelRun2_A.sl.v154
  rw [sr0A]
  exact (part_at _ _ 5 640 rfl slices_S1x1024_o0_640_S1x128).trans ((congrArg₂ (· + ·) (zero_read (zeros5 c a1 h1 a2 h2 a3 h3 a4 a5 h4 h5 a8 a9 h8 h9 a15 x0 x1 x2 x3 x4 x7 x8) a15 (by decide) _ _) (srs0 h ho hg 5)).trans (zero_add _))

theorem zeros6 : Zeros 6 (kernelRun2_A.sl.H14_7 (F := Ideal) c a1 h1 a2 h2 a3 h3 a4 h4 a5 h5 a8 h8 a9 h9 a15 x0 x1 x2 x3 x4 x7 x8) := by
  unfold kernelRun2_A.sl.H14_7
  exact zeros_step (zeros5 c a1 h1 a2 h2 a3 h3 a4 a5 h4 h5 a8 a9 h8 h9 a15 x0 x1 x2 x3 x4 x7 x8) _ _

theorem skA6 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v169 (F := Ideal) c a1 h1 a2 h2 a3 h3 a4 h4 a5 h5 a8 h8 a9 h9 a15 x0 x1 x2 x3 x4 x7 x8) (ix2 0 0) = dskOf T ⟨6, by decide⟩ := by
  unfold kernelRun2_A.sl.v169 kernelRun2_A.sl.v168 kernelRun2_A.sl.v167 kernelRun2_A.sl.v166 kernelRun2_A.sl.v165 kernelRun2_A.sl.v164
  rw [sr0A]
  exact (part_at _ _ 6 768 rfl slices_S1x1024_o0_768_S1x128).trans ((congrArg₂ (· + ·) (zero_read (zeros6 c a1 h1 a2 h2 a3 h3 a4 a5 h4 h5 a8 a9 h8 h9 a15 x0 x1 x2 x3 x4 x7 x8) a15 (by decide) _ _) (srs0 h ho hg 6)).trans (zero_add _))

theorem zeros7 : Zeros 7 (kernelRun2_A.sl.H14_8 (F := Ideal) c a1 h1 a2 h2 a3 h3 a4 h4 a5 h5 a8 h8 a9 h9 a15 x0 x1 x2 x3 x4 x7 x8) := by
  unfold kernelRun2_A.sl.H14_8
  exact zeros_step (zeros6 c a1 h1 a2 h2 a3 h3 a4 a5 h4 h5 a8 a9 h8 h9 a15 x0 x1 x2 x3 x4 x7 x8) _ _

theorem skA7 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v179 (F := Ideal) c a1 h1 a2 h2 a3 h3 a4 h4 a5 h5 a8 h8 a9 h9 a15 x0 x1 x2 x3 x4 x7 x8) (ix2 0 0) = dskOf T ⟨7, by decide⟩ := by
  unfold kernelRun2_A.sl.v179 kernelRun2_A.sl.v178 kernelRun2_A.sl.v177 kernelRun2_A.sl.v176 kernelRun2_A.sl.v175 kernelRun2_A.sl.v174
  rw [sr0A]
  exact (part_at _ _ 7 896 rfl slices_S1x1024_o0_896_S1x128).trans ((congrArg₂ (· + ·) (zero_read (zeros7 c a1 h1 a2 h2 a3 h3 a4 a5 h4 h5 a8 a9 h8 h9 a15 x0 x1 x2 x3 x4 x7 x8) a15 (by decide) _ _) (srs0 h ho hg 7)).trans (zero_add _))

theorem zeros8 : Zeros 8 (kernelRun2_A.sl.H14_9 (F := Ideal) c a1 h1 a2 h2 a3 h3 a4 h4 a5 h5 a8 h8 a9 h9 a15 x0 x1 x2 x3 x4 x7 x8) := by
  unfold kernelRun2_A.sl.H14_9
  exact zeros_step (zeros7 c a1 h1 a2 h2 a3 h3 a4 a5 h4 h5 a8 a9 h8 h9 a15 x0 x1 x2 x3 x4 x7 x8) _ _

theorem skA8 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v274 (F := Ideal) c a1 h1 a2 h2 a3 h3 a4 h4 a5 h5 a8 h8 a9 h9 a15 x0 x1 x2 x3 x4 x7 x8) (ix2 0 0) = dskOf T ⟨8, by decide⟩ := by
  unfold kernelRun2_A.sl.v274 kernelRun2_A.sl.v273 kernelRun2_A.sl.v272 kernelRun2_A.sl.v271 kernelRun2_A.sl.v270 kernelRun2_A.sl.v269
  rw [sr1A]
  exact (part_at _ _ 0 0 rfl slices_S1x1024_o0_0_S1x128).trans ((congrArg₂ (· + ·) (zero_read (zeros8 c a1 h1 a2 h2 a3 h3 a4 a5 h4 h5 a8 a9 h8 h9 a15 x0 x1 x2 x3 x4 x7 x8) a15 (by decide) _ _) (srs1 h ho hg 0)).trans (zero_add _))

theorem zeros9 : Zeros 9 (kernelRun2_A.sl.H14_10 (F := Ideal) c a1 h1 a2 h2 a3 h3 a4 h4 a5 h5 a8 h8 a9 h9 a15 x0 x1 x2 x3 x4 x7 x8) := by
  unfold kernelRun2_A.sl.H14_10
  exact zeros_step (zeros8 c a1 h1 a2 h2 a3 h3 a4 a5 h4 h5 a8 a9 h8 h9 a15 x0 x1 x2 x3 x4 x7 x8) _ _

theorem skA9 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v284 (F := Ideal) c a1 h1 a2 h2 a3 h3 a4 h4 a5 h5 a8 h8 a9 h9 a15 x0 x1 x2 x3 x4 x7 x8) (ix2 0 0) = dskOf T ⟨9, by decide⟩ := by
  unfold kernelRun2_A.sl.v284 kernelRun2_A.sl.v283 kernelRun2_A.sl.v282 kernelRun2_A.sl.v281 kernelRun2_A.sl.v280 kernelRun2_A.sl.v279
  rw [sr1A]
  exact (part_at _ _ 1 128 rfl slices_S1x1024_o0_128_S1x128).trans ((congrArg₂ (· + ·) (zero_read (zeros9 c a1 h1 a2 h2 a3 h3 a4 a5 h4 h5 a8 a9 h8 h9 a15 x0 x1 x2 x3 x4 x7 x8) a15 (by decide) _ _) (srs1 h ho hg 1)).trans (zero_add _))

theorem zeros10 : Zeros 10 (kernelRun2_A.sl.H14_11 (F := Ideal) c a1 h1 a2 h2 a3 h3 a4 h4 a5 h5 a8 h8 a9 h9 a15 x0 x1 x2 x3 x4 x7 x8) := by
  unfold kernelRun2_A.sl.H14_11
  exact zeros_step (zeros9 c a1 h1 a2 h2 a3 h3 a4 a5 h4 h5 a8 a9 h8 h9 a15 x0 x1 x2 x3 x4 x7 x8) _ _

theorem skA10 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v294 (F := Ideal) c a1 h1 a2 h2 a3 h3 a4 h4 a5 h5 a8 h8 a9 h9 a15 x0 x1 x2 x3 x4 x7 x8) (ix2 0 0) = dskOf T ⟨10, by decide⟩ := by
  unfold kernelRun2_A.sl.v294 kernelRun2_A.sl.v293 kernelRun2_A.sl.v292 kernelRun2_A.sl.v291 kernelRun2_A.sl.v290 kernelRun2_A.sl.v289
  rw [sr1A]
  exact (part_at _ _ 2 256 rfl slices_S1x1024_o0_256_S1x128).trans ((congrArg₂ (· + ·) (zero_read (zeros10 c a1 h1 a2 h2 a3 h3 a4 a5 h4 h5 a8 a9 h8 h9 a15 x0 x1 x2 x3 x4 x7 x8) a15 (by decide) _ _) (srs1 h ho hg 2)).trans (zero_add _))

theorem zeros11 : Zeros 11 (kernelRun2_A.sl.H14_12 (F := Ideal) c a1 h1 a2 h2 a3 h3 a4 h4 a5 h5 a8 h8 a9 h9 a15 x0 x1 x2 x3 x4 x7 x8) := by
  unfold kernelRun2_A.sl.H14_12
  exact zeros_step (zeros10 c a1 h1 a2 h2 a3 h3 a4 a5 h4 h5 a8 a9 h8 h9 a15 x0 x1 x2 x3 x4 x7 x8) _ _

theorem skA11 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v304 (F := Ideal) c a1 h1 a2 h2 a3 h3 a4 h4 a5 h5 a8 h8 a9 h9 a15 x0 x1 x2 x3 x4 x7 x8) (ix2 0 0) = dskOf T ⟨11, by decide⟩ := by
  unfold kernelRun2_A.sl.v304 kernelRun2_A.sl.v303 kernelRun2_A.sl.v302 kernelRun2_A.sl.v301 kernelRun2_A.sl.v300 kernelRun2_A.sl.v299
  rw [sr1A]
  exact (part_at _ _ 3 384 rfl slices_S1x1024_o0_384_S1x128).trans ((congrArg₂ (· + ·) (zero_read (zeros11 c a1 h1 a2 h2 a3 h3 a4 a5 h4 h5 a8 a9 h8 h9 a15 x0 x1 x2 x3 x4 x7 x8) a15 (by decide) _ _) (srs1 h ho hg 3)).trans (zero_add _))

theorem zeros12 : Zeros 12 (kernelRun2_A.sl.H14_13 (F := Ideal) c a1 h1 a2 h2 a3 h3 a4 h4 a5 h5 a8 h8 a9 h9 a15 x0 x1 x2 x3 x4 x7 x8) := by
  unfold kernelRun2_A.sl.H14_13
  exact zeros_step (zeros11 c a1 h1 a2 h2 a3 h3 a4 a5 h4 h5 a8 a9 h8 h9 a15 x0 x1 x2 x3 x4 x7 x8) _ _

theorem skA12 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v314 (F := Ideal) c a1 h1 a2 h2 a3 h3 a4 h4 a5 h5 a8 h8 a9 h9 a15 x0 x1 x2 x3 x4 x7 x8) (ix2 0 0) = dskOf T ⟨12, by decide⟩ := by
  unfold kernelRun2_A.sl.v314 kernelRun2_A.sl.v313 kernelRun2_A.sl.v312 kernelRun2_A.sl.v311 kernelRun2_A.sl.v310 kernelRun2_A.sl.v309
  rw [sr1A]
  exact (part_at _ _ 4 512 rfl slices_S1x1024_o0_512_S1x128).trans ((congrArg₂ (· + ·) (zero_read (zeros12 c a1 h1 a2 h2 a3 h3 a4 a5 h4 h5 a8 a9 h8 h9 a15 x0 x1 x2 x3 x4 x7 x8) a15 (by decide) _ _) (srs1 h ho hg 4)).trans (zero_add _))

theorem zeros13 : Zeros 13 (kernelRun2_A.sl.H14_14 (F := Ideal) c a1 h1 a2 h2 a3 h3 a4 h4 a5 h5 a8 h8 a9 h9 a15 x0 x1 x2 x3 x4 x7 x8) := by
  unfold kernelRun2_A.sl.H14_14
  exact zeros_step (zeros12 c a1 h1 a2 h2 a3 h3 a4 a5 h4 h5 a8 a9 h8 h9 a15 x0 x1 x2 x3 x4 x7 x8) _ _

theorem skA13 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_A.sl.v324 (F := Ideal) c a1 h1 a2 h2 a3 h3 a4 h4 a5 h5 a8 h8 a9 h9 a15 x0 x1 x2 x3 x4 x7 x8) (ix2 0 0) = dskOf T ⟨13, by decide⟩ := by
  unfold kernelRun2_A.sl.v324 kernelRun2_A.sl.v323 kernelRun2_A.sl.v322 kernelRun2_A.sl.v321 kernelRun2_A.sl.v320 kernelRun2_A.sl.v319
  rw [sr1A]
  exact (part_at _ _ 5 640 rfl slices_S1x1024_o0_640_S1x128).trans ((congrArg₂ (· + ·) (zero_read (zeros13 c a1 h1 a2 h2 a3 h3 a4 a5 h4 h5 a8 a9 h8 h9 a15 x0 x1 x2 x3 x4 x7 x8) a15 (by decide) _ _) (srs1 h ho hg 5)).trans (zero_add _))

theorem zeros14 : Zeros 14 (kernelRun2_A.sl.H14_15 (F := Ideal) c a1 h1 a2 h2 a3 h3 a4 h4 a5 h5 a8 h8 a9 h9 a15 x0 x1 x2 x3 x4 x7 x8) := by
  unfold kernelRun2_A.sl.H14_15
  exact zeros_step (zeros13 c a1 h1 a2 h2 a3 h3 a4 a5 h4 h5 a8 a9 h8 h9 a15 x0 x1 x2 x3 x4 x7 x8) _ _

theorem skA14 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (k2_pay82 (kernelRun2_A.sl.v265 (F := Ideal) c a1 h1 a2 h2 a3 h3 a4 h4 a5 h5 a8 h8 a9 h9 x0 x1 x2 x3 x4 x7 x8) (kernelRun2_A.sl.v330 (F := Ideal) c a1 h1 a2 h2 a3 h3 a4 h4 a5 h5 a8 h8 a9 h9 a15 x0 x1 x2 x3 x4 x7 x8)) (ix2 0 0) = dskOf T ⟨14, by decide⟩ := by
  unfold kernelRun2_A.sl.v330 kernelRun2_A.sl.v329 k2_pay82
  rw [sr1A]
  exact (part_at _ _ 6 768 rfl slices_S1x1024_o0_768_S1x128).trans ((congrArg₂ (· + ·) (zero_read (zeros14 c a1 h1 a2 h2 a3 h3 a4 a5 h4 h5 a8 a9 h8 h9 a15 x0 x1 x2 x3 x4 x7 x8) a15 (by decide) _ _) (srs1 h ho hg 6)).trans (zero_add _))

theorem zeros15 : Zeros 15 (kernelRun2_A.sl.H14_16 (F := Ideal) c a1 h1 a2 h2 a3 h3 a4 h4 a5 h5 a8 h8 a9 h9 a15 x0 x1 x2 x3 x4 x7 x8) := by
  unfold kernelRun2_A.sl.H14_16
  exact zeros_step (zeros14 c a1 h1 a2 h2 a3 h3 a4 a5 h4 h5 a8 a9 h8 h9 a15 x0 x1 x2 x3 x4 x7 x8) _ _

theorem skA15 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (k2_pay84 (kernelRun2_A.sl.v265 (F := Ideal) c a1 h1 a2 h2 a3 h3 a4 h4 a5 h5 a8 h8 a9 h9 x0 x1 x2 x3 x4 x7 x8) (kernelRun2_A.sl.v339 (F := Ideal) c a1 h1 a2 h2 a3 h3 a4 h4 a5 h5 a8 h8 a9 h9 a15 x0 x1 x2 x3 x4 x7 x8)) (ix2 0 0) = dskOf T ⟨15, by decide⟩ := by
  unfold kernelRun2_A.sl.v339 k2_pay84
  rw [sr1A]
  exact (part_at _ _ 7 896 rfl slices_S1x1024_o0_896_S1x128).trans ((congrArg₂ (· + ·) (zero_read (zeros15 c a1 h1 a2 h2 a3 h3 a4 a5 h4 h5 a8 a9 h8 h9 a15 x0 x1 x2 x3 x4 x7 x8) a15 (by decide) _ _) (srs1 h ho hg 7)).trans (zero_add _))

/-- The block's output. -/
theorem dskA_val {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (g : Fin 8) :
    out2_A_14 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 (ix2 0 (head κ g)) = ((T κ).DSK g : EReal) := by
  unfold out2_A_14
  rw [View.read_writes_eq_canon _ _ _ (cover2_A_14 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun2_A
  dsimp only
  rw [← dskOf_head T κ g]
  unfold kernelRun2_A.sl.H14_16
  unfold kernelRun2_A.sl.H14_15
  unfold kernelRun2_A.sl.H14_14
  unfold kernelRun2_A.sl.H14_13
  unfold kernelRun2_A.sl.H14_12
  unfold kernelRun2_A.sl.H14_11
  unfold kernelRun2_A.sl.H14_10
  unfold kernelRun2_A.sl.H14_9
  unfold kernelRun2_A.sl.H14_8
  unfold kernelRun2_A.sl.H14_7
  unfold kernelRun2_A.sl.H14_6
  unfold kernelRun2_A.sl.H14_5
  unfold kernelRun2_A.sl.H14_4
  unfold kernelRun2_A.sl.H14_3
  unfold kernelRun2_A.sl.H14_2
  have u0 := upto_zero (dskOf T) (kernelRun2_A.sl.H14_1 (F := Ideal))
  have u1 := upto_step u0 (by decide) inb_S1x16_S1x1_0_0 _ (skA0 c a1 h1 a2 h2 a3 h3 a4 a5 h4 h5 a8 a9 h8 h9 a15 x0 x1 x2 x3 x4 x5 x6 x7 x8 h ho hg)
  have u2 := upto_step u1 (by decide) inb_S1x16_S1x1_0_1 _ (skA1 c a1 h1 a2 h2 a3 h3 a4 a5 h4 h5 a8 a9 h8 h9 a15 x0 x1 x2 x3 x4 x5 x6 x7 x8 h ho hg)
  have u3 := upto_step u2 (by decide) inb_S1x16_S1x1_0_2 _ (skA2 c a1 h1 a2 h2 a3 h3 a4 a5 h4 h5 a8 a9 h8 h9 a15 x0 x1 x2 x3 x4 x5 x6 x7 x8 h ho hg)
  have u4 := upto_step u3 (by decide) inb_S1x16_S1x1_0_3 _ (skA3 c a1 h1 a2 h2 a3 h3 a4 a5 h4 h5 a8 a9 h8 h9 a15 x0 x1 x2 x3 x4 x5 x6 x7 x8 h ho hg)
  have u5 := upto_step u4 (by decide) inb_S1x16_S1x1_0_4 _ (skA4 c a1 h1 a2 h2 a3 h3 a4 a5 h4 h5 a8 a9 h8 h9 a15 x0 x1 x2 x3 x4 x5 x6 x7 x8 h ho hg)
  have u6 := upto_step u5 (by decide) inb_S1x16_S1x1_0_5 _ (skA5 c a1 h1 a2 h2 a3 h3 a4 a5 h4 h5 a8 a9 h8 h9 a15 x0 x1 x2 x3 x4 x5 x6 x7 x8 h ho hg)
  have u7 := upto_step u6 (by decide) inb_S1x16_S1x1_0_6 _ (skA6 c a1 h1 a2 h2 a3 h3 a4 a5 h4 h5 a8 a9 h8 h9 a15 x0 x1 x2 x3 x4 x5 x6 x7 x8 h ho hg)
  have u8 := upto_step u7 (by decide) inb_S1x16_S1x1_0_7 _ (skA7 c a1 h1 a2 h2 a3 h3 a4 a5 h4 h5 a8 a9 h8 h9 a15 x0 x1 x2 x3 x4 x5 x6 x7 x8 h ho hg)
  have u9 := upto_step u8 (by decide) inb_S1x16_S1x1_0_8 _ (skA8 c a1 h1 a2 h2 a3 h3 a4 a5 h4 h5 a8 a9 h8 h9 a15 x0 x1 x2 x3 x4 x5 x6 x7 x8 h ho hg)
  have u10 := upto_step u9 (by decide) inb_S1x16_S1x1_0_9 _ (skA9 c a1 h1 a2 h2 a3 h3 a4 a5 h4 h5 a8 a9 h8 h9 a15 x0 x1 x2 x3 x4 x5 x6 x7 x8 h ho hg)
  have u11 := upto_step u10 (by decide) inb_S1x16_S1x1_0_10 _ (skA10 c a1 h1 a2 h2 a3 h3 a4 a5 h4 h5 a8 a9 h8 h9 a15 x0 x1 x2 x3 x4 x5 x6 x7 x8 h ho hg)
  have u12 := upto_step u11 (by decide) inb_S1x16_S1x1_0_11 _ (skA11 c a1 h1 a2 h2 a3 h3 a4 a5 h4 h5 a8 a9 h8 h9 a15 x0 x1 x2 x3 x4 x5 x6 x7 x8 h ho hg)
  have u13 := upto_step u12 (by decide) inb_S1x16_S1x1_0_12 _ (skA12 c a1 h1 a2 h2 a3 h3 a4 a5 h4 h5 a8 a9 h8 h9 a15 x0 x1 x2 x3 x4 x5 x6 x7 x8 h ho hg)
  have u14 := upto_step u13 (by decide) inb_S1x16_S1x1_0_13 _ (skA13 c a1 h1 a2 h2 a3 h3 a4 a5 h4 h5 a8 a9 h8 h9 a15 x0 x1 x2 x3 x4 x5 x6 x7 x8 h ho hg)
  have u15 := upto_step u14 (by decide) inb_S1x16_S1x1_0_14 _ (skA14 c a1 h1 a2 h2 a3 h3 a4 a5 h4 h5 a8 a9 h8 h9 a15 x0 x1 x2 x3 x4 x5 x6 x7 x8 h ho hg)
  have u16 := upto_step u15 (by decide) inb_S1x16_S1x1_0_15 _ (skA15 c a1 h1 a2 h2 a3 h3 a4 a5 h4 h5 a8 a9 h8 h9 a15 x0 x1 x2 x3 x4 x5 x6 x7 x8 h ho hg)
  exact u16 (head κ g) (head κ g).isLt

end Cert.AttnKer

end

end
-- ==== Proof.KSinkB.lean ====
/- The gradient of the sinks, added up at the later points. -/
module

public import proofs.«01_k».proof.Proof.KSinkIn
public import proofs.«01_k».proof.Proof.KWordsB

@[expose] public section

set_option maxRecDepth 16384

noncomputable section

namespace Cert.AttnKer

open Cert.KernelIdeal Cert.KernelIdeal.Gen Idealize.ShloMosaic Cert.Attn Finset

variable (c : Dev nD) (i : grid2.Coords) (a1 : Memref sig .tc .smem S1x16 .f32) (h1 : a1.IsWhole) (a2 : Memref sig .tc .vmem S1x256x1024 .f32) (h2 : a2.IsWhole)
  (a3 : Memref sig .tc .vmem S128x1024 .bf16) (h3 : a3.IsWhole) (a4 a5 a6 a7 : Memref sig .tc .vmem S128x128 .bf16) (h4 : a4.IsWhole) (h5 : a5.IsWhole)
  (h6 : a6.IsWhole) (h7 : a7.IsWhole) (a8 a9 a10 : Memref sig .tc .vmem S128x1024 .f32) (h8 : a8.IsWhole) (h9 : a9.IsWhole) (h10 : a10.IsWhole)
  (a11 a12 a13 a14 : Memref sig .tc .vmem S128x128 .f32) (h11 : a11.IsWhole) (h12 : a12.IsWhole) (h13 : a13.IsWhole) (h14 : a14.IsWhole)
  (a15 : Memref sig .tc .vmem S1x16 .f32) (h15 : a15.IsWhole)
  (hc : ¬cond2_0 i)
  (x0 : FVec Ideal S1x16 .f32) (x1 : FVec Ideal S1x256x1024 .f32) (x2 : FVec Ideal S128x1024 .bf16) (x3 x4 x5 x6 : FVec Ideal S128x128 .bf16)
  (x7 x8 : FVec Ideal S128x1024 .f32) (xo : FVec Ideal S1x16 .f32)

theorem skB0 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v109 (F := Ideal) c a1 h1 a2 h2 a3 h3 a4 h4 a5 h5 a8 h8 a9 h9 a15 h15 x0 x1 x2 x3 x4 x7 x8 xo) (ix2 0 0) = (fun m => xo (ix2 0 m) + dskOf T m) ⟨0, by decide⟩ := by
  unfold kernelRun2_B.sl.v109 kernelRun2_B.sl.v108 kernelRun2_B.sl.v107 kernelRun2_B.sl.v106 kernelRun2_B.sl.v105
  rw [sr0B]
  exact (part_at _ _ 0 0 rfl slices_S1x1024_o0_0_S1x128).trans (congrArg₂ (· + ·) (so_far a15 h15 xo 0 ⟨0, by decide⟩ rfl _ _) (srs0 h ho hg 0))

theorem skB1 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v119 (F := Ideal) c a1 h1 a2 h2 a3 h3 a4 h4 a5 h5 a8 h8 a9 h9 a15 h15 x0 x1 x2 x3 x4 x7 x8 xo) (ix2 0 0) = (fun m => xo (ix2 0 m) + dskOf T m) ⟨1, by decide⟩ := by
  unfold kernelRun2_B.sl.v119 kernelRun2_B.sl.v118 kernelRun2_B.sl.v117 kernelRun2_B.sl.v116 kernelRun2_B.sl.v115 kernelRun2_B.sl.v114
  rw [sr0B]
  exact (part_at _ _ 1 128 rfl slices_S1x1024_o0_128_S1x128).trans (congrArg₂ (· + ·) (so_far a15 h15 xo 1 ⟨1, by decide⟩ rfl _ _) (srs0 h ho hg 1))

theorem skB2 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v129 (F := Ideal) c a1 h1 a2 h2 a3 h3 a4 h4 a5 h5 a8 h8 a9 h9 a15 h15 x0 x1 x2 x3 x4 x7 x8 xo) (ix2 0 0) = (fun m => xo (ix2 0 m) + dskOf T m) ⟨2, by decide⟩ := by
  unfold kernelRun2_B.sl.v129 kernelRun2_B.sl.v128 kernelRun2_B.sl.v127 kernelRun2_B.sl.v126 kernelRun2_B.sl.v125 kernelRun2_B.sl.v124
  rw [sr0B]
  exact (part_at _ _ 2 256 rfl slices_S1x1024_o0_256_S1x128).trans (congrArg₂ (· + ·) (so_far a15 h15 xo 2 ⟨2, by decide⟩ rfl _ _) (srs0 h ho hg 2))

theorem skB3 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v139 (F := Ideal) c a1 h1 a2 h2 a3 h3 a4 h4 a5 h5 a8 h8 a9 h9 a15 h15 x0 x1 x2 x3 x4 x7 x8 xo) (ix2 0 0) = (fun m => xo (ix2 0 m) + dskOf T m) ⟨3, by decide⟩ := by
  unfold kernelRun2_B.sl.v139 kernelRun2_B.sl.v138 kernelRun2_B.sl.v137 kernelRun2_B.sl.v136 kernelRun2_B.sl.v135 kernelRun2_B.sl.v134
  rw [sr0B]
  exact (part_at _ _ 3 384 rfl slices_S1x1024_o0_384_S1x128).trans (congrArg₂ (· + ·) (so_far a15 h15 xo 3 ⟨3, by decide⟩ rfl _ _) (srs0 h ho hg 3))

theorem skB4 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v149 (F := Ideal) c a1 h1 a2 h2 a3 h3 a4 h4 a5 h5 a8 h8 a9 h9 a15 h15 x0 x1 x2 x3 x4 x7 x8 xo) (ix2 0 0) = (fun m => xo (ix2 0 m) + dskOf T m) ⟨4, by decide⟩ := by
  unfold kernelRun2_B.sl.v149 kernelRun2_B.sl.v148 kernelRun2_B.sl.v147 kernelRun2_B.sl.v146 kernelRun2_B.sl.v145 kernelRun2_B.sl.v144
  rw [sr0B]
  exact (part_at _ _ 4 512 rfl slices_S1x1024_o0_512_S1x128).trans (congrArg₂ (· + ·) (so_far a15 h15 xo 4 ⟨4, by decide⟩ rfl _ _) (srs0 h ho hg 4))

theorem skB5 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v159 (F := Ideal) c a1 h1 a2 h2 a3 h3 a4 h4 a5 h5 a8 h8 a9 h9 a15 h15 x0 x1 x2 x3 x4 x7 x8 xo) (ix2 0 0) = (fun m => xo (ix2 0 m) + dskOf T m) ⟨5, by decide⟩ := by
  unfold kernelRun2_B.sl.v159 kernelRun2_B.sl.v158 kernelRun2_B.sl.v157 kernelRun2_B.sl.v156 kernelRun2_B.sl.v155 kernelRun2_B.sl.v154
  rw [sr0B]
  exact (part_at _ _ 5 640 rfl slices_S1x1024_o0_640_S1x128).trans (congrArg₂ (· + ·) (so_far a15 h15 xo 5 ⟨5, by decide⟩ rfl _ _) (srs0 h ho hg 5))

theorem skB6 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v169 (F := Ideal) c a1 h1 a2 h2 a3 h3 a4 h4 a5 h5 a8 h8 a9 h9 a15 h15 x0 x1 x2 x3 x4 x7 x8 xo) (ix2 0 0) = (fun m => xo (ix2 0 m) + dskOf T m) ⟨6, by decide⟩ := by
  unfold kernelRun2_B.sl.v169 kernelRun2_B.sl.v168 kernelRun2_B.sl.v167 kernelRun2_B.sl.v166 kernelRun2_B.sl.v165 kernelRun2_B.sl.v164
  rw [sr0B]
  exact (part_at _ _ 6 768 rfl slices_S1x1024_o0_768_S1x128).trans (congrArg₂ (· + ·) (so_far a15 h15 xo 6 ⟨6, by decide⟩ rfl _ _) (srs0 h ho hg 6))

theorem skB7 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v179 (F := Ideal) c a1 h1 a2 h2 a3 h3 a4 h4 a5 h5 a8 h8 a9 h9 a15 h15 x0 x1 x2 x3 x4 x7 x8 xo) (ix2 0 0) = (fun m => xo (ix2 0 m) + dskOf T m) ⟨7, by decide⟩ := by
  unfold kernelRun2_B.sl.v179 kernelRun2_B.sl.v178 kernelRun2_B.sl.v177 kernelRun2_B.sl.v176 kernelRun2_B.sl.v175 kernelRun2_B.sl.v174
  rw [sr0B]
  exact (part_at _ _ 7 896 rfl slices_S1x1024_o0_896_S1x128).trans (congrArg₂ (· + ·) (so_far a15 h15 xo 7 ⟨7, by decide⟩ rfl _ _) (srs0 h ho hg 7))

theorem skB8 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v274 (F := Ideal) c a1 h1 a2 h2 a3 h3 a4 h4 a5 h5 a8 h8 a9 h9 a15 h15 x0 x1 x2 x3 x4 x7 x8 xo) (ix2 0 0) = (fun m => xo (ix2 0 m) + dskOf T m) ⟨8, by decide⟩ := by
  unfold kernelRun2_B.sl.v274 kernelRun2_B.sl.v273 kernelRun2_B.sl.v272 kernelRun2_B.sl.v271 kernelRun2_B.sl.v270 kernelRun2_B.sl.v269
  rw [sr1B]
  exact (part_at _ _ 0 0 rfl slices_S1x1024_o0_0_S1x128).trans (congrArg₂ (· + ·) (so_far a15 h15 xo 8 ⟨8, by decide⟩ rfl _ _) (srs1 h ho hg 0))

theorem skB9 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v284 (F := Ideal) c a1 h1 a2 h2 a3 h3 a4 h4 a5 h5 a8 h8 a9 h9 a15 h15 x0 x1 x2 x3 x4 x7 x8 xo) (ix2 0 0) = (fun m => xo (ix2 0 m) + dskOf T m) ⟨9, by decide⟩ := by
  unfold kernelRun2_B.sl.v284 kernelRun2_B.sl.v283 kernelRun2_B.sl.v282 kernelRun2_B.sl.v281 kernelRun2_B.sl.v280 kernelRun2_B.sl.v279
  rw [sr1B]
  exact (part_at _ _ 1 128 rfl slices_S1x1024_o0_128_S1x128).trans (congrArg₂ (· + ·) (so_far a15 h15 xo 9 ⟨9, by decide⟩ rfl _ _) (srs1 h ho hg 1))

theorem skB10 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v294 (F := Ideal) c a1 h1 a2 h2 a3 h3 a4 h4 a5 h5 a8 h8 a9 h9 a15 h15 x0 x1 x2 x3 x4 x7 x8 xo) (ix2 0 0) = (fun m => xo (ix2 0 m) + dskOf T m) ⟨10, by decide⟩ := by
  unfold kernelRun2_B.sl.v294 kernelRun2_B.sl.v293 kernelRun2_B.sl.v292 kernelRun2_B.sl.v291 kernelRun2_B.sl.v290 kernelRun2_B.sl.v289
  rw [sr1B]
  exact (part_at _ _ 2 256 rfl slices_S1x1024_o0_256_S1x128).trans (congrArg₂ (· + ·) (so_far a15 h15 xo 10 ⟨10, by decide⟩ rfl _ _) (srs1 h ho hg 2))

theorem skB11 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v304 (F := Ideal) c a1 h1 a2 h2 a3 h3 a4 h4 a5 h5 a8 h8 a9 h9 a15 h15 x0 x1 x2 x3 x4 x7 x8 xo) (ix2 0 0) = (fun m => xo (ix2 0 m) + dskOf T m) ⟨11, by decide⟩ := by
  unfold kernelRun2_B.sl.v304 kernelRun2_B.sl.v303 kernelRun2_B.sl.v302 kernelRun2_B.sl.v301 kernelRun2_B.sl.v300 kernelRun2_B.sl.v299
  rw [sr1B]
  exact (part_at _ _ 3 384 rfl slices_S1x1024_o0_384_S1x128).trans (congrArg₂ (· + ·) (so_far a15 h15 xo 11 ⟨11, by decide⟩ rfl _ _) (srs1 h ho hg 3))

theorem skB12 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v314 (F := Ideal) c a1 h1 a2 h2 a3 h3 a4 h4 a5 h5 a8 h8 a9 h9 a15 h15 x0 x1 x2 x3 x4 x7 x8 xo) (ix2 0 0) = (fun m => xo (ix2 0 m) + dskOf T m) ⟨12, by decide⟩ := by
  unfold kernelRun2_B.sl.v314 kernelRun2_B.sl.v313 kernelRun2_B.sl.v312 kernelRun2_B.sl.v311 kernelRun2_B.sl.v310 kernelRun2_B.sl.v309
  rw [sr1B]
  exact (part_at _ _ 4 512 rfl slices_S1x1024_o0_512_S1x128).trans (congrArg₂ (· + ·) (so_far a15 h15 xo 12 ⟨12, by decide⟩ rfl _ _) (srs1 h ho hg 4))

theorem skB13 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (kernelRun2_B.sl.v324 (F := Ideal) c a1 h1 a2 h2 a3 h3 a4 h4 a5 h5 a8 h8 a9 h9 a15 h15 x0 x1 x2 x3 x4 x7 x8 xo) (ix2 0 0) = (fun m => xo (ix2 0 m) + dskOf T m) ⟨13, by decide⟩ := by
  unfold kernelRun2_B.sl.v324 kernelRun2_B.sl.v323 kernelRun2_B.sl.v322 kernelRun2_B.sl.v321 kernelRun2_B.sl.v320 kernelRun2_B.sl.v319
  rw [sr1B]
  exact (part_at _ _ 5 640 rfl slices_S1x1024_o0_640_S1x128).trans (congrArg₂ (· + ·) (so_far a15 h15 xo 13 ⟨13, by decide⟩ rfl _ _) (srs1 h ho hg 5))

theorem skB14 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (k2_pay82 (kernelRun2_B.sl.v265 (F := Ideal) c a1 h1 a2 h2 a3 h3 a4 h4 a5 h5 a8 h8 a9 h9 x0 x1 x2 x3 x4 x7 x8) (kernelRun2_B.sl.v330 (F := Ideal) c a15 h15 xo)) (ix2 0 0) = (fun m => xo (ix2 0 m) + dskOf T m) ⟨14, by decide⟩ := by
  unfold kernelRun2_B.sl.v330 kernelRun2_B.sl.v329 k2_pay82
  rw [sr1B]
  exact (part_at _ _ 6 768 rfl slices_S1x1024_o0_768_S1x128).trans (congrArg₂ (· + ·) (so_far a15 h15 xo 14 ⟨14, by decide⟩ rfl _ _) (srs1 h ho hg 6))

theorem skB15 {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) :
    (k2_pay84 (kernelRun2_B.sl.v265 (F := Ideal) c a1 h1 a2 h2 a3 h3 a4 h4 a5 h5 a8 h8 a9 h9 x0 x1 x2 x3 x4 x7 x8) (kernelRun2_B.sl.v339 (F := Ideal) c a15 h15 xo)) (ix2 0 0) = (fun m => xo (ix2 0 m) + dskOf T m) ⟨15, by decide⟩ := by
  unfold kernelRun2_B.sl.v339 k2_pay84
  rw [sr1B]
  exact (part_at _ _ 7 896 rfl slices_S1x1024_o0_896_S1x128).trans (congrArg₂ (· + ·) (so_far a15 h15 xo 15 ⟨15, by decide⟩ rfl _ _) (srs1 h ho hg 7))

/-- The block's output. -/
theorem dskB_val {T : Fin 2 → Tile} (h : Ins T x0 x1 x2 x3 x4 x5 x6) (ho : ∀ κ g i d, x7 (ix2 i (qcol κ g d)) = ((T κ).O g i d : EReal))
    (hg : ∀ κ g i d, x8 (ix2 i (qcol κ g d)) = ((T κ).G g i d : EReal)) (κ : Fin 2) (g : Fin 8) :
    out2_B_14 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo (ix2 0 (head κ g)) = xo (ix2 0 (head κ g)) + ((T κ).DSK g : EReal) := by
  unfold out2_B_14
  rw [View.read_writes_eq_canon _ _ _ (cover2_B_14 (F := Ideal) c i a1 h1 a2 h2 a3 h3 a4 h4 a5 h5 a6 h6 a7 h7 a8 h8 a9 h9 a10 h10 a11 h11 a12 h12 a13 h13 a14 h14 a15 h15 hc x0 x1 x2 x3 x4 x5 x6 x7 x8 xo)]
  unfold kernelRun2_B
  dsimp only
  rw [← dskOf_head T κ g]
  have u0 := upto_zero ((fun m => xo (ix2 0 m) + dskOf T m)) []
  have u1 := upto_step u0 (by decide) inb_S1x16_S1x1_0_0 _ (skB0 c a1 h1 a2 h2 a3 h3 a4 a5 h4 h5 a8 a9 h8 h9 a15 h15 x0 x1 x2 x3 x4 x5 x6 x7 x8 xo h ho hg)
  have u2 := upto_step u1 (by decide) inb_S1x16_S1x1_0_1 _ (skB1 c a1 h1 a2 h2 a3 h3 a4 a5 h4 h5 a8 a9 h8 h9 a15 h15 x0 x1 x2 x3 x4 x5 x6 x7 x8 xo h ho hg)
  have u3 := upto_step u2 (by decide) inb_S1x16_S1x1_0_2 _ (skB2 c a1 h1 a2 h2 a3 h3 a4 a5 h4 h5 a8 a9 h8 h9 a15 h15 x0 x1 x2 x3 x4 x5 x6 x7 x8 xo h ho hg)
  have u4 := upto_step u3 (by decide) inb_S1x16_S1x1_0_3 _ (skB3 c a1 h1 a2 h2 a3 h3 a4 a5 h4 h5 a8 a9 h8 h9 a15 h15 x0 x1 x2 x3 x4 x5 x6 x7 x8 xo h ho hg)
  have u5 := upto_step u4 (by decide) inb_S1x16_S1x1_0_4 _ (skB4 c a1 h1 a2 h2 a3 h3 a4 a5 h4 h5 a8 a9 h8 h9 a15 h15 x0 x1 x2 x3 x4 x5 x6 x7 x8 xo h ho hg)
  have u6 := upto_step u5 (by decide) inb_S1x16_S1x1_0_5 _ (skB5 c a1 h1 a2 h2 a3 h3 a4 a5 h4 h5 a8 a9 h8 h9 a15 h15 x0 x1 x2 x3 x4 x5 x6 x7 x8 xo h ho hg)
  have u7 := upto_step u6 (by decide) inb_S1x16_S1x1_0_6 _ (skB6 c a1 h1 a2 h2 a3 h3 a4 a5 h4 h5 a8 a9 h8 h9 a15 h15 x0 x1 x2 x3 x4 x5 x6 x7 x8 xo h ho hg)
  have u8 := upto_step u7 (by decide) inb_S1x16_S1x1_0_7 _ (skB7 c a1 h1 a2 h2 a3 h3 a4 a5 h4 h5 a8 a9 h8 h9 a15 h15 x0 x1 x2 x3 x4 x5 x6 x7 x8 xo h ho hg)
  have u9 := upto_step u8 (by decide) inb_S1x16_S1x1_0_8 _ (skB8 c a1 h1 a2 h2 a3 h3 a4 a5 h4 h5 a8 a9 h8 h9 a15 h15 x0 x1 x2 x3 x4 x5 x6 x7 x8 xo h ho hg)
  have u10 := upto_step u9 (by decide) inb_S1x16_S1x1_0_9 _ (skB9 c a1 h1 a2 h2 a3 h3 a4 a5 h4 h5 a8 a9 h8 h9 a15 h15 x0 x1 x2 x3 x4 x5 x6 x7 x8 xo h ho hg)
  have u11 := upto_step u10 (by decide) inb_S1x16_S1x1_0_10 _ (skB10 c a1 h1 a2 h2 a3 h3 a4 a5 h4 h5 a8 a9 h8 h9 a15 h15 x0 x1 x2 x3 x4 x5 x6 x7 x8 xo h ho hg)
  have u12 := upto_step u11 (by decide) inb_S1x16_S1x1_0_11 _ (skB11 c a1 h1 a2 h2 a3 h3 a4 a5 h4 h5 a8 a9 h8 h9 a15 h15 x0 x1 x2 x3 x4 x5 x6 x7 x8 xo h ho hg)
  have u13 := upto_step u12 (by decide) inb_S1x16_S1x1_0_12 _ (skB12 c a1 h1 a2 h2 a3 h3 a4 a5 h4 h5 a8 a9 h8 h9 a15 h15 x0 x1 x2 x3 x4 x5 x6 x7 x8 xo h ho hg)
  have u14 := upto_step u13 (by decide) inb_S1x16_S1x1_0_13 _ (skB13 c a1 h1 a2 h2 a3 h3 a4 a5 h4 h5 a8 a9 h8 h9 a15 h15 x0 x1 x2 x3 x4 x5 x6 x7 x8 xo h ho hg)
  have u15 := upto_step u14 (by decide) inb_S1x16_S1x1_0_14 _ (skB14 c a1 h1 a2 h2 a3 h3 a4 a5 h4 h5 a8 a9 h8 h9 a15 h15 x0 x1 x2 x3 x4 x5 x6 x7 x8 xo h ho hg)
  have u16 := upto_step u15 (by decide) inb_S1x16_S1x1_0_15 _ (skB15 c a1 h1 a2 h2 a3 h3 a4 a5 h4 h5 a8 a9 h8 h9 a15 h15 x0 x1 x2 x3 x4 x5 x6 x7 x8 xo h ho hg)
  exact u16 (head κ g) (head κ g).isLt

end Cert.AttnKer

end

end
-- ==== Proof.KArr.lean ====
/- What the attention's regions leave in their result arrays. -/
module

public import proofs.«01_k».proof.Proof.KBlk
public import proofs.«01_k».proof.Proof.KBias
public import proofs.«01_k».proof.Proof.KFwd
public import proofs.«01_k».proof.Proof.KDqA
public import proofs.«01_k».proof.Proof.KDqB
public import proofs.«01_k».proof.Proof.KDkA
public import proofs.«01_k».proof.Proof.KDkB
public import proofs.«01_k».proof.Proof.KSinkA
public import proofs.«01_k».proof.Proof.KSinkB
public import Idealize.ShloMosaic.Lib.Pipeline.ValueKit.Geometry

@[expose] public section

set_option maxRecDepth 16384

noncomputable section

namespace Cert.AttnKer

open Cert.KernelIdeal Cert.KernelIdeal.Gen Idealize.ShloMosaic Idealize.ShloMosaic.TcCoe Idealize.SL.Sem Cert.Attn Finset
open Idealize.ShloMosaic.Pipeline (Dat)

variable {V : (c : Dev nD) → (b : Ref sig .tc) → Buf (Elt Ideal) ((c : Thread nD τ).loc b)} {c : Dev nD} {A : Arr}

theorem tile_O (A : Arr) (n : Fin 64) (κ : Fin 2) : (tileK A n κ).O = (A.tile n κ).O := (A.tile n κ).O_kv _ _ (tileK_seen A n κ)
theorem tile_DQ (A : Arr) (n : Fin 64) (κ : Fin 2) : (tileK A n κ).DQ = (A.tile n κ).DQ := (A.tile n κ).DQ_kv _ _ (tileK_seen A n κ)
theorem tile_DK (A : Arr) (n : Fin 64) (κ : Fin 2) : (tileK A n κ).DK = (A.tile n κ).DK := (A.tile n κ).DK_kv _ _ (tileK_seen A n κ)
theorem tile_DV (A : Arr) (n : Fin 64) (κ : Fin 2) : (tileK A n κ).DV = (A.tile n κ).DV := (A.tile n κ).DV_kv _ _ (tileK_seen A n κ)
theorem tile_DSK (A : Arr) (n : Fin 64) (κ : Fin 2) : (tileK A n κ).DSK = (A.tile n κ).DSK := (A.tile n κ).DSK_kv _ _ (tileK_seen A n κ)

/-- The bias, after the first region. -/
theorem bias_arr (b : Fin 2) (s : Fin 256) (g : Fin 8) (i : Fin 128) :
    (dat0 V c).arrAt 1 cfg0.N (ix3 b s (col g i)) = if ok b.val i s then (0 : EReal) else ⊥ := by
  refine ((dat0 V c).arrAt_emb_eq_after_last 1 t0_0 (by decide +kernel) (ix3 b s (col g i))).trans ?_
  show (dat0 V c).after 1 t0_0 _ = _
  rw [after0_1]
  exact out0_val _ b b.val Iff.rfl s g i

/-- The block of the bias is the array's. -/
theorem idx1_7 (t : Fin cfg1.N) : win1_7.index t 0 = t.val ∧ win1_7.index t 1 = 0 := by revert t; decide +kernel

/-- The attention's output, after the second region. -/
theorem out_arr (h : Holds V c A) (n : Fin 64) (κ : Fin 2) (g : Fin 8) (r : Fin 128) (d : Fin 64) :
    (dat1 V c).arrAt 7 cfg1.N (ix2 (row n r) (qcol κ g d)) = ((A.tile n κ).O g r d : EReal) := by
  refine (dat1 V c).arrAt_forall_of_covers 7 (fun i v => ∀ n κ g r d, i = ix2 (row n r) (qcol κ g d) → v = ((A.tile n κ).O g r d : EReal))
    (by decide +kernel) (fun t hf y n κ g r d e => ?_) _ (Memref.isWhole_whole _) n κ g r d rfl
  have e0 : win1_7.index t 0 * 128 + 1 * (y 0).val = n.val * 128 + r.val := congrArg Fin.val (congrFun e 0)
  have e1 : win1_7.index t 1 * 1024 + 1 * (y 1).val = (qcol κ g d).val := congrArg Fin.val (congrFun e 1)
  rw [(idx1_7 t).1] at e0
  rw [(idx1_7 t).2] at e1
  have y0 : (y 0).val < 128 := (y 0).isLt
  have hn : pt1 t = n := Fin.ext (show t.val = n.val by omega)
  subst hn
  have hn : (pt1 t).val = t.val := rfl
  have hy : y = ix2 r (qcol κ g d) := by
    funext a
    apply Fin.ext
    match a with
    | ⟨0, _⟩ => show (y 0).val = r.val; omega
    | ⟨1, _⟩ => show (y 1).val = (qcol κ g d).val; omega
  subst hy
  show (dat1 V c).after 7 t (ix2 r (qcol κ g d)) = _
  rw [after1_7, ← tile_O]
  exact out1_val _ _ _ _ _ _ _ _ _ _ _ _ _ _ _ _ _ _ _ _ _ _ _ _ _ (ins1 h t) κ g r d

variable (V c A) in
/-- The second region's result, as the third finds it. -/
def Fwd : Prop := ∀ n κ g r d, V c main_v1 (ix2 (row n r) (qcol κ g d)) = ((A.tile n κ).O g r d : EReal)

theorem blk_o (ho : Fwd V c A) (t : Fin cfg2.N) (κ g i d) :
    (iblk2 V c 7 t : FVec Ideal S128x1024 .f32) (ix2 i (qcol κ g d)) = ((tileK A (pt2 t) κ).O g i d : EReal) := by
  rw [blk2_7, ho, tile_O]

theorem blk_g (h : Holds V c A) (t : Fin cfg2.N) (κ g i d) :
    (iblk2 V c 8 t : FVec Ideal S128x1024 .f32) (ix2 i (qcol κ g d)) = ((tileK A (pt2 t) κ).G g i d : EReal) := by
  rw [blk2_8, h.go]; rfl

theorem at_dq (h : Holds V c A) (ho : Fwd V c A) (t : Fin cfg2.N) (κ : Fin 2) (g : Fin 8) (r : Fin 128) (d : Fin 64) :
    (outsAt2 V c t.val t.isLt).1 (ix2 r (qcol κ g d)) = ((A.tile (pt2 t) κ).DQ g r d : EReal) := by
  rw [← tile_DQ]
  by_cases h0 : t.val % 64 = 0
  · rw [outsAt2_A V c t h0]
    dsimp only
    exact dqA_val _ _ _ _ _ _ _ _ _ _ _ _ _ _ _ _ _ _ _ _ _ _ _ _ _ _ _ _ _ _ _ _ _ _ _ _ _ _ _ _ _ _ (ins2 h t) (blk_o ho t) (blk_g h t) κ g r d
  · rw [outsAt2_B V c t h0]
    dsimp only
    exact dqB_val _ _ _ _ _ _ _ _ _ _ _ _ _ _ _ _ _ _ _ _ _ _ _ _ _ _ _ _ _ _ _ _ _ _ _ _ _ _ _ _ _ _ _ (ins2 h t) (blk_o ho t) (blk_g h t) κ g r d

theorem at_dkp (h : Holds V c A) (ho : Fwd V c A) (t : Fin cfg2.N) (κ : Fin 2) (r : Fin 128) (d : Fin 64) :
    (outsAt2 V c t.val t.isLt).2.1 (ix2 r (kcol κ d)) = ((A.tile (pt2 t) κ).DK (fst r) d : EReal) := by
  rw [← tile_DK]
  by_cases h0 : t.val % 64 = 0
  · rw [outsAt2_A V c t h0]
    dsimp only
    exact dkA_fst _ _ _ _ _ _ _ _ _ _ _ _ _ _ _ _ _ _ _ _ _ _ _ _ _ _ _ _ _ _ _ _ _ _ _ _ _ _ _ _ _ _ (ins2 h t) (blk_o ho t) (blk_g h t) κ r d
  · rw [outsAt2_B V c t h0]
    dsimp only
    exact dkB_fst _ _ _ _ _ _ _ _ _ _ _ _ _ _ _ _ _ _ _ _ _ _ _ _ _ _ _ _ _ _ _ _ _ _ _ _ _ _ _ _ _ _ _ (ins2 h t) (blk_o ho t) (blk_g h t) κ r d

theorem at_dkc (h : Holds V c A) (ho : Fwd V c A) (t : Fin cfg2.N) (κ : Fin 2) (r : Fin 128) (d : Fin 64) :
    (outsAt2 V c t.val t.isLt).2.2.1 (ix2 r (kcol κ d)) = ((A.tile (pt2 t) κ).DK (snd r) d : EReal) := by
  rw [← tile_DK]
  by_cases h0 : t.val % 64 = 0
  · rw [outsAt2_A V c t h0]
    dsimp only
    exact dkA_snd _ _ _ _ _ _ _ _ _ _ _ _ _ _ _ _ _ _ _ _ _ _ _ _ _ _ _ _ _ _ _ _ _ _ _ _ _ _ _ _ _ _ (ins2 h t) (blk_o ho t) (blk_g h t) κ r d
  · rw [outsAt2_B V c t h0]
    dsimp only
    exact dkB_snd _ _ _ _ _ _ _ _ _ _ _ _ _ _ _ _ _ _ _ _ _ _ _ _ _ _ _ _ _ _ _ _ _ _ _ _ _ _ _ _ _ _ _ (ins2 h t) (blk_o ho t) (blk_g h t) κ r d

theorem at_dvp (h : Holds V c A) (ho : Fwd V c A) (t : Fin cfg2.N) (κ : Fin 2) (r : Fin 128) (d : Fin 64) :
    (outsAt2 V c t.val t.isLt).2.2.2.1 (ix2 r (kcol κ d)) = ((A.tile (pt2 t) κ).DV (fst r) d : EReal) := by
  rw [← tile_DV]
  by_cases h0 : t.val % 64 = 0
  · rw [outsAt2_A V c t h0]
    dsimp only
    exact dvA_fst _ _ _ _ _ _ _ _ _ _ _ _ _ _ _ _ _ _ _ _ _ _ _ _ _ _ _ _ _ _ _ _ _ _ _ _ _ _ _ _ _ _ (ins2 h t) (blk_o ho t) (blk_g h t) κ r d
  · rw [outsAt2_B V c t h0]
    dsimp only
    exact dvB_fst _ _ _ _ _ _ _ _ _ _ _ _ _ _ _ _ _ _ _ _ _ _ _ _ _ _ _ _ _ _ _ _ _ _ _ _ _ _ _ _ _ _ _ (ins2 h t) (blk_o ho t) (blk_g h t) κ r d

theorem at_dvc (h : Holds V c A) (ho : Fwd V c A) (t : Fin cfg2.N) (κ : Fin 2) (r : Fin 128) (d : Fin 64) :
    (outsAt2 V c t.val t.isLt).2.2.2.2.1 (ix2 r (kcol κ d)) = ((A.tile (pt2 t) κ).DV (snd r) d : EReal) := by
  rw [← tile_DV]
  by_cases h0 : t.val % 64 = 0
  · rw [outsAt2_A V c t h0]
    dsimp only
    exact dvA_snd _ _ _ _ _ _ _ _ _ _ _ _ _ _ _ _ _ _ _ _ _ _ _ _ _ _ _ _ _ _ _ _ _ _ _ _ _ _ _ _ _ _ (ins2 h t) (blk_o ho t) (blk_g h t) κ r d
  · rw [outsAt2_B V c t h0]
    dsimp only
    exact dvB_snd _ _ _ _ _ _ _ _ _ _ _ _ _ _ _ _ _ _ _ _ _ _ _ _ _ _ _ _ _ _ _ _ _ _ _ _ _ _ _ _ _ _ _ (ins2 h t) (blk_o ho t) (blk_g h t) κ r d

theorem idx2_9 (t : Fin cfg2.N) : win2_9.index t 0 = t.val ∧ win2_9.index t 1 = 0 := by revert t; decide +kernel

theorem dq_arr (h : Holds V c A) (ho : Fwd V c A) (n : Fin 64) (κ : Fin 2) (g : Fin 8) (r : Fin 128) (d : Fin 64) :
    (dat2 V c).arrAt 9 cfg2.N (ix2 (row n r) (qcol κ g d)) = ((A.tile n κ).DQ g r d : EReal) := by
  refine (dat2 V c).arrAt_forall_of_covers 9 (fun i v => ∀ n κ g r d, i = ix2 (row n r) (qcol κ g d) → v = ((A.tile n κ).DQ g r d : EReal))
    (by decide +kernel) (fun t hf y n κ g r d e => ?_) _ (Memref.isWhole_whole _) n κ g r d rfl
  have e0 : win2_9.index t 0 * 128 + 1 * (y 0).val = n.val * 128 + r.val := congrArg Fin.val (congrFun e 0)
  have e1 : win2_9.index t 1 * 1024 + 1 * (y 1).val = (qcol κ g d).val := congrArg Fin.val (congrFun e 1)
  rw [(idx2_9 t).1] at e0
  rw [(idx2_9 t).2] at e1
  have y0 : (y 0).val < 128 := (y 0).isLt
  have hn : pt2 t = n := Fin.ext (show t.val = n.val by omega)
  subst hn
  have hn : (pt2 t).val = t.val := rfl
  have hy : y = ix2 r (qcol κ g d) := by
    funext a
    apply Fin.ext
    match a with
    | ⟨0, _⟩ => show (y 0).val = r.val; omega
    | ⟨1, _⟩ => show (y 1).val = (qcol κ g d).val; omega
  subst hy
  show (dat2 V c).after 9 t (ix2 r (qcol κ g d)) = _
  rw [after2_9]
  exact at_dq h ho t κ g r d

theorem idx2_10 (t : Fin cfg2.N) : win2_10.index t 0 = t.val - 1 ∧ win2_10.index t 1 = 0 := by revert t; decide +kernel

theorem flush_dkp (t : Fin cfg2.N) : (cfg2.win 10).flush t = true ↔ 0 < t.val := by revert t; decide +kernel

theorem dkp_arr (h : Holds V c A) (ho : Fwd V c A) (n : Fin 64) (hn : 0 < n.val) (κ : Fin 2) (r : Fin 128) (d : Fin 64) :
    (dat2 V c).arrAt 10 cfg2.N (ix2 (prow n r) (kcol κ d)) = ((A.tile n κ).DK (fst r) d : EReal) := by
  let s : Fin cfg2.N := ⟨n.val, by have : cfg2.N = 64 := N_2; omega⟩
  refine (dat2 V c).arrAt_forall_of_flushed 10 (fun i v => ∀ n κ r d, 0 < n.val → i = ix2 (prow n r) (kcol κ d) → v = ((A.tile n κ).DK (fst r) d : EReal))
    (fun t hf y n κ r d hn e => ?_) cfg2.N s _ s.isLt ((flush_dkp s).mpr hn) ?_ n κ r d hn rfl
  rotate_left
  · generalize hs : s = t
    have hv : t.val = n.val := congrArg Fin.val hs.symm
    show _ ∈ ((View.whole main_v2_1).slice (win2_10.rect t)).set
    rw [View.set_slice_whole, Rect.mem_set_unit]
    intro a
    have hr := r.isLt
    have hk := (kcol κ d).isLt
    match a with
    | ⟨0, _⟩ =>
      show win2_10.index t 0 * 128 ≤ (n.val - 1) * 128 + r.val ∧ (n.val - 1) * 128 + r.val < win2_10.index t 0 * 128 + 128
      rw [(idx2_10 t).1]; omega
    | ⟨1, _⟩ =>
      show win2_10.index t 1 * 128 ≤ (kcol κ d).val ∧ (kcol κ d).val < win2_10.index t 1 * 128 + 128
      rw [(idx2_10 t).2]; omega
  have e0 : win2_10.index t 0 * 128 + 1 * (y 0).val = (n.val - 1) * 128 + r.val := congrArg Fin.val (congrFun e 0)
  have e1 : win2_10.index t 1 * 128 + 1 * (y 1).val = (kcol κ d).val := congrArg Fin.val (congrFun e 1)
  rw [(idx2_10 t).1] at e0
  rw [(idx2_10 t).2] at e1
  have y0 : (y 0).val < 128 := (y 0).isLt
  have ht : 0 < t.val := (flush_dkp t).mp hf
  have hn : pt2 t = n := Fin.ext (show t.val = n.val by omega)
  subst hn
  have hn : (pt2 t).val = t.val := rfl
  have hy : y = ix2 r (kcol κ d) := by
    funext a
    apply Fin.ext
    match a with
    | ⟨0, _⟩ => show (y 0).val = r.val; omega
    | ⟨1, _⟩ => show (y 1).val = (kcol κ d).val; omega
  subst hy
  show (dat2 V c).after 10 t (ix2 r (kcol κ d)) = _
  rw [after2_10]
  exact at_dkp h ho t κ r d

theorem idx2_11 (t : Fin cfg2.N) : win2_11.index t 0 = t.val ∧ win2_11.index t 1 = 0 := by revert t; decide +kernel

theorem dkc_arr (h : Holds V c A) (ho : Fwd V c A) (n : Fin 64) (κ : Fin 2) (r : Fin 128) (d : Fin 64) :
    (dat2 V c).arrAt 11 cfg2.N (ix2 (row n r) (kcol κ d)) = ((A.tile n κ).DK (snd r) d : EReal) := by
  refine (dat2 V c).arrAt_forall_of_covers 11 (fun i v => ∀ n κ r d, i = ix2 (row n r) (kcol κ d) → v = ((A.tile n κ).DK (snd r) d : EReal))
    (by decide +kernel) (fun t hf y n κ r d e => ?_) _ (Memref.isWhole_whole _) n κ r d rfl
  have e0 : win2_11.index t 0 * 128 + 1 * (y 0).val = n.val * 128 + r.val := congrArg Fin.val (congrFun e 0)
  have e1 : win2_11.index t 1 * 128 + 1 * (y 1).val = (kcol κ d).val := congrArg Fin.val (congrFun e 1)
  rw [(idx2_11 t).1] at e0
  rw [(idx2_11 t).2] at e1
  have y0 : (y 0).val < 128 := (y 0).isLt
  have hn : pt2 t = n := Fin.ext (show t.val = n.val by omega)
  subst hn
  have hn : (pt2 t).val = t.val := rfl
  have hy : y = ix2 r (kcol κ d) := by
    funext a
    apply Fin.ext
    match a with
    | ⟨0, _⟩ => show (y 0).val = r.val; omega
    | ⟨1, _⟩ => show (y 1).val = (kcol κ d).val; omega
  subst hy
  show (dat2 V c).after 11 t (ix2 r (kcol κ d)) = _
  rw [after2_11]
  exact at_dkc h ho t κ r d

theorem idx2_12 (t : Fin cfg2.N) : win2_12.index t 0 = t.val - 1 ∧ win2_12.index t 1 = 0 := by revert t; decide +kernel

theorem flush_dvp (t : Fin cfg2.N) : (cfg2.win 12).flush t = true ↔ 0 < t.val := by revert t; decide +kernel

theorem dvp_arr (h : Holds V c A) (ho : Fwd V c A) (n : Fin 64) (hn : 0 < n.val) (κ : Fin 2) (r : Fin 128) (d : Fin 64) :
    (dat2 V c).arrAt 12 cfg2.N (ix2 (prow n r) (kcol κ d)) = ((A.tile n κ).DV (fst r) d : EReal) := by
  let s : Fin cfg2.N := ⟨n.val, by have : cfg2.N = 64 := N_2; omega⟩
  refine (dat2 V c).arrAt_forall_of_flushed 12 (fun i v => ∀ n κ r d, 0 < n.val → i = ix2 (prow n r) (kcol κ d) → v = ((A.tile n κ).DV (fst r) d : EReal))
    (fun t hf y n κ r d hn e => ?_) cfg2.N s _ s.isLt ((flush_dvp s).mpr hn) ?_ n κ r d hn rfl
  rotate_left
  · generalize hs : s = t
    have hv : t.val = n.val := congrArg Fin.val hs.symm
    show _ ∈ ((View.whole main_v2_3).slice (win2_12.rect t)).set
    rw [View.set_slice_whole, Rect.mem_set_unit]
    intro a
    have hr := r.isLt
    have hk := (kcol κ d).isLt
    match a with
    | ⟨0, _⟩ =>
      show win2_12.index t 0 * 128 ≤ (n.val - 1) * 128 + r.val ∧ (n.val - 1) * 128 + r.val < win2_12.index t 0 * 128 + 128
      rw [(idx2_12 t).1]; omega
    | ⟨1, _⟩ =>
      show win2_12.index t 1 * 128 ≤ (kcol κ d).val ∧ (kcol κ d).val < win2_12.index t 1 * 128 + 128
      rw [(idx2_12 t).2]; omega
  have e0 : win2_12.index t 0 * 128 + 1 * (y 0).val = (n.val - 1) * 128 + r.val := congrArg Fin.val (congrFun e 0)
  have e1 : win2_12.index t 1 * 128 + 1 * (y 1).val = (kcol κ d).val := congrArg Fin.val (congrFun e 1)
  rw [(idx2_12 t).1] at e0
  rw [(idx2_12 t).2] at e1
  have y0 : (y 0).val < 128 := (y 0).isLt
  have ht : 0 < t.val := (flush_dvp t).mp hf
  have hn : pt2 t = n := Fin.ext (show t.val = n.val by omega)
  subst hn
  have hn : (pt2 t).val = t.val := rfl
  have hy : y = ix2 r (kcol κ d) := by
    funext a
    apply Fin.ext
    match a with
    | ⟨0, _⟩ => show (y 0).val = r.val; omega
    | ⟨1, _⟩ => show (y 1).val = (kcol κ d).val; omega
  subst hy
  show (dat2 V c).after 12 t (ix2 r (kcol κ d)) = _
  rw [after2_12]
  exact at_dvp h ho t κ r d

theorem idx2_13 (t : Fin cfg2.N) : win2_13.index t 0 = t.val ∧ win2_13.index t 1 = 0 := by revert t; decide +kernel

theorem dvc_arr (h : Holds V c A) (ho : Fwd V c A) (n : Fin 64) (κ : Fin 2) (r : Fin 128) (d : Fin 64) :
    (dat2 V c).arrAt 13 cfg2.N (ix2 (row n r) (kcol κ d)) = ((A.tile n κ).DV (snd r) d : EReal) := by
  refine (dat2 V c).arrAt_forall_of_covers 13 (fun i v => ∀ n κ r d, i = ix2 (row n r) (kcol κ d) → v = ((A.tile n κ).DV (snd r) d : EReal))
    (by decide +kernel) (fun t hf y n κ r d e => ?_) _ (Memref.isWhole_whole _) n κ r d rfl
  have e0 : win2_13.index t 0 * 128 + 1 * (y 0).val = n.val * 128 + r.val := congrArg Fin.val (congrFun e 0)
  have e1 : win2_13.index t 1 * 128 + 1 * (y 1).val = (kcol κ d).val := congrArg Fin.val (congrFun e 1)
  rw [(idx2_13 t).1] at e0
  rw [(idx2_13 t).2] at e1
  have y0 : (y 0).val < 128 := (y 0).isLt
  have hn : pt2 t = n := Fin.ext (show t.val = n.val by omega)
  subst hn
  have hn : (pt2 t).val = t.val := rfl
  have hy : y = ix2 r (kcol κ d) := by
    funext a
    apply Fin.ext
    match a with
    | ⟨0, _⟩ => show (y 0).val = r.val; omega
    | ⟨1, _⟩ => show (y 1).val = (kcol κ d).val; omega
  subst hy
  show (dat2 V c).after 13 t (ix2 r (kcol κ d)) = _
  rw [after2_13]
  exact at_dvc h ho t κ r d

/-- The sinks' gradient so far. -/
theorem at_dsk (h : Holds V c A) (ho : Fwd V c A) (κ : Fin 2) (g : Fin 8) : ∀ (n : ℕ) (hn : n < cfg2.N),
    (outsAt2 V c n hn).2.2.2.2.2 (ix2 0 (head κ g)) = ((∑ b ∈ univ.filter (fun b : Fin 64 => b.val ≤ n), (A.tile b κ).DSK g : ℝ) : EReal)
  | 0, hn => by
    rw [outsAt2_A V c ⟨0, hn⟩ rfl]
    dsimp only
    refine (dskA_val _ _ _ _ _ _ _ _ _ _ _ _ _ _ _ _ _ _ _ _ _ _ _ _ _ _ _ _ _ _ _ _ _ _ _ _ _ _ _ _ _ _ (ins2 h ⟨0, hn⟩) (blk_o ho ⟨0, hn⟩) (blk_g h ⟨0, hn⟩) κ g).trans ?_
    rw [tile_DSK, show univ.filter (fun b : Fin 64 => b.val ≤ 0) = {pt2 ⟨0, hn⟩} from by
      ext b
      simp only [mem_filter, mem_univ, true_and, mem_singleton, Fin.ext_iff, pt2]
      omega, sum_singleton]
  | n + 1, hn => by
    have hN : cfg2.N = 64 := N_2
    rw [outsAt2_B V c ⟨n + 1, hn⟩ (by show ¬ (n + 1) % 64 = 0; omega)]
    dsimp only
    refine (dskB_val _ _ _ _ _ _ _ _ _ _ _ _ _ _ _ _ _ _ _ _ _ _ _ _ _ _ _ _ _ _ _ _ _ _ _ _ _ _ _ _ _ _ _ (ins2 h ⟨n + 1, hn⟩) (blk_o ho ⟨n + 1, hn⟩) (blk_g h ⟨n + 1, hn⟩) κ g).trans ?_
    rw [tile_DSK]
    refine (congrArg₂ (fun a b : EReal => a + b) (at_dsk h ho κ g n (by omega)) rfl).trans ?_
    rw [← EReal.coe_add, show univ.filter (fun b : Fin 64 => b.val ≤ n + 1) = insert (pt2 ⟨n + 1, hn⟩) (univ.filter (fun b : Fin 64 => b.val ≤ n)) from by
      ext b
      simp only [mem_filter, mem_univ, true_and, mem_insert, Fin.ext_iff, pt2]
      omega, sum_insert (by simp [pt2]), add_comm]

theorem whole14 : ∀ t : Fin cfg2.N, t.val = 63 → (cfg2.win 14).WholeAt t := by decide +kernel

theorem dsk_arr (h : Holds V c A) (ho : Fwd V c A) (κ : Fin 2) (g : Fin 8) :
    (dat2 V c).arrAt 14 cfg2.N (ix2 0 (head κ g)) = ((∑ b : Fin 64, (A.tile b κ).DSK g : ℝ) : EReal) := by
  have hl : 63 < cfg2.N := by have : cfg2.N = 64 := N_2; omega
  obtain ⟨t, hv⟩ : ∃ t : Fin cfg2.N, t.val = 63 := ⟨⟨63, hl⟩, rfl⟩
  refine ((dat2 V c).arrAt_emb_eq_after_last 14 t (whole14 t hv) (ix2 0 (head κ g))).trans ?_
  show (dat2 V c).after 14 t (ix2 0 (head κ g)) = _
  rw [after2_14]
  refine (at_dsk h ho κ g t.val t.isLt).trans ?_
  rw [filter_true_of_mem fun b _ => by omega]

end Cert.AttnKer

end
-- ==== Proof.KRun.lean ====
/- The run of the attention's program: every array ends at the last boundary's contents, which are the regions' results. -/
module

public import proofs.«01_k».proof.Proof.KArr

@[expose] public section

set_option maxRecDepth 16384

noncomputable section

namespace Cert.AttnKer

open Cert.KernelIdeal Cert.KernelIdeal.Gen Idealize.ShloMosaic Idealize.ShloMosaic.TcCoe Idealize.SL.Sem Cert.Attn Finset
open Idealize.ShloMosaic.Pipeline (Dat)
open Idealize.ShloMosaic.Tactic Idealize.SL Idealize.SL.RA Idealize.SL.BI
open scoped Idealize.SL.BI
open Idealize.SL.BI.BIBase Idealize.SL.BI.Laws Idealize.SL.ProofMode Idealize.ShloMosaic.Rounds

variable (m : (ℓ : Loc nD τ sig) → Buf (Elt Ideal) ℓ) (ρ : Dev nD → PrngReg)

set_option backward.isDefEq.respectTransparency.types false in
/-- Every unscoped array of every device ends at the contents of the last boundary. -/
theorem run_arrays : θ_run defs (onTc (τ := τ) (main (F := Ideal))) ⟨m, fun _ => 0, ρ⟩ (fun r => ∀ c : Dev nD,
    ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

variable {m ρ}

variable (A : Arr) (c : Dev nD)

/-- What the argument arrays hold. -/
structure Given : Prop where
  q : m ((c : Thread nD τ).loc main_arg0) = up2 A.q
  k : m ((c : Thread nD τ).loc main_arg1) = up2 A.k
  v : m ((c : Thread nD τ).loc main_arg2) = up2 A.v
  σ : m ((c : Thread nD τ).loc main_arg3) = up2 A.σ
  go : m ((c : Thread nD τ).loc main_arg4) = up2 A.go

variable {A c}

theorem holds1 (h : Given (m := m) A c) : Holds (V1 m ρ) c A where
  q r j := congrFun ((W1_args m ρ c main_arg0 (by decide)).trans h.q) (ix2 r j)
  k r j := congrFun ((W1_args m ρ c main_arg1 (by decide)).trans h.k) (ix2 r j)
  v r j := congrFun ((W1_args m ρ c main_arg2 (by decide)).trans h.v) (ix2 r j)
  σ r j := congrFun ((W1_args m ρ c main_arg3 (by decide)).trans h.σ) (ix2 r j)
  go r j := congrFun ((W1_args m ρ c main_arg4 (by decide)).trans h.go) (ix2 r j)
  bias b s g i := (congrFun (W1_arr m ρ c 1) (ix3 b s (col g i))).trans (bias_arr b s g i)

theorem holds2 (h : Given (m := m) A c) : Holds (V2 m ρ) c A where
  q r j := congrFun ((W2_args m ρ c main_arg0 (by decide)).trans h.q) (ix2 r j)
  k r j := congrFun ((W2_args m ρ c main_arg1 (by decide)).trans h.k) (ix2 r j)
  v r j := congrFun ((W2_args m ρ c main_arg2 (by decide)).trans h.v) (ix2 r j)
  σ r j := congrFun ((W2_args m ρ c main_arg3 (by decide)).trans h.σ) (ix2 r j)
  go r j := congrFun ((W2_args m ρ c main_arg4 (by decide)).trans h.go) (ix2 r j)
  bias b s g i := (congrFun (W2_of m ρ c main_v0 (by decide +kernel)) (ix3 b s (col g i))).trans ((holds1 h).bias b s g i)

theorem fwd2 (h : Given (m := m) A c) : Fwd (V2 m ρ) c A := fun n κ g r d =>
  (congrFun (W2_arr m ρ c 7) (ix2 (row n r) (qcol κ g d))).trans (out_arr (holds1 h) n κ g r d)

theorem end_out (h : Given (m := m) A c) (n κ g r d) : W3 m ρ c (Proc.devRef .tc main_v1) (ix2 (row n r) (qcol κ g d)) = ((A.tile n κ).O g r d : EReal) :=
  (congrFun (W3_of m ρ c main_v1 (by decide +kernel)) (ix2 (row n r) (qcol κ g d))).trans (fwd2 h n κ g r d)

theorem end_dq (h : Given (m := m) A c) (n κ g r d) : W3 m ρ c (Proc.devRef .tc main_v2_0) (ix2 (row n r) (qcol κ g d)) = ((A.tile n κ).DQ g r d : EReal) :=
  (congrFun (W3_arr m ρ c 9) (ix2 (row n r) (qcol κ g d))).trans (dq_arr (holds2 h) (fwd2 h) n κ g r d)

theorem end_dkp (h : Given (m := m) A c) (n : Fin 64) (hn : 0 < n.val) (κ r d) : W3 m ρ c (Proc.devRef .tc main_v2_1) (ix2 (prow n r) (kcol κ d)) = ((A.tile n κ).DK (fst r) d : EReal) :=
  (congrFun (W3_arr m ρ c 10) (ix2 (prow n r) (kcol κ d))).trans (dkp_arr (holds2 h) (fwd2 h) n hn κ r d)

theorem end_dkc (h : Given (m := m) A c) (n κ r d) : W3 m ρ c (Proc.devRef .tc main_v2_2) (ix2 (row n r) (kcol κ d)) = ((A.tile n κ).DK (snd r) d : EReal) :=
  (congrFun (W3_arr m ρ c 11) (ix2 (row n r) (kcol κ d))).trans (dkc_arr (holds2 h) (fwd2 h) n κ r d)

theorem end_dvp (h : Given (m := m) A c) (n : Fin 64) (hn : 0 < n.val) (κ r d) : W3 m ρ c (Proc.devRef .tc main_v2_3) (ix2 (prow n r) (kcol κ d)) = ((A.tile n κ).DV (fst r) d : EReal) :=
  (congrFun (W3_arr m ρ c 12) (ix2 (prow n r) (kcol κ d))).trans (dvp_arr (holds2 h) (fwd2 h) n hn κ r d)

theorem end_dvc (h : Given (m := m) A c) (n κ r d) : W3 m ρ c (Proc.devRef .tc main_v2_4) (ix2 (row n r) (kcol κ d)) = ((A.tile n κ).DV (snd r) d : EReal) :=
  (congrFun (W3_arr m ρ c 13) (ix2 (row n r) (kcol κ d))).trans (dvc_arr (holds2 h) (fwd2 h) n κ r d)

theorem end_dsk (h : Given (m := m) A c) (κ g) : W3 m ρ c (Proc.devRef .tc main_v2_5) (ix2 0 (head κ g)) = ((∑ b : Fin 64, (A.tile b κ).DSK g : ℝ) : EReal) :=
  (congrFun (W3_arr m ρ c 14) (ix2 0 (head κ g))).trans (dsk_arr (holds2 h) (fwd2 h) κ g)

end Cert.AttnKer

end
-- ==== Proof.AttnRef.lean ====
/- The reference's attention read at an index, as the reals of a block: scores, weights, probabilities and the output. -/
module

public import proofs.«01_k».proof.Proof.AttnMask
public import proofs.«01_k».proof.Proof.Gen.ReferenceIdeal.Read

@[expose] public section

set_option maxRecDepth 16384

noncomputable section

namespace Cert.AttnRef

open Cert.ReferenceIdeal Cert.ReferenceIdeal.Read Idealize.ShloMosaic Cert.Attn Finset

variable (A : Arr) (n : Fin 64) (κ : Fin 2) (g : Fin 8) (i : Fin 128) (s : Fin 256) (d : Fin 64)

/-- The queries' array. -/
abbrev aq : (⟨S8192x1024, .bf16⟩ : BufTy).Contents (Elt Ideal) := up2 A.q
/-- The keys' array. -/
abbrev ak : (⟨S8192x128, .bf16⟩ : BufTy).Contents (Elt Ideal) := up2 A.k
/-- The values' array. -/
abbrev av : (⟨S8192x128, .bf16⟩ : BufTy).Contents (Elt Ideal) := up2 A.v
/-- The sinks' array. -/
abbrev aσ : (⟨S1x16, .f32⟩ : BufTy).Contents (Elt Ideal) := up2 A.σ
/-- The output gradient's array. -/
abbrev ago : (⟨S8192x1024, .f32⟩ : BufTy).Contents (Elt Ideal) := up2 A.go

theorem bot_bits : Ideal.ofBits .f32 0xFF800000#32 = ⊥ := by
  simp [Ideal.ofBits, Ideal.ieee]

theorem v4_at : val_main_v4 (F := Ideal) (aq A) (ix5 n i κ g d) = ((A.tile n κ).Q g i d : EReal) := by
  pointwise [val_main_v4, val_main_v0]
  rfl

theorem v11_at : val_main_v11 (F := Ideal) (ak A) (ix4 n s κ d) = ((A.tile n κ).K s d : EReal) := by
  change _ = ((band A.k n κ s d : ℝ) : EReal)
  pointwise [val_main_v11, val_main_v9, val_main_v6, val_main_v7, val_main_v8, val_main_v5, val_main_v1, val_main_cst]
  unfold band
  split
  · split
    · rfl
    · rfl
  · rfl

theorem v18_at : val_main_v18 (F := Ideal) (av A) (ix4 n s κ d) = ((A.tile n κ).V s d : EReal) := by
  change _ = ((band A.v n κ s d : ℝ) : EReal)
  pointwise [val_main_v18, val_main_v16, val_main_v13, val_main_v12, val_main_v14, val_main_v15, val_main_v2, val_main_cst_1]
  unfold band
  split
  · split
    · rfl
    · rfl
  · rfl

theorem v20_at : val_main_v20 (F := Ideal) (aq A) (ak A) (ix5 n κ g i s) = ((A.tile n κ).X g i s : EReal) := by
  pointwise [val_main_v20, val_main_v19]
  simp only [v11_at, v4_at, ← EReal.coe_mul, coe_sum]
  rfl

theorem mask_at : val_main_v52_1 (F := Ideal) (ix5 n κ g i s) = BitVec.ofBool (decide (ok n.val i s)) := by
  pointwise [val_main_v52_1, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_c, val_main_c_3, val_main_c_4, val_main_c_5, val_main_c_6, val_main_c_7]
  exact mask_word n i s

theorem v52_at : val_main_v52_0 (F := Ideal) (aq A) (ak A) (ix5 n κ g i s) = score (ok (A.tile n κ).n i) ((A.tile n κ).X g i) s := by
  pointwise [val_main_v52_0, val_main_call0_v2, val_main_call0_v0, val_main_cst_8]
  rw [mask_at, v20_at]
  unfold score
  change Scalar.select (BitVec.ofBool (decide (ok n.val i s))) _ _ = if ok n.val i s then _ else _
  by_cases h : ok n.val i s
  · rw [decide_eq_true h, if_pos h]; rfl
  · rw [decide_eq_false h, if_neg h]; exact bot_bits

theorem v55_at : val_main_v55 (F := Ideal) (aq A) (ak A) (ix4 n κ g i) =
    univ.fold max ⊥ (score (ok (A.tile n κ).n i) ((A.tile n κ).X g i)) := by
  pointwise [val_main_v55, val_main_cst_9]
  simp only [v52_at, bot_bits]

theorem v62_at : val_main_v62 (F := Ideal) (aσ A) (ix5 n κ g i 0) = ((A.tile n κ).σ g : EReal) := by
  pointwise [val_main_v62, val_main_v54, val_main_v53, val_main_v3]
  rfl

theorem v87_at : val_main_v87 (F := Ideal) (aσ A) (ix5 n κ g i 0) = ((A.tile n κ).σ g : EReal) := v62_at A n κ g i

theorem v61_at : val_main_v61 (F := Ideal) (aq A) (ak A) (ix5 n κ g i 0) =
    univ.fold max ⊥ (score (ok (A.tile n κ).n i) ((A.tile n κ).X g i)) := by
  have h : val_main_v61 (F := Ideal) (aq A) (ak A) (ix5 n κ g i 0) = val_main_v55 (F := Ideal) (aq A) (ak A) (ix4 n κ g i) := by
    pointwise [val_main_v61]
  rw [h, v55_at]

theorem v63_at : val_main_v63 (F := Ideal) (aq A) (ak A) (aσ A) (ix5 n κ g i 0) =
    top (ok (A.tile n κ).n i) ((A.tile n κ).X g i) ((A.tile n κ).σ g) := by
  rw [val_main_v63_apply, v61_at, v62_at]
  rfl

theorem v84_at : val_main_v84 (F := Ideal) (aq A) (ak A) (aσ A) (ix5 n κ g i s) =
    (e (ok (A.tile n κ).n i) ((A.tile n κ).X g i) ((A.tile n κ).σ g) s : EReal) := by
  pointwise [val_main_v84, val_main_v83, val_main_v82]
  rw [v63_at, v52_at, exp_score]

theorem v89_at : val_main_v89 (F := Ideal) (aq A) (ak A) (aσ A) (ix5 n κ g i 0) =
    (es (ok (A.tile n κ).n i) ((A.tile n κ).X g i) ((A.tile n κ).σ g) : EReal) := by
  rw [val_main_v89_apply, val_main_v88_apply, v63_at, v87_at]
  exact exp_sink

theorem v90_at : val_main_v90 (F := Ideal) (aq A) (ak A) (aσ A) (ix5 n κ g i 0) =
    (tot (ok (A.tile n κ).n i) ((A.tile n κ).X g i) ((A.tile n κ).σ g) : EReal) := by
  pointwise [val_main_v90, val_main_v86, val_main_v85, val_main_cst_17]
  simp only [v84_at, v89_at, coe_sum, ← EReal.coe_add]
  rfl

theorem v92_at : val_main_v92 (F := Ideal) (aq A) (ak A) (aσ A) (ix5 n κ g i s) = ((A.tile n κ).Pr g i s : EReal) := by
  pointwise [val_main_v92, val_main_v91]
  rw [v84_at, v90_at]
  exact div_real (tot_ne _ _ _)

/-- The attention's output. -/
theorem out_at : val_main_v98 (F := Ideal) (aq A) (ak A) (av A) (aσ A) (ix2 (row n i) (qcol κ g d)) = ((A.tile n κ).O g i d : EReal) := by
  have : val_main_v98 (F := Ideal) (aq A) (ak A) (av A) (aσ A) (ix2 ⟨n.val * 128 + i.val, by omega⟩ ⟨κ.val * 512 + g.val * 64 + d.val, by omega⟩) = ((A.tile n κ).O g i d : EReal) := by
    pointwise [val_main_v98, val_main_v97, val_main_v96]
    simp only [v18_at, v92_at, ← EReal.coe_mul, coe_sum]
    rfl
  exact this

end Cert.AttnRef

end
-- ==== Proof.AttnRefB.lean ====
/- The reference's gradients of the attention read at an index, as the reals of a block. -/
module

public import proofs.«01_k».proof.Proof.AttnRef
public import Idealize.ShloMosaic.Lib.Pointwise

@[expose] public section

set_option maxRecDepth 16384

noncomputable section

namespace Cert.AttnRef

open Cert.ReferenceIdeal Cert.ReferenceIdeal.Read Idealize.ShloMosaic Cert.Attn Finset

variable (A : Arr) (n : Fin 64) (κ : Fin 2) (g : Fin 8) (i : Fin 128) (s : Fin 256) (d : Fin 64)

/-- The weights of block `n`. -/
abbrev te : ℝ := e (ok (A.tile n κ).n i) ((A.tile n κ).X g i) ((A.tile n κ).σ g) s
/-- Their sum. -/
abbrev tt : ℝ := tot (ok (A.tile n κ).n i) ((A.tile n κ).X g i) ((A.tile n κ).σ g)
/-- The sink's weight. -/
abbrev ts : ℝ := es (ok (A.tile n κ).n i) ((A.tile n κ).X g i) ((A.tile n κ).σ g)

theorem v99_at : val_main_v99 (F := Ideal) (ago A) (ix5 n i κ g d) = ((A.tile n κ).G g i d : EReal) := by
  pointwise [val_main_v99]
  rfl

theorem v100_at : val_main_v100 (F := Ideal) (ago A) (ix5 n κ d g i) = ((A.tile n κ).G g i d : EReal) := by
  pointwise [val_main_v100]
  exact v99_at A n κ g i d

theorem v101_at : val_main_v101 (F := Ideal) (av A) (ago A) (ix5 n κ g i s) = ((A.tile n κ).DP g i s : EReal) := by
  pointwise [val_main_v101]
  simp only [v100_at, v18_at, ← EReal.coe_mul, coe_sum]
  unfold Tile.DP
  congr 1
  exact sum_congr rfl fun d _ => mul_comm _ _

theorem v103_at : val_main_v103 (F := Ideal) (aq A) (ak A) (aσ A) (ago A) (ix4 n s κ d) = ((A.tile n κ).DV s d : EReal) := by
  pointwise [val_main_v103, val_main_v102]
  simp only [v100_at, v92_at, ← EReal.coe_mul, coe_sum]
  unfold Tile.DV
  congr 1
  exact sum_congr rfl fun g _ => sum_congr rfl fun i _ => mul_comm _ _

theorem v95_at : val_main_v95 (F := Ideal) (aq A) (ak A) (aσ A) (ix5 n κ g i 0) = ((1 / (tt A n κ g i * tt A n κ g i) : ℝ) : EReal) := by
  have h : val_main_v95 (F := Ideal) (aq A) (ak A) (aσ A) (ix5 n κ g i 0) =
      Ideal.div 1 (val_main_v90 (F := Ideal) (aq A) (ak A) (aσ A) (ix5 n κ g i 0) * val_main_v90 (F := Ideal) (aq A) (ak A) (aσ A) (ix5 n κ g i 0)) := by
    pointwise [val_main_v95, val_main_v94, val_main_v93, val_main_cst_18]
  rw [h, v90_at, ← EReal.coe_mul, ← EReal.coe_one]
  exact div_real (mul_ne_zero (tot_ne _ _ _) (tot_ne _ _ _))

theorem v106_at : val_main_v106 (F := Ideal) (aq A) (ak A) (av A) (aσ A) (ago A) (ix5 n κ g i s) =
    (((A.tile n κ).DP g i s * (1 / (tt A n κ g i * tt A n κ g i)) * te A n κ g i s : ℝ) : EReal) := by
  pointwise [val_main_v106, val_main_v105, val_main_v104]
  rw [v101_at, v95_at, v84_at, ← EReal.coe_mul, ← EReal.coe_mul]

theorem v109_at : val_main_v109 (F := Ideal) (aq A) (ak A) (av A) (aσ A) (ago A) (ix5 n κ g i 0) =
    ((-((A.tile n κ).Dl g i / tt A n κ g i) : ℝ) : EReal) := by
  have h : val_main_v108 (F := Ideal) (aq A) (ak A) (av A) (aσ A) (ago A) (ix5 n κ g i 0) =
      ∑ s, val_main_v106 (F := Ideal) (aq A) (ak A) (av A) (aσ A) (ago A) (ix5 n κ g i s) := by
    pointwise [val_main_v108, val_main_v107, val_main_cst_19]
  have h' : val_main_v108 (F := Ideal) (aq A) (ak A) (av A) (aσ A) (ago A) (ix5 n κ g i 0) = (((A.tile n κ).Dl g i / tt A n κ g i : ℝ) : EReal) := by
    rw [h]
    simp only [v106_at, coe_sum]
    unfold Tile.Dl Tile.Pr P
    congr 1
    rw [sum_div]
    refine sum_congr rfl fun s _ => ?_
    have := tot_ne (ok (A.tile n κ).n i) ((A.tile n κ).X g i) ((A.tile n κ).σ g)
    field_simp
  rw [val_main_v109_apply, h']
  rfl

theorem v111_at : val_main_v111 (F := Ideal) (aq A) (ak A) (av A) (aσ A) (ago A) (ix5 n κ g i s) =
    (((A.tile n κ).DP g i s / tt A n κ g i : ℝ) : EReal) := by
  pointwise [val_main_v111, val_main_v110]
  rw [v101_at, v90_at]
  exact div_real (tot_ne _ _ _)

theorem v112_at : val_main_v112 (F := Ideal) (aq A) (ak A) (av A) (aσ A) (ago A) (ix5 n κ g i 0) =
    ((-((A.tile n κ).PS g i) * (A.tile n κ).Dl g i : ℝ) : EReal) := by
  rw [val_main_v112_apply, v109_at, v89_at]
  refine (EReal.coe_mul _ _).symm.trans ?_
  congr 1
  unfold Tile.PS Ps
  ring

theorem v119_at : val_main_v119 (F := Ideal) (aq A) (ak A) (av A) (aσ A) (ago A) (ix5 n κ g i s) = ((A.tile n κ).DS g i s : EReal) := by
  have h : val_main_v117 (F := Ideal) (aq A) (ak A) (av A) (aσ A) (ago A) (ix5 n κ g i s) =
      val_main_v109 (F := Ideal) (aq A) (ak A) (av A) (aσ A) (ago A) (ix5 n κ g i 0) := by
    pointwise [val_main_v117, val_main_v116, val_main_cst_21]
    simp
  rw [val_main_v119_apply, val_main_v118_apply, h, v111_at, v109_at, v84_at]
  refine ((congrArg (· * _) (EReal.coe_add _ _).symm).trans (EReal.coe_mul _ _).symm).trans ?_
  congr 1
  unfold Tile.DS Tile.Pr P
  ring

theorem v123_at : val_main_v123 (F := Ideal) (aq A) (ak A) (av A) (aσ A) (ago A) (ix5 n κ g i 0) = 0 := by
  have h : val_main_v122 (F := Ideal) (aq A) (ak A) (av A) (aσ A) (ago A) (ix5 n κ g i 0) =
      ∑ s, val_main_v120 (F := Ideal) (aq A) (ak A) (av A) (aσ A) (ago A) (ix5 n κ g i s) := by
    pointwise [val_main_v122, val_main_v121, val_main_cst_22]
  have h0 : ∀ s, val_main_v120 (F := Ideal) (aq A) (ak A) (av A) (aσ A) (ago A) (ix5 n κ g i s) = ((-(A.tile n κ).DS g i s : ℝ) : EReal) := fun s => by
    rw [val_main_v120_apply, v119_at]; rfl
  rw [val_main_v123_apply, val_main_v115_apply, h, v112_at]
  simp only [h0, coe_sum]
  refine (EReal.coe_add _ _).symm.trans ?_
  rw [← EReal.coe_zero]
  congr 1
  rw [sum_neg_distrib, Tile.sum_DS]
  ring

theorem v128_at : val_main_v128 (F := Ideal) (aq A) (ak A) (av A) (aσ A) (ago A) (ix5 n κ g i 0) = 0 := by
  rw [val_main_v128_apply, v123_at]
  exact zero_mul _

theorem v124_at : val_main_v124 (F := Ideal) (aq A) (ak A) (av A) (aσ A) (ago A) (ix5 n κ g i 0) = 0 := by
  rw [val_main_v124_apply, v123_at]
  exact zero_mul _

end Cert.AttnRef

end
-- ==== Proof.AttnRefC.lean ====
/- The reference's results of the attention's gradients, at each of their elements. -/
module

public import proofs.«01_k».proof.Proof.AttnRefB
public import Idealize.ShloMosaic.Lib.Pointwise

@[expose] public section

set_option maxRecDepth 16384

noncomputable section

namespace Cert.AttnRef

open Cert.ReferenceIdeal Cert.ReferenceIdeal.Read Idealize.ShloMosaic Cert.Attn Finset

variable (A : Arr) (n : Fin 64) (κ : Fin 2) (g : Fin 8) (i : Fin 128) (s : Fin 256) (d : Fin 64)

/-- The largest of finitely many elements is one of them. -/
theorem exists_fold {N : ℕ} [NeZero N] (f : Fin N → EReal) : ∃ s, f s = univ.fold max ⊥ f := by
  have h : univ.fold max ⊥ f = univ.sup' univ_nonempty f := by
    rw [sup'_eq_sup]; rfl
  obtain ⟨s, -, hs⟩ := exists_mem_eq_sup' (univ_nonempty (α := Fin N)) f
  exact ⟨s, by rw [h, hs]⟩

/-- The number of scores that are the largest is a real other than zero. -/
theorem v60_at : ∃ c : ℝ, c ≠ 0 ∧ val_main_v60 (F := Ideal) (aq A) (ak A) (ix4 n κ g i) = (c : EReal) := by
  classical
  let f := score (ok (A.tile n κ).n i) ((A.tile n κ).X g i)
  have h : val_main_v60 (F := Ideal) (aq A) (ak A) (ix4 n κ g i) =
      ∑ s, FloatOps.uitofp (F := Ideal) FTy.f32 (BitVec.ofBool (decide (f s = univ.fold max ⊥ f))) := by
    pointwise [val_main_v60, val_main_v59, val_main_v58, val_main_v57, val_main_v56, val_main_cst_10]
    simp only [v52_at, v55_at]
    rfl
  have h1 : ∀ s, FloatOps.uitofp (F := Ideal) FTy.f32 (BitVec.ofBool (decide (f s = univ.fold max ⊥ f))) =
      (((if f s = univ.fold max ⊥ f then 1 else 0 : ℝ)) : EReal) := fun s => by
    by_cases hs : f s = univ.fold max ⊥ f
    · rw [if_pos hs, decide_eq_true hs]
      simp [FloatOps.uitofp]
    · rw [if_neg hs, decide_eq_false hs]
      simp [FloatOps.uitofp]
  simp only [h1, coe_sum] at h
  refine ⟨_, ?_, h⟩
  obtain ⟨s, hs⟩ := exists_fold f
  refine (sum_pos' (fun s _ => by split <;> norm_num) ⟨s, mem_univ _, ?_⟩).ne'
  rw [if_pos hs]; norm_num

theorem v132_at : val_main_v132 (F := Ideal) (aq A) (ak A) (av A) (aσ A) (ago A) (ix5 n κ g i s) = 0 := by
  have h : val_main_v129 (F := Ideal) (aq A) (ak A) (av A) (aσ A) (ago A) (ix4 n κ g i) =
      val_main_v128 (F := Ideal) (aq A) (ak A) (av A) (aσ A) (ago A) (ix5 n κ g i 0) := by
    pointwise [val_main_v129, val_main_cst_24]
    simp
  have h' : val_main_v131 (F := Ideal) (aq A) (ak A) (av A) (aσ A) (ago A) (ix5 n κ g i s) =
      val_main_v130 (F := Ideal) (aq A) (ak A) (av A) (aσ A) (ago A) (ix4 n κ g i) := by
    pointwise [val_main_v131]
  obtain ⟨c, hc, h60⟩ := v60_at A n κ g i
  have h2 : val_main_v130 (F := Ideal) (aq A) (ak A) (av A) (aσ A) (ago A) (ix4 n κ g i) = 0 := by
    rw [val_main_v130_apply, h, v128_at, h60, ← EReal.coe_zero]
    refine (div_real hc).trans ?_
    rw [zero_div]
  rw [val_main_v132_apply, h', h2]
  exact zero_mul _

theorem v136_at : val_main_v136 (F := Ideal) (aq A) (ak A) (av A) (aσ A) (ago A) (ix5 n κ g i s) = ((A.tile n κ).DS g i s : EReal) := by
  rw [val_main_v136_apply, val_main_v133_apply, mask_at, v119_at, v132_at]
  by_cases h : ok n.val i s
  · rw [decide_eq_true h]
    exact add_zero _
  · rw [decide_eq_false h, Tile.DS_masked _ h]
    pointwise [val_main_call1_v0, val_main_call1_cst]
    rfl

theorem v137_at : val_main_v137 (F := Ideal) (aq A) (ak A) (av A) (aσ A) (ago A) (ix5 n κ s i g) = ((A.tile n κ).DS g i s : EReal) := by
  have h : val_main_v137 (F := Ideal) (aq A) (ak A) (av A) (aσ A) (ago A) (ix5 n κ s i g) =
      val_main_v136 (F := Ideal) (aq A) (ak A) (av A) (aσ A) (ago A) (ix5 n κ g i s) := by
    pointwise [val_main_v137]
  rw [h, v136_at]

/-- The gradient of the queries. -/
theorem dq_at : val_main_v156 (F := Ideal) (aq A) (ak A) (av A) (aσ A) (ago A) (ix2 (row n i) (qcol κ g d)) = ((A.tile n κ).DQ g i d : EReal) := by
  have h : val_main_v156 (F := Ideal) (aq A) (ak A) (av A) (aσ A) (ago A) (ix2 ⟨n.val * 128 + i.val, by omega⟩ ⟨κ.val * 512 + g.val * 64 + d.val, by omega⟩) =
      val_main_v138 (F := Ideal) (aq A) (ak A) (av A) (aσ A) (ago A) (ix5 n κ i g d) := by
    pointwise [val_main_v156, val_main_v139]
  refine h.trans ?_
  pointwise [val_main_v138]
  simp only [v137_at, v11_at, ← EReal.coe_mul, coe_sum]
  unfold Tile.DQ
  congr 1
  exact sum_congr rfl fun s _ => mul_comm _ _

theorem v141_at : val_main_v141 (F := Ideal) (aq A) (ak A) (av A) (aσ A) (ago A) (ix4 n s κ d) = ((A.tile n κ).DK s d : EReal) := by
  pointwise [val_main_v141, val_main_v140]
  simp only [v137_at, v4_at, ← EReal.coe_mul, coe_sum]
  unfold Tile.DK
  rw [sum_comm]

/-- The half of a band after its first block. -/
def late (i : Fin 128) : Fin 256 := ⟨128 + i.val, by omega⟩

/-- The half of a band before its second block. -/
def early (i : Fin 128) : Fin 256 := ⟨i.val, by omega⟩

/-- The gradient of a block's own keys. -/
theorem dkc_at : val_main_v154 (F := Ideal) (aq A) (ak A) (av A) (aσ A) (ago A) (ix2 (row n i) (kcol κ d)) = ((A.tile n κ).DK (late i) d : EReal) := by
  have h : val_main_v154 (F := Ideal) (aq A) (ak A) (av A) (aσ A) (ago A) (ix2 ⟨n.val * 128 + i.val, by omega⟩ ⟨κ.val * 64 + d.val, by omega⟩) =
      val_main_v141 (F := Ideal) (aq A) (ak A) (av A) (aσ A) (ago A) (ix4 n (late i) κ d) := by
    pointwise [val_main_v154, val_main_v150]
    rfl
  exact h.trans (v141_at A n κ _ d)

/-- The gradient of a block's own values. -/
theorem dvc_at : val_main_v147 (F := Ideal) (aq A) (ak A) (aσ A) (ago A) (ix2 (row n i) (kcol κ d)) = ((A.tile n κ).DV (late i) d : EReal) := by
  have h : val_main_v147 (F := Ideal) (aq A) (ak A) (aσ A) (ago A) (ix2 ⟨n.val * 128 + i.val, by omega⟩ ⟨κ.val * 64 + d.val, by omega⟩) =
      val_main_v103 (F := Ideal) (aq A) (ak A) (aσ A) (ago A) (ix4 n (late i) κ d) := by
    pointwise [val_main_v147, val_main_v143]
    rfl
  exact h.trans (v103_at A n κ _ d)

/-- The block after. -/
def after (n : Fin 64) (hn : n.val < 63) : Fin 64 := ⟨1 + n.val, by omega⟩

/-- The gradient of the keys of the block before. -/
theorem dkp_at (hn : n.val < 63) : val_main_v155 (F := Ideal) (aq A) (ak A) (av A) (aσ A) (ago A) (ix2 (row n i) (kcol κ d)) =
    ((A.tile (after n hn) κ).DK (early i) d : EReal) := by
  have h : val_main_v155 (F := Ideal) (aq A) (ak A) (av A) (aσ A) (ago A) (ix2 ⟨n.val * 128 + i.val, by omega⟩ ⟨κ.val * 64 + d.val, by omega⟩) =
      val_main_v141 (F := Ideal) (aq A) (ak A) (av A) (aσ A) (ago A) (ix4 (after n hn) (early i) κ d) := by
    pointwise [val_main_v155, val_main_v153, val_main_v152, val_main_v149, val_main_cst_27]
    rw [dif_pos hn]
    rfl
  exact h.trans (v141_at A _ κ _ d)

/-- The gradient of the values of the block before. -/
theorem dvp_at (hn : n.val < 63) : val_main_v148 (F := Ideal) (aq A) (ak A) (aσ A) (ago A) (ix2 (row n i) (kcol κ d)) =
    ((A.tile (after n hn) κ).DV (early i) d : EReal) := by
  have h : val_main_v148 (F := Ideal) (aq A) (ak A) (aσ A) (ago A) (ix2 ⟨n.val * 128 + i.val, by omega⟩ ⟨κ.val * 64 + d.val, by omega⟩) =
      val_main_v103 (F := Ideal) (aq A) (ak A) (aσ A) (ago A) (ix4 (after n hn) (early i) κ d) := by
    pointwise [val_main_v148, val_main_v146, val_main_v145, val_main_v142, val_main_cst_26]
    rw [dif_pos hn]
    rfl
  exact h.trans (v103_at A _ κ _ d)

/-- A sum over the blocks and rows: what the reduction over these axes is. -/
theorem reduce_rows (x : S64x2x8x128x1.Idx → EReal) (κ : Fin 2) (g : Fin 8) :
    Ideal.hostReduceAdd Gen.reducesTo_S64x2x8x128x1_S2x8x1_d0_3 x 0 (ix3 κ g 0) = ∑ n, ∑ i, x (ix5 n κ g i 0) := by
  rw [← Fintype.sum_prod_type' (fun n i => x (ix5 n κ g i 0))]
  refine (zero_add _).trans ?_
  refine Finset.sum_filter_eq_sum_of_fiber _ (fun p : Fin 64 × Fin 128 => ix5 p.1 κ g p.2 0) (fun p p' e => ?_) (fun j => ?_) _
  · exact Prod.ext (congrFun e 0) (congrFun e 3)
  · constructor
    · intro e
      refine ⟨(j 0, j 3), ?_⟩
      have e0 : ((Gen.reducesTo_S64x2x8x128x1_S2x8x1_d0_3.drop j) 0 : ℕ) = κ.val := congrArg (fun f => (f 0 : ℕ)) e
      have e1 : ((Gen.reducesTo_S64x2x8x128x1_S2x8x1_d0_3.drop j) 1 : ℕ) = g.val := congrArg (fun f => (f 1 : ℕ)) e
      funext a; apply Fin.ext
      match a with
      | ⟨0, _⟩ => rfl
      | ⟨1, _⟩ => exact e0.symm
      | ⟨2, _⟩ => exact e1.symm
      | ⟨3, _⟩ => rfl
      | ⟨4, h⟩ =>
        have : ((j ⟨4, h⟩ : Fin 1) : ℕ) < 1 := (j ⟨4, h⟩).isLt
        change 0 = (j ⟨4, h⟩ : ℕ)
        omega
    · rintro ⟨p, rfl⟩
      funext b; apply Fin.ext
      match b with
      | ⟨0, _⟩ => rfl
      | ⟨1, _⟩ => rfl
      | ⟨2, _⟩ => rfl

/-- The same over axes of size one. -/
theorem reduce_ones (x : S1x2x8x1x1.Idx → EReal) (κ : Fin 2) (g : Fin 8) :
    Ideal.hostReduceAdd Gen.reducesTo_S1x2x8x1x1_S2x8_d0_3_4 x 0 (ix2 κ g) = x (ix5 0 κ g 0 0) := by
  refine (zero_add _).trans ?_
  rw [← Fintype.sum_unique (fun _ : Unit => x (ix5 0 κ g 0 0))]
  refine Finset.sum_filter_eq_sum_of_fiber _ (fun _ : Unit => ix5 0 κ g 0 0) (fun p p' e => rfl) (fun j => ?_) _
  constructor
  · intro e
    refine ⟨(), ?_⟩
    have e0 : ((Gen.reducesTo_S1x2x8x1x1_S2x8_d0_3_4.drop j) 0 : ℕ) = κ.val := congrArg (fun f => (f 0 : ℕ)) e
    have e1 : ((Gen.reducesTo_S1x2x8x1x1_S2x8_d0_3_4.drop j) 1 : ℕ) = g.val := congrArg (fun f => (f 1 : ℕ)) e
    funext a; apply Fin.ext
    have one : ∀ c : Fin 1, (0 : ℕ) = c.val := fun c => by omega
    match a with
    | ⟨0, h⟩ => exact one (j ⟨0, h⟩)
    | ⟨1, _⟩ => exact e0.symm
    | ⟨2, _⟩ => exact e1.symm
    | ⟨3, h⟩ => exact one (j ⟨3, h⟩)
    | ⟨4, h⟩ => exact one (j ⟨4, h⟩)
  · rintro ⟨p, rfl⟩
    funext b; apply Fin.ext
    match b with
    | ⟨0, _⟩ => rfl
    | ⟨1, _⟩ => rfl

/-- The gradient of the sinks. -/
theorem dsk_at : val_main_v157 (F := Ideal) (aq A) (ak A) (av A) (aσ A) (ago A) (ix2 0 (head κ g)) = ((∑ n, (A.tile n κ).DSK g : ℝ) : EReal) := by
  have h : val_main_v157 (F := Ideal) (aq A) (ak A) (av A) (aσ A) (ago A) (ix2 0 ⟨κ.val * 8 + g.val, by omega⟩) =
      val_main_v134 (F := Ideal) (aq A) (ak A) (av A) (aσ A) (ago A) (ix2 κ g) := by
    pointwise [val_main_v157, val_main_v135]
  have h134 : val_main_v134 (F := Ideal) (aq A) (ak A) (av A) (aσ A) (ago A) (ix2 κ g) =
      val_main_v127 (F := Ideal) (aq A) (ak A) (av A) (aσ A) (ago A) (ix5 0 κ g 0 0) := by
    refine Eq.trans ?_ (reduce_ones _ κ g)
    pointwise [val_main_v134, val_main_cst_25]
  have h113 : val_main_v113 (F := Ideal) (aq A) (ak A) (av A) (aσ A) (ago A) (ix3 κ g 0) = ((∑ n, (A.tile n κ).DSK g : ℝ) : EReal) := by
    have : val_main_v113 (F := Ideal) (aq A) (ak A) (av A) (aσ A) (ago A) (ix3 κ g 0) =
        ∑ n, ∑ i, val_main_v112 (F := Ideal) (aq A) (ak A) (av A) (aσ A) (ago A) (ix5 n κ g i 0) := by
      refine Eq.trans ?_ (reduce_rows _ κ g)
      pointwise [val_main_v113, val_main_cst_20]
    rw [this]
    simp only [v112_at, coe_sum]
    rfl
  have h125 : val_main_v125 (F := Ideal) (aq A) (ak A) (av A) (aσ A) (ago A) (ix3 κ g 0) = 0 := by
    have : val_main_v125 (F := Ideal) (aq A) (ak A) (av A) (aσ A) (ago A) (ix3 κ g 0) =
        ∑ n, ∑ i, val_main_v124 (F := Ideal) (aq A) (ak A) (av A) (aσ A) (ago A) (ix5 n κ g i 0) := by
      refine Eq.trans ?_ (reduce_rows _ κ g)
      pointwise [val_main_v125, val_main_cst_23]
    rw [this]
    simp only [v124_at, sum_const_zero]
  have h114 : val_main_v114 (F := Ideal) (aq A) (ak A) (av A) (aσ A) (ago A) (ix5 0 κ g 0 0) =
      val_main_v113 (F := Ideal) (aq A) (ak A) (av A) (aσ A) (ago A) (ix3 κ g 0) := by
    pointwise [val_main_v114]
  have h126 : val_main_v126 (F := Ideal) (aq A) (ak A) (av A) (aσ A) (ago A) (ix5 0 κ g 0 0) =
      val_main_v125 (F := Ideal) (aq A) (ak A) (av A) (aσ A) (ago A) (ix3 κ g 0) := by
    pointwise [val_main_v126]
  refine h.trans ?_
  rw [h134, val_main_v127_apply, h114, h126, h113, h125]
  exact add_zero _

end Cert.AttnRef

end
-- ==== Proof.AttnPre.lean ====
/- Finite arrays hold real numbers; the mask of what the calls write. -/
module

public import proofs.«01_k».proof.Proof.AttnTile
public import proofs.«01_k».proof.Defs
public import Idealize.ShloMosaic.Lib.Pointwise
public import Idealize.ShloMosaic.Lib.ReduceAll
public import Idealize.ShloMosaic.Lib.WordCmp

@[expose] public section

set_option maxRecDepth 16384

noncomputable section

namespace Cert.Attn

open Idealize.ShloMosaic Finset

variable [Cert.Pre_finite.Facts]

theorem small (x : EReal) (h : Ideal.cmp .olt (max x (-x)) (Scalar.ofBits (F := Ideal) .f32 0x7F800000#32) = 1#1) : x ≠ ⊤ ∧ x ≠ ⊥ := by
  rw [show (Scalar.ofBits (F := Ideal) .f32 0x7F800000#32 : EReal) = ⊤ from by
    show Ideal.ofBits .f32 0x7F800000#32 = ⊤
    simp [Ideal.ofBits, Ideal.ieee]] at h
  have h := (Ideal.cmp_olt_eq_one _ _).mp h
  constructor
  · rintro rfl
    simp at h
  · rintro rfl
    simp at h

theorem five (y0 y1 y2 y3 y4 : Cert.Pre_finite.S1.Idx → BitVec 1) (hc)
    (e : ∀ i, concatenate Cert.Pre_finite.S5 0 [⟨Cert.Pre_finite.S1, y0⟩, ⟨Cert.Pre_finite.S1, y1⟩, ⟨Cert.Pre_finite.S1, y2⟩, ⟨Cert.Pre_finite.S1, y3⟩, ⟨Cert.Pre_finite.S1, y4⟩] hc i = 1#1) :
    y0 (ix1 0) = 1#1 ∧ y1 (ix1 0) = 1#1 ∧ y2 (ix1 0) = 1#1 ∧ y3 (ix1 0) = 1#1 ∧ y4 (ix1 0) = 1#1 := by
  refine ⟨(e (ix1 0)).symm.trans ?_ |>.symm, (e (ix1 1)).symm.trans ?_ |>.symm, (e (ix1 2)).symm.trans ?_ |>.symm, (e (ix1 3)).symm.trans ?_ |>.symm, (e (ix1 4)).symm.trans ?_ |>.symm⟩
  all_goals pointwise []

/-- An array of finite entries, as reals. -/
theorem reals {a b : ℕ} (x : (⟨2, ![a, b]⟩ : Shape).Idx → EReal) (h : ∀ i, x i ≠ ⊤ ∧ x i ≠ ⊥) : ∃ f : Fin a → Fin b → ℝ, x = up2 f := by
  refine ⟨fun r c => (x (ix2 r c)).toReal, ?_⟩
  funext i
  rw [eq_ix2 i]
  exact (EReal.coe_toReal (h _).1 (h _).2).symm

theorem arr_of (x0 : FVec Ideal Cert.Pre_finite.S8192x1024 .bf16) (x1 x2 : FVec Ideal Cert.Pre_finite.S8192x128 .bf16)
    (x3 : FVec Ideal Cert.Pre_finite.S1x16 .f32) (x4 : FVec Ideal Cert.Pre_finite.S8192x1024 .f32)
    (h : Cert.Pre_finite.fn (F := Ideal) x0 x1 x2 x3 x4 = fun _ => 1#1) :
    ∃ A : Arr, x0 = up2 A.q ∧ x1 = up2 A.k ∧ x2 = up2 A.v ∧ x3 = up2 A.σ ∧ x4 = up2 A.go := by
  have h := congrFun h (fun a : Fin 0 => a.elim0)
  unfold Cert.Pre_finite.fn Cert.Pre_finite.fn_part1 at h
  dsimp only at h
  obtain ⟨e0, e1, e2, e3, e4⟩ := five _ _ _ _ _ _ (Host.reduce_andi_all _ _ _ _ _ h)
  obtain ⟨q, hq⟩ := reals x0 fun i => small _ (Host.reduce_andi_all _ _ _ _ _ e0 i)
  obtain ⟨k, hk⟩ := reals x1 fun i => small _ (Host.reduce_andi_all _ _ _ _ _ e1 i)
  obtain ⟨v, hv⟩ := reals x2 fun i => small _ (Host.reduce_andi_all _ _ _ _ _ e2 i)
  obtain ⟨σ, hσ⟩ := reals x3 fun i => small _ (Host.reduce_andi_all _ _ _ _ _ e3 i)
  obtain ⟨go, hgo⟩ := reals x4 fun i => small _ (Host.reduce_andi_all _ _ _ _ _ e4 i)
  exact ⟨⟨q, k, v, σ, go⟩, hq, hk, hv, hσ, hgo⟩

variable [Cert.On_written.Facts]

/-- Rows the mask keeps are those the calls write. -/
theorem kept (x0 : FVec Ideal Cert.On_written.S8192x1024 .bf16) (x1 x2 : FVec Ideal Cert.On_written.S8192x128 .bf16)
    (x3 : FVec Ideal Cert.On_written.S1x16 .f32) (x4 : FVec Ideal Cert.On_written.S8192x1024 .f32) (r : Fin 8192) (c : Fin 128) :
    ((Cert.On_written.fn (F := Ideal) x0 x1 x2 x3 x4).2.2.1 (ix2 r c) = 1#1 → r.val < 8064) ∧
    ((Cert.On_written.fn (F := Ideal) x0 x1 x2 x3 x4).2.2.2.2.1 (ix2 r c) = 1#1 → r.val < 8064) := by
  have e : ∀ w : BitVec 1, w = IntOp.cmpi .slt (BitVec.ofNat 32 r.val) 8064#32 → w = 1#1 → r.val < 8064 := by
    rintro w rfl h
    have h := IntOp.cmpi_slt.1 h
    have hr := r.isLt
    have e : (BitVec.ofNat 32 r.val).toNat = r.val := by rw [BitVec.toNat_ofNat]; omega
    rw [BitVec.toInt_eq_toNat_of_lt (by omega), e, show (8064#32 : BitVec 32).toInt = 8064 from by decide] at h
    omega
  constructor
  · refine e _ ?_
    unfold Cert.On_written.fn
    dsimp only
    pointwise []
  · refine e _ ?_
    unfold Cert.On_written.fn
    dsimp only
    pointwise []

end Cert.Attn

end
-- ==== Proof.AttnClaim.lean ====
/- The attention's program computes its reference: on finite arguments, every entry the calls write. -/
module

public import proofs.«01_k».proof.Proof.KRun
public import proofs.«01_k».proof.Proof.AttnRefC
public import proofs.«01_k».proof.Proof.AttnPre
public import proofs.«01_k».proof.Proof.Gen.ReferenceIdeal.Run

@[expose] public section

set_option maxRecDepth 16384

noncomputable section

namespace Cert.AttnClaim

open Idealize.ShloMosaic Idealize.ShloMosaic.TcCoe Idealize.SL.Sem Cert.Attn Cert.AttnKer Finset
open Cert.ReferenceIdeal.Read

/-- What the predicates state of their shapes. -/
theorem pre_facts : Cert.Pre_finite.Facts := by constructor <;> decide
theorem mask_facts : Cert.On_written.Facts := by constructor <;> decide

theorem idx_q (i : (⟨2, ![8192, 1024]⟩ : Shape).Idx) : ∃ n κ g r d, i = ix2 (row n r) (qcol κ g d) := by
  obtain ⟨a, b, rfl⟩ : ∃ a b, i = ix2 a b := ⟨i 0, i 1, eq_ix2 i⟩
  refine ⟨⟨a.val / 128, by omega⟩, ⟨b.val / 512, by omega⟩, ⟨b.val % 512 / 64, by omega⟩, ⟨a.val % 128, by omega⟩, ⟨b.val % 64, by omega⟩, ?_⟩
  refine congrArg₂ ix2 (Fin.ext ?_) (Fin.ext ?_)
  · show a.val = a.val / 128 * 128 + a.val % 128; omega
  · show b.val = b.val / 512 * 512 + b.val % 512 / 64 * 64 + b.val % 64; omega

theorem idx_k (i : (⟨2, ![8192, 128]⟩ : Shape).Idx) : ∃ n κ r d, i = ix2 (row n r) (kcol κ d) := by
  obtain ⟨a, b, rfl⟩ : ∃ a b, i = ix2 a b := ⟨i 0, i 1, eq_ix2 i⟩
  refine ⟨⟨a.val / 128, by omega⟩, ⟨b.val / 64, by omega⟩, ⟨a.val % 128, by omega⟩, ⟨b.val % 64, by omega⟩, ?_⟩
  refine congrArg₂ ix2 (Fin.ext ?_) (Fin.ext ?_)
  · show a.val = a.val / 128 * 128 + a.val % 128; omega
  · show b.val = b.val / 64 * 64 + b.val % 64; omega

theorem idx_s (i : (⟨2, ![1, 16]⟩ : Shape).Idx) : ∃ κ g, i = ix2 0 (head κ g) := by
  obtain ⟨a, b, rfl⟩ : ∃ a b, i = ix2 a b := ⟨i 0, i 1, eq_ix2 i⟩
  refine ⟨⟨b.val / 8, by omega⟩, ⟨b.val % 8, by omega⟩, ?_⟩
  refine congrArg₂ ix2 (Subsingleton.elim _ _) (Fin.ext ?_)
  show b.val = b.val / 8 * 8 + b.val % 8; omega

/-- A row before the last block, as the row before a later block. -/
theorem row_after (n : Fin 64) (hn : n.val < 63) (r : Fin 128) : row n r = prow (Cert.AttnRef.after n hn) r :=
  Fin.ext (show n.val * 128 + r.val = (1 + n.val - 1) * 128 + r.val by omega)

theorem before_last (n : Fin 64) (r : Fin 128) (h : (row n r).val < 8064) : n.val < 63 := by
  have h : n.val * 128 + r.val < 8064 := h
  omega

theorem holds : Cert.algebraic_KernelIdeal_ReferenceIdeal_on_written_pre_finite (hKernelIdeal := Cert.KernelIdeal.Gen.facts)
    (hReferenceIdeal := Cert.ReferenceIdeal.Gen.facts) (hPre_finite := pre_facts) (hOn_written := mask_facts) := by
  have := pre_facts
  have := mask_facts
  intro m g m' g' hpre hag
  refine ⟨fun c => val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => val_main_v156 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => val_main_v155 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => val_main_v154 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => val_main_v148 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => val_main_v147 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => val_main_v157 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run _ _ _).mono (fun r h c => ?_) (run_arrays m g)
    obtain ⟨A, e0, e1, e2, e3, e4⟩ := arr_of _ _ _ _ _ (hpre c)
    have G : Given (m := m) A c := ⟨e0, e1, e2, e3, e4⟩
    have E : ∀ (b : Ref Cert.KernelIdeal.sig .tc) (hb : ¬ (Proc.devRef .tc b : DevRef Cert.KernelIdeal.τ Cert.KernelIdeal.sig).isScoped),
        r.2.mem ((c.tc : Thread Cert.KernelIdeal.nD Cert.KernelIdeal.τ).loc b) = Cert.KernelIdeal.Gen.W3 m g c (Proc.devRef .tc b) := fun b hb => h c _ (Cert.KernelIdeal.Gen.mem_uc b hb)
    dsimp only
    rw [e0, e1, e2, e3, e4]
    refine ⟨fun i hi => ?_, fun i hi => ?_, fun i hi => ?_, fun i hi => ?_, fun i hi => ?_, fun i hi => ?_, fun i hi => ?_, (E Cert.KernelIdeal.main_arg0 (by decide)).trans ((Cert.KernelIdeal.Gen.W3_main_arg0 m g c).trans e0), (E Cert.KernelIdeal.main_arg1 (by decide)).trans ((Cert.KernelIdeal.Gen.W3_main_arg1 m g c).trans e1), (E Cert.KernelIdeal.main_arg2 (by decide)).trans ((Cert.KernelIdeal.Gen.W3_main_arg2 m g c).trans e2), (E Cert.KernelIdeal.main_arg3 (by decide)).trans ((Cert.KernelIdeal.Gen.W3_main_arg3 m g c).trans e3), (E Cert.KernelIdeal.main_arg4 (by decide)).trans ((Cert.KernelIdeal.Gen.W3_main_arg4 m g c).trans e4)⟩
    · obtain ⟨n, κ, g, r, d, rfl⟩ := idx_q i
      exact (congrFun (E Cert.KernelIdeal.main_v1 (by decide)) (ix2 (row n r) (qcol κ g d))).trans ((end_out G n κ g r d).trans (Cert.AttnRef.out_at ..).symm)
    · obtain ⟨n, κ, g, r, d, rfl⟩ := idx_q i
      exact (congrFun (E Cert.KernelIdeal.main_v2_0 (by decide)) (ix2 (row n r) (qcol κ g d))).trans ((end_dq G n κ g r d).trans (Cert.AttnRef.dq_at ..).symm)
    · obtain ⟨n, κ, r, d, rfl⟩ := idx_k i
      have hn := before_last n r ((kept _ _ _ _ _ (row n r) (kcol κ d)).1 hi)
      refine (congrFun (E Cert.KernelIdeal.main_v2_1 (by decide)) (ix2 (row n r) (kcol κ d))).trans (Eq.trans ?_ (Cert.AttnRef.dkp_at (hn := hn) ..).symm)
      rw [row_after n hn r]
      exact end_dkp G (Cert.AttnRef.after n hn) (show 0 < 1 + n.val by omega) κ r d
    · obtain ⟨n, κ, r, d, rfl⟩ := idx_k i
      exact (congrFun (E Cert.KernelIdeal.main_v2_2 (by decide)) (ix2 (row n r) (kcol κ d))).trans ((end_dkc G n κ r d).trans (Cert.AttnRef.dkc_at ..).symm)
    · obtain ⟨n, κ, r, d, rfl⟩ := idx_k i
      have hn := before_last n r ((kept _ _ _ _ _ (row n r) (kcol κ d)).2 hi)
      refine (congrFun (E Cert.KernelIdeal.main_v2_3 (by decide)) (ix2 (row n r) (kcol κ d))).trans (Eq.trans ?_ (Cert.AttnRef.dvp_at (hn := hn) ..).symm)
      rw [row_after n hn r]
      exact end_dvp G (Cert.AttnRef.after n hn) (show 0 < 1 + n.val by omega) κ r d
    · obtain ⟨n, κ, r, d, rfl⟩ := idx_k i
      exact (congrFun (E Cert.KernelIdeal.main_v2_4 (by decide)) (ix2 (row n r) (kcol κ d))).trans ((end_dvc G n κ r d).trans (Cert.AttnRef.dvc_at ..).symm)
    · obtain ⟨κ, g, rfl⟩ := idx_s i
      exact (congrFun (E Cert.KernelIdeal.main_v2_5 (by decide)) (ix2 0 (head κ g))).trans ((end_dsk G κ g).trans (Cert.AttnRef.dsk_at ..).symm)
  · refine (θ_run _ _ _).mono (fun r h c => ?_) (Cert.ReferenceIdeal.Value.run (F := Ideal) m' g')
    obtain ⟨h0, h1, h2, h3, h4, h5, h6, hargs⟩ := h c
    obtain ⟨a0, a1, a2, a3, a4⟩ := hag c
    dsimp only
    rw [← a0, ← a1, ← a2, ← a3, ← a4]
    exact ⟨fun i _ => congrFun (h0.trans (val_main_v98_eq _)) i, fun i _ => congrFun (h1.trans (val_main_v156_eq _)) i, fun i _ => congrFun (h2.trans (val_main_v155_eq _)) i, fun i _ => congrFun (h3.trans (val_main_v154_eq _)) i, fun i _ => congrFun (h4.trans (val_main_v148_eq _)) i, fun i _ => congrFun (h5.trans (val_main_v147_eq _)) i, fun i _ => congrFun (h6.trans (val_main_v157_eq _)) i, hargs⟩

end Cert.AttnClaim

end
-- ==== Proof.Blocks.lean ====
/-
  Sums over an axis that a grid cuts into blocks: the sum over the blocks of the sums inside them is the sum over
  the axis. Used by every product whose contracted axis is walked by the grid.
-/
module

public import Idealize.ShloMosaic.Lib.Pointwise

@[expose] public section

namespace Cert.Blocks

/-- `n` blocks of `k` terms each, added block by block, are the `n * k` terms. -/
theorem sum_blocks {M : Type*} [AddCommMonoid M] (f : ℕ → M) (k : ℕ) :
    ∀ n : ℕ, ∑ l ∈ Finset.range n, ∑ r ∈ Finset.range k, f (k * l + r) = ∑ r ∈ Finset.range (k * n), f r
  | 0 => by simp
  | n + 1 => by
    rw [Finset.sum_range_succ, sum_blocks f k n, Nat.mul_succ, Finset.sum_range_add]

/-- The same with the positions in a block and on the axis counted by `Fin`. -/
theorem sum_blocks_fin {M : Type*} [AddCommMonoid M] {k n N : ℕ} (hN : k * n = N) (f : ℕ → M) :
    ∑ l ∈ Finset.range n, ∑ r : Fin k, f (k * l + r.val) = ∑ r : Fin N, f r.val := by
  subst hN
  rw [Fin.sum_univ_eq_sum_range f, ← sum_blocks]
  exact Finset.sum_congr rfl fun l _ => Fin.sum_univ_eq_sum_range (fun r => f (k * l + r)) k

end Cert.Blocks
-- ==== Proof.WOut.lean ====
/-
  The gradient of `w_out`: what the blocked product leaves in its result arrays, read at an index, is the whole
  product of the two operands over the token axis. The grid walks the tokens in four blocks; the first point stores
  its block's product, each later point adds its own, and the last one also stores the sum in the narrow format.
-/
module

public import proofs.«01_k».proof.Proof.Blocks
public import proofs.«01_k».proof.Proof.Gen.Kernel2Ideal.Value

@[expose] public section

set_option maxRecDepth 16384

noncomputable section

namespace Cert.Kernel2Ideal.WOut

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- The first point leaves its block's product. -/
theorem out_A (c : Dev nD) (i : grid0.Coords) (a2) (h2 : a2.IsWhole) (a3) (h3 : a3.IsWhole) (a4) (h4 : a4.IsWhole) (a5) (h5 : a5.IsWhole)
    (hc0 hc1 hc2) (x0 x1 : Vec Ideal S2048x1024 .bf16) :
    out0_A_2 (F := Ideal) c i a2 h2 a3 h3 a4 h4 a5 h5 hc0 hc1 hc2 x0 x1 = k0_pay2 x0 x1 := by
  unfold out0_A_2
  rw [View.read_writes_eq_canon _ _ _ (cover0_A_2 c i a2 h2 a3 h3 a4 h4 a5 h5 hc0 hc1 hc2 x0 x1)]
  unfold kernelRun0_A
  dsimp only
  rw [View.canon_unit_zero z3]
  simp only [View.readAt_eq_ld, h2.read_unread, h3.read_unread, View.ld_unit_zero (S := S2048x1024) z2]

/-- A middle point adds its block's product to what the buffer holds. -/
theorem out_B (c : Dev nD) (i : grid0.Coords) (a2) (h2 : a2.IsWhole) (a3) (h3 : a3.IsWhole) (a4) (h4 : a4.IsWhole) (a5) (h5 : a5.IsWhole)
    (hc0 hc1 hc2) (x0 x1 : Vec Ideal S2048x1024 .bf16) (xo : Vec Ideal S1x1024x1024 .f32) :
    out0_B_2 (F := Ideal) c i a2 h2 a3 h3 a4 h4 a5 h5 hc0 hc1 hc2 x0 x1 xo = k0_pay3 x0 x1 xo := by
  unfold out0_B_2
  rw [View.read_writes_eq_canon _ _ _ (cover0_B_2 c i a2 h2 a3 h3 a4 h4 a5 h5 hc0 hc1 hc2 x0 x1 xo)]
  unfold kernelRun0_B
  dsimp only
  rw [View.canon_unit_zero z3]
  simp only [View.readAt_eq_ld, h2.read_unread, h3.read_unread, h4.read_unread, View.ld_unit_zero (S := S2048x1024) z2, View.ld_unit_zero (S := S1x1024x1024) z3]

/-- The last point does the same, … -/
theorem out_C (c : Dev nD) (i : grid0.Coords) (a2) (h2 : a2.IsWhole) (a3) (h3 : a3.IsWhole) (a4) (h4 : a4.IsWhole) (a5) (h5 : a5.IsWhole)
    (hc0 hc1 hc2) (x0 x1 : Vec Ideal S2048x1024 .bf16) (xo : Vec Ideal S1x1024x1024 .f32) :
    out0_C_2 (F := Ideal) c i a2 h2 a3 h3 a4 h4 a5 h5 hc0 hc1 hc2 x0 x1 xo = k0_pay3 x0 x1 xo := by
  unfold out0_C_2
  rw [View.read_writes_eq_canon _ _ _ (cover0_C_2 c i a2 h2 a3 h3 a4 h4 a5 h5 hc0 hc1 hc2 x0 x1 xo)]
  unfold kernelRun0_C
  dsimp only
  sl_unfold_words
  rw [View.canon_unit_zero z3]
  simp only [View.readAt_eq_ld, h2.read_unread, h3.read_unread, h4.read_unread, View.ld_unit_zero (S := S2048x1024) z2, View.ld_unit_zero (S := S1x1024x1024) z3]

/-- … and stores the sum in the narrow format. -/
theorem out_C16 (c : Dev nD) (i : grid0.Coords) (a2) (h2 : a2.IsWhole) (a3) (h3 : a3.IsWhole) (a4) (h4 : a4.IsWhole) (a5) (h5 : a5.IsWhole)
    (hc0 hc1 hc2) (x0 x1 : Vec Ideal S2048x1024 .bf16) (xo : Vec Ideal S1x1024x1024 .f32) :
    out0_C_3 (F := Ideal) c i a2 h2 a3 h3 a4 h4 a5 h5 hc0 hc1 hc2 x0 x1 xo = k0_pay4 (k0_pay3 x0 x1 xo) := by
  unfold out0_C_3
  rw [View.read_writes_eq_canon _ _ _ (cover0_C_3 c i a2 h2 a3 h3 a4 h4 a5 h5 hc0 hc1 hc2 x0 x1 xo)]
  unfold kernelRun0_C
  dsimp only
  sl_unfold_words
  rw [View.canon_unit_zero z3, View.readCov_unit_zero (S := S1x1024x1024) _ z3]
  simp only [View.readAt_eq_ld, h2.read_unread, h3.read_unread, h4.read_unread, View.ld_unit_zero (S := S2048x1024) z2, View.ld_unit_zero (S := S1x1024x1024) z3]

/-- One block's product at an index. -/
theorem pay2_at (x0 x1 : Vec Ideal S2048x1024 .bf16) (p q : Fin 1024) :
    k0_pay2 (F := Ideal) x0 x1 (ix3 0 p q) = ∑ k : Fin 2048, x0 (ix2 k p) * x1 (ix2 k q) := by
  pointwise [k0_pay2, k0_pay1]

theorem pay3_at (x0 x1 : Vec Ideal S2048x1024 .bf16) (xo : Vec Ideal S1x1024x1024 .f32) (p q : Fin 1024) :
    k0_pay3 (F := Ideal) x0 x1 xo (ix3 0 p q) = xo (ix3 0 p q) + ∑ k : Fin 2048, x0 (ix2 k p) * x1 (ix2 k q) := by
  pointwise [k0_pay3, k0_pay1]

theorem pay4_at (xo : Vec Ideal S1x1024x1024 .f32) (p q : Fin 1024) :
    k0_pay4 (F := Ideal) xo (ix3 0 p q) = xo (ix3 0 p q) := by
  pointwise [k0_pay4]

/-- The two operands as tables of extended reals. -/
def A (c : Dev nD) (r : ℕ) (p : Fin 1024) : EReal := if h : r < 8192 then m ((c : Thread nD τ).loc main_arg0) (ix2 ⟨r, h⟩ p) else 0
def B (c : Dev nD) (r : ℕ) (p : Fin 1024) : EReal := if h : r < 8192 then m ((c : Thread nD τ).loc main_arg1) (ix2 ⟨r, h⟩ p) else 0

theorem idx0 (t : Fin cfg0.N) : win0_0.index t 0 = t.val % 4 ∧ win0_0.index t 1 = 0 := by
  revert t; decide +kernel
theorem idx1 (t : Fin cfg0.N) : win0_1.index t 0 = t.val % 4 ∧ win0_1.index t 1 = t.val / 4 := by
  revert t; decide +kernel

theorem iblk0 (c : Dev nD) (t : Fin cfg0.N) (k : Fin 2048) (p : Fin 1024) :
    (iblk m c 0 t : Vec Ideal S2048x1024 .bf16) (ix2 k p) = A m c (2048 * (t.val % 4) + k.val) p := by
  have hlt : 2048 * (t.val % 4) + k.val < 8192 := by have := k.isLt; omega
  rw [A, dif_pos hlt]
  unfold iblk
  rw [View.read_apply]
  show V m c main_arg0 _ = m (c.tc.loc main_arg0) _
  unfold V
  congr 1
  funext a
  apply Fin.ext
  match a with
  | ⟨0, _⟩ => show win0_0.index t 0 * 2048 + 1 * k.val = 2048 * (t.val % 4) + k.val; rw [(idx0 t).1]; omega
  | ⟨1, _⟩ => show win0_0.index t 1 * 1024 + 1 * p.val = p.val; rw [(idx0 t).2]; omega

theorem iblk1 (c : Dev nD) (t : Fin cfg0.N) (k : Fin 2048) (p : Fin 1024) :
    (iblk m c 1 t : Vec Ideal S2048x1024 .bf16) (ix2 k p) = B m c (2048 * (t.val % 4) + k.val) p := by
  have hlt : 2048 * (t.val % 4) + k.val < 8192 := by have := k.isLt; omega
  have h4 : t.val / 4 = 0 := by have := t.isLt; have : cfg0.N = 4 := N_0; omega
  rw [B, dif_pos hlt]
  unfold iblk
  rw [View.read_apply]
  show V m c main_arg1 _ = m (c.tc.loc main_arg1) _
  unfold V
  congr 1
  funext a
  apply Fin.ext
  match a with
  | ⟨0, _⟩ => show win0_1.index t 0 * 2048 + 1 * k.val = 2048 * (t.val % 4) + k.val; rw [(idx1 t).1]; omega
  | ⟨1, _⟩ => show win0_1.index t 1 * 1024 + 1 * p.val = p.val; rw [(idx1 t).2]; omega

/-- After point `n` the first output's buffer holds the sum of the blocks' products up to `n`. -/
theorem outs_at (c : Dev nD) (p q : Fin 1024) : ∀ (n : ℕ) (h : n < cfg0.N),
    (outsAt0 m c n h).1 (ix3 0 p q) = ∑ l ∈ Finset.range (n + 1), ∑ k : Fin 2048, A m c (2048 * l + k.val) p * B m c (2048 * l + k.val) q
  | 0, h => by
    rw [show outsAt0 m c 0 h = _ from outsAt0_A m c ⟨0, h⟩ (Nat.zero_mod _) (by dsimp only; omega) (by dsimp only; omega)]
    dsimp only
    rw [out_A, pay2_at]
    simp only [iblk0, iblk1]
    simp
  | n + 1, h => by
    have hN : cfg0.N = 4 := N_0
    have hm : (n + 1) % 4 = n + 1 := by omega
    have key : (outsAt0 m c (n + 1) h).1 = k0_pay3 (F := Ideal) (iblk m c 0 ⟨n + 1, h⟩) (iblk m c 1 ⟨n + 1, h⟩) (outsAt0 m c n (Nat.lt_of_succ_lt h)).1 := by
      by_cases h2 : (n + 1) % 4 = 3
      · rw [show outsAt0 m c (n + 1) h = _ from outsAt0_C m c ⟨n + 1, h⟩ (by dsimp only; omega) (by dsimp only; omega) h2]
        dsimp only
        rw [out_C]; rfl
      · rw [show outsAt0 m c (n + 1) h = _ from outsAt0_B m c ⟨n + 1, h⟩ (by dsimp only; omega) (by dsimp only; omega) h2]
        dsimp only
        rw [out_B]; rfl
    rw [key, pay3_at, outs_at c p q n, Finset.sum_range_succ _ (n + 1)]
    simp only [iblk0, iblk1, hm]

/-- The whole product. -/
def prod (c : Dev nD) (p q : Fin 1024) : EReal := ∑ r : Fin 8192, A m c r.val p * B m c r.val q

theorem last_at (c : Dev nD) (t : Fin cfg0.N) (h3 : t.val % 4 = 3) (p q : Fin 1024) :
    (outsAt0 m c t.val t.isLt).1 (ix3 0 p q) = prod m c p q := by
  have hN : cfg0.N = 4 := N_0
  have ht : t.val = 3 := by have := t.isLt; omega
  rw [outs_at, ht]
  exact Blocks.sum_blocks_fin (k := 2048) (n := 4) (by norm_num) fun r => A m c r p * B m c r q

theorem last16_at (c : Dev nD) (t : Fin cfg0.N) (h3 : t.val % 4 = 3) (p q : Fin 1024) :
    (outsAt0 m c t.val t.isLt).2 (ix3 0 p q) = prod m c p q := by
  have hN : cfg0.N = 4 := N_0
  have ht : t.val = 3 := by have := t.isLt; omega
  have e1 := last_at m c t h3 p q
  rw [outsAt0_C m c t (by omega) (by omega) h3] at e1 ⊢
  dsimp only at e1 ⊢
  rw [out_C] at e1
  rw [out_C16, pay4_at]
  exact e1

/-- The result arrays. -/
def res (c : Dev nD) : S1x1024x1024.Idx → EReal := fun i => prod m c (i 1) (i 2)

theorem idx2 (t : Fin cfg0.N) : win0_2.index t 0 = 0 ∧ win0_2.index t 1 = 0 ∧ win0_2.index t 2 = 0 := by
  revert t; decide +kernel
theorem idx3 (t : Fin cfg0.N) : win0_3.index t 0 = 0 ∧ win0_3.index t 1 = 0 ∧ win0_3.index t 2 = 0 := by
  revert t; decide +kernel

theorem final2 (c : Dev nD) : (dats m 0 c).arrAt 2 cfg0.N = res m c :=
  (dats m 0 c).arrAt_eq_of_cover 2 (res m c) (fun t hf => by
    rw [Value.flushed2]
    funext y
    idx_vars y
    have hy0 : y0 = 0 := Subsingleton.elim _ _
    subst hy0
    refine (last_at m c t ((flush0_2 t).mp hf) y1 y2).trans ?_
    rw [View.read_apply]
    unfold res
    congr 1 <;> apply Fin.ext
    · show y1.val = win0_2.index t 1 * 1024 + 1 * y1.val; rw [(idx2 t).2.1]; omega
    · show y2.val = win0_2.index t 2 * 1024 + 1 * y2.val; rw [(idx2 t).2.2]; omega) fun i =>
    ⟨t0_3, (flush0_2 t0_3).mpr rfl, by
      show i ∈ ((View.whole main_v0_0).slice (win0_2.rect t0_3)).set
      rw [View.set_slice_whole, Rect.mem_set_unit]
      intro a
      have h0 : (i 0 : Nat) < 1 := (i 0).isLt
      have h1 : (i 1 : Nat) < 1024 := (i 1).isLt
      have h2 : (i 2 : Nat) < 1024 := (i 2).isLt
      match a with
      | ⟨0, _⟩ => show win0_2.index t0_3 0 * 1 ≤ (i 0 : Nat) ∧ (i 0 : Nat) < win0_2.index t0_3 0 * 1 + 1; rw [(idx2 t0_3).1]; omega
      | ⟨1, _⟩ => show win0_2.index t0_3 1 * 1024 ≤ (i 1 : Nat) ∧ (i 1 : Nat) < win0_2.index t0_3 1 * 1024 + 1024; rw [(idx2 t0_3).2.1]; omega
      | ⟨2, _⟩ => show win0_2.index t0_3 2 * 1024 ≤ (i 2 : Nat) ∧ (i 2 : Nat) < win0_2.index t0_3 2 * 1024 + 1024; rw [(idx2 t0_3).2.2]; omega⟩

theorem final3 (c : Dev nD) : (dats m 0 c).arrAt 3 cfg0.N = res m c :=
  (dats m 0 c).arrAt_eq_of_cover 3 (res m c) (fun t hf => by
    rw [Value.flushed3]
    funext y
    idx_vars y
    have hy0 : y0 = 0 := Subsingleton.elim _ _
    subst hy0
    refine (last16_at m c t ((flush0_3 t).mp hf) y1 y2).trans ?_
    rw [View.read_apply]
    unfold res
    congr 1 <;> apply Fin.ext
    · show y1.val = win0_3.index t 1 * 1024 + 1 * y1.val; rw [(idx3 t).2.1]; omega
    · show y2.val = win0_3.index t 2 * 1024 + 1 * y2.val; rw [(idx3 t).2.2]; omega) fun i =>
    ⟨t0_3, (flush0_3 t0_3).mpr rfl, by
      show i ∈ ((View.whole main_v0_1).slice (win0_3.rect t0_3)).set
      rw [View.set_slice_whole, Rect.mem_set_unit]
      intro a
      have h0 : (i 0 : Nat) < 1 := (i 0).isLt
      have h1 : (i 1 : Nat) < 1024 := (i 1).isLt
      have h2 : (i 2 : Nat) < 1024 := (i 2).isLt
      match a with
      | ⟨0, _⟩ => show win0_3.index t0_3 0 * 1 ≤ (i 0 : Nat) ∧ (i 0 : Nat) < win0_3.index t0_3 0 * 1 + 1; rw [(idx3 t0_3).1]; omega
      | ⟨1, _⟩ => show win0_3.index t0_3 1 * 1024 ≤ (i 1 : Nat) ∧ (i 1 : Nat) < win0_3.index t0_3 1 * 1024 + 1024; rw [(idx3 t0_3).2.1]; omega
      | ⟨2, _⟩ => show win0_3.index t0_3 2 * 1024 ≤ (i 2 : Nat) ∧ (i 2 : Nat) < win0_3.index t0_3 2 * 1024 + 1024; rw [(idx3 t0_3).2.2]; omega⟩

end Cert.Kernel2Ideal.WOut

end
-- ==== Proof.WOutClaim.lean ====
/-
  The claim about the gradient of `w_out`: the blocked product and the reference's transposed product, read at an
  index, are the same sum over the tokens with the factors exchanged.
-/
module

public import proofs.«01_k».proof.Defs
public import proofs.«01_k».proof.Proof.WOut
public import proofs.«01_k».proof.Proof.Gen.Reference2Ideal.Read

@[expose] public section

set_option maxRecDepth 16384

noncomputable section

namespace Cert.WOutClaim

open Idealize.ShloMosaic Idealize.ShloMosaic.TcCoe Idealize.SL.Sem
open Cert.Reference2Ideal.Read

/-- The product over the token axis, at an index. -/
def tn (a b : (⟨2, ![8192, 1024]⟩ : Shape).Idx → EReal) (p q : Fin 1024) : EReal := ∑ r : Fin 8192, a (ix2 r p) * b (ix2 r q)

theorem ref_at (a b : (⟨Cert.Reference2Ideal.S8192x1024, .bf16⟩ : BufTy).Contents (Elt Ideal)) (p q : Fin 1024) :
    val_main_v6 (F := Ideal) a b (ix3 0 p q) = tn a b p q := by
  unfold tn
  pointwise [val_main_v6, val_main_v5, val_main_v4, val_main_v3, val_main_v1]
  exact Finset.sum_congr rfl fun k _ => mul_comm _ _

theorem ref16_at (a b : (⟨Cert.Reference2Ideal.S8192x1024, .bf16⟩ : BufTy).Contents (Elt Ideal)) (p q : Fin 1024) :
    val_main_v8 (F := Ideal) a b (ix3 0 p q) = tn a b p q := by
  unfold tn
  pointwise [val_main_v8, val_main_v7, val_main_v5, val_main_v4, val_main_v3, val_main_v1]
  exact Finset.sum_congr rfl fun k _ => mul_comm _ _

theorem res_eq (m : (ℓ : Loc Cert.Kernel2Ideal.nD Cert.Kernel2Ideal.τ Cert.Kernel2Ideal.sig) → Buf (Elt Ideal) ℓ) (c : Dev Cert.Kernel2Ideal.nD)
    (p q : Fin 1024) :
    Cert.Kernel2Ideal.WOut.prod m c p q = tn (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) p q := by
  unfold Cert.Kernel2Ideal.WOut.prod tn
  refine Finset.sum_congr rfl fun r _ => ?_
  rw [Cert.Kernel2Ideal.WOut.A, Cert.Kernel2Ideal.WOut.B, dif_pos r.isLt, dif_pos r.isLt]

theorem holds : Cert.algebraic_Kernel2Ideal_Reference2Ideal (hKernel2Ideal := Cert.Kernel2Ideal.Gen.facts) (hReference2Ideal := Cert.Reference2Ideal.Gen.facts) := by
  intro m g m' g' _ hag
  refine ⟨fun c => Cert.Kernel2Ideal.WOut.res m c, fun c => Cert.Kernel2Ideal.WOut.res m c, ?_, ?_⟩
  · refine (θ_run _ _ _).mono (fun r h c => ?_) (Cert.Kernel2Ideal.Value.run_blocks m g)
    obtain ⟨h0, h1, h2, h3⟩ := h c
    exact ⟨h0.trans (Cert.Kernel2Ideal.WOut.final2 m c), h1.trans (Cert.Kernel2Ideal.WOut.final3 m c), h2, h3⟩
  · refine (θ_run _ _ _).mono (fun r h c => ?_) (Cert.Reference2Ideal.Value.run (F := Ideal) m' g')
    obtain ⟨h0, h1, h2, h3⟩ := h c
    refine ⟨h0.trans ?_, h1.trans ?_, h2, h3⟩
    · refine (val_main_v6_eq _ _).trans ?_
      funext i
      idx_vars i
      obtain rfl : i0 = 0 := Subsingleton.elim _ _
      refine (ref_at _ _ i1 i2).trans ?_
      rw [(hag c).1, (hag c).2]
      exact (res_eq m c i1 i2).symm
    · refine (val_main_v8_eq _ _).trans ?_
      funext i
      idx_vars i
      obtain rfl : i0 = 0 := Subsingleton.elim _ _
      refine (ref16_at _ _ i1 i2).trans ?_
      rw [(hag c).1, (hag c).2]
      exact (res_eq m c i1 i2).symm

end Cert.WOutClaim

end
-- ==== Proof.WGateUp.lean ====
/-
  The gradient of `w_gate_up`: what the blocked product leaves in its result arrays, read at an index, is the whole
  product of the two operands over the token axis. The grid walks 4 blocks of columns, and for each of them the
  tokens in 4 blocks; the first point of a block of columns stores its product, each later point adds its own, and the last one also stores the sum in the narrow format.
-/
module

public import proofs.«01_k».proof.Proof.Blocks
public import proofs.«01_k».proof.Proof.Gen.Kernel3Ideal.Value

@[expose] public section

set_option maxRecDepth 16384

noncomputable section

namespace Cert.Kernel3Ideal.WGateUp

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- The first point leaves its block's product. -/
theorem out_A (c : Dev nD) (i : grid0.Coords) (a2) (h2 : a2.IsWhole) (a3) (h3 : a3.IsWhole) (a4) (h4 : a4.IsWhole) (a5) (h5 : a5.IsWhole)
    (hc0 hc1 hc2) (x0 : Vec Ideal S1024x2048 .bf16) (x1 : Vec Ideal S2048x1408 .bf16) :
    out0_A_2 (F := Ideal) c i a2 h2 a3 h3 a4 h4 a5 h5 hc0 hc1 hc2 x0 x1 = k0_pay2 x0 x1 := by
  unfold out0_A_2
  rw [View.read_writes_eq_canon _ _ _ (cover0_A_2 c i a2 h2 a3 h3 a4 h4 a5 h5 hc0 hc1 hc2 x0 x1)]
  unfold kernelRun0_A
  dsimp only
  rw [View.canon_unit_zero z3]
  simp only [View.readAt_eq_ld, h2.read_unread, h3.read_unread, View.ld_unit_zero (S := S1024x2048) z2, View.ld_unit_zero (S := S2048x1408) z2]

/-- A later point adds its block's product to what the buffer holds. -/
theorem out_B (c : Dev nD) (i : grid0.Coords) (a2) (h2 : a2.IsWhole) (a3) (h3 : a3.IsWhole) (a4) (h4 : a4.IsWhole) (a5) (h5 : a5.IsWhole)
    (hc0 hc1 hc2) (x0 : Vec Ideal S1024x2048 .bf16) (x1 : Vec Ideal S2048x1408 .bf16) (xo : Vec Ideal S1x1024x1408 .f32) :
    out0_B_2 (F := Ideal) c i a2 h2 a3 h3 a4 h4 a5 h5 hc0 hc1 hc2 x0 x1 xo = k0_pay3 x0 x1 xo := by
  unfold out0_B_2
  rw [View.read_writes_eq_canon _ _ _ (cover0_B_2 c i a2 h2 a3 h3 a4 h4 a5 h5 hc0 hc1 hc2 x0 x1 xo)]
  unfold kernelRun0_B
  dsimp only
  rw [View.canon_unit_zero z3]
  simp only [View.readAt_eq_ld, h2.read_unread, h3.read_unread, h4.read_unread, View.ld_unit_zero (S := S1024x2048) z2, View.ld_unit_zero (S := S2048x1408) z2, View.ld_unit_zero (S := S1x1024x1408) z3]

/-- The last point does the same, … -/
theorem out_C (c : Dev nD) (i : grid0.Coords) (a2) (h2 : a2.IsWhole) (a3) (h3 : a3.IsWhole) (a4) (h4 : a4.IsWhole) (a5) (h5 : a5.IsWhole)
    (hc0 hc1 hc2) (x0 : Vec Ideal S1024x2048 .bf16) (x1 : Vec Ideal S2048x1408 .bf16) (xo : Vec Ideal S1x1024x1408 .f32) :
    out0_C_2 (F := Ideal) c i a2 h2 a3 h3 a4 h4 a5 h5 hc0 hc1 hc2 x0 x1 xo = k0_pay3 x0 x1 xo := by
  unfold out0_C_2
  rw [View.read_writes_eq_canon _ _ _ (cover0_C_2 c i a2 h2 a3 h3 a4 h4 a5 h5 hc0 hc1 hc2 x0 x1 xo)]
  unfold kernelRun0_C
  dsimp only
  sl_unfold_words
  rw [View.canon_unit_zero z3]
  simp only [View.readAt_eq_ld, h2.read_unread, h3.read_unread, h4.read_unread, View.ld_unit_zero (S := S1024x2048) z2, View.ld_unit_zero (S := S2048x1408) z2, View.ld_unit_zero (S := S1x1024x1408) z3]

/-- … and stores the sum in the narrow format. -/
theorem out_C16 (c : Dev nD) (i : grid0.Coords) (a2) (h2 : a2.IsWhole) (a3) (h3 : a3.IsWhole) (a4) (h4 : a4.IsWhole) (a5) (h5 : a5.IsWhole)
    (hc0 hc1 hc2) (x0 : Vec Ideal S1024x2048 .bf16) (x1 : Vec Ideal S2048x1408 .bf16) (xo : Vec Ideal S1x1024x1408 .f32) :
    out0_C_3 (F := Ideal) c i a2 h2 a3 h3 a4 h4 a5 h5 hc0 hc1 hc2 x0 x1 xo = k0_pay4 (k0_pay3 x0 x1 xo) := by
  unfold out0_C_3
  rw [View.read_writes_eq_canon _ _ _ (cover0_C_3 c i a2 h2 a3 h3 a4 h4 a5 h5 hc0 hc1 hc2 x0 x1 xo)]
  unfold kernelRun0_C
  dsimp only
  sl_unfold_words
  rw [View.canon_unit_zero z3, View.readCov_unit_zero (S := S1x1024x1408) _ z3]
  simp only [View.readAt_eq_ld, h2.read_unread, h3.read_unread, h4.read_unread, View.ld_unit_zero (S := S1024x2048) z2, View.ld_unit_zero (S := S2048x1408) z2, View.ld_unit_zero (S := S1x1024x1408) z3]

/-- One block's product at an index. -/
theorem pay2_at (x0 : Vec Ideal S1024x2048 .bf16) (x1 : Vec Ideal S2048x1408 .bf16) (p : Fin 1024) (q : Fin 1408) :
    k0_pay2 (F := Ideal) x0 x1 (ix3 0 p q) = ∑ k : Fin 2048, x0 (ix2 p k) * x1 (ix2 k q) := by
  pointwise [k0_pay2, k0_pay1]

theorem pay3_at (x0 : Vec Ideal S1024x2048 .bf16) (x1 : Vec Ideal S2048x1408 .bf16) (xo : Vec Ideal S1x1024x1408 .f32) (p : Fin 1024) (q : Fin 1408) :
    k0_pay3 (F := Ideal) x0 x1 xo (ix3 0 p q) = xo (ix3 0 p q) + ∑ k : Fin 2048, x0 (ix2 p k) * x1 (ix2 k q) := by
  pointwise [k0_pay3, k0_pay1]

theorem pay4_at (xo : Vec Ideal S1x1024x1408 .f32) (p : Fin 1024) (q : Fin 1408) :
    k0_pay4 (F := Ideal) xo (ix3 0 p q) = xo (ix3 0 p q) := by
  pointwise [k0_pay4]

/-- The two operands as tables of extended reals. -/
def A (c : Dev nD) (r : ℕ) (p : Fin 1024) : EReal := if h : r < 8192 then m ((c : Thread nD τ).loc main_arg0) (ix2 p ⟨r, h⟩) else 0
def B (c : Dev nD) (r : ℕ) (q : ℕ) : EReal := if h : r < 8192 ∧ q < 5632 then m ((c : Thread nD τ).loc main_arg1) (ix2 ⟨r, h.1⟩ ⟨q, h.2⟩) else 0

theorem idx0 (t : Fin cfg0.N) : win0_0.index t 0 = 0 ∧ win0_0.index t 1 = t.val % 4 := by
  revert t; decide +kernel
theorem idx1 (t : Fin cfg0.N) : win0_1.index t 0 = t.val % 4 ∧ win0_1.index t 1 = t.val / 4 := by
  revert t; decide +kernel

theorem iblk0 (c : Dev nD) (t : Fin cfg0.N) (k : Fin 2048) (p : Fin 1024) :
    (iblk m c 0 t : Vec Ideal S1024x2048 .bf16) (ix2 p k) = A m c (2048 * (t.val % 4) + k.val) p := by
  have hlt : 2048 * (t.val % 4) + k.val < 8192 := by have := k.isLt; omega
  rw [A, dif_pos hlt]
  unfold iblk
  rw [View.read_apply]
  show V m c main_arg0 _ = m (c.tc.loc main_arg0) _
  unfold V
  congr 1
  funext a
  apply Fin.ext
  match a with
  | ⟨0, _⟩ => show win0_0.index t 0 * 1024 + 1 * p.val = p.val; rw [(idx0 t).1]; omega
  | ⟨1, _⟩ => show win0_0.index t 1 * 2048 + 1 * k.val = 2048 * (t.val % 4) + k.val; rw [(idx0 t).2]; omega

theorem iblk1 (c : Dev nD) (t : Fin cfg0.N) (k : Fin 2048) (q : Fin 1408) :
    (iblk m c 1 t : Vec Ideal S2048x1408 .bf16) (ix2 k q) = B m c (2048 * (t.val % 4) + k.val) (1408 * (t.val / 4) + q.val) := by
  have hN : cfg0.N = 16 := N_0
  have hlt : 2048 * (t.val % 4) + k.val < 8192 ∧ 1408 * (t.val / 4) + q.val < 5632 := by
    have := k.isLt; have := q.isLt; have := t.isLt; omega
  rw [B, dif_pos hlt]
  unfold iblk
  rw [View.read_apply]
  show V m c main_arg1 _ = m (c.tc.loc main_arg1) _
  unfold V
  congr 1
  funext a
  apply Fin.ext
  match a with
  | ⟨0, _⟩ => show win0_1.index t 0 * 2048 + 1 * k.val = 2048 * (t.val % 4) + k.val; rw [(idx1 t).1]; omega
  | ⟨1, _⟩ => show win0_1.index t 1 * 1408 + 1 * q.val = 1408 * (t.val / 4) + q.val; rw [(idx1 t).2]; omega

/-- The first point of a block of columns. -/
theorem first_at (c : Dev nD) (t : Fin cfg0.N) (h0 : t.val % 4 = 0) (p : Fin 1024) (q : Fin 1408) :
    (outsAt0 m c t.val t.isLt).1 (ix3 0 p q)
      = ∑ k : Fin 2048, A m c (2048 * (t.val % 4) + k.val) p * B m c (2048 * (t.val % 4) + k.val) (1408 * (t.val / 4) + q.val) := by
  rw [outsAt0_A m c t h0 (by omega) (by omega)]
  dsimp only
  rw [out_A, pay2_at]
  simp only [iblk0, iblk1]

/-- A later point. -/
theorem later_at (c : Dev nD) (n : ℕ) (h : n + 1 < cfg0.N) (h0 : (n + 1) % 4 ≠ 0) (p : Fin 1024) (q : Fin 1408) :
    (outsAt0 m c (n + 1) h).1 (ix3 0 p q) = (outsAt0 m c n (Nat.lt_of_succ_lt h)).1 (ix3 0 p q)
      + ∑ k : Fin 2048, A m c (2048 * ((n + 1) % 4) + k.val) p * B m c (2048 * ((n + 1) % 4) + k.val) (1408 * ((n + 1) / 4) + q.val) := by
  have key : (outsAt0 m c (n + 1) h).1 = k0_pay3 (F := Ideal) (iblk m c 0 ⟨n + 1, h⟩) (iblk m c 1 ⟨n + 1, h⟩) (outsAt0 m c n (Nat.lt_of_succ_lt h)).1 := by
    by_cases h2 : (n + 1) % 4 = 3
    · rw [show outsAt0 m c (n + 1) h = _ from outsAt0_C m c ⟨n + 1, h⟩ h0 (by dsimp only; omega) h2]
      dsimp only
      rw [out_C]; rfl
    · rw [show outsAt0 m c (n + 1) h = _ from outsAt0_B m c ⟨n + 1, h⟩ h0 (by dsimp only; omega) h2]
      dsimp only
      rw [out_B]; rfl
  rw [key, pay3_at]
  simp only [iblk0, iblk1]

/-- After point `n` the output's buffer holds the sum of the block of columns' products up to `n`. -/
theorem outs_at (c : Dev nD) (p : Fin 1024) (q : Fin 1408) : ∀ (n : ℕ) (h : n < cfg0.N),
    (outsAt0 m c n h).1 (ix3 0 p q)
      = ∑ l ∈ Finset.range (n % 4 + 1), ∑ k : Fin 2048, A m c (2048 * l + k.val) p * B m c (2048 * l + k.val) (1408 * (n / 4) + q.val)
  | 0, h => by
    rw [first_at m c ⟨0, h⟩ (Nat.zero_mod _) p q]
    simp
  | n + 1, h => by
    by_cases h0 : (n + 1) % 4 = 0
    · rw [first_at m c ⟨n + 1, h⟩ h0 p q]
      dsimp only
      rw [h0, Finset.sum_range_one]
    · have e1 : (n + 1) % 4 = n % 4 + 1 := by omega
      have e2 : (n + 1) / 4 = n / 4 := by omega
      rw [later_at m c n h h0, outs_at c p q n, e1, e2, Finset.sum_range_succ _ (n % 4 + 1)]

/-- The whole product. -/
def prod (c : Dev nD) (p : Fin 1024) (q : ℕ) : EReal := ∑ r : Fin 8192, A m c r.val p * B m c r.val q

theorem last_at (c : Dev nD) (t : Fin cfg0.N) (h3 : t.val % 4 = 3) (p : Fin 1024) (q : Fin 1408) :
    (outsAt0 m c t.val t.isLt).1 (ix3 0 p q) = prod m c p (1408 * (t.val / 4) + q.val) := by
  rw [outs_at, h3]
  exact Blocks.sum_blocks_fin (k := 2048) (n := 4) (by norm_num) fun r => A m c r p * B m c r (1408 * (t.val / 4) + q.val)

theorem last16_at (c : Dev nD) (t : Fin cfg0.N) (h3 : t.val % 4 = 3) (p : Fin 1024) (q : Fin 1408) :
    (outsAt0 m c t.val t.isLt).2 (ix3 0 p q) = prod m c p (1408 * (t.val / 4) + q.val) := by
  have e1 := last_at m c t h3 p q
  rw [outsAt0_C m c t (by omega) (by omega) h3] at e1 ⊢
  dsimp only at e1 ⊢
  rw [out_C] at e1
  rw [out_C16, pay4_at]
  exact e1

/-- The result array. -/
def res (c : Dev nD) : (⟨3, ![4, 1024, 1408]⟩ : Shape).Idx → EReal := fun i => prod m c (i 1) (1408 * (i 0).val + (i 2).val)

theorem idx2 (t : Fin cfg0.N) : win0_2.index t 0 = t.val / 4 / 1 ∧ win0_2.index t 1 = 0 ∧ win0_2.index t 2 = t.val / 4 % 1 := by
  revert t; decide +kernel

theorem final2 (c : Dev nD) : (dats m 0 c).arrAt 2 cfg0.N = res m c :=
  (dats m 0 c).arrAt_eq_of_cover 2 (res m c) (fun t hf => by
    rw [Value.flushed2]
    funext y
    idx_vars y
    have hy0 : y0 = 0 := Subsingleton.elim _ _
    subst hy0
    refine (last_at m c t ((flush0_2 t).mp hf) y1 y2).trans ?_
    rw [View.read_apply]
    unfold res
    congr 1
    · apply Fin.ext
      show y1.val = win0_2.index t 1 * 1024 + 1 * y1.val; rw [(idx2 t).2.1]; omega
    · show 1408 * (t.val / 4) + y2.val = 1408 * (win0_2.index t 0 * 1 + 1 * 0) + (win0_2.index t 2 * 1408 + 1 * y2.val)
      rw [(idx2 t).1, (idx2 t).2.2]; omega) fun i => by
    have h0 : (i 0 : Nat) < 4 := (i 0).isLt
    have h1 : (i 1 : Nat) < 1024 := (i 1).isLt
    have h2 : (i 2 : Nat) < 1408 := (i 2).isLt
    have hN : cfg0.N = 16 := N_0
    obtain ⟨t, ht⟩ : ∃ t : Fin cfg0.N, t.val = 4 * (1 * (i 0).val + (i 2).val / 1408) + 3 :=
      ⟨⟨4 * (1 * (i 0).val + (i 2).val / 1408) + 3, by omega⟩, rfl⟩
    refine ⟨t, (flush0_2 t).mpr (by omega), ?_⟩
    show i ∈ ((View.whole main_v0_0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [(idx2 t).1]; omega
    | ⟨1, _⟩ => show win0_2.index t 1 * 1024 ≤ (i 1 : Nat) ∧ (i 1 : Nat) < win0_2.index t 1 * 1024 + 1024; rw [(idx2 t).2.1]; omega
    | ⟨2, _⟩ => show win0_2.index t 2 * 1408 ≤ (i 2 : Nat) ∧ (i 2 : Nat) < win0_2.index t 2 * 1408 + 1408; rw [(idx2 t).2.2]; omega

theorem idx3 (t : Fin cfg0.N) : win0_3.index t 0 = t.val / 4 / 1 ∧ win0_3.index t 1 = 0 ∧ win0_3.index t 2 = t.val / 4 % 1 := by
  revert t; decide +kernel

theorem final3 (c : Dev nD) : (dats m 0 c).arrAt 3 cfg0.N = res m c :=
  (dats m 0 c).arrAt_eq_of_cover 3 (res m c) (fun t hf => by
    rw [Value.flushed3]
    funext y
    idx_vars y
    have hy0 : y0 = 0 := Subsingleton.elim _ _
    subst hy0
    refine (last16_at m c t ((flush0_3 t).mp hf) y1 y2).trans ?_
    rw [View.read_apply]
    unfold res
    congr 1
    · apply Fin.ext
      show y1.val = win0_3.index t 1 * 1024 + 1 * y1.val; rw [(idx3 t).2.1]; omega
    · show 1408 * (t.val / 4) + y2.val = 1408 * (win0_3.index t 0 * 1 + 1 * 0) + (win0_3.index t 2 * 1408 + 1 * y2.val)
      rw [(idx3 t).1, (idx3 t).2.2]; omega) fun i => by
    have h0 : (i 0 : Nat) < 4 := (i 0).isLt
    have h1 : (i 1 : Nat) < 1024 := (i 1).isLt
    have h2 : (i 2 : Nat) < 1408 := (i 2).isLt
    have hN : cfg0.N = 16 := N_0
    obtain ⟨t, ht⟩ : ∃ t : Fin cfg0.N, t.val = 4 * (1 * (i 0).val + (i 2).val / 1408) + 3 :=
      ⟨⟨4 * (1 * (i 0).val + (i 2).val / 1408) + 3, by omega⟩, rfl⟩
    refine ⟨t, (flush0_3 t).mpr (by omega), ?_⟩
    show i ∈ ((View.whole main_v0_1).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [(idx3 t).1]; omega
    | ⟨1, _⟩ => show win0_3.index t 1 * 1024 ≤ (i 1 : Nat) ∧ (i 1 : Nat) < win0_3.index t 1 * 1024 + 1024; rw [(idx3 t).2.1]; omega
    | ⟨2, _⟩ => show win0_3.index t 2 * 1408 ≤ (i 2 : Nat) ∧ (i 2 : Nat) < win0_3.index t 2 * 1408 + 1408; rw [(idx3 t).2.2]; omega

end Cert.Kernel3Ideal.WGateUp

end
-- ==== Proof.WGateUpClaim.lean ====
/-
  The claim about the gradient of `w_gate_up`: the blocked product and the reference's transposed product, read at an
  index, are the same sum over the tokens with the factors exchanged.
-/
module

public import proofs.«01_k».proof.Defs
public import proofs.«01_k».proof.Proof.WGateUp
public import proofs.«01_k».proof.Proof.Gen.Reference3Ideal.Read

@[expose] public section

set_option maxRecDepth 16384

noncomputable section

namespace Cert.WGateUpClaim

open Idealize.ShloMosaic Idealize.ShloMosaic.TcCoe Idealize.SL.Sem
open Cert.Reference3Ideal.Read

/-- The product over the token axis, at an index. -/
def tn (a : (⟨2, ![1024, 8192]⟩ : Shape).Idx → EReal) (b : (⟨2, ![8192, 5632]⟩ : Shape).Idx → EReal) (p : Fin 1024) (q : Fin 5632) : EReal := ∑ r : Fin 8192, a (ix2 p r) * b (ix2 r q)

theorem ref_at (a : (⟨Cert.Reference3Ideal.S1024x8192, .bf16⟩ : BufTy).Contents (Elt Ideal)) (b : (⟨Cert.Reference3Ideal.S8192x5632, .bf16⟩ : BufTy).Contents (Elt Ideal))
    (s : Fin 4) (p : Fin 1024) (q : Fin 1408) (h : 1408 * s.val + q.val < 5632) :
    val_main_v8 (F := Ideal) a b (ix3 s p q) = tn a b p ⟨1408 * s.val + q.val, h⟩ := by
  unfold tn
  pointwise [val_main_v8, val_main_v7, val_main_v6, val_main_v5, val_main_v4, val_main_v2, val_main_v1]
  exact Finset.sum_congr rfl fun k _ => (mul_comm _ _).trans (congrArg (fun z => a (ix2 p k) * b (ix2 k z)) (Fin.ext (by show s.val * 1408 + q.val = 1408 * s.val + q.val; omega)))

theorem ref16_at (a : (⟨Cert.Reference3Ideal.S1024x8192, .bf16⟩ : BufTy).Contents (Elt Ideal)) (b : (⟨Cert.Reference3Ideal.S8192x5632, .bf16⟩ : BufTy).Contents (Elt Ideal))
    (s : Fin 4) (p : Fin 1024) (q : Fin 1408) (h : 1408 * s.val + q.val < 5632) :
    val_main_v9 (F := Ideal) a b (ix3 s p q) = tn a b p ⟨1408 * s.val + q.val, h⟩ := by
  unfold tn
  pointwise [val_main_v9, val_main_v8, val_main_v7, val_main_v6, val_main_v5, val_main_v4, val_main_v2, val_main_v1]
  exact Finset.sum_congr rfl fun k _ => (mul_comm _ _).trans (congrArg (fun z => a (ix2 p k) * b (ix2 k z)) (Fin.ext (by show s.val * 1408 + q.val = 1408 * s.val + q.val; omega)))

theorem res_eq (m : (ℓ : Loc Cert.Kernel3Ideal.nD Cert.Kernel3Ideal.τ Cert.Kernel3Ideal.sig) → Buf (Elt Ideal) ℓ) (c : Dev Cert.Kernel3Ideal.nD)
    (p : Fin 1024) (q : Fin 5632) :
    Cert.Kernel3Ideal.WGateUp.prod m c p q.val = tn (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) p q := by
  unfold Cert.Kernel3Ideal.WGateUp.prod tn
  refine Finset.sum_congr rfl fun r _ => ?_
  rw [Cert.Kernel3Ideal.WGateUp.A, Cert.Kernel3Ideal.WGateUp.B, dif_pos r.isLt, dif_pos ⟨r.isLt, q.isLt⟩]

theorem holds : Cert.algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.WGateUp.res m c, fun c => Cert.Kernel3Ideal.WGateUp.res m c, ?_, ?_⟩
  · refine (θ_run _ _ _).mono (fun r h c => ?_) (Cert.Kernel3Ideal.Value.run_blocks m g)
    obtain ⟨h0, h1, h2, h3⟩ := h c
    exact ⟨h0.trans (Cert.Kernel3Ideal.WGateUp.final2 m c), h1.trans (Cert.Kernel3Ideal.WGateUp.final3 m c), h2, h3⟩
  · refine (θ_run _ _ _).mono (fun r h c => ?_) (Cert.Reference3Ideal.Value.run (F := Ideal) m' g')
    obtain ⟨h0, h1, h2, h3⟩ := h c
    refine ⟨h0.trans ?_, h1.trans ?_, h2, h3⟩
    · refine (val_main_v8_eq _ _).trans ?_
      funext i
      idx_vars i
      have hi : 1408 * i0.val + i2.val < 5632 := by have := i0.isLt; have := i2.isLt; omega
      refine (ref_at _ _ i0 i1 i2 hi).trans ?_
      rw [(hag c).1, (hag c).2]
      exact (res_eq m c i1 ⟨_, hi⟩).symm
    · refine (val_main_v9_eq _ _).trans ?_
      funext i
      idx_vars i
      have hi : 1408 * i0.val + i2.val < 5632 := by have := i0.isLt; have := i2.isLt; omega
      refine (ref16_at _ _ i0 i1 i2 hi).trans ?_
      rw [(hag c).1, (hag c).2]
      exact (res_eq m c i1 ⟨_, hi⟩).symm

end Cert.WGateUpClaim

end
-- ==== Proof.WIn.lean ====
/-
  The gradient of `w_in`: what the blocked product leaves in its result array, read at an index, is the whole
  product of the two operands over the token axis. The grid walks 2 blocks of columns, and for each of them the
  tokens in 4 blocks; the first point of a block of columns stores its product, each later point adds its own.
-/
module

public import proofs.«01_k».proof.Proof.Blocks
public import proofs.«01_k».proof.Proof.Gen.Kernel4Ideal.Value

@[expose] public section

set_option maxRecDepth 16384

noncomputable section

namespace Cert.Kernel4Ideal.WIn

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- The first point leaves its block's product. -/
theorem out_A (c : Dev nD) (i : grid0.Coords) (a2) (h2 : a2.IsWhole) (a3) (h3 : a3.IsWhole) (a4) (h4 : a4.IsWhole)
    (hc0 hc1) (x0 : Vec Ideal S1024x2048 .bf16) (x1 : Vec Ideal S2048x2176 .bf16) :
    out0_A_2 (F := Ideal) c i a2 h2 a3 h3 a4 h4 hc0 hc1 x0 x1 = k0_pay2 x0 x1 := by
  unfold out0_A_2
  rw [View.read_writes_eq_canon _ _ _ (cover0_A_2 c i a2 h2 a3 h3 a4 h4 hc0 hc1 x0 x1)]
  unfold kernelRun0_A
  dsimp only
  rw [View.canon_unit_zero z3]
  simp only [View.readAt_eq_ld, h2.read_unread, h3.read_unread, View.ld_unit_zero (S := S1024x2048) z2, View.ld_unit_zero (S := S2048x2176) z2]

/-- A later point adds its block's product to what the buffer holds. -/
theorem out_B (c : Dev nD) (i : grid0.Coords) (a2) (h2 : a2.IsWhole) (a3) (h3 : a3.IsWhole) (a4) (h4 : a4.IsWhole)
    (hc0 hc1) (x0 : Vec Ideal S1024x2048 .bf16) (x1 : Vec Ideal S2048x2176 .bf16) (xo : Vec Ideal S1x1024x2176 .f32) :
    out0_B_2 (F := Ideal) c i a2 h2 a3 h3 a4 h4 hc0 hc1 x0 x1 xo = k0_pay3 x0 x1 xo := by
  unfold out0_B_2
  rw [View.read_writes_eq_canon _ _ _ (cover0_B_2 c i a2 h2 a3 h3 a4 h4 hc0 hc1 x0 x1 xo)]
  unfold kernelRun0_B
  dsimp only
  rw [View.canon_unit_zero z3]
  simp only [View.readAt_eq_ld, h2.read_unread, h3.read_unread, h4.read_unread, View.ld_unit_zero (S := S1024x2048) z2, View.ld_unit_zero (S := S2048x2176) z2, View.ld_unit_zero (S := S1x1024x2176) z3]

/-- One block's product at an index. -/
theorem pay2_at (x0 : Vec Ideal S1024x2048 .bf16) (x1 : Vec Ideal S2048x2176 .bf16) (p : Fin 1024) (q : Fin 2176) :
    k0_pay2 (F := Ideal) x0 x1 (ix3 0 p q) = ∑ k : Fin 2048, x0 (ix2 p k) * x1 (ix2 k q) := by
  pointwise [k0_pay2, k0_pay1]

theorem pay3_at (x0 : Vec Ideal S1024x2048 .bf16) (x1 : Vec Ideal S2048x2176 .bf16) (xo : Vec Ideal S1x1024x2176 .f32) (p : Fin 1024) (q : Fin 2176) :
    k0_pay3 (F := Ideal) x0 x1 xo (ix3 0 p q) = xo (ix3 0 p q) + ∑ k : Fin 2048, x0 (ix2 p k) * x1 (ix2 k q) := by
  pointwise [k0_pay3, k0_pay1]

/-- The two operands as tables of extended reals. -/
def A (c : Dev nD) (r : ℕ) (p : Fin 1024) : EReal := if h : r < 8192 then m ((c : Thread nD τ).loc main_arg0) (ix2 p ⟨r, h⟩) else 0
def B (c : Dev nD) (r : ℕ) (q : ℕ) : EReal := if h : r < 8192 ∧ q < 4352 then m ((c : Thread nD τ).loc main_arg1) (ix2 ⟨r, h.1⟩ ⟨q, h.2⟩) else 0

theorem idx0 (t : Fin cfg0.N) : win0_0.index t 0 = 0 ∧ win0_0.index t 1 = t.val % 4 := by
  revert t; decide +kernel
theorem idx1 (t : Fin cfg0.N) : win0_1.index t 0 = t.val % 4 ∧ win0_1.index t 1 = t.val / 4 := by
  revert t; decide +kernel

theorem iblk0 (c : Dev nD) (t : Fin cfg0.N) (k : Fin 2048) (p : Fin 1024) :
    (iblk m c 0 t : Vec Ideal S1024x2048 .bf16) (ix2 p k) = A m c (2048 * (t.val % 4) + k.val) p := by
  have hlt : 2048 * (t.val % 4) + k.val < 8192 := by have := k.isLt; omega
  rw [A, dif_pos hlt]
  unfold iblk
  rw [View.read_apply]
  show V m c main_arg0 _ = m (c.tc.loc main_arg0) _
  unfold V
  congr 1
  funext a
  apply Fin.ext
  match a with
  | ⟨0, _⟩ => show win0_0.index t 0 * 1024 + 1 * p.val = p.val; rw [(idx0 t).1]; omega
  | ⟨1, _⟩ => show win0_0.index t 1 * 2048 + 1 * k.val = 2048 * (t.val % 4) + k.val; rw [(idx0 t).2]; omega

theorem iblk1 (c : Dev nD) (t : Fin cfg0.N) (k : Fin 2048) (q : Fin 2176) :
    (iblk m c 1 t : Vec Ideal S2048x2176 .bf16) (ix2 k q) = B m c (2048 * (t.val % 4) + k.val) (2176 * (t.val / 4) + q.val) := by
  have hN : cfg0.N = 8 := N_0
  have hlt : 2048 * (t.val % 4) + k.val < 8192 ∧ 2176 * (t.val / 4) + q.val < 4352 := by
    have := k.isLt; have := q.isLt; have := t.isLt; omega
  rw [B, dif_pos hlt]
  unfold iblk
  rw [View.read_apply]
  show V m c main_arg1 _ = m (c.tc.loc main_arg1) _
  unfold V
  congr 1
  funext a
  apply Fin.ext
  match a with
  | ⟨0, _⟩ => show win0_1.index t 0 * 2048 + 1 * k.val = 2048 * (t.val % 4) + k.val; rw [(idx1 t).1]; omega
  | ⟨1, _⟩ => show win0_1.index t 1 * 2176 + 1 * q.val = 2176 * (t.val / 4) + q.val; rw [(idx1 t).2]; omega

/-- The first point of a block of columns. -/
theorem first_at (c : Dev nD) (t : Fin cfg0.N) (h0 : t.val % 4 = 0) (p : Fin 1024) (q : Fin 2176) :
    (outsAt0 m c t.val t.isLt) (ix3 0 p q)
      = ∑ k : Fin 2048, A m c (2048 * (t.val % 4) + k.val) p * B m c (2048 * (t.val % 4) + k.val) (2176 * (t.val / 4) + q.val) := by
  rw [outsAt0_A m c t h0 (by omega)]
  rw [out_A, pay2_at]
  simp only [iblk0, iblk1]

/-- A later point. -/
theorem later_at (c : Dev nD) (n : ℕ) (h : n + 1 < cfg0.N) (h0 : (n + 1) % 4 ≠ 0) (p : Fin 1024) (q : Fin 2176) :
    (outsAt0 m c (n + 1) h) (ix3 0 p q) = (outsAt0 m c n (Nat.lt_of_succ_lt h)) (ix3 0 p q)
      + ∑ k : Fin 2048, A m c (2048 * ((n + 1) % 4) + k.val) p * B m c (2048 * ((n + 1) % 4) + k.val) (2176 * ((n + 1) / 4) + q.val) := by
  have key : (outsAt0 m c (n + 1) h) = k0_pay3 (F := Ideal) (iblk m c 0 ⟨n + 1, h⟩) (iblk m c 1 ⟨n + 1, h⟩) (outsAt0 m c n (Nat.lt_of_succ_lt h)) := by
    rw [show outsAt0 m c (n + 1) h = _ from outsAt0_B m c ⟨n + 1, h⟩ h0 (by dsimp only; omega)]
    rw [out_B]; rfl
  rw [key, pay3_at]
  simp only [iblk0, iblk1]

/-- After point `n` the output's buffer holds the sum of the block of columns' products up to `n`. -/
theorem outs_at (c : Dev nD) (p : Fin 1024) (q : Fin 2176) : ∀ (n : ℕ) (h : n < cfg0.N),
    (outsAt0 m c n h) (ix3 0 p q)
      = ∑ l ∈ Finset.range (n % 4 + 1), ∑ k : Fin 2048, A m c (2048 * l + k.val) p * B m c (2048 * l + k.val) (2176 * (n / 4) + q.val)
  | 0, h => by
    rw [first_at m c ⟨0, h⟩ (Nat.zero_mod _) p q]
    simp
  | n + 1, h => by
    by_cases h0 : (n + 1) % 4 = 0
    · rw [first_at m c ⟨n + 1, h⟩ h0 p q]
      dsimp only
      rw [h0, Finset.sum_range_one]
    · have e1 : (n + 1) % 4 = n % 4 + 1 := by omega
      have e2 : (n + 1) / 4 = n / 4 := by omega
      rw [later_at m c n h h0, outs_at c p q n, e1, e2, Finset.sum_range_succ _ (n % 4 + 1)]

/-- The whole product. -/
def prod (c : Dev nD) (p : Fin 1024) (q : ℕ) : EReal := ∑ r : Fin 8192, A m c r.val p * B m c r.val q

theorem last_at (c : Dev nD) (t : Fin cfg0.N) (h3 : t.val % 4 = 3) (p : Fin 1024) (q : Fin 2176) :
    (outsAt0 m c t.val t.isLt) (ix3 0 p q) = prod m c p (2176 * (t.val / 4) + q.val) := by
  rw [outs_at, h3]
  exact Blocks.sum_blocks_fin (k := 2048) (n := 4) (by norm_num) fun r => A m c r p * B m c r (2176 * (t.val / 4) + q.val)

/-- The result array. -/
def res (c : Dev nD) : (⟨3, ![1, 1024, 4352]⟩ : Shape).Idx → EReal := fun i => prod m c (i 1) (4352 * (i 0).val + (i 2).val)

theorem idx2 (t : Fin cfg0.N) : win0_2.index t 0 = t.val / 4 / 2 ∧ win0_2.index t 1 = 0 ∧ win0_2.index t 2 = t.val / 4 % 2 := by
  revert t; decide +kernel

theorem final2 (c : Dev nD) : (dats m 0 c).arrAt 2 cfg0.N = res m c :=
  (dats m 0 c).arrAt_eq_of_cover 2 (res m c) (fun t hf => by
    rw [Value.flushed2]
    funext y
    idx_vars y
    have hy0 : y0 = 0 := Subsingleton.elim _ _
    subst hy0
    refine (last_at m c t ((flush0_2 t).mp hf) y1 y2).trans ?_
    rw [View.read_apply]
    unfold res
    congr 1
    · apply Fin.ext
      show y1.val = win0_2.index t 1 * 1024 + 1 * y1.val; rw [(idx2 t).2.1]; omega
    · show 2176 * (t.val / 4) + y2.val = 4352 * (win0_2.index t 0 * 1 + 1 * 0) + (win0_2.index t 2 * 2176 + 1 * y2.val)
      rw [(idx2 t).1, (idx2 t).2.2]; omega) fun i => by
    have h0 : (i 0 : Nat) < 1 := (i 0).isLt
    have h1 : (i 1 : Nat) < 1024 := (i 1).isLt
    have h2 : (i 2 : Nat) < 4352 := (i 2).isLt
    have hN : cfg0.N = 8 := N_0
    obtain ⟨t, ht⟩ : ∃ t : Fin cfg0.N, t.val = 4 * (2 * (i 0).val + (i 2).val / 2176) + 3 :=
      ⟨⟨4 * (2 * (i 0).val + (i 2).val / 2176) + 3, by omega⟩, rfl⟩
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [(idx2 t).1]; omega
    | ⟨1, _⟩ => show win0_2.index t 1 * 1024 ≤ (i 1 : Nat) ∧ (i 1 : Nat) < win0_2.index t 1 * 1024 + 1024; rw [(idx2 t).2.1]; omega
    | ⟨2, _⟩ => show win0_2.index t 2 * 2176 ≤ (i 2 : Nat) ∧ (i 2 : Nat) < win0_2.index t 2 * 2176 + 2176; rw [(idx2 t).2.2]; omega

end Cert.Kernel4Ideal.WIn

end
-- ==== Proof.WInClaim.lean ====
/-
  The claim about the gradient of `w_in`: the blocked product and the reference's transposed product, read at an
  index, are the same sum over the tokens with the factors exchanged.
-/
module

public import proofs.«01_k».proof.Defs
public import proofs.«01_k».proof.Proof.WIn
public import proofs.«01_k».proof.Proof.Gen.Reference4Ideal.Read

@[expose] public section

set_option maxRecDepth 16384

noncomputable section

namespace Cert.WInClaim

open Idealize.ShloMosaic Idealize.ShloMosaic.TcCoe Idealize.SL.Sem
open Cert.Reference4Ideal.Read

/-- The product over the token axis, at an index. -/
def tn (a : (⟨2, ![1024, 8192]⟩ : Shape).Idx → EReal) (b : (⟨2, ![8192, 4352]⟩ : Shape).Idx → EReal) (p : Fin 1024) (q : Fin 4352) : EReal := ∑ r : Fin 8192, a (ix2 p r) * b (ix2 r q)

theorem ref_at (a : (⟨Cert.Reference4Ideal.S1024x8192, .bf16⟩ : BufTy).Contents (Elt Ideal)) (b : (⟨Cert.Reference4Ideal.S8192x4352, .bf16⟩ : BufTy).Contents (Elt Ideal))
    (s : Fin 1) (p : Fin 1024) (q : Fin 4352) (h : 4352 * s.val + q.val < 4352) :
    val_main_v7 (F := Ideal) a b (ix3 s p q) = tn a b p ⟨4352 * s.val + q.val, h⟩ := by
  obtain rfl : s = 0 := Subsingleton.elim _ _
  have e : (⟨4352 * (0 : Fin 1).val + q.val, h⟩ : Fin 4352) = q := Fin.ext (by simp)
  rw [e]
  unfold tn
  pointwise [val_main_v7, val_main_v6, val_main_v5, val_main_v4, val_main_v2, val_main_v1]
  exact Finset.sum_congr rfl fun k _ => mul_comm _ _

theorem res_eq (m : (ℓ : Loc Cert.Kernel4Ideal.nD Cert.Kernel4Ideal.τ Cert.Kernel4Ideal.sig) → Buf (Elt Ideal) ℓ) (c : Dev Cert.Kernel4Ideal.nD)
    (p : Fin 1024) (q : Fin 4352) :
    Cert.Kernel4Ideal.WIn.prod m c p q.val = tn (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)) p q := by
  unfold Cert.Kernel4Ideal.WIn.prod tn
  refine Finset.sum_congr rfl fun r _ => ?_
  rw [Cert.Kernel4Ideal.WIn.A, Cert.Kernel4Ideal.WIn.B, dif_pos r.isLt, dif_pos ⟨r.isLt, q.isLt⟩]

theorem holds : Cert.algebraic_Kernel4Ideal_Reference4Ideal (hKernel4Ideal := Cert.Kernel4Ideal.Gen.facts) (hReference4Ideal := Cert.Reference4Ideal.Gen.facts) := by
  intro m g m' g' _ hag
  refine ⟨fun c => Cert.Kernel4Ideal.WIn.res m c, ?_, ?_⟩
  · refine (θ_run _ _ _).mono (fun r h c => ?_) (Cert.Kernel4Ideal.Value.run_blocks m g)
    obtain ⟨h0, h2, h3⟩ := h c
    exact ⟨h0.trans (Cert.Kernel4Ideal.WIn.final2 m c), h2, h3⟩
  · refine (θ_run _ _ _).mono (fun r h c => ?_) (Cert.Reference4Ideal.Value.run (F := Ideal) m' g')
    obtain ⟨h0, h2, h3⟩ := h c
    refine ⟨h0.trans ?_, h2, h3⟩
    · refine (val_main_v7_eq _ _).trans ?_
      funext i
      idx_vars i
      have hi : 4352 * i0.val + i2.val < 4352 := by have := i0.isLt; have := i2.isLt; omega
      refine (ref_at _ _ i0 i1 i2 hi).trans ?_
      rw [(hag c).1, (hag c).2]
      exact (res_eq m c i1 ⟨_, hi⟩).symm

end Cert.WInClaim

end
-- ==== Proof.WDown.lean ====
/-
  The gradient of `w_down`: what the blocked product leaves in its result arrays, read at an index, is the whole
  product of the two operands over the token axis. The grid walks 2 blocks of columns, and for each of them the
  tokens in 8 blocks; the first point of a block of columns stores its product, each later point adds its own, and the last one also stores the sum in the narrow format.
-/
module

public import proofs.«01_k».proof.Proof.Blocks
public import proofs.«01_k».proof.Proof.Gen.Kernel5Ideal.Value

@[expose] public section

set_option maxRecDepth 16384

noncomputable section

namespace Cert.Kernel5Ideal.WDown

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- The first point leaves its block's product. -/
theorem out_A (c : Dev nD) (i : grid0.Coords) (a2) (h2 : a2.IsWhole) (a3) (h3 : a3.IsWhole) (a4) (h4 : a4.IsWhole) (a5) (h5 : a5.IsWhole)
    (hc0 hc1 hc2) (x0 : Vec Ideal S1024x2816 .bf16) (x1 : Vec Ideal S1024x512 .bf16) :
    out0_A_2 (F := Ideal) c i a2 h2 a3 h3 a4 h4 a5 h5 hc0 hc1 hc2 x0 x1 = k0_pay2 x0 x1 := by
  unfold out0_A_2
  rw [View.read_writes_eq_canon _ _ _ (cover0_A_2 c i a2 h2 a3 h3 a4 h4 a5 h5 hc0 hc1 hc2 x0 x1)]
  unfold kernelRun0_A
  dsimp only
  rw [View.canon_unit_zero z3]
  simp only [View.readAt_eq_ld, h2.read_unread, h3.read_unread, View.ld_unit_zero (S := S1024x2816) z2, View.ld_unit_zero (S := S1024x512) z2]

/-- A later point adds its block's product to what the buffer holds. -/
theorem out_B (c : Dev nD) (i : grid0.Coords) (a2) (h2 : a2.IsWhole) (a3) (h3 : a3.IsWhole) (a4) (h4 : a4.IsWhole) (a5) (h5 : a5.IsWhole)
    (hc0 hc1 hc2) (x0 : Vec Ideal S1024x2816 .bf16) (x1 : Vec Ideal S1024x512 .bf16) (xo : Vec Ideal S1x2816x512 .f32) :
    out0_B_2 (F := Ideal) c i a2 h2 a3 h3 a4 h4 a5 h5 hc0 hc1 hc2 x0 x1 xo = k0_pay3 x0 x1 xo := by
  unfold out0_B_2
  rw [View.read_writes_eq_canon _ _ _ (cover0_B_2 c i a2 h2 a3 h3 a4 h4 a5 h5 hc0 hc1 hc2 x0 x1 xo)]
  unfold kernelRun0_B
  dsimp only
  rw [View.canon_unit_zero z3]
  simp only [View.readAt_eq_ld, h2.read_unread, h3.read_unread, h4.read_unread, View.ld_unit_zero (S := S1024x2816) z2, View.ld_unit_zero (S := S1024x512) z2, View.ld_unit_zero (S := S1x2816x512) z3]

/-- The last point does the same, … -/
theorem out_C (c : Dev nD) (i : grid0.Coords) (a2) (h2 : a2.IsWhole) (a3) (h3 : a3.IsWhole) (a4) (h4 : a4.IsWhole) (a5) (h5 : a5.IsWhole)
    (hc0 hc1 hc2) (x0 : Vec Ideal S1024x2816 .bf16) (x1 : Vec Ideal S1024x512 .bf16) (xo : Vec Ideal S1x2816x512 .f32) :
    out0_C_2 (F := Ideal) c i a2 h2 a3 h3 a4 h4 a5 h5 hc0 hc1 hc2 x0 x1 xo = k0_pay3 x0 x1 xo := by
  unfold out0_C_2
  rw [View.read_writes_eq_canon _ _ _ (cover0_C_2 c i a2 h2 a3 h3 a4 h4 a5 h5 hc0 hc1 hc2 x0 x1 xo)]
  unfold kernelRun0_C
  dsimp only
  sl_unfold_words
  rw [View.canon_unit_zero z3]
  simp only [View.readAt_eq_ld, h2.read_unread, h3.read_unread, h4.read_unread, View.ld_unit_zero (S := S1024x2816) z2, View.ld_unit_zero (S := S1024x512) z2, View.ld_unit_zero (S := S1x2816x512) z3]

/-- … and stores the sum in the narrow format. -/
theorem out_C16 (c : Dev nD) (i : grid0.Coords) (a2) (h2 : a2.IsWhole) (a3) (h3 : a3.IsWhole) (a4) (h4 : a4.IsWhole) (a5) (h5 : a5.IsWhole)
    (hc0 hc1 hc2) (x0 : Vec Ideal S1024x2816 .bf16) (x1 : Vec Ideal S1024x512 .bf16) (xo : Vec Ideal S1x2816x512 .f32) :
    out0_C_3 (F := Ideal) c i a2 h2 a3 h3 a4 h4 a5 h5 hc0 hc1 hc2 x0 x1 xo = k0_pay4 (k0_pay3 x0 x1 xo) := by
  unfold out0_C_3
  rw [View.read_writes_eq_canon _ _ _ (cover0_C_3 c i a2 h2 a3 h3 a4 h4 a5 h5 hc0 hc1 hc2 x0 x1 xo)]
  unfold kernelRun0_C
  dsimp only
  sl_unfold_words
  rw [View.canon_unit_zero z3, View.readCov_unit_zero (S := S1x2816x512) _ z3]
  simp only [View.readAt_eq_ld, h2.read_unread, h3.read_unread, h4.read_unread, View.ld_unit_zero (S := S1024x2816) z2, View.ld_unit_zero (S := S1024x512) z2, View.ld_unit_zero (S := S1x2816x512) z3]

/-- One block's product at an index. -/
theorem pay2_at (x0 : Vec Ideal S1024x2816 .bf16) (x1 : Vec Ideal S1024x512 .bf16) (p : Fin 2816) (q : Fin 512) :
    k0_pay2 (F := Ideal) x0 x1 (ix3 0 p q) = ∑ k : Fin 1024, x0 (ix2 k p) * x1 (ix2 k q) := by
  pointwise [k0_pay2, k0_pay1]

theorem pay3_at (x0 : Vec Ideal S1024x2816 .bf16) (x1 : Vec Ideal S1024x512 .bf16) (xo : Vec Ideal S1x2816x512 .f32) (p : Fin 2816) (q : Fin 512) :
    k0_pay3 (F := Ideal) x0 x1 xo (ix3 0 p q) = xo (ix3 0 p q) + ∑ k : Fin 1024, x0 (ix2 k p) * x1 (ix2 k q) := by
  pointwise [k0_pay3, k0_pay1]

theorem pay4_at (xo : Vec Ideal S1x2816x512 .f32) (p : Fin 2816) (q : Fin 512) :
    k0_pay4 (F := Ideal) xo (ix3 0 p q) = xo (ix3 0 p q) := by
  pointwise [k0_pay4]

/-- The two operands as tables of extended reals. -/
def A (c : Dev nD) (r : ℕ) (p : Fin 2816) : EReal := if h : r < 8192 then m ((c : Thread nD τ).loc main_arg0) (ix2 ⟨r, h⟩ p) else 0
def B (c : Dev nD) (r : ℕ) (q : ℕ) : EReal := if h : r < 8192 ∧ q < 1024 then m ((c : Thread nD τ).loc main_arg1) (ix2 ⟨r, h.1⟩ ⟨q, h.2⟩) else 0

theorem idx0 (t : Fin cfg0.N) : win0_0.index t 0 = t.val % 8 ∧ win0_0.index t 1 = 0 := by
  revert t; decide +kernel
theorem idx1 (t : Fin cfg0.N) : win0_1.index t 0 = t.val % 8 ∧ win0_1.index t 1 = t.val / 8 := by
  revert t; decide +kernel

theorem iblk0 (c : Dev nD) (t : Fin cfg0.N) (k : Fin 1024) (p : Fin 2816) :
    (iblk m c 0 t : Vec Ideal S1024x2816 .bf16) (ix2 k p) = A m c (1024 * (t.val % 8) + k.val) p := by
  have hlt : 1024 * (t.val % 8) + k.val < 8192 := by have := k.isLt; omega
  rw [A, dif_pos hlt]
  unfold iblk
  rw [View.read_apply]
  show V m c main_arg0 _ = m (c.tc.loc main_arg0) _
  unfold V
  congr 1
  funext a
  apply Fin.ext
  match a with
  | ⟨0, _⟩ => show win0_0.index t 0 * 1024 + 1 * k.val = 1024 * (t.val % 8) + k.val; rw [(idx0 t).1]; omega
  | ⟨1, _⟩ => show win0_0.index t 1 * 2816 + 1 * p.val = p.val; rw [(idx0 t).2]; omega

theorem iblk1 (c : Dev nD) (t : Fin cfg0.N) (k : Fin 1024) (q : Fin 512) :
    (iblk m c 1 t : Vec Ideal S1024x512 .bf16) (ix2 k q) = B m c (1024 * (t.val % 8) + k.val) (512 * (t.val / 8) + q.val) := by
  have hN : cfg0.N = 16 := N_0
  have hlt : 1024 * (t.val % 8) + k.val < 8192 ∧ 512 * (t.val / 8) + q.val < 1024 := by
    have := k.isLt; have := q.isLt; have := t.isLt; omega
  rw [B, dif_pos hlt]
  unfold iblk
  rw [View.read_apply]
  show V m c main_arg1 _ = m (c.tc.loc main_arg1) _
  unfold V
  congr 1
  funext a
  apply Fin.ext
  match a with
  | ⟨0, _⟩ => show win0_1.index t 0 * 1024 + 1 * k.val = 1024 * (t.val % 8) + k.val; rw [(idx1 t).1]; omega
  | ⟨1, _⟩ => show win0_1.index t 1 * 512 + 1 * q.val = 512 * (t.val / 8) + q.val; rw [(idx1 t).2]; omega

/-- The first point of a block of columns. -/
theorem first_at (c : Dev nD) (t : Fin cfg0.N) (h0 : t.val % 8 = 0) (p : Fin 2816) (q : Fin 512) :
    (outsAt0 m c t.val t.isLt).1 (ix3 0 p q)
      = ∑ k : Fin 1024, A m c (1024 * (t.val % 8) + k.val) p * B m c (1024 * (t.val % 8) + k.val) (512 * (t.val / 8) + q.val) := by
  rw [outsAt0_A m c t h0 (by omega) (by omega)]
  dsimp only
  rw [out_A, pay2_at]
  simp only [iblk0, iblk1]

/-- A later point. -/
theorem later_at (c : Dev nD) (n : ℕ) (h : n + 1 < cfg0.N) (h0 : (n + 1) % 8 ≠ 0) (p : Fin 2816) (q : Fin 512) :
    (outsAt0 m c (n + 1) h).1 (ix3 0 p q) = (outsAt0 m c n (Nat.lt_of_succ_lt h)).1 (ix3 0 p q)
      + ∑ k : Fin 1024, A m c (1024 * ((n + 1) % 8) + k.val) p * B m c (1024 * ((n + 1) % 8) + k.val) (512 * ((n + 1) / 8) + q.val) := by
  have key : (outsAt0 m c (n + 1) h).1 = k0_pay3 (F := Ideal) (iblk m c 0 ⟨n + 1, h⟩) (iblk m c 1 ⟨n + 1, h⟩) (outsAt0 m c n (Nat.lt_of_succ_lt h)).1 := by
    by_cases h2 : (n + 1) % 8 = 7
    · rw [show outsAt0 m c (n + 1) h = _ from outsAt0_C m c ⟨n + 1, h⟩ h0 (by dsimp only; omega) h2]
      dsimp only
      rw [out_C]; rfl
    · rw [show outsAt0 m c (n + 1) h = _ from outsAt0_B m c ⟨n + 1, h⟩ h0 (by dsimp only; omega) h2]
      dsimp only
      rw [out_B]; rfl
  rw [key, pay3_at]
  simp only [iblk0, iblk1]

/-- After point `n` the output's buffer holds the sum of the block of columns' products up to `n`. -/
theorem outs_at (c : Dev nD) (p : Fin 2816) (q : Fin 512) : ∀ (n : ℕ) (h : n < cfg0.N),
    (outsAt0 m c n h).1 (ix3 0 p q)
      = ∑ l ∈ Finset.range (n % 8 + 1), ∑ k : Fin 1024, A m c (1024 * l + k.val) p * B m c (1024 * l + k.val) (512 * (n / 8) + q.val)
  | 0, h => by
    rw [first_at m c ⟨0, h⟩ (Nat.zero_mod _) p q]
    simp
  | n + 1, h => by
    by_cases h0 : (n + 1) % 8 = 0
    · rw [first_at m c ⟨n + 1, h⟩ h0 p q]
      dsimp only
      rw [h0, Finset.sum_range_one]
    · have e1 : (n + 1) % 8 = n % 8 + 1 := by omega
      have e2 : (n + 1) / 8 = n / 8 := by omega
      rw [later_at m c n h h0, outs_at c p q n, e1, e2, Finset.sum_range_succ _ (n % 8 + 1)]

/-- The whole product. -/
def prod (c : Dev nD) (p : Fin 2816) (q : ℕ) : EReal := ∑ r : Fin 8192, A m c r.val p * B m c r.val q

theorem last_at (c : Dev nD) (t : Fin cfg0.N) (h3 : t.val % 8 = 7) (p : Fin 2816) (q : Fin 512) :
    (outsAt0 m c t.val t.isLt).1 (ix3 0 p q) = prod m c p (512 * (t.val / 8) + q.val) := by
  rw [outs_at, h3]
  exact Blocks.sum_blocks_fin (k := 1024) (n := 8) (by norm_num) fun r => A m c r p * B m c r (512 * (t.val / 8) + q.val)

theorem last16_at (c : Dev nD) (t : Fin cfg0.N) (h3 : t.val % 8 = 7) (p : Fin 2816) (q : Fin 512) :
    (outsAt0 m c t.val t.isLt).2 (ix3 0 p q) = prod m c p (512 * (t.val / 8) + q.val) := by
  have e1 := last_at m c t h3 p q
  rw [outsAt0_C m c t (by omega) (by omega) h3] at e1 ⊢
  dsimp only at e1 ⊢
  rw [out_C] at e1
  rw [out_C16, pay4_at]
  exact e1

/-- The result array. -/
def res (c : Dev nD) : (⟨3, ![1, 2816, 1024]⟩ : Shape).Idx → EReal := fun i => prod m c (i 1) (1024 * (i 0).val + (i 2).val)

theorem idx2 (t : Fin cfg0.N) : win0_2.index t 0 = t.val / 8 / 2 ∧ win0_2.index t 1 = 0 ∧ win0_2.index t 2 = t.val / 8 % 2 := by
  revert t; decide +kernel

theorem final2 (c : Dev nD) : (dats m 0 c).arrAt 2 cfg0.N = res m c :=
  (dats m 0 c).arrAt_eq_of_cover 2 (res m c) (fun t hf => by
    rw [Value.flushed2]
    funext y
    idx_vars y
    have hy0 : y0 = 0 := Subsingleton.elim _ _
    subst hy0
    refine (last_at m c t ((flush0_2 t).mp hf) y1 y2).trans ?_
    rw [View.read_apply]
    unfold res
    congr 1
    · apply Fin.ext
      show y1.val = win0_2.index t 1 * 2816 + 1 * y1.val; rw [(idx2 t).2.1]; omega
    · show 512 * (t.val / 8) + y2.val = 1024 * (win0_2.index t 0 * 1 + 1 * 0) + (win0_2.index t 2 * 512 + 1 * y2.val)
      rw [(idx2 t).1, (idx2 t).2.2]; omega) fun i => by
    have h0 : (i 0 : Nat) < 1 := (i 0).isLt
    have h1 : (i 1 : Nat) < 2816 := (i 1).isLt
    have h2 : (i 2 : Nat) < 1024 := (i 2).isLt
    have hN : cfg0.N = 16 := N_0
    obtain ⟨t, ht⟩ : ∃ t : Fin cfg0.N, t.val = 8 * (2 * (i 0).val + (i 2).val / 512) + 7 :=
      ⟨⟨8 * (2 * (i 0).val + (i 2).val / 512) + 7, by omega⟩, rfl⟩
    refine ⟨t, (flush0_2 t).mpr (by omega), ?_⟩
    show i ∈ ((View.whole main_v0_0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [(idx2 t).1]; omega
    | ⟨1, _⟩ => show win0_2.index t 1 * 2816 ≤ (i 1 : Nat) ∧ (i 1 : Nat) < win0_2.index t 1 * 2816 + 2816; rw [(idx2 t).2.1]; omega
    | ⟨2, _⟩ => show win0_2.index t 2 * 512 ≤ (i 2 : Nat) ∧ (i 2 : Nat) < win0_2.index t 2 * 512 + 512; rw [(idx2 t).2.2]; omega

theorem idx3 (t : Fin cfg0.N) : win0_3.index t 0 = t.val / 8 / 2 ∧ win0_3.index t 1 = 0 ∧ win0_3.index t 2 = t.val / 8 % 2 := by
  revert t; decide +kernel

theorem final3 (c : Dev nD) : (dats m 0 c).arrAt 3 cfg0.N = res m c :=
  (dats m 0 c).arrAt_eq_of_cover 3 (res m c) (fun t hf => by
    rw [Value.flushed3]
    funext y
    idx_vars y
    have hy0 : y0 = 0 := Subsingleton.elim _ _
    subst hy0
    refine (last16_at m c t ((flush0_3 t).mp hf) y1 y2).trans ?_
    rw [View.read_apply]
    unfold res
    congr 1
    · apply Fin.ext
      show y1.val = win0_3.index t 1 * 2816 + 1 * y1.val; rw [(idx3 t).2.1]; omega
    · show 512 * (t.val / 8) + y2.val = 1024 * (win0_3.index t 0 * 1 + 1 * 0) + (win0_3.index t 2 * 512 + 1 * y2.val)
      rw [(idx3 t).1, (idx3 t).2.2]; omega) fun i => by
    have h0 : (i 0 : Nat) < 1 := (i 0).isLt
    have h1 : (i 1 : Nat) < 2816 := (i 1).isLt
    have h2 : (i 2 : Nat) < 1024 := (i 2).isLt
    have hN : cfg0.N = 16 := N_0
    obtain ⟨t, ht⟩ : ∃ t : Fin cfg0.N, t.val = 8 * (2 * (i 0).val + (i 2).val / 512) + 7 :=
      ⟨⟨8 * (2 * (i 0).val + (i 2).val / 512) + 7, by omega⟩, rfl⟩
    refine ⟨t, (flush0_3 t).mpr (by omega), ?_⟩
    show i ∈ ((View.whole main_v0_1).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [(idx3 t).1]; omega
    | ⟨1, _⟩ => show win0_3.index t 1 * 2816 ≤ (i 1 : Nat) ∧ (i 1 : Nat) < win0_3.index t 1 * 2816 + 2816; rw [(idx3 t).2.1]; omega
    | ⟨2, _⟩ => show win0_3.index t 2 * 512 ≤ (i 2 : Nat) ∧ (i 2 : Nat) < win0_3.index t 2 * 512 + 512; rw [(idx3 t).2.2]; omega

end Cert.Kernel5Ideal.WDown

end
-- ==== Proof.WDownClaim.lean ====
/-
  The claim about the gradient of `w_down`: the blocked product and the reference's transposed product, read at an
  index, are the same sum over the tokens with the factors exchanged.
-/
module

public import proofs.«01_k».proof.Defs
public import proofs.«01_k».proof.Proof.WDown
public import proofs.«01_k».proof.Proof.Gen.Reference5Ideal.Read

@[expose] public section

set_option maxRecDepth 16384

noncomputable section

namespace Cert.WDownClaim

open Idealize.ShloMosaic Idealize.ShloMosaic.TcCoe Idealize.SL.Sem
open Cert.Reference5Ideal.Read

/-- The product over the token axis, at an index. -/
def tn (a : (⟨2, ![8192, 2816]⟩ : Shape).Idx → EReal) (b : (⟨2, ![8192, 1024]⟩ : Shape).Idx → EReal) (p : Fin 2816) (q : Fin 1024) : EReal := ∑ r : Fin 8192, a (ix2 r p) * b (ix2 r q)

theorem ref_at (a : (⟨Cert.Reference5Ideal.S8192x2816, .bf16⟩ : BufTy).Contents (Elt Ideal)) (b : (⟨Cert.Reference5Ideal.S8192x1024, .bf16⟩ : BufTy).Contents (Elt Ideal))
    (s : Fin 1) (p : Fin 2816) (q : Fin 1024) (h : 1024 * s.val + q.val < 1024) :
    val_main_v6 (F := Ideal) a b (ix3 s p q) = tn a b p ⟨1024 * s.val + q.val, h⟩ := by
  obtain rfl : s = 0 := Subsingleton.elim _ _
  have e : (⟨1024 * (0 : Fin 1).val + q.val, h⟩ : Fin 1024) = q := Fin.ext (by simp)
  rw [e]
  unfold tn
  pointwise [val_main_v6, val_main_v5, val_main_v4, val_main_v3, val_main_v1]
  exact Finset.sum_congr rfl fun k _ => mul_comm _ _

theorem ref16_at (a : (⟨Cert.Reference5Ideal.S8192x2816, .bf16⟩ : BufTy).Contents (Elt Ideal)) (b : (⟨Cert.Reference5Ideal.S8192x1024, .bf16⟩ : BufTy).Contents (Elt Ideal))
    (s : Fin 1) (p : Fin 2816) (q : Fin 1024) (h : 1024 * s.val + q.val < 1024) :
    val_main_v8 (F := Ideal) a b (ix3 s p q) = tn a b p ⟨1024 * s.val + q.val, h⟩ := by
  obtain rfl : s = 0 := Subsingleton.elim _ _
  have e : (⟨1024 * (0 : Fin 1).val + q.val, h⟩ : Fin 1024) = q := Fin.ext (by simp)
  rw [e]
  unfold tn
  pointwise [val_main_v8, val_main_v7, val_main_v5, val_main_v4, val_main_v3, val_main_v1]
  exact Finset.sum_congr rfl fun k _ => mul_comm _ _

theorem res_eq (m : (ℓ : Loc Cert.Kernel5Ideal.nD Cert.Kernel5Ideal.τ Cert.Kernel5Ideal.sig) → Buf (Elt Ideal) ℓ) (c : Dev Cert.Kernel5Ideal.nD)
    (p : Fin 2816) (q : Fin 1024) :
    Cert.Kernel5Ideal.WDown.prod m c p q.val = tn (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) p q := by
  unfold Cert.Kernel5Ideal.WDown.prod tn
  refine Finset.sum_congr rfl fun r _ => ?_
  rw [Cert.Kernel5Ideal.WDown.A, Cert.Kernel5Ideal.WDown.B, dif_pos r.isLt, dif_pos ⟨r.isLt, q.isLt⟩]

theorem holds : Cert.algebraic_Kernel5Ideal_Reference5Ideal (hKernel5Ideal := Cert.Kernel5Ideal.Gen.facts) (hReference5Ideal := Cert.Reference5Ideal.Gen.facts) := by
  intro m g m' g' _ hag
  refine ⟨fun c => Cert.Kernel5Ideal.WDown.res m c, fun c => Cert.Kernel5Ideal.WDown.res m c, ?_, ?_⟩
  · refine (θ_run _ _ _).mono (fun r h c => ?_) (Cert.Kernel5Ideal.Value.run_blocks m g)
    obtain ⟨h0, h1, h2, h3⟩ := h c
    exact ⟨h0.trans (Cert.Kernel5Ideal.WDown.final2 m c), h1.trans (Cert.Kernel5Ideal.WDown.final3 m c), h2, h3⟩
  · refine (θ_run _ _ _).mono (fun r h c => ?_) (Cert.Reference5Ideal.Value.run (F := Ideal) m' g')
    obtain ⟨h0, h1, h2, h3⟩ := h c
    refine ⟨h0.trans ?_, h1.trans ?_, h2, h3⟩
    · refine (val_main_v6_eq _ _).trans ?_
      funext i
      idx_vars i
      have hi : 1024 * i0.val + i2.val < 1024 := by have := i0.isLt; have := i2.isLt; omega
      refine (ref_at _ _ i0 i1 i2 hi).trans ?_
      rw [(hag c).1, (hag c).2]
      exact (res_eq m c i1 ⟨_, hi⟩).symm
    · refine (val_main_v8_eq _ _).trans ?_
      funext i
      idx_vars i
      have hi : 1024 * i0.val + i2.val < 1024 := by have := i0.isLt; have := i2.isLt; omega
      refine (ref16_at _ _ i0 i1 i2 hi).trans ?_
      rw [(hag c).1, (hag c).2]
      exact (res_eq m c i1 ⟨_, hi⟩).symm

end Cert.WDownClaim

end
-- ==== Proof.WConv.lean ====
/-
  The gradient of `w_conv_out`: what the blocked product leaves in its result arrays, read at an index, is the whole
  product of the two operands over the tokens, whose columns the result holds as four pieces. The grid walks the tokens
  in 4 blocks; the first point stores its product piece by piece, each later point adds its own, and the last one also
  stores the sum in the narrow format.
-/
module

public import proofs.«01_k».proof.Proof.Blocks
public import Idealize.ShloMosaic.Lib.Pipeline.ValueKit.Tiles
public import proofs.«01_k».proof.Proof.Gen.Kernel6Ideal.Value

@[expose] public section

set_option maxRecDepth 16384

noncomputable section

namespace Cert.Kernel6Ideal.WConv

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- The column of the second operand that column `q` of piece `s` is. -/
def col (s : Fin 4) (q : Fin 256) : Fin 1024 := ⟨256 * s.val + q.val, by omega⟩

/-- A block's product at an index. -/
def dot (x0 : Vec Ideal S2048x512 .bf16) (x1 : Vec Ideal S2048x1024 .bf16) (s : Fin 4) (p : Fin 512) (q : Fin 256) : EReal :=
  ∑ k : Fin 2048, (x0 (ix2 k p) : EReal) * x1 (ix2 k (col s q))

section
variable (x0 : Vec Ideal S2048x512 .bf16) (x1 : Vec Ideal S2048x1024 .bf16) (w : Vec Ideal S1x512x256 .f32) (p : Fin 512) (q : Fin 256)

theorem first0 : k0_pay6 (F := Ideal) x0 x1 (ix3 0 p q) = dot x0 x1 0 p q := by
  unfold dot col
  pointwise [k0_pay6, k0_pay2, k0_pay1]
theorem later0 : k0_pay10 (F := Ideal) x0 x1 w (ix3 0 p q) = w (ix3 0 p q) + dot x0 x1 0 p q := by
  unfold dot col
  pointwise [k0_pay10, k0_pay2, k0_pay1]
theorem first1 : k0_pay7 (F := Ideal) x0 x1 (ix3 0 p q) = dot x0 x1 1 p q := by
  unfold dot col
  pointwise [k0_pay7, k0_pay3, k0_pay1]
theorem later1 : k0_pay11 (F := Ideal) x0 x1 w (ix3 0 p q) = w (ix3 0 p q) + dot x0 x1 1 p q := by
  unfold dot col
  pointwise [k0_pay11, k0_pay3, k0_pay1]
theorem first2 : k0_pay8 (F := Ideal) x0 x1 (ix3 0 p q) = dot x0 x1 2 p q := by
  unfold dot col
  pointwise [k0_pay8, k0_pay4, k0_pay1]
theorem later2 : k0_pay12 (F := Ideal) x0 x1 w (ix3 0 p q) = w (ix3 0 p q) + dot x0 x1 2 p q := by
  unfold dot col
  pointwise [k0_pay12, k0_pay4, k0_pay1]
theorem first3 : k0_pay9 (F := Ideal) x0 x1 (ix3 0 p q) = dot x0 x1 3 p q := by
  unfold dot col
  pointwise [k0_pay9, k0_pay5, k0_pay1]
theorem later3 : k0_pay13 (F := Ideal) x0 x1 w (ix3 0 p q) = w (ix3 0 p q) + dot x0 x1 3 p q := by
  unfold dot col
  pointwise [k0_pay13, k0_pay5, k0_pay1]

theorem narrow (xo : Vec Ideal S4x512x256 .f32) (i : S4x512x256.Idx) : k0_pay14 (F := Ideal) xo i = xo i := by
  obtain ⟨a, b, c, rfl⟩ : ∃ a b c, i = ix3 a b c := ⟨i 0, i 1, i 2, eq_ix3 i⟩
  pointwise [k0_pay14]
end

/-- The four pieces of the block. -/
abbrev R0 : Rect S4x512x256 := Rect.unit (s := S4x512x256) ![0, 0, 0] S1x512x256.size inb_S4x512x256_S1x512x256_0_0_0
abbrev R1 : Rect S4x512x256 := Rect.unit (s := S4x512x256) ![1, 0, 0] S1x512x256.size inb_S4x512x256_S1x512x256_1_0_0
abbrev R2 : Rect S4x512x256 := Rect.unit (s := S4x512x256) ![2, 0, 0] S1x512x256.size inb_S4x512x256_S1x512x256_2_0_0
abbrev R3 : Rect S4x512x256 := Rect.unit (s := S4x512x256) ![3, 0, 0] S1x512x256.size inb_S4x512x256_S1x512x256_3_0_0

def four (w0 w1 w2 w3 : Vec Ideal S1x512x256 .f32) : List (View.Piece (Elt Ideal) S4x512x256 .f32) :=
  [⟨R3, w3⟩, ⟨R2, w2⟩, ⟨R1, w1⟩, ⟨R0, w0⟩]

theorem four_cover (w0 w1 w2 w3 : Vec Ideal S1x512x256 .f32) (y : S4x512x256.Idx) : ∃ pc ∈ four w0 w1 w2 w3, y ∈ pc.1.set :=
  View.cover_of_tiled [⟨R3, w3⟩, ⟨R2, w2⟩, ⟨R1, w1⟩, ⟨R0, w0⟩] S1x512x256.size rfl y

/-- The four pieces read back, each in its place. -/
theorem four_at (w0 w1 w2 w3 : Vec Ideal S1x512x256 .f32) (s : Fin 4) (p : Fin 512) (q : Fin 256) :
    View.canon (four w0 w1 w2 w3) (ix3 s p q) = (![w0, w1, w2, w3] s) (ix3 0 p q) := by
  have hc := four_cover w0 w1 w2 w3 (ix3 s p q)
  unfold four at hc ⊢
  have hs : (ix3 s p q 0 : Fin 4).val = s.val := rfl
  have hp : (ix3 s p q 1 : Fin 512).val = p.val := rfl
  have hq : (ix3 s p q 2 : Fin 256).val = q.val := rfl
  canon_tiles z hz using hc
  all_goals
    obtain rfl : z = ix3 0 p q := by
      funext y; apply Fin.ext
      match y with
      | ⟨0, _⟩ => change (z 0).val = 0; omega
      | ⟨1, _⟩ => change (z 1).val = p.val; omega
      | ⟨2, _⟩ => change (z 2).val = q.val; omega
  case piece0 => obtain rfl : s = 3 := Fin.ext (by show s.val = 3; omega)
                 rfl
  case piece1 => obtain rfl : s = 2 := Fin.ext (by show s.val = 2; omega)
                 rfl
  case piece2 => obtain rfl : s = 1 := Fin.ext (by show s.val = 1; omega)
                 rfl
  case piece3 => obtain rfl : s = 0 := Fin.ext (by show s.val = 0; omega)
                 rfl

theorem ld0 (xo : Vec Ideal S4x512x256 .f32) (p : Fin 512) (q : Fin 256) : View.ld xo R0 (ix3 0 p q) = xo (ix3 0 p q) := by
  refine congrArg xo (funext fun a => Fin.ext ?_)
  match a with
  | ⟨0, _⟩ => rfl
  | ⟨1, _⟩ => show 0 + 1 * p.val = p.val; omega
  | ⟨2, _⟩ => show 0 + 1 * q.val = q.val; omega
theorem ld1 (xo : Vec Ideal S4x512x256 .f32) (p : Fin 512) (q : Fin 256) : View.ld xo R1 (ix3 0 p q) = xo (ix3 1 p q) := by
  refine congrArg xo (funext fun a => Fin.ext ?_)
  match a with
  | ⟨0, _⟩ => rfl
  | ⟨1, _⟩ => show 0 + 1 * p.val = p.val; omega
  | ⟨2, _⟩ => show 0 + 1 * q.val = q.val; omega
theorem ld2 (xo : Vec Ideal S4x512x256 .f32) (p : Fin 512) (q : Fin 256) : View.ld xo R2 (ix3 0 p q) = xo (ix3 2 p q) := by
  refine congrArg xo (funext fun a => Fin.ext ?_)
  match a with
  | ⟨0, _⟩ => rfl
  | ⟨1, _⟩ => show 0 + 1 * p.val = p.val; omega
  | ⟨2, _⟩ => show 0 + 1 * q.val = q.val; omega
theorem ld3 (xo : Vec Ideal S4x512x256 .f32) (p : Fin 512) (q : Fin 256) : View.ld xo R3 (ix3 0 p q) = xo (ix3 3 p q) := by
  refine congrArg xo (funext fun a => Fin.ext ?_)
  match a with
  | ⟨0, _⟩ => rfl
  | ⟨1, _⟩ => show 0 + 1 * p.val = p.val; omega
  | ⟨2, _⟩ => show 0 + 1 * q.val = q.val; omega

/-- A block's product stored, and added. -/
theorem four_first (x0 : Vec Ideal S2048x512 .bf16) (x1 : Vec Ideal S2048x1024 .bf16) (s : Fin 4) (p : Fin 512) (q : Fin 256) :
    View.canon (four (k0_pay6 x0 x1) (k0_pay7 x0 x1) (k0_pay8 x0 x1) (k0_pay9 x0 x1)) (ix3 s p q) = dot x0 x1 s p q := by
  rw [four_at]
  match s with
  | 0 => exact first0 x0 x1 p q
  | 1 => exact first1 x0 x1 p q
  | 2 => exact first2 x0 x1 p q
  | 3 => exact first3 x0 x1 p q
theorem four_later (x0 : Vec Ideal S2048x512 .bf16) (x1 : Vec Ideal S2048x1024 .bf16) (xo : Vec Ideal S4x512x256 .f32) (s : Fin 4) (p : Fin 512) (q : Fin 256) :
    View.canon (four (k0_pay10 x0 x1 (View.ld xo R0)) (k0_pay11 x0 x1 (View.ld xo R1)) (k0_pay12 x0 x1 (View.ld xo R2)) (k0_pay13 x0 x1 (View.ld xo R3))) (ix3 s p q)
      = xo (ix3 s p q) + dot x0 x1 s p q := by
  rw [four_at]
  match s with
  | 0 => exact (later0 x0 x1 _ p q).trans (congrArg (· + dot x0 x1 0 p q) (ld0 xo p q))
  | 1 => exact (later1 x0 x1 _ p q).trans (congrArg (· + dot x0 x1 1 p q) (ld1 xo p q))
  | 2 => exact (later2 x0 x1 _ p q).trans (congrArg (· + dot x0 x1 2 p q) (ld2 xo p q))
  | 3 => exact (later3 x0 x1 _ p q).trans (congrArg (· + dot x0 x1 3 p q) (ld3 xo p q))

section
variable (c : Dev nD) (i : grid0.Coords) (a2 : Memref sig .tc .vmem S2048x512 .bf16) (h2 : a2.IsWhole) (a3 : Memref sig .tc .vmem S2048x1024 .bf16) (h3 : a3.IsWhole)
  (a4 : Memref sig .tc .vmem S4x512x256 .f32) (h4 : a4.IsWhole) (a5 : Memref sig .tc .vmem S4x512x256 .bf16) (h5 : a5.IsWhole)
  (x0 : Vec Ideal S2048x512 .bf16) (x1 : Vec Ideal S2048x1024 .bf16) (xo : Vec Ideal S4x512x256 .f32) (s : Fin 4) (p : Fin 512) (q : Fin 256)

/-- The first point leaves its block's product. -/
theorem out_A (hc0 hc1 hc2) : out0_A_2 (F := Ideal) c i a2 h2 a3 h3 a4 h4 a5 h5 hc0 hc1 hc2 x0 x1 (ix3 s p q) = dot x0 x1 s p q := by
  unfold out0_A_2
  rw [View.read_writes_eq_canon _ _ _ (cover0_A_2 c i a2 h2 a3 h3 a4 h4 a5 h5 hc0 hc1 hc2 x0 x1)]
  unfold kernelRun0_A
  dsimp only
  sl_unfold_words
  simp only [View.readAt_eq_ld, h2.read_unread, h3.read_unread, View.ld_unit_zero (S := S2048x512) z2, View.ld_unit_zero (S := S2048x1024) z2]
  exact four_first x0 x1 s p q

/-- A later point adds its block's product to what the buffer holds. -/
theorem out_B (hc0 hc1 hc2) : out0_B_2 (F := Ideal) c i a2 h2 a3 h3 a4 h4 a5 h5 hc0 hc1 hc2 x0 x1 xo (ix3 s p q) = xo (ix3 s p q) + dot x0 x1 s p q := by
  unfold out0_B_2
  rw [View.read_writes_eq_canon _ _ _ (cover0_B_2 c i a2 h2 a3 h3 a4 h4 a5 h5 hc0 hc1 hc2 x0 x1 xo)]
  unfold kernelRun0_B
  dsimp only
  sl_unfold_words
  simp only [View.readAt_eq_ld, h2.read_unread, h3.read_unread, h4.read_unread, View.ld_unit_zero (S := S2048x512) z2, View.ld_unit_zero (S := S2048x1024) z2]
  exact four_later x0 x1 xo s p q

/-- The last point does the same, … -/
theorem out_C (hc0 hc1 hc2) : out0_C_2 (F := Ideal) c i a2 h2 a3 h3 a4 h4 a5 h5 hc0 hc1 hc2 x0 x1 xo (ix3 s p q) = xo (ix3 s p q) + dot x0 x1 s p q := by
  unfold out0_C_2
  rw [View.read_writes_eq_canon _ _ _ (cover0_C_2 c i a2 h2 a3 h3 a4 h4 a5 h5 hc0 hc1 hc2 x0 x1 xo)]
  unfold kernelRun0_C
  dsimp only
  sl_unfold_words
  simp only [View.readAt_eq_ld, h2.read_unread, h3.read_unread, h4.read_unread, View.ld_unit_zero (S := S2048x512) z2, View.ld_unit_zero (S := S2048x1024) z2]
  exact four_later x0 x1 xo s p q

/-- … and stores the sum in the narrow format. -/
theorem out_C16 (hc0 hc1 hc2) : out0_C_3 (F := Ideal) c i a2 h2 a3 h3 a4 h4 a5 h5 hc0 hc1 hc2 x0 x1 xo (ix3 s p q) = xo (ix3 s p q) + dot x0 x1 s p q := by
  unfold out0_C_3
  rw [View.read_writes_eq_canon _ _ _ (cover0_C_3 c i a2 h2 a3 h3 a4 h4 a5 h5 hc0 hc1 hc2 x0 x1 xo)]
  unfold kernelRun0_C
  dsimp only
  sl_unfold_words
  rw [View.canon_unit_zero z3]
  simp only [View.readAt_eq_ld, h2.read_unread, h3.read_unread, h4.read_unread, View.ld_unit_zero (S := S2048x512) z2, View.ld_unit_zero (S := S2048x1024) z2]
  rw [narrow]
  refine (congrFun (View.readCov_eq_canon_ld a4.view (four (k0_pay10 x0 x1 (View.ld xo R0)) (k0_pay11 x0 x1 (View.ld xo R1)) (k0_pay12 x0 x1 (View.ld xo R2)) (k0_pay13 x0 x1 (View.ld xo R3)))
    (Rect.unit (s := S4x512x256) ![0, 0, 0] S4x512x256.size inb_S4x512x256_S4x512x256_0_0_0) (four_cover _ _ _ _)) (ix3 s p q)).trans ?_
  refine (congrFun (View.ld_unit_zero (S := S4x512x256) z3 _ _) _).trans ?_
  exact four_later x0 x1 xo s p q
end

/-- The two operands as tables of extended reals. -/
def A (c : Dev nD) (r : ℕ) (p : Fin 512) : EReal := if h : r < 8192 then m ((c : Thread nD τ).loc main_arg0) (ix2 ⟨r, h⟩ p) else 0
def B (c : Dev nD) (r : ℕ) (q : Fin 1024) : EReal := if h : r < 8192 then m ((c : Thread nD τ).loc main_arg1) (ix2 ⟨r, h⟩ q) else 0

theorem idx0 (t : Fin cfg0.N) : win0_0.index t 0 = t.val % 4 ∧ win0_0.index t 1 = 0 := by
  revert t; decide +kernel
theorem idx1 (t : Fin cfg0.N) : win0_1.index t 0 = t.val % 4 ∧ win0_1.index t 1 = 0 := by
  revert t; decide +kernel

theorem iblk0 (c : Dev nD) (t : Fin cfg0.N) (k : Fin 2048) (p : Fin 512) :
    (iblk m c 0 t : Vec Ideal S2048x512 .bf16) (ix2 k p) = A m c (2048 * (t.val % 4) + k.val) p := by
  have hlt : 2048 * (t.val % 4) + k.val < 8192 := by have := k.isLt; omega
  rw [A, dif_pos hlt]
  unfold iblk
  rw [View.read_apply]
  show V m c main_arg0 _ = m (c.tc.loc main_arg0) _
  unfold V
  congr 1
  funext a
  apply Fin.ext
  match a with
  | ⟨0, _⟩ => show win0_0.index t 0 * 2048 + 1 * k.val = 2048 * (t.val % 4) + k.val; rw [(idx0 t).1]; omega
  | ⟨1, _⟩ => show win0_0.index t 1 * 512 + 1 * p.val = p.val; rw [(idx0 t).2]; omega

theorem iblk1 (c : Dev nD) (t : Fin cfg0.N) (k : Fin 2048) (p : Fin 1024) :
    (iblk m c 1 t : Vec Ideal S2048x1024 .bf16) (ix2 k p) = B m c (2048 * (t.val % 4) + k.val) p := by
  have hlt : 2048 * (t.val % 4) + k.val < 8192 := by have := k.isLt; omega
  rw [B, dif_pos hlt]
  unfold iblk
  rw [View.read_apply]
  show V m c main_arg1 _ = m (c.tc.loc main_arg1) _
  unfold V
  congr 1
  funext a
  apply Fin.ext
  match a with
  | ⟨0, _⟩ => show win0_1.index t 0 * 2048 + 1 * k.val = 2048 * (t.val % 4) + k.val; rw [(idx1 t).1]; omega
  | ⟨1, _⟩ => show win0_1.index t 1 * 1024 + 1 * p.val = p.val; rw [(idx1 t).2]; omega

theorem dot_at (c : Dev nD) (t : Fin cfg0.N) (s : Fin 4) (p : Fin 512) (q : Fin 256) : dot (iblk m c 0 t) (iblk m c 1 t) s p q
    = ∑ k : Fin 2048, A m c (2048 * (t.val % 4) + k.val) p * B m c (2048 * (t.val % 4) + k.val) (col s q) := by
  unfold dot
  simp only [iblk0, iblk1]

/-- The first point. -/
theorem first_at (c : Dev nD) (t : Fin cfg0.N) (h0 : t.val % 4 = 0) (s : Fin 4) (p : Fin 512) (q : Fin 256) :
    (outsAt0 m c t.val t.isLt).1 (ix3 s p q)
      = ∑ k : Fin 2048, A m c (2048 * (t.val % 4) + k.val) p * B m c (2048 * (t.val % 4) + k.val) (col s q) := by
  have hN : cfg0.N = 4 := N_0
  have := t.isLt
  rw [outsAt0_A m c t h0 (by omega) (by omega)]
  dsimp only
  rw [out_A, dot_at]

/-- A later point. -/
theorem later_at (c : Dev nD) (n : ℕ) (h : n + 1 < cfg0.N) (h0 : (n + 1) % 4 ≠ 0) (s : Fin 4) (p : Fin 512) (q : Fin 256) :
    (outsAt0 m c (n + 1) h).1 (ix3 s p q) = (outsAt0 m c n (Nat.lt_of_succ_lt h)).1 (ix3 s p q)
      + ∑ k : Fin 2048, A m c (2048 * ((n + 1) % 4) + k.val) p * B m c (2048 * ((n + 1) % 4) + k.val) (col s q) := by
  have key : (outsAt0 m c (n + 1) h).1 (ix3 s p q) = (outsAt0 m c n (Nat.lt_of_succ_lt h)).1 (ix3 s p q) + dot (iblk m c 0 ⟨n + 1, h⟩) (iblk m c 1 ⟨n + 1, h⟩) s p q := by
    by_cases h2 : (n + 1) % 4 = 3
    · rw [show outsAt0 m c (n + 1) h = _ from outsAt0_C m c ⟨n + 1, h⟩ h0 (by dsimp only; omega) h2]
      dsimp only
      rw [out_C]; rfl
    · rw [show outsAt0 m c (n + 1) h = _ from outsAt0_B m c ⟨n + 1, h⟩ h0 (by dsimp only; omega) h2]
      dsimp only
      rw [out_B]; rfl
  rw [key, dot_at]

/-- After point `n` the output's buffer holds the sum of the products up to `n`. -/
theorem outs_at (c : Dev nD) (s : Fin 4) (p : Fin 512) (q : Fin 256) : ∀ (n : ℕ) (h : n < cfg0.N),
    (outsAt0 m c n h).1 (ix3 s p q)
      = ∑ l ∈ Finset.range (n % 4 + 1), ∑ k : Fin 2048, A m c (2048 * l + k.val) p * B m c (2048 * l + k.val) (col s q)
  | 0, h => by
    rw [first_at m c ⟨0, h⟩ (Nat.zero_mod _) s p q]
    simp
  | n + 1, h => by
    by_cases h0 : (n + 1) % 4 = 0
    · rw [first_at m c ⟨n + 1, h⟩ h0 s p q]
      dsimp only
      rw [h0, Finset.sum_range_one]
    · have e1 : (n + 1) % 4 = n % 4 + 1 := by omega
      rw [later_at m c n h h0, outs_at c s p q n, e1, Finset.sum_range_succ _ (n % 4 + 1)]

/-- The whole product. -/
def prod (c : Dev nD) (s : Fin 4) (p : Fin 512) (q : Fin 256) : EReal := ∑ r : Fin 8192, A m c r.val p * B m c r.val (col s q)

theorem last_at (c : Dev nD) (t : Fin cfg0.N) (h3 : t.val % 4 = 3) (s : Fin 4) (p : Fin 512) (q : Fin 256) :
    (outsAt0 m c t.val t.isLt).1 (ix3 s p q) = prod m c s p q := by
  rw [outs_at, h3]
  exact Blocks.sum_blocks_fin (k := 2048) (n := 4) (N := 8192) (by norm_num) fun r => A m c r p * B m c r (col s q)

theorem last16_at (c : Dev nD) (t : Fin cfg0.N) (h3 : t.val % 4 = 3) (s : Fin 4) (p : Fin 512) (q : Fin 256) :
    (outsAt0 m c t.val t.isLt).2 (ix3 s p q) = prod m c s p q := by
  have e1 := last_at m c t h3 s p q
  rw [outsAt0_C m c t (by omega) (by omega) h3] at e1 ⊢
  dsimp only at e1 ⊢
  rw [out_C] at e1
  rw [out_C16]
  exact e1

/-- The result array. -/
def res (c : Dev nD) : (⟨3, ![4, 512, 256]⟩ : Shape).Idx → EReal := fun i => prod m c (i 0) (i 1) (i 2)

theorem idx2 (t : Fin cfg0.N) : win0_2.index t 0 = 0 ∧ win0_2.index t 1 = 0 ∧ win0_2.index t 2 = 0 := by
  revert t; decide +kernel

theorem final2 (c : Dev nD) : (dats m 0 c).arrAt 2 cfg0.N = res m c :=
  (dats m 0 c).arrAt_eq_of_cover 2 (res m c) (fun t hf => by
    rw [Value.flushed2]
    funext y
    idx_vars y
    refine (last_at m c t ((flush0_2 t).mp hf) y0 y1 y2).trans ?_
    rw [View.read_apply]
    unfold res
    congr 1
    · apply Fin.ext
      show y0.val = win0_2.index t 0 * 4 + 1 * y0.val; rw [(idx2 t).1]; omega
    · apply Fin.ext
      show y1.val = win0_2.index t 1 * 512 + 1 * y1.val; rw [(idx2 t).2.1]; omega
    · apply Fin.ext
      show y2.val = win0_2.index t 2 * 256 + 1 * y2.val; rw [(idx2 t).2.2]; omega) fun i => by
    have h0 : (i 0 : Nat) < 4 := (i 0).isLt
    have h1 : (i 1 : Nat) < 512 := (i 1).isLt
    have h2 : (i 2 : Nat) < 256 := (i 2).isLt
    have hN : cfg0.N = 4 := N_0
    obtain ⟨t, ht⟩ : ∃ t : Fin cfg0.N, t.val = 3 := ⟨⟨3, by omega⟩, rfl⟩
    refine ⟨t, (flush0_2 t).mpr (by omega), ?_⟩
    show i ∈ ((View.whole main_v0_0).slice (win0_2.rect t)).set
    rw [View.set_slice_whole, Rect.mem_set_unit]
    intro a
    match a with
    | ⟨0, _⟩ => show win0_2.index t 0 * 4 ≤ (i 0 : Nat) ∧ (i 0 : Nat) < win0_2.index t 0 * 4 + 4; rw [(idx2 t).1]; omega
    | ⟨1, _⟩ => show win0_2.index t 1 * 512 ≤ (i 1 : Nat) ∧ (i 1 : Nat) < win0_2.index t 1 * 512 + 512; rw [(idx2 t).2.1]; omega
    | ⟨2, _⟩ => show win0_2.index t 2 * 256 ≤ (i 2 : Nat) ∧ (i 2 : Nat) < win0_2.index t 2 * 256 + 256; rw [(idx2 t).2.2]; omega

theorem idx3 (t : Fin cfg0.N) : win0_3.index t 0 = 0 ∧ win0_3.index t 1 = 0 ∧ win0_3.index t 2 = 0 := by
  revert t; decide +kernel

theorem final3 (c : Dev nD) : (dats m 0 c).arrAt 3 cfg0.N = res m c :=
  (dats m 0 c).arrAt_eq_of_cover 3 (res m c) (fun t hf => by
    rw [Value.flushed3]
    funext y
    idx_vars y
    refine (last16_at m c t ((flush0_3 t).mp hf) y0 y1 y2).trans ?_
    rw [View.read_apply]
    unfold res
    congr 1
    · apply Fin.ext
      show y0.val = win0_3.index t 0 * 4 + 1 * y0.val; rw [(idx3 t).1]; omega
    · apply Fin.ext
      show y1.val = win0_3.index t 1 * 512 + 1 * y1.val; rw [(idx3 t).2.1]; omega
    · apply Fin.ext
      show y2.val = win0_3.index t 2 * 256 + 1 * y2.val; rw [(idx3 t).2.2]; omega) fun i => by
    have h0 : (i 0 : Nat) < 4 := (i 0).isLt
    have h1 : (i 1 : Nat) < 512 := (i 1).isLt
    have h2 : (i 2 : Nat) < 256 := (i 2).isLt
    have hN : cfg0.N = 4 := N_0
    obtain ⟨t, ht⟩ : ∃ t : Fin cfg0.N, t.val = 3 := ⟨⟨3, by omega⟩, rfl⟩
    refine ⟨t, (flush0_3 t).mpr (by omega), ?_⟩
    show i ∈ ((View.whole main_v0_1).slice (win0_3.rect t)).set
    rw [View.set_slice_whole, Rect.mem_set_unit]
    intro a
    match a with
    | ⟨0, _⟩ => show win0_3.index t 0 * 4 ≤ (i 0 : Nat) ∧ (i 0 : Nat) < win0_3.index t 0 * 4 + 4; rw [(idx3 t).1]; omega
    | ⟨1, _⟩ => show win0_3.index t 1 * 512 ≤ (i 1 : Nat) ∧ (i 1 : Nat) < win0_3.index t 1 * 512 + 512; rw [(idx3 t).2.1]; omega
    | ⟨2, _⟩ => show win0_3.index t 2 * 256 ≤ (i 2 : Nat) ∧ (i 2 : Nat) < win0_3.index t 2 * 256 + 256; rw [(idx3 t).2.2]; omega

end Cert.Kernel6Ideal.WConv

end
-- ==== Proof.WConvClaim.lean ====
/-
  The gradient of `w_conv_out`: the claim that the kernel's blocked product and the reference's gradient are the same sums.
-/
module

public import proofs.«01_k».proof.Defs
public import proofs.«01_k».proof.Proof.WConv
public import proofs.«01_k».proof.Proof.Gen.Reference6Ideal.Read

@[expose] public section

set_option maxRecDepth 16384

noncomputable section

namespace Cert.WConvClaim

open Idealize.ShloMosaic Idealize.ShloMosaic.TcCoe Idealize.SL.Sem
open Cert.Reference6Ideal.Read

/-- The product over the token axis, at an index. -/
def tn (a : (⟨2, ![8192, 512]⟩ : Shape).Idx → EReal) (b : (⟨2, ![8192, 1024]⟩ : Shape).Idx → EReal) (p : Fin 512) (q : Fin 1024) : EReal := ∑ r : Fin 8192, a (ix2 r p) * b (ix2 r q)

variable (a : (⟨Cert.Reference6Ideal.S8192x512, .bf16⟩ : BufTy).Contents (Elt Ideal)) (b : (⟨Cert.Reference6Ideal.S8192x1024, .bf16⟩ : BufTy).Contents (Elt Ideal))

theorem ref_at (s : Fin 4) (p : Fin 512) (q : Fin 256) : val_main_v7 (F := Ideal) a b (ix3 s p q) = tn a b p (Cert.Kernel6Ideal.WConv.col s q) := by
  unfold tn
  pointwise [val_main_v7, val_main_v6, val_main_v5, val_main_v4, val_main_v3, val_main_v1]
  exact Finset.sum_congr rfl fun k _ => (mul_comm _ _).trans (congrArg (fun z => a (ix2 k p) * b (ix2 k z)) (Fin.ext (by show s.val * 256 + q.val = 256 * s.val + q.val; omega)))

theorem ref16_at (s : Fin 4) (p : Fin 512) (q : Fin 256) : val_main_v8 (F := Ideal) a b (ix3 s p q) = tn a b p (Cert.Kernel6Ideal.WConv.col s q) :=
  (show val_main_v8 (F := Ideal) a b (ix3 s p q) = val_main_v7 (F := Ideal) a b (ix3 s p q) from rfl).trans (ref_at a b s p q)

theorem res_eq (m : (ℓ : Loc Cert.Kernel6Ideal.nD Cert.Kernel6Ideal.τ Cert.Kernel6Ideal.sig) → Buf (Elt Ideal) ℓ) (c : Dev Cert.Kernel6Ideal.nD)
    (s : Fin 4) (p : Fin 512) (q : Fin 256) :
    Cert.Kernel6Ideal.WConv.prod m c s p q = tn (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)) p (Cert.Kernel6Ideal.WConv.col s q) := by
  unfold Cert.Kernel6Ideal.WConv.prod tn
  refine Finset.sum_congr rfl fun r _ => ?_
  rw [Cert.Kernel6Ideal.WConv.A, Cert.Kernel6Ideal.WConv.B, dif_pos r.isLt, dif_pos r.isLt]

theorem holds : Cert.algebraic_Kernel6Ideal_Reference6Ideal (hKernel6Ideal := Cert.Kernel6Ideal.Gen.facts) (hReference6Ideal := Cert.Reference6Ideal.Gen.facts) := by
  intro m g m' g' _ hag
  refine ⟨fun c => Cert.Kernel6Ideal.WConv.res m c, fun c => Cert.Kernel6Ideal.WConv.res m c, ?_, ?_⟩
  · refine (θ_run _ _ _).mono (fun r h c => ?_) (Cert.Kernel6Ideal.Value.run_blocks m g)
    obtain ⟨h0, h1, h2, h3⟩ := h c
    exact ⟨h0.trans (Cert.Kernel6Ideal.WConv.final2 m c), h1.trans (Cert.Kernel6Ideal.WConv.final3 m c), h2, h3⟩
  · refine (θ_run _ _ _).mono (fun r h c => ?_) (Cert.Reference6Ideal.Value.run (F := Ideal) m' g')
    obtain ⟨h0, h1, h2, h3⟩ := h c
    refine ⟨h0.trans ?_, h1.trans ?_, h2, h3⟩
    · refine (val_main_v7_eq _ _).trans ?_
      funext i
      idx_vars i
      refine (ref_at _ _ i0 i1 i2).trans ?_
      rw [(hag c).1, (hag c).2]
      exact (res_eq m c i0 i1 i2).symm
    · refine (val_main_v8_eq _ _).trans ?_
      funext i
      idx_vars i
      refine (ref16_at _ _ i0 i1 i2).trans ?_
      rw [(hag c).1, (hag c).2]
      exact (res_eq m c i0 i1 i2).symm

end Cert.WConvClaim

end
-- ==== Proof.MmIn.lean ====
/-
  The projection `w_in` of the forward pass: what the row blocks of the product leave in the result array, read at an index.
-/
module

public import Idealize.ShloMosaic.Lib.Pointwise
public import Idealize.ShloMosaic.Lib.Pipeline.ValueKit.Tiles
public import proofs.«01_k».proof.Proof.Gen.Kernel7Ideal.Value

@[expose] public section

set_option maxRecDepth 16384

noncomputable section

namespace Cert.Kernel7Ideal.MmIn

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- A block's product at an index. -/
theorem out_at (x0 : Vec Ideal S512x1024 .bf16) (x1 : Vec Ideal S1x1024x4352 .bf16) (r : Fin 512) (q : Fin 4352) :
    out0_2 (F := Ideal) x0 x1 (ix2 r q) = ∑ k : Fin 1024, x0 (ix2 r k) * x1 (ix3 0 k q) := by
  unfold out0_2
  rw [View.canon_unit_zero z2]
  simp only [View.ld_unit_zero (S := S512x1024) z2, View.ld_unit_zero (S := S1x1024x4352) z3]
  pointwise [k0_pay1]

theorem idx0 (t : Fin cfg0.N) : win0_0.index t 0 = t.val ∧ win0_0.index t 1 = 0 := by
  revert t; decide +kernel
theorem idx1 (t : Fin cfg0.N) : win0_1.index t 0 = 0 ∧ win0_1.index t 1 = 0 ∧ win0_1.index t 2 = 0 := by
  revert t; decide +kernel
theorem idxo (t : Fin cfg0.N) : win0_2.index t 0 = t.val ∧ win0_2.index t 1 = 0 := by
  revert t; decide +kernel

/-- The row of the whole array that row `r` of point `t`'s block is. -/
def row (t : Fin cfg0.N) (r : Fin 512) : Fin 8192 :=
  ⟨512 * t.val + r.val, by have h : cfg0.N = 16 := N_0; have := t.isLt; have := r.isLt; omega⟩

theorem iblk0 (c : Dev nD) (t : Fin cfg0.N) (r : Fin 512) (k : Fin 1024) :
    (iblk m c 0 t : Vec Ideal S512x1024 .bf16) (ix2 r k) = m ((c : Thread nD τ).loc main_arg0) (ix2 (row t r) k) := by
  unfold iblk
  rw [View.read_apply]
  show V m c main_arg0 _ = m (c.tc.loc main_arg0) _
  rw [V_main_arg0 m c]
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

/-- The host puts the weight under a leading axis of extent one. -/
theorem V_w (c : Dev nD) : V m c main_v0 = broadcastInDim S1x1024x4352 ![1, 2] bcast_S1024x4352_S1x1024x4352_1_2 (m ((c : Thread nD τ).loc main_arg1)) := rfl

theorem iblk1 (c : Dev nD) (t : Fin cfg0.N) (k : Fin 1024) (q : Fin 4352) :
    (iblk m c 1 t : Vec Ideal S1x1024x4352 .bf16) (ix3 0 k q) = m ((c : Thread nD τ).loc main_arg1) (ix2 k q) := by
  unfold iblk
  rw [View.read_apply]
  show V m c main_v0 _ = m (c.tc.loc main_arg1) _
  rw [V_w m c]
  refine congrArg (m (c.tc.loc main_arg1)) (funext fun a => Fin.ext ?_)
  match a with
  | ⟨0, _⟩ => show win0_1.index t 1 * 1024 + 1 * k.val = k.val; rw [(idx1 t).2.1]; omega
  | ⟨1, _⟩ => show win0_1.index t 2 * 4352 + 1 * q.val = q.val; rw [(idx1 t).2.2]; omega

/-- The operands as tables of extended reals. -/
def X0 (c : Dev nD) : (⟨2, ![8192, 1024]⟩ : Shape).Idx → EReal := m ((c : Thread nD τ).loc main_arg0)
def X1 (c : Dev nD) : (⟨2, ![1024, 4352]⟩ : Shape).Idx → EReal := m ((c : Thread nD τ).loc main_arg1)

/-- The whole product. -/
def prod (c : Dev nD) (r : Fin 8192) (q : Fin 4352) : EReal :=
  ∑ k : Fin 1024, X0 m c (ix2 r k) * X1 m c (ix2 k q)

theorem blk_at (c : Dev nD) (t : Fin cfg0.N) (r : Fin 512) (q : Fin 4352) :
    out0_2 (F := Ideal) (iblk m c 0 t) (iblk m c 1 t) (ix2 r q) = prod m c (row t r) q := by
  rw [out_at]
  simp only [iblk0, iblk1]
  rfl

/-- The result array. -/
def res (c : Dev nD) : (⟨2, ![8192, 4352]⟩ : Shape).Idx → EReal := fun i => prod m c (i 0) (i 1)

theorem final (c : Dev nD) : (dats m 0 c).arrAt 2 cfg0.N = res m c :=
  (dats m 0 c).arrAt_eq_of_cover 2 (res m c) (fun t hf => by
    rw [Value.flushed2]
    funext y
    idx_vars y
    refine (blk_at m c t y0 y1).trans ?_
    rw [View.read_apply]
    unfold res
    congr 1
    · apply Fin.ext
      show 512 * t.val + y0.val = win0_2.index t 0 * 512 + 1 * y0.val; rw [(idxo t).1]; omega
    · apply Fin.ext
      show y1.val = win0_2.index t 1 * 4352 + 1 * y1.val; rw [(idxo t).2]; omega) fun i => by
    have h0 : (i 0 : Nat) < 8192 := (i 0).isLt
    have h1 : (i 1 : Nat) < 4352 := (i 1).isLt
    have hN : cfg0.N = 16 := N_0
    obtain ⟨t, ht⟩ : ∃ t : Fin cfg0.N, t.val = (i 0).val / 512 := ⟨⟨(i 0).val / 512, by omega⟩, rfl⟩
    refine ⟨t, flush0_2 t, ?_⟩
    show i ∈ ((View.whole main_v1).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512; rw [(idxo t).1]; omega
    | ⟨1, _⟩ => show win0_2.index t 1 * 4352 ≤ (i 1 : Nat) ∧ (i 1 : Nat) < win0_2.index t 1 * 4352 + 4352; rw [(idxo t).2]; omega

end Cert.Kernel7Ideal.MmIn

end
-- ==== Proof.MmInClaim.lean ====
/-
  The projection `w_in` of the forward pass: the claim that the kernel's row blocks and the reference's product are the same sums.
-/
module

public import proofs.«01_k».proof.Defs
public import proofs.«01_k».proof.Proof.MmIn
public import proofs.«01_k».proof.Proof.Gen.Reference7Ideal.Read

@[expose] public section

set_option maxRecDepth 16384

noncomputable section

namespace Cert.MmInClaim

open Idealize.ShloMosaic Idealize.ShloMosaic.TcCoe Idealize.SL.Sem
open Cert.Reference7Ideal.Read

/-- The reference's product at an index. -/
theorem ref_at (a : (⟨Cert.Reference7Ideal.S8192x1024, .bf16⟩ : BufTy).Contents (Elt Ideal)) (b : (⟨Cert.Reference7Ideal.S1024x4352, .bf16⟩ : BufTy).Contents (Elt Ideal)) (r : Fin 8192) (q : Fin 4352) :
    val_main_v3 (F := Ideal) a b (ix2 r q) = ∑ k : Fin 1024, a (ix2 r k) * b (ix2 k q) := by
  pointwise [val_main_v3, val_main_v2, val_main_v1, val_main_v0]

theorem holds : Cert.algebraic_Kernel7Ideal_Reference7Ideal (hKernel7Ideal := Cert.Kernel7Ideal.Gen.facts) (hReference7Ideal := Cert.Reference7Ideal.Gen.facts) := by
  intro m g m' g' _ hag
  refine ⟨fun c => Cert.Kernel7Ideal.MmIn.res m c, ?_, ?_⟩
  · refine (θ_run _ _ _).mono (fun r h c => ?_) (Cert.Kernel7Ideal.Value.run_blocks m g)
    obtain ⟨h0, h1, h2⟩ := h c
    exact ⟨h0.trans (Cert.Kernel7Ideal.MmIn.final m c), h1, h2⟩
  · refine (θ_run _ _ _).mono (fun r h c => ?_) (Cert.Reference7Ideal.Value.run (F := Ideal) m' g')
    obtain ⟨h0, h1, h2⟩ := h c
    refine ⟨h0.trans ?_, h1, h2⟩
    refine (val_main_v3_eq _ _).trans ?_
    funext i
    idx_vars i
    refine (ref_at _ _ i0 i1).trans ?_
    rw [(hag c).1, (hag c).2]
    rfl

end Cert.MmInClaim

end
-- ==== Proof.MmConv.lean ====
/-
  The projection `w_conv_out` of the forward pass: what the row blocks of the product leave in the result array, read at an index.
-/
module

public import Idealize.ShloMosaic.Lib.Pointwise
public import Idealize.ShloMosaic.Lib.Pipeline.ValueKit.Tiles
public import proofs.«01_k».proof.Proof.Gen.Kernel8Ideal.Value

@[expose] public section

set_option maxRecDepth 16384

noncomputable section

namespace Cert.Kernel8Ideal.MmConv

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

theorem ld1_0 (x1 : Vec Ideal S4x512x256 .bf16) (k : Fin 512) (q : Fin 256) : View.ld x1 r0_1 (ix3 0 k q) = x1 (ix3 0 k q) := by
  refine congrArg x1 (funext fun a => Fin.ext ?_)
  match a with
  | ⟨0, _⟩ => rfl
  | ⟨1, _⟩ => show 0 + 1 * k.val = k.val; omega
  | ⟨2, _⟩ => show 0 + 1 * q.val = q.val; omega

theorem pay_0 (x0 : Vec Ideal S512x512 .bf16) (v : Vec Ideal S1x512x256 .bf16) (r : Fin 512) (q : Fin 256) :
    k0_pay1 (F := Ideal) x0 v (ix2 r q) = ∑ k : Fin 512, x0 (ix2 r k) * v (ix3 0 k q) := by
  pointwise [k0_pay1]

theorem ld1_1 (x1 : Vec Ideal S4x512x256 .bf16) (k : Fin 512) (q : Fin 256) : View.ld x1 r0_3 (ix3 0 k q) = x1 (ix3 1 k q) := by
  refine congrArg x1 (funext fun a => Fin.ext ?_)
  match a with
  | ⟨0, _⟩ => rfl
  | ⟨1, _⟩ => show 0 + 1 * k.val = k.val; omega
  | ⟨2, _⟩ => show 0 + 1 * q.val = q.val; omega

theorem pay_1 (x0 : Vec Ideal S512x512 .bf16) (v : Vec Ideal S1x512x256 .bf16) (r : Fin 512) (q : Fin 256) :
    k0_pay2 (F := Ideal) x0 v (ix2 r q) = ∑ k : Fin 512, x0 (ix2 r k) * v (ix3 0 k q) := by
  pointwise [k0_pay2]

theorem ld1_2 (x1 : Vec Ideal S4x512x256 .bf16) (k : Fin 512) (q : Fin 256) : View.ld x1 r0_5 (ix3 0 k q) = x1 (ix3 2 k q) := by
  refine congrArg x1 (funext fun a => Fin.ext ?_)
  match a with
  | ⟨0, _⟩ => rfl
  | ⟨1, _⟩ => show 0 + 1 * k.val = k.val; omega
  | ⟨2, _⟩ => show 0 + 1 * q.val = q.val; omega

theorem pay_2 (x0 : Vec Ideal S512x512 .bf16) (v : Vec Ideal S1x512x256 .bf16) (r : Fin 512) (q : Fin 256) :
    k0_pay3 (F := Ideal) x0 v (ix2 r q) = ∑ k : Fin 512, x0 (ix2 r k) * v (ix3 0 k q) := by
  pointwise [k0_pay3]

theorem ld1_3 (x1 : Vec Ideal S4x512x256 .bf16) (k : Fin 512) (q : Fin 256) : View.ld x1 r0_7 (ix3 0 k q) = x1 (ix3 3 k q) := by
  refine congrArg x1 (funext fun a => Fin.ext ?_)
  match a with
  | ⟨0, _⟩ => rfl
  | ⟨1, _⟩ => show 0 + 1 * k.val = k.val; omega
  | ⟨2, _⟩ => show 0 + 1 * q.val = q.val; omega

theorem pay_3 (x0 : Vec Ideal S512x512 .bf16) (v : Vec Ideal S1x512x256 .bf16) (r : Fin 512) (q : Fin 256) :
    k0_pay4 (F := Ideal) x0 v (ix2 r q) = ∑ k : Fin 512, x0 (ix2 r k) * v (ix3 0 k q) := by
  pointwise [k0_pay4]

/-- Which piece a column lies in, and where in it. -/
def pc (q : Fin 1024) : Fin 4 := ⟨q.val / 256, by omega⟩
def po (q : Fin 1024) : Fin 256 := ⟨q.val % 256, by omega⟩

/-- A block's product at an index. -/
theorem out_at (x0 : Vec Ideal S512x512 .bf16) (x1 : Vec Ideal S4x512x256 .bf16) (r : Fin 512) (q : Fin 1024) :
    out0_2 (F := Ideal) x0 x1 (ix2 r q) = ∑ k : Fin 512, x0 (ix2 r k) * x1 (ix3 (pc q) k (po q)) := by
  unfold out0_2
  have hc := fun p0 p1 p2 p3 => cover0_2 (F := Ideal) p0 p1 p2 p3 (ix2 r q)
  have hr : (ix2 r q 0 : Fin 512).val = r.val := rfl
  have hq : (ix2 r q 1 : Fin 1024).val = q.val := rfl
  canon_tiles z hz using hc _ _ _ _
  case piece0 =>
    idx_vars z
    have e0 : z0 = r := Fin.ext (by omega)
    subst e0
    have e1 : pc q = 3 := Fin.ext (by show q.val / 256 = 3; omega)
    have e2 : po q = z1 := Fin.ext (by show q.val % 256 = z1.val; omega)
    rw [pay_3, e1, e2, View.ld_unit_zero (S := S512x512) z2]
    exact Finset.sum_congr rfl fun k _ => by rw [ld1_3]
  case piece1 =>
    idx_vars z
    have e0 : z0 = r := Fin.ext (by omega)
    subst e0
    have e1 : pc q = 2 := Fin.ext (by show q.val / 256 = 2; omega)
    have e2 : po q = z1 := Fin.ext (by show q.val % 256 = z1.val; omega)
    rw [pay_2, e1, e2, View.ld_unit_zero (S := S512x512) z2]
    exact Finset.sum_congr rfl fun k _ => by rw [ld1_2]
  case piece2 =>
    idx_vars z
    have e0 : z0 = r := Fin.ext (by omega)
    subst e0
    have e1 : pc q = 1 := Fin.ext (by show q.val / 256 = 1; omega)
    have e2 : po q = z1 := Fin.ext (by show q.val % 256 = z1.val; omega)
    rw [pay_1, e1, e2, View.ld_unit_zero (S := S512x512) z2]
    exact Finset.sum_congr rfl fun k _ => by rw [ld1_1]
  case piece3 =>
    idx_vars z
    have e0 : z0 = r := Fin.ext (by omega)
    subst e0
    have e1 : pc q = 0 := Fin.ext (by show q.val / 256 = 0; omega)
    have e2 : po q = z1 := Fin.ext (by show q.val % 256 = z1.val; omega)
    rw [pay_0, e1, e2, View.ld_unit_zero (S := S512x512) z2]
    exact Finset.sum_congr rfl fun k _ => by rw [ld1_0]

theorem idx0 (t : Fin cfg0.N) : win0_0.index t 0 = t.val ∧ win0_0.index t 1 = 0 := by
  revert t; decide +kernel
theorem idx1 (t : Fin cfg0.N) : win0_1.index t 0 = 0 ∧ win0_1.index t 1 = 0 ∧ win0_1.index t 2 = 0 := by
  revert t; decide +kernel
theorem idxo (t : Fin cfg0.N) : win0_2.index t 0 = t.val ∧ win0_2.index t 1 = 0 := by
  revert t; decide +kernel

/-- The row of the whole array that row `r` of point `t`'s block is. -/
def row (t : Fin cfg0.N) (r : Fin 512) : Fin 8192 :=
  ⟨512 * t.val + r.val, by have h : cfg0.N = 16 := N_0; have := t.isLt; have := r.isLt; omega⟩

theorem iblk0 (c : Dev nD) (t : Fin cfg0.N) (r : Fin 512) (k : Fin 512) :
    (iblk m c 0 t : Vec Ideal S512x512 .bf16) (ix2 r k) = m ((c : Thread nD τ).loc main_arg0) (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [(idx0 t).1]; omega
  | ⟨1, _⟩ => show win0_0.index t 1 * 512 + 1 * k.val = k.val; rw [(idx0 t).2]; omega

theorem iblk1 (c : Dev nD) (t : Fin cfg0.N) (s : Fin 4) (k : Fin 512) (q : Fin 256) :
    (iblk m c 1 t : Vec Ideal S4x512x256 .bf16) (ix3 s k q) = m ((c : Thread nD τ).loc main_arg1) (ix3 s k q) := by
  unfold iblk
  rw [View.read_apply]
  show V m c main_arg1 _ = m (c.tc.loc main_arg1) _
  unfold V
  congr 1
  funext a
  apply Fin.ext
  match a with
  | ⟨0, _⟩ => show win0_1.index t 0 * 4 + 1 * s.val = s.val; rw [(idx1 t).1]; omega
  | ⟨1, _⟩ => show win0_1.index t 1 * 512 + 1 * k.val = k.val; rw [(idx1 t).2.1]; omega
  | ⟨2, _⟩ => show win0_1.index t 2 * 256 + 1 * q.val = q.val; rw [(idx1 t).2.2]; omega

/-- The operands as tables of extended reals. -/
def X0 (c : Dev nD) : (⟨2, ![8192, 512]⟩ : Shape).Idx → EReal := m ((c : Thread nD τ).loc main_arg0)
def X1 (c : Dev nD) : (⟨3, ![4, 512, 256]⟩ : Shape).Idx → EReal := m ((c : Thread nD τ).loc main_arg1)

/-- The whole product. -/
def prod (c : Dev nD) (r : Fin 8192) (q : Fin 1024) : EReal :=
  ∑ k : Fin 512, X0 m c (ix2 r k) * X1 m c (ix3 (pc q) k (po q))

theorem blk_at (c : Dev nD) (t : Fin cfg0.N) (r : Fin 512) (q : Fin 1024) :
    out0_2 (F := Ideal) (iblk m c 0 t) (iblk m c 1 t) (ix2 r q) = prod m c (row t r) q := by
  rw [out_at]
  simp only [iblk0, iblk1]
  rfl

/-- The result array. -/
def res (c : Dev nD) : (⟨2, ![8192, 1024]⟩ : Shape).Idx → EReal := fun i => prod m c (i 0) (i 1)

theorem final (c : Dev nD) : (dats m 0 c).arrAt 2 cfg0.N = res m c :=
  (dats m 0 c).arrAt_eq_of_cover 2 (res m c) (fun t hf => by
    rw [Value.flushed2]
    funext y
    idx_vars y
    refine (blk_at m c t y0 y1).trans ?_
    rw [View.read_apply]
    unfold res
    congr 1
    · apply Fin.ext
      show 512 * t.val + y0.val = win0_2.index t 0 * 512 + 1 * y0.val; rw [(idxo t).1]; omega
    · apply Fin.ext
      show y1.val = win0_2.index t 1 * 1024 + 1 * y1.val; rw [(idxo t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512; rw [(idxo t).1]; omega
    | ⟨1, _⟩ => show win0_2.index t 1 * 1024 ≤ (i 1 : Nat) ∧ (i 1 : Nat) < win0_2.index t 1 * 1024 + 1024; rw [(idxo t).2]; omega

end Cert.Kernel8Ideal.MmConv

end
-- ==== Proof.MmConvClaim.lean ====
/-
  The projection `w_conv_out` of the forward pass: the claim that the kernel's row blocks and the reference's product are the same sums.
-/
module

public import proofs.«01_k».proof.Defs
public import proofs.«01_k».proof.Proof.MmConv
public import proofs.«01_k».proof.Proof.Gen.Reference8Ideal.Read

@[expose] public section

set_option maxRecDepth 16384

noncomputable section

namespace Cert.MmConvClaim

open Idealize.ShloMosaic Idealize.ShloMosaic.TcCoe Idealize.SL.Sem
open Cert.Reference8Ideal.Read

/-- The reference's product at an index. -/
theorem ref_at (a : (⟨Cert.Reference8Ideal.S8192x512, .bf16⟩ : BufTy).Contents (Elt Ideal)) (b : (⟨Cert.Reference8Ideal.S4x512x256, .bf16⟩ : BufTy).Contents (Elt Ideal)) (r : Fin 8192) (q : Fin 1024) :
    val_main_v4 (F := Ideal) a b (ix2 r q) = ∑ k : Fin 512, a (ix2 r k) * b (ix3 ⟨q.val / 256, by omega⟩ k ⟨q.val % 256, by omega⟩) := by
  pointwise [val_main_v4, val_main_v3, val_main_v2, val_main_v1, val_main_v0]

theorem holds : Cert.algebraic_Kernel8Ideal_Reference8Ideal (hKernel8Ideal := Cert.Kernel8Ideal.Gen.facts) (hReference8Ideal := Cert.Reference8Ideal.Gen.facts) := by
  intro m g m' g' _ hag
  refine ⟨fun c => Cert.Kernel8Ideal.MmConv.res m c, ?_, ?_⟩
  · refine (θ_run _ _ _).mono (fun r h c => ?_) (Cert.Kernel8Ideal.Value.run_blocks m g)
    obtain ⟨h0, h1, h2⟩ := h c
    exact ⟨h0.trans (Cert.Kernel8Ideal.MmConv.final m c), h1, h2⟩
  · refine (θ_run _ _ _).mono (fun r h c => ?_) (Cert.Reference8Ideal.Value.run (F := Ideal) m' g')
    obtain ⟨h0, h1, h2⟩ := h c
    refine ⟨h0.trans ?_, h1, h2⟩
    refine (val_main_v4_eq _ _).trans ?_
    funext i
    idx_vars i
    refine (ref_at _ _ i0 i1).trans ?_
    rw [(hag c).1, (hag c).2]
    rfl

end Cert.MmConvClaim

end
-- ==== Proof.Sig.lean ====
/-
  The kernels take the logistic function by a hyperbolic tangent, `tanh (x / 2) / 2 + 1 / 2`, and the reference as
  `1 / (1 + e⁻ˣ)`. Over the extended reals they are one function.
-/
module

public import Idealize.ShloMosaic.Lib.Pointwise

@[expose] public section

noncomputable section

namespace Cert.Sig

open Idealize.ShloMosaic

theorem half_bits : Ideal.ofBits .f32 0x3F000000#32 = ((1 / 2 : ℝ) : EReal) := by
  simp [Ideal.ofBits, Ideal.ieee]
  rw [← EReal.coe_mul]
  norm_num

theorem one_bits : Ideal.ofBits .f32 0x3F800000#32 = (1 : EReal) := by
  simp [Ideal.ofBits, Ideal.ieee]
  rw [← EReal.coe_mul]
  norm_num

/-- The kernels' form. -/
def hsig (x : EReal) : EReal := ((1 / 2 : ℝ) : EReal) * Ideal.tanh (((1 / 2 : ℝ) : EReal) * x) + ((1 / 2 : ℝ) : EReal)

theorem hsig_coe (r : ℝ) : hsig r = (((1 + Real.exp (-r))⁻¹ : ℝ) : EReal) := by
  unfold hsig
  rw [← EReal.coe_mul, Ideal.tanh_coe, ← EReal.coe_mul, ← EReal.coe_add]
  congr 1
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  have p1 := Real.exp_pos (1 / 2 * r)
  have p2 := Real.exp_pos (-(1 / 2 * r))
  rw [e1]
  generalize Real.exp (1 / 2 * r) = a at *
  generalize Real.exp (-(1 / 2 * r)) = b at *
  field_simp
  nlinarith [e2, mul_pos p1 p2]

theorem hsig_eq (x : EReal) : hsig x = Ideal.logistic x := by
  induction x with
  | bot =>
    rw [Ideal.logistic_bot, hsig, EReal.coe_mul_bot_of_pos (by norm_num), Ideal.tanh_bot, mul_neg, mul_one, ← EReal.coe_neg, ← EReal.coe_add]
    norm_num
  | top =>
    rw [Ideal.logistic_top, hsig, EReal.coe_mul_top_of_pos (by norm_num), Ideal.tanh_top, mul_one, ← EReal.coe_add]
    norm_num
  | coe r => rw [hsig_coe, Ideal.logistic_coe]

end Cert.Sig

end
-- ==== Proof.MmGateUp.lean ====
/-
  The gated projection of the forward pass, `w_gate_up` and the product of the gate with the rest: what the row blocks
  leave in the two result arrays, read at an index. The weight is held as four pieces of its columns; the first two
  are the gate's.
-/
module

public import proofs.«01_k».proof.Proof.Sig
public import Idealize.ShloMosaic.Lib.Pipeline.ValueKit.Tiles
public import proofs.«01_k».proof.Proof.Gen.Kernel9Ideal.Value

@[expose] public section

set_option maxRecDepth 16384

noncomputable section

namespace Cert.Kernel9Ideal.MmGateUp

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl

theorem ld1_0 (x1 : Vec Ideal S4x1024x1408 .bf16) (k : Fin 1024) (q : Fin 1408) : View.ld x1 r0_1 (ix3 0 k q) = x1 (ix3 0 k q) := by
  refine congrArg x1 (funext fun a => Fin.ext ?_)
  match a with
  | ⟨0, _⟩ => rfl
  | ⟨1, _⟩ => show 0 + 1 * k.val = k.val; omega
  | ⟨2, _⟩ => show 0 + 1 * q.val = q.val; omega

theorem ld1_1 (x1 : Vec Ideal S4x1024x1408 .bf16) (k : Fin 1024) (q : Fin 1408) : View.ld x1 r0_6 (ix3 0 k q) = x1 (ix3 1 k q) := by
  refine congrArg x1 (funext fun a => Fin.ext ?_)
  match a with
  | ⟨0, _⟩ => rfl
  | ⟨1, _⟩ => show 0 + 1 * k.val = k.val; omega
  | ⟨2, _⟩ => show 0 + 1 * q.val = q.val; omega

theorem ld1_2 (x1 : Vec Ideal S4x1024x1408 .bf16) (k : Fin 1024) (q : Fin 1408) : View.ld x1 r0_2 (ix3 0 k q) = x1 (ix3 2 k q) := by
  refine congrArg x1 (funext fun a => Fin.ext ?_)
  match a with
  | ⟨0, _⟩ => rfl
  | ⟨1, _⟩ => show 0 + 1 * k.val = k.val; omega
  | ⟨2, _⟩ => show 0 + 1 * q.val = q.val; omega

theorem ld1_3 (x1 : Vec Ideal S4x1024x1408 .bf16) (k : Fin 1024) (q : Fin 1408) : View.ld x1 r0_7 (ix3 0 k q) = x1 (ix3 3 k q) := by
  refine congrArg x1 (funext fun a => Fin.ext ?_)
  match a with
  | ⟨0, _⟩ => rfl
  | ⟨1, _⟩ => show 0 + 1 * k.val = k.val; omega
  | ⟨2, _⟩ => show 0 + 1 * q.val = q.val; omega

theorem pay_3 (x0 : Vec Ideal S512x1024 .bf16) (v : Vec Ideal S1x1024x1408 .bf16) (r : Fin 512) (q : Fin 1408) :
    k0_pay3 (F := Ideal) x0 v (ix2 r q) = ∑ k : Fin 1024, x0 (ix2 r k) * v (ix3 0 k q) := by
  pointwise [k0_pay3]

theorem pay_4 (x0 : Vec Ideal S512x1024 .bf16) (v : Vec Ideal S1x1024x1408 .bf16) (r : Fin 512) (q : Fin 1408) :
    k0_pay4 (F := Ideal) x0 v (ix2 r q) = ∑ k : Fin 1024, x0 (ix2 r k) * v (ix3 0 k q) := by
  pointwise [k0_pay4]

theorem pay_8 (x0 : Vec Ideal S512x1024 .bf16) (v : Vec Ideal S1x1024x1408 .bf16) (r : Fin 512) (q : Fin 1408) :
    k0_pay8 (F := Ideal) x0 v (ix2 r q) = ∑ k : Fin 1024, x0 (ix2 r k) * v (ix3 0 k q) := by
  pointwise [k0_pay8]

theorem pay_9 (x0 : Vec Ideal S512x1024 .bf16) (v : Vec Ideal S1x1024x1408 .bf16) (r : Fin 512) (q : Fin 1408) :
    k0_pay9 (F := Ideal) x0 v (ix2 r q) = ∑ k : Fin 1024, x0 (ix2 r k) * v (ix3 0 k q) := by
  pointwise [k0_pay9]

/-- The gate's value times its logistic times the other factor. -/
theorem pay_2 (g u : FVec Ideal S512x1408 .f32) (i : S512x1408.Idx) : k0_pay2 (F := Ideal) g u i = g i * Sig.hsig (g i) * u i := by
  unfold k0_pay2
  show g i * (Ideal.ofBits .f32 0x3F000000#32 * Ideal.tanh (Ideal.ofBits .f32 0x3F000000#32 * g i) + Ideal.ofBits .f32 0x3F000000#32) * u i = _
  rw [Sig.half_bits]
  rfl

theorem pay_7 (x0 : Vec Ideal S512x1024 .bf16) (v w : Vec Ideal S1x1024x1408 .bf16) (i : S512x1408.Idx) :
    k0_pay7 (F := Ideal) x0 v w i = k0_pay3 x0 v i * Sig.hsig (k0_pay3 x0 v i) * k0_pay4 x0 w i := by
  unfold k0_pay7
  show k0_pay3 x0 v i * (Ideal.ofBits .f32 0x3F000000#32 * Ideal.tanh (Ideal.ofBits .f32 0x3F000000#32 * k0_pay3 x0 v i) + Ideal.ofBits .f32 0x3F000000#32) * k0_pay4 x0 w i = _
  rw [Sig.half_bits]
  rfl

/-- Which piece a column lies in, and where in it. -/
def pc (q : Fin 5632) : Fin 4 := ⟨q.val / 1408, by omega⟩
def po (q : Fin 5632) : Fin 1408 := ⟨q.val % 1408, by omega⟩

/-- A block's product at an index. -/
theorem out2_at (x0 : Vec Ideal S512x1024 .bf16) (x1 : Vec Ideal S4x1024x1408 .bf16) (r : Fin 512) (q : Fin 5632) :
    out0_2 (F := Ideal) x0 x1 (ix2 r q) = ∑ k : Fin 1024, x0 (ix2 r k) * x1 (ix3 (pc q) k (po q)) := by
  unfold out0_2
  have hc := fun p0 p1 p2 p3 => cover0_2 (F := Ideal) p0 p1 p2 p3 (ix2 r q)
  have hr : (ix2 r q 0 : Fin 512).val = r.val := rfl
  have hq : (ix2 r q 1 : Fin 5632).val = q.val := rfl
  canon_tiles z hz using hc _ _ _ _
  case piece0 =>
    idx_vars z
    have e0 : z0 = r := Fin.ext (by omega)
    subst e0
    have e1 : pc q = 3 := Fin.ext (by show q.val / 1408 = 3; omega)
    have e2 : po q = z1 := Fin.ext (by show q.val % 1408 = z1.val; omega)
    show k0_pay9 (F := Ideal) (View.ld x0 r0_0) (View.ld x1 r0_7) (ix2 z0 z1) = _
    rw [pay_9, e1, e2, View.ld_unit_zero (S := S512x1024) z2]
    exact Finset.sum_congr rfl fun k _ => by rw [ld1_3]
  case piece1 =>
    idx_vars z
    have e0 : z0 = r := Fin.ext (by omega)
    subst e0
    have e1 : pc q = 1 := Fin.ext (by show q.val / 1408 = 1; omega)
    have e2 : po q = z1 := Fin.ext (by show q.val % 1408 = z1.val; omega)
    show k0_pay8 (F := Ideal) (View.ld x0 r0_0) (View.ld x1 r0_6) (ix2 z0 z1) = _
    rw [pay_8, e1, e2, View.ld_unit_zero (S := S512x1024) z2]
    exact Finset.sum_congr rfl fun k _ => by rw [ld1_1]
  case piece2 =>
    idx_vars z
    have e0 : z0 = r := Fin.ext (by omega)
    subst e0
    have e1 : pc q = 2 := Fin.ext (by show q.val / 1408 = 2; omega)
    have e2 : po q = z1 := Fin.ext (by show q.val % 1408 = z1.val; omega)
    show k0_pay4 (F := Ideal) (View.ld x0 r0_0) (View.ld x1 r0_2) (ix2 z0 z1) = _
    rw [pay_4, e1, e2, View.ld_unit_zero (S := S512x1024) z2]
    exact Finset.sum_congr rfl fun k _ => by rw [ld1_2]
  case piece3 =>
    idx_vars z
    have e0 : z0 = r := Fin.ext (by omega)
    subst e0
    have e1 : pc q = 0 := Fin.ext (by show q.val / 1408 = 0; omega)
    have e2 : po q = z1 := Fin.ext (by show q.val % 1408 = z1.val; omega)
    show k0_pay3 (F := Ideal) (View.ld x0 r0_0) (View.ld x1 r0_1) (ix2 z0 z1) = _
    rw [pay_3, e1, e2, View.ld_unit_zero (S := S512x1024) z2]
    exact Finset.sum_congr rfl fun k _ => by rw [ld1_0]

/-- The gate's and the other factor's columns of the product. -/
def gc (q : Fin 2816) : Fin 5632 := ⟨q.val, by omega⟩
def uc (q : Fin 2816) : Fin 5632 := ⟨2816 + q.val, by omega⟩

theorem out3_at (x0 : Vec Ideal S512x1024 .bf16) (x1 : Vec Ideal S4x1024x1408 .bf16) (r : Fin 512) (q : Fin 2816) :
    out0_3 (F := Ideal) x0 x1 (ix2 r q) = (∑ k : Fin 1024, x0 (ix2 r k) * x1 (ix3 (pc (gc q)) k (po (gc q))))
      * Sig.hsig (∑ k : Fin 1024, x0 (ix2 r k) * x1 (ix3 (pc (gc q)) k (po (gc q)))) * ∑ k : Fin 1024, x0 (ix2 r k) * x1 (ix3 (pc (uc q)) k (po (uc q))) := by
  unfold out0_3
  have hc := fun p0 p1 => cover0_3 (F := Ideal) p0 p1 (ix2 r q)
  have hr : (ix2 r q 0 : Fin 512).val = r.val := rfl
  have hq : (ix2 r q 1 : Fin 2816).val = q.val := rfl
  canon_tiles z hz using hc _ _
  case piece0 =>
    idx_vars z
    have e0 : z0 = r := Fin.ext (by omega)
    subst e0
    have e1 : pc (gc q) = 1 := Fin.ext (by show q.val / 1408 = 1; omega)
    have e2 : po (gc q) = z1 := Fin.ext (by show q.val % 1408 = z1.val; omega)
    have e3 : pc (uc q) = 3 := Fin.ext (by show (2816 + q.val) / 1408 = 3; omega)
    have e4 : po (uc q) = z1 := Fin.ext (by show (2816 + q.val) % 1408 = z1.val; omega)
    show k0_pay2 (F := Ideal) (k0_pay8 (View.ld x0 r0_0) (View.ld x1 r0_6)) (k0_pay9 (View.ld x0 r0_0) (View.ld x1 r0_7)) (ix2 z0 z1) = _
    rw [pay_2, pay_8, pay_9, e1, e2, e3, e4, View.ld_unit_zero (S := S512x1024) z2]
    exact congrArg₂ (fun a b : EReal => a * Sig.hsig a * b) (Finset.sum_congr rfl fun k _ => by rw [ld1_1]) (Finset.sum_congr rfl fun k _ => by rw [ld1_3])
  case piece1 =>
    idx_vars z
    have e0 : z0 = r := Fin.ext (by omega)
    subst e0
    have e1 : pc (gc q) = 0 := Fin.ext (by show q.val / 1408 = 0; omega)
    have e2 : po (gc q) = z1 := Fin.ext (by show q.val % 1408 = z1.val; omega)
    have e3 : pc (uc q) = 2 := Fin.ext (by show (2816 + q.val) / 1408 = 2; omega)
    have e4 : po (uc q) = z1 := Fin.ext (by show (2816 + q.val) % 1408 = z1.val; omega)
    rw [pay_7, pay_3, pay_4, e1, e2, e3, e4, View.ld_unit_zero (S := S512x1024) z2]
    exact congrArg₂ (fun a b : EReal => a * Sig.hsig a * b) (Finset.sum_congr rfl fun k _ => by rw [ld1_0]) (Finset.sum_congr rfl fun k _ => by rw [ld1_2])

theorem idx0 (t : Fin cfg0.N) : win0_0.index t 0 = t.val ∧ win0_0.index t 1 = 0 := by
  revert t; decide +kernel
theorem idx1 (t : Fin cfg0.N) : win0_1.index t 0 = 0 ∧ win0_1.index t 1 = 0 ∧ win0_1.index t 2 = 0 := by
  revert t; decide +kernel
theorem idx2 (t : Fin cfg0.N) : win0_2.index t 0 = t.val ∧ win0_2.index t 1 = 0 := by
  revert t; decide +kernel

theorem idx3 (t : Fin cfg0.N) : win0_3.index t 0 = t.val ∧ win0_3.index t 1 = 0 := by
  revert t; decide +kernel

/-- The row of the whole array that row `r` of point `t`'s block is. -/
def row (t : Fin cfg0.N) (r : Fin 512) : Fin 8192 :=
  ⟨512 * t.val + r.val, by have h : cfg0.N = 16 := N_0; have := t.isLt; have := r.isLt; omega⟩

theorem iblk0 (c : Dev nD) (t : Fin cfg0.N) (r : Fin 512) (k : Fin 1024) :
    (iblk m c 0 t : Vec Ideal S512x1024 .bf16) (ix2 r k) = m ((c : Thread nD τ).loc main_arg0) (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem iblk1 (c : Dev nD) (t : Fin cfg0.N) (s : Fin 4) (k : Fin 1024) (q : Fin 1408) :
    (iblk m c 1 t : Vec Ideal S4x1024x1408 .bf16) (ix3 s k q) = m ((c : Thread nD τ).loc main_arg1) (ix3 s k q) := by
  unfold iblk
  rw [View.read_apply]
  show V m c main_arg1 _ = m (c.tc.loc main_arg1) _
  unfold V
  congr 1
  funext a
  apply Fin.ext
  match a with
  | ⟨0, _⟩ => show win0_1.index t 0 * 4 + 1 * s.val = s.val; rw [(idx1 t).1]; omega
  | ⟨1, _⟩ => show win0_1.index t 1 * 1024 + 1 * k.val = k.val; rw [(idx1 t).2.1]; omega
  | ⟨2, _⟩ => show win0_1.index t 2 * 1408 + 1 * q.val = q.val; rw [(idx1 t).2.2]; omega

/-- The operands as tables of extended reals. -/
def X0 (c : Dev nD) : (⟨2, ![8192, 1024]⟩ : Shape).Idx → EReal := m ((c : Thread nD τ).loc main_arg0)
def X1 (c : Dev nD) : (⟨3, ![4, 1024, 1408]⟩ : Shape).Idx → EReal := m ((c : Thread nD τ).loc main_arg1)

/-- The whole product, and the gated one. -/
def prod (c : Dev nD) (r : Fin 8192) (q : Fin 5632) : EReal :=
  ∑ k : Fin 1024, X0 m c (ix2 r k) * X1 m c (ix3 (pc q) k (po q))
def act (c : Dev nD) (r : Fin 8192) (q : Fin 2816) : EReal := prod m c r (gc q) * Sig.hsig (prod m c r (gc q)) * prod m c r (uc q)

theorem blk2_at (c : Dev nD) (t : Fin cfg0.N) (r : Fin 512) (q : Fin 5632) :
    out0_2 (F := Ideal) (iblk m c 0 t) (iblk m c 1 t) (ix2 r q) = prod m c (row t r) q := by
  rw [out2_at]
  simp only [iblk0, iblk1]
  rfl
theorem blk3_at (c : Dev nD) (t : Fin cfg0.N) (r : Fin 512) (q : Fin 2816) :
    out0_3 (F := Ideal) (iblk m c 0 t) (iblk m c 1 t) (ix2 r q) = act m c (row t r) q := by
  rw [out3_at]
  simp only [iblk0, iblk1]
  rfl

/-- The result arrays. -/
def res2 (c : Dev nD) : (⟨2, ![8192, 5632]⟩ : Shape).Idx → EReal := fun i => prod m c (i 0) (i 1)
def res3 (c : Dev nD) : (⟨2, ![8192, 2816]⟩ : Shape).Idx → EReal := fun i => act m c (i 0) (i 1)

theorem final2 (c : Dev nD) : (dats m 0 c).arrAt 2 cfg0.N = res2 m c :=
  (dats m 0 c).arrAt_eq_of_cover 2 (res2 m c) (fun t hf => by
    rw [Value.flushed2]
    funext y
    idx_vars y
    refine (blk2_at m c t y0 y1).trans ?_
    rw [View.read_apply]
    unfold res2
    congr 1
    · apply Fin.ext
      show 512 * t.val + y0.val = win0_2.index t 0 * 512 + 1 * y0.val; rw [(idx2 t).1]; omega
    · apply Fin.ext
      show y1.val = win0_2.index t 1 * 5632 + 1 * y1.val; rw [(idx2 t).2]; omega) fun i => by
    have h0 : (i 0 : Nat) < 8192 := (i 0).isLt
    have h1 : (i 1 : Nat) < 5632 := (i 1).isLt
    have hN : cfg0.N = 16 := N_0
    obtain ⟨t, ht⟩ : ∃ t : Fin cfg0.N, t.val = (i 0).val / 512 := ⟨⟨(i 0).val / 512, by omega⟩, rfl⟩
    refine ⟨t, flush0_2 t, ?_⟩
    show i ∈ ((View.whole main_v0_0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512; rw [(idx2 t).1]; omega
    | ⟨1, _⟩ => show win0_2.index t 1 * 5632 ≤ (i 1 : Nat) ∧ (i 1 : Nat) < win0_2.index t 1 * 5632 + 5632; rw [(idx2 t).2]; omega

theorem final3 (c : Dev nD) : (dats m 0 c).arrAt 3 cfg0.N = res3 m c :=
  (dats m 0 c).arrAt_eq_of_cover 3 (res3 m c) (fun t hf => by
    rw [Value.flushed3]
    funext y
    idx_vars y
    refine (blk3_at m c t y0 y1).trans ?_
    rw [View.read_apply]
    unfold res3
    congr 1
    · apply Fin.ext
      show 512 * t.val + y0.val = win0_3.index t 0 * 512 + 1 * y0.val; rw [(idx3 t).1]; omega
    · apply Fin.ext
      show y1.val = win0_3.index t 1 * 2816 + 1 * y1.val; rw [(idx3 t).2]; omega) fun i => by
    have h0 : (i 0 : Nat) < 8192 := (i 0).isLt
    have h1 : (i 1 : Nat) < 2816 := (i 1).isLt
    have hN : cfg0.N = 16 := N_0
    obtain ⟨t, ht⟩ : ∃ t : Fin cfg0.N, t.val = (i 0).val / 512 := ⟨⟨(i 0).val / 512, by omega⟩, rfl⟩
    refine ⟨t, flush0_3 t, ?_⟩
    show i ∈ ((View.whole main_v0_1).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; rw [(idx3 t).1]; omega
    | ⟨1, _⟩ => show win0_3.index t 1 * 2816 ≤ (i 1 : Nat) ∧ (i 1 : Nat) < win0_3.index t 1 * 2816 + 2816; rw [(idx3 t).2]; omega

end Cert.Kernel9Ideal.MmGateUp

end
-- ==== Proof.MmGateUpClaim.lean ====
/-
  The gated projection of the forward pass: the kernel's row blocks and the reference's two results are the same.
-/
module

public import proofs.«01_k».proof.Defs
public import proofs.«01_k».proof.Proof.MmGateUp
public import proofs.«01_k».proof.Proof.Gen.Reference9Ideal.Read

@[expose] public section

set_option maxRecDepth 16384

noncomputable section

namespace Cert.MmGateUpClaim

open Idealize.ShloMosaic Idealize.ShloMosaic.TcCoe Idealize.SL.Sem
open Cert.Reference9Ideal.Read

variable (a : (⟨Cert.Reference9Ideal.S8192x1024, .bf16⟩ : BufTy).Contents (Elt Ideal)) (b : (⟨Cert.Reference9Ideal.S4x1024x1408, .bf16⟩ : BufTy).Contents (Elt Ideal))

/-- The reference's product at an index. -/
theorem prod_at (r : Fin 8192) (q : Fin 5632) :
    val_main_v4 (F := Ideal) a b (ix2 r q) = ∑ k : Fin 1024, a (ix2 r k) * b (ix3 ⟨q.val / 1408, by omega⟩ k ⟨q.val % 1408, by omega⟩) := by
  pointwise [val_main_v4, val_main_v3, val_main_v2, val_main_v1, val_main_v0]

theorem ref_at (r : Fin 8192) (q : Fin 5632) :
    val_main_v7 (F := Ideal) a b (ix2 r q) = ∑ k : Fin 1024, a (ix2 r k) * b (ix3 ⟨q.val / 1408, by omega⟩ k ⟨q.val % 1408, by omega⟩) :=
  prod_at a b r q

theorem gate_at (r : Fin 8192) (q : Fin 2816) : val_main_v5 (F := Ideal) a b (ix2 r q) = val_main_v4 (F := Ideal) a b (ix2 r ⟨q.val, by omega⟩) := by
  rw [val_main_v5_apply]
  congr 1
  funext x
  apply Fin.ext
  match x with
  | ⟨0, _⟩ => rfl
  | ⟨1, _⟩ => rfl
theorem up_at (r : Fin 8192) (q : Fin 2816) : val_main_v6 (F := Ideal) a b (ix2 r q) = val_main_v4 (F := Ideal) a b (ix2 r ⟨2816 + q.val, by omega⟩) := by
  rw [val_main_v6_apply]
  congr 1
  funext x
  apply Fin.ext
  match x with
  | ⟨0, _⟩ => rfl
  | ⟨1, _⟩ => rfl

theorem act_at (i : Cert.Reference9Ideal.S8192x2816.Idx) :
    val_main_v10 (F := Ideal) a b i = val_main_v5 (F := Ideal) a b i * Ideal.logistic (val_main_v5 (F := Ideal) a b i) * val_main_v6 (F := Ideal) a b i := by
  show val_main_v5 (F := Ideal) a b i * Ideal.div (Ideal.ofBits .f32 0x3F800000#32) (Ideal.ofBits .f32 0x3F800000#32 + Ideal.exp (-val_main_v5 (F := Ideal) a b i)) * val_main_v6 (F := Ideal) a b i = _
  rw [Sig.one_bits]
  rfl

theorem holds : Cert.algebraic_Kernel9Ideal_Reference9Ideal (hKernel9Ideal := Cert.Kernel9Ideal.Gen.facts) (hReference9Ideal := Cert.Reference9Ideal.Gen.facts) := by
  intro m g m' g' _ hag
  refine ⟨fun c => Cert.Kernel9Ideal.MmGateUp.res2 m c, fun c => Cert.Kernel9Ideal.MmGateUp.res3 m c, ?_, ?_⟩
  · refine (θ_run _ _ _).mono (fun r h c => ?_) (Cert.Kernel9Ideal.Value.run_blocks m g)
    obtain ⟨h0, h1, h2, h3⟩ := h c
    exact ⟨h0.trans (Cert.Kernel9Ideal.MmGateUp.final2 m c), h1.trans (Cert.Kernel9Ideal.MmGateUp.final3 m c), h2, h3⟩
  · refine (θ_run _ _ _).mono (fun r h c => ?_) (Cert.Reference9Ideal.Value.run (F := Ideal) m' g')
    obtain ⟨h0, h1, h2, h3⟩ := h c
    refine ⟨h0.trans ?_, h1.trans ?_, h2, h3⟩
    · refine (val_main_v7_eq _ _).trans ?_
      funext i
      idx_vars i
      refine (ref_at _ _ i0 i1).trans ?_
      rw [(hag c).1, (hag c).2]
      rfl
    · refine (val_main_v10_eq _ _).trans ?_
      funext i
      idx_vars i
      refine (act_at _ _ (ix2 i0 i1)).trans ?_
      rw [gate_at, up_at, prod_at, prod_at, (hag c).1, (hag c).2, ← Sig.hsig_eq]
      rfl

end Cert.MmGateUpClaim

end
-- ==== Proof.MmDown.lean ====
/-
  The projection `w_down` of the forward pass, with the residual added: what the row blocks of the product leave in the result array, read at an index.
-/
module

public import Idealize.ShloMosaic.Lib.Pointwise
public import Idealize.ShloMosaic.Lib.Pipeline.ValueKit.Tiles
public import proofs.«01_k».proof.Proof.Gen.Kernel10Ideal.Value

@[expose] public section

set_option maxRecDepth 16384

noncomputable section

namespace Cert.Kernel10Ideal.MmDown

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- A block's product at an index. -/
theorem out_at (x0 : Vec Ideal S512x2816 .bf16) (x1 : Vec Ideal S1x2816x1024 .bf16) (x2 : Vec Ideal S512x1024 .f32) (r : Fin 512) (q : Fin 1024) :
    out0_3 (F := Ideal) x0 x1 x2 (ix2 r q) = x2 (ix2 r q) + ∑ k : Fin 2816, x0 (ix2 r k) * x1 (ix3 0 k q) := by
  unfold out0_3
  rw [View.canon_unit_zero z2]
  simp only [View.ld_unit_zero (S := S512x2816) z2, View.ld_unit_zero (S := S1x2816x1024) z3, View.ld_unit_zero (S := S512x1024) z2]
  pointwise [k0_pay1]

theorem idx0 (t : Fin cfg0.N) : win0_0.index t 0 = t.val ∧ win0_0.index t 1 = 0 := by
  revert t; decide +kernel
theorem idx1 (t : Fin cfg0.N) : win0_1.index t 0 = 0 ∧ win0_1.index t 1 = 0 ∧ win0_1.index t 2 = 0 := by
  revert t; decide +kernel
theorem idx2 (t : Fin cfg0.N) : win0_2.index t 0 = t.val ∧ win0_2.index t 1 = 0 := by
  revert t; decide +kernel
theorem idxo (t : Fin cfg0.N) : win0_3.index t 0 = t.val ∧ win0_3.index t 1 = 0 := by
  revert t; decide +kernel

/-- The row of the whole array that row `r` of point `t`'s block is. -/
def row (t : Fin cfg0.N) (r : Fin 512) : Fin 8192 :=
  ⟨512 * t.val + r.val, by have h : cfg0.N = 16 := N_0; have := t.isLt; have := r.isLt; omega⟩

theorem iblk0 (c : Dev nD) (t : Fin cfg0.N) (r : Fin 512) (k : Fin 2816) :
    (iblk m c 0 t : Vec Ideal S512x2816 .bf16) (ix2 r k) = m ((c : Thread nD τ).loc main_arg0) (ix2 (row t r) k) := by
  unfold iblk
  rw [View.read_apply]
  show V m c main_arg0 _ = m (c.tc.loc main_arg0) _
  rw [V_main_arg0 m c]
  congr 1
  funext a
  apply Fin.ext
  match a with
  | ⟨0, _⟩ => show win0_0.index t 0 * 512 + 1 * r.val = 512 * t.val + r.val; rw [(idx0 t).1]; omega
  | ⟨1, _⟩ => show win0_0.index t 1 * 2816 + 1 * k.val = k.val; rw [(idx0 t).2]; omega

/-- The host puts the weight under a leading axis of extent one. -/
theorem V_w (c : Dev nD) : V m c main_v0 = broadcastInDim S1x2816x1024 ![1, 2] bcast_S2816x1024_S1x2816x1024_1_2 (m ((c : Thread nD τ).loc main_arg1)) := rfl

theorem iblk1 (c : Dev nD) (t : Fin cfg0.N) (k : Fin 2816) (q : Fin 1024) :
    (iblk m c 1 t : Vec Ideal S1x2816x1024 .bf16) (ix3 0 k q) = m ((c : Thread nD τ).loc main_arg1) (ix2 k q) := by
  unfold iblk
  rw [View.read_apply]
  show V m c main_v0 _ = m (c.tc.loc main_arg1) _
  rw [V_w m c]
  refine congrArg (m (c.tc.loc main_arg1)) (funext fun a => Fin.ext ?_)
  match a with
  | ⟨0, _⟩ => show win0_1.index t 1 * 2816 + 1 * k.val = k.val; rw [(idx1 t).2.1]; omega
  | ⟨1, _⟩ => show win0_1.index t 2 * 1024 + 1 * q.val = q.val; rw [(idx1 t).2.2]; omega

theorem iblk2 (c : Dev nD) (t : Fin cfg0.N) (r : Fin 512) (q : Fin 1024) :
    (iblk m c 2 t : Vec Ideal S512x1024 .f32) (ix2 r q) = m ((c : Thread nD τ).loc main_arg2) (ix2 (row t r) q) := by
  unfold iblk
  rw [View.read_apply]
  show V m c main_arg2 _ = m (c.tc.loc main_arg2) _
  rw [V_main_arg2 m c]
  congr 1
  funext a
  apply Fin.ext
  match a with
  | ⟨0, _⟩ => show win0_2.index t 0 * 512 + 1 * r.val = 512 * t.val + r.val; rw [(idx2 t).1]; omega
  | ⟨1, _⟩ => show win0_2.index t 1 * 1024 + 1 * q.val = q.val; rw [(idx2 t).2]; omega

/-- The operands as tables of extended reals. -/
def X0 (c : Dev nD) : (⟨2, ![8192, 2816]⟩ : Shape).Idx → EReal := m ((c : Thread nD τ).loc main_arg0)
def X1 (c : Dev nD) : (⟨2, ![2816, 1024]⟩ : Shape).Idx → EReal := m ((c : Thread nD τ).loc main_arg1)
def X2 (c : Dev nD) : (⟨2, ![8192, 1024]⟩ : Shape).Idx → EReal := m ((c : Thread nD τ).loc main_arg2)

/-- The whole product. -/
def prod (c : Dev nD) (r : Fin 8192) (q : Fin 1024) : EReal :=
  X2 m c (ix2 r q) + ∑ k : Fin 2816, X0 m c (ix2 r k) * X1 m c (ix2 k q)

theorem blk_at (c : Dev nD) (t : Fin cfg0.N) (r : Fin 512) (q : Fin 1024) :
    out0_3 (F := Ideal) (iblk m c 0 t) (iblk m c 1 t) (iblk m c 2 t) (ix2 r q) = prod m c (row t r) q := by
  rw [out_at]
  simp only [iblk0, iblk1, iblk2]
  rfl

/-- The result array. -/
def res (c : Dev nD) : (⟨2, ![8192, 1024]⟩ : Shape).Idx → EReal := fun i => prod m c (i 0) (i 1)

theorem final (c : Dev nD) : (dats m 0 c).arrAt 3 cfg0.N = res m c :=
  (dats m 0 c).arrAt_eq_of_cover 3 (res m c) (fun t hf => by
    rw [Value.flushed3]
    funext y
    idx_vars y
    refine (blk_at m c t y0 y1).trans ?_
    rw [View.read_apply]
    unfold res
    congr 1
    · apply Fin.ext
      show 512 * t.val + y0.val = win0_3.index t 0 * 512 + 1 * y0.val; rw [(idxo t).1]; omega
    · apply Fin.ext
      show y1.val = win0_3.index t 1 * 1024 + 1 * y1.val; rw [(idxo t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_3 t, ?_⟩
    show i ∈ ((View.whole main_v1).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; rw [(idxo t).1]; omega
    | ⟨1, _⟩ => show win0_3.index t 1 * 1024 ≤ (i 1 : Nat) ∧ (i 1 : Nat) < win0_3.index t 1 * 1024 + 1024; rw [(idxo t).2]; omega

end Cert.Kernel10Ideal.MmDown

end
-- ==== Proof.MmDownClaim.lean ====
/-
  The projection `w_down` of the forward pass, with the residual added: the claim that the kernel's row blocks and the reference's product are the same sums.
-/
module

public import proofs.«01_k».proof.Defs
public import proofs.«01_k».proof.Proof.MmDown
public import proofs.«01_k».proof.Proof.Gen.Reference10Ideal.Read

@[expose] public section

set_option maxRecDepth 16384

noncomputable section

namespace Cert.MmDownClaim

open Idealize.ShloMosaic Idealize.ShloMosaic.TcCoe Idealize.SL.Sem
open Cert.Reference10Ideal.Read

/-- The reference's product at an index. -/
theorem ref_at (a : (⟨Cert.Reference10Ideal.S8192x2816, .bf16⟩ : BufTy).Contents (Elt Ideal)) (b : (⟨Cert.Reference10Ideal.S2816x1024, .bf16⟩ : BufTy).Contents (Elt Ideal)) (x : (⟨Cert.Reference10Ideal.S8192x1024, .f32⟩ : BufTy).Contents (Elt Ideal)) (r : Fin 8192) (q : Fin 1024) :
    val_main_v3 (F := Ideal) a b x (ix2 r q) = x (ix2 r q) + ∑ k : Fin 2816, a (ix2 r k) * b (ix2 k q) := by
  pointwise [val_main_v3, val_main_v2, val_main_v1, val_main_v0]

theorem holds : Cert.algebraic_Kernel10Ideal_Reference10Ideal (hKernel10Ideal := Cert.Kernel10Ideal.Gen.facts) (hReference10Ideal := Cert.Reference10Ideal.Gen.facts) := by
  intro m g m' g' _ hag
  refine ⟨fun c => Cert.Kernel10Ideal.MmDown.res m c, ?_, ?_⟩
  · refine (θ_run _ _ _).mono (fun r h c => ?_) (Cert.Kernel10Ideal.Value.run_blocks m g)
    obtain ⟨h0, h1, h2, h3⟩ := h c
    exact ⟨h0.trans (Cert.Kernel10Ideal.MmDown.final m c), h1, h2, h3⟩
  · refine (θ_run _ _ _).mono (fun r h c => ?_) (Cert.Reference10Ideal.Value.run (F := Ideal) m' g')
    obtain ⟨h0, h1, h2, h3⟩ := h c
    refine ⟨h0.trans ?_, h1, h2, h3⟩
    refine (val_main_v3_eq _ _ _).trans ?_
    funext i
    idx_vars i
    refine (ref_at _ _ _ i0 i1).trans ?_
    rw [(hag c).1, (hag c).2.1, (hag c).2.2]
    rfl

end Cert.MmDownClaim

end
-- ==== Proof.BmmDsw.lean ====
/-
  The gradient of the gated convolution's output with respect to `w_conv_out`'s operand: what the row blocks of the
  product with the transposed weight leave in the result array, read at an index. The weight is held as four pieces
  of its columns, and the kernel adds the four partial products.
-/
module

public import proofs.«01_k».proof.Proof.Blocks
public import proofs.«01_k».proof.Proof.Gen.Kernel11Ideal.Value

@[expose] public section

set_option maxRecDepth 16384

noncomputable section

namespace Cert.Kernel11Ideal.BmmDsw

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl

theorem ld0_0 (x0 : Vec Ideal S512x1024 .bf16) (r : Fin 512) (k : Fin 256) : View.ld x0 r0_0 (ix2 r k) = x0 (ix2 r ⟨256 * 0 + k.val, by omega⟩) := by
  refine congrArg x0 (funext fun a => Fin.ext ?_)
  match a with
  | ⟨0, _⟩ => show 0 + 1 * r.val = r.val; omega
  | ⟨1, _⟩ => show 0 + 1 * k.val = 256 * 0 + k.val; omega
theorem ld1_0 (x1 : Vec Ideal S4x512x256 .bf16) (q : Fin 512) (k : Fin 256) : View.ld x1 r0_1 (ix3 0 q k) = x1 (ix3 0 q k) := by
  refine congrArg x1 (funext fun a => Fin.ext ?_)
  match a with
  | ⟨0, _⟩ => rfl
  | ⟨1, _⟩ => show 0 + 1 * q.val = q.val; omega
  | ⟨2, _⟩ => show 0 + 1 * k.val = k.val; omega

theorem ld0_1 (x0 : Vec Ideal S512x1024 .bf16) (r : Fin 512) (k : Fin 256) : View.ld x0 r0_2 (ix2 r k) = x0 (ix2 r ⟨256 * 1 + k.val, by omega⟩) := by
  refine congrArg x0 (funext fun a => Fin.ext ?_)
  match a with
  | ⟨0, _⟩ => show 0 + 1 * r.val = r.val; omega
  | ⟨1, _⟩ => show 256 + 1 * k.val = 256 * 1 + k.val; omega
theorem ld1_1 (x1 : Vec Ideal S4x512x256 .bf16) (q : Fin 512) (k : Fin 256) : View.ld x1 r0_3 (ix3 0 q k) = x1 (ix3 1 q k) := by
  refine congrArg x1 (funext fun a => Fin.ext ?_)
  match a with
  | ⟨0, _⟩ => rfl
  | ⟨1, _⟩ => show 0 + 1 * q.val = q.val; omega
  | ⟨2, _⟩ => show 0 + 1 * k.val = k.val; omega

theorem ld0_2 (x0 : Vec Ideal S512x1024 .bf16) (r : Fin 512) (k : Fin 256) : View.ld x0 r0_4 (ix2 r k) = x0 (ix2 r ⟨256 * 2 + k.val, by omega⟩) := by
  refine congrArg x0 (funext fun a => Fin.ext ?_)
  match a with
  | ⟨0, _⟩ => show 0 + 1 * r.val = r.val; omega
  | ⟨1, _⟩ => show 512 + 1 * k.val = 256 * 2 + k.val; omega
theorem ld1_2 (x1 : Vec Ideal S4x512x256 .bf16) (q : Fin 512) (k : Fin 256) : View.ld x1 r0_5 (ix3 0 q k) = x1 (ix3 2 q k) := by
  refine congrArg x1 (funext fun a => Fin.ext ?_)
  match a with
  | ⟨0, _⟩ => rfl
  | ⟨1, _⟩ => show 0 + 1 * q.val = q.val; omega
  | ⟨2, _⟩ => show 0 + 1 * k.val = k.val; omega

theorem ld0_3 (x0 : Vec Ideal S512x1024 .bf16) (r : Fin 512) (k : Fin 256) : View.ld x0 r0_6 (ix2 r k) = x0 (ix2 r ⟨256 * 3 + k.val, by omega⟩) := by
  refine congrArg x0 (funext fun a => Fin.ext ?_)
  match a with
  | ⟨0, _⟩ => show 0 + 1 * r.val = r.val; omega
  | ⟨1, _⟩ => show 768 + 1 * k.val = 256 * 3 + k.val; omega
theorem ld1_3 (x1 : Vec Ideal S4x512x256 .bf16) (q : Fin 512) (k : Fin 256) : View.ld x1 r0_7 (ix3 0 q k) = x1 (ix3 3 q k) := by
  refine congrArg x1 (funext fun a => Fin.ext ?_)
  match a with
  | ⟨0, _⟩ => rfl
  | ⟨1, _⟩ => show 0 + 1 * q.val = q.val; omega
  | ⟨2, _⟩ => show 0 + 1 * k.val = k.val; omega

/-- The four partial products, added. -/
theorem pay_at (a0 a1 a2 a3 : Vec Ideal S512x256 .bf16) (w0 w1 w2 w3 : Vec Ideal S1x512x256 .bf16) (r q : Fin 512) :
    k0_pay1 (F := Ideal) a0 w0 a1 w1 a2 w2 a3 w3 (ix2 r q) = ((∑ k : Fin 256, a0 (ix2 r k) * w0 (ix3 0 q k)) + ∑ k : Fin 256, a1 (ix2 r k) * w1 (ix3 0 q k))
      + (∑ k : Fin 256, a2 (ix2 r k) * w2 (ix3 0 q k)) + ∑ k : Fin 256, a3 (ix2 r k) * w3 (ix3 0 q k) := by
  pointwise [k0_pay1]

/-- Which piece a column lies in, and where in it. -/
def pc (k : Fin 1024) : Fin 4 := ⟨k.val / 256, by omega⟩
def po (k : Fin 1024) : Fin 256 := ⟨k.val % 256, by omega⟩

/-- A block's product at an index. -/
theorem out_at (x0 : Vec Ideal S512x1024 .bf16) (x1 : Vec Ideal S4x512x256 .bf16) (r q : Fin 512) :
    out0_2 (F := Ideal) x0 x1 (ix2 r q) = ∑ k : Fin 1024, x0 (ix2 r k) * x1 (ix3 (pc k) q (po k)) := by
  unfold out0_2
  rw [View.canon_unit_zero z2, pay_at]
  let f : ℕ → EReal := fun j => if h : j < 1024 then x0 (ix2 r ⟨j, h⟩) * x1 (ix3 (pc ⟨j, h⟩) q (po ⟨j, h⟩)) else 0
  have hf : ∀ k : Fin 1024, x0 (ix2 r k) * x1 (ix3 (pc k) q (po k)) = f k.val := fun k => by
    show _ = dite _ _ _; rw [dif_pos k.isLt]
  have hb : ∀ (s : Fin 4) (k : Fin 256), x0 (ix2 r ⟨256 * s.val + k.val, by omega⟩) * x1 (ix3 s q k) = f (256 * s.val + k.val) := fun s k => by
    have h : 256 * s.val + k.val < 1024 := by omega
    show _ = dite _ _ _; rw [dif_pos h]
    have e1 : pc ⟨256 * s.val + k.val, h⟩ = s := Fin.ext (by show (256 * s.val + k.val) / 256 = s.val; omega)
    have e2 : po ⟨256 * s.val + k.val, h⟩ = k := Fin.ext (by show (256 * s.val + k.val) % 256 = k.val; omega)
    rw [e1, e2]
  rw [Finset.sum_congr rfl fun k _ => hf k, ← Blocks.sum_blocks_fin (k := 256) (n := 4) (by norm_num) f]
  simp only [Finset.sum_range_succ, Finset.sum_range_zero, zero_add]
  exact congrArg₂ (· + ·) (congrArg₂ (· + ·) (congrArg₂ (· + ·) (Finset.sum_congr rfl fun k _ => (congrArg₂ (· * ·) (ld0_0 x0 r k) (ld1_0 x1 q k)).trans (hb 0 k)) (Finset.sum_congr rfl fun k _ => (congrArg₂ (· * ·) (ld0_1 x0 r k) (ld1_1 x1 q k)).trans (hb 1 k)))
    (Finset.sum_congr rfl fun k _ => (congrArg₂ (· * ·) (ld0_2 x0 r k) (ld1_2 x1 q k)).trans (hb 2 k))) (Finset.sum_congr rfl fun k _ => (congrArg₂ (· * ·) (ld0_3 x0 r k) (ld1_3 x1 q k)).trans (hb 3 k))

theorem idx0 (t : Fin cfg0.N) : win0_0.index t 0 = t.val ∧ win0_0.index t 1 = 0 := by
  revert t; decide +kernel
theorem idx1 (t : Fin cfg0.N) : win0_1.index t 0 = 0 ∧ win0_1.index t 1 = 0 ∧ win0_1.index t 2 = 0 := by
  revert t; decide +kernel
theorem idxo (t : Fin cfg0.N) : win0_2.index t 0 = t.val ∧ win0_2.index t 1 = 0 := by
  revert t; decide +kernel

/-- The row of the whole array that row `r` of point `t`'s block is. -/
def row (t : Fin cfg0.N) (r : Fin 512) : Fin 8192 :=
  ⟨512 * t.val + r.val, by have h : cfg0.N = 16 := N_0; have := t.isLt; have := r.isLt; omega⟩

theorem iblk0 (c : Dev nD) (t : Fin cfg0.N) (r : Fin 512) (k : Fin 1024) :
    (iblk m c 0 t : Vec Ideal S512x1024 .bf16) (ix2 r k) = m ((c : Thread nD τ).loc main_arg0) (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem iblk1 (c : Dev nD) (t : Fin cfg0.N) (s : Fin 4) (k : Fin 512) (q : Fin 256) :
    (iblk m c 1 t : Vec Ideal S4x512x256 .bf16) (ix3 s k q) = m ((c : Thread nD τ).loc main_arg1) (ix3 s k q) := by
  unfold iblk
  rw [View.read_apply]
  show V m c main_arg1 _ = m (c.tc.loc main_arg1) _
  unfold V
  congr 1
  funext a
  apply Fin.ext
  match a with
  | ⟨0, _⟩ => show win0_1.index t 0 * 4 + 1 * s.val = s.val; rw [(idx1 t).1]; omega
  | ⟨1, _⟩ => show win0_1.index t 1 * 512 + 1 * k.val = k.val; rw [(idx1 t).2.1]; omega
  | ⟨2, _⟩ => show win0_1.index t 2 * 256 + 1 * q.val = q.val; rw [(idx1 t).2.2]; omega

/-- The operands as tables of extended reals. -/
def X0 (c : Dev nD) : (⟨2, ![8192, 1024]⟩ : Shape).Idx → EReal := m ((c : Thread nD τ).loc main_arg0)
def X1 (c : Dev nD) : (⟨3, ![4, 512, 256]⟩ : Shape).Idx → EReal := m ((c : Thread nD τ).loc main_arg1)

/-- The whole product. -/
def prod (c : Dev nD) (r : Fin 8192) (q : Fin 512) : EReal :=
  ∑ k : Fin 1024, X0 m c (ix2 r k) * X1 m c (ix3 (pc k) q (po k))

theorem blk_at (c : Dev nD) (t : Fin cfg0.N) (r : Fin 512) (q : Fin 512) :
    out0_2 (F := Ideal) (iblk m c 0 t) (iblk m c 1 t) (ix2 r q) = prod m c (row t r) q := by
  rw [out_at]
  simp only [iblk0, iblk1]
  rfl

/-- The result array. -/
def res (c : Dev nD) : (⟨2, ![8192, 512]⟩ : Shape).Idx → EReal := fun i => prod m c (i 0) (i 1)

theorem final (c : Dev nD) : (dats m 0 c).arrAt 2 cfg0.N = res m c :=
  (dats m 0 c).arrAt_eq_of_cover 2 (res m c) (fun t hf => by
    rw [Value.flushed2]
    funext y
    idx_vars y
    refine (blk_at m c t y0 y1).trans ?_
    rw [View.read_apply]
    unfold res
    congr 1
    · apply Fin.ext
      show 512 * t.val + y0.val = win0_2.index t 0 * 512 + 1 * y0.val; rw [(idxo t).1]; omega
    · apply Fin.ext
      show y1.val = win0_2.index t 1 * 512 + 1 * y1.val; rw [(idxo t).2]; omega) fun i => by
    have h0 : (i 0 : Nat) < 8192 := (i 0).isLt
    have h1 : (i 1 : Nat) < 512 := (i 1).isLt
    have hN : cfg0.N = 16 := N_0
    obtain ⟨t, ht⟩ : ∃ t : Fin cfg0.N, t.val = (i 0).val / 512 := ⟨⟨(i 0).val / 512, by omega⟩, rfl⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512; rw [(idxo t).1]; omega
    | ⟨1, _⟩ => show win0_2.index t 1 * 512 ≤ (i 1 : Nat) ∧ (i 1 : Nat) < win0_2.index t 1 * 512 + 512; rw [(idxo t).2]; omega

end Cert.Kernel11Ideal.BmmDsw

end
-- ==== Proof.BmmDswClaim.lean ====
/-
  The gradient with respect to `w_conv_out`'s operand: the claim that the kernel's row blocks and the reference's product are the same sums.
-/
module

public import proofs.«01_k».proof.Defs
public import proofs.«01_k».proof.Proof.BmmDsw
public import proofs.«01_k».proof.Proof.Gen.Reference11Ideal.Read

@[expose] public section

set_option maxRecDepth 16384

noncomputable section

namespace Cert.BmmDswClaim

open Idealize.ShloMosaic Idealize.ShloMosaic.TcCoe Idealize.SL.Sem
open Cert.Reference11Ideal.Read

/-- The reference's product at an index. -/
theorem ref_at (a : (⟨Cert.Reference11Ideal.S8192x1024, .bf16⟩ : BufTy).Contents (Elt Ideal)) (b : (⟨Cert.Reference11Ideal.S4x512x256, .bf16⟩ : BufTy).Contents (Elt Ideal)) (r : Fin 8192) (q : Fin 512) :
    val_main_v6 (F := Ideal) a b (ix2 r q) = ∑ k : Fin 1024, a (ix2 r k) * b (ix3 ⟨k.val / 256, by omega⟩ q ⟨k.val % 256, by omega⟩) := by
  pointwise [val_main_v6, val_main_v5, val_main_v2, val_main_v1, val_main_v0]

theorem holds : Cert.algebraic_Kernel11Ideal_Reference11Ideal (hKernel11Ideal := Cert.Kernel11Ideal.Gen.facts) (hReference11Ideal := Cert.Reference11Ideal.Gen.facts) := by
  intro m g m' g' _ hag
  refine ⟨fun c => Cert.Kernel11Ideal.BmmDsw.res m c, ?_, ?_⟩
  · refine (θ_run _ _ _).mono (fun r h c => ?_) (Cert.Kernel11Ideal.Value.run_blocks m g)
    obtain ⟨h0, h1, h2⟩ := h c
    exact ⟨h0.trans (Cert.Kernel11Ideal.BmmDsw.final m c), h1, h2⟩
  · refine (θ_run _ _ _).mono (fun r h c => ?_) (Cert.Reference11Ideal.Value.run (F := Ideal) m' g')
    obtain ⟨h0, h1, h2⟩ := h c
    refine ⟨h0.trans ?_, h1, h2⟩
    refine (val_main_v6_eq _ _).trans ?_
    funext i
    idx_vars i
    refine (ref_at _ _ i0 i1).trans ?_
    rw [(hag c).1, (hag c).2]
    rfl

end Cert.BmmDswClaim

end
-- ==== Proof.BmmDgu.lean ====
/-
  The gradient of the feed-forward's gated halves: what the row blocks leave in the result array, read at an index. The
  kernel goes through the inner columns in eleven chunks, each storing a piece of the gate's gradient and one of the
  other half's.
-/
module

public import proofs.«01_k».proof.Proof.Blocks
public import proofs.«01_k».proof.Proof.Sig
public import Idealize.ShloMosaic.Lib.Pipeline.ValueKit.Tiles
public import proofs.«01_k».proof.Proof.Gen.Kernel12Ideal.Value

@[expose] public section

set_option maxRecDepth 16384

noncomputable section

namespace Cert.Kernel12Ideal.BmmDgu

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl

/-- The product with the transposed weight, of one chunk. -/
theorem pay6_at (d : Vec Ideal S512x1024 .bf16) (w : Vec Ideal S1x256x1024 .bf16) (r : Fin 512) (q : Fin 256) :
    k0_pay6 (F := Ideal) d w (ix2 r q) = ∑ k : Fin 1024, d (ix2 r k) * w (ix3 0 q k) := by
  pointwise [k0_pay6]

theorem pay8_at (g : Vec Ideal S512x256 .bf16) (i : S512x256.Idx) : k0_pay8 (F := Ideal) g i = Sig.hsig (g i) := by
  unfold k0_pay8
  show Ideal.ofBits .f32 0x3F000000#32 * Ideal.tanh (Ideal.ofBits .f32 0x3F000000#32 * g i) + Ideal.ofBits .f32 0x3F000000#32 = _
  rw [Sig.half_bits]
  rfl

/-- The gate's gradient from the product, the gate and the other half. -/
def fg (p g u : EReal) : EReal := p * u * (Sig.hsig g * (1 + g * (1 - Sig.hsig g)))
/-- The other half's. -/
def fu (p g : EReal) : EReal := p * (g * Sig.hsig g)

theorem pay9_at (d : Vec Ideal S512x1024 .bf16) (w : Vec Ideal S1x256x1024 .bf16) (g u : Vec Ideal S512x256 .bf16) (i : S512x256.Idx) :
    k0_pay9 (F := Ideal) d w g u i = fg (k0_pay6 d w i) (g i) (u i) := by
  unfold fg
  rw [← pay8_at, ← Sig.one_bits]; rfl
theorem pay10_at (d : Vec Ideal S512x1024 .bf16) (w : Vec Ideal S1x256x1024 .bf16) (g : Vec Ideal S512x256 .bf16) (i : S512x256.Idx) :
    k0_pay10 (F := Ideal) d w g i = fu (k0_pay6 d w i) (g i) := by
  unfold fu
  rw [← pay8_at]; rfl

/-- A column of the first half and of the second. -/
def ca (q : Fin 2816) : Fin 5632 := ⟨q.val, by omega⟩
def cb (q : Fin 2816) : Fin 5632 := ⟨2816 + q.val, by omega⟩

/-- The product at a column, over the whole weight. -/
def acc (x0 : Vec Ideal S512x1024 .bf16) (x1 : Vec Ideal S1x2816x1024 .bf16) (r : Fin 512) (q : Fin 2816) : EReal :=
  ∑ k : Fin 1024, (x0 (ix2 r k) : EReal) * x1 (ix3 0 q k)

/-- What the block holds at an index. -/
def fn (x0 : Vec Ideal S512x1024 .bf16) (x1 : Vec Ideal S1x2816x1024 .bf16) (x2 : Vec Ideal S512x5632 .bf16) (y : S512x5632.Idx) : EReal :=
  if h : (y 1).val < 2816 then fg (acc x0 x1 (y 0) ⟨(y 1).val, h⟩) (x2 (ix2 (y 0) (ca ⟨(y 1).val, h⟩))) (x2 (ix2 (y 0) (cb ⟨(y 1).val, h⟩)))
  else fu (acc x0 x1 (y 0) ⟨(y 1).val - 2816, by have : (y 1).val < 5632 := (y 1).isLt; omega⟩) (x2 (ix2 (y 0) (ca ⟨(y 1).val - 2816, by have : (y 1).val < 5632 := (y 1).isLt; omega⟩)))

variable (x0 : Vec Ideal S512x1024 .bf16) (x1 : Vec Ideal S1x2816x1024 .bf16) (x2 : Vec Ideal S512x5632 .bf16)

theorem fn_a (r : Fin 512) (q : Fin 2816) : fn x0 x1 x2 (ix2 r (ca q)) = fg (acc x0 x1 r q) (x2 (ix2 r (ca q))) (x2 (ix2 r (cb q))) := by
  have h : (ix2 r (ca q) 1 : Fin 5632).val < 2816 := q.isLt
  unfold fn
  rw [dif_pos h]
  rfl
theorem fn_b (r : Fin 512) (q : Fin 2816) : fn x0 x1 x2 (ix2 r (cb q)) = fu (acc x0 x1 r q) (x2 (ix2 r (ca q))) := by
  have h : ¬ (ix2 r (cb q) 1 : Fin 5632).val < 2816 := by show ¬ 2816 + q.val < 2816; omega
  have e : ∀ w, (⟨(ix2 r (cb q) 1 : Fin 5632).val - 2816, w⟩ : Fin 2816) = q := fun w => Fin.ext (by show 2816 + q.val - 2816 = q.val; omega)
  unfold fn
  rw [dif_neg h]
  simp only [e]
  rfl

theorem ld0 (r : Fin 512) (k : Fin 1024) : View.ld x0 r0_0 (ix2 r k) = x0 (ix2 r k) :=
  congrFun (View.ld_unit_zero (S := S512x1024) z2 _ x0) _

theorem ldw0 (q : Fin 256) (k : Fin 1024) : View.ld x1 r0_1 (ix3 0 q k) = x1 (ix3 0 ⟨0 + q.val, by omega⟩ k) := by
  refine congrArg x1 (funext fun a => Fin.ext ?_)
  match a with
  | ⟨0, _⟩ => rfl
  | ⟨1, _⟩ => show 0 + 1 * q.val = 0 + q.val; omega
  | ⟨2, _⟩ => show 0 + 1 * k.val = k.val; omega
theorem emg0 (r : Fin 512) (q : Fin 256) : (r0_2).emb (ix2 r q) = ix2 r (ca ⟨0 + q.val, by omega⟩) := by
  refine (funext fun a => Fin.ext ?_)
  match a with
  | ⟨0, _⟩ => show 0 + 1 * r.val = r.val; omega
  | ⟨1, _⟩ => show 0 + 1 * q.val = 0 + q.val; omega
theorem emu0 (r : Fin 512) (q : Fin 256) : (r0_3).emb (ix2 r q) = ix2 r (cb ⟨0 + q.val, by omega⟩) := by
  refine (funext fun a => Fin.ext ?_)
  match a with
  | ⟨0, _⟩ => show 0 + 1 * r.val = r.val; omega
  | ⟨1, _⟩ => show 2816 + 1 * q.val = 2816 + (0 + q.val); omega
theorem pr0 (r : Fin 512) (q : Fin 256) : k0_pay6 (F := Ideal) (View.ld x0 r0_0) (View.ld x1 r0_1) (ix2 r q) = acc x0 x1 r ⟨0 + q.val, by omega⟩ := by
  rw [pay6_at]
  exact Finset.sum_congr rfl fun k _ => congrArg₂ (· * ·) (ld0 x0 r k) (ldw0 x1 q k)
/-- Chunk 0: the gate's piece and the other half's. -/
theorem pg0 (y : S512x5632.Idx) : View.RectAt (Val := Elt Ideal) (e := .bf16) y r0_2 (k0_pay9 (F := Ideal) (View.ld x0 r0_0) (View.ld x1 r0_1) (View.ld x2 r0_2) (View.ld x2 r0_3)) (fn x0 x1 x2 y) := by
  intro x hx
  subst hx
  obtain ⟨r, q, rfl⟩ : ∃ (r : Fin 512) (q : Fin 256), x = ix2 r q := ⟨x 0, x 1, eq_ix2 x⟩
  rw [pay9_at, pr0, emg0, fn_a, ← emg0, ← emu0]
  rfl
theorem pu0 (y : S512x5632.Idx) : View.RectAt (Val := Elt Ideal) (e := .bf16) y r0_3 (k0_pay10 (F := Ideal) (View.ld x0 r0_0) (View.ld x1 r0_1) (View.ld x2 r0_2)) (fn x0 x1 x2 y) := by
  intro x hx
  subst hx
  obtain ⟨r, q, rfl⟩ : ∃ (r : Fin 512) (q : Fin 256), x = ix2 r q := ⟨x 0, x 1, eq_ix2 x⟩
  rw [pay10_at, pr0, emu0, fn_b, ← emg0]
  rfl

theorem ldw1 (q : Fin 256) (k : Fin 1024) : View.ld x1 r0_4 (ix3 0 q k) = x1 (ix3 0 ⟨256 + q.val, by omega⟩ k) := by
  refine congrArg x1 (funext fun a => Fin.ext ?_)
  match a with
  | ⟨0, _⟩ => rfl
  | ⟨1, _⟩ => show 256 + 1 * q.val = 256 + q.val; omega
  | ⟨2, _⟩ => show 0 + 1 * k.val = k.val; omega
theorem emg1 (r : Fin 512) (q : Fin 256) : (r0_5).emb (ix2 r q) = ix2 r (ca ⟨256 + q.val, by omega⟩) := by
  refine (funext fun a => Fin.ext ?_)
  match a with
  | ⟨0, _⟩ => show 0 + 1 * r.val = r.val; omega
  | ⟨1, _⟩ => show 256 + 1 * q.val = 256 + q.val; omega
theorem emu1 (r : Fin 512) (q : Fin 256) : (r0_6).emb (ix2 r q) = ix2 r (cb ⟨256 + q.val, by omega⟩) := by
  refine (funext fun a => Fin.ext ?_)
  match a with
  | ⟨0, _⟩ => show 0 + 1 * r.val = r.val; omega
  | ⟨1, _⟩ => show 3072 + 1 * q.val = 2816 + (256 + q.val); omega
theorem pr1 (r : Fin 512) (q : Fin 256) : k0_pay6 (F := Ideal) (View.ld x0 r0_0) (View.ld x1 r0_4) (ix2 r q) = acc x0 x1 r ⟨256 + q.val, by omega⟩ := by
  rw [pay6_at]
  exact Finset.sum_congr rfl fun k _ => congrArg₂ (· * ·) (ld0 x0 r k) (ldw1 x1 q k)
/-- Chunk 1: the gate's piece and the other half's. -/
theorem pg1 (y : S512x5632.Idx) : View.RectAt (Val := Elt Ideal) (e := .bf16) y r0_5 (k0_pay9 (F := Ideal) (View.ld x0 r0_0) (View.ld x1 r0_4) (View.ld x2 r0_5) (View.ld x2 r0_6)) (fn x0 x1 x2 y) := by
  intro x hx
  subst hx
  obtain ⟨r, q, rfl⟩ : ∃ (r : Fin 512) (q : Fin 256), x = ix2 r q := ⟨x 0, x 1, eq_ix2 x⟩
  rw [pay9_at, pr1, emg1, fn_a, ← emg1, ← emu1]
  rfl
theorem pu1 (y : S512x5632.Idx) : View.RectAt (Val := Elt Ideal) (e := .bf16) y r0_6 (k0_pay10 (F := Ideal) (View.ld x0 r0_0) (View.ld x1 r0_4) (View.ld x2 r0_5)) (fn x0 x1 x2 y) := by
  intro x hx
  subst hx
  obtain ⟨r, q, rfl⟩ : ∃ (r : Fin 512) (q : Fin 256), x = ix2 r q := ⟨x 0, x 1, eq_ix2 x⟩
  rw [pay10_at, pr1, emu1, fn_b, ← emg1]
  rfl

theorem ldw2 (q : Fin 256) (k : Fin 1024) : View.ld x1 r0_7 (ix3 0 q k) = x1 (ix3 0 ⟨512 + q.val, by omega⟩ k) := by
  refine congrArg x1 (funext fun a => Fin.ext ?_)
  match a with
  | ⟨0, _⟩ => rfl
  | ⟨1, _⟩ => show 512 + 1 * q.val = 512 + q.val; omega
  | ⟨2, _⟩ => show 0 + 1 * k.val = k.val; omega
theorem emg2 (r : Fin 512) (q : Fin 256) : (r0_8).emb (ix2 r q) = ix2 r (ca ⟨512 + q.val, by omega⟩) := by
  refine (funext fun a => Fin.ext ?_)
  match a with
  | ⟨0, _⟩ => show 0 + 1 * r.val = r.val; omega
  | ⟨1, _⟩ => show 512 + 1 * q.val = 512 + q.val; omega
theorem emu2 (r : Fin 512) (q : Fin 256) : (r0_9).emb (ix2 r q) = ix2 r (cb ⟨512 + q.val, by omega⟩) := by
  refine (funext fun a => Fin.ext ?_)
  match a with
  | ⟨0, _⟩ => show 0 + 1 * r.val = r.val; omega
  | ⟨1, _⟩ => show 3328 + 1 * q.val = 2816 + (512 + q.val); omega
theorem pr2 (r : Fin 512) (q : Fin 256) : k0_pay6 (F := Ideal) (View.ld x0 r0_0) (View.ld x1 r0_7) (ix2 r q) = acc x0 x1 r ⟨512 + q.val, by omega⟩ := by
  rw [pay6_at]
  exact Finset.sum_congr rfl fun k _ => congrArg₂ (· * ·) (ld0 x0 r k) (ldw2 x1 q k)
/-- Chunk 2: the gate's piece and the other half's. -/
theorem pg2 (y : S512x5632.Idx) : View.RectAt (Val := Elt Ideal) (e := .bf16) y r0_8 (k0_pay9 (F := Ideal) (View.ld x0 r0_0) (View.ld x1 r0_7) (View.ld x2 r0_8) (View.ld x2 r0_9)) (fn x0 x1 x2 y) := by
  intro x hx
  subst hx
  obtain ⟨r, q, rfl⟩ : ∃ (r : Fin 512) (q : Fin 256), x = ix2 r q := ⟨x 0, x 1, eq_ix2 x⟩
  rw [pay9_at, pr2, emg2, fn_a, ← emg2, ← emu2]
  rfl
theorem pu2 (y : S512x5632.Idx) : View.RectAt (Val := Elt Ideal) (e := .bf16) y r0_9 (k0_pay10 (F := Ideal) (View.ld x0 r0_0) (View.ld x1 r0_7) (View.ld x2 r0_8)) (fn x0 x1 x2 y) := by
  intro x hx
  subst hx
  obtain ⟨r, q, rfl⟩ : ∃ (r : Fin 512) (q : Fin 256), x = ix2 r q := ⟨x 0, x 1, eq_ix2 x⟩
  rw [pay10_at, pr2, emu2, fn_b, ← emg2]
  rfl

theorem ldw3 (q : Fin 256) (k : Fin 1024) : View.ld x1 r0_10 (ix3 0 q k) = x1 (ix3 0 ⟨768 + q.val, by omega⟩ k) := by
  refine congrArg x1 (funext fun a => Fin.ext ?_)
  match a with
  | ⟨0, _⟩ => rfl
  | ⟨1, _⟩ => show 768 + 1 * q.val = 768 + q.val; omega
  | ⟨2, _⟩ => show 0 + 1 * k.val = k.val; omega
theorem emg3 (r : Fin 512) (q : Fin 256) : (r0_11).emb (ix2 r q) = ix2 r (ca ⟨768 + q.val, by omega⟩) := by
  refine (funext fun a => Fin.ext ?_)
  match a with
  | ⟨0, _⟩ => show 0 + 1 * r.val = r.val; omega
  | ⟨1, _⟩ => show 768 + 1 * q.val = 768 + q.val; omega
theorem emu3 (r : Fin 512) (q : Fin 256) : (r0_12).emb (ix2 r q) = ix2 r (cb ⟨768 + q.val, by omega⟩) := by
  refine (funext fun a => Fin.ext ?_)
  match a with
  | ⟨0, _⟩ => show 0 + 1 * r.val = r.val; omega
  | ⟨1, _⟩ => show 3584 + 1 * q.val = 2816 + (768 + q.val); omega
theorem pr3 (r : Fin 512) (q : Fin 256) : k0_pay6 (F := Ideal) (View.ld x0 r0_0) (View.ld x1 r0_10) (ix2 r q) = acc x0 x1 r ⟨768 + q.val, by omega⟩ := by
  rw [pay6_at]
  exact Finset.sum_congr rfl fun k _ => congrArg₂ (· * ·) (ld0 x0 r k) (ldw3 x1 q k)
/-- Chunk 3: the gate's piece and the other half's. -/
theorem pg3 (y : S512x5632.Idx) : View.RectAt (Val := Elt Ideal) (e := .bf16) y r0_11 (k0_pay9 (F := Ideal) (View.ld x0 r0_0) (View.ld x1 r0_10) (View.ld x2 r0_11) (View.ld x2 r0_12)) (fn x0 x1 x2 y) := by
  intro x hx
  subst hx
  obtain ⟨r, q, rfl⟩ : ∃ (r : Fin 512) (q : Fin 256), x = ix2 r q := ⟨x 0, x 1, eq_ix2 x⟩
  rw [pay9_at, pr3, emg3, fn_a, ← emg3, ← emu3]
  rfl
theorem pu3 (y : S512x5632.Idx) : View.RectAt (Val := Elt Ideal) (e := .bf16) y r0_12 (k0_pay10 (F := Ideal) (View.ld x0 r0_0) (View.ld x1 r0_10) (View.ld x2 r0_11)) (fn x0 x1 x2 y) := by
  intro x hx
  subst hx
  obtain ⟨r, q, rfl⟩ : ∃ (r : Fin 512) (q : Fin 256), x = ix2 r q := ⟨x 0, x 1, eq_ix2 x⟩
  rw [pay10_at, pr3, emu3, fn_b, ← emg3]
  rfl

theorem ldw4 (q : Fin 256) (k : Fin 1024) : View.ld x1 r0_13 (ix3 0 q k) = x1 (ix3 0 ⟨1024 + q.val, by omega⟩ k) := by
  refine congrArg x1 (funext fun a => Fin.ext ?_)
  match a with
  | ⟨0, _⟩ => rfl
  | ⟨1, _⟩ => show 1024 + 1 * q.val = 1024 + q.val; omega
  | ⟨2, _⟩ => show 0 + 1 * k.val = k.val; omega
theorem emg4 (r : Fin 512) (q : Fin 256) : (r0_14).emb (ix2 r q) = ix2 r (ca ⟨1024 + q.val, by omega⟩) := by
  refine (funext fun a => Fin.ext ?_)
  match a with
  | ⟨0, _⟩ => show 0 + 1 * r.val = r.val; omega
  | ⟨1, _⟩ => show 1024 + 1 * q.val = 1024 + q.val; omega
theorem emu4 (r : Fin 512) (q : Fin 256) : (r0_15).emb (ix2 r q) = ix2 r (cb ⟨1024 + q.val, by omega⟩) := by
  refine (funext fun a => Fin.ext ?_)
  match a with
  | ⟨0, _⟩ => show 0 + 1 * r.val = r.val; omega
  | ⟨1, _⟩ => show 3840 + 1 * q.val = 2816 + (1024 + q.val); omega
theorem pr4 (r : Fin 512) (q : Fin 256) : k0_pay6 (F := Ideal) (View.ld x0 r0_0) (View.ld x1 r0_13) (ix2 r q) = acc x0 x1 r ⟨1024 + q.val, by omega⟩ := by
  rw [pay6_at]
  exact Finset.sum_congr rfl fun k _ => congrArg₂ (· * ·) (ld0 x0 r k) (ldw4 x1 q k)
/-- Chunk 4: the gate's piece and the other half's. -/
theorem pg4 (y : S512x5632.Idx) : View.RectAt (Val := Elt Ideal) (e := .bf16) y r0_14 (k0_pay9 (F := Ideal) (View.ld x0 r0_0) (View.ld x1 r0_13) (View.ld x2 r0_14) (View.ld x2 r0_15)) (fn x0 x1 x2 y) := by
  intro x hx
  subst hx
  obtain ⟨r, q, rfl⟩ : ∃ (r : Fin 512) (q : Fin 256), x = ix2 r q := ⟨x 0, x 1, eq_ix2 x⟩
  rw [pay9_at, pr4, emg4, fn_a, ← emg4, ← emu4]
  rfl
theorem pu4 (y : S512x5632.Idx) : View.RectAt (Val := Elt Ideal) (e := .bf16) y r0_15 (k0_pay10 (F := Ideal) (View.ld x0 r0_0) (View.ld x1 r0_13) (View.ld x2 r0_14)) (fn x0 x1 x2 y) := by
  intro x hx
  subst hx
  obtain ⟨r, q, rfl⟩ : ∃ (r : Fin 512) (q : Fin 256), x = ix2 r q := ⟨x 0, x 1, eq_ix2 x⟩
  rw [pay10_at, pr4, emu4, fn_b, ← emg4]
  rfl

theorem ldw5 (q : Fin 256) (k : Fin 1024) : View.ld x1 r0_16 (ix3 0 q k) = x1 (ix3 0 ⟨1280 + q.val, by omega⟩ k) := by
  refine congrArg x1 (funext fun a => Fin.ext ?_)
  match a with
  | ⟨0, _⟩ => rfl
  | ⟨1, _⟩ => show 1280 + 1 * q.val = 1280 + q.val; omega
  | ⟨2, _⟩ => show 0 + 1 * k.val = k.val; omega
theorem emg5 (r : Fin 512) (q : Fin 256) : (r0_17).emb (ix2 r q) = ix2 r (ca ⟨1280 + q.val, by omega⟩) := by
  refine (funext fun a => Fin.ext ?_)
  match a with
  | ⟨0, _⟩ => show 0 + 1 * r.val = r.val; omega
  | ⟨1, _⟩ => show 1280 + 1 * q.val = 1280 + q.val; omega
theorem emu5 (r : Fin 512) (q : Fin 256) : (r0_18).emb (ix2 r q) = ix2 r (cb ⟨1280 + q.val, by omega⟩) := by
  refine (funext fun a => Fin.ext ?_)
  match a with
  | ⟨0, _⟩ => show 0 + 1 * r.val = r.val; omega
  | ⟨1, _⟩ => show 4096 + 1 * q.val = 2816 + (1280 + q.val); omega
theorem pr5 (r : Fin 512) (q : Fin 256) : k0_pay6 (F := Ideal) (View.ld x0 r0_0) (View.ld x1 r0_16) (ix2 r q) = acc x0 x1 r ⟨1280 + q.val, by omega⟩ := by
  rw [pay6_at]
  exact Finset.sum_congr rfl fun k _ => congrArg₂ (· * ·) (ld0 x0 r k) (ldw5 x1 q k)
/-- Chunk 5: the gate's piece and the other half's. -/
theorem pg5 (y : S512x5632.Idx) : View.RectAt (Val := Elt Ideal) (e := .bf16) y r0_17 (k0_pay9 (F := Ideal) (View.ld x0 r0_0) (View.ld x1 r0_16) (View.ld x2 r0_17) (View.ld x2 r0_18)) (fn x0 x1 x2 y) := by
  intro x hx
  subst hx
  obtain ⟨r, q, rfl⟩ : ∃ (r : Fin 512) (q : Fin 256), x = ix2 r q := ⟨x 0, x 1, eq_ix2 x⟩
  rw [pay9_at, pr5, emg5, fn_a, ← emg5, ← emu5]
  rfl
theorem pu5 (y : S512x5632.Idx) : View.RectAt (Val := Elt Ideal) (e := .bf16) y r0_18 (k0_pay10 (F := Ideal) (View.ld x0 r0_0) (View.ld x1 r0_16) (View.ld x2 r0_17)) (fn x0 x1 x2 y) := by
  intro x hx
  subst hx
  obtain ⟨r, q, rfl⟩ : ∃ (r : Fin 512) (q : Fin 256), x = ix2 r q := ⟨x 0, x 1, eq_ix2 x⟩
  rw [pay10_at, pr5, emu5, fn_b, ← emg5]
  rfl

theorem ldw6 (q : Fin 256) (k : Fin 1024) : View.ld x1 r0_19 (ix3 0 q k) = x1 (ix3 0 ⟨1536 + q.val, by omega⟩ k) := by
  refine congrArg x1 (funext fun a => Fin.ext ?_)
  match a with
  | ⟨0, _⟩ => rfl
  | ⟨1, _⟩ => show 1536 + 1 * q.val = 1536 + q.val; omega
  | ⟨2, _⟩ => show 0 + 1 * k.val = k.val; omega
theorem emg6 (r : Fin 512) (q : Fin 256) : (r0_20).emb (ix2 r q) = ix2 r (ca ⟨1536 + q.val, by omega⟩) := by
  refine (funext fun a => Fin.ext ?_)
  match a with
  | ⟨0, _⟩ => show 0 + 1 * r.val = r.val; omega
  | ⟨1, _⟩ => show 1536 + 1 * q.val = 1536 + q.val; omega
theorem emu6 (r : Fin 512) (q : Fin 256) : (r0_21).emb (ix2 r q) = ix2 r (cb ⟨1536 + q.val, by omega⟩) := by
  refine (funext fun a => Fin.ext ?_)
  match a with
  | ⟨0, _⟩ => show 0 + 1 * r.val = r.val; omega
  | ⟨1, _⟩ => show 4352 + 1 * q.val = 2816 + (1536 + q.val); omega
theorem pr6 (r : Fin 512) (q : Fin 256) : k0_pay6 (F := Ideal) (View.ld x0 r0_0) (View.ld x1 r0_19) (ix2 r q) = acc x0 x1 r ⟨1536 + q.val, by omega⟩ := by
  rw [pay6_at]
  exact Finset.sum_congr rfl fun k _ => congrArg₂ (· * ·) (ld0 x0 r k) (ldw6 x1 q k)
/-- Chunk 6: the gate's piece and the other half's. -/
theorem pg6 (y : S512x5632.Idx) : View.RectAt (Val := Elt Ideal) (e := .bf16) y r0_20 (k0_pay9 (F := Ideal) (View.ld x0 r0_0) (View.ld x1 r0_19) (View.ld x2 r0_20) (View.ld x2 r0_21)) (fn x0 x1 x2 y) := by
  intro x hx
  subst hx
  obtain ⟨r, q, rfl⟩ : ∃ (r : Fin 512) (q : Fin 256), x = ix2 r q := ⟨x 0, x 1, eq_ix2 x⟩
  rw [pay9_at, pr6, emg6, fn_a, ← emg6, ← emu6]
  rfl
theorem pu6 (y : S512x5632.Idx) : View.RectAt (Val := Elt Ideal) (e := .bf16) y r0_21 (k0_pay10 (F := Ideal) (View.ld x0 r0_0) (View.ld x1 r0_19) (View.ld x2 r0_20)) (fn x0 x1 x2 y) := by
  intro x hx
  subst hx
  obtain ⟨r, q, rfl⟩ : ∃ (r : Fin 512) (q : Fin 256), x = ix2 r q := ⟨x 0, x 1, eq_ix2 x⟩
  rw [pay10_at, pr6, emu6, fn_b, ← emg6]
  rfl

theorem ldw7 (q : Fin 256) (k : Fin 1024) : View.ld x1 r0_22 (ix3 0 q k) = x1 (ix3 0 ⟨1792 + q.val, by omega⟩ k) := by
  refine congrArg x1 (funext fun a => Fin.ext ?_)
  match a with
  | ⟨0, _⟩ => rfl
  | ⟨1, _⟩ => show 1792 + 1 * q.val = 1792 + q.val; omega
  | ⟨2, _⟩ => show 0 + 1 * k.val = k.val; omega
theorem emg7 (r : Fin 512) (q : Fin 256) : (r0_23).emb (ix2 r q) = ix2 r (ca ⟨1792 + q.val, by omega⟩) := by
  refine (funext fun a => Fin.ext ?_)
  match a with
  | ⟨0, _⟩ => show 0 + 1 * r.val = r.val; omega
  | ⟨1, _⟩ => show 1792 + 1 * q.val = 1792 + q.val; omega
theorem emu7 (r : Fin 512) (q : Fin 256) : (r0_24).emb (ix2 r q) = ix2 r (cb ⟨1792 + q.val, by omega⟩) := by
  refine (funext fun a => Fin.ext ?_)
  match a with
  | ⟨0, _⟩ => show 0 + 1 * r.val = r.val; omega
  | ⟨1, _⟩ => show 4608 + 1 * q.val = 2816 + (1792 + q.val); omega
theorem pr7 (r : Fin 512) (q : Fin 256) : k0_pay6 (F := Ideal) (View.ld x0 r0_0) (View.ld x1 r0_22) (ix2 r q) = acc x0 x1 r ⟨1792 + q.val, by omega⟩ := by
  rw [pay6_at]
  exact Finset.sum_congr rfl fun k _ => congrArg₂ (· * ·) (ld0 x0 r k) (ldw7 x1 q k)
/-- Chunk 7: the gate's piece and the other half's. -/
theorem pg7 (y : S512x5632.Idx) : View.RectAt (Val := Elt Ideal) (e := .bf16) y r0_23 (k0_pay9 (F := Ideal) (View.ld x0 r0_0) (View.ld x1 r0_22) (View.ld x2 r0_23) (View.ld x2 r0_24)) (fn x0 x1 x2 y) := by
  intro x hx
  subst hx
  obtain ⟨r, q, rfl⟩ : ∃ (r : Fin 512) (q : Fin 256), x = ix2 r q := ⟨x 0, x 1, eq_ix2 x⟩
  rw [pay9_at, pr7, emg7, fn_a, ← emg7, ← emu7]
  rfl
theorem pu7 (y : S512x5632.Idx) : View.RectAt (Val := Elt Ideal) (e := .bf16) y r0_24 (k0_pay10 (F := Ideal) (View.ld x0 r0_0) (View.ld x1 r0_22) (View.ld x2 r0_23)) (fn x0 x1 x2 y) := by
  intro x hx
  subst hx
  obtain ⟨r, q, rfl⟩ : ∃ (r : Fin 512) (q : Fin 256), x = ix2 r q := ⟨x 0, x 1, eq_ix2 x⟩
  rw [pay10_at, pr7, emu7, fn_b, ← emg7]
  rfl

theorem ldw8 (q : Fin 256) (k : Fin 1024) : View.ld x1 r0_25 (ix3 0 q k) = x1 (ix3 0 ⟨2048 + q.val, by omega⟩ k) := by
  refine congrArg x1 (funext fun a => Fin.ext ?_)
  match a with
  | ⟨0, _⟩ => rfl
  | ⟨1, _⟩ => show 2048 + 1 * q.val = 2048 + q.val; omega
  | ⟨2, _⟩ => show 0 + 1 * k.val = k.val; omega
theorem emg8 (r : Fin 512) (q : Fin 256) : (r0_26).emb (ix2 r q) = ix2 r (ca ⟨2048 + q.val, by omega⟩) := by
  refine (funext fun a => Fin.ext ?_)
  match a with
  | ⟨0, _⟩ => show 0 + 1 * r.val = r.val; omega
  | ⟨1, _⟩ => show 2048 + 1 * q.val = 2048 + q.val; omega
theorem emu8 (r : Fin 512) (q : Fin 256) : (r0_27).emb (ix2 r q) = ix2 r (cb ⟨2048 + q.val, by omega⟩) := by
  refine (funext fun a => Fin.ext ?_)
  match a with
  | ⟨0, _⟩ => show 0 + 1 * r.val = r.val; omega
  | ⟨1, _⟩ => show 4864 + 1 * q.val = 2816 + (2048 + q.val); omega
theorem pr8 (r : Fin 512) (q : Fin 256) : k0_pay6 (F := Ideal) (View.ld x0 r0_0) (View.ld x1 r0_25) (ix2 r q) = acc x0 x1 r ⟨2048 + q.val, by omega⟩ := by
  rw [pay6_at]
  exact Finset.sum_congr rfl fun k _ => congrArg₂ (· * ·) (ld0 x0 r k) (ldw8 x1 q k)
/-- Chunk 8: the gate's piece and the other half's. -/
theorem pg8 (y : S512x5632.Idx) : View.RectAt (Val := Elt Ideal) (e := .bf16) y r0_26 (k0_pay9 (F := Ideal) (View.ld x0 r0_0) (View.ld x1 r0_25) (View.ld x2 r0_26) (View.ld x2 r0_27)) (fn x0 x1 x2 y) := by
  intro x hx
  subst hx
  obtain ⟨r, q, rfl⟩ : ∃ (r : Fin 512) (q : Fin 256), x = ix2 r q := ⟨x 0, x 1, eq_ix2 x⟩
  rw [pay9_at, pr8, emg8, fn_a, ← emg8, ← emu8]
  rfl
theorem pu8 (y : S512x5632.Idx) : View.RectAt (Val := Elt Ideal) (e := .bf16) y r0_27 (k0_pay10 (F := Ideal) (View.ld x0 r0_0) (View.ld x1 r0_25) (View.ld x2 r0_26)) (fn x0 x1 x2 y) := by
  intro x hx
  subst hx
  obtain ⟨r, q, rfl⟩ : ∃ (r : Fin 512) (q : Fin 256), x = ix2 r q := ⟨x 0, x 1, eq_ix2 x⟩
  rw [pay10_at, pr8, emu8, fn_b, ← emg8]
  rfl

theorem ldw9 (q : Fin 256) (k : Fin 1024) : View.ld x1 r0_28 (ix3 0 q k) = x1 (ix3 0 ⟨2304 + q.val, by omega⟩ k) := by
  refine congrArg x1 (funext fun a => Fin.ext ?_)
  match a with
  | ⟨0, _⟩ => rfl
  | ⟨1, _⟩ => show 2304 + 1 * q.val = 2304 + q.val; omega
  | ⟨2, _⟩ => show 0 + 1 * k.val = k.val; omega
theorem emg9 (r : Fin 512) (q : Fin 256) : (r0_29).emb (ix2 r q) = ix2 r (ca ⟨2304 + q.val, by omega⟩) := by
  refine (funext fun a => Fin.ext ?_)
  match a with
  | ⟨0, _⟩ => show 0 + 1 * r.val = r.val; omega
  | ⟨1, _⟩ => show 2304 + 1 * q.val = 2304 + q.val; omega
theorem emu9 (r : Fin 512) (q : Fin 256) : (r0_30).emb (ix2 r q) = ix2 r (cb ⟨2304 + q.val, by omega⟩) := by
  refine (funext fun a => Fin.ext ?_)
  match a with
  | ⟨0, _⟩ => show 0 + 1 * r.val = r.val; omega
  | ⟨1, _⟩ => show 5120 + 1 * q.val = 2816 + (2304 + q.val); omega
theorem pr9 (r : Fin 512) (q : Fin 256) : k0_pay6 (F := Ideal) (View.ld x0 r0_0) (View.ld x1 r0_28) (ix2 r q) = acc x0 x1 r ⟨2304 + q.val, by omega⟩ := by
  rw [pay6_at]
  exact Finset.sum_congr rfl fun k _ => congrArg₂ (· * ·) (ld0 x0 r k) (ldw9 x1 q k)
/-- Chunk 9: the gate's piece and the other half's. -/
theorem pg9 (y : S512x5632.Idx) : View.RectAt (Val := Elt Ideal) (e := .bf16) y r0_29 (k0_pay9 (F := Ideal) (View.ld x0 r0_0) (View.ld x1 r0_28) (View.ld x2 r0_29) (View.ld x2 r0_30)) (fn x0 x1 x2 y) := by
  intro x hx
  subst hx
  obtain ⟨r, q, rfl⟩ : ∃ (r : Fin 512) (q : Fin 256), x = ix2 r q := ⟨x 0, x 1, eq_ix2 x⟩
  rw [pay9_at, pr9, emg9, fn_a, ← emg9, ← emu9]
  rfl
theorem pu9 (y : S512x5632.Idx) : View.RectAt (Val := Elt Ideal) (e := .bf16) y r0_30 (k0_pay10 (F := Ideal) (View.ld x0 r0_0) (View.ld x1 r0_28) (View.ld x2 r0_29)) (fn x0 x1 x2 y) := by
  intro x hx
  subst hx
  obtain ⟨r, q, rfl⟩ : ∃ (r : Fin 512) (q : Fin 256), x = ix2 r q := ⟨x 0, x 1, eq_ix2 x⟩
  rw [pay10_at, pr9, emu9, fn_b, ← emg9]
  rfl

theorem ldw10 (q : Fin 256) (k : Fin 1024) : View.ld x1 r0_31 (ix3 0 q k) = x1 (ix3 0 ⟨2560 + q.val, by omega⟩ k) := by
  refine congrArg x1 (funext fun a => Fin.ext ?_)
  match a with
  | ⟨0, _⟩ => rfl
  | ⟨1, _⟩ => show 2560 + 1 * q.val = 2560 + q.val; omega
  | ⟨2, _⟩ => show 0 + 1 * k.val = k.val; omega
theorem emg10 (r : Fin 512) (q : Fin 256) : (r0_32).emb (ix2 r q) = ix2 r (ca ⟨2560 + q.val, by omega⟩) := by
  refine (funext fun a => Fin.ext ?_)
  match a with
  | ⟨0, _⟩ => show 0 + 1 * r.val = r.val; omega
  | ⟨1, _⟩ => show 2560 + 1 * q.val = 2560 + q.val; omega
theorem emu10 (r : Fin 512) (q : Fin 256) : (r0_33).emb (ix2 r q) = ix2 r (cb ⟨2560 + q.val, by omega⟩) := by
  refine (funext fun a => Fin.ext ?_)
  match a with
  | ⟨0, _⟩ => show 0 + 1 * r.val = r.val; omega
  | ⟨1, _⟩ => show 5376 + 1 * q.val = 2816 + (2560 + q.val); omega
theorem pr10 (r : Fin 512) (q : Fin 256) : k0_pay6 (F := Ideal) (View.ld x0 r0_0) (View.ld x1 r0_31) (ix2 r q) = acc x0 x1 r ⟨2560 + q.val, by omega⟩ := by
  rw [pay6_at]
  exact Finset.sum_congr rfl fun k _ => congrArg₂ (· * ·) (ld0 x0 r k) (ldw10 x1 q k)
/-- Chunk 10: the gate's piece and the other half's. -/
theorem pg10 (y : S512x5632.Idx) : View.RectAt (Val := Elt Ideal) (e := .bf16) y r0_32 (k0_pay9 (F := Ideal) (View.ld x0 r0_0) (View.ld x1 r0_31) (View.ld x2 r0_32) (View.ld x2 r0_33)) (fn x0 x1 x2 y) := by
  intro x hx
  subst hx
  obtain ⟨r, q, rfl⟩ : ∃ (r : Fin 512) (q : Fin 256), x = ix2 r q := ⟨x 0, x 1, eq_ix2 x⟩
  rw [pay9_at, pr10, emg10, fn_a, ← emg10, ← emu10]
  rfl
theorem pu10 (y : S512x5632.Idx) : View.RectAt (Val := Elt Ideal) (e := .bf16) y r0_33 (k0_pay10 (F := Ideal) (View.ld x0 r0_0) (View.ld x1 r0_31) (View.ld x2 r0_32)) (fn x0 x1 x2 y) := by
  intro x hx
  subst hx
  obtain ⟨r, q, rfl⟩ : ∃ (r : Fin 512) (q : Fin 256), x = ix2 r q := ⟨x 0, x 1, eq_ix2 x⟩
  rw [pay10_at, pr10, emu10, fn_b, ← emg10]
  rfl

/-- A block at an index: the twenty-two pieces. -/
theorem out_at (y : S512x5632.Idx) : out0_3 (F := Ideal) x0 x1 x2 y = fn x0 x1 x2 y := by
  unfold out0_3
  refine View.canon_eq_of_allAt _ y _ (cover0_3 _ _ _ _ _ _ _ _ _ _ _ _ _ _ _ _ _ _ _ _ _ _ y) ?_
  exact (View.allAt_cons _ _ _ (pu10 x0 x1 x2 y) (View.allAt_cons _ _ _ (pg10 x0 x1 x2 y) (View.allAt_cons _ _ _ (pu9 x0 x1 x2 y) (View.allAt_cons _ _ _ (pg9 x0 x1 x2 y) (View.allAt_cons _ _ _ (pu8 x0 x1 x2 y) (View.allAt_cons _ _ _ (pg8 x0 x1 x2 y) (View.allAt_cons _ _ _ (pu7 x0 x1 x2 y) (View.allAt_cons _ _ _ (pg7 x0 x1 x2 y) (View.allAt_cons _ _ _ (pu6 x0 x1 x2 y) (View.allAt_cons _ _ _ (pg6 x0 x1 x2 y) (View.allAt_cons _ _ _ (pu5 x0 x1 x2 y) (View.allAt_cons _ _ _ (pg5 x0 x1 x2 y) (View.allAt_cons _ _ _ (pu4 x0 x1 x2 y) (View.allAt_cons _ _ _ (pg4 x0 x1 x2 y) (View.allAt_cons _ _ _ (pu3 x0 x1 x2 y) (View.allAt_cons _ _ _ (pg3 x0 x1 x2 y) (View.allAt_cons _ _ _ (pu2 x0 x1 x2 y) (View.allAt_cons _ _ _ (pg2 x0 x1 x2 y) (View.allAt_cons _ _ _ (pu1 x0 x1 x2 y) (View.allAt_cons _ _ _ (pg1 x0 x1 x2 y) (View.allAt_cons _ _ _ (pu0 x0 x1 x2 y) (View.allAt_cons _ _ _ (pg0 x0 x1 x2 y) (View.allAt_nil y _)))))))))))))))))))))))

theorem idx0 (t : Fin cfg0.N) : win0_0.index t 0 = t.val ∧ win0_0.index t 1 = 0 := by
  revert t; decide +kernel
theorem idx1 (t : Fin cfg0.N) : win0_1.index t 0 = 0 ∧ win0_1.index t 1 = 0 ∧ win0_1.index t 2 = 0 := by
  revert t; decide +kernel
theorem idx2 (t : Fin cfg0.N) : win0_2.index t 0 = t.val ∧ win0_2.index t 1 = 0 := by
  revert t; decide +kernel
theorem idxo (t : Fin cfg0.N) : win0_3.index t 0 = t.val ∧ win0_3.index t 1 = 0 := by
  revert t; decide +kernel

/-- The row of the whole array that row `r` of point `t`'s block is. -/
def row (t : Fin cfg0.N) (r : Fin 512) : Fin 8192 :=
  ⟨512 * t.val + r.val, by have h : cfg0.N = 16 := N_0; have := t.isLt; have := r.isLt; omega⟩

theorem iblk0 (c : Dev nD) (t : Fin cfg0.N) (r : Fin 512) (k : Fin 1024) :
    (iblk m c 0 t : Vec Ideal S512x1024 .bf16) (ix2 r k) = m ((c : Thread nD τ).loc main_arg0) (ix2 (row t r) k) := by
  unfold iblk
  rw [View.read_apply]
  show V m c main_arg0 _ = m (c.tc.loc main_arg0) _
  rw [V_main_arg0 m c]
  refine congrArg (m (c.tc.loc main_arg0)) (funext fun a => Fin.ext ?_)
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem iblk1 (c : Dev nD) (t : Fin cfg0.N) (k : Fin 2816) (q : Fin 1024) :
    (iblk m c 1 t : Vec Ideal S1x2816x1024 .bf16) (ix3 0 k q) = m ((c : Thread nD τ).loc main_arg1) (ix2 k q) := by
  unfold iblk
  rw [View.read_apply]
  show V m c main_v0 _ = m (c.tc.loc main_arg1) _
  refine (congrFun (show V m c main_v0 = broadcastInDim S1x2816x1024 ![1, 2] bcast_S2816x1024_S1x2816x1024_1_2 (m (c.tc.loc main_arg1)) from rfl) _).trans ?_
  refine congrArg (m (c.tc.loc main_arg1)) (funext fun a => Fin.ext ?_)
  match a with
  | ⟨0, _⟩ => show win0_1.index t 1 * 2816 + 1 * k.val = k.val; rw [(idx1 t).2.1]; omega
  | ⟨1, _⟩ => show win0_1.index t 2 * 1024 + 1 * q.val = q.val; rw [(idx1 t).2.2]; omega

theorem iblk2 (c : Dev nD) (t : Fin cfg0.N) (r : Fin 512) (k : Fin 5632) :
    (iblk m c 2 t : Vec Ideal S512x5632 .bf16) (ix2 r k) = m ((c : Thread nD τ).loc main_arg2) (ix2 (row t r) k) := by
  unfold iblk
  rw [View.read_apply]
  show V m c main_arg2 _ = m (c.tc.loc main_arg2) _
  rw [V_main_arg2 m c]
  refine congrArg (m (c.tc.loc main_arg2)) (funext fun a => Fin.ext ?_)
  match a with
  | ⟨0, _⟩ => show win0_2.index t 0 * 512 + 1 * r.val = 512 * t.val + r.val; rw [(idx2 t).1]; omega
  | ⟨1, _⟩ => show win0_2.index t 1 * 5632 + 1 * k.val = k.val; rw [(idx2 t).2]; omega

/-- The operands as tables of extended reals. -/
def X0 (c : Dev nD) : (⟨2, ![8192, 1024]⟩ : Shape).Idx → EReal := m ((c : Thread nD τ).loc main_arg0)
def X1 (c : Dev nD) : (⟨2, ![2816, 1024]⟩ : Shape).Idx → EReal := m ((c : Thread nD τ).loc main_arg1)
def X2 (c : Dev nD) : (⟨2, ![8192, 5632]⟩ : Shape).Idx → EReal := m ((c : Thread nD τ).loc main_arg2)

/-- The whole product. -/
def prod (a : (⟨2, ![8192, 1024]⟩ : Shape).Idx → EReal) (b : (⟨2, ![2816, 1024]⟩ : Shape).Idx → EReal) (r : Fin 8192) (q : Fin 2816) : EReal :=
  ∑ k : Fin 1024, a (ix2 r k) * b (ix2 q k)

/-- The result array of three tables. -/
def val (a : (⟨2, ![8192, 1024]⟩ : Shape).Idx → EReal) (b : (⟨2, ![2816, 1024]⟩ : Shape).Idx → EReal) (g : (⟨2, ![8192, 5632]⟩ : Shape).Idx → EReal)
    (r : Fin 8192) (q : Fin 5632) : EReal :=
  if h : q.val < 2816 then fg (prod a b r ⟨q.val, h⟩) (g (ix2 r (ca ⟨q.val, h⟩))) (g (ix2 r (cb ⟨q.val, h⟩)))
  else fu (prod a b r ⟨q.val - 2816, by omega⟩) (g (ix2 r (ca ⟨q.val - 2816, by omega⟩)))

theorem acc_at (c : Dev nD) (t : Fin cfg0.N) (r : Fin 512) (q : Fin 2816) :
    acc (iblk m c 0 t) (iblk m c 1 t) r q = prod (X0 m c) (X1 m c) (row t r) q := by
  unfold acc
  simp only [iblk0, iblk1]
  rfl

theorem blk_at (c : Dev nD) (t : Fin cfg0.N) (r : Fin 512) (q : Fin 5632) :
    out0_3 (F := Ideal) (iblk m c 0 t) (iblk m c 1 t) (iblk m c 2 t) (ix2 r q) = val (X0 m c) (X1 m c) (X2 m c) (row t r) q := by
  rw [out_at]
  unfold fn val
  by_cases h : q.val < 2816
  · rw [dif_pos h, dif_pos (show (ix2 r q 1 : Fin 5632).val < 2816 from h)]
    refine congr (congr (congrArg fg ?_) ?_) ?_
    · exact acc_at m c t r ⟨q.val, h⟩
    · exact iblk2 m c t r (ca ⟨q.val, h⟩)
    · exact iblk2 m c t r (cb ⟨q.val, h⟩)
  · rw [dif_neg h, dif_neg (show ¬ (ix2 r q 1 : Fin 5632).val < 2816 from h)]
    refine congr (congrArg fu ?_) ?_
    · exact acc_at m c t r ⟨q.val - 2816, _⟩
    · exact iblk2 m c t r (ca ⟨q.val - 2816, _⟩)

/-- The result array. -/
def res (c : Dev nD) : (⟨2, ![8192, 5632]⟩ : Shape).Idx → EReal := fun i => val (X0 m c) (X1 m c) (X2 m c) (i 0) (i 1)

theorem final (c : Dev nD) : (dats m 0 c).arrAt 3 cfg0.N = res m c :=
  (dats m 0 c).arrAt_eq_of_cover 3 (res m c) (fun t hf => by
    rw [Value.flushed3]
    funext y
    idx_vars y
    refine (blk_at m c t y0 y1).trans ?_
    rw [View.read_apply]
    unfold res
    congr 1
    · apply Fin.ext
      show 512 * t.val + y0.val = win0_3.index t 0 * 512 + 1 * y0.val; rw [(idxo t).1]; omega
    · apply Fin.ext
      show y1.val = win0_3.index t 1 * 5632 + 1 * y1.val; rw [(idxo t).2]; omega) fun i => by
    have h0 : (i 0 : Nat) < 8192 := (i 0).isLt
    have h1 : (i 1 : Nat) < 5632 := (i 1).isLt
    have hN : cfg0.N = 16 := N_0
    obtain ⟨t, ht⟩ : ∃ t : Fin cfg0.N, t.val = (i 0).val / 512 := ⟨⟨(i 0).val / 512, by omega⟩, rfl⟩
    refine ⟨t, flush0_3 t, ?_⟩
    show i ∈ ((View.whole main_v1).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; rw [(idxo t).1]; omega
    | ⟨1, _⟩ => show win0_3.index t 1 * 5632 ≤ (i 1 : Nat) ∧ (i 1 : Nat) < win0_3.index t 1 * 5632 + 5632; rw [(idxo t).2]; omega

end Cert.Kernel12Ideal.BmmDgu

end
-- ==== Proof.BmmDguClaim.lean ====
/-
  The gradient of the feed-forward's gated halves: the claim that on finite arguments the kernel and the reference agree.
  The reference sums two products where the kernel has one product of a sum.
-/
module

public import proofs.«01_k».proof.Defs
public import proofs.«01_k».proof.Proof.AttnPre
public import proofs.«01_k».proof.Proof.BmmDgu
public import proofs.«01_k».proof.Proof.Gen.Reference12Ideal.Read

@[expose] public section

set_option maxRecDepth 16384

noncomputable section

namespace Cert.BmmDguClaim

open Idealize.ShloMosaic Idealize.ShloMosaic.TcCoe Idealize.SL.Sem
open Cert.Reference12Ideal.Read Cert.Kernel12Ideal.BmmDgu

theorem pre_facts : Cert.Pre_finite_gu.Facts := by constructor <;> decide

theorem bounded (x : EReal) (h : Ideal.cmp .olt (max x (-x)) (Scalar.ofBits (F := Ideal) .f32 0x7F800000#32) = 1#1) : x ≠ ⊤ ∧ x ≠ ⊥ := by
  rw [show (Scalar.ofBits (F := Ideal) .f32 0x7F800000#32 : EReal) = ⊤ from by
    show Ideal.ofBits .f32 0x7F800000#32 = ⊤
    simp [Ideal.ofBits, Ideal.ieee]] at h
  have h := (Ideal.cmp_olt_eq_one _ _).mp h
  constructor
  · rintro rfl
    simp at h
  · rintro rfl
    simp at h

/-- What the precondition says. -/
theorem finite [Cert.Pre_finite_gu.Facts] (a : FVec Ideal Cert.Pre_finite_gu.S8192x1024 .bf16) (b : FVec Ideal Cert.Pre_finite_gu.S2816x1024 .bf16) (g : FVec Ideal Cert.Pre_finite_gu.S8192x5632 .bf16)
    (h : Cert.Pre_finite_gu.fn (F := Ideal) a b g = fun _ => 1#1) :
    (∀ i, (a i : EReal) ≠ ⊤ ∧ (a i : EReal) ≠ ⊥) ∧ (∀ i, (b i : EReal) ≠ ⊤ ∧ (b i : EReal) ≠ ⊥) ∧ (∀ i, (g i : EReal) ≠ ⊤ ∧ (g i : EReal) ≠ ⊥) := by
  have h := congrFun h (fun a : Fin 0 => a.elim0)
  unfold Cert.Pre_finite_gu.fn at h
  dsimp only at h
  obtain ⟨h01, e2⟩ := IntOp.andi_eq_one.1 h
  obtain ⟨e0, e1⟩ := IntOp.andi_eq_one.1 h01
  exact ⟨fun i => bounded _ (Host.reduce_andi_all _ _ _ _ _ e0 i), fun i => bounded _ (Host.reduce_andi_all _ _ _ _ _ e1 i),
    fun i => bounded _ (Host.reduce_andi_all _ _ _ _ _ e2 i)⟩

/-- On reals the two forms of the gate's gradient are one. -/
theorem gate_eq (p g u : ℝ) : (p : EReal) * u * Sig.hsig g + (g : EReal) * ((p : EReal) * u) * (Sig.hsig g * (1 - Sig.hsig g)) = fg p g u := by
  unfold fg
  rw [Sig.hsig_coe]
  generalize (1 + Real.exp (-g))⁻¹ = s
  have e1 : (1 : EReal) = ((1 : ℝ) : EReal) := rfl
  rw [e1]
  norm_cast
  ring

variable (a : (⟨Cert.Reference12Ideal.S8192x1024, .bf16⟩ : BufTy).Contents (Elt Ideal)) (b : (⟨Cert.Reference12Ideal.S2816x1024, .bf16⟩ : BufTy).Contents (Elt Ideal))
  (g : (⟨Cert.Reference12Ideal.S8192x5632, .bf16⟩ : BufTy).Contents (Elt Ideal))

theorem gate_at (r : Fin 8192) (q : Fin 2816) : val_main_v1 (F := Ideal) g (ix2 r q) = g (ix2 r (ca q)) := by
  rw [val_main_v1_apply]
  show g _ = _
  congr 1
  funext y
  match y with
  | ⟨0, _⟩ => rfl
  | ⟨1, _⟩ => rfl
theorem up_at (r : Fin 8192) (q : Fin 2816) : val_main_v2 (F := Ideal) g (ix2 r q) = g (ix2 r (cb q)) := by
  rw [val_main_v2_apply]
  show g _ = _
  congr 1
  funext y
  match y with
  | ⟨0, _⟩ => rfl
  | ⟨1, _⟩ => rfl

/-- The logistic of the gate. -/
theorem sig_at (r : Fin 8192) (q : Fin 2816) : val_main_v3_2 (F := Ideal) g (ix2 r q) = Sig.hsig (g (ix2 r (ca q))) := by
  show Ideal.div (Ideal.ofBits .f32 0x3F800000#32) (Ideal.ofBits .f32 0x3F800000#32 + Ideal.exp (-val_main_v1 (F := Ideal) g (ix2 r q))) = _
  rw [Sig.one_bits, gate_at, Sig.hsig_eq]
  rfl

theorem dot_at (r : Fin 8192) (q : Fin 2816) : val_main_v8 (F := Ideal) a b (ix2 r q) = prod a b r q := by
  unfold prod
  pointwise [val_main_v8, val_main_v7, val_main_v5]

/-- The other half's gradient. -/
theorem dup_at (r : Fin 8192) (q : Fin 2816) : val_main_v9 (F := Ideal) a b g (ix2 r q) = fu (prod a b r q) (g (ix2 r (ca q))) := by
  show val_main_v1 (F := Ideal) g (ix2 r q) * val_main_v3_2 (F := Ideal) g (ix2 r q) * val_main_v8 (F := Ideal) a b (ix2 r q) = _
  rw [gate_at, sig_at, dot_at, mul_comm]
  rfl

/-- The gate's gradient. -/
theorem dgate_at (ha : ∀ i, (a i : EReal) ≠ ⊤ ∧ (a i : EReal) ≠ ⊥) (hb : ∀ i, (b i : EReal) ≠ ⊤ ∧ (b i : EReal) ≠ ⊥) (hg : ∀ i, (g i : EReal) ≠ ⊤ ∧ (g i : EReal) ≠ ⊥)
    (r : Fin 8192) (q : Fin 2816) : val_main_v11 (F := Ideal) a b g (ix2 r q) = fg (prod a b r q) (g (ix2 r (ca q))) (g (ix2 r (cb q))) := by
  show val_main_v8 (F := Ideal) a b (ix2 r q) * val_main_v2 (F := Ideal) g (ix2 r q) * val_main_v3_2 (F := Ideal) g (ix2 r q)
    + val_main_v1 (F := Ideal) g (ix2 r q) * (val_main_v8 (F := Ideal) a b (ix2 r q) * val_main_v2 (F := Ideal) g (ix2 r q))
      * (val_main_v3_2 (F := Ideal) g (ix2 r q) * (Ideal.ofBits .f32 0x3F800000#32 - val_main_v3_2 (F := Ideal) g (ix2 r q))) = _
  rw [gate_at, up_at, sig_at, dot_at, Sig.one_bits]
  obtain ⟨x, hx⟩ : ∃ x : ℝ, prod a b r q = x := by
    refine ⟨∑ k : Fin 1024, (a (ix2 r k) : EReal).toReal * (b (ix2 q k) : EReal).toReal, ?_⟩
    unfold prod
    refine Eq.trans (Finset.sum_congr rfl fun k _ => ?_) (Attn.coe_sum _ _)
    rw [EReal.coe_mul, EReal.coe_toReal (ha _).1 (ha _).2, EReal.coe_toReal (hb _).1 (hb _).2]
  obtain ⟨y, hy⟩ : ∃ y : ℝ, g (ix2 r (ca q)) = (y : EReal) := ⟨_, (EReal.coe_toReal (hg _).1 (hg _).2).symm⟩
  obtain ⟨z, hz⟩ : ∃ z : ℝ, g (ix2 r (cb q)) = (z : EReal) := ⟨_, (EReal.coe_toReal (hg _).1 (hg _).2).symm⟩
  rw [hx, hy, hz]
  exact gate_eq x y z

/-- The two halves side by side. -/
theorem left_at (r : Fin 8192) (q : Fin 2816) : val_main_v13 (F := Ideal) a b g (ix2 r (ca q)) = val_main_v11 (F := Ideal) a b g (ix2 r q) := by
  unfold ca
  have h := q.isLt
  show val_main_v12 (F := Ideal) a b g _ = _
  unfold val_main_v12
  pointwise []
theorem right_at (r : Fin 8192) (q : Fin 2816) : val_main_v13 (F := Ideal) a b g (ix2 r (cb q)) = val_main_v9 (F := Ideal) a b g (ix2 r q) := by
  unfold cb
  have h := q.isLt
  show val_main_v12 (F := Ideal) a b g _ = _
  unfold val_main_v12
  pointwise []

theorem ref_at (ha : ∀ i, (a i : EReal) ≠ ⊤ ∧ (a i : EReal) ≠ ⊥) (hb : ∀ i, (b i : EReal) ≠ ⊤ ∧ (b i : EReal) ≠ ⊥) (hg : ∀ i, (g i : EReal) ≠ ⊤ ∧ (g i : EReal) ≠ ⊥)
    (r : Fin 8192) (q : Fin 5632) : val_main_v13 (F := Ideal) a b g (ix2 r q) = val a b g r q := by
  unfold val
  by_cases h : q.val < 2816
  · rw [dif_pos h]
    exact (left_at a b g r ⟨q.val, h⟩).trans (dgate_at a b g ha hb hg r ⟨q.val, h⟩)
  · rw [dif_neg h]
    refine Eq.trans ?_ ((right_at a b g r ⟨q.val - 2816, by omega⟩).trans (dup_at a b g r ⟨q.val - 2816, by omega⟩))
    exact congrArg (fun z => val_main_v13 (F := Ideal) a b g (ix2 r z)) (Fin.ext (by show q.val = 2816 + (q.val - 2816); omega))

theorem holds : Cert.algebraic_Kernel12Ideal_Reference12Ideal_pre_finite_gu (hKernel12Ideal := Cert.Kernel12Ideal.Gen.facts) (hReference12Ideal := Cert.Reference12Ideal.Gen.facts) (hPre_finite_gu := pre_facts) := by
  have := pre_facts
  intro m g m' g' hp hag
  refine ⟨fun c => Cert.Kernel12Ideal.BmmDgu.res m c, ?_, ?_⟩
  · refine (θ_run _ _ _).mono (fun r h c => ?_) (Cert.Kernel12Ideal.Value.run_blocks m g)
    obtain ⟨h0, h1⟩ := h c
    exact ⟨h0.trans (Cert.Kernel12Ideal.BmmDgu.final m c), h1⟩
  · refine (θ_run _ _ _).mono (fun r h c => ?_) (Cert.Reference12Ideal.Value.run (F := Ideal) m' g')
    obtain ⟨h0, h1⟩ := h c
    refine ⟨h0.trans ?_, h1⟩
    refine (val_main_v13_eq _ _ _).trans ?_
    obtain ⟨e0, e1, e2⟩ := hag c
    obtain ⟨ha, hb, hg⟩ := finite _ _ _ (hp c)
    rw [e0, e1, e2]
    funext i
    idx_vars i
    exact ref_at _ _ _ ha hb hg i0 i1

end Cert.BmmDguClaim

end
-- ==== Proof.Norm.lean ====
/-
  The gradient through a root-mean-square norm, of one row, over the extended reals. The kernels take
  `r * (u - y * mean (u * y))` with `y = x * r` the normed row and `u` the gradient that reaches it; differentiating the
  mean of squares and its root one by one gives `u * r` and twice `x` times one product. They agree for all rows, with
  infinite entries too: where the mean of squares is infinite its root's inverse is zero, and all the terms are.
-/
module

public import Idealize.ShloMosaic.Lib.Pointwise

@[expose] public section

noncomputable section

namespace Cert.Norm

open Idealize.ShloMosaic

/-- The number of columns, the small constant under the root, and the exponent's factor, as the programs spell them. -/
def cols : EReal := Ideal.ofBits .f32 0x44800000#32
def eps : EReal := Ideal.ofBits .f32 0x358637BD#32
def mhalf : EReal := Ideal.ofBits .f32 0xBF000000#32

theorem cols_eq : cols = ((1024 : ℝ) : EReal) := by
  unfold cols
  simp [Ideal.ofBits, Ideal.ieee]
  rw [← EReal.coe_mul]
  norm_num
theorem mhalf_eq : mhalf = ((-(1 / 2) : ℝ) : EReal) := by
  unfold mhalf
  simp [Ideal.ofBits, Ideal.ieee]
  rw [← EReal.coe_mul]
  norm_num
theorem eps_pos : ∃ e : ℝ, 0 < e ∧ eps = (e : EReal) := by
  unfold eps
  simp [Ideal.ofBits, Ideal.ieee]
  rw [← EReal.coe_mul]
  exact ⟨_, by positivity, rfl⟩

/-- Division by the number of columns. -/
theorem div_cols (x : EReal) : Ideal.div x cols = x * (((1 / 1024 : ℝ)) : EReal) := by
  unfold Ideal.div
  rw [cols_eq, if_neg (by norm_num), ← EReal.coe_inv]
  norm_num

variable {n : ℕ} (x u : Fin n → EReal)

/-- The mean of squares with the small constant, and its root's inverse. -/
def ms : EReal := Ideal.div (∑ k, x k * x k) cols + eps
def rs : EReal := Ideal.rsqrt (ms x)

theorem sq_nonneg (y : EReal) : 0 ≤ y * y := by
  induction y with
  | bot => simp
  | top => simp
  | coe r => rw [← EReal.coe_mul]; exact EReal.coe_nonneg.mpr (mul_self_nonneg r)

theorem ms_cases : ms x = ⊤ ∨ ∃ s : ℝ, 0 < s ∧ ms x = (s : EReal) := by
  obtain ⟨e, he, h⟩ := eps_pos
  have h0 : 0 ≤ Ideal.div (∑ k, x k * x k) cols := by
    rw [div_cols]
    exact mul_nonneg (Finset.sum_nonneg fun k _ => sq_nonneg (x k)) (EReal.coe_nonneg.mpr (by norm_num))
  unfold ms
  rw [h]
  generalize Ideal.div (∑ k, x k * x k) cols = y at h0
  induction y with
  | bot => exact absurd h0 (by simp)
  | top => exact .inl rfl
  | coe r => exact .inr ⟨r + e, by have := EReal.coe_nonneg.mp h0; linarith, by rw [EReal.coe_add]⟩

/-- The kernels' form of a row's gradient, added to the residual's. -/
def kform (d : EReal) (j : Fin n) : EReal := d + rs x * (u j - x j * rs x * Ideal.div (∑ k, u k * (x k * rs x)) cols)

/-- What the mean of squares contributes, in the form the differentiation gives, … -/
def mean' : EReal := Ideal.div ((∑ k, x k * u k) * (mhalf * Ideal.div (rs x) (ms x))) cols
/-- … and the row's gradient in that form. -/
def rform (d : EReal) (j : Fin n) : EReal := d + u j * rs x + x j * mean' x u + mean' x u * x j

theorem sum_scale (c : ℝ) (hc : 0 ≤ c) (s : Finset (Fin n)) : ∑ k ∈ s, u k * (x k * (c : EReal)) = (∑ k ∈ s, x k * u k) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c), ← mul_assoc, mul_comm (u a)]

theorem twice (a : EReal) : a + a = a * ((2 : ℝ) : EReal) := by
  rw [mul_comm, show ((2 : ℝ) : EReal) = 1 + 1 by rw [← EReal.coe_one, ← EReal.coe_add]; norm_num, EReal.right_distrib_of_nonneg (by norm_num) (by norm_num), one_mul]

theorem form_eq (d : EReal) (j : Fin n) : kform x u d j = rform x u d j := by
  rcases ms_cases x with h | ⟨s, hs, h⟩
  · have hr : rs x = 0 := by rw [rs, h, Ideal.rsqrt_top]
    have hm : mean' x u = 0 := by
      rw [mean', hr, h, div_cols, show Ideal.div 0 ⊤ = 0 by unfold Ideal.div; simp]
      simp
    rw [kform, rform, hr, hm]
    simp
  · set p : ℝ := (Real.sqrt s)⁻¹ with hp
    have hp0 : 0 < p := inv_pos.mpr (Real.sqrt_pos.mpr hs)
    have hr : rs x = (p : EReal) := by
      rw [rs, h, Ideal.rsqrt_coe, if_neg (not_lt.mpr hs.le), if_neg hs.ne']
    have hd : Ideal.div (rs x) (ms x) = ((p * s⁻¹ : ℝ) : EReal) := by
      rw [hr, h, Ideal.div, if_neg (by exact_mod_cast hs.ne'), ← EReal.coe_inv, ← EReal.coe_mul]
    have e : p * p = s⁻¹ := by
      rw [hp, ← mul_inv, Real.mul_self_sqrt hs.le]
    rw [kform, rform, mean', hd, hr, div_cols, div_cols, sum_scale x u p hp0.le, mhalf_eq, sub_eq_add_neg,
      EReal.left_distrib_of_nonneg_of_ne_top (EReal.coe_nonneg.mpr hp0.le) (EReal.coe_ne_top p), add_assoc, add_assoc, ← add_assoc d,
      ← add_assoc d, mul_comm (p : EReal) (u j)]
    congr 1
    generalize (∑ k, x k * u k) = T
    rw [mul_comm _ (x j), twice, ← EReal.coe_mul, e.symm]
    rw [show -(x j * (p : EReal) * (T * (p : EReal) * ((1 / 1024 : ℝ) : EReal))) = (((-1 : ℝ)) : EReal) * (x j * (p : EReal) * (T * (p : EReal) * ((1 / 1024 : ℝ) : EReal))) by
      rw [EReal.coe_neg, EReal.coe_one, EReal.neg_mul, one_mul]]
    have l : (p : EReal) * (((-1 : ℝ) : EReal) * (x j * (p : EReal) * (T * (p : EReal) * ((1 / 1024 : ℝ) : EReal))))
        = (x j * T) * (((p : EReal) * ((-1 : ℝ) : EReal)) * (p : EReal) * ((p : EReal) * ((1 / 1024 : ℝ) : EReal))) := by ac_rfl
    have r : ∀ c : EReal, x j * (T * c * ((1 / 1024 : ℝ) : EReal)) * ((2 : ℝ) : EReal) = (x j * T) * (c * ((1 / 1024 : ℝ) : EReal) * ((2 : ℝ) : EReal)) := by
      intro c; ac_rfl
    rw [l, r]
    congr 1
    rw [← EReal.coe_mul, ← EReal.coe_mul, ← EReal.coe_mul, ← EReal.coe_mul, ← EReal.coe_mul, ← EReal.coe_mul]
    congr 1
    ring

end Cert.Norm

end
-- ==== Proof.BmmDh2.lean ====
/-
  The gradient through the feed-forward block's norm: what the row blocks leave in the result arrays, read at an index. A block's rows
  give their own rows of the residual's gradient; the scale's gradient is added up over the blocks.
-/
module

public import Idealize.ShloMosaic.Lib.Pointwise
public import proofs.«01_k».proof.Proof.Blocks
public import proofs.«01_k».proof.Proof.Norm
public import proofs.«01_k».proof.Proof.Gen.Kernel13Ideal.Value

@[expose] public section

set_option maxRecDepth 16384

noncomputable section

namespace Cert.Kernel13Ideal.BmmDh2

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- The weights are kept in four pieces; a feed-forward column is a column of one of them. -/
abbrev ps (f : Fin 5632) : Fin 4 := ⟨f.val / 1408, by omega⟩
abbrev pc (f : Fin 5632) : Fin 1408 := ⟨f.val % 1408, by omega⟩

theorem lx0 (x0 : Vec Ideal S512x5632 .bf16) (r : Fin 512) (q : Fin 1408) :
    View.ld x0 (Rect.unit (s := S512x5632) ![0, 0] S512x1408.size inb_S512x5632_S512x1408_0_0) (ix2 r q) = x0 (ix2 r ⟨1408 * 0 + q.val, by omega⟩) := by
  refine congrArg x0 (funext fun a => Fin.ext ?_)
  match a with
  | ⟨0, _⟩ => show 0 + 1 * r.val = r.val; omega
  | ⟨1, _⟩ => show 0 + 1 * q.val = 1408 * 0 + q.val; omega
theorem lw0 (x1 : Vec Ideal S4x1024x1408 .bf16) (p : Fin 1024) (q : Fin 1408) :
    View.ld x1 (Rect.unit (s := S4x1024x1408) ![0, 0, 0] S1x1024x1408.size inb_S4x1024x1408_S1x1024x1408_0_0_0) (ix3 0 p q) = x1 (ix3 0 p q) := by
  refine congrArg x1 (funext fun a => Fin.ext ?_)
  match a with
  | ⟨0, _⟩ => show 0 + 1 * 0 = 0; omega
  | ⟨1, _⟩ => show 0 + 1 * p.val = p.val; omega
  | ⟨2, _⟩ => show 0 + 1 * q.val = q.val; omega
theorem lx1 (x0 : Vec Ideal S512x5632 .bf16) (r : Fin 512) (q : Fin 1408) :
    View.ld x0 (Rect.unit (s := S512x5632) ![0, 1408] S512x1408.size inb_S512x5632_S512x1408_0_1408) (ix2 r q) = x0 (ix2 r ⟨1408 * 1 + q.val, by omega⟩) := by
  refine congrArg x0 (funext fun a => Fin.ext ?_)
  match a with
  | ⟨0, _⟩ => show 0 + 1 * r.val = r.val; omega
  | ⟨1, _⟩ => show 1408 + 1 * q.val = 1408 * 1 + q.val; omega
theorem lw1 (x1 : Vec Ideal S4x1024x1408 .bf16) (p : Fin 1024) (q : Fin 1408) :
    View.ld x1 (Rect.unit (s := S4x1024x1408) ![1, 0, 0] S1x1024x1408.size inb_S4x1024x1408_S1x1024x1408_1_0_0) (ix3 0 p q) = x1 (ix3 1 p q) := by
  refine congrArg x1 (funext fun a => Fin.ext ?_)
  match a with
  | ⟨0, _⟩ => show 1 + 1 * 0 = 1; omega
  | ⟨1, _⟩ => show 0 + 1 * p.val = p.val; omega
  | ⟨2, _⟩ => show 0 + 1 * q.val = q.val; omega
theorem lx2 (x0 : Vec Ideal S512x5632 .bf16) (r : Fin 512) (q : Fin 1408) :
    View.ld x0 (Rect.unit (s := S512x5632) ![0, 2816] S512x1408.size inb_S512x5632_S512x1408_0_2816) (ix2 r q) = x0 (ix2 r ⟨1408 * 2 + q.val, by omega⟩) := by
  refine congrArg x0 (funext fun a => Fin.ext ?_)
  match a with
  | ⟨0, _⟩ => show 0 + 1 * r.val = r.val; omega
  | ⟨1, _⟩ => show 2816 + 1 * q.val = 1408 * 2 + q.val; omega
theorem lw2 (x1 : Vec Ideal S4x1024x1408 .bf16) (p : Fin 1024) (q : Fin 1408) :
    View.ld x1 (Rect.unit (s := S4x1024x1408) ![2, 0, 0] S1x1024x1408.size inb_S4x1024x1408_S1x1024x1408_2_0_0) (ix3 0 p q) = x1 (ix3 2 p q) := by
  refine congrArg x1 (funext fun a => Fin.ext ?_)
  match a with
  | ⟨0, _⟩ => show 2 + 1 * 0 = 2; omega
  | ⟨1, _⟩ => show 0 + 1 * p.val = p.val; omega
  | ⟨2, _⟩ => show 0 + 1 * q.val = q.val; omega
theorem lx3 (x0 : Vec Ideal S512x5632 .bf16) (r : Fin 512) (q : Fin 1408) :
    View.ld x0 (Rect.unit (s := S512x5632) ![0, 4224] S512x1408.size inb_S512x5632_S512x1408_0_4224) (ix2 r q) = x0 (ix2 r ⟨1408 * 3 + q.val, by omega⟩) := by
  refine congrArg x0 (funext fun a => Fin.ext ?_)
  match a with
  | ⟨0, _⟩ => show 0 + 1 * r.val = r.val; omega
  | ⟨1, _⟩ => show 4224 + 1 * q.val = 1408 * 3 + q.val; omega
theorem lw3 (x1 : Vec Ideal S4x1024x1408 .bf16) (p : Fin 1024) (q : Fin 1408) :
    View.ld x1 (Rect.unit (s := S4x1024x1408) ![3, 0, 0] S1x1024x1408.size inb_S4x1024x1408_S1x1024x1408_3_0_0) (ix3 0 p q) = x1 (ix3 3 p q) := by
  refine congrArg x1 (funext fun a => Fin.ext ?_)
  match a with
  | ⟨0, _⟩ => show 3 + 1 * 0 = 3; omega
  | ⟨1, _⟩ => show 0 + 1 * p.val = p.val; omega
  | ⟨2, _⟩ => show 0 + 1 * q.val = q.val; omega

theorem pay5_at (v0 v4 v9 v14 : Vec Ideal S512x1408 .bf16) (v1 v5 v10 v15 : Vec Ideal S1x1024x1408 .bf16) (r : Fin 512) (q : Fin 1024) :
    k0_pay5 (F := Ideal) v0 v1 v4 v5 v9 v10 v14 v15 (ix2 r q)
      = (∑ k : Fin 1408, v0 (ix2 r k) * v1 (ix3 0 q k)) + (∑ k : Fin 1408, v4 (ix2 r k) * v5 (ix3 0 q k))
        + (∑ k : Fin 1408, v9 (ix2 r k) * v10 (ix3 0 q k)) + ∑ k : Fin 1408, v14 (ix2 r k) * v15 (ix3 0 q k) := by
  pointwise [k0_pay5]

/-- A block's product with the weights, and one term of it. -/
def acc (x0 : Vec Ideal S512x5632 .bf16) (x1 : Vec Ideal S4x1024x1408 .bf16) : FVec Ideal S512x1024 .f32 :=
  k0_pay5 (F := Ideal) (View.ld x0 (Rect.unit (s := S512x5632) ![0, 0] S512x1408.size inb_S512x5632_S512x1408_0_0)) (View.ld x1 (Rect.unit (s := S4x1024x1408) ![0, 0, 0] S1x1024x1408.size inb_S4x1024x1408_S1x1024x1408_0_0_0))
    (View.ld x0 (Rect.unit (s := S512x5632) ![0, 1408] S512x1408.size inb_S512x5632_S512x1408_0_1408)) (View.ld x1 (Rect.unit (s := S4x1024x1408) ![1, 0, 0] S1x1024x1408.size inb_S4x1024x1408_S1x1024x1408_1_0_0))
    (View.ld x0 (Rect.unit (s := S512x5632) ![0, 2816] S512x1408.size inb_S512x5632_S512x1408_0_2816)) (View.ld x1 (Rect.unit (s := S4x1024x1408) ![2, 0, 0] S1x1024x1408.size inb_S4x1024x1408_S1x1024x1408_2_0_0))
    (View.ld x0 (Rect.unit (s := S512x5632) ![0, 4224] S512x1408.size inb_S512x5632_S512x1408_0_4224)) (View.ld x1 (Rect.unit (s := S4x1024x1408) ![3, 0, 0] S1x1024x1408.size inb_S4x1024x1408_S1x1024x1408_3_0_0))
def term (x0 : Vec Ideal S512x5632 .bf16) (x1 : Vec Ideal S4x1024x1408 .bf16) (r : Fin 512) (q : Fin 1024) (n : ℕ) : EReal :=
  if h : n < 5632 then x0 (ix2 r ⟨n, h⟩) * x1 (ix3 (ps ⟨n, h⟩) q (pc ⟨n, h⟩)) else 0

theorem acc_at (x0 : Vec Ideal S512x5632 .bf16) (x1 : Vec Ideal S4x1024x1408 .bf16) (r : Fin 512) (q : Fin 1024) :
    acc x0 x1 (ix2 r q) = ∑ k : Fin 5632, x0 (ix2 r k) * x1 (ix3 (ps k) q (pc k)) := by
  unfold acc
  rw [pay5_at]
  have e : ∑ k : Fin 5632, x0 (ix2 r k) * x1 (ix3 (ps k) q (pc k)) = ∑ k : Fin 5632, term x0 x1 r q k.val :=
    Finset.sum_congr rfl fun k _ => by rw [term, dif_pos k.isLt]
  rw [e, ← Blocks.sum_blocks_fin (k := 1408) (n := 4) (by norm_num) (term x0 x1 r q)]
  rw [Finset.sum_range_succ, Finset.sum_range_succ, Finset.sum_range_succ, Finset.sum_range_one]
  have s0 : ∑ k : Fin 1408, View.ld x0 (Rect.unit (s := S512x5632) ![0, 0] S512x1408.size inb_S512x5632_S512x1408_0_0) (ix2 r k) * View.ld x1 (Rect.unit (s := S4x1024x1408) ![0, 0, 0] S1x1024x1408.size inb_S4x1024x1408_S1x1024x1408_0_0_0) (ix3 0 q k)
      = ∑ k : Fin 1408, term x0 x1 r q (1408 * 0 + k.val) := Finset.sum_congr rfl fun k _ => by
    have hk := k.isLt
    have e1 : ps ⟨1408 * 0 + k.val, by omega⟩ = 0 := Fin.ext (by show (1408 * 0 + k.val) / 1408 = 0; omega)
    have e2 : pc ⟨1408 * 0 + k.val, by omega⟩ = k := Fin.ext (by show (1408 * 0 + k.val) % 1408 = k.val; omega)
    rw [lx0, lw0, term, dif_pos (by omega), e1, e2]
  have s1 : ∑ k : Fin 1408, View.ld x0 (Rect.unit (s := S512x5632) ![0, 1408] S512x1408.size inb_S512x5632_S512x1408_0_1408) (ix2 r k) * View.ld x1 (Rect.unit (s := S4x1024x1408) ![1, 0, 0] S1x1024x1408.size inb_S4x1024x1408_S1x1024x1408_1_0_0) (ix3 0 q k)
      = ∑ k : Fin 1408, term x0 x1 r q (1408 * 1 + k.val) := Finset.sum_congr rfl fun k _ => by
    have hk := k.isLt
    have e1 : ps ⟨1408 * 1 + k.val, by omega⟩ = 1 := Fin.ext (by show (1408 * 1 + k.val) / 1408 = 1; omega)
    have e2 : pc ⟨1408 * 1 + k.val, by omega⟩ = k := Fin.ext (by show (1408 * 1 + k.val) % 1408 = k.val; omega)
    rw [lx1, lw1, term, dif_pos (by omega), e1, e2]
  have s2 : ∑ k : Fin 1408, View.ld x0 (Rect.unit (s := S512x5632) ![0, 2816] S512x1408.size inb_S512x5632_S512x1408_0_2816) (ix2 r k) * View.ld x1 (Rect.unit (s := S4x1024x1408) ![2, 0, 0] S1x1024x1408.size inb_S4x1024x1408_S1x1024x1408_2_0_0) (ix3 0 q k)
      = ∑ k : Fin 1408, term x0 x1 r q (1408 * 2 + k.val) := Finset.sum_congr rfl fun k _ => by
    have hk := k.isLt
    have e1 : ps ⟨1408 * 2 + k.val, by omega⟩ = 2 := Fin.ext (by show (1408 * 2 + k.val) / 1408 = 2; omega)
    have e2 : pc ⟨1408 * 2 + k.val, by omega⟩ = k := Fin.ext (by show (1408 * 2 + k.val) % 1408 = k.val; omega)
    rw [lx2, lw2, term, dif_pos (by omega), e1, e2]
  have s3 : ∑ k : Fin 1408, View.ld x0 (Rect.unit (s := S512x5632) ![0, 4224] S512x1408.size inb_S512x5632_S512x1408_0_4224) (ix2 r k) * View.ld x1 (Rect.unit (s := S4x1024x1408) ![3, 0, 0] S1x1024x1408.size inb_S4x1024x1408_S1x1024x1408_3_0_0) (ix3 0 q k)
      = ∑ k : Fin 1408, term x0 x1 r q (1408 * 3 + k.val) := Finset.sum_congr rfl fun k _ => by
    have hk := k.isLt
    have e1 : ps ⟨1408 * 3 + k.val, by omega⟩ = 3 := Fin.ext (by show (1408 * 3 + k.val) / 1408 = 3; omega)
    have e2 : pc ⟨1408 * 3 + k.val, by omega⟩ = k := Fin.ext (by show (1408 * 3 + k.val) % 1408 = k.val; omega)
    rw [lx3, lw3, term, dif_pos (by omega), e1, e2]
  rw [← s0, ← s1, ← s2, ← s3]

/-- The inverse root of a row's mean of squares, and the normed row. -/
theorem rs_at (x : Vec Ideal S512x1024 .f32) (r : Fin 512) : k0_pay6 (F := Ideal) x (ix2 r 0) = Norm.rs fun k : Fin 1024 => x (ix2 r k) := by
  pointwise [k0_pay6]
  rfl
theorem xh_at (x : Vec Ideal S512x1024 .f32) (r : Fin 512) (q : Fin 1024) :
    k0_pay7 (F := Ideal) x (ix2 r q) = x (ix2 r q) * Norm.rs fun k : Fin 1024 => x (ix2 r k) := by
  pointwise [k0_pay7]
  rw [rs_at]

section
variable (x0 : Vec Ideal S512x5632 .bf16) (x1 : Vec Ideal S4x1024x1408 .bf16) (x2 : Vec Ideal S512x1024 .f32) (x3 : Vec Ideal S1x1024 .f32) (x4 : Vec Ideal S512x1024 .f32) (xo : Vec Ideal S1x1024 .f32)

/-- What a block leaves of the residual's gradient and of the scale's. -/
theorem dx_at (r : Fin 512) (q : Fin 1024) : (k0_pay1 (acc x0 x1) (k0_pay6 x2) (k0_pay7 x2) x3 x4 : FVec Ideal S512x1024 .f32) (ix2 r q)
    = Norm.kform (fun k : Fin 1024 => x2 (ix2 r k)) (fun k => acc x0 x1 (ix2 r k) * x3 (ix2 0 k)) (x4 (ix2 r q)) q := by
  pointwise [k0_pay1]
  simp only [rs_at, xh_at]
  rfl
theorem dxb_at (i : S512x1024.Idx) : (k0_pay2 (acc x0 x1) (k0_pay6 x2) (k0_pay7 x2) x3 x4 : FVec Ideal S512x1024 .bf16) i = (k0_pay1 (acc x0 x1) (k0_pay6 x2) (k0_pay7 x2) x3 x4 : FVec Ideal S512x1024 .f32) i := rfl
def dgs (q : Fin 1024) : EReal := ∑ r : Fin 512, acc x0 x1 (ix2 r q) * (x2 (ix2 r q) * Norm.rs fun k : Fin 1024 => x2 (ix2 r k))
theorem dg_at (q : Fin 1024) : (k0_pay3 (acc x0 x1) (k0_pay7 x2) : FVec Ideal S1x1024 .f32) (ix2 0 q)
    = dgs x0 x1 x2 q := by
  unfold dgs
  pointwise [k0_pay3]
  simp only [xh_at]
  skip
theorem dgb_at (q : Fin 1024) : (k0_pay4 (acc x0 x1) (k0_pay7 x2) xo : FVec Ideal S1x1024 .f32) (ix2 0 q)
    = xo (ix2 0 q) + dgs x0 x1 x2 q := by
  unfold dgs
  pointwise [k0_pay4, k0_pay3]
  simp only [xh_at]
  skip

variable (c : Dev nD) (i : grid0.Coords) (a1 : Memref sig .tc .vmem S512x5632 .bf16) (h1 : a1.IsWhole) (a2 : Memref sig .tc .vmem S4x1024x1408 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)

theorem outA5 (hc0 : cond0_0 i) (hc1 : ¬cond0_1 i) : out0_A_5 (F := Ideal) c i a1 h1 a2 h2 a3 h3 a4 h4 a5 h5 a6 h6 a7 h7 a8 h8 hc0 hc1 x0 x1 x2 x3 x4 = (k0_pay1 (acc x0 x1) (k0_pay6 x2) (k0_pay7 x2) x3 x4 : FVec Ideal S512x1024 .f32) := by
  unfold out0_A_5
  rw [View.read_writes_eq_canon _ _ _ (cover0_A_5 c i a1 h1 a2 h2 a3 h3 a4 h4 a5 h5 a6 h6 a7 h7 a8 h8 hc0 hc1 x0 x1 x2 x3 x4)]
  unfold kernelRun0_A
  dsimp only
  sl_unfold_words
  rw [View.canon_unit_zero z2]
  simp only [View.readAt_eq_ld, h1.read_unread, h2.read_unread, h3.read_unread, h4.read_unread, h5.read_unread, h8.read_unread, View.ld_unit_zero (S := S512x5632) z2, View.ld_unit_zero (S := S1x1024) z2, View.ld_unit_zero (S := S512x1024) z2]
  rfl
theorem outA6 (hc0 : cond0_0 i) (hc1 : ¬cond0_1 i) : out0_A_6 (F := Ideal) c i a1 h1 a2 h2 a3 h3 a4 h4 a5 h5 a6 h6 a7 h7 a8 h8 hc0 hc1 x0 x1 x2 x3 x4 = (k0_pay2 (acc x0 x1) (k0_pay6 x2) (k0_pay7 x2) x3 x4 : FVec Ideal S512x1024 .bf16) := by
  unfold out0_A_6
  rw [View.read_writes_eq_canon _ _ _ (cover0_A_6 c i a1 h1 a2 h2 a3 h3 a4 h4 a5 h5 a6 h6 a7 h7 a8 h8 hc0 hc1 x0 x1 x2 x3 x4)]
  unfold kernelRun0_A
  dsimp only
  sl_unfold_words
  rw [View.canon_unit_zero z2]
  simp only [View.readAt_eq_ld, h1.read_unread, h2.read_unread, h3.read_unread, h4.read_unread, h5.read_unread, h8.read_unread, View.ld_unit_zero (S := S512x5632) z2, View.ld_unit_zero (S := S1x1024) z2, View.ld_unit_zero (S := S512x1024) z2]
  rfl
theorem outA7 (hc0 : cond0_0 i) (hc1 : ¬cond0_1 i) : out0_A_7 (F := Ideal) c i a1 h1 a2 h2 a3 h3 a4 h4 a5 h5 a6 h6 a7 h7 a8 h8 hc0 hc1 x0 x1 x2 x3 x4 = (k0_pay3 (acc x0 x1) (k0_pay7 x2) : FVec Ideal S1x1024 .f32) := by
  unfold out0_A_7
  rw [View.read_writes_eq_canon _ _ _ (cover0_A_7 c i a1 h1 a2 h2 a3 h3 a4 h4 a5 h5 a6 h6 a7 h7 a8 h8 hc0 hc1 x0 x1 x2 x3 x4)]
  unfold kernelRun0_A
  dsimp only
  sl_unfold_words
  rw [View.canon_unit_zero z2]
  simp only [View.readAt_eq_ld, h1.read_unread, h2.read_unread, h3.read_unread, h4.read_unread, h5.read_unread, h8.read_unread, View.ld_unit_zero (S := S512x5632) z2, View.ld_unit_zero (S := S1x1024) z2, View.ld_unit_zero (S := S512x1024) z2]
  rfl
theorem outB5 (hc0 : ¬cond0_0 i) (hc1 : cond0_1 i) : out0_B_5 (F := Ideal) c i a1 h1 a2 h2 a3 h3 a4 h4 a5 h5 a6 h6 a7 h7 a8 h8 hc0 hc1 x0 x1 x2 x3 x4 xo = (k0_pay1 (acc x0 x1) (k0_pay6 x2) (k0_pay7 x2) x3 x4 : FVec Ideal S512x1024 .f32) := by
  unfold out0_B_5
  rw [View.read_writes_eq_canon _ _ _ (cover0_B_5 c i a1 h1 a2 h2 a3 h3 a4 h4 a5 h5 a6 h6 a7 h7 a8 h8 hc0 hc1 x0 x1 x2 x3 x4 xo)]
  unfold kernelRun0_B
  dsimp only
  sl_unfold_words
  rw [View.canon_unit_zero z2]
  simp only [View.readAt_eq_ld, h1.read_unread, h2.read_unread, h3.read_unread, h4.read_unread, h5.read_unread, h8.read_unread, View.ld_unit_zero (S := S512x5632) z2, View.ld_unit_zero (S := S1x1024) z2, View.ld_unit_zero (S := S512x1024) z2]
  rfl
theorem outB6 (hc0 : ¬cond0_0 i) (hc1 : cond0_1 i) : out0_B_6 (F := Ideal) c i a1 h1 a2 h2 a3 h3 a4 h4 a5 h5 a6 h6 a7 h7 a8 h8 hc0 hc1 x0 x1 x2 x3 x4 xo = (k0_pay2 (acc x0 x1) (k0_pay6 x2) (k0_pay7 x2) x3 x4 : FVec Ideal S512x1024 .bf16) := by
  unfold out0_B_6
  rw [View.read_writes_eq_canon _ _ _ (cover0_B_6 c i a1 h1 a2 h2 a3 h3 a4 h4 a5 h5 a6 h6 a7 h7 a8 h8 hc0 hc1 x0 x1 x2 x3 x4 xo)]
  unfold kernelRun0_B
  dsimp only
  sl_unfold_words
  rw [View.canon_unit_zero z2]
  simp only [View.readAt_eq_ld, h1.read_unread, h2.read_unread, h3.read_unread, h4.read_unread, h5.read_unread, h8.read_unread, View.ld_unit_zero (S := S512x5632) z2, View.ld_unit_zero (S := S1x1024) z2, View.ld_unit_zero (S := S512x1024) z2]
  rfl
theorem outB7 (hc0 : ¬cond0_0 i) (hc1 : cond0_1 i) : out0_B_7 (F := Ideal) c i a1 h1 a2 h2 a3 h3 a4 h4 a5 h5 a6 h6 a7 h7 a8 h8 hc0 hc1 x0 x1 x2 x3 x4 xo = (k0_pay4 (acc x0 x1) (k0_pay7 x2) xo : FVec Ideal S1x1024 .f32) := by
  unfold out0_B_7
  rw [View.read_writes_eq_canon _ _ _ (cover0_B_7 c i a1 h1 a2 h2 a3 h3 a4 h4 a5 h5 a6 h6 a7 h7 a8 h8 hc0 hc1 x0 x1 x2 x3 x4 xo)]
  unfold kernelRun0_B
  dsimp only
  sl_unfold_words
  rw [View.canon_unit_zero z2]
  simp only [View.readAt_eq_ld, h1.read_unread, h2.read_unread, h3.read_unread, h4.read_unread, h5.read_unread, h8.read_unread, View.ld_unit_zero (S := S512x5632) z2, View.ld_unit_zero (S := S1x1024) z2, View.ld_unit_zero (S := S512x1024) z2]
  rfl
end

/-- The row of the arrays a row of the block at a point is. -/
def row (t : Fin cfg0.N) (r : Fin 512) : Fin 8192 := ⟨512 * t.val + r.val, by have hN : cfg0.N = 16 := N_0; omega⟩

theorem idx0 (t : Fin cfg0.N) : win0_0.index t 0 = t.val ∧ win0_0.index t 1 = 0 := by
  revert t; decide +kernel
theorem idx2 (t : Fin cfg0.N) : win0_2.index t 0 = t.val ∧ win0_2.index t 1 = 0 := by
  revert t; decide +kernel
theorem idx4 (t : Fin cfg0.N) : win0_4.index t 0 = t.val ∧ win0_4.index t 1 = 0 := by
  revert t; decide +kernel
theorem idx5 (t : Fin cfg0.N) : win0_5.index t 0 = t.val ∧ win0_5.index t 1 = 0 := by
  revert t; decide +kernel
theorem idx6 (t : Fin cfg0.N) : win0_6.index t 0 = t.val ∧ win0_6.index t 1 = 0 := by
  revert t; decide +kernel
theorem idx1 (t : Fin cfg0.N) : win0_1.index t 0 = 0 ∧ win0_1.index t 1 = 0 ∧ win0_1.index t 2 = 0 := by
  revert t; decide +kernel
theorem idx3 (t : Fin cfg0.N) : win0_3.index t 0 = 0 ∧ win0_3.index t 1 = 0 := by
  revert t; decide +kernel
theorem idx7 (t : Fin cfg0.N) : win0_7.index t 0 = 0 ∧ win0_7.index t 1 = 0 := by
  revert t; decide +kernel

/-- The operands as tables of extended reals. -/
def X0 (c : Dev nD) : (⟨2, ![8192, 5632]⟩ : Shape).Idx → EReal := m ((c : Thread nD τ).loc main_arg0)
def X1 (c : Dev nD) : (⟨3, ![4, 1024, 1408]⟩ : Shape).Idx → EReal := m ((c : Thread nD τ).loc main_arg1)
def X2 (c : Dev nD) : (⟨2, ![8192, 1024]⟩ : Shape).Idx → EReal := m ((c : Thread nD τ).loc main_arg2)
def X3 (c : Dev nD) : (⟨2, ![1, 1024]⟩ : Shape).Idx → EReal := m ((c : Thread nD τ).loc main_arg3)
def X4 (c : Dev nD) : (⟨2, ![8192, 1024]⟩ : Shape).Idx → EReal := m ((c : Thread nD τ).loc main_arg4)

theorem blk0 (c : Dev nD) (t : Fin cfg0.N) (r : Fin 512) (k : Fin 5632) :
    (iblk m c 0 t : Vec Ideal S512x5632 .bf16) (ix2 r k) = X0 m c (ix2 (row t r) k) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [(idx0 t).1]; omega
  | ⟨1, _⟩ => show win0_0.index t 1 * 5632 + 1 * k.val = k.val; rw [(idx0 t).2]; omega
theorem blk2 (c : Dev nD) (t : Fin cfg0.N) (r : Fin 512) (k : Fin 1024) :
    (iblk m c 2 t : Vec Ideal S512x1024 .f32) (ix2 r k) = X2 m c (ix2 (row t r) k) := by
  unfold iblk
  rw [View.read_apply]
  show V m c main_arg2 _ = m (c.tc.loc main_arg2) _
  unfold V
  congr 1
  funext a
  apply Fin.ext
  match a with
  | ⟨0, _⟩ => show win0_2.index t 0 * 512 + 1 * r.val = 512 * t.val + r.val; rw [(idx2 t).1]; omega
  | ⟨1, _⟩ => show win0_2.index t 1 * 1024 + 1 * k.val = k.val; rw [(idx2 t).2]; omega
theorem blk4 (c : Dev nD) (t : Fin cfg0.N) (r : Fin 512) (k : Fin 1024) :
    (iblk m c 4 t : Vec Ideal S512x1024 .f32) (ix2 r k) = X4 m c (ix2 (row t r) k) := by
  unfold iblk
  rw [View.read_apply]
  show V m c main_arg4 _ = m (c.tc.loc main_arg4) _
  unfold V
  congr 1
  funext a
  apply Fin.ext
  match a with
  | ⟨0, _⟩ => show win0_4.index t 0 * 512 + 1 * r.val = 512 * t.val + r.val; rw [(idx4 t).1]; omega
  | ⟨1, _⟩ => show win0_4.index t 1 * 1024 + 1 * k.val = k.val; rw [(idx4 t).2]; omega
theorem blk3 (c : Dev nD) (t : Fin cfg0.N) (k : Fin 1024) :
    (iblk m c 3 t : Vec Ideal S1x1024 .f32) (ix2 0 k) = X3 m c (ix2 0 k) := by
  unfold iblk
  rw [View.read_apply]
  show V m c main_arg3 _ = m (c.tc.loc main_arg3) _
  unfold V
  congr 1
  funext a
  apply Fin.ext
  match a with
  | ⟨0, _⟩ => show win0_3.index t 0 * 1 + 1 * 0 = 0; rw [(idx3 t).1]
  | ⟨1, _⟩ => show win0_3.index t 1 * 1024 + 1 * k.val = k.val; rw [(idx3 t).2]; omega
theorem blk1 (c : Dev nD) (t : Fin cfg0.N) (s : Fin 4) (p : Fin 1024) (k : Fin 1408) :
    (iblk m c 1 t : Vec Ideal S4x1024x1408 .bf16) (ix3 s p k) = X1 m c (ix3 s p k) := by
  unfold iblk
  rw [View.read_apply]
  show V m c main_arg1 _ = m (c.tc.loc main_arg1) _
  unfold V
  congr 1
  funext a
  apply Fin.ext
  match a with
  | ⟨0, _⟩ => show win0_1.index t 0 * 4 + 1 * s.val = s.val; rw [(idx1 t).1]; omega
  | ⟨1, _⟩ => show win0_1.index t 1 * 1024 + 1 * p.val = p.val; rw [(idx1 t).2.1]; omega
  | ⟨2, _⟩ => show win0_1.index t 2 * 1408 + 1 * k.val = k.val; rw [(idx1 t).2.2]; omega

/-- The product with the weights, the residual's gradient, and a token's part of the scale's. -/
def tot (c : Dev nD) (R : Fin 8192) (q : Fin 1024) : EReal := ∑ f : Fin 5632, X0 m c (ix2 R f) * X1 m c (ix3 (ps f) q (pc f))
def dxv (c : Dev nD) (R : Fin 8192) (q : Fin 1024) : EReal :=
  Norm.kform (fun k : Fin 1024 => X2 m c (ix2 R k)) (fun k => tot m c R k * X3 m c (ix2 0 k)) (X4 m c (ix2 R q)) q
def dgr (c : Dev nD) (R : Fin 8192) (q : Fin 1024) : EReal := tot m c R q * (X2 m c (ix2 R q) * Norm.rs fun k : Fin 1024 => X2 m c (ix2 R k))
def dgt (c : Dev nD) (q : Fin 1024) (n : ℕ) : EReal := if h : n < 8192 then dgr m c ⟨n, h⟩ q else 0

theorem acc_blk (c : Dev nD) (t : Fin cfg0.N) (r : Fin 512) (q : Fin 1024) :
    acc (iblk m c 0 t : Vec Ideal S512x5632 .bf16) (iblk m c 1 t : Vec Ideal S4x1024x1408 .bf16) (ix2 r q) = tot m c (row t r) q := by
  rw [acc_at]
  exact Finset.sum_congr rfl fun k _ => by rw [blk0, blk1]
theorem dx_blk (c : Dev nD) (t : Fin cfg0.N) (r : Fin 512) (q : Fin 1024) :
    Norm.kform (fun k : Fin 1024 => (iblk m c 2 t : Vec Ideal S512x1024 .f32) (ix2 r k))
      (fun k => acc (iblk m c 0 t : Vec Ideal S512x5632 .bf16) (iblk m c 1 t : Vec Ideal S4x1024x1408 .bf16) (ix2 r k) * (iblk m c 3 t : Vec Ideal S1x1024 .f32) (ix2 0 k))
      ((iblk m c 4 t : Vec Ideal S512x1024 .f32) (ix2 r q)) q = dxv m c (row t r) q := by
  simp only [acc_blk, blk2, blk3, blk4]
  rfl
theorem dg_blk (c : Dev nD) (t : Fin cfg0.N) (q : Fin 1024) :
    dgs (iblk m c 0 t : Vec Ideal S512x5632 .bf16) (iblk m c 1 t : Vec Ideal S4x1024x1408 .bf16) (iblk m c 2 t : Vec Ideal S512x1024 .f32) q
      = ∑ r : Fin 512, dgt m c q (512 * t.val + r.val) := by
  unfold dgs
  refine Finset.sum_congr rfl fun r _ => ?_
  have h : 512 * t.val + r.val < 8192 := (row t r).isLt
  rw [dgt, dif_pos h]
  simp only [acc_blk, blk2]
  rfl

theorem at5 (c : Dev nD) (t : Fin cfg0.N) (r : Fin 512) (q : Fin 1024) : (outsAt0 m c t.val t.isLt).1 (ix2 r q) = dxv m c (row t r) q := by
  have hN : cfg0.N = 16 := N_0
  by_cases h0 : t.val % 16 = 0
  · rw [outsAt0_A m c t h0 (by omega)]
    dsimp only
    rw [outA5, dx_at, dx_blk]
  · rw [outsAt0_B m c t h0 (by omega)]
    dsimp only
    rw [outB5, dx_at, dx_blk]
theorem at6 (c : Dev nD) (t : Fin cfg0.N) (r : Fin 512) (q : Fin 1024) : (outsAt0 m c t.val t.isLt).2.1 (ix2 r q) = dxv m c (row t r) q := by
  have hN : cfg0.N = 16 := N_0
  by_cases h0 : t.val % 16 = 0
  · rw [outsAt0_A m c t h0 (by omega)]
    dsimp only
    rw [outA6, dxb_at, dx_at, dx_blk]
  · rw [outsAt0_B m c t h0 (by omega)]
    dsimp only
    rw [outB6, dxb_at, dx_at, dx_blk]

/-- The scale's gradient after point `n` is the sum over the blocks up to it. -/
theorem outs7_at (c : Dev nD) (q : Fin 1024) : ∀ (n : ℕ) (h : n < cfg0.N),
    (outsAt0 m c n h).2.2 (ix2 0 q) = ∑ l ∈ Finset.range (n + 1), ∑ r : Fin 512, dgt m c q (512 * l + r.val)
  | 0, h => by
    rw [show outsAt0 m c 0 h = _ from outsAt0_A m c ⟨0, h⟩ (Nat.zero_mod _) (by dsimp only; omega)]
    dsimp only
    rw [outA7, dg_at, dg_blk, Finset.sum_range_one]
  | n + 1, h => by
    have hN : cfg0.N = 16 := N_0
    rw [show outsAt0 m c (n + 1) h = _ from outsAt0_B m c ⟨n + 1, h⟩ (by dsimp only; omega) (by dsimp only; omega)]
    dsimp only
    rw [outB7, dgb_at, dg_blk, Finset.sum_range_succ _ (n + 1)]
    exact congrArg (· + _) (outs7_at c q n (Nat.lt_of_succ_lt h))

theorem at7 (c : Dev nD) (t : Fin cfg0.N) (h : t.val % 16 = 15) (q : Fin 1024) :
    (outsAt0 m c t.val t.isLt).2.2 (ix2 0 q) = ∑ R : Fin 8192, dgr m c R q := by
  have hN : cfg0.N = 16 := N_0
  have ht : t.val = 15 := by omega
  rw [outs7_at, ht, Blocks.sum_blocks_fin (k := 512) (n := 15 + 1) (N := 8192) (by norm_num) (dgt m c q)]
  exact Finset.sum_congr rfl fun R _ => by rw [dgt, dif_pos R.isLt]

/-- The result arrays. -/
def res5 (c : Dev nD) : (⟨2, ![8192, 1024]⟩ : Shape).Idx → EReal := fun i => dxv m c (i 0) (i 1)
def res7 (c : Dev nD) : (⟨2, ![1, 1024]⟩ : Shape).Idx → EReal := fun i => ∑ R : Fin 8192, dgr m c R (i 1)

theorem final5 (c : Dev nD) : (dats m 0 c).arrAt 5 cfg0.N = res5 m c :=
  (dats m 0 c).arrAt_eq_of_cover 5 (res5 m c) (fun t hf => by
    rw [Value.flushed5]
    funext y
    idx_vars y
    refine (at5 m c t y0 y1).trans ?_
    rw [View.read_apply]
    unfold res5
    congr 1
    · apply Fin.ext
      show 512 * t.val + y0.val = win0_5.index t 0 * 512 + 1 * y0.val; rw [(idx5 t).1]; omega
    · apply Fin.ext
      show y1.val = win0_5.index t 1 * 1024 + 1 * y1.val; rw [(idx5 t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_5 t, ?_⟩
    show i ∈ ((View.whole main_v0_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [(idx5 t).1]; omega
    | ⟨1, _⟩ => show win0_5.index t 1 * 1024 ≤ (i 1 : Nat) ∧ (i 1 : Nat) < win0_5.index t 1 * 1024 + 1024; rw [(idx5 t).2]; omega

theorem final6 (c : Dev nD) : (dats m 0 c).arrAt 6 cfg0.N = res5 m c :=
  (dats m 0 c).arrAt_eq_of_cover 6 (res5 m c) (fun t hf => by
    rw [Value.flushed6]
    funext y
    idx_vars y
    refine (at6 m c t y0 y1).trans ?_
    rw [View.read_apply]
    unfold res5
    congr 1
    · apply Fin.ext
      show 512 * t.val + y0.val = win0_6.index t 0 * 512 + 1 * y0.val; rw [(idx6 t).1]; omega
    · apply Fin.ext
      show y1.val = win0_6.index t 1 * 1024 + 1 * y1.val; rw [(idx6 t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_6 t, ?_⟩
    show i ∈ ((View.whole main_v0_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [(idx6 t).1]; omega
    | ⟨1, _⟩ => show win0_6.index t 1 * 1024 ≤ (i 1 : Nat) ∧ (i 1 : Nat) < win0_6.index t 1 * 1024 + 1024; rw [(idx6 t).2]; omega
theorem final7 (c : Dev nD) : (dats m 0 c).arrAt 7 cfg0.N = res7 m c :=
  (dats m 0 c).arrAt_eq_of_cover 7 (res7 m c) (fun t hf => by
    rw [Value.flushed7]
    funext y
    idx_vars y
    have hy0 : y0 = 0 := Subsingleton.elim _ _
    subst hy0
    refine (at7 m c t ((flush0_7 t).mp hf) y1).trans ?_
    rw [View.read_apply]
    unfold res7
    refine congrArg (fun q : Fin 1024 => ∑ R : Fin 8192, dgr m c R q) (Fin.ext ?_)
    show y1.val = win0_7.index t 1 * 1024 + 1 * y1.val; rw [(idx7 t).2]; omega) fun i => by
    have h0 : (i 0 : Nat) < 1 := (i 0).isLt
    have h1 : (i 1 : Nat) < 1024 := (i 1).isLt
    have hN : cfg0.N = 16 := N_0
    obtain ⟨t, ht⟩ : ∃ t : Fin cfg0.N, t.val = 15 := ⟨⟨15, by omega⟩, rfl⟩
    refine ⟨t, (flush0_7 t).mpr (by omega), ?_⟩
    show i ∈ ((View.whole main_v0_2).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1; rw [(idx7 t).1]; omega
    | ⟨1, _⟩ => show win0_7.index t 1 * 1024 ≤ (i 1 : Nat) ∧ (i 1 : Nat) < win0_7.index t 1 * 1024 + 1024; rw [(idx7 t).2]; omega

end Cert.Kernel13Ideal.BmmDh2

end
-- ==== Proof.BmmDh2Claim.lean ====
/-
  The gradient through the feed-forward block's norm: the kernel's row blocks and the reference's three results are the same.
-/
module

public import proofs.«01_k».proof.Defs
public import proofs.«01_k».proof.Proof.BmmDh2
public import proofs.«01_k».proof.Proof.Gen.Reference13Ideal.Read

@[expose] public section

set_option maxRecDepth 16384

noncomputable section

namespace Cert.BmmDh2Claim

open Idealize.ShloMosaic Idealize.ShloMosaic.TcCoe Idealize.SL.Sem
open Cert.Reference13Ideal.Read Cert.Kernel13Ideal.BmmDh2

variable (x0 : (⟨Cert.Reference13Ideal.S8192x5632, .bf16⟩ : BufTy).Contents (Elt Ideal)) (x1 : (⟨Cert.Reference13Ideal.S4x1024x1408, .bf16⟩ : BufTy).Contents (Elt Ideal))
  (x2 : (⟨Cert.Reference13Ideal.S8192x1024, .f32⟩ : BufTy).Contents (Elt Ideal)) (x3 : (⟨Cert.Reference13Ideal.S1x1024, .f32⟩ : BufTy).Contents (Elt Ideal)) (x4 : (⟨Cert.Reference13Ideal.S8192x1024, .f32⟩ : BufTy).Contents (Elt Ideal))

/-- The weights with the four pieces side by side. -/
theorem w_at (q : Fin 1024) (f : Fin 5632) : val_main_v2 (F := Ideal) x1 (ix2 q f) = x1 (ix3 (ps f) q (pc f)) := by
  rw [val_main_v2_apply, val_main_v1_apply]
  show x1 _ = _
  refine congrArg x1 (funext fun y => Fin.ext ?_)
  have hq := q.isLt
  have hf := f.isLt
  match y with
  | ⟨0, _⟩ => show (q.val * 5632 + f.val) / 1408 % 4 = f.val / 1408; omega
  | ⟨1, _⟩ => show (q.val * 5632 + f.val) / 5632 = q.val; omega
  | ⟨2, _⟩ => show (q.val * 5632 + f.val) % 1408 = f.val % 1408; omega

/-- The product with the weights. -/
def prod (r : Fin 8192) (q : Fin 1024) : EReal := ∑ f : Fin 5632, x0 (ix2 r f) * x1 (ix3 (ps f) q (pc f))
theorem prod_at (r : Fin 8192) (q : Fin 1024) : val_main_v22 (F := Ideal) x0 x1 (ix2 r q) = prod x0 x1 r q := by
  unfold prod
  pointwise [val_main_v22, val_main_v21]
  exact Finset.sum_congr rfl fun f _ => by rw [w_at]

/-- A row's mean of squares, its inverse root, and the normed row. -/
theorem ms_at (r : Fin 8192) : val_main_v10 (F := Ideal) x2 (ix2 r 0) = Norm.ms fun k : Fin 1024 => x2 (ix2 r k) := by
  pointwise [val_main_v10, val_main_v9, val_main_v8, val_main_v7, val_main_v6, val_main_v5, val_main_v4, val_main_cst, val_main_cst_0, val_main_cst_1, val_main_cst_2, val_main_cst_3, val_main_cst_4, val_main_cst_5, val_main_cst_6, val_main_cst_7]
  rfl
theorem rs_at (r : Fin 8192) : val_main_v11 (F := Ideal) x2 (ix2 r 0) = Norm.rs fun k : Fin 1024 => x2 (ix2 r k) := by
  show Ideal.rsqrt (val_main_v10 (F := Ideal) x2 (ix2 r 0)) = _
  rw [ms_at]
  rfl
theorem xh_at (r : Fin 8192) (q : Fin 1024) : val_main_v16 (F := Ideal) x2 (ix2 r q) = x2 (ix2 r q) * Norm.rs fun k : Fin 1024 => x2 (ix2 r k) := by
  pointwise [val_main_v16, val_main_v15]
  rw [rs_at]

theorem zero_bits : Ideal.ofBits .f32 0x00000000#32 = 0 := by simp [Ideal.ofBits, Ideal.ieee]

/-- The scale's gradient. -/
theorem dg_at (q : Fin 1024) : val_main_v45 (F := Ideal) x0 x1 x2 (ix2 0 q) = ∑ r : Fin 8192, prod x0 x1 r q * (x2 (ix2 r q) * Norm.rs fun k : Fin 1024 => x2 (ix2 r k)) := by
  rw [val_main_v45_apply, val_main_v28_apply, Fin.sum_univ_one, val_main_v25_apply, val_main_v24_apply]
  show Ideal.ofBits .f32 0x00000000#32 + (Ideal.ofBits .f32 0x00000000#32 + _) = _
  rw [zero_bits, zero_add, zero_add]
  refine Finset.sum_congr rfl fun r _ => ?_
  refine (congrArg (val_main_v23 (F := Ideal) x0 x1 x2) (show _ = ix2 r q from funext fun y => Fin.ext ?_)).trans ?_
  · match y with
    | ⟨0, _⟩ => rfl
    | ⟨1, _⟩ => show 0 * 1024 + q.val = q.val; omega
  · show val_main_v16 (F := Ideal) x2 (ix2 r q) * val_main_v22 (F := Ideal) x0 x1 (ix2 r q) = _
    rw [xh_at, prod_at, mul_comm]

/-- The gradient that reaches the normed row, what the mean of squares contributes, and the residual's gradient. -/
theorem u_at (r : Fin 8192) (q : Fin 1024) : val_main_v27 (F := Ideal) x0 x1 x3 (ix2 r q) = prod x0 x1 r q * x3 (ix2 0 q) := by
  pointwise [val_main_v27, val_main_v26, val_main_v17, val_main_v3]
  rw [prod_at]
theorem mean_at (r : Fin 8192) : val_main_v37 (F := Ideal) x0 x1 x2 x3 (ix2 r 0)
    = Norm.mean' (fun k : Fin 1024 => x2 (ix2 r k)) (fun k => prod x0 x1 r k * x3 (ix2 0 k)) := by
  pointwise [val_main_v37, val_main_v36, val_main_v35, val_main_v31, val_main_v30, val_main_v29, val_main_v14, val_main_v13, val_main_v12, val_main_cst, val_main_cst_0, val_main_cst_1, val_main_cst_2, val_main_cst_3, val_main_cst_4, val_main_cst_5, val_main_cst_6, val_main_cst_7]
  simp only [u_at, rs_at, ms_at]
  rfl
theorem dx_at (r : Fin 8192) (q : Fin 1024) : val_main_v43 (F := Ideal) x0 x1 x2 x3 x4 (ix2 r q)
    = Norm.rform (fun k : Fin 1024 => x2 (ix2 r k)) (fun k => prod x0 x1 r k * x3 (ix2 0 k)) (x4 (ix2 r q)) q := by
  pointwise [val_main_v43, val_main_v42, val_main_v41, val_main_v40, val_main_v39, val_main_v38, val_main_v34, val_main_v33, val_main_v32, val_main_cst, val_main_cst_0, val_main_cst_1, val_main_cst_2, val_main_cst_3, val_main_cst_4, val_main_cst_5, val_main_cst_6, val_main_cst_7]
  simp only [Fin.sum_univ_one, u_at, rs_at, mean_at]
  rfl

theorem holds : Cert.algebraic_Kernel13Ideal_Reference13Ideal (hKernel13Ideal := Cert.Kernel13Ideal.Gen.facts) (hReference13Ideal := Cert.Reference13Ideal.Gen.facts) := by
  intro m g m' g' _ hag
  refine ⟨fun c => Cert.Kernel13Ideal.BmmDh2.res5 m c, fun c => Cert.Kernel13Ideal.BmmDh2.res5 m c, fun c => Cert.Kernel13Ideal.BmmDh2.res7 m c, ?_, ?_⟩
  · refine (θ_run _ _ _).mono (fun r h c => ?_) (Cert.Kernel13Ideal.Value.run_blocks m g)
    obtain ⟨h0, h1, h2, h3⟩ := h c
    exact ⟨h0.trans (Cert.Kernel13Ideal.BmmDh2.final5 m c), h1.trans (Cert.Kernel13Ideal.BmmDh2.final6 m c), h2.trans (Cert.Kernel13Ideal.BmmDh2.final7 m c), h3⟩
  · refine (θ_run _ _ _).mono (fun r h c => ?_) (Cert.Reference13Ideal.Value.run (F := Ideal) m' g')
    obtain ⟨h0, h1, h2, h3⟩ := h c
    obtain ⟨e0, e1, e2, e3, e4⟩ := hag c
    refine ⟨?_, ?_, ?_, h3⟩
    · refine (h0.trans (val_main_v43_eq _ _)).trans (funext fun i => ?_)
      idx_vars i
      refine (dx_at _ _ _ _ _ i0 i1).trans ?_
      rw [← Norm.form_eq, e0, e1, e2, e3, e4]
      rfl
    · refine (h1.trans (val_main_v44_eq _ _)).trans (funext fun i => ?_)
      idx_vars i
      refine Eq.trans (dx_at _ _ _ _ _ i0 i1) ?_
      rw [← Norm.form_eq, e0, e1, e2, e3, e4]
      rfl
    · refine (h2.trans (val_main_v45_eq _ _ _)).trans (funext fun i => ?_)
      idx_vars i
      obtain rfl : i0 = 0 := Subsingleton.elim _ _
      refine (dg_at _ _ _ i1).trans ?_
      rw [e0, e1, e2]
      rfl

end Cert.BmmDh2Claim

end
-- ==== Proof.BmmDh.lean ====
/-
  The gradient through the input projection's norm: what the row blocks leave in the result arrays, read at an index. A block's rows
  give their own rows of the residual's gradient; the scale's gradient is added up over the blocks.
-/
module

public import Idealize.ShloMosaic.Lib.Pointwise
public import proofs.«01_k».proof.Proof.Blocks
public import proofs.«01_k».proof.Proof.Norm
public import proofs.«01_k».proof.Proof.Gen.Kernel14Ideal.Value

@[expose] public section

set_option maxRecDepth 16384

noncomputable section

namespace Cert.Kernel14Ideal.BmmDh

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- A block's product with the weights. -/
def acc (x0 : Vec Ideal S512x4352 .bf16) (x1 : Vec Ideal S1x1024x4352 .bf16) : FVec Ideal S512x1024 .f32 := k0_pay3 (F := Ideal) x0 x1
theorem acc_at (x0 : Vec Ideal S512x4352 .bf16) (x1 : Vec Ideal S1x1024x4352 .bf16) (r : Fin 512) (q : Fin 1024) :
    acc x0 x1 (ix2 r q) = ∑ k : Fin 4352, x0 (ix2 r k) * x1 (ix3 0 q k) := by
  unfold acc
  pointwise [k0_pay3]

/-- The inverse root of a row's mean of squares, and the normed row. -/
theorem rs_at (x : Vec Ideal S512x1024 .f32) (r : Fin 512) : k0_pay4 (F := Ideal) x (ix2 r 0) = Norm.rs fun k : Fin 1024 => x (ix2 r k) := by
  pointwise [k0_pay4]
  rfl
theorem xh_at (x : Vec Ideal S512x1024 .f32) (r : Fin 512) (q : Fin 1024) :
    k0_pay5 (F := Ideal) x (ix2 r q) = x (ix2 r q) * Norm.rs fun k : Fin 1024 => x (ix2 r k) := by
  pointwise [k0_pay5]
  rw [rs_at]

section
variable (x0 : Vec Ideal S512x4352 .bf16) (x1 : Vec Ideal S1x1024x4352 .bf16) (x2 : Vec Ideal S512x1024 .f32) (x3 : Vec Ideal S1x1024 .f32) (x4 : Vec Ideal S512x1024 .f32) (xo : Vec Ideal S1x1024 .f32)

/-- What a block leaves of the residual's gradient and of the scale's. -/
theorem dx_at (r : Fin 512) (q : Fin 1024) : (k0_pay6 x0 x1 x2 x3 x4 : FVec Ideal S512x1024 .f32) (ix2 r q)
    = Norm.kform (fun k : Fin 1024 => x2 (ix2 r k)) (fun k => acc x0 x1 (ix2 r k) * x3 (ix2 0 k)) (x4 (ix2 r q)) q := by
  pointwise [k0_pay6]
  simp only [rs_at, xh_at, show ∀ i, k0_pay3 (F := Ideal) x0 x1 i = acc x0 x1 i from fun _ => rfl]
  rfl
theorem dxb_at (i : S512x1024.Idx) : (k0_pay7 x0 x1 x2 x3 x4 : FVec Ideal S512x1024 .bf16) i = (k0_pay6 x0 x1 x2 x3 x4 : FVec Ideal S512x1024 .f32) i := rfl
def dgs (q : Fin 1024) : EReal := ∑ r : Fin 512, acc x0 x1 (ix2 r q) * (x2 (ix2 r q) * Norm.rs fun k : Fin 1024 => x2 (ix2 r k))
theorem dg_at (q : Fin 1024) : (k0_pay1 (k0_pay8 x0 x1 x2) : FVec Ideal S1x1024 .f32) (ix2 0 q)
    = dgs x0 x1 x2 q := by
  unfold dgs
  pointwise [k0_pay1, k0_pay8]
  simp only [xh_at]
  rfl
theorem dgb_at (q : Fin 1024) : (k0_pay2 (k0_pay8 x0 x1 x2) xo : FVec Ideal S1x1024 .f32) (ix2 0 q)
    = xo (ix2 0 q) + dgs x0 x1 x2 q := by
  unfold dgs
  pointwise [k0_pay2, k0_pay1, k0_pay8]
  simp only [xh_at]
  rfl

variable (c : Dev nD) (i : grid0.Coords) (a1 : Memref sig .tc .vmem S512x4352 .bf16) (h1 : a1.IsWhole) (a2 : Memref sig .tc .vmem S1x1024x4352 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)

theorem outA5 (hc0 : cond0_0 i) (hc1 : ¬cond0_1 i) : out0_A_5 (F := Ideal) c i a1 h1 a2 h2 a3 h3 a4 h4 a5 h5 a6 h6 a7 h7 a8 h8 hc0 hc1 x0 x1 x2 x3 x4 = (k0_pay6 x0 x1 x2 x3 x4 : FVec Ideal S512x1024 .f32) := by
  unfold out0_A_5
  rw [View.read_writes_eq_canon _ _ _ (cover0_A_5 c i a1 h1 a2 h2 a3 h3 a4 h4 a5 h5 a6 h6 a7 h7 a8 h8 hc0 hc1 x0 x1 x2 x3 x4)]
  unfold kernelRun0_A
  dsimp only
  sl_unfold_words
  rw [View.canon_unit_zero z2]
  simp only [View.readAt_eq_ld, h1.read_unread, h2.read_unread, h3.read_unread, h4.read_unread, h5.read_unread, h8.read_unread, View.ld_unit_zero (S := S512x4352) z2, View.ld_unit_zero (S := S1x1024) z2, View.ld_unit_zero (S := S512x1024) z2, View.ld_unit_zero (S := S1x1024x4352) z3]
  try rfl
theorem outA6 (hc0 : cond0_0 i) (hc1 : ¬cond0_1 i) : out0_A_6 (F := Ideal) c i a1 h1 a2 h2 a3 h3 a4 h4 a5 h5 a6 h6 a7 h7 a8 h8 hc0 hc1 x0 x1 x2 x3 x4 = (k0_pay7 x0 x1 x2 x3 x4 : FVec Ideal S512x1024 .bf16) := by
  unfold out0_A_6
  rw [View.read_writes_eq_canon _ _ _ (cover0_A_6 c i a1 h1 a2 h2 a3 h3 a4 h4 a5 h5 a6 h6 a7 h7 a8 h8 hc0 hc1 x0 x1 x2 x3 x4)]
  unfold kernelRun0_A
  dsimp only
  sl_unfold_words
  rw [View.canon_unit_zero z2]
  simp only [View.readAt_eq_ld, h1.read_unread, h2.read_unread, h3.read_unread, h4.read_unread, h5.read_unread, h8.read_unread, View.ld_unit_zero (S := S512x4352) z2, View.ld_unit_zero (S := S1x1024) z2, View.ld_unit_zero (S := S512x1024) z2, View.ld_unit_zero (S := S1x1024x4352) z3]
  try rfl
theorem outA7 (hc0 : cond0_0 i) (hc1 : ¬cond0_1 i) : out0_A_7 (F := Ideal) c i a1 h1 a2 h2 a3 h3 a4 h4 a5 h5 a6 h6 a7 h7 a8 h8 hc0 hc1 x0 x1 x2 x3 x4 = (k0_pay1 (k0_pay8 x0 x1 x2) : FVec Ideal S1x1024 .f32) := by
  unfold out0_A_7
  rw [View.read_writes_eq_canon _ _ _ (cover0_A_7 c i a1 h1 a2 h2 a3 h3 a4 h4 a5 h5 a6 h6 a7 h7 a8 h8 hc0 hc1 x0 x1 x2 x3 x4)]
  unfold kernelRun0_A
  dsimp only
  sl_unfold_words
  rw [View.canon_unit_zero z2]
  simp only [View.readAt_eq_ld, h1.read_unread, h2.read_unread, h3.read_unread, h4.read_unread, h5.read_unread, h8.read_unread, View.ld_unit_zero (S := S512x4352) z2, View.ld_unit_zero (S := S1x1024) z2, View.ld_unit_zero (S := S512x1024) z2, View.ld_unit_zero (S := S1x1024x4352) z3]
  try rfl
theorem outB5 (hc0 : ¬cond0_0 i) (hc1 : cond0_1 i) : out0_B_5 (F := Ideal) c i a1 h1 a2 h2 a3 h3 a4 h4 a5 h5 a6 h6 a7 h7 a8 h8 hc0 hc1 x0 x1 x2 x3 x4 xo = (k0_pay6 x0 x1 x2 x3 x4 : FVec Ideal S512x1024 .f32) := by
  unfold out0_B_5
  rw [View.read_writes_eq_canon _ _ _ (cover0_B_5 c i a1 h1 a2 h2 a3 h3 a4 h4 a5 h5 a6 h6 a7 h7 a8 h8 hc0 hc1 x0 x1 x2 x3 x4 xo)]
  unfold kernelRun0_B
  dsimp only
  sl_unfold_words
  rw [View.canon_unit_zero z2]
  simp only [View.readAt_eq_ld, h1.read_unread, h2.read_unread, h3.read_unread, h4.read_unread, h5.read_unread, h8.read_unread, View.ld_unit_zero (S := S512x4352) z2, View.ld_unit_zero (S := S1x1024) z2, View.ld_unit_zero (S := S512x1024) z2, View.ld_unit_zero (S := S1x1024x4352) z3]
  try rfl
theorem outB6 (hc0 : ¬cond0_0 i) (hc1 : cond0_1 i) : out0_B_6 (F := Ideal) c i a1 h1 a2 h2 a3 h3 a4 h4 a5 h5 a6 h6 a7 h7 a8 h8 hc0 hc1 x0 x1 x2 x3 x4 xo = (k0_pay7 x0 x1 x2 x3 x4 : FVec Ideal S512x1024 .bf16) := by
  unfold out0_B_6
  rw [View.read_writes_eq_canon _ _ _ (cover0_B_6 c i a1 h1 a2 h2 a3 h3 a4 h4 a5 h5 a6 h6 a7 h7 a8 h8 hc0 hc1 x0 x1 x2 x3 x4 xo)]
  unfold kernelRun0_B
  dsimp only
  sl_unfold_words
  rw [View.canon_unit_zero z2]
  simp only [View.readAt_eq_ld, h1.read_unread, h2.read_unread, h3.read_unread, h4.read_unread, h5.read_unread, h8.read_unread, View.ld_unit_zero (S := S512x4352) z2, View.ld_unit_zero (S := S1x1024) z2, View.ld_unit_zero (S := S512x1024) z2, View.ld_unit_zero (S := S1x1024x4352) z3]
  try rfl
theorem outB7 (hc0 : ¬cond0_0 i) (hc1 : cond0_1 i) : out0_B_7 (F := Ideal) c i a1 h1 a2 h2 a3 h3 a4 h4 a5 h5 a6 h6 a7 h7 a8 h8 hc0 hc1 x0 x1 x2 x3 x4 xo = (k0_pay2 (k0_pay8 x0 x1 x2) xo : FVec Ideal S1x1024 .f32) := by
  unfold out0_B_7
  rw [View.read_writes_eq_canon _ _ _ (cover0_B_7 c i a1 h1 a2 h2 a3 h3 a4 h4 a5 h5 a6 h6 a7 h7 a8 h8 hc0 hc1 x0 x1 x2 x3 x4 xo)]
  unfold kernelRun0_B
  dsimp only
  sl_unfold_words
  rw [View.canon_unit_zero z2]
  simp only [View.readAt_eq_ld, h1.read_unread, h2.read_unread, h3.read_unread, h4.read_unread, h5.read_unread, h8.read_unread, View.ld_unit_zero (S := S512x4352) z2, View.ld_unit_zero (S := S1x1024) z2, View.ld_unit_zero (S := S512x1024) z2, View.ld_unit_zero (S := S1x1024x4352) z3]
  try rfl
end

/-- The row of the arrays a row of the block at a point is. -/
def row (t : Fin cfg0.N) (r : Fin 512) : Fin 8192 := ⟨512 * t.val + r.val, by have hN : cfg0.N = 16 := N_0; omega⟩

theorem idx0 (t : Fin cfg0.N) : win0_0.index t 0 = t.val ∧ win0_0.index t 1 = 0 := by
  revert t; decide +kernel
theorem idx2 (t : Fin cfg0.N) : win0_2.index t 0 = t.val ∧ win0_2.index t 1 = 0 := by
  revert t; decide +kernel
theorem idx4 (t : Fin cfg0.N) : win0_4.index t 0 = t.val ∧ win0_4.index t 1 = 0 := by
  revert t; decide +kernel
theorem idx5 (t : Fin cfg0.N) : win0_5.index t 0 = t.val ∧ win0_5.index t 1 = 0 := by
  revert t; decide +kernel
theorem idx6 (t : Fin cfg0.N) : win0_6.index t 0 = t.val ∧ win0_6.index t 1 = 0 := by
  revert t; decide +kernel
theorem idx1 (t : Fin cfg0.N) : win0_1.index t 0 = 0 ∧ win0_1.index t 1 = 0 ∧ win0_1.index t 2 = 0 := by
  revert t; decide +kernel
theorem idx3 (t : Fin cfg0.N) : win0_3.index t 0 = 0 ∧ win0_3.index t 1 = 0 := by
  revert t; decide +kernel
theorem idx7 (t : Fin cfg0.N) : win0_7.index t 0 = 0 ∧ win0_7.index t 1 = 0 := by
  revert t; decide +kernel

/-- The operands as tables of extended reals. -/
def X0 (c : Dev nD) : (⟨2, ![8192, 4352]⟩ : Shape).Idx → EReal := m ((c : Thread nD τ).loc main_arg0)
def X1 (c : Dev nD) : (⟨2, ![1024, 4352]⟩ : Shape).Idx → EReal := m ((c : Thread nD τ).loc main_arg1)
def X2 (c : Dev nD) : (⟨2, ![8192, 1024]⟩ : Shape).Idx → EReal := m ((c : Thread nD τ).loc main_arg2)
def X3 (c : Dev nD) : (⟨2, ![1, 1024]⟩ : Shape).Idx → EReal := m ((c : Thread nD τ).loc main_arg3)
def X4 (c : Dev nD) : (⟨2, ![8192, 1024]⟩ : Shape).Idx → EReal := m ((c : Thread nD τ).loc main_arg4)

theorem blk0 (c : Dev nD) (t : Fin cfg0.N) (r : Fin 512) (k : Fin 4352) :
    (iblk m c 0 t : Vec Ideal S512x4352 .bf16) (ix2 r k) = X0 m c (ix2 (row t r) k) := by
  unfold iblk
  rw [View.read_apply]
  show V m c main_arg0 _ = m (c.tc.loc main_arg0) _
  rw [V_main_arg0 m c]
  refine congrArg (m (c.tc.loc main_arg0)) (funext fun a => Fin.ext ?_)
  match a with
  | ⟨0, _⟩ => show win0_0.index t 0 * 512 + 1 * r.val = 512 * t.val + r.val; rw [(idx0 t).1]; omega
  | ⟨1, _⟩ => show win0_0.index t 1 * 4352 + 1 * k.val = k.val; rw [(idx0 t).2]; omega
theorem blk2 (c : Dev nD) (t : Fin cfg0.N) (r : Fin 512) (k : Fin 1024) :
    (iblk m c 2 t : Vec Ideal S512x1024 .f32) (ix2 r k) = X2 m c (ix2 (row t r) k) := by
  unfold iblk
  rw [View.read_apply]
  show V m c main_arg2 _ = m (c.tc.loc main_arg2) _
  rw [V_main_arg2 m c]
  refine congrArg (m (c.tc.loc main_arg2)) (funext fun a => Fin.ext ?_)
  match a with
  | ⟨0, _⟩ => show win0_2.index t 0 * 512 + 1 * r.val = 512 * t.val + r.val; rw [(idx2 t).1]; omega
  | ⟨1, _⟩ => show win0_2.index t 1 * 1024 + 1 * k.val = k.val; rw [(idx2 t).2]; omega
theorem blk4 (c : Dev nD) (t : Fin cfg0.N) (r : Fin 512) (k : Fin 1024) :
    (iblk m c 4 t : Vec Ideal S512x1024 .f32) (ix2 r k) = X4 m c (ix2 (row t r) k) := by
  unfold iblk
  rw [View.read_apply]
  show V m c main_arg4 _ = m (c.tc.loc main_arg4) _
  rw [V_main_arg4 m c]
  refine congrArg (m (c.tc.loc main_arg4)) (funext fun a => Fin.ext ?_)
  match a with
  | ⟨0, _⟩ => show win0_4.index t 0 * 512 + 1 * r.val = 512 * t.val + r.val; rw [(idx4 t).1]; omega
  | ⟨1, _⟩ => show win0_4.index t 1 * 1024 + 1 * k.val = k.val; rw [(idx4 t).2]; omega
theorem blk3 (c : Dev nD) (t : Fin cfg0.N) (k : Fin 1024) :
    (iblk m c 3 t : Vec Ideal S1x1024 .f32) (ix2 0 k) = X3 m c (ix2 0 k) := by
  unfold iblk
  rw [View.read_apply]
  show V m c main_arg3 _ = m (c.tc.loc main_arg3) _
  rw [V_main_arg3 m c]
  refine congrArg (m (c.tc.loc main_arg3)) (funext fun a => Fin.ext ?_)
  match a with
  | ⟨0, _⟩ => show win0_3.index t 0 * 1 + 1 * 0 = 0; rw [(idx3 t).1]
  | ⟨1, _⟩ => show win0_3.index t 1 * 1024 + 1 * k.val = k.val; rw [(idx3 t).2]; omega
theorem V_w (c : Dev nD) : V m c main_v0 = broadcastInDim S1x1024x4352 ![1, 2] bcast_S1024x4352_S1x1024x4352_1_2 (m ((c : Thread nD τ).loc main_arg1)) := rfl
theorem blk1 (c : Dev nD) (t : Fin cfg0.N) (p : Fin 1024) (k : Fin 4352) :
    (iblk m c 1 t : Vec Ideal S1x1024x4352 .bf16) (ix3 0 p k) = X1 m c (ix2 p k) := by
  unfold iblk
  rw [View.read_apply]
  show V m c main_v0 _ = m (c.tc.loc main_arg1) _
  rw [V_w m c]
  refine congrArg (m (c.tc.loc main_arg1)) (funext fun a => Fin.ext ?_)
  match a with
  | ⟨0, _⟩ => show win0_1.index t 1 * 1024 + 1 * p.val = p.val; rw [(idx1 t).2.1]; omega
  | ⟨1, _⟩ => show win0_1.index t 2 * 4352 + 1 * k.val = k.val; rw [(idx1 t).2.2]; omega

/-- The product with the weights, the residual's gradient, and a token's part of the scale's. -/
def tot (c : Dev nD) (R : Fin 8192) (q : Fin 1024) : EReal := ∑ f : Fin 4352, X0 m c (ix2 R f) * X1 m c (ix2 q f)
def dxv (c : Dev nD) (R : Fin 8192) (q : Fin 1024) : EReal :=
  Norm.kform (fun k : Fin 1024 => X2 m c (ix2 R k)) (fun k => tot m c R k * X3 m c (ix2 0 k)) (X4 m c (ix2 R q)) q
def dgr (c : Dev nD) (R : Fin 8192) (q : Fin 1024) : EReal := tot m c R q * (X2 m c (ix2 R q) * Norm.rs fun k : Fin 1024 => X2 m c (ix2 R k))
def dgt (c : Dev nD) (q : Fin 1024) (n : ℕ) : EReal := if h : n < 8192 then dgr m c ⟨n, h⟩ q else 0

theorem acc_blk (c : Dev nD) (t : Fin cfg0.N) (r : Fin 512) (q : Fin 1024) :
    acc (iblk m c 0 t : Vec Ideal S512x4352 .bf16) (iblk m c 1 t : Vec Ideal S1x1024x4352 .bf16) (ix2 r q) = tot m c (row t r) q := by
  rw [acc_at]
  exact Finset.sum_congr rfl fun k _ => by rw [blk0, blk1]
theorem dx_blk (c : Dev nD) (t : Fin cfg0.N) (r : Fin 512) (q : Fin 1024) :
    Norm.kform (fun k : Fin 1024 => (iblk m c 2 t : Vec Ideal S512x1024 .f32) (ix2 r k))
      (fun k => acc (iblk m c 0 t : Vec Ideal S512x4352 .bf16) (iblk m c 1 t : Vec Ideal S1x1024x4352 .bf16) (ix2 r k) * (iblk m c 3 t : Vec Ideal S1x1024 .f32) (ix2 0 k))
      ((iblk m c 4 t : Vec Ideal S512x1024 .f32) (ix2 r q)) q = dxv m c (row t r) q := by
  simp only [acc_blk, blk2, blk3, blk4]
  rfl
theorem dg_blk (c : Dev nD) (t : Fin cfg0.N) (q : Fin 1024) :
    dgs (iblk m c 0 t : Vec Ideal S512x4352 .bf16) (iblk m c 1 t : Vec Ideal S1x1024x4352 .bf16) (iblk m c 2 t : Vec Ideal S512x1024 .f32) q
      = ∑ r : Fin 512, dgt m c q (512 * t.val + r.val) := by
  unfold dgs
  refine Finset.sum_congr rfl fun r _ => ?_
  have h : 512 * t.val + r.val < 8192 := (row t r).isLt
  rw [dgt, dif_pos h]
  simp only [acc_blk, blk2]
  rfl

theorem at5 (c : Dev nD) (t : Fin cfg0.N) (r : Fin 512) (q : Fin 1024) : (outsAt0 m c t.val t.isLt).1 (ix2 r q) = dxv m c (row t r) q := by
  have hN : cfg0.N = 16 := N_0
  by_cases h0 : t.val % 16 = 0
  · rw [outsAt0_A m c t h0 (by omega)]
    dsimp only
    rw [outA5, dx_at, dx_blk]
  · rw [outsAt0_B m c t h0 (by omega)]
    dsimp only
    rw [outB5, dx_at, dx_blk]
theorem at6 (c : Dev nD) (t : Fin cfg0.N) (r : Fin 512) (q : Fin 1024) : (outsAt0 m c t.val t.isLt).2.1 (ix2 r q) = dxv m c (row t r) q := by
  have hN : cfg0.N = 16 := N_0
  by_cases h0 : t.val % 16 = 0
  · rw [outsAt0_A m c t h0 (by omega)]
    dsimp only
    rw [outA6, dxb_at, dx_at, dx_blk]
  · rw [outsAt0_B m c t h0 (by omega)]
    dsimp only
    rw [outB6, dxb_at, dx_at, dx_blk]

/-- The scale's gradient after point `n` is the sum over the blocks up to it. -/
theorem outs7_at (c : Dev nD) (q : Fin 1024) : ∀ (n : ℕ) (h : n < cfg0.N),
    (outsAt0 m c n h).2.2 (ix2 0 q) = ∑ l ∈ Finset.range (n + 1), ∑ r : Fin 512, dgt m c q (512 * l + r.val)
  | 0, h => by
    rw [show outsAt0 m c 0 h = _ from outsAt0_A m c ⟨0, h⟩ (Nat.zero_mod _) (by dsimp only; omega)]
    dsimp only
    rw [outA7, dg_at, dg_blk, Finset.sum_range_one]
  | n + 1, h => by
    have hN : cfg0.N = 16 := N_0
    rw [show outsAt0 m c (n + 1) h = _ from outsAt0_B m c ⟨n + 1, h⟩ (by dsimp only; omega) (by dsimp only; omega)]
    dsimp only
    rw [outB7, dgb_at, dg_blk, Finset.sum_range_succ _ (n + 1)]
    exact congrArg (· + _) (outs7_at c q n (Nat.lt_of_succ_lt h))

theorem at7 (c : Dev nD) (t : Fin cfg0.N) (h : t.val % 16 = 15) (q : Fin 1024) :
    (outsAt0 m c t.val t.isLt).2.2 (ix2 0 q) = ∑ R : Fin 8192, dgr m c R q := by
  have hN : cfg0.N = 16 := N_0
  have ht : t.val = 15 := by omega
  rw [outs7_at, ht, Blocks.sum_blocks_fin (k := 512) (n := 15 + 1) (N := 8192) (by norm_num) (dgt m c q)]
  exact Finset.sum_congr rfl fun R _ => by rw [dgt, dif_pos R.isLt]

/-- The result arrays. -/
def res5 (c : Dev nD) : (⟨2, ![8192, 1024]⟩ : Shape).Idx → EReal := fun i => dxv m c (i 0) (i 1)
def res7 (c : Dev nD) : (⟨2, ![1, 1024]⟩ : Shape).Idx → EReal := fun i => ∑ R : Fin 8192, dgr m c R (i 1)

theorem final5 (c : Dev nD) : (dats m 0 c).arrAt 5 cfg0.N = res5 m c :=
  (dats m 0 c).arrAt_eq_of_cover 5 (res5 m c) (fun t hf => by
    rw [Value.flushed5]
    funext y
    idx_vars y
    refine (at5 m c t y0 y1).trans ?_
    rw [View.read_apply]
    unfold res5
    congr 1
    · apply Fin.ext
      show 512 * t.val + y0.val = win0_5.index t 0 * 512 + 1 * y0.val; rw [(idx5 t).1]; omega
    · apply Fin.ext
      show y1.val = win0_5.index t 1 * 1024 + 1 * y1.val; rw [(idx5 t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_5 t, ?_⟩
    show i ∈ ((View.whole main_v1_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [(idx5 t).1]; omega
    | ⟨1, _⟩ => show win0_5.index t 1 * 1024 ≤ (i 1 : Nat) ∧ (i 1 : Nat) < win0_5.index t 1 * 1024 + 1024; rw [(idx5 t).2]; omega

theorem final6 (c : Dev nD) : (dats m 0 c).arrAt 6 cfg0.N = res5 m c :=
  (dats m 0 c).arrAt_eq_of_cover 6 (res5 m c) (fun t hf => by
    rw [Value.flushed6]
    funext y
    idx_vars y
    refine (at6 m c t y0 y1).trans ?_
    rw [View.read_apply]
    unfold res5
    congr 1
    · apply Fin.ext
      show 512 * t.val + y0.val = win0_6.index t 0 * 512 + 1 * y0.val; rw [(idx6 t).1]; omega
    · apply Fin.ext
      show y1.val = win0_6.index t 1 * 1024 + 1 * y1.val; rw [(idx6 t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_6 t, ?_⟩
    show i ∈ ((View.whole main_v1_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [(idx6 t).1]; omega
    | ⟨1, _⟩ => show win0_6.index t 1 * 1024 ≤ (i 1 : Nat) ∧ (i 1 : Nat) < win0_6.index t 1 * 1024 + 1024; rw [(idx6 t).2]; omega
theorem final7 (c : Dev nD) : (dats m 0 c).arrAt 7 cfg0.N = res7 m c :=
  (dats m 0 c).arrAt_eq_of_cover 7 (res7 m c) (fun t hf => by
    rw [Value.flushed7]
    funext y
    idx_vars y
    have hy0 : y0 = 0 := Subsingleton.elim _ _
    subst hy0
    refine (at7 m c t ((flush0_7 t).mp hf) y1).trans ?_
    rw [View.read_apply]
    unfold res7
    refine congrArg (fun q : Fin 1024 => ∑ R : Fin 8192, dgr m c R q) (Fin.ext ?_)
    show y1.val = win0_7.index t 1 * 1024 + 1 * y1.val; rw [(idx7 t).2]; omega) fun i => by
    have h0 : (i 0 : Nat) < 1 := (i 0).isLt
    have h1 : (i 1 : Nat) < 1024 := (i 1).isLt
    have hN : cfg0.N = 16 := N_0
    obtain ⟨t, ht⟩ : ∃ t : Fin cfg0.N, t.val = 15 := ⟨⟨15, by omega⟩, rfl⟩
    refine ⟨t, (flush0_7 t).mpr (by omega), ?_⟩
    show i ∈ ((View.whole main_v1_2).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1; rw [(idx7 t).1]; omega
    | ⟨1, _⟩ => show win0_7.index t 1 * 1024 ≤ (i 1 : Nat) ∧ (i 1 : Nat) < win0_7.index t 1 * 1024 + 1024; rw [(idx7 t).2]; omega

end Cert.Kernel14Ideal.BmmDh

end
-- ==== Proof.BmmDhClaim.lean ====
/-
  The gradient through the input projection's norm: the kernel's row blocks and the reference's three results are the same.
-/
module

public import proofs.«01_k».proof.Defs
public import proofs.«01_k».proof.Proof.BmmDh
public import proofs.«01_k».proof.Proof.Gen.Reference14Ideal.Read

@[expose] public section

set_option maxRecDepth 16384

noncomputable section

namespace Cert.BmmDhClaim

open Idealize.ShloMosaic Idealize.ShloMosaic.TcCoe Idealize.SL.Sem
open Cert.Reference14Ideal.Read Cert.Kernel14Ideal.BmmDh

variable (x0 : (⟨Cert.Reference14Ideal.S8192x4352, .bf16⟩ : BufTy).Contents (Elt Ideal)) (x1 : (⟨Cert.Reference14Ideal.S1024x4352, .bf16⟩ : BufTy).Contents (Elt Ideal))
  (x2 : (⟨Cert.Reference14Ideal.S8192x1024, .f32⟩ : BufTy).Contents (Elt Ideal)) (x3 : (⟨Cert.Reference14Ideal.S1x1024, .f32⟩ : BufTy).Contents (Elt Ideal)) (x4 : (⟨Cert.Reference14Ideal.S8192x1024, .f32⟩ : BufTy).Contents (Elt Ideal))

/-- The product with the weights. -/
def prod (r : Fin 8192) (q : Fin 1024) : EReal := ∑ f : Fin 4352, x0 (ix2 r f) * x1 (ix2 q f)
theorem prod_at (r : Fin 8192) (q : Fin 1024) : val_main_v20 (F := Ideal) x0 x1 (ix2 r q) = prod x0 x1 r q := by
  unfold prod
  pointwise [val_main_v20, val_main_v19, val_main_v17]

/-- A row's mean of squares, its inverse root, and the normed row. -/
theorem ms_at (r : Fin 8192) : val_main_v7 (F := Ideal) x2 (ix2 r 0) = Norm.ms fun k : Fin 1024 => x2 (ix2 r k) := by
  pointwise [val_main_v7, val_main_v6, val_main_v5, val_main_v4, val_main_v3, val_main_v2, val_main_v1, val_main_cst, val_main_cst_0, val_main_cst_1, val_main_cst_2, val_main_cst_3, val_main_cst_4, val_main_cst_5, val_main_cst_6, val_main_cst_7]
  rfl
theorem rs_at (r : Fin 8192) : val_main_v8 (F := Ideal) x2 (ix2 r 0) = Norm.rs fun k : Fin 1024 => x2 (ix2 r k) := by
  show Ideal.rsqrt (val_main_v7 (F := Ideal) x2 (ix2 r 0)) = _
  rw [ms_at]
  rfl
theorem xh_at (r : Fin 8192) (q : Fin 1024) : val_main_v13 (F := Ideal) x2 (ix2 r q) = x2 (ix2 r q) * Norm.rs fun k : Fin 1024 => x2 (ix2 r k) := by
  pointwise [val_main_v13, val_main_v12]
  rw [rs_at]

theorem zero_bits : Ideal.ofBits .f32 0x00000000#32 = 0 := by simp [Ideal.ofBits, Ideal.ieee]

/-- The scale's gradient. -/
theorem dg_at (q : Fin 1024) : val_main_v43 (F := Ideal) x0 x1 x2 (ix2 0 q) = ∑ r : Fin 8192, prod x0 x1 r q * (x2 (ix2 r q) * Norm.rs fun k : Fin 1024 => x2 (ix2 r k)) := by
  rw [val_main_v43_apply, val_main_v26_apply, Fin.sum_univ_one, val_main_v23_apply, val_main_v22_apply]
  show Ideal.ofBits .f32 0x00000000#32 + (Ideal.ofBits .f32 0x00000000#32 + _) = _
  rw [zero_bits, zero_add, zero_add]
  refine Finset.sum_congr rfl fun r _ => ?_
  refine (congrArg (val_main_v21 (F := Ideal) x0 x1 x2) (show _ = ix2 r q from funext fun y => Fin.ext ?_)).trans ?_
  · match y with
    | ⟨0, _⟩ => rfl
    | ⟨1, _⟩ => show 0 * 1024 + q.val = q.val; omega
  · show val_main_v13 (F := Ideal) x2 (ix2 r q) * val_main_v20 (F := Ideal) x0 x1 (ix2 r q) = _
    rw [xh_at, prod_at, mul_comm]

/-- The gradient that reaches the normed row, what the mean of squares contributes, and the residual's gradient. -/
theorem u_at (r : Fin 8192) (q : Fin 1024) : val_main_v25 (F := Ideal) x0 x1 x3 (ix2 r q) = prod x0 x1 r q * x3 (ix2 0 q) := by
  pointwise [val_main_v25, val_main_v24, val_main_v14, val_main_v0]
  rw [prod_at]
theorem mean_at (r : Fin 8192) : val_main_v35 (F := Ideal) x0 x1 x2 x3 (ix2 r 0)
    = Norm.mean' (fun k : Fin 1024 => x2 (ix2 r k)) (fun k => prod x0 x1 r k * x3 (ix2 0 k)) := by
  pointwise [val_main_v35, val_main_v34, val_main_v33, val_main_v29, val_main_v28, val_main_v27, val_main_v11, val_main_v10, val_main_v9, val_main_cst, val_main_cst_0, val_main_cst_1, val_main_cst_2, val_main_cst_3, val_main_cst_4, val_main_cst_5, val_main_cst_6, val_main_cst_7]
  simp only [u_at, rs_at, ms_at]
  rfl
theorem dx_at (r : Fin 8192) (q : Fin 1024) : val_main_v41 (F := Ideal) x0 x1 x2 x3 x4 (ix2 r q)
    = Norm.rform (fun k : Fin 1024 => x2 (ix2 r k)) (fun k => prod x0 x1 r k * x3 (ix2 0 k)) (x4 (ix2 r q)) q := by
  pointwise [val_main_v41, val_main_v40, val_main_v39, val_main_v38, val_main_v37, val_main_v36, val_main_v32, val_main_v31, val_main_v30, val_main_cst, val_main_cst_0, val_main_cst_1, val_main_cst_2, val_main_cst_3, val_main_cst_4, val_main_cst_5, val_main_cst_6, val_main_cst_7]
  simp only [Fin.sum_univ_one, u_at, rs_at, mean_at]
  rfl

theorem holds : Cert.algebraic_Kernel14Ideal_Reference14Ideal (hKernel14Ideal := Cert.Kernel14Ideal.Gen.facts) (hReference14Ideal := Cert.Reference14Ideal.Gen.facts) := by
  intro m g m' g' _ hag
  refine ⟨fun c => Cert.Kernel14Ideal.BmmDh.res5 m c, fun c => Cert.Kernel14Ideal.BmmDh.res5 m c, fun c => Cert.Kernel14Ideal.BmmDh.res7 m c, ?_, ?_⟩
  · refine (θ_run _ _ _).mono (fun r h c => ?_) (Cert.Kernel14Ideal.Value.run_blocks m g)
    obtain ⟨h0, h1, h2, h3⟩ := h c
    exact ⟨h0.trans (Cert.Kernel14Ideal.BmmDh.final5 m c), h1.trans (Cert.Kernel14Ideal.BmmDh.final6 m c), h2.trans (Cert.Kernel14Ideal.BmmDh.final7 m c), h3⟩
  · refine (θ_run _ _ _).mono (fun r h c => ?_) (Cert.Reference14Ideal.Value.run (F := Ideal) m' g')
    obtain ⟨h0, h1, h2, h3⟩ := h c
    obtain ⟨e0, e1, e2, e3, e4⟩ := hag c
    refine ⟨?_, ?_, ?_, h3⟩
    · refine (h0.trans (val_main_v41_eq _ _)).trans (funext fun i => ?_)
      idx_vars i
      refine (dx_at _ _ _ _ _ i0 i1).trans ?_
      rw [← Norm.form_eq, e0, e1, e2, e3, e4]
      rfl
    · refine (h1.trans (val_main_v42_eq _ _)).trans (funext fun i => ?_)
      idx_vars i
      refine Eq.trans (dx_at _ _ _ _ _ i0 i1) ?_
      rw [← Norm.form_eq, e0, e1, e2, e3, e4]
      rfl
    · refine (h2.trans (val_main_v43_eq _ _ _)).trans (funext fun i => ?_)
      idx_vars i
      obtain rfl : i0 = 0 := Subsingleton.elim _ _
      refine (dg_at _ _ _ i1).trans ?_
      rw [e0, e1, e2]
      rfl

end Cert.BmmDhClaim

end
-- ==== Proof.MergeOut.lean ====
/-
  The merge of the two branches and the product with `w_out`: what the row blocks leave in the two result arrays, read
  at an index. The logistic is a hyperbolic tangent of half the argument.
-/
module

public import Idealize.ShloMosaic.Lib.Pointwise
public import proofs.«01_k».proof.Proof.Sig
public import proofs.«01_k».proof.Proof.Gen.Kernel15Ideal.Value

@[expose] public section

set_option maxRecDepth 16384

noncomputable section

namespace Cert.Kernel15Ideal.MergeOut

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl

/-- The two gates' columns. -/
abbrev ca (q : Fin 1024) : Fin 2048 := ⟨q.val, by omega⟩
abbrev cb (q : Fin 1024) : Fin 2048 := ⟨1024 + q.val, by omega⟩

theorem lda (x0 : Vec Ideal S512x2048 .bf16) (r : Fin 512) (q : Fin 1024) :
    View.ld x0 (Rect.unit (s := S512x2048) ![0, 0] S512x1024.size inb_S512x2048_S512x1024_0_0) (ix2 r q) = x0 (ix2 r (ca q)) := by
  refine congrArg x0 (funext fun a => Fin.ext ?_)
  match a with
  | ⟨0, _⟩ => show 0 + 1 * r.val = r.val; omega
  | ⟨1, _⟩ => show 0 + 1 * q.val = q.val; omega
theorem ldb (x0 : Vec Ideal S512x2048 .bf16) (r : Fin 512) (q : Fin 1024) :
    View.ld x0 (Rect.unit (s := S512x2048) ![0, 1024] S512x1024.size inb_S512x2048_S512x1024_0_1024) (ix2 r q) = x0 (ix2 r (cb q)) := by
  refine congrArg x0 (funext fun a => Fin.ext ?_)
  match a with
  | ⟨0, _⟩ => show 0 + 1 * r.val = r.val; omega
  | ⟨1, _⟩ => show 1024 + 1 * q.val = 1024 + q.val; omega

theorem pay1_at (a b : Vec Ideal S512x1024 .bf16) (x y : Vec Ideal S512x1024 .f32) (i : S512x1024.Idx) :
    k0_pay1 (F := Ideal) a b x y i = Sig.hsig (a i) * x i + Sig.hsig (b i) * y i := by
  unfold k0_pay1
  show (Ideal.ofBits .f32 0x3F000000#32 * Ideal.tanh (Ideal.ofBits .f32 0x3F000000#32 * a i) + Ideal.ofBits .f32 0x3F000000#32) * x i
    + (Ideal.ofBits .f32 0x3F000000#32 * Ideal.tanh (Ideal.ofBits .f32 0x3F000000#32 * b i) + Ideal.ofBits .f32 0x3F000000#32) * y i = _
  rw [Sig.half_bits]
  rfl

theorem pay2_at (a b : Vec Ideal S512x1024 .bf16) (x y z : Vec Ideal S512x1024 .f32) (w : Vec Ideal S1024x1024 .bf16) (r : Fin 512) (q : Fin 1024) :
    k0_pay2 (F := Ideal) a b x y z w (ix2 r q) = z (ix2 r q) + ∑ k : Fin 1024, (Sig.hsig (a (ix2 r k)) * x (ix2 r k) + Sig.hsig (b (ix2 r k)) * y (ix2 r k)) * w (ix2 k q) := by
  pointwise [k0_pay2]
  simp only [pay1_at]

section
variable (c : Dev nD) (i : grid0.Coords) (a1 : Memref sig .tc .vmem S512x2048 .bf16) (h1 : a1.IsWhole) (a2 : Memref sig .tc .vmem S512x1024 .f32) (h2 : a2.IsWhole) (a3 : Memref sig .tc .vmem S512x1024 .f32) (h3 : a3.IsWhole) (a4 : Memref sig .tc .vmem S1024x1024 .bf16) (h4 : a4.IsWhole) (a5 : Memref sig .tc .vmem S512x1024 .f32) (h5 : a5.IsWhole) (a6 : Memref sig .tc .vmem S512x1024 .bf16) (h6 : a6.IsWhole) (a7 : Memref sig .tc .vmem S512x1024 .f32) (h7 : a7.IsWhole)
  (x0 : Vec Ideal S512x2048 .bf16) (x1 x2 : Vec Ideal S512x1024 .f32) (x3 : Vec Ideal S1024x1024 .bf16) (x4 : Vec Ideal S512x1024 .f32)

/-- The merged value of a block. -/
theorem out5_at (r : Fin 512) (q : Fin 1024) :
    out0_A_5 (F := Ideal) c i a1 h1 a2 h2 a3 h3 a4 h4 a5 h5 a6 h6 a7 h7 x0 x1 x2 x3 x4 (ix2 r q)
      = Sig.hsig (x0 (ix2 r (ca q))) * x1 (ix2 r q) + Sig.hsig (x0 (ix2 r (cb q))) * x2 (ix2 r q) := by
  unfold out0_A_5
  rw [View.read_writes_eq_canon _ _ _ (cover0_A_5 c i a1 h1 a2 h2 a3 h3 a4 h4 a5 h5 a6 h6 a7 h7 x0 x1 x2 x3 x4)]
  unfold kernelRun0_A
  dsimp only
  rw [View.canon_unit_zero z2]
  simp only [View.readAt_eq_ld, h1.read_unread, h2.read_unread, h3.read_unread, View.ld_unit_zero (S := S512x1024) z2]
  rw [pay1_at, ← lda x0 r q, ← ldb x0 r q]

/-- The residual plus the product of a block. -/
theorem out6_at (r : Fin 512) (q : Fin 1024) :
    out0_A_6 (F := Ideal) c i a1 h1 a2 h2 a3 h3 a4 h4 a5 h5 a6 h6 a7 h7 x0 x1 x2 x3 x4 (ix2 r q)
      = x4 (ix2 r q) + ∑ k : Fin 1024, (Sig.hsig (x0 (ix2 r (ca k))) * x1 (ix2 r k) + Sig.hsig (x0 (ix2 r (cb k))) * x2 (ix2 r k)) * x3 (ix2 k q) := by
  unfold out0_A_6
  rw [View.read_writes_eq_canon _ _ _ (cover0_A_6 c i a1 h1 a2 h2 a3 h3 a4 h4 a5 h5 a6 h6 a7 h7 x0 x1 x2 x3 x4)]
  unfold kernelRun0_A
  dsimp only
  rw [View.canon_unit_zero z2]
  simp only [View.readAt_eq_ld, h1.read_unread, h2.read_unread, h3.read_unread, h4.read_unread, h5.read_unread, View.ld_unit_zero (S := S512x1024) z2, View.ld_unit_zero (S := S1024x1024) z2]
  rw [pay2_at]
  exact congrArg (x4 (ix2 r q) + ·) (Finset.sum_congr rfl fun k _ => by rw [← lda x0 r k, ← ldb x0 r k])
end

/-- The row of the arrays a row of the block at a point is. -/
def row (t : Fin cfg0.N) (r : Fin 512) : Fin 8192 := ⟨512 * t.val + r.val, by have hN : cfg0.N = 16 := N_0; omega⟩

/-- The two gates' columns in the whole array. -/
abbrev pa (q : Fin 1024) : Fin 4352 := ⟨q.val, by omega⟩
abbrev pb (q : Fin 1024) : Fin 4352 := ⟨1024 + q.val, by omega⟩

theorem idx0 (t : Fin cfg0.N) : win0_0.index t 0 = t.val ∧ win0_0.index t 1 = 0 := by
  revert t; decide +kernel
theorem idx1 (t : Fin cfg0.N) : win0_1.index t 0 = t.val ∧ win0_1.index t 1 = 0 := by
  revert t; decide +kernel
theorem idx2 (t : Fin cfg0.N) : win0_2.index t 0 = t.val ∧ win0_2.index t 1 = 0 := by
  revert t; decide +kernel
theorem idx4 (t : Fin cfg0.N) : win0_4.index t 0 = t.val ∧ win0_4.index t 1 = 0 := by
  revert t; decide +kernel
theorem idx5 (t : Fin cfg0.N) : win0_5.index t 0 = t.val ∧ win0_5.index t 1 = 0 := by
  revert t; decide +kernel
theorem idx6 (t : Fin cfg0.N) : win0_6.index t 0 = t.val ∧ win0_6.index t 1 = 0 := by
  revert t; decide +kernel
theorem idx3 (t : Fin cfg0.N) : win0_3.index t 0 = 0 ∧ win0_3.index t 1 = 0 := by
  revert t; decide +kernel

/-- The operands as tables of extended reals. -/
def X0 (c : Dev nD) : (⟨2, ![8192, 4352]⟩ : Shape).Idx → EReal := m ((c : Thread nD τ).loc main_arg0)
def X1 (c : Dev nD) : (⟨2, ![8192, 1024]⟩ : Shape).Idx → EReal := m ((c : Thread nD τ).loc main_arg1)
def X2 (c : Dev nD) : (⟨2, ![8192, 1024]⟩ : Shape).Idx → EReal := m ((c : Thread nD τ).loc main_arg2)
def X3 (c : Dev nD) : (⟨2, ![1024, 1024]⟩ : Shape).Idx → EReal := m ((c : Thread nD τ).loc main_arg3)
def X4 (c : Dev nD) : (⟨2, ![8192, 1024]⟩ : Shape).Idx → EReal := m ((c : Thread nD τ).loc main_arg4)

theorem blk0 (c : Dev nD) (t : Fin cfg0.N) (r : Fin 512) (k : Fin 2048) :
    (X0_0 m c t : Vec Ideal S512x2048 .bf16) (ix2 r k) = X0 m c (ix2 (row t r) ⟨k.val, by omega⟩) := by
  unfold X0_0 Pipeline.Window.fill
  rw [dif_pos (moved0_0 t _)]
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [(idx0 t).1]; omega
  | ⟨1, _⟩ => show win0_0.index t 1 * 2048 + 1 * k.val = k.val; rw [(idx0 t).2]; omega
theorem blk1 (c : Dev nD) (t : Fin cfg0.N) (r : Fin 512) (k : Fin 1024) :
    (iblk m c 1 t : Vec Ideal S512x1024 .f32) (ix2 r k) = X1 m c (ix2 (row t r) k) := by
  unfold iblk
  rw [View.read_apply]
  show V m c main_arg1 _ = m (c.tc.loc main_arg1) _
  unfold V
  congr 1
  funext a
  apply Fin.ext
  match a with
  | ⟨0, _⟩ => show win0_1.index t 0 * 512 + 1 * r.val = 512 * t.val + r.val; rw [(idx1 t).1]; omega
  | ⟨1, _⟩ => show win0_1.index t 1 * 1024 + 1 * k.val = k.val; rw [(idx1 t).2]; omega
theorem blk2 (c : Dev nD) (t : Fin cfg0.N) (r : Fin 512) (k : Fin 1024) :
    (iblk m c 2 t : Vec Ideal S512x1024 .f32) (ix2 r k) = X2 m c (ix2 (row t r) k) := by
  unfold iblk
  rw [View.read_apply]
  show V m c main_arg2 _ = m (c.tc.loc main_arg2) _
  unfold V
  congr 1
  funext a
  apply Fin.ext
  match a with
  | ⟨0, _⟩ => show win0_2.index t 0 * 512 + 1 * r.val = 512 * t.val + r.val; rw [(idx2 t).1]; omega
  | ⟨1, _⟩ => show win0_2.index t 1 * 1024 + 1 * k.val = k.val; rw [(idx2 t).2]; omega
theorem blk4 (c : Dev nD) (t : Fin cfg0.N) (r : Fin 512) (k : Fin 1024) :
    (iblk m c 4 t : Vec Ideal S512x1024 .f32) (ix2 r k) = X4 m c (ix2 (row t r) k) := by
  unfold iblk
  rw [View.read_apply]
  show V m c main_arg4 _ = m (c.tc.loc main_arg4) _
  unfold V
  congr 1
  funext a
  apply Fin.ext
  match a with
  | ⟨0, _⟩ => show win0_4.index t 0 * 512 + 1 * r.val = 512 * t.val + r.val; rw [(idx4 t).1]; omega
  | ⟨1, _⟩ => show win0_4.index t 1 * 1024 + 1 * k.val = k.val; rw [(idx4 t).2]; omega
theorem blk3 (c : Dev nD) (t : Fin cfg0.N) (k q : Fin 1024) :
    (iblk m c 3 t : Vec Ideal S1024x1024 .bf16) (ix2 k q) = X3 m c (ix2 k q) := by
  unfold iblk
  rw [View.read_apply]
  show V m c main_arg3 _ = m (c.tc.loc main_arg3) _
  unfold V
  congr 1
  funext a
  apply Fin.ext
  match a with
  | ⟨0, _⟩ => show win0_3.index t 0 * 1024 + 1 * k.val = k.val; rw [(idx3 t).1]; omega
  | ⟨1, _⟩ => show win0_3.index t 1 * 1024 + 1 * q.val = q.val; rw [(idx3 t).2]; omega

/-- The merged value, and the residual plus its product. -/
def mrg (c : Dev nD) (r : Fin 8192) (q : Fin 1024) : EReal :=
  Sig.hsig (X0 m c (ix2 r (pa q))) * X1 m c (ix2 r q) + Sig.hsig (X0 m c (ix2 r (pb q))) * X2 m c (ix2 r q)
def sumv (c : Dev nD) (r : Fin 8192) (q : Fin 1024) : EReal := X4 m c (ix2 r q) + ∑ k : Fin 1024, mrg m c r k * X3 m c (ix2 k q)

theorem at5 (c : Dev nD) (t : Fin cfg0.N) (r : Fin 512) (q : Fin 1024) : (outsAt0 m c t).1 (ix2 r q) = mrg m c (row t r) q := by
  unfold outsAt0
  dsimp only
  rw [out5_at, blk0, blk0, blk1, blk2]
  rfl
theorem at6 (c : Dev nD) (t : Fin cfg0.N) (r : Fin 512) (q : Fin 1024) : (outsAt0 m c t).2 (ix2 r q) = sumv m c (row t r) q := by
  unfold outsAt0
  dsimp only
  rw [out6_at, blk4]
  unfold sumv
  exact congrArg (X4 m c (ix2 (row t r) q) + ·) (Finset.sum_congr rfl fun k _ => by rw [blk0, blk0, blk1, blk2, blk3]; rfl)

/-- The result arrays. -/
def res5 (c : Dev nD) : (⟨2, ![8192, 1024]⟩ : Shape).Idx → EReal := fun i => mrg m c (i 0) (i 1)
def res6 (c : Dev nD) : (⟨2, ![8192, 1024]⟩ : Shape).Idx → EReal := fun i => sumv m c (i 0) (i 1)

theorem final5 (c : Dev nD) : (dats m 0 c).arrAt 5 cfg0.N = res5 m c :=
  (dats m 0 c).arrAt_eq_of_cover 5 (res5 m c) (fun t hf => by
    rw [Value.flushed5]
    funext y
    idx_vars y
    refine (at5 m c t y0 y1).trans ?_
    rw [View.read_apply]
    unfold res5
    congr 1
    · apply Fin.ext
      show 512 * t.val + y0.val = win0_5.index t 0 * 512 + 1 * y0.val; rw [(idx5 t).1]; omega
    · apply Fin.ext
      show y1.val = win0_5.index t 1 * 1024 + 1 * y1.val; rw [(idx5 t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_5 t, ?_⟩
    show i ∈ ((View.whole main_v0_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; rw [(idx5 t).1]; omega
    | ⟨1, _⟩ => show win0_5.index t 1 * 1024 ≤ (i 1 : Nat) ∧ (i 1 : Nat) < win0_5.index t 1 * 1024 + 1024; rw [(idx5 t).2]; omega

theorem final6 (c : Dev nD) : (dats m 0 c).arrAt 6 cfg0.N = res6 m c :=
  (dats m 0 c).arrAt_eq_of_cover 6 (res6 m c) (fun t hf => by
    rw [Value.flushed6]
    funext y
    idx_vars y
    refine (at6 m c t y0 y1).trans ?_
    rw [View.read_apply]
    unfold res6
    congr 1
    · apply Fin.ext
      show 512 * t.val + y0.val = win0_6.index t 0 * 512 + 1 * y0.val; rw [(idx6 t).1]; omega
    · apply Fin.ext
      show y1.val = win0_6.index t 1 * 1024 + 1 * y1.val; rw [(idx6 t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_6 t, ?_⟩
    show i ∈ ((View.whole main_v0_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [(idx6 t).1]; omega
    | ⟨1, _⟩ => show win0_6.index t 1 * 1024 ≤ (i 1 : Nat) ∧ (i 1 : Nat) < win0_6.index t 1 * 1024 + 1024; rw [(idx6 t).2]; omega

end Cert.Kernel15Ideal.MergeOut

end
-- ==== Proof.MergeOutClaim.lean ====
/-
  The merge and the product with `w_out`: the kernel's row blocks and the reference's two results are the same.
-/
module

public import proofs.«01_k».proof.Defs
public import proofs.«01_k».proof.Proof.MergeOut
public import proofs.«01_k».proof.Proof.Gen.Reference15Ideal.Read

@[expose] public section

set_option maxRecDepth 16384

noncomputable section

namespace Cert.MergeOutClaim

open Idealize.ShloMosaic Idealize.ShloMosaic.TcCoe Idealize.SL.Sem
open Cert.Reference15Ideal.Read Cert.Kernel15Ideal.MergeOut

variable (p : (⟨Cert.Reference15Ideal.S8192x4352, .bf16⟩ : BufTy).Contents (Elt Ideal)) (a b : (⟨Cert.Reference15Ideal.S8192x1024, .f32⟩ : BufTy).Contents (Elt Ideal))
  (w : (⟨Cert.Reference15Ideal.S1024x1024, .bf16⟩ : BufTy).Contents (Elt Ideal)) (x : (⟨Cert.Reference15Ideal.S8192x1024, .f32⟩ : BufTy).Contents (Elt Ideal))

theorem ga_at (r : Fin 8192) (q : Fin 1024) : val_main_v1 (F := Ideal) p (ix2 r q) = p (ix2 r (pa q)) := by
  rw [val_main_v1_apply]
  show p _ = _
  congr 1
  funext y
  match y with
  | ⟨0, _⟩ => rfl
  | ⟨1, _⟩ => rfl
theorem gb_at (r : Fin 8192) (q : Fin 1024) : val_main_v2 (F := Ideal) p (ix2 r q) = p (ix2 r (pb q)) := by
  rw [val_main_v2_apply]
  show p _ = _
  congr 1
  funext y
  match y with
  | ⟨0, _⟩ => rfl
  | ⟨1, _⟩ => rfl

theorem mrg_at (r : Fin 8192) (q : Fin 1024) :
    val_main_v17 (F := Ideal) p a b (ix2 r q) = Sig.hsig (p (ix2 r (pa q))) * a (ix2 r q) + Sig.hsig (p (ix2 r (pb q))) * b (ix2 r q) := by
  show Ideal.div (Ideal.ofBits .f32 0x3F800000#32) (Ideal.ofBits .f32 0x3F800000#32 + Ideal.exp (-val_main_v1 (F := Ideal) p (ix2 r q))) * a (ix2 r q)
    + Ideal.div (Ideal.ofBits .f32 0x3F800000#32) (Ideal.ofBits .f32 0x3F800000#32 + Ideal.exp (-val_main_v2 (F := Ideal) p (ix2 r q))) * b (ix2 r q) = _
  rw [Sig.one_bits, ga_at, gb_at, Sig.hsig_eq, Sig.hsig_eq]
  rfl

theorem sum_at (r : Fin 8192) (q : Fin 1024) :
    val_main_v21 (F := Ideal) p a b w x (ix2 r q) = x (ix2 r q) + ∑ k : Fin 1024, (Sig.hsig (p (ix2 r (pa k))) * a (ix2 r k) + Sig.hsig (p (ix2 r (pb k))) * b (ix2 r k)) * w (ix2 k q) := by
  pointwise [val_main_v21, val_main_v20, val_main_v19]
  simp only [mrg_at]

theorem holds : Cert.algebraic_Kernel15Ideal_Reference15Ideal (hKernel15Ideal := Cert.Kernel15Ideal.Gen.facts) (hReference15Ideal := Cert.Reference15Ideal.Gen.facts) := by
  intro m g m' g' _ hag
  refine ⟨fun c => Cert.Kernel15Ideal.MergeOut.res5 m c, fun c => Cert.Kernel15Ideal.MergeOut.res6 m c, ?_, ?_⟩
  · refine (θ_run _ _ _).mono (fun r h c => ?_) (Cert.Kernel15Ideal.Value.run_blocks m g)
    obtain ⟨h0, h1, h2⟩ := h c
    exact ⟨h0.trans (Cert.Kernel15Ideal.MergeOut.final5 m c), h1.trans (Cert.Kernel15Ideal.MergeOut.final6 m c), h2⟩
  · refine (θ_run _ _ _).mono (fun r h c => ?_) (Cert.Reference15Ideal.Value.run (F := Ideal) m' g')
    obtain ⟨h0, h1, h2⟩ := h c
    obtain ⟨e0, e1, e2, e3, e4⟩ := hag c
    refine ⟨h0.trans ?_, h1.trans ?_, h2⟩
    · refine (val_main_v18_eq _ _ _).trans ?_
      funext i
      idx_vars i
      refine (mrg_at _ _ _ i0 i1).trans ?_
      rw [e0, e1, e2]
      rfl
    · refine (val_main_v21_eq _ _ _ _ _).trans ?_
      funext i
      idx_vars i
      refine (sum_at _ _ _ _ _ i0 i1).trans ?_
      rw [e0, e1, e2, e3, e4]
      rfl

end Cert.MergeOutClaim

end
-- ==== Proof.MergeBwd.lean ====
/-
  The gradients through `w_out` and the merge of the two branches: what the row blocks leave in the three result arrays,
  read at an index. The logistic is a hyperbolic tangent of half the argument.
-/
module

public import Idealize.ShloMosaic.Lib.Pointwise
public import Idealize.ShloMosaic.Lib.Pipeline.ValueKit.Tiles
public import proofs.«01_k».proof.Proof.Sig
public import proofs.«01_k».proof.Proof.Gen.Kernel16Ideal.Value

@[expose] public section

set_option maxRecDepth 16384

noncomputable section

namespace Cert.Kernel16Ideal.MergeBwd

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl

/-- The two gates' columns. -/
abbrev ca (q : Fin 1024) : Fin 2048 := ⟨q.val, by omega⟩
abbrev cb (q : Fin 1024) : Fin 2048 := ⟨1024 + q.val, by omega⟩

theorem lda (x0 : Vec Ideal S512x2048 .bf16) (r : Fin 512) (q : Fin 1024) :
    View.ld x0 (Rect.unit (s := S512x2048) ![0, 0] S512x1024.size inb_S512x2048_S512x1024_0_0) (ix2 r q) = x0 (ix2 r (ca q)) := by
  refine congrArg x0 (funext fun a => Fin.ext ?_)
  match a with
  | ⟨0, _⟩ => show 0 + 1 * r.val = r.val; omega
  | ⟨1, _⟩ => show 0 + 1 * q.val = q.val; omega
theorem ldb (x0 : Vec Ideal S512x2048 .bf16) (r : Fin 512) (q : Fin 1024) :
    View.ld x0 (Rect.unit (s := S512x2048) ![0, 1024] S512x1024.size inb_S512x2048_S512x1024_0_1024) (ix2 r q) = x0 (ix2 r (cb q)) := by
  refine congrArg x0 (funext fun a => Fin.ext ?_)
  match a with
  | ⟨0, _⟩ => show 0 + 1 * r.val = r.val; omega
  | ⟨1, _⟩ => show 1024 + 1 * q.val = 1024 + q.val; omega

/-- The product's gradient in a block. -/
theorem pay2_at (d : Vec Ideal S512x1024 .bf16) (w : Vec Ideal S1024x1024 .bf16) (r : Fin 512) (q : Fin 1024) :
    k0_pay2 (F := Ideal) d w (ix2 r q) = ∑ k : Fin 1024, d (ix2 r k) * w (ix2 q k) := by
  pointwise [k0_pay2]

theorem pay3_at (a : Vec Ideal S512x1024 .bf16) (i : S512x1024.Idx) : k0_pay3 (F := Ideal) a i = Sig.hsig (a i) := by
  unfold k0_pay3
  show Ideal.ofBits .f32 0x3F000000#32 * Ideal.tanh (Ideal.ofBits .f32 0x3F000000#32 * a i) + Ideal.ofBits .f32 0x3F000000#32 = _
  rw [Sig.half_bits]
  rfl
theorem pay4_at (a : Vec Ideal S512x1024 .bf16) (i : S512x1024.Idx) : k0_pay4 (F := Ideal) a i = Sig.hsig (a i) := pay3_at a i

theorem pay5_at (d : Vec Ideal S512x1024 .bf16) (w : Vec Ideal S1024x1024 .bf16) (a : Vec Ideal S512x1024 .bf16) (i : S512x1024.Idx) :
    k0_pay5 (F := Ideal) d w a i = k0_pay2 d w i * Sig.hsig (a i) := by
  rw [← pay3_at]; rfl
theorem pay6_at (d : Vec Ideal S512x1024 .bf16) (w : Vec Ideal S1024x1024 .bf16) (a : Vec Ideal S512x1024 .bf16) (i : S512x1024.Idx) :
    k0_pay6 (F := Ideal) d w a i = k0_pay2 d w i * Sig.hsig (a i) := by
  rw [← pay4_at]; rfl

/-- The gradient of a gate. -/
theorem pay7_at (d : Vec Ideal S512x1024 .bf16) (w : Vec Ideal S1024x1024 .bf16) (a : Vec Ideal S512x1024 .bf16) (x : Vec Ideal S512x1024 .f32) (i : S512x1024.Idx) :
    k0_pay7 (F := Ideal) d w a x i = k0_pay2 d w i * x i * Sig.hsig (a i) * (1 - Sig.hsig (a i)) := by
  rw [← pay3_at, ← Sig.one_bits]; rfl
theorem pay1_at (d : Vec Ideal S512x1024 .bf16) (w : Vec Ideal S1024x1024 .bf16) (a : Vec Ideal S512x1024 .bf16) (x : Vec Ideal S512x1024 .f32) (i : S512x1024.Idx) :
    k0_pay1 (F := Ideal) (k0_pay2 d w) (k0_pay4 a) x i = k0_pay2 d w i * x i * Sig.hsig (a i) * (1 - Sig.hsig (a i)) := by
  rw [← pay4_at, ← Sig.one_bits]; rfl

section
variable (c : Dev nD) (i : grid0.Coords) (a1 : Memref sig .tc .vmem S512x2048 .bf16) (h1 : a1.IsWhole) (a2 : Memref sig .tc .vmem S512x1024 .f32) (h2 : a2.IsWhole) (a3 : Memref sig .tc .vmem S512x1024 .f32) (h3 : a3.IsWhole) (a4 : Memref sig .tc .vmem S1024x1024 .bf16) (h4 : a4.IsWhole) (a5 : Memref sig .tc .vmem S512x1024 .bf16) (h5 : a5.IsWhole) (a6 : Memref sig .tc .vmem S512x2048 .bf16) (h6 : a6.IsWhole) (a7 : Memref sig .tc .vmem S512x1024 .f32) (h7 : a7.IsWhole) (a8 : Memref sig .tc .vmem S512x1024 .bf16) (h8 : a8.IsWhole)
  (x0 : Vec Ideal S512x2048 .bf16) (x1 x2 : Vec Ideal S512x1024 .f32) (x3 : Vec Ideal S1024x1024 .bf16) (x4 : Vec Ideal S512x1024 .bf16)

/-- The gradients of the two branches in a block. -/
theorem out6_at (r : Fin 512) (q : Fin 1024) :
    out0_A_6 (F := Ideal) c i a1 h1 a2 h2 a3 h3 a4 h4 a5 h5 a6 h6 a7 h7 a8 h8 x0 x1 x2 x3 x4 (ix2 r q) = k0_pay2 x4 x3 (ix2 r q) * Sig.hsig (x0 (ix2 r (ca q))) := by
  unfold out0_A_6
  rw [View.read_writes_eq_canon _ _ _ (cover0_A_6 c i a1 h1 a2 h2 a3 h3 a4 h4 a5 h5 a6 h6 a7 h7 a8 h8 x0 x1 x2 x3 x4)]
  unfold kernelRun0_A
  dsimp only
  sl_unfold_words
  rw [View.canon_unit_zero z2]
  simp only [View.readAt_eq_ld, h1.read_unread, h2.read_unread, h3.read_unread, h4.read_unread, h5.read_unread, View.ld_unit_zero (S := S512x1024) z2, View.ld_unit_zero (S := S1024x1024) z2]
  rw [pay5_at, ← lda x0 r q]

theorem out7_at (r : Fin 512) (q : Fin 1024) :
    out0_A_7 (F := Ideal) c i a1 h1 a2 h2 a3 h3 a4 h4 a5 h5 a6 h6 a7 h7 a8 h8 x0 x1 x2 x3 x4 (ix2 r q) = k0_pay2 x4 x3 (ix2 r q) * Sig.hsig (x0 (ix2 r (cb q))) := by
  unfold out0_A_7
  rw [View.read_writes_eq_canon _ _ _ (cover0_A_7 c i a1 h1 a2 h2 a3 h3 a4 h4 a5 h5 a6 h6 a7 h7 a8 h8 x0 x1 x2 x3 x4)]
  unfold kernelRun0_A
  dsimp only
  sl_unfold_words
  rw [View.canon_unit_zero z2]
  simp only [View.readAt_eq_ld, h1.read_unread, h2.read_unread, h3.read_unread, h4.read_unread, h5.read_unread, View.ld_unit_zero (S := S512x1024) z2, View.ld_unit_zero (S := S1024x1024) z2]
  rw [pay6_at, ← ldb x0 r q]

/-- The gradients of the two gates in a block. -/
theorem out5a_at (r : Fin 512) (q : Fin 1024) :
    out0_A_5 (F := Ideal) c i a1 h1 a2 h2 a3 h3 a4 h4 a5 h5 a6 h6 a7 h7 a8 h8 x0 x1 x2 x3 x4 (ix2 r (ca q))
      = k0_pay2 x4 x3 (ix2 r q) * x1 (ix2 r q) * Sig.hsig (x0 (ix2 r (ca q))) * (1 - Sig.hsig (x0 (ix2 r (ca q)))) := by
  unfold out0_A_5
  rw [View.read_writes_eq_canon _ _ _ (cover0_A_5 c i a1 h1 a2 h2 a3 h3 a4 h4 a5 h5 a6 h6 a7 h7 a8 h8 x0 x1 x2 x3 x4)]
  have hc := cover0_A_5 (F := Ideal) c i a1 h1 a2 h2 a3 h3 a4 h4 a5 h5 a6 h6 a7 h7 a8 h8 x0 x1 x2 x3 x4 (ix2 r (ca q))
  unfold kernelRun0_A at hc ⊢
  dsimp only at hc ⊢
  have hr : (ix2 r (ca q) 0 : Fin 512).val = r.val := rfl
  have hq : (ix2 r (ca q) 1 : Fin 2048).val = q.val := rfl
  canon_tiles z hz using hc
  case piece0 => exfalso; omega
  case piece1 =>
    obtain rfl : z = ix2 r q := by
      funext y; apply Fin.ext
      match y with
      | ⟨0, _⟩ => change (z 0).val = r.val; omega
      | ⟨1, _⟩ => change (z 1).val = q.val; omega
    sl_unfold_words
    simp only [View.readAt_eq_ld, h1.read_unread, h2.read_unread, h3.read_unread, h4.read_unread, h5.read_unread, View.ld_unit_zero (S := S512x1024) z2, View.ld_unit_zero (S := S1024x1024) z2]
    rw [← lda x0 r q]
    exact pay7_at _ _ _ _ _
theorem out5b_at (r : Fin 512) (q : Fin 1024) :
    out0_A_5 (F := Ideal) c i a1 h1 a2 h2 a3 h3 a4 h4 a5 h5 a6 h6 a7 h7 a8 h8 x0 x1 x2 x3 x4 (ix2 r (cb q))
      = k0_pay2 x4 x3 (ix2 r q) * x2 (ix2 r q) * Sig.hsig (x0 (ix2 r (cb q))) * (1 - Sig.hsig (x0 (ix2 r (cb q)))) := by
  unfold out0_A_5
  rw [View.read_writes_eq_canon _ _ _ (cover0_A_5 c i a1 h1 a2 h2 a3 h3 a4 h4 a5 h5 a6 h6 a7 h7 a8 h8 x0 x1 x2 x3 x4)]
  have hc := cover0_A_5 (F := Ideal) c i a1 h1 a2 h2 a3 h3 a4 h4 a5 h5 a6 h6 a7 h7 a8 h8 x0 x1 x2 x3 x4 (ix2 r (cb q))
  unfold kernelRun0_A at hc ⊢
  dsimp only at hc ⊢
  have hr : (ix2 r (cb q) 0 : Fin 512).val = r.val := rfl
  have hq : (ix2 r (cb q) 1 : Fin 2048).val = 1024 + q.val := rfl
  canon_tiles z hz using hc
  case piece1 => exfalso; omega
  case piece0 =>
    obtain rfl : z = ix2 r q := by
      funext y; apply Fin.ext
      match y with
      | ⟨0, _⟩ => change (z 0).val = r.val; omega
      | ⟨1, _⟩ => change (z 1).val = q.val; omega
    sl_unfold_words
    simp only [View.readAt_eq_ld, h1.read_unread, h2.read_unread, h3.read_unread, h4.read_unread, h5.read_unread, View.ld_unit_zero (S := S512x1024) z2, View.ld_unit_zero (S := S1024x1024) z2]
    rw [← ldb x0 r q]
    exact pay1_at _ _ _ _ _
end

/-- The row of the arrays a row of the block at a point is. -/
def row (t : Fin cfg0.N) (r : Fin 512) : Fin 8192 := ⟨512 * t.val + r.val, by have hN : cfg0.N = 16 := N_0; omega⟩

/-- The two gates' columns in the whole array. -/
abbrev pa (q : Fin 1024) : Fin 4352 := ⟨q.val, by omega⟩
abbrev pb (q : Fin 1024) : Fin 4352 := ⟨1024 + q.val, by omega⟩

theorem idx7 (t : Fin cfg0.N) : win0_7.index t 0 = t.val ∧ win0_7.index t 1 = 0 := by
  revert t; decide +kernel
theorem idx0 (t : Fin cfg0.N) : win0_0.index t 0 = t.val ∧ win0_0.index t 1 = 0 := by
  revert t; decide +kernel
theorem idx1 (t : Fin cfg0.N) : win0_1.index t 0 = t.val ∧ win0_1.index t 1 = 0 := by
  revert t; decide +kernel
theorem idx2 (t : Fin cfg0.N) : win0_2.index t 0 = t.val ∧ win0_2.index t 1 = 0 := by
  revert t; decide +kernel
theorem idx4 (t : Fin cfg0.N) : win0_4.index t 0 = t.val ∧ win0_4.index t 1 = 0 := by
  revert t; decide +kernel
theorem idx5 (t : Fin cfg0.N) : win0_5.index t 0 = t.val ∧ win0_5.index t 1 = 0 := by
  revert t; decide +kernel
theorem idx6 (t : Fin cfg0.N) : win0_6.index t 0 = t.val ∧ win0_6.index t 1 = 0 := by
  revert t; decide +kernel
theorem idx3 (t : Fin cfg0.N) : win0_3.index t 0 = 0 ∧ win0_3.index t 1 = 0 := by
  revert t; decide +kernel

/-- The operands as tables of extended reals. -/
def X0 (c : Dev nD) : (⟨2, ![8192, 4352]⟩ : Shape).Idx → EReal := m ((c : Thread nD τ).loc main_arg0)
def X1 (c : Dev nD) : (⟨2, ![8192, 1024]⟩ : Shape).Idx → EReal := m ((c : Thread nD τ).loc main_arg1)
def X2 (c : Dev nD) : (⟨2, ![8192, 1024]⟩ : Shape).Idx → EReal := m ((c : Thread nD τ).loc main_arg2)
def X3 (c : Dev nD) : (⟨2, ![1024, 1024]⟩ : Shape).Idx → EReal := m ((c : Thread nD τ).loc main_arg3)
def X4 (c : Dev nD) : (⟨2, ![8192, 1024]⟩ : Shape).Idx → EReal := m ((c : Thread nD τ).loc main_arg4)

theorem blk0 (c : Dev nD) (t : Fin cfg0.N) (r : Fin 512) (k : Fin 2048) :
    (X0_0 m c t : Vec Ideal S512x2048 .bf16) (ix2 r k) = X0 m c (ix2 (row t r) ⟨k.val, by omega⟩) := by
  unfold X0_0 Pipeline.Window.fill
  rw [dif_pos (moved0_0 t _)]
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [(idx0 t).1]; omega
  | ⟨1, _⟩ => show win0_0.index t 1 * 2048 + 1 * k.val = k.val; rw [(idx0 t).2]; omega
theorem blk1 (c : Dev nD) (t : Fin cfg0.N) (r : Fin 512) (k : Fin 1024) :
    (iblk m c 1 t : Vec Ideal S512x1024 .f32) (ix2 r k) = X1 m c (ix2 (row t r) k) := by
  unfold iblk
  rw [View.read_apply]
  show V m c main_arg1 _ = m (c.tc.loc main_arg1) _
  unfold V
  congr 1
  funext a
  apply Fin.ext
  match a with
  | ⟨0, _⟩ => show win0_1.index t 0 * 512 + 1 * r.val = 512 * t.val + r.val; rw [(idx1 t).1]; omega
  | ⟨1, _⟩ => show win0_1.index t 1 * 1024 + 1 * k.val = k.val; rw [(idx1 t).2]; omega
theorem blk2 (c : Dev nD) (t : Fin cfg0.N) (r : Fin 512) (k : Fin 1024) :
    (iblk m c 2 t : Vec Ideal S512x1024 .f32) (ix2 r k) = X2 m c (ix2 (row t r) k) := by
  unfold iblk
  rw [View.read_apply]
  show V m c main_arg2 _ = m (c.tc.loc main_arg2) _
  unfold V
  congr 1
  funext a
  apply Fin.ext
  match a with
  | ⟨0, _⟩ => show win0_2.index t 0 * 512 + 1 * r.val = 512 * t.val + r.val; rw [(idx2 t).1]; omega
  | ⟨1, _⟩ => show win0_2.index t 1 * 1024 + 1 * k.val = k.val; rw [(idx2 t).2]; omega
theorem blk4 (c : Dev nD) (t : Fin cfg0.N) (r : Fin 512) (k : Fin 1024) :
    (iblk m c 4 t : Vec Ideal S512x1024 .bf16) (ix2 r k) = X4 m c (ix2 (row t r) k) := by
  unfold iblk
  rw [View.read_apply]
  show V m c main_arg4 _ = m (c.tc.loc main_arg4) _
  unfold V
  congr 1
  funext a
  apply Fin.ext
  match a with
  | ⟨0, _⟩ => show win0_4.index t 0 * 512 + 1 * r.val = 512 * t.val + r.val; rw [(idx4 t).1]; omega
  | ⟨1, _⟩ => show win0_4.index t 1 * 1024 + 1 * k.val = k.val; rw [(idx4 t).2]; omega
theorem blk3 (c : Dev nD) (t : Fin cfg0.N) (k q : Fin 1024) :
    (iblk m c 3 t : Vec Ideal S1024x1024 .bf16) (ix2 k q) = X3 m c (ix2 k q) := by
  unfold iblk
  rw [View.read_apply]
  show V m c main_arg3 _ = m (c.tc.loc main_arg3) _
  unfold V
  congr 1
  funext a
  apply Fin.ext
  match a with
  | ⟨0, _⟩ => show win0_3.index t 0 * 1024 + 1 * k.val = k.val; rw [(idx3 t).1]; omega
  | ⟨1, _⟩ => show win0_3.index t 1 * 1024 + 1 * q.val = q.val; rw [(idx3 t).2]; omega

/-- The product's gradient, the gradients of the two branches and of the two gates. -/
def dm (c : Dev nD) (r : Fin 8192) (q : Fin 1024) : EReal := ∑ k : Fin 1024, X4 m c (ix2 r k) * X3 m c (ix2 q k)
def da (c : Dev nD) (r : Fin 8192) (q : Fin 1024) : EReal := dm m c r q * Sig.hsig (X0 m c (ix2 r (pa q)))
def dc (c : Dev nD) (r : Fin 8192) (q : Fin 1024) : EReal := dm m c r q * Sig.hsig (X0 m c (ix2 r (pb q)))
def ga (c : Dev nD) (r : Fin 8192) (q : Fin 1024) : EReal := dm m c r q * X1 m c (ix2 r q) * Sig.hsig (X0 m c (ix2 r (pa q))) * (1 - Sig.hsig (X0 m c (ix2 r (pa q))))
def gb (c : Dev nD) (r : Fin 8192) (q : Fin 1024) : EReal := dm m c r q * X2 m c (ix2 r q) * Sig.hsig (X0 m c (ix2 r (pb q))) * (1 - Sig.hsig (X0 m c (ix2 r (pb q))))

theorem dm_at (c : Dev nD) (t : Fin cfg0.N) (r : Fin 512) (q : Fin 1024) :
    k0_pay2 (F := Ideal) (iblk m c 4 t) (iblk m c 3 t) (ix2 r q) = dm m c (row t r) q := by
  refine (pay2_at _ _ r q).trans ?_
  unfold dm
  exact Finset.sum_congr rfl fun k _ => by rw [blk4, blk3]

theorem at6 (c : Dev nD) (t : Fin cfg0.N) (r : Fin 512) (q : Fin 1024) : (outsAt0 m c t).2.1 (ix2 r q) = da m c (row t r) q := by
  unfold outsAt0
  dsimp only
  rw [out6_at, dm_at, blk0]
  rfl
theorem at7 (c : Dev nD) (t : Fin cfg0.N) (r : Fin 512) (q : Fin 1024) : (outsAt0 m c t).2.2 (ix2 r q) = dc m c (row t r) q := by
  unfold outsAt0
  dsimp only
  rw [out7_at, dm_at, blk0]
  rfl
theorem at5a (c : Dev nD) (t : Fin cfg0.N) (r : Fin 512) (q : Fin 1024) : (outsAt0 m c t).1 (ix2 r (ca q)) = ga m c (row t r) q := by
  unfold outsAt0
  dsimp only
  rw [out5a_at, dm_at, blk0, blk1]
  rfl
theorem at5b (c : Dev nD) (t : Fin cfg0.N) (r : Fin 512) (q : Fin 1024) : (outsAt0 m c t).1 (ix2 r (cb q)) = gb m c (row t r) q := by
  unfold outsAt0
  dsimp only
  rw [out5b_at, dm_at, blk0, blk2]
  rfl

/-- The result arrays. -/
def res6 (c : Dev nD) : (⟨2, ![8192, 1024]⟩ : Shape).Idx → EReal := fun i => da m c (i 0) (i 1)
def res7 (c : Dev nD) : (⟨2, ![8192, 1024]⟩ : Shape).Idx → EReal := fun i => dc m c (i 0) (i 1)

theorem final6 (c : Dev nD) : (dats m 0 c).arrAt 6 cfg0.N = res6 m c :=
  (dats m 0 c).arrAt_eq_of_cover 6 (res6 m c) (fun t hf => by
    rw [Value.flushed6]
    funext y
    idx_vars y
    refine (at6 m c t y0 y1).trans ?_
    rw [View.read_apply]
    unfold res6
    congr 1
    · apply Fin.ext
      show 512 * t.val + y0.val = win0_6.index t 0 * 512 + 1 * y0.val; rw [(idx6 t).1]; omega
    · apply Fin.ext
      show y1.val = win0_6.index t 1 * 1024 + 1 * y1.val; rw [(idx6 t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_6 t, ?_⟩
    show i ∈ ((View.whole main_v0_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; rw [(idx6 t).1]; omega
    | ⟨1, _⟩ => show win0_6.index t 1 * 1024 ≤ (i 1 : Nat) ∧ (i 1 : Nat) < win0_6.index t 1 * 1024 + 1024; rw [(idx6 t).2]; omega

theorem final7 (c : Dev nD) : (dats m 0 c).arrAt 7 cfg0.N = res7 m c :=
  (dats m 0 c).arrAt_eq_of_cover 7 (res7 m c) (fun t hf => by
    rw [Value.flushed7]
    funext y
    idx_vars y
    refine (at7 m c t y0 y1).trans ?_
    rw [View.read_apply]
    unfold res7
    congr 1
    · apply Fin.ext
      show 512 * t.val + y0.val = win0_7.index t 0 * 512 + 1 * y0.val; rw [(idx7 t).1]; omega
    · apply Fin.ext
      show y1.val = win0_7.index t 1 * 1024 + 1 * y1.val; rw [(idx7 t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_7 t, ?_⟩
    show i ∈ ((View.whole main_v0_2).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; rw [(idx7 t).1]; omega
    | ⟨1, _⟩ => show win0_7.index t 1 * 1024 ≤ (i 1 : Nat) ∧ (i 1 : Nat) < win0_7.index t 1 * 1024 + 1024; rw [(idx7 t).2]; omega

theorem xs5 : ∀ (t : Fin cfg0.N) (a), (cfg0.win 5).xsize (grid0.coords t) a = S512x2048.size a := by decide +kernel

/-- The array the clipped window writes, at a row of the block at a point. -/
theorem arr5 (c : Dev nD) (t : Fin cfg0.N) (r : Fin 512) (k : Fin 2048) :
    (dats m 0 c).arrAt 5 cfg0.N (ix2 (row t r) (⟨k.val, by omega⟩ : Fin 4352)) = (outsAt0 m c t).1 (ix2 r k) := by
  let y : ((cfg0.win 5).xblock (grid0.coords t)).Idx := fun a => ⟨(ix2 r k a).val, by
    have h : (ix2 r k a).val < S512x2048.size a := (ix2 r k a).isLt
    exact lt_of_lt_of_eq h (xs5 t a).symm⟩
  have h := congrFun (Value.blocks5 m c t (flush0_5 t)) y
  rw [Value.flushed5, View.read_apply] at h
  refine Eq.trans (congrArg _ (funext fun a => Fin.ext ?_)) h
  match a with
  | ⟨0, _⟩ => show 512 * t.val + r.val = win0_5.index t 0 * 512 + 1 * r.val; rw [(idx5 t).1]; omega
  | ⟨1, _⟩ => show k.val = win0_5.index t 1 * 2048 + 1 * k.val; rw [(idx5 t).2]; omega

/-- The point whose block holds a row. -/
theorem row_ex (r : Fin 8192) : ∃ t s, r = row t s := by
  have hN : cfg0.N = 16 := N_0
  exact ⟨⟨r.val / 512, by omega⟩, ⟨r.val % 512, by omega⟩, Fin.ext (by show r.val = 512 * (r.val / 512) + r.val % 512; omega)⟩

theorem final5a (c : Dev nD) (r : Fin 8192) (q : Fin 1024) : (dats m 0 c).arrAt 5 cfg0.N (ix2 r (pa q)) = ga m c r q := by
  obtain ⟨t, s, rfl⟩ := row_ex r
  exact (arr5 m c t s (ca q)).trans (at5a m c t s q)
theorem final5b (c : Dev nD) (r : Fin 8192) (q : Fin 1024) : (dats m 0 c).arrAt 5 cfg0.N (ix2 r (pb q)) = gb m c r q := by
  obtain ⟨t, s, rfl⟩ := row_ex r
  exact (arr5 m c t s (cb q)).trans (at5b m c t s q)

end Cert.Kernel16Ideal.MergeBwd

end
-- ==== Proof.MergeBwdClaim.lean ====
/-
  The gradients through `w_out` and the merge: the kernel's row blocks and the reference's three results are the same;
  of the gradient of the projection, in the gates' columns.
-/
module

public import proofs.«01_k».proof.Defs
public import proofs.«01_k».proof.Proof.MergeBwd
public import proofs.«01_k».proof.Proof.Gen.Reference16Ideal.Read
public import Idealize.ShloMosaic.Lib.KernelVsHost
public import Idealize.ShloMosaic.Lib.WordCmp

@[expose] public section

set_option maxRecDepth 16384

noncomputable section

namespace Cert.MergeBwdClaim

open Idealize.ShloMosaic Idealize.ShloMosaic.TcCoe Idealize.SL.Sem
open Cert.Reference16Ideal.Read Cert.Kernel16Ideal.MergeBwd

variable (p : (⟨Cert.Reference16Ideal.S8192x4352, .bf16⟩ : BufTy).Contents (Elt Ideal)) (a b : (⟨Cert.Reference16Ideal.S8192x1024, .f32⟩ : BufTy).Contents (Elt Ideal))
  (w : (⟨Cert.Reference16Ideal.S1024x1024, .bf16⟩ : BufTy).Contents (Elt Ideal)) (d : (⟨Cert.Reference16Ideal.S8192x1024, .bf16⟩ : BufTy).Contents (Elt Ideal))

theorem ga_at (r : Fin 8192) (q : Fin 1024) : val_main_v1 (F := Ideal) p (ix2 r q) = p (ix2 r (pa q)) := by
  rw [val_main_v1_apply]
  show p _ = _
  congr 1
  funext y
  match y with
  | ⟨0, _⟩ => rfl
  | ⟨1, _⟩ => rfl
theorem gb_at (r : Fin 8192) (q : Fin 1024) : val_main_v2 (F := Ideal) p (ix2 r q) = p (ix2 r (pb q)) := by
  rw [val_main_v2_apply]
  show p _ = _
  congr 1
  funext y
  match y with
  | ⟨0, _⟩ => rfl
  | ⟨1, _⟩ => rfl

/-- The two logistics. -/
theorem sa_at (r : Fin 8192) (q : Fin 1024) : val_main_v8 (F := Ideal) p (ix2 r q) = Sig.hsig (p (ix2 r (pa q))) := by
  show Ideal.div (Ideal.ofBits .f32 0x3F800000#32) (Ideal.ofBits .f32 0x3F800000#32 + Ideal.exp (-val_main_v1 (F := Ideal) p (ix2 r q))) = _
  rw [Sig.one_bits, ga_at, Sig.hsig_eq]
  rfl
theorem sb_at (r : Fin 8192) (q : Fin 1024) : val_main_v18 (F := Ideal) p (ix2 r q) = Sig.hsig (p (ix2 r (pb q))) := by
  show Ideal.div (Ideal.ofBits .f32 0x3F800000#32) (Ideal.ofBits .f32 0x3F800000#32 + Ideal.exp (-val_main_v2 (F := Ideal) p (ix2 r q))) = _
  rw [Sig.one_bits, gb_at, Sig.hsig_eq]
  rfl

theorem dm_at (r : Fin 8192) (q : Fin 1024) : val_main_v27 (F := Ideal) w d (ix2 r q) = ∑ k : Fin 1024, d (ix2 r k) * w (ix2 q k) := by
  pointwise [val_main_v27, val_main_v26, val_main_v24]

theorem da_at (r : Fin 8192) (q : Fin 1024) :
    val_main_v31 (F := Ideal) p w d (ix2 r q) = (∑ k : Fin 1024, d (ix2 r k) * w (ix2 q k)) * Sig.hsig (p (ix2 r (pa q))) := by
  show val_main_v8 (F := Ideal) p (ix2 r q) * val_main_v27 (F := Ideal) w d (ix2 r q) = _
  rw [sa_at, dm_at, mul_comm]
theorem dc_at (r : Fin 8192) (q : Fin 1024) :
    val_main_v38 (F := Ideal) p w d (ix2 r q) = (∑ k : Fin 1024, d (ix2 r k) * w (ix2 q k)) * Sig.hsig (p (ix2 r (pb q))) := by
  show val_main_v18 (F := Ideal) p (ix2 r q) * val_main_v27 (F := Ideal) w d (ix2 r q) = _
  rw [sb_at, dm_at, mul_comm]

/-- The gradients of the two gates. -/
theorem dga_at (r : Fin 8192) (q : Fin 1024) : val_main_v33 (F := Ideal) p a w d (ix2 r q)
    = (∑ k : Fin 1024, d (ix2 r k) * w (ix2 q k)) * a (ix2 r q) * Sig.hsig (p (ix2 r (pa q))) * (1 - Sig.hsig (p (ix2 r (pa q)))) := by
  show val_main_v27 (F := Ideal) w d (ix2 r q) * a (ix2 r q) * (val_main_v8 (F := Ideal) p (ix2 r q) * (Ideal.ofBits .f32 0x3F800000#32 - val_main_v8 (F := Ideal) p (ix2 r q))) = _
  rw [sa_at, dm_at, Sig.one_bits, ← mul_assoc]
theorem dgb_at (r : Fin 8192) (q : Fin 1024) : val_main_v30 (F := Ideal) p b w d (ix2 r q)
    = (∑ k : Fin 1024, d (ix2 r k) * w (ix2 q k)) * b (ix2 r q) * Sig.hsig (p (ix2 r (pb q))) * (1 - Sig.hsig (p (ix2 r (pb q)))) := by
  show val_main_v27 (F := Ideal) w d (ix2 r q) * b (ix2 r q) * (val_main_v18 (F := Ideal) p (ix2 r q) * (Ideal.ofBits .f32 0x3F800000#32 - val_main_v18 (F := Ideal) p (ix2 r q))) = _
  rw [sb_at, dm_at, Sig.one_bits, ← mul_assoc]

theorem zero_bits : Ideal.ofBits .f32 0x00000000#32 = 0 := by simp [Ideal.ofBits, Ideal.ieee]

/-- The gradient of the projection, in the gates' columns. -/
theorem dpa_at (r : Fin 8192) (q : Fin 1024) : val_main_v37 (F := Ideal) p a b w d (ix2 r (pa q)) = val_main_v33 (F := Ideal) p a w d (ix2 r q) := by
  show val_main_v34 (F := Ideal) p b w d (ix2 r (pa q)) + val_main_v35 (F := Ideal) p a w d (ix2 r (pa q)) = _
  have e : val_main_v34 (F := Ideal) p b w d (ix2 r (pa q)) = Ideal.ofBits .f32 0x00000000#32 := by
    unfold val_main_v34
    refine (pad_apply_of_not_inside _ _ _ _ _ _ _ _ (1 : Fin 2) ?_).trans rfl
    rintro ⟨h, -⟩
    have h : 1024 ≤ q.val := h
    omega
  have f : val_main_v35 (F := Ideal) p a w d (ix2 r (pa q)) = val_main_v33 (F := Ideal) p a w d (ix2 r q) := by
    unfold val_main_v35
    refine pad_apply_of_inside _ _ _ _ _ _ _ _ (ix2 r q) fun y => ?_
    match y with
    | ⟨0, _⟩ => show r.val = 0 + r.val * (0 + 1); omega
    | ⟨1, _⟩ => show q.val = 0 + q.val * (0 + 1); omega
  rw [e, f, zero_bits, zero_add]
theorem dpb_at (r : Fin 8192) (q : Fin 1024) : val_main_v37 (F := Ideal) p a b w d (ix2 r (pb q)) = val_main_v30 (F := Ideal) p b w d (ix2 r q) := by
  show val_main_v34 (F := Ideal) p b w d (ix2 r (pb q)) + val_main_v35 (F := Ideal) p a w d (ix2 r (pb q)) = _
  have e : val_main_v35 (F := Ideal) p a w d (ix2 r (pb q)) = Ideal.ofBits .f32 0x00000000#32 := by
    unfold val_main_v35
    refine (pad_apply_of_not_inside _ _ _ _ _ _ _ _ (1 : Fin 2) ?_).trans rfl
    rintro ⟨-, -, h⟩
    have h : (1024 + q.val - 0) / (0 + 1) < 1024 := h
    omega
  have f : val_main_v34 (F := Ideal) p b w d (ix2 r (pb q)) = val_main_v30 (F := Ideal) p b w d (ix2 r q) := by
    unfold val_main_v34
    refine pad_apply_of_inside _ _ _ _ _ _ _ _ (ix2 r q) fun y => ?_
    match y with
    | ⟨0, _⟩ => show r.val = 0 + r.val * (0 + 1); omega
    | ⟨1, _⟩ => show 1024 + q.val = 1024 + q.val * (0 + 1); omega
  rw [e, f, zero_bits, add_zero]

theorem mask_facts : Cert.On_gates.Facts := by constructor <;> decide

/-- The columns the mask keeps are the gates'. -/
theorem kept [Cert.On_gates.Facts] (r : Fin 8192) (q : Fin 4352) (h : (Cert.On_gates.fn (F := Ideal) p a b w d).1 (ix2 r q) = 1#1) : q.val < 2048 := by
  have e : ∀ x : BitVec 1, x = IntOp.cmpi .slt (BitVec.ofNat 32 q.val) 2048#32 → x = 1#1 → q.val < 2048 := by
    rintro x rfl h
    have h := IntOp.cmpi_slt.1 h
    have hr := q.isLt
    have e : (BitVec.ofNat 32 q.val).toNat = q.val := by rw [BitVec.toNat_ofNat]; omega
    rw [BitVec.toInt_eq_toNat_of_lt (by omega), e, show (2048#32 : BitVec 32).toInt = 2048 from by decide] at h
    omega
  refine e _ ?_ h
  unfold Cert.On_gates.fn
  dsimp only
  pointwise []

theorem idx_p (i : (⟨2, ![8192, 4352]⟩ : Shape).Idx) (h : (i 1 : Nat) < 2048) : ∃ r q, i = ix2 r (pa q) ∨ i = ix2 r (pb q) := by
  by_cases hq : (i 1 : Nat) < 1024
  · refine ⟨i 0, ⟨(i 1).val, hq⟩, .inl ?_⟩
    funext y
    match y with
    | ⟨0, _⟩ => rfl
    | ⟨1, _⟩ => rfl
  · refine ⟨i 0, ⟨(i 1).val - 1024, by omega⟩, .inr ?_⟩
    funext y
    match y with
    | ⟨0, _⟩ => rfl
    | ⟨1, _⟩ => exact Fin.ext (by show (i 1).val = 1024 + ((i 1).val - 1024); omega)

theorem holds : Cert.algebraic_Kernel16Ideal_Reference16Ideal_on_gates (hKernel16Ideal := Cert.Kernel16Ideal.Gen.facts) (hReference16Ideal := Cert.Reference16Ideal.Gen.facts) (hOn_gates := mask_facts) := by
  have := mask_facts
  intro m g m' g' _ hag
  refine ⟨fun c => val_main_v37 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)),
    fun c => Cert.Kernel16Ideal.MergeBwd.res6 m c, fun c => Cert.Kernel16Ideal.MergeBwd.res7 m c, ?_, ?_⟩
  · refine (θ_run _ _ _).mono (fun r h c => ?_) (Cert.Kernel16Ideal.Value.run_blocks m g)
    obtain ⟨h0, h1, h2, h3⟩ := h c
    obtain ⟨e0, e1, e2, e3, e4⟩ := hag c
    dsimp only
    rw [e0, e1, e2, e3, e4]
    refine ⟨fun i hi => ?_, fun i _ => congrFun (h1.trans (Cert.Kernel16Ideal.MergeBwd.final6 m c)) i, fun i _ => congrFun (h2.trans (Cert.Kernel16Ideal.MergeBwd.final7 m c)) i, h3⟩
    obtain ⟨r, q, rfl | rfl⟩ := idx_p i (by rw [eq_ix2 i] at hi; exact kept _ _ _ _ _ _ _ hi)
    · refine (congrFun h0 (ix2 r (pa q))).trans ((final5a m c r q).trans ?_)
      refine Eq.trans ?_ (dpa_at _ _ _ _ _ r q).symm
      rw [dga_at]
      rfl
    · refine (congrFun h0 (ix2 r (pb q))).trans ((final5b m c r q).trans ?_)
      refine Eq.trans ?_ (dpb_at _ _ _ _ _ r q).symm
      rw [dgb_at]
      rfl
  · refine (θ_run _ _ _).mono (fun r h c => ?_) (Cert.Reference16Ideal.Value.run (F := Ideal) m' g')
    obtain ⟨h0, h1, h2, h3⟩ := h c
    obtain ⟨e0, e1, e2, e3, e4⟩ := hag c
    refine ⟨fun i _ => congrFun (h0.trans (val_main_v37_eq _ _ _ _ _)) i, fun i _ => ?_, fun i _ => ?_, h3⟩
    · refine (congrFun (h1.trans (val_main_v31_eq _ _ _)) i).trans ?_
      idx_vars i
      refine (da_at _ _ _ i0 i1).trans ?_
      rw [e0, e3, e4]
      rfl
    · refine (congrFun (h2.trans (val_main_v38_eq _ _ _)) i).trans ?_
      idx_vars i
      refine (dc_at _ _ _ i0 i1).trans ?_
      rw [e0, e3, e4]
      rfl

end Cert.MergeBwdClaim

end
-- ==== Proof.RmsFwd.lean ====
/-
  The norm of the forward pass: what the row blocks leave in the normed array and in its transpose, read at an index.
-/
module

public import Idealize.ShloMosaic.Lib.Pointwise
public import proofs.«01_k».proof.Proof.Norm
public import proofs.«01_k».proof.Proof.Gen.Kernel17Ideal.Value

@[expose] public section

set_option maxRecDepth 16384

noncomputable section

namespace Cert.Kernel17Ideal.RmsFwd

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

theorem z2 : (![0, 0] : Fin 2 → Nat) = fun _ => 0 := funext fun a => by fin_cases a <;> rfl

/-- An entry of the normed rows. -/
theorem pay_at (x : Vec Ideal S512x1024 .f32) (g : Vec Ideal S1x1024 .f32) (r : Fin 512) (q : Fin 1024) :
    k0_pay1 (F := Ideal) x g (ix2 r q) = x (ix2 r q) * (Norm.rs fun k : Fin 1024 => x (ix2 r k)) * g (ix2 0 q) := by
  pointwise [k0_pay1]
  rfl
theorem out_at (x : Vec Ideal S512x1024 .f32) (g : Vec Ideal S1x1024 .f32) (r : Fin 512) (q : Fin 1024) :
    out0_2 (F := Ideal) x g (ix2 r q) = x (ix2 r q) * (Norm.rs fun k : Fin 1024 => x (ix2 r k)) * g (ix2 0 q) := by
  unfold out0_2
  rw [View.canon_unit_zero z2]
  simp only [View.ld_unit_zero (S := S512x1024) z2, View.ld_unit_zero (S := S1x1024) z2]
  exact pay_at x g r q
theorem outT_at (x : Vec Ideal S512x1024 .f32) (g : Vec Ideal S1x1024 .f32) (r : Fin 512) (q : Fin 1024) :
    out0_3 (F := Ideal) x g (ix2 q r) = x (ix2 r q) * (Norm.rs fun k : Fin 1024 => x (ix2 r k)) * g (ix2 0 q) := by
  unfold out0_3
  rw [View.canon_unit_zero z2]
  simp only [View.ld_unit_zero (S := S512x1024) z2, View.ld_unit_zero (S := S1x1024) z2]
  pointwise [k0_pay3]
  exact pay_at x g r q

theorem idx0 (t : Fin cfg0.N) : win0_0.index t 0 = t.val ∧ win0_0.index t 1 = 0 := by revert t; decide +kernel
theorem idx1 (t : Fin cfg0.N) : win0_1.index t 0 = 0 ∧ win0_1.index t 1 = 0 := by revert t; decide +kernel
theorem idx2 (t : Fin cfg0.N) : win0_2.index t 0 = t.val ∧ win0_2.index t 1 = 0 := by revert t; decide +kernel
theorem idx3 (t : Fin cfg0.N) : win0_3.index t 0 = 0 ∧ win0_3.index t 1 = t.val := by revert t; decide +kernel

/-- The row of the whole array that row `r` of point `t`'s block is. -/
def row (t : Fin cfg0.N) (r : Fin 512) : Fin 8192 :=
  ⟨512 * t.val + r.val, by have h : cfg0.N = 16 := N_0; have := t.isLt; have := r.isLt; omega⟩

theorem blk0 (c : Dev nD) (t : Fin cfg0.N) (r : Fin 512) (k : Fin 1024) :
    (iblk m c 0 t : Vec Ideal S512x1024 .f32) (ix2 r k) = m ((c : Thread nD τ).loc main_arg0) (ix2 (row t r) k) := by
  unfold iblk
  rw [View.read_apply]
  show V m c main_arg0 _ = m (c.tc.loc main_arg0) _
  rw [V_main_arg0 m c]
  refine congrArg (m (c.tc.loc main_arg0)) (funext fun a => Fin.ext ?_)
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega
theorem blk1 (c : Dev nD) (t : Fin cfg0.N) (k : Fin 1024) :
    (iblk m c 1 t : Vec Ideal S1x1024 .f32) (ix2 0 k) = m ((c : Thread nD τ).loc main_arg1) (ix2 0 k) := by
  unfold iblk
  rw [View.read_apply]
  show V m c main_arg1 _ = m (c.tc.loc main_arg1) _
  rw [V_main_arg1 m c]
  refine congrArg (m (c.tc.loc main_arg1)) (funext fun a => Fin.ext ?_)
  match a with
  | ⟨0, _⟩ => show win0_1.index t 0 * 1 + 1 * 0 = 0; rw [(idx1 t).1]
  | ⟨1, _⟩ => show win0_1.index t 1 * 1024 + 1 * k.val = k.val; rw [(idx1 t).2]; omega

/-- The operands as tables of extended reals, and the normed array. -/
def X0 (c : Dev nD) : (⟨2, ![8192, 1024]⟩ : Shape).Idx → EReal := m ((c : Thread nD τ).loc main_arg0)
def X1 (c : Dev nD) : (⟨2, ![1, 1024]⟩ : Shape).Idx → EReal := m ((c : Thread nD τ).loc main_arg1)
def h (c : Dev nD) (R : Fin 8192) (q : Fin 1024) : EReal :=
  X0 m c (ix2 R q) * (Norm.rs fun k : Fin 1024 => X0 m c (ix2 R k)) * X1 m c (ix2 0 q)

theorem at2 (c : Dev nD) (t : Fin cfg0.N) (r : Fin 512) (q : Fin 1024) :
    out0_2 (F := Ideal) (iblk m c 0 t) (iblk m c 1 t) (ix2 r q) = h m c (row t r) q := by
  rw [out_at]
  simp only [blk0, blk1]
  rfl
theorem at3 (c : Dev nD) (t : Fin cfg0.N) (r : Fin 512) (q : Fin 1024) :
    out0_3 (F := Ideal) (iblk m c 0 t) (iblk m c 1 t) (ix2 q r) = h m c (row t r) q := by
  rw [outT_at]
  simp only [blk0, blk1]
  rfl

/-- The result arrays. -/
def res2 (c : Dev nD) : (⟨2, ![8192, 1024]⟩ : Shape).Idx → EReal := fun i => h m c (i 0) (i 1)
def res3 (c : Dev nD) : (⟨2, ![1024, 8192]⟩ : Shape).Idx → EReal := fun i => h m c (i 1) (i 0)

theorem final2 (c : Dev nD) : (dats m 0 c).arrAt 2 cfg0.N = res2 m c :=
  (dats m 0 c).arrAt_eq_of_cover 2 (res2 m c) (fun t hf => by
    rw [Value.flushed2]
    funext y
    idx_vars y
    refine (at2 m c t y0 y1).trans ?_
    rw [View.read_apply]
    unfold res2
    congr 1
    · apply Fin.ext
      show 512 * t.val + y0.val = win0_2.index t 0 * 512 + 1 * y0.val; rw [(idx2 t).1]; omega
    · apply Fin.ext
      show y1.val = win0_2.index t 1 * 1024 + 1 * y1.val; rw [(idx2 t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_2 t, ?_⟩
    show i ∈ ((View.whole main_v0_0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512; rw [(idx2 t).1]; omega
    | ⟨1, _⟩ => show win0_2.index t 1 * 1024 ≤ (i 1 : Nat) ∧ (i 1 : Nat) < win0_2.index t 1 * 1024 + 1024; rw [(idx2 t).2]; omega

theorem final3 (c : Dev nD) : (dats m 0 c).arrAt 3 cfg0.N = res3 m c :=
  (dats m 0 c).arrAt_eq_of_cover 3 (res3 m c) (fun t hf => by
    rw [Value.flushed3]
    funext y
    idx_vars y
    refine (at3 m c t y1 y0).trans ?_
    rw [View.read_apply]
    unfold res3
    congr 1
    · apply Fin.ext
      show 512 * t.val + y1.val = win0_3.index t 1 * 512 + 1 * y1.val; rw [(idx3 t).2]; omega
    · apply Fin.ext
      show y0.val = win0_3.index t 0 * 1024 + 1 * y0.val; rw [(idx3 t).1]; omega) fun i => by
    have h0 : (i 0 : Nat) < 1024 := (i 0).isLt
    have h1 : (i 1 : Nat) < 8192 := (i 1).isLt
    have hN : cfg0.N = 16 := N_0
    obtain ⟨t, ht⟩ : ∃ t : Fin cfg0.N, t.val = (i 1).val / 512 := ⟨⟨(i 1).val / 512, by omega⟩, rfl⟩
    refine ⟨t, flush0_3 t, ?_⟩
    show i ∈ ((View.whole main_v0_1).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; rw [(idx3 t).1]; omega
    | ⟨1, _⟩ => show win0_3.index t 1 * 512 ≤ (i 1 : Nat) ∧ (i 1 : Nat) < win0_3.index t 1 * 512 + 512; rw [(idx3 t).2]; omega

end Cert.Kernel17Ideal.RmsFwd

end
-- ==== Proof.RmsFwdClaim.lean ====
/-
  The norm of the forward pass: the kernel's row blocks and the reference's normed array and its transpose are the same.
-/
module

public import proofs.«01_k».proof.Defs
public import proofs.«01_k».proof.Proof.RmsFwd
public import proofs.«01_k».proof.Proof.Gen.Reference17Ideal.Read

@[expose] public section

set_option maxRecDepth 16384

noncomputable section

namespace Cert.RmsFwdClaim

open Idealize.ShloMosaic Idealize.ShloMosaic.TcCoe Idealize.SL.Sem
open Cert.Reference17Ideal.Read Cert.Kernel17Ideal.RmsFwd

variable (x0 : (⟨Cert.Reference17Ideal.S8192x1024, .f32⟩ : BufTy).Contents (Elt Ideal)) (x1 : (⟨Cert.Reference17Ideal.S1x1024, .f32⟩ : BufTy).Contents (Elt Ideal))

/-- The inverse root of a row's mean of squares, and the normed array. -/
theorem rs_at (r : Fin 8192) : val_main_v8 (F := Ideal) x0 (ix2 r 0) = Norm.rs fun k : Fin 1024 => x0 (ix2 r k) := by
  pointwise [val_main_v8, val_main_v7, val_main_v6, val_main_v5, val_main_v4, val_main_v3, val_main_v2, val_main_v1, val_main_cst, val_main_cst_0, val_main_cst_1]
  rfl
theorem h_at (r : Fin 8192) (q : Fin 1024) : val_main_v14 (F := Ideal) x0 x1 (ix2 r q)
    = x0 (ix2 r q) * (Norm.rs fun k : Fin 1024 => x0 (ix2 r k)) * x1 (ix2 0 q) := by
  pointwise [val_main_v14, val_main_v13, val_main_v12, val_main_v11, val_main_v10, val_main_v9, val_main_v0]
  rw [rs_at]
theorem hT_at (r : Fin 8192) (q : Fin 1024) : val_main_v15 (F := Ideal) x0 x1 (ix2 q r) = val_main_v14 (F := Ideal) x0 x1 (ix2 r q) := by
  pointwise [val_main_v15]

theorem holds : Cert.algebraic_Kernel17Ideal_Reference17Ideal (hKernel17Ideal := Cert.Kernel17Ideal.Gen.facts) (hReference17Ideal := Cert.Reference17Ideal.Gen.facts) := by
  intro m g m' g' _ hag
  refine ⟨fun c => res2 m c, fun c => res3 m c, ?_, ?_⟩
  · refine (θ_run _ _ _).mono (fun r h c => ?_) (Cert.Kernel17Ideal.Value.run_blocks m g)
    obtain ⟨h0, h1, h2⟩ := h c
    exact ⟨h0.trans (final2 m c), h1.trans (final3 m c), h2⟩
  · refine (θ_run _ _ _).mono (fun r h c => ?_) (Cert.Reference17Ideal.Value.run (F := Ideal) m' g')
    obtain ⟨h0, h1, h2⟩ := h c
    obtain ⟨e0, e1⟩ := hag c
    refine ⟨?_, ?_, h2⟩
    · refine (h0.trans (val_main_v14_eq _ _)).trans (funext fun i => ?_)
      idx_vars i
      refine (h_at _ _ i0 i1).trans ?_
      rw [e0, e1]
      rfl
    · refine (h1.trans (val_main_v15_eq _ _)).trans (funext fun i => ?_)
      idx_vars i
      refine (hT_at _ _ i1 i0).trans ((h_at _ _ i1 i0).trans ?_)
      rw [e0, e1]
      rfl

end Cert.RmsFwdClaim

end
-- ==== Proof.LossHead.lean ====
/-
  The loss's head: what the row blocks leave of the gradient with respect to the last layer's result and of the columns' sums
  of squares, read at an index. The sums are added up over the blocks.
-/
module

public import Idealize.ShloMosaic.Lib.Pointwise
public import proofs.«01_k».proof.Proof.Blocks
public import proofs.«01_k».proof.Proof.Norm
public import proofs.«01_k».proof.Proof.Gen.Kernel18Ideal.Value

@[expose] public section

set_option maxRecDepth 16384

noncomputable section

namespace Cert.Kernel18Ideal.LossHead

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ)

theorem z2 : (![0, 0] : Fin 2 → Nat) = fun _ => 0 := funext fun a => by fin_cases a <;> rfl

section
variable (x0 x1 : Vec Ideal S512x1024 .f32) (xo : Vec Ideal S1x1024 .f32)

def dys (r : Fin 512) (q : Fin 1024) : EReal := Ideal.div (x0 (ix2 r q) - x1 (ix2 r q)) Norm.cols
/-- What a block leaves of the gradient and of the sums of squares. -/
theorem dy_at (r : Fin 512) (q : Fin 1024) : (k0_pay2 x0 x1 : FVec Ideal S512x1024 .f32) (ix2 r q) = dys x0 x1 r q := by
  unfold dys
  pointwise [k0_pay2, k0_pay1]
  rfl
theorem dyb_at (r : Fin 512) (q : Fin 1024) : (k0_pay3 x0 x1 : FVec Ideal S512x1024 .bf16) (ix2 r q) = dys x0 x1 r q := dy_at x0 x1 r q
def sqs (q : Fin 1024) : EReal := ∑ r : Fin 512, (x0 (ix2 r q) - x1 (ix2 r q)) * (x0 (ix2 r q) - x1 (ix2 r q))
theorem sq_at (q : Fin 1024) : (k0_pay4 x0 x1 : FVec Ideal S1x1024 .f32) (ix2 0 q) = sqs x0 x1 q := by
  unfold sqs
  pointwise [k0_pay4, k0_pay1]
theorem sqb_at (q : Fin 1024) : (k0_pay5 x0 x1 xo : FVec Ideal S1x1024 .f32) (ix2 0 q) = xo (ix2 0 q) + sqs x0 x1 q := by
  unfold sqs
  pointwise [k0_pay5, k0_pay4, k0_pay1]

variable (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .bf16) (h4 : a4.IsWhole) (a5 : Memref sig .tc .vmem S1x1024 .f32) (h5 : a5.IsWhole)
theorem outA2 (hc0 : cond0_0 i) (hc1 : ¬cond0_1 i) : out0_A_2 (F := Ideal) c i a1 h1 a2 h2 a3 h3 a4 h4 a5 h5 hc0 hc1 x0 x1 = (k0_pay2 x0 x1 : FVec Ideal S512x1024 .f32) := by
  unfold out0_A_2
  rw [View.read_writes_eq_canon _ _ _ (cover0_A_2 c i a1 h1 a2 h2 a3 h3 a4 h4 a5 h5 hc0 hc1 x0 x1)]
  unfold kernelRun0_A
  dsimp only
  sl_unfold_words
  rw [View.canon_unit_zero z2]
  simp only [View.readAt_eq_ld, h1.read_unread, h2.read_unread, h5.read_unread, View.ld_unit_zero (S := S1x1024) z2, View.ld_unit_zero (S := S512x1024) z2]
theorem outA3 (hc0 : cond0_0 i) (hc1 : ¬cond0_1 i) : out0_A_3 (F := Ideal) c i a1 h1 a2 h2 a3 h3 a4 h4 a5 h5 hc0 hc1 x0 x1 = (k0_pay3 x0 x1 : FVec Ideal S512x1024 .bf16) := by
  unfold out0_A_3
  rw [View.read_writes_eq_canon _ _ _ (cover0_A_3 c i a1 h1 a2 h2 a3 h3 a4 h4 a5 h5 hc0 hc1 x0 x1)]
  unfold kernelRun0_A
  dsimp only
  sl_unfold_words
  rw [View.canon_unit_zero z2]
  simp only [View.readAt_eq_ld, h1.read_unread, h2.read_unread, h5.read_unread, View.ld_unit_zero (S := S1x1024) z2, View.ld_unit_zero (S := S512x1024) z2]
theorem outA4 (hc0 : cond0_0 i) (hc1 : ¬cond0_1 i) : out0_A_4 (F := Ideal) c i a1 h1 a2 h2 a3 h3 a4 h4 a5 h5 hc0 hc1 x0 x1 = (k0_pay4 x0 x1 : FVec Ideal S1x1024 .f32) := by
  unfold out0_A_4
  rw [View.read_writes_eq_canon _ _ _ (cover0_A_4 c i a1 h1 a2 h2 a3 h3 a4 h4 a5 h5 hc0 hc1 x0 x1)]
  unfold kernelRun0_A
  dsimp only
  sl_unfold_words
  rw [View.canon_unit_zero z2]
  simp only [View.readAt_eq_ld, h1.read_unread, h2.read_unread, h5.read_unread, View.ld_unit_zero (S := S1x1024) z2, View.ld_unit_zero (S := S512x1024) z2]
theorem outB2 (hc0 : ¬cond0_0 i) (hc1 : cond0_1 i) : out0_B_2 (F := Ideal) c i a1 h1 a2 h2 a3 h3 a4 h4 a5 h5 hc0 hc1 x0 x1 xo = (k0_pay2 x0 x1 : FVec Ideal S512x1024 .f32) := by
  unfold out0_B_2
  rw [View.read_writes_eq_canon _ _ _ (cover0_B_2 c i a1 h1 a2 h2 a3 h3 a4 h4 a5 h5 hc0 hc1 x0 x1 xo)]
  unfold kernelRun0_B
  dsimp only
  sl_unfold_words
  rw [View.canon_unit_zero z2]
  simp only [View.readAt_eq_ld, h1.read_unread, h2.read_unread, h5.read_unread, View.ld_unit_zero (S := S1x1024) z2, View.ld_unit_zero (S := S512x1024) z2]
theorem outB3 (hc0 : ¬cond0_0 i) (hc1 : cond0_1 i) : out0_B_3 (F := Ideal) c i a1 h1 a2 h2 a3 h3 a4 h4 a5 h5 hc0 hc1 x0 x1 xo = (k0_pay3 x0 x1 : FVec Ideal S512x1024 .bf16) := by
  unfold out0_B_3
  rw [View.read_writes_eq_canon _ _ _ (cover0_B_3 c i a1 h1 a2 h2 a3 h3 a4 h4 a5 h5 hc0 hc1 x0 x1 xo)]
  unfold kernelRun0_B
  dsimp only
  sl_unfold_words
  rw [View.canon_unit_zero z2]
  simp only [View.readAt_eq_ld, h1.read_unread, h2.read_unread, h5.read_unread, View.ld_unit_zero (S := S1x1024) z2, View.ld_unit_zero (S := S512x1024) z2]
theorem outB4 (hc0 : ¬cond0_0 i) (hc1 : cond0_1 i) : out0_B_4 (F := Ideal) c i a1 h1 a2 h2 a3 h3 a4 h4 a5 h5 hc0 hc1 x0 x1 xo = (k0_pay5 x0 x1 xo : FVec Ideal S1x1024 .f32) := by
  unfold out0_B_4
  rw [View.read_writes_eq_canon _ _ _ (cover0_B_4 c i a1 h1 a2 h2 a3 h3 a4 h4 a5 h5 hc0 hc1 x0 x1 xo)]
  unfold kernelRun0_B
  dsimp only
  sl_unfold_words
  rw [View.canon_unit_zero z2]
  simp only [View.readAt_eq_ld, h1.read_unread, h2.read_unread, h5.read_unread, View.ld_unit_zero (S := S1x1024) z2, View.ld_unit_zero (S := S512x1024) z2]
end

/-- The row of the arrays a row of the block at a point is. -/
def row (t : Fin cfg0.N) (r : Fin 512) : Fin 8192 := ⟨512 * t.val + r.val, by have hN : cfg0.N = 16 := N_0; omega⟩

theorem idx0 (t : Fin cfg0.N) : win0_0.index t 0 = t.val ∧ win0_0.index t 1 = 0 := by revert t; decide +kernel
theorem idx1 (t : Fin cfg0.N) : win0_1.index t 0 = t.val ∧ win0_1.index t 1 = 0 := by revert t; decide +kernel
theorem idx2 (t : Fin cfg0.N) : win0_2.index t 0 = t.val ∧ win0_2.index t 1 = 0 := by revert t; decide +kernel
theorem idx3 (t : Fin cfg0.N) : win0_3.index t 0 = t.val ∧ win0_3.index t 1 = 0 := by revert t; decide +kernel
theorem idx4 (t : Fin cfg0.N) : win0_4.index t 0 = 0 ∧ win0_4.index t 1 = 0 := by revert t; decide +kernel

theorem blk0 (c : Dev nD) (t : Fin cfg0.N) (r : Fin 512) (k : Fin 1024) :
    (iblk m c 0 t : Vec Ideal S512x1024 .f32) (ix2 r k) = m ((c : Thread nD τ).loc main_arg0) (ix2 (row t r) k) := by
  unfold iblk
  rw [View.read_apply]
  show V m c main_arg0 _ = m (c.tc.loc main_arg0) _
  rw [V_main_arg0 m c]
  refine congrArg (m (c.tc.loc main_arg0)) (funext fun a => Fin.ext ?_)
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega
theorem blk1 (c : Dev nD) (t : Fin cfg0.N) (r : Fin 512) (k : Fin 1024) :
    (iblk m c 1 t : Vec Ideal S512x1024 .f32) (ix2 r k) = m ((c : Thread nD τ).loc main_arg1) (ix2 (row t r) k) := by
  unfold iblk
  rw [View.read_apply]
  show V m c main_arg1 _ = m (c.tc.loc main_arg1) _
  rw [V_main_arg1 m c]
  refine congrArg (m (c.tc.loc main_arg1)) (funext fun a => Fin.ext ?_)
  match a with
  | ⟨0, _⟩ => show win0_1.index t 0 * 512 + 1 * r.val = 512 * t.val + r.val; rw [(idx1 t).1]; omega
  | ⟨1, _⟩ => show win0_1.index t 1 * 1024 + 1 * k.val = k.val; rw [(idx1 t).2]; omega

/-- The operands as tables of extended reals, and what is wanted of them. -/
def X0 (c : Dev nD) : (⟨2, ![8192, 1024]⟩ : Shape).Idx → EReal := m ((c : Thread nD τ).loc main_arg0)
def X1 (c : Dev nD) : (⟨2, ![8192, 1024]⟩ : Shape).Idx → EReal := m ((c : Thread nD τ).loc main_arg1)
def dyv (c : Dev nD) (R : Fin 8192) (q : Fin 1024) : EReal := Ideal.div (X0 m c (ix2 R q) - X1 m c (ix2 R q)) Norm.cols
def sqr (c : Dev nD) (R : Fin 8192) (q : Fin 1024) : EReal := (X0 m c (ix2 R q) - X1 m c (ix2 R q)) * (X0 m c (ix2 R q) - X1 m c (ix2 R q))
def sqt (c : Dev nD) (q : Fin 1024) (n : ℕ) : EReal := if h : n < 8192 then sqr m c ⟨n, h⟩ q else 0

theorem dy_blk (c : Dev nD) (t : Fin cfg0.N) (r : Fin 512) (q : Fin 1024) :
    dys (iblk m c 0 t : Vec Ideal S512x1024 .f32) (iblk m c 1 t : Vec Ideal S512x1024 .f32) r q = dyv m c (row t r) q := by
  unfold dys
  rw [blk0, blk1]
  rfl
theorem sq_blk (c : Dev nD) (t : Fin cfg0.N) (q : Fin 1024) :
    sqs (iblk m c 0 t : Vec Ideal S512x1024 .f32) (iblk m c 1 t : Vec Ideal S512x1024 .f32) q = ∑ r : Fin 512, sqt m c q (512 * t.val + r.val) := by
  unfold sqs
  refine Finset.sum_congr rfl fun r _ => ?_
  have h : 512 * t.val + r.val < 8192 := (row t r).isLt
  rw [sqt, dif_pos h, blk0, blk1]
  rfl

theorem at2 (c : Dev nD) (t : Fin cfg0.N) (r : Fin 512) (q : Fin 1024) : (outsAt0 m c t.val t.isLt).1 (ix2 r q) = dyv m c (row t r) q := by
  have hN : cfg0.N = 16 := N_0
  by_cases h0 : t.val % 16 = 0
  · rw [outsAt0_A m c t h0 (by omega)]
    dsimp only
    rw [outA2, dy_at, dy_blk]
  · rw [outsAt0_B m c t h0 (by omega)]
    dsimp only
    rw [outB2, dy_at, dy_blk]
theorem at3 (c : Dev nD) (t : Fin cfg0.N) (r : Fin 512) (q : Fin 1024) : (outsAt0 m c t.val t.isLt).2.1 (ix2 r q) = dyv m c (row t r) q := by
  have hN : cfg0.N = 16 := N_0
  by_cases h0 : t.val % 16 = 0
  · rw [outsAt0_A m c t h0 (by omega)]
    dsimp only
    rw [outA3, dyb_at, dy_blk]
  · rw [outsAt0_B m c t h0 (by omega)]
    dsimp only
    rw [outB3, dyb_at, dy_blk]

/-- The sums of squares after point `n` are those over the blocks up to it. -/
theorem outs4_at (c : Dev nD) (q : Fin 1024) : ∀ (n : ℕ) (h : n < cfg0.N),
    (outsAt0 m c n h).2.2 (ix2 0 q) = ∑ l ∈ Finset.range (n + 1), ∑ r : Fin 512, sqt m c q (512 * l + r.val)
  | 0, h => by
    rw [show outsAt0 m c 0 h = _ from outsAt0_A m c ⟨0, h⟩ (Nat.zero_mod _) (by dsimp only; omega)]
    dsimp only
    rw [outA4, sq_at, sq_blk, Finset.sum_range_one]
  | n + 1, h => by
    have hN : cfg0.N = 16 := N_0
    rw [show outsAt0 m c (n + 1) h = _ from outsAt0_B m c ⟨n + 1, h⟩ (by dsimp only; omega) (by dsimp only; omega)]
    dsimp only
    rw [outB4, sqb_at, sq_blk, Finset.sum_range_succ _ (n + 1)]
    exact congrArg (· + _) (outs4_at c q n (Nat.lt_of_succ_lt h))

theorem at4 (c : Dev nD) (t : Fin cfg0.N) (h : t.val % 16 = 15) (q : Fin 1024) :
    (outsAt0 m c t.val t.isLt).2.2 (ix2 0 q) = ∑ R : Fin 8192, sqr m c R q := by
  have hN : cfg0.N = 16 := N_0
  have ht : t.val = 15 := by omega
  rw [outs4_at, ht, Blocks.sum_blocks_fin (k := 512) (n := 15 + 1) (N := 8192) (by norm_num) (sqt m c q)]
  exact Finset.sum_congr rfl fun R _ => by rw [sqt, dif_pos R.isLt]

/-- The result arrays. -/
def res2 (c : Dev nD) : (⟨2, ![8192, 1024]⟩ : Shape).Idx → EReal := fun i => dyv m c (i 0) (i 1)
def res4 (c : Dev nD) : (⟨2, ![1, 1024]⟩ : Shape).Idx → EReal := fun i => ∑ R : Fin 8192, sqr m c R (i 1)

theorem final2 (c : Dev nD) : (dats m 0 c).arrAt 2 cfg0.N = res2 m c :=
  (dats m 0 c).arrAt_eq_of_cover 2 (res2 m c) (fun t hf => by
    rw [Value.flushed2]
    funext y
    idx_vars y
    refine (at2 m c t y0 y1).trans ?_
    rw [View.read_apply]
    unfold res2
    congr 1
    · apply Fin.ext
      show 512 * t.val + y0.val = win0_2.index t 0 * 512 + 1 * y0.val; rw [(idx2 t).1]; omega
    · apply Fin.ext
      show y1.val = win0_2.index t 1 * 1024 + 1 * y1.val; rw [(idx2 t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_2 t, ?_⟩
    show i ∈ ((View.whole main_v0_0).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512; rw [(idx2 t).1]; omega
    | ⟨1, _⟩ => show win0_2.index t 1 * 1024 ≤ (i 1 : Nat) ∧ (i 1 : Nat) < win0_2.index t 1 * 1024 + 1024; rw [(idx2 t).2]; omega

theorem final3 (c : Dev nD) : (dats m 0 c).arrAt 3 cfg0.N = res2 m c :=
  (dats m 0 c).arrAt_eq_of_cover 3 (res2 m c) (fun t hf => by
    rw [Value.flushed3]
    funext y
    idx_vars y
    refine (at3 m c t y0 y1).trans ?_
    rw [View.read_apply]
    unfold res2
    congr 1
    · apply Fin.ext
      show 512 * t.val + y0.val = win0_3.index t 0 * 512 + 1 * y0.val; rw [(idx3 t).1]; omega
    · apply Fin.ext
      show y1.val = win0_3.index t 1 * 1024 + 1 * y1.val; rw [(idx3 t).2]; omega) fun i => by
    have h0 : (i 0 : Nat) < 8192 := (i 0).isLt
    have h1 : (i 1 : Nat) < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_3 t, ?_⟩
    show i ∈ ((View.whole main_v0_1).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; rw [(idx3 t).1]; omega
    | ⟨1, _⟩ => show win0_3.index t 1 * 1024 ≤ (i 1 : Nat) ∧ (i 1 : Nat) < win0_3.index t 1 * 1024 + 1024; rw [(idx3 t).2]; omega

theorem final4 (c : Dev nD) : (dats m 0 c).arrAt 4 cfg0.N = res4 m c :=
  (dats m 0 c).arrAt_eq_of_cover 4 (res4 m c) (fun t hf => by
    rw [Value.flushed4]
    funext y
    idx_vars y
    have hy0 : y0 = 0 := Subsingleton.elim _ _
    subst hy0
    refine (at4 m c t ((flush0_4 t).mp hf) y1).trans ?_
    rw [View.read_apply]
    unfold res4
    refine congrArg (fun q : Fin 1024 => ∑ R : Fin 8192, sqr m c R q) (Fin.ext ?_)
    show y1.val = win0_4.index t 1 * 1024 + 1 * y1.val; rw [(idx4 t).2]; omega) fun i => by
    have h0 : (i 0 : Nat) < 1 := (i 0).isLt
    have h1 : (i 1 : Nat) < 1024 := (i 1).isLt
    have hN : cfg0.N = 16 := N_0
    obtain ⟨t, ht⟩ : ∃ t : Fin cfg0.N, t.val = 15 := ⟨⟨15, by omega⟩, rfl⟩
    refine ⟨t, (flush0_4 t).mpr (by omega), ?_⟩
    show i ∈ ((View.whole main_v0_2).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1; rw [(idx4 t).1]; omega
    | ⟨1, _⟩ => show win0_4.index t 1 * 1024 ≤ (i 1 : Nat) ∧ (i 1 : Nat) < win0_4.index t 1 * 1024 + 1024; rw [(idx4 t).2]; omega

end Cert.Kernel18Ideal.LossHead

end
-- ==== Proof.LossHeadClaim.lean ====
/-
  The loss's head: the kernel's quotient is the gradient that differentiating the mean of squares gives, and its sums of squares
  are the reference's.
-/
module

public import proofs.«01_k».proof.Defs
public import proofs.«01_k».proof.Proof.LossHead
public import proofs.«01_k».proof.Proof.Gen.Reference18Ideal.Read

@[expose] public section

set_option maxRecDepth 16384

noncomputable section

namespace Cert.LossHeadClaim

open Idealize.ShloMosaic Idealize.ShloMosaic.TcCoe Idealize.SL.Sem
open Cert.Reference18Ideal.Read Cert.Kernel18Ideal.LossHead

variable (x0 x1 : (⟨Cert.Reference18Ideal.S8192x1024, .f32⟩ : BufTy).Contents (Elt Ideal))

theorem zero_bits : Ideal.ofBits .f32 0x00000000#32 = 0 := by simp [Ideal.ofBits, Ideal.ieee]
theorem two_bits : Ideal.ofBits .f32 0x40000000#32 = ((2 : ℝ) : EReal) := by
  simp [Ideal.ofBits, Ideal.ieee]
  rw [← EReal.coe_mul]
  norm_num
theorem half_bits : Ideal.ofBits .f32 0x3F000000#32 = ((1 / 2 : ℝ) : EReal) := by
  simp [Ideal.ofBits, Ideal.ieee]
  rw [← EReal.coe_mul]
  norm_num

/-- A half of twice a column's share. -/
theorem scale (e : EReal) : Ideal.div (Ideal.ofBits .f32 0x3F000000#32) Norm.cols * (Ideal.ofBits .f32 0x40000000#32 * e) = Ideal.div e Norm.cols := by
  rw [Norm.div_cols, Norm.div_cols, half_bits, two_bits, ← mul_assoc, ← EReal.coe_mul, ← EReal.coe_mul, mul_comm]
  congr 2
  norm_num

/-- The gradient. -/
theorem dy_at (r : Fin 8192) (q : Fin 1024) : val_main_v14 (F := Ideal) x0 x1 (ix2 r q) = Ideal.div (x0 (ix2 r q) - x1 (ix2 r q)) Norm.cols := by
  pointwise [val_main_v14, val_main_v13, val_main_v12, val_main_v11, val_main_v10, val_main_v9, val_main_v3, val_main_v2, val_main_v0, val_main_cst, val_main_cst_4, val_main_cst_5, val_main_cst_6]
  exact scale _

/-- The sums of squares. -/
theorem sq_at (q : Fin 1024) : val_main_v19 (F := Ideal) x0 x1 (ix2 0 q) = ∑ r : Fin 8192, (x0 (ix2 r q) - x1 (ix2 r q)) * (x0 (ix2 r q) - x1 (ix2 r q)) := by
  pointwise [val_main_v19, val_main_v18, val_main_v17, val_main_v16, val_main_cst_7]

theorem holds : Cert.algebraic_Kernel18Ideal_Reference18Ideal (hKernel18Ideal := Cert.Kernel18Ideal.Gen.facts) (hReference18Ideal := Cert.Reference18Ideal.Gen.facts) := by
  intro m g m' g' _ hag
  refine ⟨fun c => res2 m c, fun c => res2 m c, fun c => res4 m c, ?_, ?_⟩
  · refine (θ_run _ _ _).mono (fun r h c => ?_) (Cert.Kernel18Ideal.Value.run_blocks m g)
    obtain ⟨h0, h1, h2, h3⟩ := h c
    exact ⟨h0.trans (final2 m c), h1.trans (final3 m c), h2.trans (final4 m c), h3⟩
  · refine (θ_run _ _ _).mono (fun r h c => ?_) (Cert.Reference18Ideal.Value.run (F := Ideal) m' g')
    obtain ⟨h0, h1, h2, h3⟩ := h c
    obtain ⟨e0, e1⟩ := hag c
    refine ⟨?_, ?_, ?_, h3⟩
    · refine (h0.trans (val_main_v14_eq _ _)).trans (funext fun i => ?_)
      idx_vars i
      refine (dy_at _ _ i0 i1).trans ?_
      rw [e0, e1]
      rfl
    · refine (h1.trans (val_main_v15_eq _ _)).trans (funext fun i => ?_)
      idx_vars i
      refine Eq.trans (dy_at _ _ i0 i1) ?_
      rw [e0, e1]
      rfl
    · refine (h2.trans (val_main_v19_eq _ _)).trans (funext fun i => ?_)
      idx_vars i
      obtain rfl : i0 = 0 := Subsingleton.elim _ _
      refine (sq_at _ _ i1).trans ?_
      rw [e0, e1]
      rfl

end Cert.LossHeadClaim

end
-- ==== Proof.AdamWClaim.lean ====
/-
  The optimiser's step of the weights `w_gate_up`: the kernel's blocks and the reference take the same elementwise steps.
-/
module

public import proofs.«01_k».proof.Defs
public import proofs.«01_k».proof.Proof.Gen.Kernel19Ideal.Value
public import proofs.«01_k».proof.Proof.Gen.Reference19Ideal.Read

@[expose] public section

noncomputable section

namespace Cert.AdamWClaim

open Idealize.ShloMosaic Idealize.ShloMosaic.TcCoe Idealize.SL.Sem
open Cert.Reference19Ideal.Read

variable (x0 x1 x2 x3 x4 : (⟨Cert.Reference19Ideal.S4096x1408, .f32⟩ : BufTy).Contents (Elt Ideal))

/-- The four results of the reference, element by element, are the kernel's. -/
theorem grad_at : val_main_v0 (F := Ideal) x1 x4 = Cert.Kernel19Ideal.Value.G5 (F := Ideal) x1 x4 := rfl
theorem delta_at : val_main_v25 (F := Ideal) x0 x1 x2 x3 x4 = Cert.Kernel19Ideal.Value.G6 (F := Ideal) x1 x4 x2 x3 x0 := rfl
theorem m_at : val_main_v6 (F := Ideal) x1 x2 x4 = Cert.Kernel19Ideal.Value.G7 (F := Ideal) x1 x4 x2 := rfl
theorem v_at : val_main_v12 (F := Ideal) x1 x3 x4 = Cert.Kernel19Ideal.Value.G8 (F := Ideal) x1 x4 x3 := rfl

theorem holds : Cert.algebraic_Kernel19Ideal_Reference19Ideal (hKernel19Ideal := Cert.Kernel19Ideal.Gen.facts) (hReference19Ideal := Cert.Reference19Ideal.Gen.facts) := by
  intro m g m' g' _ hag
  refine ⟨_, _, _, _, Cert.Kernel19Ideal.Value.run (F := Ideal) m g, ?_⟩
  refine (θ_run _ _ _).mono (fun r h c => ?_) (Cert.Reference19Ideal.Value.run (F := Ideal) m' g')
  obtain ⟨h0, h1, h2, h3, h4⟩ := h c
  obtain ⟨e0, e1, e2, e3, e4⟩ := hag c
  refine ⟨?_, ?_, ?_, ?_, h4⟩
  · rw [h0, e1, e4]; exact (val_main_v0_eq _ _).trans (grad_at _ _)
  · rw [h1, e0, e1, e2, e3, e4]; exact (val_main_v25_eq _ _ _ _ _).trans (delta_at _ _ _ _ _)
  · rw [h2, e1, e2, e4]; exact (val_main_v6_eq _ _ _).trans (m_at _ _ _)
  · rw [h3, e1, e3, e4]; exact (val_main_v12_eq _ _ _).trans (v_at _ _ _)

end Cert.AdamWClaim

end
-- ==== Proof.AdamWSmallClaim.lean ====
/-
  The optimiser's step of the scale of a norm, of which no second half of the gradient is added: the kernel's block and the
  reference take the same elementwise steps.
-/
module

public import proofs.«01_k».proof.Defs
public import proofs.«01_k».proof.Proof.Gen.Kernel20Ideal.Value
public import proofs.«01_k».proof.Proof.Gen.Reference20Ideal.Read

@[expose] public section

noncomputable section

namespace Cert.AdamWSmallClaim

open Idealize.ShloMosaic Idealize.ShloMosaic.TcCoe Idealize.SL.Sem
open Cert.Reference20Ideal.Read

variable (x0 x1 x2 x3 : (⟨Cert.Reference20Ideal.S4x1024, .f32⟩ : BufTy).Contents (Elt Ideal))

/-- The three results of the reference, element by element, are the kernel's. -/
theorem delta_at : val_main_v23 (F := Ideal) x0 x1 x2 x3 = Cert.Kernel20Ideal.Value.G4 (F := Ideal) x1 x2 x3 x0 := rfl
theorem m_at : val_main_v4 (F := Ideal) x1 x2 = Cert.Kernel20Ideal.Value.G5 (F := Ideal) x1 x2 := rfl
theorem v_at : val_main_v10 (F := Ideal) x1 x3 = Cert.Kernel20Ideal.Value.G6 (F := Ideal) x1 x3 := rfl

theorem holds : Cert.algebraic_Kernel20Ideal_Reference20Ideal (hKernel20Ideal := Cert.Kernel20Ideal.Gen.facts) (hReference20Ideal := Cert.Reference20Ideal.Gen.facts) := by
  intro m g m' g' _ hag
  refine ⟨_, _, _, Cert.Kernel20Ideal.Value.run (F := Ideal) m g, ?_⟩
  refine (θ_run _ _ _).mono (fun r h c => ?_) (Cert.Reference20Ideal.Value.run (F := Ideal) m' g')
  obtain ⟨h0, h1, h2, h3⟩ := h c
  obtain ⟨e0, e1, e2, e3⟩ := hag c
  refine ⟨?_, ?_, ?_, h3⟩
  · rw [h0, e0, e1, e2, e3]; exact (val_main_v23_eq _ _ _ _).trans (delta_at _ _ _ _)
  · rw [h1, e1, e2]; exact (val_main_v4_eq _ _).trans (m_at _ _)
  · rw [h2, e1, e3]; exact (val_main_v10_eq _ _).trans (v_at _ _)

end Cert.AdamWSmallClaim

end
-- ==== Proof.lean ====
/- The proof of the certificate: the frames of all the programs, the named constant, the attention's forward and
   backward calls against their reference, and the step's other calls, each against its own. -/
module

public import proofs.«01_k».proof.Defs
public import proofs.«01_k».proof.Proof.Gen.Kernel.Frame
public import proofs.«01_k».proof.Proof.Gen.KernelIdeal.Frame
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Reference20Ideal.Read
public import proofs.«01_k».proof.Proof.AttnClaim
public import proofs.«01_k».proof.Proof.WOutClaim
public import proofs.«01_k».proof.Proof.WGateUpClaim
public import proofs.«01_k».proof.Proof.WInClaim
public import proofs.«01_k».proof.Proof.WDownClaim
public import proofs.«01_k».proof.Proof.WConvClaim
public import proofs.«01_k».proof.Proof.MmInClaim
public import proofs.«01_k».proof.Proof.MmConvClaim
public import proofs.«01_k».proof.Proof.MmGateUpClaim
public import proofs.«01_k».proof.Proof.MmDownClaim
public import proofs.«01_k».proof.Proof.BmmDswClaim
public import proofs.«01_k».proof.Proof.BmmDguClaim
public import proofs.«01_k».proof.Proof.BmmDh2Claim
public import proofs.«01_k».proof.Proof.BmmDhClaim
public import proofs.«01_k».proof.Proof.MergeOutClaim
public import proofs.«01_k».proof.Proof.MergeBwdClaim
public import proofs.«01_k».proof.Proof.RmsFwdClaim
public import proofs.«01_k».proof.Proof.LossHeadClaim
public import proofs.«01_k».proof.Proof.AdamWClaim
public import proofs.«01_k».proof.Proof.AdamWSmallClaim
public import Idealize.ShloMosaic.Adequacy
public import Idealize.ShloMosaic.Init

@[expose] public section

noncomputable section

namespace Cert.Proof

open Idealize.ShloMosaic Idealize.SL.Sem Cert.Kernel

/-- The attention's reference keeps its arguments; it declares no semaphore. -/
theorem frame_attn_ref : Cert.quiescent_ReferenceIdeal (hReferenceIdeal := Cert.ReferenceIdeal.Gen.facts) := fun m g _ =>
  (θ_run Cert.ReferenceIdeal.defs _ _).mono
    (fun r h => ⟨fun c => (h c).2.2.2.2.2.2.2, sem_eq_zero_of_no_sems (by decide) r.2⟩)
    (Cert.ReferenceIdeal.Value.run (F := Ideal) m g)

/-- The reference of the gradient of `w_out` keeps its arguments; it declares no semaphore. -/
theorem frame_ref2 : Cert.quiescent_Reference2Ideal (hReference2Ideal := Cert.Reference2Ideal.Gen.facts) := fun m g _ =>
  (θ_run Cert.Reference2Ideal.defs _ _).mono
    (fun r h => ⟨fun c => (h c).2.2, sem_eq_zero_of_no_sems (by decide) r.2⟩)
    (Cert.Reference2Ideal.Value.run (F := Ideal) m g)

/-- The reference of the gradient of `w_gate_up` keeps its arguments; it declares no semaphore. -/
theorem frame_ref3 : Cert.quiescent_Reference3Ideal (hReference3Ideal := Cert.Reference3Ideal.Gen.facts) := fun m g _ =>
  (θ_run Cert.Reference3Ideal.defs _ _).mono
    (fun r h => ⟨fun c => (h c).2.2, sem_eq_zero_of_no_sems (by decide) r.2⟩)
    (Cert.Reference3Ideal.Value.run (F := Ideal) m g)

/-- The reference of the gradient of `w_in` keeps its arguments; it declares no semaphore. -/
theorem frame_ref4 : Cert.quiescent_Reference4Ideal (hReference4Ideal := Cert.Reference4Ideal.Gen.facts) := fun m g _ =>
  (θ_run Cert.Reference4Ideal.defs _ _).mono
    (fun r h => ⟨fun c => (h c).2, sem_eq_zero_of_no_sems (by decide) r.2⟩)
    (Cert.Reference4Ideal.Value.run (F := Ideal) m g)

/-- The reference of the gradient of `w_down` keeps its arguments; it declares no semaphore. -/
theorem frame_ref5 : Cert.quiescent_Reference5Ideal (hReference5Ideal := Cert.Reference5Ideal.Gen.facts) := fun m g _ =>
  (θ_run Cert.Reference5Ideal.defs _ _).mono
    (fun r h => ⟨fun c => (h c).2.2, sem_eq_zero_of_no_sems (by decide) r.2⟩)
    (Cert.Reference5Ideal.Value.run (F := Ideal) m g)

/-- The reference of the gradient of `w_conv_out` keeps its arguments; it declares no semaphore. -/
theorem frame_ref6 : Cert.quiescent_Reference6Ideal (hReference6Ideal := Cert.Reference6Ideal.Gen.facts) := fun m g _ =>
  (θ_run Cert.Reference6Ideal.defs _ _).mono
    (fun r h => ⟨fun c => (h c).2.2, sem_eq_zero_of_no_sems (by decide) r.2⟩)
    (Cert.Reference6Ideal.Value.run (F := Ideal) m g)

/-- The reference of the product with `w_in` keeps its arguments; it declares no semaphore. -/
theorem frame_ref7 : Cert.quiescent_Reference7Ideal (hReference7Ideal := Cert.Reference7Ideal.Gen.facts) := fun m g _ =>
  (θ_run Cert.Reference7Ideal.defs _ _).mono
    (fun r h => ⟨fun c => (h c).2, sem_eq_zero_of_no_sems (by decide) r.2⟩)
    (Cert.Reference7Ideal.Value.run (F := Ideal) m g)

/-- The reference of the product with `w_conv_out` keeps its arguments; it declares no semaphore. -/
theorem frame_ref8 : Cert.quiescent_Reference8Ideal (hReference8Ideal := Cert.Reference8Ideal.Gen.facts) := fun m g _ =>
  (θ_run Cert.Reference8Ideal.defs _ _).mono
    (fun r h => ⟨fun c => (h c).2, sem_eq_zero_of_no_sems (by decide) r.2⟩)
    (Cert.Reference8Ideal.Value.run (F := Ideal) m g)

/-- The reference of the product with `w_gate_up` keeps its arguments; it declares no semaphore. -/
theorem frame_ref9 : Cert.quiescent_Reference9Ideal (hReference9Ideal := Cert.Reference9Ideal.Gen.facts) := fun m g _ =>
  (θ_run Cert.Reference9Ideal.defs _ _).mono
    (fun r h => ⟨fun c => (h c).2.2, sem_eq_zero_of_no_sems (by decide) r.2⟩)
    (Cert.Reference9Ideal.Value.run (F := Ideal) m g)

/-- The reference of the product with `w_down` keeps its arguments; it declares no semaphore. -/
theorem frame_ref10 : Cert.quiescent_Reference10Ideal (hReference10Ideal := Cert.Reference10Ideal.Gen.facts) := fun m g _ =>
  (θ_run Cert.Reference10Ideal.defs _ _).mono
    (fun r h => ⟨fun c => (h c).2, sem_eq_zero_of_no_sems (by decide) r.2⟩)
    (Cert.Reference10Ideal.Value.run (F := Ideal) m g)

/-- The reference of the gradient of the convolution's result keeps its arguments; it declares no semaphore. -/
theorem frame_ref11 : Cert.quiescent_Reference11Ideal (hReference11Ideal := Cert.Reference11Ideal.Gen.facts) := fun m g _ =>
  (θ_run Cert.Reference11Ideal.defs _ _).mono
    (fun r h => ⟨fun c => (h c).2, sem_eq_zero_of_no_sems (by decide) r.2⟩)
    (Cert.Reference11Ideal.Value.run (F := Ideal) m g)

/-- The reference of the gradient of the gates of the feed-forward part keeps its arguments; it declares no semaphore. -/
theorem frame_ref12 : Cert.quiescent_Reference12Ideal (hReference12Ideal := Cert.Reference12Ideal.Gen.facts) := fun m g _ =>
  (θ_run Cert.Reference12Ideal.defs _ _).mono
    (fun r h => ⟨fun c => (h c).2, sem_eq_zero_of_no_sems (by decide) r.2⟩)
    (Cert.Reference12Ideal.Value.run (F := Ideal) m g)

/-- The reference of the gradient of the feed-forward norm keeps its arguments; it declares no semaphore. -/
theorem frame_ref13 : Cert.quiescent_Reference13Ideal (hReference13Ideal := Cert.Reference13Ideal.Gen.facts) := fun m g _ =>
  (θ_run Cert.Reference13Ideal.defs _ _).mono
    (fun r h => ⟨fun c => (h c).2.2.2, sem_eq_zero_of_no_sems (by decide) r.2⟩)
    (Cert.Reference13Ideal.Value.run (F := Ideal) m g)

/-- The reference of the gradient of the mixing norm keeps its arguments; it declares no semaphore. -/
theorem frame_ref14 : Cert.quiescent_Reference14Ideal (hReference14Ideal := Cert.Reference14Ideal.Gen.facts) := fun m g _ =>
  (θ_run Cert.Reference14Ideal.defs _ _).mono
    (fun r h => ⟨fun c => (h c).2.2.2, sem_eq_zero_of_no_sems (by decide) r.2⟩)
    (Cert.Reference14Ideal.Value.run (F := Ideal) m g)

/-- The reference of the merge keeps its arguments; it declares no semaphore. -/
theorem frame_ref15 : Cert.quiescent_Reference15Ideal (hReference15Ideal := Cert.Reference15Ideal.Gen.facts) := fun m g _ =>
  (θ_run Cert.Reference15Ideal.defs _ _).mono
    (fun r h => ⟨fun c => (h c).2.2, sem_eq_zero_of_no_sems (by decide) r.2⟩)
    (Cert.Reference15Ideal.Value.run (F := Ideal) m g)

/-- The reference of the gradient of the merge keeps its arguments; it declares no semaphore. -/
theorem frame_ref16 : Cert.quiescent_Reference16Ideal (hReference16Ideal := Cert.Reference16Ideal.Gen.facts) := fun m g _ =>
  (θ_run Cert.Reference16Ideal.defs _ _).mono
    (fun r h => ⟨fun c => (h c).2.2.2, sem_eq_zero_of_no_sems (by decide) r.2⟩)
    (Cert.Reference16Ideal.Value.run (F := Ideal) m g)

/-- The reference of the norm keeps its arguments; it declares no semaphore. -/
theorem frame_ref17 : Cert.quiescent_Reference17Ideal (hReference17Ideal := Cert.Reference17Ideal.Gen.facts) := fun m g _ =>
  (θ_run Cert.Reference17Ideal.defs _ _).mono
    (fun r h => ⟨fun c => (h c).2.2, sem_eq_zero_of_no_sems (by decide) r.2⟩)
    (Cert.Reference17Ideal.Value.run (F := Ideal) m g)

/-- The reference of the loss head keeps its arguments; it declares no semaphore. -/
theorem frame_ref18 : Cert.quiescent_Reference18Ideal (hReference18Ideal := Cert.Reference18Ideal.Gen.facts) := fun m g _ =>
  (θ_run Cert.Reference18Ideal.defs _ _).mono
    (fun r h => ⟨fun c => (h c).2.2.2, sem_eq_zero_of_no_sems (by decide) r.2⟩)
    (Cert.Reference18Ideal.Value.run (F := Ideal) m g)

/-- The reference of the optimiser keeps its arguments; it declares no semaphore. -/
theorem frame_ref19 : Cert.quiescent_Reference19Ideal (hReference19Ideal := Cert.Reference19Ideal.Gen.facts) := fun m g _ =>
  (θ_run Cert.Reference19Ideal.defs _ _).mono
    (fun r h => ⟨fun c => (h c).2.2.2.2, sem_eq_zero_of_no_sems (by decide) r.2⟩)
    (Cert.Reference19Ideal.Value.run (F := Ideal) m g)

/-- The reference of the optimiser for a norm's scale keeps its arguments; it declares no semaphore. -/
theorem frame_ref20 : Cert.quiescent_Reference20Ideal (hReference20Ideal := Cert.Reference20Ideal.Gen.facts) := fun m g _ =>
  (θ_run Cert.Reference20Ideal.defs _ _).mono
    (fun r h => ⟨fun c => (h c).2.2.2, sem_eq_zero_of_no_sems (by decide) r.2⟩)
    (Cert.Reference20Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.AttnClaim.pre_facts, Cert.BmmDguClaim.pre_facts, Cert.AttnClaim.mask_facts, Cert.MergeBwdClaim.mask_facts, by
  exact ⟨fun m g _ => Cert.Kernel.Gen.frame m g, fun m g _ => Cert.KernelIdeal.Gen.frame m g, fun m g _ => Cert.KernelIdeal.Gen.frame m g,
    frame_attn_ref, fun m g _ => frame_attn_ref m g trivial,
    fun m g _ => Cert.Kernel2.Gen.frame m g, fun m g _ => Cert.Kernel2Ideal.Gen.frame m g, frame_ref2,
    fun m g _ => Cert.Kernel3.Gen.frame m g, fun m g _ => Cert.Kernel3Ideal.Gen.frame m g, frame_ref3,
    fun m g _ => Cert.Kernel4.Gen.frame m g, fun m g _ => Cert.Kernel4Ideal.Gen.frame m g, frame_ref4,
    fun m g _ => Cert.Kernel5.Gen.frame m g, fun m g _ => Cert.Kernel5Ideal.Gen.frame m g, frame_ref5,
    fun m g _ => Cert.Kernel6.Gen.frame m g, fun m g _ => Cert.Kernel6Ideal.Gen.frame m g, frame_ref6,
    fun m g _ => Cert.Kernel7.Gen.frame m g, fun m g _ => Cert.Kernel7Ideal.Gen.frame m g, frame_ref7,
    fun m g _ => Cert.Kernel8.Gen.frame m g, fun m g _ => Cert.Kernel8Ideal.Gen.frame m g, frame_ref8,
    fun m g _ => Cert.Kernel9.Gen.frame m g, fun m g _ => Cert.Kernel9Ideal.Gen.frame m g, frame_ref9,
    fun m g _ => Cert.Kernel10.Gen.frame m g, fun m g _ => Cert.Kernel10Ideal.Gen.frame m g, frame_ref10,
    fun m g _ => Cert.Kernel11.Gen.frame m g, fun m g _ => Cert.Kernel11Ideal.Gen.frame m g, frame_ref11,
    fun m g _ => Cert.Kernel12.Gen.frame m g, fun m g _ => Cert.Kernel12Ideal.Gen.frame m g, fun m g _ => Cert.Kernel12Ideal.Gen.frame m g,
    frame_ref12, fun m g _ => frame_ref12 m g trivial,
    fun m g _ => Cert.Kernel13.Gen.frame m g, fun m g _ => Cert.Kernel13Ideal.Gen.frame m g, frame_ref13,
    fun m g _ => Cert.Kernel14.Gen.frame m g, fun m g _ => Cert.Kernel14Ideal.Gen.frame m g, frame_ref14,
    fun m g _ => Cert.Kernel15.Gen.frame m g, fun m g _ => Cert.Kernel15Ideal.Gen.frame m g, frame_ref15,
    fun m g _ => Cert.Kernel16.Gen.frame m g, fun m g _ => Cert.Kernel16Ideal.Gen.frame m g, frame_ref16,
    fun m g _ => Cert.Kernel17.Gen.frame m g, fun m g _ => Cert.Kernel17Ideal.Gen.frame m g, frame_ref17,
    fun m g _ => Cert.Kernel18.Gen.frame m g, fun m g _ => Cert.Kernel18Ideal.Gen.frame m g, frame_ref18,
    fun m g _ => Cert.Kernel19.Gen.frame m g, fun m g _ => Cert.Kernel19Ideal.Gen.frame m g, frame_ref19,
    fun m g _ => Cert.Kernel20.Gen.frame m g, fun m g _ => Cert.Kernel20Ideal.Gen.frame m g, frame_ref20,
    IdealRules.named_const.statement Cert.KernelIdeal.κ "mask" .f32 0xF149F2CA#32 ⊥ rfl, Cert.AttnClaim.holds,
    trivial, Cert.WOutClaim.holds,
    trivial, Cert.WGateUpClaim.holds,
    trivial, Cert.WInClaim.holds,
    trivial, Cert.WDownClaim.holds,
    trivial, Cert.WConvClaim.holds,
    trivial, Cert.MmInClaim.holds,
    trivial, Cert.MmConvClaim.holds,
    trivial, Cert.MmGateUpClaim.holds,
    trivial, Cert.MmDownClaim.holds,
    trivial, Cert.BmmDswClaim.holds,
    trivial, Cert.BmmDguClaim.holds,
    trivial, Cert.BmmDh2Claim.holds,
    trivial, Cert.BmmDhClaim.holds,
    trivial, Cert.MergeOutClaim.holds,
    trivial, Cert.MergeBwdClaim.holds,
    trivial, Cert.RmsFwdClaim.holds,
    trivial, Cert.LossHeadClaim.holds,
    trivial, Cert.AdamWClaim.holds,
    trivial, Cert.AdamWSmallClaim.holds⟩⟩

end Cert.Proof

end
